-- ==== Defs.lean ====
def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_ffn_finite [hPre_ffn_finite : Cert.Pre_ffn_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_ffn_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))) = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_ffn_finite [hPre_ffn_finite : Cert.Pre_ffn_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_ffn_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))) = (fun _ => 1#1)

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_fox_finite [hPre_fox_finite : Cert.Pre_fox_finite.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))) = (fun _ => 1#1)

def Pre_FoxGateBwd (m : (ℓ : Loc Cert.FoxGateBwd.nD Cert.FoxGateBwd.τ Cert.FoxGateBwd.sig) → Buf (Elt Bits) ℓ) : Prop :=
  True

def Pre_FoxGateBwdIdeal (m : (ℓ : Loc Cert.FoxGateBwdIdeal.nD Cert.FoxGateBwdIdeal.τ Cert.FoxGateBwdIdeal.sig) → Buf (Elt Ideal) ℓ) : Prop :=
  True

def Pre_FoxGateBwdIdeal_gate_finite [hPre_gate_finite : Cert.Pre_gate_finite.Facts] (m : (ℓ : Loc Cert.FoxGateBwdIdeal.nD Cert.FoxGateBwdIdeal.τ Cert.FoxGateBwdIdeal.sig) → Buf (Elt Ideal) ℓ) : Prop :=
  ∀ c : Dev Cert.FoxGateBwdIdeal.nD,
    (Cert.Pre_gate_finite.fn (F := Ideal) (m ((c.tc : Thread Cert.FoxGateBwdIdeal.nD Cert.FoxGateBwdIdeal.τ).loc Cert.FoxGateBwdIdeal.main_arg0)) (m ((c.tc : Thread Cert.FoxGateBwdIdeal.nD Cert.FoxGateBwdIdeal.τ).loc Cert.FoxGateBwdIdeal.main_arg1)) (m ((c.tc : Thread Cert.FoxGateBwdIdeal.nD Cert.FoxGateBwdIdeal.τ).loc Cert.FoxGateBwdIdeal.main_arg2))) = (fun _ => 1#1)

def Pre_FoxGateRefIdeal (m : (ℓ : Loc Cert.FoxGateRefIdeal.nD Cert.FoxGateRefIdeal.τ Cert.FoxGateRefIdeal.sig) → Buf (Elt Ideal) ℓ) : Prop :=
  True

def Pre_FoxGateRefIdeal_gate_finite [hPre_gate_finite : Cert.Pre_gate_finite.Facts] (m : (ℓ : Loc Cert.FoxGateRefIdeal.nD Cert.FoxGateRefIdeal.τ Cert.FoxGateRefIdeal.sig) → Buf (Elt Ideal) ℓ) : Prop :=
  ∀ c : Dev Cert.FoxGateRefIdeal.nD,
    (Cert.Pre_gate_finite.fn (F := Ideal) (m ((c.tc : Thread Cert.FoxGateRefIdeal.nD Cert.FoxGateRefIdeal.τ).loc Cert.FoxGateRefIdeal.main_arg0)) (m ((c.tc : Thread Cert.FoxGateRefIdeal.nD Cert.FoxGateRefIdeal.τ).loc Cert.FoxGateRefIdeal.main_arg1)) (m ((c.tc : Thread Cert.FoxGateRefIdeal.nD Cert.FoxGateRefIdeal.τ).loc Cert.FoxGateRefIdeal.main_arg2))) = (fun _ => 1#1)

def Pre_DilCombine (m : (ℓ : Loc Cert.DilCombine.nD Cert.DilCombine.τ Cert.DilCombine.sig) → Buf (Elt Bits) ℓ) : Prop :=
  True

def Pre_DilCombineIdeal (m : (ℓ : Loc Cert.DilCombineIdeal.nD Cert.DilCombineIdeal.τ Cert.DilCombineIdeal.sig) → Buf (Elt Ideal) ℓ) : Prop :=
  True

def Pre_DilCombineIdeal_comb_finite [hPre_comb_finite : Cert.Pre_comb_finite.Facts] (m : (ℓ : Loc Cert.DilCombineIdeal.nD Cert.DilCombineIdeal.τ Cert.DilCombineIdeal.sig) → Buf (Elt Ideal) ℓ) : Prop :=
  ∀ c : Dev Cert.DilCombineIdeal.nD,
    (Cert.Pre_comb_finite.fn (F := Ideal) (m ((c.tc : Thread Cert.DilCombineIdeal.nD Cert.DilCombineIdeal.τ).loc Cert.DilCombineIdeal.main_arg0)) (m ((c.tc : Thread Cert.DilCombineIdeal.nD Cert.DilCombineIdeal.τ).loc Cert.DilCombineIdeal.main_arg1)) (m ((c.tc : Thread Cert.DilCombineIdeal.nD Cert.DilCombineIdeal.τ).loc Cert.DilCombineIdeal.main_arg2))) = (fun _ => 1#1)

def Pre_DilCombineRefIdeal (m : (ℓ : Loc Cert.DilCombineRefIdeal.nD Cert.DilCombineRefIdeal.τ Cert.DilCombineRefIdeal.sig) → Buf (Elt Ideal) ℓ) : Prop :=
  True

def Pre_DilCombineRefIdeal_comb_finite [hPre_comb_finite : Cert.Pre_comb_finite.Facts] (m : (ℓ : Loc Cert.DilCombineRefIdeal.nD Cert.DilCombineRefIdeal.τ Cert.DilCombineRefIdeal.sig) → Buf (Elt Ideal) ℓ) : Prop :=
  ∀ c : Dev Cert.DilCombineRefIdeal.nD,
    (Cert.Pre_comb_finite.fn (F := Ideal) (m ((c.tc : Thread Cert.DilCombineRefIdeal.nD Cert.DilCombineRefIdeal.τ).loc Cert.DilCombineRefIdeal.main_arg0)) (m ((c.tc : Thread Cert.DilCombineRefIdeal.nD Cert.DilCombineRefIdeal.τ).loc Cert.DilCombineRefIdeal.main_arg1)) (m ((c.tc : Thread Cert.DilCombineRefIdeal.nD Cert.DilCombineRefIdeal.τ).loc Cert.DilCombineRefIdeal.main_arg2))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))) = (fun _ => 1#1)

def Pre_PostFfnBwd (m : (ℓ : Loc Cert.PostFfnBwd.nD Cert.PostFfnBwd.τ Cert.PostFfnBwd.sig) → Buf (Elt Bits) ℓ) : Prop :=
  True

def Pre_PostFfnBwdIdeal (m : (ℓ : Loc Cert.PostFfnBwdIdeal.nD Cert.PostFfnBwdIdeal.τ Cert.PostFfnBwdIdeal.sig) → Buf (Elt Ideal) ℓ) : Prop :=
  True

def Pre_PostFfnBwdIdeal_post_finite [hPre_post_finite : Cert.Pre_post_finite.Facts] (m : (ℓ : Loc Cert.PostFfnBwdIdeal.nD Cert.PostFfnBwdIdeal.τ Cert.PostFfnBwdIdeal.sig) → Buf (Elt Ideal) ℓ) : Prop :=
  ∀ c : Dev Cert.PostFfnBwdIdeal.nD,
    (Cert.Pre_post_finite.fn (F := Ideal) (m ((c.tc : Thread Cert.PostFfnBwdIdeal.nD Cert.PostFfnBwdIdeal.τ).loc Cert.PostFfnBwdIdeal.main_arg0)) (m ((c.tc : Thread Cert.PostFfnBwdIdeal.nD Cert.PostFfnBwdIdeal.τ).loc Cert.PostFfnBwdIdeal.main_arg1)) (m ((c.tc : Thread Cert.PostFfnBwdIdeal.nD Cert.PostFfnBwdIdeal.τ).loc Cert.PostFfnBwdIdeal.main_arg2)) (m ((c.tc : Thread Cert.PostFfnBwdIdeal.nD Cert.PostFfnBwdIdeal.τ).loc Cert.PostFfnBwdIdeal.main_arg3)) (m ((c.tc : Thread Cert.PostFfnBwdIdeal.nD Cert.PostFfnBwdIdeal.τ).loc Cert.PostFfnBwdIdeal.main_arg4)) (m ((c.tc : Thread Cert.PostFfnBwdIdeal.nD Cert.PostFfnBwdIdeal.τ).loc Cert.PostFfnBwdIdeal.main_arg5)) (m ((c.tc : Thread Cert.PostFfnBwdIdeal.nD Cert.PostFfnBwdIdeal.τ).loc Cert.PostFfnBwdIdeal.main_arg6)) (m ((c.tc : Thread Cert.PostFfnBwdIdeal.nD Cert.PostFfnBwdIdeal.τ).loc Cert.PostFfnBwdIdeal.main_arg7)) (m ((c.tc : Thread Cert.PostFfnBwdIdeal.nD Cert.PostFfnBwdIdeal.τ).loc Cert.PostFfnBwdIdeal.main_arg8))) = (fun _ => 1#1)

def Pre_PostFfnRefIdeal (m : (ℓ : Loc Cert.PostFfnRefIdeal.nD Cert.PostFfnRefIdeal.τ Cert.PostFfnRefIdeal.sig) → Buf (Elt Ideal) ℓ) : Prop :=
  True

def Pre_PostFfnRefIdeal_post_finite [hPre_post_finite : Cert.Pre_post_finite.Facts] (m : (ℓ : Loc Cert.PostFfnRefIdeal.nD Cert.PostFfnRefIdeal.τ Cert.PostFfnRefIdeal.sig) → Buf (Elt Ideal) ℓ) : Prop :=
  ∀ c : Dev Cert.PostFfnRefIdeal.nD,
    (Cert.Pre_post_finite.fn (F := Ideal) (m ((c.tc : Thread Cert.PostFfnRefIdeal.nD Cert.PostFfnRefIdeal.τ).loc Cert.PostFfnRefIdeal.main_arg0)) (m ((c.tc : Thread Cert.PostFfnRefIdeal.nD Cert.PostFfnRefIdeal.τ).loc Cert.PostFfnRefIdeal.main_arg1)) (m ((c.tc : Thread Cert.PostFfnRefIdeal.nD Cert.PostFfnRefIdeal.τ).loc Cert.PostFfnRefIdeal.main_arg2)) (m ((c.tc : Thread Cert.PostFfnRefIdeal.nD Cert.PostFfnRefIdeal.τ).loc Cert.PostFfnRefIdeal.main_arg3)) (m ((c.tc : Thread Cert.PostFfnRefIdeal.nD Cert.PostFfnRefIdeal.τ).loc Cert.PostFfnRefIdeal.main_arg4)) (m ((c.tc : Thread Cert.PostFfnRefIdeal.nD Cert.PostFfnRefIdeal.τ).loc Cert.PostFfnRefIdeal.main_arg5)) (m ((c.tc : Thread Cert.PostFfnRefIdeal.nD Cert.PostFfnRefIdeal.τ).loc Cert.PostFfnRefIdeal.main_arg6)) (m ((c.tc : Thread Cert.PostFfnRefIdeal.nD Cert.PostFfnRefIdeal.τ).loc Cert.PostFfnRefIdeal.main_arg7)) (m ((c.tc : Thread Cert.PostFfnRefIdeal.nD Cert.PostFfnRefIdeal.τ).loc Cert.PostFfnRefIdeal.main_arg8))) = (fun _ => 1#1)

def Pre_InputBwd (m : (ℓ : Loc Cert.InputBwd.nD Cert.InputBwd.τ Cert.InputBwd.sig) → Buf (Elt Bits) ℓ) : Prop :=
  True

def Pre_InputBwdIdeal (m : (ℓ : Loc Cert.InputBwdIdeal.nD Cert.InputBwdIdeal.τ Cert.InputBwdIdeal.sig) → Buf (Elt Ideal) ℓ) : Prop :=
  True

def Pre_InputBwdIdeal_input_finite [hPre_input_finite : Cert.Pre_input_finite.Facts] (m : (ℓ : Loc Cert.InputBwdIdeal.nD Cert.InputBwdIdeal.τ Cert.InputBwdIdeal.sig) → Buf (Elt Ideal) ℓ) : Prop :=
  ∀ c : Dev Cert.InputBwdIdeal.nD,
    (Cert.Pre_input_finite.fn (F := Ideal) (m ((c.tc : Thread Cert.InputBwdIdeal.nD Cert.InputBwdIdeal.τ).loc Cert.InputBwdIdeal.main_arg0)) (m ((c.tc : Thread Cert.InputBwdIdeal.nD Cert.InputBwdIdeal.τ).loc Cert.InputBwdIdeal.main_arg1)) (m ((c.tc : Thread Cert.InputBwdIdeal.nD Cert.InputBwdIdeal.τ).loc Cert.InputBwdIdeal.main_arg2)) (m ((c.tc : Thread Cert.InputBwdIdeal.nD Cert.InputBwdIdeal.τ).loc Cert.InputBwdIdeal.main_arg3)) (m ((c.tc : Thread Cert.InputBwdIdeal.nD Cert.InputBwdIdeal.τ).loc Cert.InputBwdIdeal.main_arg4))) = (fun _ => 1#1)

def Pre_InputBwdRefIdeal (m : (ℓ : Loc Cert.InputBwdRefIdeal.nD Cert.InputBwdRefIdeal.τ Cert.InputBwdRefIdeal.sig) → Buf (Elt Ideal) ℓ) : Prop :=
  True

def Pre_InputBwdRefIdeal_input_finite [hPre_input_finite : Cert.Pre_input_finite.Facts] (m : (ℓ : Loc Cert.InputBwdRefIdeal.nD Cert.InputBwdRefIdeal.τ Cert.InputBwdRefIdeal.sig) → Buf (Elt Ideal) ℓ) : Prop :=
  ∀ c : Dev Cert.InputBwdRefIdeal.nD,
    (Cert.Pre_input_finite.fn (F := Ideal) (m ((c.tc : Thread Cert.InputBwdRefIdeal.nD Cert.InputBwdRefIdeal.τ).loc Cert.InputBwdRefIdeal.main_arg0)) (m ((c.tc : Thread Cert.InputBwdRefIdeal.nD Cert.InputBwdRefIdeal.τ).loc Cert.InputBwdRefIdeal.main_arg1)) (m ((c.tc : Thread Cert.InputBwdRefIdeal.nD Cert.InputBwdRefIdeal.τ).loc Cert.InputBwdRefIdeal.main_arg2)) (m ((c.tc : Thread Cert.InputBwdRefIdeal.nD Cert.InputBwdRefIdeal.τ).loc Cert.InputBwdRefIdeal.main_arg3)) (m ((c.tc : Thread Cert.InputBwdRefIdeal.nD Cert.InputBwdRefIdeal.τ).loc Cert.InputBwdRefIdeal.main_arg4))) = (fun _ => 1#1)

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_foxf_finite [hPre_foxf_finite : Cert.Pre_foxf_finite.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_foxf_finite.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))) = (fun _ => 1#1)

def Pre_FoxFwdRefIdeal (m : (ℓ : Loc Cert.FoxFwdRefIdeal.nD Cert.FoxFwdRefIdeal.τ Cert.FoxFwdRefIdeal.sig) → Buf (Elt Ideal) ℓ) : Prop :=
  True

def Pre_FoxFwdRefIdeal_foxf_finite [hPre_foxf_finite : Cert.Pre_foxf_finite.Facts] (m : (ℓ : Loc Cert.FoxFwdRefIdeal.nD Cert.FoxFwdRefIdeal.τ Cert.FoxFwdRefIdeal.sig) → Buf (Elt Ideal) ℓ) : Prop :=
  ∀ c : Dev Cert.FoxFwdRefIdeal.nD,
    (Cert.Pre_foxf_finite.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))) = (fun _ => 1#1)

def Pre_DilMean (m : (ℓ : Loc Cert.DilMean.nD Cert.DilMean.τ Cert.DilMean.sig) → Buf (Elt Bits) ℓ) : Prop :=
  True

def Pre_DilMeanIdeal (m : (ℓ : Loc Cert.DilMeanIdeal.nD Cert.DilMeanIdeal.τ Cert.DilMeanIdeal.sig) → Buf (Elt Ideal) ℓ) : Prop :=
  True

def Pre_DilMeanIdeal_combf_finite [hPre_combf_finite : Cert.Pre_combf_finite.Facts] (m : (ℓ : Loc Cert.DilMeanIdeal.nD Cert.DilMeanIdeal.τ Cert.DilMeanIdeal.sig) → Buf (Elt Ideal) ℓ) : Prop :=
  ∀ c : Dev Cert.DilMeanIdeal.nD,
    (Cert.Pre_combf_finite.fn (F := Ideal) (m ((c.tc : Thread Cert.DilMeanIdeal.nD Cert.DilMeanIdeal.τ).loc Cert.DilMeanIdeal.main_arg0)) (m ((c.tc : Thread Cert.DilMeanIdeal.nD Cert.DilMeanIdeal.τ).loc Cert.DilMeanIdeal.main_arg1))) = (fun _ => 1#1)

def Pre_DilMeanRefIdeal (m : (ℓ : Loc Cert.DilMeanRefIdeal.nD Cert.DilMeanRefIdeal.τ Cert.DilMeanRefIdeal.sig) → Buf (Elt Ideal) ℓ) : Prop :=
  True

def Pre_DilMeanRefIdeal_combf_finite [hPre_combf_finite : Cert.Pre_combf_finite.Facts] (m : (ℓ : Loc Cert.DilMeanRefIdeal.nD Cert.DilMeanRefIdeal.τ Cert.DilMeanRefIdeal.sig) → Buf (Elt Ideal) ℓ) : Prop :=
  ∀ c : Dev Cert.DilMeanRefIdeal.nD,
    (Cert.Pre_combf_finite.fn (F := Ideal) (m ((c.tc : Thread Cert.DilMeanRefIdeal.nD Cert.DilMeanRefIdeal.τ).loc Cert.DilMeanRefIdeal.main_arg0)) (m ((c.tc : Thread Cert.DilMeanRefIdeal.nD Cert.DilMeanRefIdeal.τ).loc Cert.DilMeanRefIdeal.main_arg1))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_NormPre (m : (ℓ : Loc Cert.NormPre.nD Cert.NormPre.τ Cert.NormPre.sig) → Buf (Elt Bits) ℓ) : Prop :=
  True

def Pre_NormPreIdeal (m : (ℓ : Loc Cert.NormPreIdeal.nD Cert.NormPreIdeal.τ Cert.NormPreIdeal.sig) → Buf (Elt Ideal) ℓ) : Prop :=
  True

def Pre_NormPreRefIdeal (m : (ℓ : Loc Cert.NormPreRefIdeal.nD Cert.NormPreRefIdeal.τ Cert.NormPreRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutFwdRefIdeal (m : (ℓ : Loc Cert.MixOutFwdRefIdeal.nD Cert.MixOutFwdRefIdeal.τ Cert.MixOutFwdRefIdeal.sig) → Buf (Elt Ideal) ℓ) : Prop :=
  True

def Pre_FoxGateFwd (m : (ℓ : Loc Cert.FoxGateFwd.nD Cert.FoxGateFwd.τ Cert.FoxGateFwd.sig) → Buf (Elt Bits) ℓ) : Prop :=
  True

def Pre_FoxGateFwdIdeal (m : (ℓ : Loc Cert.FoxGateFwdIdeal.nD Cert.FoxGateFwdIdeal.τ Cert.FoxGateFwdIdeal.sig) → Buf (Elt Ideal) ℓ) : Prop :=
  True

def Pre_FoxGateFwdIdeal_gatef_finite [hPre_gatef_finite : Cert.Pre_gatef_finite.Facts] (m : (ℓ : Loc Cert.FoxGateFwdIdeal.nD Cert.FoxGateFwdIdeal.τ Cert.FoxGateFwdIdeal.sig) → Buf (Elt Ideal) ℓ) : Prop :=
  ∀ c : Dev Cert.FoxGateFwdIdeal.nD,
    (Cert.Pre_gatef_finite.fn (F := Ideal) (m ((c.tc : Thread Cert.FoxGateFwdIdeal.nD Cert.FoxGateFwdIdeal.τ).loc Cert.FoxGateFwdIdeal.main_arg0)) (m ((c.tc : Thread Cert.FoxGateFwdIdeal.nD Cert.FoxGateFwdIdeal.τ).loc Cert.FoxGateFwdIdeal.main_arg1))) = (fun _ => 1#1)

def Pre_FoxGateFwdRefIdeal (m : (ℓ : Loc Cert.FoxGateFwdRefIdeal.nD Cert.FoxGateFwdRefIdeal.τ Cert.FoxGateFwdRefIdeal.sig) → Buf (Elt Ideal) ℓ) : Prop :=
  True

def Pre_FoxGateFwdRefIdeal_gatef_finite [hPre_gatef_finite : Cert.Pre_gatef_finite.Facts] (m : (ℓ : Loc Cert.FoxGateFwdRefIdeal.nD Cert.FoxGateFwdRefIdeal.τ Cert.FoxGateFwdRefIdeal.sig) → Buf (Elt Ideal) ℓ) : Prop :=
  ∀ c : Dev Cert.FoxGateFwdRefIdeal.nD,
    (Cert.Pre_gatef_finite.fn (F := Ideal) (m ((c.tc : Thread Cert.FoxGateFwdRefIdeal.nD Cert.FoxGateFwdRefIdeal.τ).loc Cert.FoxGateFwdRefIdeal.main_arg0)) (m ((c.tc : Thread Cert.FoxGateFwdRefIdeal.nD Cert.FoxGateFwdRefIdeal.τ).loc Cert.FoxGateFwdRefIdeal.main_arg1))) = (fun _ => 1#1)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActIdeal_pre_ffn_finite [hFfnActIdeal : Cert.FfnActIdeal.Facts] [hPre_ffn_finite : Cert.Pre_ffn_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_ffn_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnActRefIdeal_pre_ffn_finite [hFfnActRefIdeal : Cert.FfnActRefIdeal.Facts] [hPre_ffn_finite : Cert.Pre_ffn_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_ffn_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdIdeal_pre_fox_finite [hFoxBwdIdeal : Cert.FoxBwdIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_fox_finite m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxGateBwd [hFoxGateBwd : Cert.FoxGateBwd.Facts] : Prop :=
  ∀ (m : (ℓ : Loc Cert.FoxGateBwd.nD Cert.FoxGateBwd.τ Cert.FoxGateBwd.sig) → Buf (Elt Bits) ℓ) (g : Dev Cert.FoxGateBwd.nD → PrngReg), Pre_FoxGateBwd m →
    θ_run (Cert.FoxGateBwd.defs (F := Bits)) (onTc (τ := Cert.FoxGateBwd.τ) (Cert.FoxGateBwd.main (F := Bits))) ⟨m, fun _ => 0, g⟩ (fun r => (∀ c : Dev Cert.FoxGateBwd.nD,
      r.2.mem ((c.tc : Thread Cert.FoxGateBwd.nD Cert.FoxGateBwd.τ).loc Cert.FoxGateBwd.main_arg0) = m ((c.tc : Thread Cert.FoxGateBwd.nD Cert.FoxGateBwd.τ).loc Cert.FoxGateBwd.main_arg0)
      ∧ r.2.mem ((c.tc : Thread Cert.FoxGateBwd.nD Cert.FoxGateBwd.τ).loc Cert.FoxGateBwd.main_arg1) = m ((c.tc : Thread Cert.FoxGateBwd.nD Cert.FoxGateBwd.τ).loc Cert.FoxGateBwd.main_arg1)
      ∧ r.2.mem ((c.tc : Thread Cert.FoxGateBwd.nD Cert.FoxGateBwd.τ).loc Cert.FoxGateBwd.main_arg2) = m ((c.tc : Thread Cert.FoxGateBwd.nD Cert.FoxGateBwd.τ).loc Cert.FoxGateBwd.main_arg2))
      ∧ r.2.sem = fun _ => 0)

def quiescent_FoxGateBwdIdeal [hFoxGateBwdIdeal : Cert.FoxGateBwdIdeal.Facts] : Prop :=
  ∀ (m : (ℓ : Loc Cert.FoxGateBwdIdeal.nD Cert.FoxGateBwdIdeal.τ Cert.FoxGateBwdIdeal.sig) → Buf (Elt Ideal) ℓ) (g : Dev Cert.FoxGateBwdIdeal.nD → PrngReg), Pre_FoxGateBwdIdeal m →
    θ_run (Cert.FoxGateBwdIdeal.defs (F := Ideal)) (onTc (τ := Cert.FoxGateBwdIdeal.τ) (Cert.FoxGateBwdIdeal.main (F := Ideal))) ⟨m, fun _ => 0, g⟩ (fun r => (∀ c : Dev Cert.FoxGateBwdIdeal.nD,
      r.2.mem ((c.tc : Thread Cert.FoxGateBwdIdeal.nD Cert.FoxGateBwdIdeal.τ).loc Cert.FoxGateBwdIdeal.main_arg0) = m ((c.tc : Thread Cert.FoxGateBwdIdeal.nD Cert.FoxGateBwdIdeal.τ).loc Cert.FoxGateBwdIdeal.main_arg0)
      ∧ r.2.mem ((c.tc : Thread Cert.FoxGateBwdIdeal.nD Cert.FoxGateBwdIdeal.τ).loc Cert.FoxGateBwdIdeal.main_arg1) = m ((c.tc : Thread Cert.FoxGateBwdIdeal.nD Cert.FoxGateBwdIdeal.τ).loc Cert.FoxGateBwdIdeal.main_arg1)
      ∧ r.2.mem ((c.tc : Thread Cert.FoxGateBwdIdeal.nD Cert.FoxGateBwdIdeal.τ).loc Cert.FoxGateBwdIdeal.main_arg2) = m ((c.tc : Thread Cert.FoxGateBwdIdeal.nD Cert.FoxGateBwdIdeal.τ).loc Cert.FoxGateBwdIdeal.main_arg2))
      ∧ r.2.sem = fun _ => 0)

def quiescent_FoxGateBwdIdeal_pre_gate_finite [hFoxGateBwdIdeal : Cert.FoxGateBwdIdeal.Facts] [hPre_gate_finite : Cert.Pre_gate_finite.Facts] : Prop :=
  ∀ (m : (ℓ : Loc Cert.FoxGateBwdIdeal.nD Cert.FoxGateBwdIdeal.τ Cert.FoxGateBwdIdeal.sig) → Buf (Elt Ideal) ℓ) (g : Dev Cert.FoxGateBwdIdeal.nD → PrngReg), Pre_FoxGateBwdIdeal_gate_finite m →
    θ_run (Cert.FoxGateBwdIdeal.defs (F := Ideal)) (onTc (τ := Cert.FoxGateBwdIdeal.τ) (Cert.FoxGateBwdIdeal.main (F := Ideal))) ⟨m, fun _ => 0, g⟩ (fun r => (∀ c : Dev Cert.FoxGateBwdIdeal.nD,
      r.2.mem ((c.tc : Thread Cert.FoxGateBwdIdeal.nD Cert.FoxGateBwdIdeal.τ).loc Cert.FoxGateBwdIdeal.main_arg0) = m ((c.tc : Thread Cert.FoxGateBwdIdeal.nD Cert.FoxGateBwdIdeal.τ).loc Cert.FoxGateBwdIdeal.main_arg0)
      ∧ r.2.mem ((c.tc : Thread Cert.FoxGateBwdIdeal.nD Cert.FoxGateBwdIdeal.τ).loc Cert.FoxGateBwdIdeal.main_arg1) = m ((c.tc : Thread Cert.FoxGateBwdIdeal.nD Cert.FoxGateBwdIdeal.τ).loc Cert.FoxGateBwdIdeal.main_arg1)
      ∧ r.2.mem ((c.tc : Thread Cert.FoxGateBwdIdeal.nD Cert.FoxGateBwdIdeal.τ).loc Cert.FoxGateBwdIdeal.main_arg2) = m ((c.tc : Thread Cert.FoxGateBwdIdeal.nD Cert.FoxGateBwdIdeal.τ).loc Cert.FoxGateBwdIdeal.main_arg2))
      ∧ r.2.sem = fun _ => 0)

def quiescent_FoxGateRefIdeal [hFoxGateRefIdeal : Cert.FoxGateRefIdeal.Facts] : Prop :=
  ∀ (m : (ℓ : Loc Cert.FoxGateRefIdeal.nD Cert.FoxGateRefIdeal.τ Cert.FoxGateRefIdeal.sig) → Buf (Elt Ideal) ℓ) (g : Dev Cert.FoxGateRefIdeal.nD → PrngReg), Pre_FoxGateRefIdeal m →
    θ_run (Cert.FoxGateRefIdeal.defs (F := Ideal)) (onTc (τ := Cert.FoxGateRefIdeal.τ) (Cert.FoxGateRefIdeal.main (F := Ideal))) ⟨m, fun _ => 0, g⟩ (fun r => (∀ c : Dev Cert.FoxGateRefIdeal.nD,
      r.2.mem ((c.tc : Thread Cert.FoxGateRefIdeal.nD Cert.FoxGateRefIdeal.τ).loc Cert.FoxGateRefIdeal.main_arg0) = m ((c.tc : Thread Cert.FoxGateRefIdeal.nD Cert.FoxGateRefIdeal.τ).loc Cert.FoxGateRefIdeal.main_arg0)
      ∧ r.2.mem ((c.tc : Thread Cert.FoxGateRefIdeal.nD Cert.FoxGateRefIdeal.τ).loc Cert.FoxGateRefIdeal.main_arg1) = m ((c.tc : Thread Cert.FoxGateRefIdeal.nD Cert.FoxGateRefIdeal.τ).loc Cert.FoxGateRefIdeal.main_arg1)
      ∧ r.2.mem ((c.tc : Thread Cert.FoxGateRefIdeal.nD Cert.FoxGateRefIdeal.τ).loc Cert.FoxGateRefIdeal.main_arg2) = m ((c.tc : Thread Cert.FoxGateRefIdeal.nD Cert.FoxGateRefIdeal.τ).loc Cert.FoxGateRefIdeal.main_arg2))
      ∧ r.2.sem = fun _ => 0)

def quiescent_FoxGateRefIdeal_pre_gate_finite [hFoxGateRefIdeal : Cert.FoxGateRefIdeal.Facts] [hPre_gate_finite : Cert.Pre_gate_finite.Facts] : Prop :=
  ∀ (m : (ℓ : Loc Cert.FoxGateRefIdeal.nD Cert.FoxGateRefIdeal.τ Cert.FoxGateRefIdeal.sig) → Buf (Elt Ideal) ℓ) (g : Dev Cert.FoxGateRefIdeal.nD → PrngReg), Pre_FoxGateRefIdeal_gate_finite m →
    θ_run (Cert.FoxGateRefIdeal.defs (F := Ideal)) (onTc (τ := Cert.FoxGateRefIdeal.τ) (Cert.FoxGateRefIdeal.main (F := Ideal))) ⟨m, fun _ => 0, g⟩ (fun r => (∀ c : Dev Cert.FoxGateRefIdeal.nD,
      r.2.mem ((c.tc : Thread Cert.FoxGateRefIdeal.nD Cert.FoxGateRefIdeal.τ).loc Cert.FoxGateRefIdeal.main_arg0) = m ((c.tc : Thread Cert.FoxGateRefIdeal.nD Cert.FoxGateRefIdeal.τ).loc Cert.FoxGateRefIdeal.main_arg0)
      ∧ r.2.mem ((c.tc : Thread Cert.FoxGateRefIdeal.nD Cert.FoxGateRefIdeal.τ).loc Cert.FoxGateRefIdeal.main_arg1) = m ((c.tc : Thread Cert.FoxGateRefIdeal.nD Cert.FoxGateRefIdeal.τ).loc Cert.FoxGateRefIdeal.main_arg1)
      ∧ r.2.mem ((c.tc : Thread Cert.FoxGateRefIdeal.nD Cert.FoxGateRefIdeal.τ).loc Cert.FoxGateRefIdeal.main_arg2) = m ((c.tc : Thread Cert.FoxGateRefIdeal.nD Cert.FoxGateRefIdeal.τ).loc Cert.FoxGateRefIdeal.main_arg2))
      ∧ r.2.sem = fun _ => 0)

def quiescent_DilCombine [hDilCombine : Cert.DilCombine.Facts] : Prop :=
  ∀ (m : (ℓ : Loc Cert.DilCombine.nD Cert.DilCombine.τ Cert.DilCombine.sig) → Buf (Elt Bits) ℓ) (g : Dev Cert.DilCombine.nD → PrngReg), Pre_DilCombine m →
    θ_run (Cert.DilCombine.defs (F := Bits)) (onTc (τ := Cert.DilCombine.τ) (Cert.DilCombine.main (F := Bits))) ⟨m, fun _ => 0, g⟩ (fun r => (∀ c : Dev Cert.DilCombine.nD,
      r.2.mem ((c.tc : Thread Cert.DilCombine.nD Cert.DilCombine.τ).loc Cert.DilCombine.main_arg0) = m ((c.tc : Thread Cert.DilCombine.nD Cert.DilCombine.τ).loc Cert.DilCombine.main_arg0)
      ∧ r.2.mem ((c.tc : Thread Cert.DilCombine.nD Cert.DilCombine.τ).loc Cert.DilCombine.main_arg1) = m ((c.tc : Thread Cert.DilCombine.nD Cert.DilCombine.τ).loc Cert.DilCombine.main_arg1)
      ∧ r.2.mem ((c.tc : Thread Cert.DilCombine.nD Cert.DilCombine.τ).loc Cert.DilCombine.main_arg2) = m ((c.tc : Thread Cert.DilCombine.nD Cert.DilCombine.τ).loc Cert.DilCombine.main_arg2))
      ∧ r.2.sem = fun _ => 0)

def quiescent_DilCombineIdeal [hDilCombineIdeal : Cert.DilCombineIdeal.Facts] : Prop :=
  ∀ (m : (ℓ : Loc Cert.DilCombineIdeal.nD Cert.DilCombineIdeal.τ Cert.DilCombineIdeal.sig) → Buf (Elt Ideal) ℓ) (g : Dev Cert.DilCombineIdeal.nD → PrngReg), Pre_DilCombineIdeal m →
    θ_run (Cert.DilCombineIdeal.defs (F := Ideal)) (onTc (τ := Cert.DilCombineIdeal.τ) (Cert.DilCombineIdeal.main (F := Ideal))) ⟨m, fun _ => 0, g⟩ (fun r => (∀ c : Dev Cert.DilCombineIdeal.nD,
      r.2.mem ((c.tc : Thread Cert.DilCombineIdeal.nD Cert.DilCombineIdeal.τ).loc Cert.DilCombineIdeal.main_arg0) = m ((c.tc : Thread Cert.DilCombineIdeal.nD Cert.DilCombineIdeal.τ).loc Cert.DilCombineIdeal.main_arg0)
      ∧ r.2.mem ((c.tc : Thread Cert.DilCombineIdeal.nD Cert.DilCombineIdeal.τ).loc Cert.DilCombineIdeal.main_arg1) = m ((c.tc : Thread Cert.DilCombineIdeal.nD Cert.DilCombineIdeal.τ).loc Cert.DilCombineIdeal.main_arg1)
      ∧ r.2.mem ((c.tc : Thread Cert.DilCombineIdeal.nD Cert.DilCombineIdeal.τ).loc Cert.DilCombineIdeal.main_arg2) = m ((c.tc : Thread Cert.DilCombineIdeal.nD Cert.DilCombineIdeal.τ).loc Cert.DilCombineIdeal.main_arg2))
      ∧ r.2.sem = fun _ => 0)

def quiescent_DilCombineIdeal_pre_comb_finite [hDilCombineIdeal : Cert.DilCombineIdeal.Facts] [hPre_comb_finite : Cert.Pre_comb_finite.Facts] : Prop :=
  ∀ (m : (ℓ : Loc Cert.DilCombineIdeal.nD Cert.DilCombineIdeal.τ Cert.DilCombineIdeal.sig) → Buf (Elt Ideal) ℓ) (g : Dev Cert.DilCombineIdeal.nD → PrngReg), Pre_DilCombineIdeal_comb_finite m →
    θ_run (Cert.DilCombineIdeal.defs (F := Ideal)) (onTc (τ := Cert.DilCombineIdeal.τ) (Cert.DilCombineIdeal.main (F := Ideal))) ⟨m, fun _ => 0, g⟩ (fun r => (∀ c : Dev Cert.DilCombineIdeal.nD,
      r.2.mem ((c.tc : Thread Cert.DilCombineIdeal.nD Cert.DilCombineIdeal.τ).loc Cert.DilCombineIdeal.main_arg0) = m ((c.tc : Thread Cert.DilCombineIdeal.nD Cert.DilCombineIdeal.τ).loc Cert.DilCombineIdeal.main_arg0)
      ∧ r.2.mem ((c.tc : Thread Cert.DilCombineIdeal.nD Cert.DilCombineIdeal.τ).loc Cert.DilCombineIdeal.main_arg1) = m ((c.tc : Thread Cert.DilCombineIdeal.nD Cert.DilCombineIdeal.τ).loc Cert.DilCombineIdeal.main_arg1)
      ∧ r.2.mem ((c.tc : Thread Cert.DilCombineIdeal.nD Cert.DilCombineIdeal.τ).loc Cert.DilCombineIdeal.main_arg2) = m ((c.tc : Thread Cert.DilCombineIdeal.nD Cert.DilCombineIdeal.τ).loc Cert.DilCombineIdeal.main_arg2))
      ∧ r.2.sem = fun _ => 0)

def quiescent_DilCombineRefIdeal [hDilCombineRefIdeal : Cert.DilCombineRefIdeal.Facts] : Prop :=
  ∀ (m : (ℓ : Loc Cert.DilCombineRefIdeal.nD Cert.DilCombineRefIdeal.τ Cert.DilCombineRefIdeal.sig) → Buf (Elt Ideal) ℓ) (g : Dev Cert.DilCombineRefIdeal.nD → PrngReg), Pre_DilCombineRefIdeal m →
    θ_run (Cert.DilCombineRefIdeal.defs (F := Ideal)) (onTc (τ := Cert.DilCombineRefIdeal.τ) (Cert.DilCombineRefIdeal.main (F := Ideal))) ⟨m, fun _ => 0, g⟩ (fun r => (∀ c : Dev Cert.DilCombineRefIdeal.nD,
      r.2.mem ((c.tc : Thread Cert.DilCombineRefIdeal.nD Cert.DilCombineRefIdeal.τ).loc Cert.DilCombineRefIdeal.main_arg0) = m ((c.tc : Thread Cert.DilCombineRefIdeal.nD Cert.DilCombineRefIdeal.τ).loc Cert.DilCombineRefIdeal.main_arg0)
      ∧ r.2.mem ((c.tc : Thread Cert.DilCombineRefIdeal.nD Cert.DilCombineRefIdeal.τ).loc Cert.DilCombineRefIdeal.main_arg1) = m ((c.tc : Thread Cert.DilCombineRefIdeal.nD Cert.DilCombineRefIdeal.τ).loc Cert.DilCombineRefIdeal.main_arg1)
      ∧ r.2.mem ((c.tc : Thread Cert.DilCombineRefIdeal.nD Cert.DilCombineRefIdeal.τ).loc Cert.DilCombineRefIdeal.main_arg2) = m ((c.tc : Thread Cert.DilCombineRefIdeal.nD Cert.DilCombineRefIdeal.τ).loc Cert.DilCombineRefIdeal.main_arg2))
      ∧ r.2.sem = fun _ => 0)

def quiescent_DilCombineRefIdeal_pre_comb_finite [hDilCombineRefIdeal : Cert.DilCombineRefIdeal.Facts] [hPre_comb_finite : Cert.Pre_comb_finite.Facts] : Prop :=
  ∀ (m : (ℓ : Loc Cert.DilCombineRefIdeal.nD Cert.DilCombineRefIdeal.τ Cert.DilCombineRefIdeal.sig) → Buf (Elt Ideal) ℓ) (g : Dev Cert.DilCombineRefIdeal.nD → PrngReg), Pre_DilCombineRefIdeal_comb_finite m →
    θ_run (Cert.DilCombineRefIdeal.defs (F := Ideal)) (onTc (τ := Cert.DilCombineRefIdeal.τ) (Cert.DilCombineRefIdeal.main (F := Ideal))) ⟨m, fun _ => 0, g⟩ (fun r => (∀ c : Dev Cert.DilCombineRefIdeal.nD,
      r.2.mem ((c.tc : Thread Cert.DilCombineRefIdeal.nD Cert.DilCombineRefIdeal.τ).loc Cert.DilCombineRefIdeal.main_arg0) = m ((c.tc : Thread Cert.DilCombineRefIdeal.nD Cert.DilCombineRefIdeal.τ).loc Cert.DilCombineRefIdeal.main_arg0)
      ∧ r.2.mem ((c.tc : Thread Cert.DilCombineRefIdeal.nD Cert.DilCombineRefIdeal.τ).loc Cert.DilCombineRefIdeal.main_arg1) = m ((c.tc : Thread Cert.DilCombineRefIdeal.nD Cert.DilCombineRefIdeal.τ).loc Cert.DilCombineRefIdeal.main_arg1)
      ∧ r.2.mem ((c.tc : Thread Cert.DilCombineRefIdeal.nD Cert.DilCombineRefIdeal.τ).loc Cert.DilCombineRefIdeal.main_arg2) = m ((c.tc : Thread Cert.DilCombineRefIdeal.nD Cert.DilCombineRefIdeal.τ).loc Cert.DilCombineRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_PostFfnBwd [hPostFfnBwd : Cert.PostFfnBwd.Facts] : Prop :=
  ∀ (m : (ℓ : Loc Cert.PostFfnBwd.nD Cert.PostFfnBwd.τ Cert.PostFfnBwd.sig) → Buf (Elt Bits) ℓ) (g : Dev Cert.PostFfnBwd.nD → PrngReg), Pre_PostFfnBwd m →
    θ_run (Cert.PostFfnBwd.defs (F := Bits)) (onTc (τ := Cert.PostFfnBwd.τ) (Cert.PostFfnBwd.main (F := Bits))) ⟨m, fun _ => 0, g⟩ (fun r => (∀ c : Dev Cert.PostFfnBwd.nD,
      r.2.mem ((c.tc : Thread Cert.PostFfnBwd.nD Cert.PostFfnBwd.τ).loc Cert.PostFfnBwd.main_arg0) = m ((c.tc : Thread Cert.PostFfnBwd.nD Cert.PostFfnBwd.τ).loc Cert.PostFfnBwd.main_arg0)
      ∧ r.2.mem ((c.tc : Thread Cert.PostFfnBwd.nD Cert.PostFfnBwd.τ).loc Cert.PostFfnBwd.main_arg1) = m ((c.tc : Thread Cert.PostFfnBwd.nD Cert.PostFfnBwd.τ).loc Cert.PostFfnBwd.main_arg1)
      ∧ r.2.mem ((c.tc : Thread Cert.PostFfnBwd.nD Cert.PostFfnBwd.τ).loc Cert.PostFfnBwd.main_arg2) = m ((c.tc : Thread Cert.PostFfnBwd.nD Cert.PostFfnBwd.τ).loc Cert.PostFfnBwd.main_arg2)
      ∧ r.2.mem ((c.tc : Thread Cert.PostFfnBwd.nD Cert.PostFfnBwd.τ).loc Cert.PostFfnBwd.main_arg3) = m ((c.tc : Thread Cert.PostFfnBwd.nD Cert.PostFfnBwd.τ).loc Cert.PostFfnBwd.main_arg3)
      ∧ r.2.mem ((c.tc : Thread Cert.PostFfnBwd.nD Cert.PostFfnBwd.τ).loc Cert.PostFfnBwd.main_arg4) = m ((c.tc : Thread Cert.PostFfnBwd.nD Cert.PostFfnBwd.τ).loc Cert.PostFfnBwd.main_arg4)
      ∧ r.2.mem ((c.tc : Thread Cert.PostFfnBwd.nD Cert.PostFfnBwd.τ).loc Cert.PostFfnBwd.main_arg5) = m ((c.tc : Thread Cert.PostFfnBwd.nD Cert.PostFfnBwd.τ).loc Cert.PostFfnBwd.main_arg5)
      ∧ r.2.mem ((c.tc : Thread Cert.PostFfnBwd.nD Cert.PostFfnBwd.τ).loc Cert.PostFfnBwd.main_arg6) = m ((c.tc : Thread Cert.PostFfnBwd.nD Cert.PostFfnBwd.τ).loc Cert.PostFfnBwd.main_arg6)
      ∧ r.2.mem ((c.tc : Thread Cert.PostFfnBwd.nD Cert.PostFfnBwd.τ).loc Cert.PostFfnBwd.main_arg7) = m ((c.tc : Thread Cert.PostFfnBwd.nD Cert.PostFfnBwd.τ).loc Cert.PostFfnBwd.main_arg7)
      ∧ r.2.mem ((c.tc : Thread Cert.PostFfnBwd.nD Cert.PostFfnBwd.τ).loc Cert.PostFfnBwd.main_arg8) = m ((c.tc : Thread Cert.PostFfnBwd.nD Cert.PostFfnBwd.τ).loc Cert.PostFfnBwd.main_arg8))
      ∧ r.2.sem = fun _ => 0)

def quiescent_PostFfnBwdIdeal [hPostFfnBwdIdeal : Cert.PostFfnBwdIdeal.Facts] : Prop :=
  ∀ (m : (ℓ : Loc Cert.PostFfnBwdIdeal.nD Cert.PostFfnBwdIdeal.τ Cert.PostFfnBwdIdeal.sig) → Buf (Elt Ideal) ℓ) (g : Dev Cert.PostFfnBwdIdeal.nD → PrngReg), Pre_PostFfnBwdIdeal m →
    θ_run (Cert.PostFfnBwdIdeal.defs (F := Ideal)) (onTc (τ := Cert.PostFfnBwdIdeal.τ) (Cert.PostFfnBwdIdeal.main (F := Ideal))) ⟨m, fun _ => 0, g⟩ (fun r => (∀ c : Dev Cert.PostFfnBwdIdeal.nD,
      r.2.mem ((c.tc : Thread Cert.PostFfnBwdIdeal.nD Cert.PostFfnBwdIdeal.τ).loc Cert.PostFfnBwdIdeal.main_arg0) = m ((c.tc : Thread Cert.PostFfnBwdIdeal.nD Cert.PostFfnBwdIdeal.τ).loc Cert.PostFfnBwdIdeal.main_arg0)
      ∧ r.2.mem ((c.tc : Thread Cert.PostFfnBwdIdeal.nD Cert.PostFfnBwdIdeal.τ).loc Cert.PostFfnBwdIdeal.main_arg1) = m ((c.tc : Thread Cert.PostFfnBwdIdeal.nD Cert.PostFfnBwdIdeal.τ).loc Cert.PostFfnBwdIdeal.main_arg1)
      ∧ r.2.mem ((c.tc : Thread Cert.PostFfnBwdIdeal.nD Cert.PostFfnBwdIdeal.τ).loc Cert.PostFfnBwdIdeal.main_arg2) = m ((c.tc : Thread Cert.PostFfnBwdIdeal.nD Cert.PostFfnBwdIdeal.τ).loc Cert.PostFfnBwdIdeal.main_arg2)
      ∧ r.2.mem ((c.tc : Thread Cert.PostFfnBwdIdeal.nD Cert.PostFfnBwdIdeal.τ).loc Cert.PostFfnBwdIdeal.main_arg3) = m ((c.tc : Thread Cert.PostFfnBwdIdeal.nD Cert.PostFfnBwdIdeal.τ).loc Cert.PostFfnBwdIdeal.main_arg3)
      ∧ r.2.mem ((c.tc : Thread Cert.PostFfnBwdIdeal.nD Cert.PostFfnBwdIdeal.τ).loc Cert.PostFfnBwdIdeal.main_arg4) = m ((c.tc : Thread Cert.PostFfnBwdIdeal.nD Cert.PostFfnBwdIdeal.τ).loc Cert.PostFfnBwdIdeal.main_arg4)
      ∧ r.2.mem ((c.tc : Thread Cert.PostFfnBwdIdeal.nD Cert.PostFfnBwdIdeal.τ).loc Cert.PostFfnBwdIdeal.main_arg5) = m ((c.tc : Thread Cert.PostFfnBwdIdeal.nD Cert.PostFfnBwdIdeal.τ).loc Cert.PostFfnBwdIdeal.main_arg5)
      ∧ r.2.mem ((c.tc : Thread Cert.PostFfnBwdIdeal.nD Cert.PostFfnBwdIdeal.τ).loc Cert.PostFfnBwdIdeal.main_arg6) = m ((c.tc : Thread Cert.PostFfnBwdIdeal.nD Cert.PostFfnBwdIdeal.τ).loc Cert.PostFfnBwdIdeal.main_arg6)
      ∧ r.2.mem ((c.tc : Thread Cert.PostFfnBwdIdeal.nD Cert.PostFfnBwdIdeal.τ).loc Cert.PostFfnBwdIdeal.main_arg7) = m ((c.tc : Thread Cert.PostFfnBwdIdeal.nD Cert.PostFfnBwdIdeal.τ).loc Cert.PostFfnBwdIdeal.main_arg7)
      ∧ r.2.mem ((c.tc : Thread Cert.PostFfnBwdIdeal.nD Cert.PostFfnBwdIdeal.τ).loc Cert.PostFfnBwdIdeal.main_arg8) = m ((c.tc : Thread Cert.PostFfnBwdIdeal.nD Cert.PostFfnBwdIdeal.τ).loc Cert.PostFfnBwdIdeal.main_arg8))
      ∧ r.2.sem = fun _ => 0)

def quiescent_PostFfnBwdIdeal_pre_post_finite [hPostFfnBwdIdeal : Cert.PostFfnBwdIdeal.Facts] [hPre_post_finite : Cert.Pre_post_finite.Facts] : Prop :=
  ∀ (m : (ℓ : Loc Cert.PostFfnBwdIdeal.nD Cert.PostFfnBwdIdeal.τ Cert.PostFfnBwdIdeal.sig) → Buf (Elt Ideal) ℓ) (g : Dev Cert.PostFfnBwdIdeal.nD → PrngReg), Pre_PostFfnBwdIdeal_post_finite m →
    θ_run (Cert.PostFfnBwdIdeal.defs (F := Ideal)) (onTc (τ := Cert.PostFfnBwdIdeal.τ) (Cert.PostFfnBwdIdeal.main (F := Ideal))) ⟨m, fun _ => 0, g⟩ (fun r => (∀ c : Dev Cert.PostFfnBwdIdeal.nD,
      r.2.mem ((c.tc : Thread Cert.PostFfnBwdIdeal.nD Cert.PostFfnBwdIdeal.τ).loc Cert.PostFfnBwdIdeal.main_arg0) = m ((c.tc : Thread Cert.PostFfnBwdIdeal.nD Cert.PostFfnBwdIdeal.τ).loc Cert.PostFfnBwdIdeal.main_arg0)
      ∧ r.2.mem ((c.tc : Thread Cert.PostFfnBwdIdeal.nD Cert.PostFfnBwdIdeal.τ).loc Cert.PostFfnBwdIdeal.main_arg1) = m ((c.tc : Thread Cert.PostFfnBwdIdeal.nD Cert.PostFfnBwdIdeal.τ).loc Cert.PostFfnBwdIdeal.main_arg1)
      ∧ r.2.mem ((c.tc : Thread Cert.PostFfnBwdIdeal.nD Cert.PostFfnBwdIdeal.τ).loc Cert.PostFfnBwdIdeal.main_arg2) = m ((c.tc : Thread Cert.PostFfnBwdIdeal.nD Cert.PostFfnBwdIdeal.τ).loc Cert.PostFfnBwdIdeal.main_arg2)
      ∧ r.2.mem ((c.tc : Thread Cert.PostFfnBwdIdeal.nD Cert.PostFfnBwdIdeal.τ).loc Cert.PostFfnBwdIdeal.main_arg3) = m ((c.tc : Thread Cert.PostFfnBwdIdeal.nD Cert.PostFfnBwdIdeal.τ).loc Cert.PostFfnBwdIdeal.main_arg3)
      ∧ r.2.mem ((c.tc : Thread Cert.PostFfnBwdIdeal.nD Cert.PostFfnBwdIdeal.τ).loc Cert.PostFfnBwdIdeal.main_arg4) = m ((c.tc : Thread Cert.PostFfnBwdIdeal.nD Cert.PostFfnBwdIdeal.τ).loc Cert.PostFfnBwdIdeal.main_arg4)
      ∧ r.2.mem ((c.tc : Thread Cert.PostFfnBwdIdeal.nD Cert.PostFfnBwdIdeal.τ).loc Cert.PostFfnBwdIdeal.main_arg5) = m ((c.tc : Thread Cert.PostFfnBwdIdeal.nD Cert.PostFfnBwdIdeal.τ).loc Cert.PostFfnBwdIdeal.main_arg5)
      ∧ r.2.mem ((c.tc : Thread Cert.PostFfnBwdIdeal.nD Cert.PostFfnBwdIdeal.τ).loc Cert.PostFfnBwdIdeal.main_arg6) = m ((c.tc : Thread Cert.PostFfnBwdIdeal.nD Cert.PostFfnBwdIdeal.τ).loc Cert.PostFfnBwdIdeal.main_arg6)
      ∧ r.2.mem ((c.tc : Thread Cert.PostFfnBwdIdeal.nD Cert.PostFfnBwdIdeal.τ).loc Cert.PostFfnBwdIdeal.main_arg7) = m ((c.tc : Thread Cert.PostFfnBwdIdeal.nD Cert.PostFfnBwdIdeal.τ).loc Cert.PostFfnBwdIdeal.main_arg7)
      ∧ r.2.mem ((c.tc : Thread Cert.PostFfnBwdIdeal.nD Cert.PostFfnBwdIdeal.τ).loc Cert.PostFfnBwdIdeal.main_arg8) = m ((c.tc : Thread Cert.PostFfnBwdIdeal.nD Cert.PostFfnBwdIdeal.τ).loc Cert.PostFfnBwdIdeal.main_arg8))
      ∧ r.2.sem = fun _ => 0)

def quiescent_PostFfnRefIdeal [hPostFfnRefIdeal : Cert.PostFfnRefIdeal.Facts] : Prop :=
  ∀ (m : (ℓ : Loc Cert.PostFfnRefIdeal.nD Cert.PostFfnRefIdeal.τ Cert.PostFfnRefIdeal.sig) → Buf (Elt Ideal) ℓ) (g : Dev Cert.PostFfnRefIdeal.nD → PrngReg), Pre_PostFfnRefIdeal m →
    θ_run (Cert.PostFfnRefIdeal.defs (F := Ideal)) (onTc (τ := Cert.PostFfnRefIdeal.τ) (Cert.PostFfnRefIdeal.main (F := Ideal))) ⟨m, fun _ => 0, g⟩ (fun r => (∀ c : Dev Cert.PostFfnRefIdeal.nD,
      r.2.mem ((c.tc : Thread Cert.PostFfnRefIdeal.nD Cert.PostFfnRefIdeal.τ).loc Cert.PostFfnRefIdeal.main_arg0) = m ((c.tc : Thread Cert.PostFfnRefIdeal.nD Cert.PostFfnRefIdeal.τ).loc Cert.PostFfnRefIdeal.main_arg0)
      ∧ r.2.mem ((c.tc : Thread Cert.PostFfnRefIdeal.nD Cert.PostFfnRefIdeal.τ).loc Cert.PostFfnRefIdeal.main_arg1) = m ((c.tc : Thread Cert.PostFfnRefIdeal.nD Cert.PostFfnRefIdeal.τ).loc Cert.PostFfnRefIdeal.main_arg1)
      ∧ r.2.mem ((c.tc : Thread Cert.PostFfnRefIdeal.nD Cert.PostFfnRefIdeal.τ).loc Cert.PostFfnRefIdeal.main_arg2) = m ((c.tc : Thread Cert.PostFfnRefIdeal.nD Cert.PostFfnRefIdeal.τ).loc Cert.PostFfnRefIdeal.main_arg2)
      ∧ r.2.mem ((c.tc : Thread Cert.PostFfnRefIdeal.nD Cert.PostFfnRefIdeal.τ).loc Cert.PostFfnRefIdeal.main_arg3) = m ((c.tc : Thread Cert.PostFfnRefIdeal.nD Cert.PostFfnRefIdeal.τ).loc Cert.PostFfnRefIdeal.main_arg3)
      ∧ r.2.mem ((c.tc : Thread Cert.PostFfnRefIdeal.nD Cert.PostFfnRefIdeal.τ).loc Cert.PostFfnRefIdeal.main_arg4) = m ((c.tc : Thread Cert.PostFfnRefIdeal.nD Cert.PostFfnRefIdeal.τ).loc Cert.PostFfnRefIdeal.main_arg4)
      ∧ r.2.mem ((c.tc : Thread Cert.PostFfnRefIdeal.nD Cert.PostFfnRefIdeal.τ).loc Cert.PostFfnRefIdeal.main_arg5) = m ((c.tc : Thread Cert.PostFfnRefIdeal.nD Cert.PostFfnRefIdeal.τ).loc Cert.PostFfnRefIdeal.main_arg5)
      ∧ r.2.mem ((c.tc : Thread Cert.PostFfnRefIdeal.nD Cert.PostFfnRefIdeal.τ).loc Cert.PostFfnRefIdeal.main_arg6) = m ((c.tc : Thread Cert.PostFfnRefIdeal.nD Cert.PostFfnRefIdeal.τ).loc Cert.PostFfnRefIdeal.main_arg6)
      ∧ r.2.mem ((c.tc : Thread Cert.PostFfnRefIdeal.nD Cert.PostFfnRefIdeal.τ).loc Cert.PostFfnRefIdeal.main_arg7) = m ((c.tc : Thread Cert.PostFfnRefIdeal.nD Cert.PostFfnRefIdeal.τ).loc Cert.PostFfnRefIdeal.main_arg7)
      ∧ r.2.mem ((c.tc : Thread Cert.PostFfnRefIdeal.nD Cert.PostFfnRefIdeal.τ).loc Cert.PostFfnRefIdeal.main_arg8) = m ((c.tc : Thread Cert.PostFfnRefIdeal.nD Cert.PostFfnRefIdeal.τ).loc Cert.PostFfnRefIdeal.main_arg8))
      ∧ r.2.sem = fun _ => 0)

def quiescent_PostFfnRefIdeal_pre_post_finite [hPostFfnRefIdeal : Cert.PostFfnRefIdeal.Facts] [hPre_post_finite : Cert.Pre_post_finite.Facts] : Prop :=
  ∀ (m : (ℓ : Loc Cert.PostFfnRefIdeal.nD Cert.PostFfnRefIdeal.τ Cert.PostFfnRefIdeal.sig) → Buf (Elt Ideal) ℓ) (g : Dev Cert.PostFfnRefIdeal.nD → PrngReg), Pre_PostFfnRefIdeal_post_finite m →
    θ_run (Cert.PostFfnRefIdeal.defs (F := Ideal)) (onTc (τ := Cert.PostFfnRefIdeal.τ) (Cert.PostFfnRefIdeal.main (F := Ideal))) ⟨m, fun _ => 0, g⟩ (fun r => (∀ c : Dev Cert.PostFfnRefIdeal.nD,
      r.2.mem ((c.tc : Thread Cert.PostFfnRefIdeal.nD Cert.PostFfnRefIdeal.τ).loc Cert.PostFfnRefIdeal.main_arg0) = m ((c.tc : Thread Cert.PostFfnRefIdeal.nD Cert.PostFfnRefIdeal.τ).loc Cert.PostFfnRefIdeal.main_arg0)
      ∧ r.2.mem ((c.tc : Thread Cert.PostFfnRefIdeal.nD Cert.PostFfnRefIdeal.τ).loc Cert.PostFfnRefIdeal.main_arg1) = m ((c.tc : Thread Cert.PostFfnRefIdeal.nD Cert.PostFfnRefIdeal.τ).loc Cert.PostFfnRefIdeal.main_arg1)
      ∧ r.2.mem ((c.tc : Thread Cert.PostFfnRefIdeal.nD Cert.PostFfnRefIdeal.τ).loc Cert.PostFfnRefIdeal.main_arg2) = m ((c.tc : Thread Cert.PostFfnRefIdeal.nD Cert.PostFfnRefIdeal.τ).loc Cert.PostFfnRefIdeal.main_arg2)
      ∧ r.2.mem ((c.tc : Thread Cert.PostFfnRefIdeal.nD Cert.PostFfnRefIdeal.τ).loc Cert.PostFfnRefIdeal.main_arg3) = m ((c.tc : Thread Cert.PostFfnRefIdeal.nD Cert.PostFfnRefIdeal.τ).loc Cert.PostFfnRefIdeal.main_arg3)
      ∧ r.2.mem ((c.tc : Thread Cert.PostFfnRefIdeal.nD Cert.PostFfnRefIdeal.τ).loc Cert.PostFfnRefIdeal.main_arg4) = m ((c.tc : Thread Cert.PostFfnRefIdeal.nD Cert.PostFfnRefIdeal.τ).loc Cert.PostFfnRefIdeal.main_arg4)
      ∧ r.2.mem ((c.tc : Thread Cert.PostFfnRefIdeal.nD Cert.PostFfnRefIdeal.τ).loc Cert.PostFfnRefIdeal.main_arg5) = m ((c.tc : Thread Cert.PostFfnRefIdeal.nD Cert.PostFfnRefIdeal.τ).loc Cert.PostFfnRefIdeal.main_arg5)
      ∧ r.2.mem ((c.tc : Thread Cert.PostFfnRefIdeal.nD Cert.PostFfnRefIdeal.τ).loc Cert.PostFfnRefIdeal.main_arg6) = m ((c.tc : Thread Cert.PostFfnRefIdeal.nD Cert.PostFfnRefIdeal.τ).loc Cert.PostFfnRefIdeal.main_arg6)
      ∧ r.2.mem ((c.tc : Thread Cert.PostFfnRefIdeal.nD Cert.PostFfnRefIdeal.τ).loc Cert.PostFfnRefIdeal.main_arg7) = m ((c.tc : Thread Cert.PostFfnRefIdeal.nD Cert.PostFfnRefIdeal.τ).loc Cert.PostFfnRefIdeal.main_arg7)
      ∧ r.2.mem ((c.tc : Thread Cert.PostFfnRefIdeal.nD Cert.PostFfnRefIdeal.τ).loc Cert.PostFfnRefIdeal.main_arg8) = m ((c.tc : Thread Cert.PostFfnRefIdeal.nD Cert.PostFfnRefIdeal.τ).loc Cert.PostFfnRefIdeal.main_arg8))
      ∧ r.2.sem = fun _ => 0)

def quiescent_InputBwd [hInputBwd : Cert.InputBwd.Facts] : Prop :=
  ∀ (m : (ℓ : Loc Cert.InputBwd.nD Cert.InputBwd.τ Cert.InputBwd.sig) → Buf (Elt Bits) ℓ) (g : Dev Cert.InputBwd.nD → PrngReg), Pre_InputBwd m →
    θ_run (Cert.InputBwd.defs (F := Bits)) (onTc (τ := Cert.InputBwd.τ) (Cert.InputBwd.main (F := Bits))) ⟨m, fun _ => 0, g⟩ (fun r => (∀ c : Dev Cert.InputBwd.nD,
      r.2.mem ((c.tc : Thread Cert.InputBwd.nD Cert.InputBwd.τ).loc Cert.InputBwd.main_arg0) = m ((c.tc : Thread Cert.InputBwd.nD Cert.InputBwd.τ).loc Cert.InputBwd.main_arg0)
      ∧ r.2.mem ((c.tc : Thread Cert.InputBwd.nD Cert.InputBwd.τ).loc Cert.InputBwd.main_arg1) = m ((c.tc : Thread Cert.InputBwd.nD Cert.InputBwd.τ).loc Cert.InputBwd.main_arg1)
      ∧ r.2.mem ((c.tc : Thread Cert.InputBwd.nD Cert.InputBwd.τ).loc Cert.InputBwd.main_arg2) = m ((c.tc : Thread Cert.InputBwd.nD Cert.InputBwd.τ).loc Cert.InputBwd.main_arg2)
      ∧ r.2.mem ((c.tc : Thread Cert.InputBwd.nD Cert.InputBwd.τ).loc Cert.InputBwd.main_arg3) = m ((c.tc : Thread Cert.InputBwd.nD Cert.InputBwd.τ).loc Cert.InputBwd.main_arg3)
      ∧ r.2.mem ((c.tc : Thread Cert.InputBwd.nD Cert.InputBwd.τ).loc Cert.InputBwd.main_arg4) = m ((c.tc : Thread Cert.InputBwd.nD Cert.InputBwd.τ).loc Cert.InputBwd.main_arg4))
      ∧ r.2.sem = fun _ => 0)

def quiescent_InputBwdIdeal [hInputBwdIdeal : Cert.InputBwdIdeal.Facts] : Prop :=
  ∀ (m : (ℓ : Loc Cert.InputBwdIdeal.nD Cert.InputBwdIdeal.τ Cert.InputBwdIdeal.sig) → Buf (Elt Ideal) ℓ) (g : Dev Cert.InputBwdIdeal.nD → PrngReg), Pre_InputBwdIdeal m →
    θ_run (Cert.InputBwdIdeal.defs (F := Ideal)) (onTc (τ := Cert.InputBwdIdeal.τ) (Cert.InputBwdIdeal.main (F := Ideal))) ⟨m, fun _ => 0, g⟩ (fun r => (∀ c : Dev Cert.InputBwdIdeal.nD,
      r.2.mem ((c.tc : Thread Cert.InputBwdIdeal.nD Cert.InputBwdIdeal.τ).loc Cert.InputBwdIdeal.main_arg0) = m ((c.tc : Thread Cert.InputBwdIdeal.nD Cert.InputBwdIdeal.τ).loc Cert.InputBwdIdeal.main_arg0)
      ∧ r.2.mem ((c.tc : Thread Cert.InputBwdIdeal.nD Cert.InputBwdIdeal.τ).loc Cert.InputBwdIdeal.main_arg1) = m ((c.tc : Thread Cert.InputBwdIdeal.nD Cert.InputBwdIdeal.τ).loc Cert.InputBwdIdeal.main_arg1)
      ∧ r.2.mem ((c.tc : Thread Cert.InputBwdIdeal.nD Cert.InputBwdIdeal.τ).loc Cert.InputBwdIdeal.main_arg2) = m ((c.tc : Thread Cert.InputBwdIdeal.nD Cert.InputBwdIdeal.τ).loc Cert.InputBwdIdeal.main_arg2)
      ∧ r.2.mem ((c.tc : Thread Cert.InputBwdIdeal.nD Cert.InputBwdIdeal.τ).loc Cert.InputBwdIdeal.main_arg3) = m ((c.tc : Thread Cert.InputBwdIdeal.nD Cert.InputBwdIdeal.τ).loc Cert.InputBwdIdeal.main_arg3)
      ∧ r.2.mem ((c.tc : Thread Cert.InputBwdIdeal.nD Cert.InputBwdIdeal.τ).loc Cert.InputBwdIdeal.main_arg4) = m ((c.tc : Thread Cert.InputBwdIdeal.nD Cert.InputBwdIdeal.τ).loc Cert.InputBwdIdeal.main_arg4))
      ∧ r.2.sem = fun _ => 0)

def quiescent_InputBwdIdeal_pre_input_finite [hInputBwdIdeal : Cert.InputBwdIdeal.Facts] [hPre_input_finite : Cert.Pre_input_finite.Facts] : Prop :=
  ∀ (m : (ℓ : Loc Cert.InputBwdIdeal.nD Cert.InputBwdIdeal.τ Cert.InputBwdIdeal.sig) → Buf (Elt Ideal) ℓ) (g : Dev Cert.InputBwdIdeal.nD → PrngReg), Pre_InputBwdIdeal_input_finite m →
    θ_run (Cert.InputBwdIdeal.defs (F := Ideal)) (onTc (τ := Cert.InputBwdIdeal.τ) (Cert.InputBwdIdeal.main (F := Ideal))) ⟨m, fun _ => 0, g⟩ (fun r => (∀ c : Dev Cert.InputBwdIdeal.nD,
      r.2.mem ((c.tc : Thread Cert.InputBwdIdeal.nD Cert.InputBwdIdeal.τ).loc Cert.InputBwdIdeal.main_arg0) = m ((c.tc : Thread Cert.InputBwdIdeal.nD Cert.InputBwdIdeal.τ).loc Cert.InputBwdIdeal.main_arg0)
      ∧ r.2.mem ((c.tc : Thread Cert.InputBwdIdeal.nD Cert.InputBwdIdeal.τ).loc Cert.InputBwdIdeal.main_arg1) = m ((c.tc : Thread Cert.InputBwdIdeal.nD Cert.InputBwdIdeal.τ).loc Cert.InputBwdIdeal.main_arg1)
      ∧ r.2.mem ((c.tc : Thread Cert.InputBwdIdeal.nD Cert.InputBwdIdeal.τ).loc Cert.InputBwdIdeal.main_arg2) = m ((c.tc : Thread Cert.InputBwdIdeal.nD Cert.InputBwdIdeal.τ).loc Cert.InputBwdIdeal.main_arg2)
      ∧ r.2.mem ((c.tc : Thread Cert.InputBwdIdeal.nD Cert.InputBwdIdeal.τ).loc Cert.InputBwdIdeal.main_arg3) = m ((c.tc : Thread Cert.InputBwdIdeal.nD Cert.InputBwdIdeal.τ).loc Cert.InputBwdIdeal.main_arg3)
      ∧ r.2.mem ((c.tc : Thread Cert.InputBwdIdeal.nD Cert.InputBwdIdeal.τ).loc Cert.InputBwdIdeal.main_arg4) = m ((c.tc : Thread Cert.InputBwdIdeal.nD Cert.InputBwdIdeal.τ).loc Cert.InputBwdIdeal.main_arg4))
      ∧ r.2.sem = fun _ => 0)

def quiescent_InputBwdRefIdeal [hInputBwdRefIdeal : Cert.InputBwdRefIdeal.Facts] : Prop :=
  ∀ (m : (ℓ : Loc Cert.InputBwdRefIdeal.nD Cert.InputBwdRefIdeal.τ Cert.InputBwdRefIdeal.sig) → Buf (Elt Ideal) ℓ) (g : Dev Cert.InputBwdRefIdeal.nD → PrngReg), Pre_InputBwdRefIdeal m →
    θ_run (Cert.InputBwdRefIdeal.defs (F := Ideal)) (onTc (τ := Cert.InputBwdRefIdeal.τ) (Cert.InputBwdRefIdeal.main (F := Ideal))) ⟨m, fun _ => 0, g⟩ (fun r => (∀ c : Dev Cert.InputBwdRefIdeal.nD,
      r.2.mem ((c.tc : Thread Cert.InputBwdRefIdeal.nD Cert.InputBwdRefIdeal.τ).loc Cert.InputBwdRefIdeal.main_arg0) = m ((c.tc : Thread Cert.InputBwdRefIdeal.nD Cert.InputBwdRefIdeal.τ).loc Cert.InputBwdRefIdeal.main_arg0)
      ∧ r.2.mem ((c.tc : Thread Cert.InputBwdRefIdeal.nD Cert.InputBwdRefIdeal.τ).loc Cert.InputBwdRefIdeal.main_arg1) = m ((c.tc : Thread Cert.InputBwdRefIdeal.nD Cert.InputBwdRefIdeal.τ).loc Cert.InputBwdRefIdeal.main_arg1)
      ∧ r.2.mem ((c.tc : Thread Cert.InputBwdRefIdeal.nD Cert.InputBwdRefIdeal.τ).loc Cert.InputBwdRefIdeal.main_arg2) = m ((c.tc : Thread Cert.InputBwdRefIdeal.nD Cert.InputBwdRefIdeal.τ).loc Cert.InputBwdRefIdeal.main_arg2)
      ∧ r.2.mem ((c.tc : Thread Cert.InputBwdRefIdeal.nD Cert.InputBwdRefIdeal.τ).loc Cert.InputBwdRefIdeal.main_arg3) = m ((c.tc : Thread Cert.InputBwdRefIdeal.nD Cert.InputBwdRefIdeal.τ).loc Cert.InputBwdRefIdeal.main_arg3)
      ∧ r.2.mem ((c.tc : Thread Cert.InputBwdRefIdeal.nD Cert.InputBwdRefIdeal.τ).loc Cert.InputBwdRefIdeal.main_arg4) = m ((c.tc : Thread Cert.InputBwdRefIdeal.nD Cert.InputBwdRefIdeal.τ).loc Cert.InputBwdRefIdeal.main_arg4))
      ∧ r.2.sem = fun _ => 0)

def quiescent_InputBwdRefIdeal_pre_input_finite [hInputBwdRefIdeal : Cert.InputBwdRefIdeal.Facts] [hPre_input_finite : Cert.Pre_input_finite.Facts] : Prop :=
  ∀ (m : (ℓ : Loc Cert.InputBwdRefIdeal.nD Cert.InputBwdRefIdeal.τ Cert.InputBwdRefIdeal.sig) → Buf (Elt Ideal) ℓ) (g : Dev Cert.InputBwdRefIdeal.nD → PrngReg), Pre_InputBwdRefIdeal_input_finite m →
    θ_run (Cert.InputBwdRefIdeal.defs (F := Ideal)) (onTc (τ := Cert.InputBwdRefIdeal.τ) (Cert.InputBwdRefIdeal.main (F := Ideal))) ⟨m, fun _ => 0, g⟩ (fun r => (∀ c : Dev Cert.InputBwdRefIdeal.nD,
      r.2.mem ((c.tc : Thread Cert.InputBwdRefIdeal.nD Cert.InputBwdRefIdeal.τ).loc Cert.InputBwdRefIdeal.main_arg0) = m ((c.tc : Thread Cert.InputBwdRefIdeal.nD Cert.InputBwdRefIdeal.τ).loc Cert.InputBwdRefIdeal.main_arg0)
      ∧ r.2.mem ((c.tc : Thread Cert.InputBwdRefIdeal.nD Cert.InputBwdRefIdeal.τ).loc Cert.InputBwdRefIdeal.main_arg1) = m ((c.tc : Thread Cert.InputBwdRefIdeal.nD Cert.InputBwdRefIdeal.τ).loc Cert.InputBwdRefIdeal.main_arg1)
      ∧ r.2.mem ((c.tc : Thread Cert.InputBwdRefIdeal.nD Cert.InputBwdRefIdeal.τ).loc Cert.InputBwdRefIdeal.main_arg2) = m ((c.tc : Thread Cert.InputBwdRefIdeal.nD Cert.InputBwdRefIdeal.τ).loc Cert.InputBwdRefIdeal.main_arg2)
      ∧ r.2.mem ((c.tc : Thread Cert.InputBwdRefIdeal.nD Cert.InputBwdRefIdeal.τ).loc Cert.InputBwdRefIdeal.main_arg3) = m ((c.tc : Thread Cert.InputBwdRefIdeal.nD Cert.InputBwdRefIdeal.τ).loc Cert.InputBwdRefIdeal.main_arg3)
      ∧ r.2.mem ((c.tc : Thread Cert.InputBwdRefIdeal.nD Cert.InputBwdRefIdeal.τ).loc Cert.InputBwdRefIdeal.main_arg4) = m ((c.tc : Thread Cert.InputBwdRefIdeal.nD Cert.InputBwdRefIdeal.τ).loc Cert.InputBwdRefIdeal.main_arg4))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3)
      ∧ r.2.mem ((c.tc : Thread Cert.MixOutBwd.nD Cert.MixOutBwd.τ).loc Cert.MixOutBwd.main_arg4) = m ((c.tc : Thread Cert.MixOutBwd.nD Cert.MixOutBwd.τ).loc Cert.MixOutBwd.main_arg4)
      ∧ r.2.mem ((c.tc : Thread Cert.MixOutBwd.nD Cert.MixOutBwd.τ).loc Cert.MixOutBwd.main_arg5) = m ((c.tc : Thread Cert.MixOutBwd.nD Cert.MixOutBwd.τ).loc Cert.MixOutBwd.main_arg5)
      ∧ r.2.mem ((c.tc : Thread Cert.MixOutBwd.nD Cert.MixOutBwd.τ).loc Cert.MixOutBwd.main_arg6) = m ((c.tc : Thread Cert.MixOutBwd.nD Cert.MixOutBwd.τ).loc Cert.MixOutBwd.main_arg6)
      ∧ r.2.mem ((c.tc : Thread Cert.MixOutBwd.nD Cert.MixOutBwd.τ).loc Cert.MixOutBwd.main_arg7) = m ((c.tc : Thread Cert.MixOutBwd.nD Cert.MixOutBwd.τ).loc Cert.MixOutBwd.main_arg7))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
      ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
      ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6)
      ∧ r.2.mem ((c.tc : Thread Cert.MixOutBwdIdeal.nD Cert.MixOutBwdIdeal.τ).loc Cert.MixOutBwdIdeal.main_arg7) = m ((c.tc : Thread Cert.MixOutBwdIdeal.nD Cert.MixOutBwdIdeal.τ).loc Cert.MixOutBwdIdeal.main_arg7))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2)
      ∧ r.2.mem ((c.tc : Thread Cert.FoxFwd.nD Cert.FoxFwd.τ).loc Cert.FoxFwd.main_arg3) = m ((c.tc : Thread Cert.FoxFwd.nD Cert.FoxFwd.τ).loc Cert.FoxFwd.main_arg3))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdIdeal_pre_foxf_finite [hFoxFwdIdeal : Cert.FoxFwdIdeal.Facts] [hPre_foxf_finite : Cert.Pre_foxf_finite.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_foxf_finite m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdRefIdeal [hFoxFwdRefIdeal : Cert.FoxFwdRefIdeal.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_FoxFwdRefIdeal_pre_foxf_finite [hFoxFwdRefIdeal : Cert.FoxFwdRefIdeal.Facts] [hPre_foxf_finite : Cert.Pre_foxf_finite.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal_foxf_finite m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_DilMean [hDilMean : Cert.DilMean.Facts] : Prop :=
  ∀ (m : (ℓ : Loc Cert.DilMean.nD Cert.DilMean.τ Cert.DilMean.sig) → Buf (Elt Bits) ℓ) (g : Dev Cert.DilMean.nD → PrngReg), Pre_DilMean m →
    θ_run (Cert.DilMean.defs (F := Bits)) (onTc (τ := Cert.DilMean.τ) (Cert.DilMean.main (F := Bits))) ⟨m, fun _ => 0, g⟩ (fun r => (∀ c : Dev Cert.DilMean.nD,
      r.2.mem ((c.tc : Thread Cert.DilMean.nD Cert.DilMean.τ).loc Cert.DilMean.main_arg0) = m ((c.tc : Thread Cert.DilMean.nD Cert.DilMean.τ).loc Cert.DilMean.main_arg0)
      ∧ r.2.mem ((c.tc : Thread Cert.DilMean.nD Cert.DilMean.τ).loc Cert.DilMean.main_arg1) = m ((c.tc : Thread Cert.DilMean.nD Cert.DilMean.τ).loc Cert.DilMean.main_arg1))
      ∧ r.2.sem = fun _ => 0)

def quiescent_DilMeanIdeal [hDilMeanIdeal : Cert.DilMeanIdeal.Facts] : Prop :=
  ∀ (m : (ℓ : Loc Cert.DilMeanIdeal.nD Cert.DilMeanIdeal.τ Cert.DilMeanIdeal.sig) → Buf (Elt Ideal) ℓ) (g : Dev Cert.DilMeanIdeal.nD → PrngReg), Pre_DilMeanIdeal m →
    θ_run (Cert.DilMeanIdeal.defs (F := Ideal)) (onTc (τ := Cert.DilMeanIdeal.τ) (Cert.DilMeanIdeal.main (F := Ideal))) ⟨m, fun _ => 0, g⟩ (fun r => (∀ c : Dev Cert.DilMeanIdeal.nD,
      r.2.mem ((c.tc : Thread Cert.DilMeanIdeal.nD Cert.DilMeanIdeal.τ).loc Cert.DilMeanIdeal.main_arg0) = m ((c.tc : Thread Cert.DilMeanIdeal.nD Cert.DilMeanIdeal.τ).loc Cert.DilMeanIdeal.main_arg0)
      ∧ r.2.mem ((c.tc : Thread Cert.DilMeanIdeal.nD Cert.DilMeanIdeal.τ).loc Cert.DilMeanIdeal.main_arg1) = m ((c.tc : Thread Cert.DilMeanIdeal.nD Cert.DilMeanIdeal.τ).loc Cert.DilMeanIdeal.main_arg1))
      ∧ r.2.sem = fun _ => 0)

def quiescent_DilMeanIdeal_pre_combf_finite [hDilMeanIdeal : Cert.DilMeanIdeal.Facts] [hPre_combf_finite : Cert.Pre_combf_finite.Facts] : Prop :=
  ∀ (m : (ℓ : Loc Cert.DilMeanIdeal.nD Cert.DilMeanIdeal.τ Cert.DilMeanIdeal.sig) → Buf (Elt Ideal) ℓ) (g : Dev Cert.DilMeanIdeal.nD → PrngReg), Pre_DilMeanIdeal_combf_finite m →
    θ_run (Cert.DilMeanIdeal.defs (F := Ideal)) (onTc (τ := Cert.DilMeanIdeal.τ) (Cert.DilMeanIdeal.main (F := Ideal))) ⟨m, fun _ => 0, g⟩ (fun r => (∀ c : Dev Cert.DilMeanIdeal.nD,
      r.2.mem ((c.tc : Thread Cert.DilMeanIdeal.nD Cert.DilMeanIdeal.τ).loc Cert.DilMeanIdeal.main_arg0) = m ((c.tc : Thread Cert.DilMeanIdeal.nD Cert.DilMeanIdeal.τ).loc Cert.DilMeanIdeal.main_arg0)
      ∧ r.2.mem ((c.tc : Thread Cert.DilMeanIdeal.nD Cert.DilMeanIdeal.τ).loc Cert.DilMeanIdeal.main_arg1) = m ((c.tc : Thread Cert.DilMeanIdeal.nD Cert.DilMeanIdeal.τ).loc Cert.DilMeanIdeal.main_arg1))
      ∧ r.2.sem = fun _ => 0)

def quiescent_DilMeanRefIdeal [hDilMeanRefIdeal : Cert.DilMeanRefIdeal.Facts] : Prop :=
  ∀ (m : (ℓ : Loc Cert.DilMeanRefIdeal.nD Cert.DilMeanRefIdeal.τ Cert.DilMeanRefIdeal.sig) → Buf (Elt Ideal) ℓ) (g : Dev Cert.DilMeanRefIdeal.nD → PrngReg), Pre_DilMeanRefIdeal m →
    θ_run (Cert.DilMeanRefIdeal.defs (F := Ideal)) (onTc (τ := Cert.DilMeanRefIdeal.τ) (Cert.DilMeanRefIdeal.main (F := Ideal))) ⟨m, fun _ => 0, g⟩ (fun r => (∀ c : Dev Cert.DilMeanRefIdeal.nD,
      r.2.mem ((c.tc : Thread Cert.DilMeanRefIdeal.nD Cert.DilMeanRefIdeal.τ).loc Cert.DilMeanRefIdeal.main_arg0) = m ((c.tc : Thread Cert.DilMeanRefIdeal.nD Cert.DilMeanRefIdeal.τ).loc Cert.DilMeanRefIdeal.main_arg0)
      ∧ r.2.mem ((c.tc : Thread Cert.DilMeanRefIdeal.nD Cert.DilMeanRefIdeal.τ).loc Cert.DilMeanRefIdeal.main_arg1) = m ((c.tc : Thread Cert.DilMeanRefIdeal.nD Cert.DilMeanRefIdeal.τ).loc Cert.DilMeanRefIdeal.main_arg1))
      ∧ r.2.sem = fun _ => 0)

def quiescent_DilMeanRefIdeal_pre_combf_finite [hDilMeanRefIdeal : Cert.DilMeanRefIdeal.Facts] [hPre_combf_finite : Cert.Pre_combf_finite.Facts] : Prop :=
  ∀ (m : (ℓ : Loc Cert.DilMeanRefIdeal.nD Cert.DilMeanRefIdeal.τ Cert.DilMeanRefIdeal.sig) → Buf (Elt Ideal) ℓ) (g : Dev Cert.DilMeanRefIdeal.nD → PrngReg), Pre_DilMeanRefIdeal_combf_finite m →
    θ_run (Cert.DilMeanRefIdeal.defs (F := Ideal)) (onTc (τ := Cert.DilMeanRefIdeal.τ) (Cert.DilMeanRefIdeal.main (F := Ideal))) ⟨m, fun _ => 0, g⟩ (fun r => (∀ c : Dev Cert.DilMeanRefIdeal.nD,
      r.2.mem ((c.tc : Thread Cert.DilMeanRefIdeal.nD Cert.DilMeanRefIdeal.τ).loc Cert.DilMeanRefIdeal.main_arg0) = m ((c.tc : Thread Cert.DilMeanRefIdeal.nD Cert.DilMeanRefIdeal.τ).loc Cert.DilMeanRefIdeal.main_arg0)
      ∧ r.2.mem ((c.tc : Thread Cert.DilMeanRefIdeal.nD Cert.DilMeanRefIdeal.τ).loc Cert.DilMeanRefIdeal.main_arg1) = m ((c.tc : Thread Cert.DilMeanRefIdeal.nD Cert.DilMeanRefIdeal.τ).loc Cert.DilMeanRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_NormPre [hNormPre : Cert.NormPre.Facts] : Prop :=
  ∀ (m : (ℓ : Loc Cert.NormPre.nD Cert.NormPre.τ Cert.NormPre.sig) → Buf (Elt Bits) ℓ) (g : Dev Cert.NormPre.nD → PrngReg), Pre_NormPre m →
    θ_run (Cert.NormPre.defs (F := Bits)) (onTc (τ := Cert.NormPre.τ) (Cert.NormPre.main (F := Bits))) ⟨m, fun _ => 0, g⟩ (fun r => (∀ c : Dev Cert.NormPre.nD,
      r.2.mem ((c.tc : Thread Cert.NormPre.nD Cert.NormPre.τ).loc Cert.NormPre.main_arg0) = m ((c.tc : Thread Cert.NormPre.nD Cert.NormPre.τ).loc Cert.NormPre.main_arg0)
      ∧ r.2.mem ((c.tc : Thread Cert.NormPre.nD Cert.NormPre.τ).loc Cert.NormPre.main_arg1) = m ((c.tc : Thread Cert.NormPre.nD Cert.NormPre.τ).loc Cert.NormPre.main_arg1))
      ∧ r.2.sem = fun _ => 0)

def quiescent_NormPreIdeal [hNormPreIdeal : Cert.NormPreIdeal.Facts] : Prop :=
  ∀ (m : (ℓ : Loc Cert.NormPreIdeal.nD Cert.NormPreIdeal.τ Cert.NormPreIdeal.sig) → Buf (Elt Ideal) ℓ) (g : Dev Cert.NormPreIdeal.nD → PrngReg), Pre_NormPreIdeal m →
    θ_run (Cert.NormPreIdeal.defs (F := Ideal)) (onTc (τ := Cert.NormPreIdeal.τ) (Cert.NormPreIdeal.main (F := Ideal))) ⟨m, fun _ => 0, g⟩ (fun r => (∀ c : Dev Cert.NormPreIdeal.nD,
      r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
      ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1))
      ∧ r.2.sem = fun _ => 0)

def quiescent_NormPreRefIdeal [hNormPreRefIdeal : Cert.NormPreRefIdeal.Facts] : Prop :=
  ∀ (m : (ℓ : Loc Cert.NormPreRefIdeal.nD Cert.NormPreRefIdeal.τ Cert.NormPreRefIdeal.sig) → Buf (Elt Ideal) ℓ) (g : Dev Cert.NormPreRefIdeal.nD → PrngReg), Pre_NormPreRefIdeal m →
    θ_run (Cert.NormPreRefIdeal.defs (F := Ideal)) (onTc (τ := Cert.NormPreRefIdeal.τ) (Cert.NormPreRefIdeal.main (F := Ideal))) ⟨m, fun _ => 0, g⟩ (fun r => (∀ c : Dev Cert.NormPreRefIdeal.nD,
      r.2.mem ((c.tc : Thread Cert.NormPreRefIdeal.nD Cert.NormPreRefIdeal.τ).loc Cert.NormPreRefIdeal.main_arg0) = m ((c.tc : Thread Cert.NormPreRefIdeal.nD Cert.NormPreRefIdeal.τ).loc Cert.NormPreRefIdeal.main_arg0)
      ∧ r.2.mem ((c.tc : Thread Cert.NormPreRefIdeal.nD Cert.NormPreRefIdeal.τ).loc Cert.NormPreRefIdeal.main_arg1) = m ((c.tc : Thread Cert.NormPreRefIdeal.nD Cert.NormPreRefIdeal.τ).loc Cert.NormPreRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ r.2.sem = fun _ => 0)

def quiescent_MixOutFwdRefIdeal [hMixOutFwdRefIdeal : Cert.MixOutFwdRefIdeal.Facts] : Prop :=
  ∀ (m : (ℓ : Loc Cert.MixOutFwdRefIdeal.nD Cert.MixOutFwdRefIdeal.τ Cert.MixOutFwdRefIdeal.sig) → Buf (Elt Ideal) ℓ) (g : Dev Cert.MixOutFwdRefIdeal.nD → PrngReg), Pre_MixOutFwdRefIdeal m →
    θ_run (Cert.MixOutFwdRefIdeal.defs (F := Ideal)) (onTc (τ := Cert.MixOutFwdRefIdeal.τ) (Cert.MixOutFwdRefIdeal.main (F := Ideal))) ⟨m, fun _ => 0, g⟩ (fun r => (∀ c : Dev Cert.MixOutFwdRefIdeal.nD,
      r.2.mem ((c.tc : Thread Cert.MixOutFwdRefIdeal.nD Cert.MixOutFwdRefIdeal.τ).loc Cert.MixOutFwdRefIdeal.main_arg0) = m ((c.tc : Thread Cert.MixOutFwdRefIdeal.nD Cert.MixOutFwdRefIdeal.τ).loc Cert.MixOutFwdRefIdeal.main_arg0)
      ∧ r.2.mem ((c.tc : Thread Cert.MixOutFwdRefIdeal.nD Cert.MixOutFwdRefIdeal.τ).loc Cert.MixOutFwdRefIdeal.main_arg1) = m ((c.tc : Thread Cert.MixOutFwdRefIdeal.nD Cert.MixOutFwdRefIdeal.τ).loc Cert.MixOutFwdRefIdeal.main_arg1)
      ∧ r.2.mem ((c.tc : Thread Cert.MixOutFwdRefIdeal.nD Cert.MixOutFwdRefIdeal.τ).loc Cert.MixOutFwdRefIdeal.main_arg2) = m ((c.tc : Thread Cert.MixOutFwdRefIdeal.nD Cert.MixOutFwdRefIdeal.τ).loc Cert.MixOutFwdRefIdeal.main_arg2)
      ∧ r.2.mem ((c.tc : Thread Cert.MixOutFwdRefIdeal.nD Cert.MixOutFwdRefIdeal.τ).loc Cert.MixOutFwdRefIdeal.main_arg3) = m ((c.tc : Thread Cert.MixOutFwdRefIdeal.nD Cert.MixOutFwdRefIdeal.τ).loc Cert.MixOutFwdRefIdeal.main_arg3)
      ∧ r.2.mem ((c.tc : Thread Cert.MixOutFwdRefIdeal.nD Cert.MixOutFwdRefIdeal.τ).loc Cert.MixOutFwdRefIdeal.main_arg4) = m ((c.tc : Thread Cert.MixOutFwdRefIdeal.nD Cert.MixOutFwdRefIdeal.τ).loc Cert.MixOutFwdRefIdeal.main_arg4)
      ∧ r.2.mem ((c.tc : Thread Cert.MixOutFwdRefIdeal.nD Cert.MixOutFwdRefIdeal.τ).loc Cert.MixOutFwdRefIdeal.main_arg5) = m ((c.tc : Thread Cert.MixOutFwdRefIdeal.nD Cert.MixOutFwdRefIdeal.τ).loc Cert.MixOutFwdRefIdeal.main_arg5)
      ∧ r.2.mem ((c.tc : Thread Cert.MixOutFwdRefIdeal.nD Cert.MixOutFwdRefIdeal.τ).loc Cert.MixOutFwdRefIdeal.main_arg6) = m ((c.tc : Thread Cert.MixOutFwdRefIdeal.nD Cert.MixOutFwdRefIdeal.τ).loc Cert.MixOutFwdRefIdeal.main_arg6)
      ∧ r.2.mem ((c.tc : Thread Cert.MixOutFwdRefIdeal.nD Cert.MixOutFwdRefIdeal.τ).loc Cert.MixOutFwdRefIdeal.main_arg7) = m ((c.tc : Thread Cert.MixOutFwdRefIdeal.nD Cert.MixOutFwdRefIdeal.τ).loc Cert.MixOutFwdRefIdeal.main_arg7)
      ∧ r.2.mem ((c.tc : Thread Cert.MixOutFwdRefIdeal.nD Cert.MixOutFwdRefIdeal.τ).loc Cert.MixOutFwdRefIdeal.main_arg8) = m ((c.tc : Thread Cert.MixOutFwdRefIdeal.nD Cert.MixOutFwdRefIdeal.τ).loc Cert.MixOutFwdRefIdeal.main_arg8)
      ∧ r.2.mem ((c.tc : Thread Cert.MixOutFwdRefIdeal.nD Cert.MixOutFwdRefIdeal.τ).loc Cert.MixOutFwdRefIdeal.main_arg9) = m ((c.tc : Thread Cert.MixOutFwdRefIdeal.nD Cert.MixOutFwdRefIdeal.τ).loc Cert.MixOutFwdRefIdeal.main_arg9))
      ∧ r.2.sem = fun _ => 0)

def quiescent_FoxGateFwd [hFoxGateFwd : Cert.FoxGateFwd.Facts] : Prop :=
  ∀ (m : (ℓ : Loc Cert.FoxGateFwd.nD Cert.FoxGateFwd.τ Cert.FoxGateFwd.sig) → Buf (Elt Bits) ℓ) (g : Dev Cert.FoxGateFwd.nD → PrngReg), Pre_FoxGateFwd m →
    θ_run (Cert.FoxGateFwd.defs (F := Bits)) (onTc (τ := Cert.FoxGateFwd.τ) (Cert.FoxGateFwd.main (F := Bits))) ⟨m, fun _ => 0, g⟩ (fun r => (∀ c : Dev Cert.FoxGateFwd.nD,
      r.2.mem ((c.tc : Thread Cert.FoxGateFwd.nD Cert.FoxGateFwd.τ).loc Cert.FoxGateFwd.main_arg0) = m ((c.tc : Thread Cert.FoxGateFwd.nD Cert.FoxGateFwd.τ).loc Cert.FoxGateFwd.main_arg0)
      ∧ r.2.mem ((c.tc : Thread Cert.FoxGateFwd.nD Cert.FoxGateFwd.τ).loc Cert.FoxGateFwd.main_arg1) = m ((c.tc : Thread Cert.FoxGateFwd.nD Cert.FoxGateFwd.τ).loc Cert.FoxGateFwd.main_arg1))
      ∧ r.2.sem = fun _ => 0)

def quiescent_FoxGateFwdIdeal [hFoxGateFwdIdeal : Cert.FoxGateFwdIdeal.Facts] : Prop :=
  ∀ (m : (ℓ : Loc Cert.FoxGateFwdIdeal.nD Cert.FoxGateFwdIdeal.τ Cert.FoxGateFwdIdeal.sig) → Buf (Elt Ideal) ℓ) (g : Dev Cert.FoxGateFwdIdeal.nD → PrngReg), Pre_FoxGateFwdIdeal m →
    θ_run (Cert.FoxGateFwdIdeal.defs (F := Ideal)) (onTc (τ := Cert.FoxGateFwdIdeal.τ) (Cert.FoxGateFwdIdeal.main (F := Ideal))) ⟨m, fun _ => 0, g⟩ (fun r => (∀ c : Dev Cert.FoxGateFwdIdeal.nD,
      r.2.mem ((c.tc : Thread Cert.FoxGateFwdIdeal.nD Cert.FoxGateFwdIdeal.τ).loc Cert.FoxGateFwdIdeal.main_arg0) = m ((c.tc : Thread Cert.FoxGateFwdIdeal.nD Cert.FoxGateFwdIdeal.τ).loc Cert.FoxGateFwdIdeal.main_arg0)
      ∧ r.2.mem ((c.tc : Thread Cert.FoxGateFwdIdeal.nD Cert.FoxGateFwdIdeal.τ).loc Cert.FoxGateFwdIdeal.main_arg1) = m ((c.tc : Thread Cert.FoxGateFwdIdeal.nD Cert.FoxGateFwdIdeal.τ).loc Cert.FoxGateFwdIdeal.main_arg1))
      ∧ r.2.sem = fun _ => 0)

def quiescent_FoxGateFwdIdeal_pre_gatef_finite [hFoxGateFwdIdeal : Cert.FoxGateFwdIdeal.Facts] [hPre_gatef_finite : Cert.Pre_gatef_finite.Facts] : Prop :=
  ∀ (m : (ℓ : Loc Cert.FoxGateFwdIdeal.nD Cert.FoxGateFwdIdeal.τ Cert.FoxGateFwdIdeal.sig) → Buf (Elt Ideal) ℓ) (g : Dev Cert.FoxGateFwdIdeal.nD → PrngReg), Pre_FoxGateFwdIdeal_gatef_finite m →
    θ_run (Cert.FoxGateFwdIdeal.defs (F := Ideal)) (onTc (τ := Cert.FoxGateFwdIdeal.τ) (Cert.FoxGateFwdIdeal.main (F := Ideal))) ⟨m, fun _ => 0, g⟩ (fun r => (∀ c : Dev Cert.FoxGateFwdIdeal.nD,
      r.2.mem ((c.tc : Thread Cert.FoxGateFwdIdeal.nD Cert.FoxGateFwdIdeal.τ).loc Cert.FoxGateFwdIdeal.main_arg0) = m ((c.tc : Thread Cert.FoxGateFwdIdeal.nD Cert.FoxGateFwdIdeal.τ).loc Cert.FoxGateFwdIdeal.main_arg0)
      ∧ r.2.mem ((c.tc : Thread Cert.FoxGateFwdIdeal.nD Cert.FoxGateFwdIdeal.τ).loc Cert.FoxGateFwdIdeal.main_arg1) = m ((c.tc : Thread Cert.FoxGateFwdIdeal.nD Cert.FoxGateFwdIdeal.τ).loc Cert.FoxGateFwdIdeal.main_arg1))
      ∧ r.2.sem = fun _ => 0)

def quiescent_FoxGateFwdRefIdeal [hFoxGateFwdRefIdeal : Cert.FoxGateFwdRefIdeal.Facts] : Prop :=
  ∀ (m : (ℓ : Loc Cert.FoxGateFwdRefIdeal.nD Cert.FoxGateFwdRefIdeal.τ Cert.FoxGateFwdRefIdeal.sig) → Buf (Elt Ideal) ℓ) (g : Dev Cert.FoxGateFwdRefIdeal.nD → PrngReg), Pre_FoxGateFwdRefIdeal m →
    θ_run (Cert.FoxGateFwdRefIdeal.defs (F := Ideal)) (onTc (τ := Cert.FoxGateFwdRefIdeal.τ) (Cert.FoxGateFwdRefIdeal.main (F := Ideal))) ⟨m, fun _ => 0, g⟩ (fun r => (∀ c : Dev Cert.FoxGateFwdRefIdeal.nD,
      r.2.mem ((c.tc : Thread Cert.FoxGateFwdRefIdeal.nD Cert.FoxGateFwdRefIdeal.τ).loc Cert.FoxGateFwdRefIdeal.main_arg0) = m ((c.tc : Thread Cert.FoxGateFwdRefIdeal.nD Cert.FoxGateFwdRefIdeal.τ).loc Cert.FoxGateFwdRefIdeal.main_arg0)
      ∧ r.2.mem ((c.tc : Thread Cert.FoxGateFwdRefIdeal.nD Cert.FoxGateFwdRefIdeal.τ).loc Cert.FoxGateFwdRefIdeal.main_arg1) = m ((c.tc : Thread Cert.FoxGateFwdRefIdeal.nD Cert.FoxGateFwdRefIdeal.τ).loc Cert.FoxGateFwdRefIdeal.main_arg1))
      ∧ r.2.sem = fun _ => 0)

def quiescent_FoxGateFwdRefIdeal_pre_gatef_finite [hFoxGateFwdRefIdeal : Cert.FoxGateFwdRefIdeal.Facts] [hPre_gatef_finite : Cert.Pre_gatef_finite.Facts] : Prop :=
  ∀ (m : (ℓ : Loc Cert.FoxGateFwdRefIdeal.nD Cert.FoxGateFwdRefIdeal.τ Cert.FoxGateFwdRefIdeal.sig) → Buf (Elt Ideal) ℓ) (g : Dev Cert.FoxGateFwdRefIdeal.nD → PrngReg), Pre_FoxGateFwdRefIdeal_gatef_finite m →
    θ_run (Cert.FoxGateFwdRefIdeal.defs (F := Ideal)) (onTc (τ := Cert.FoxGateFwdRefIdeal.τ) (Cert.FoxGateFwdRefIdeal.main (F := Ideal))) ⟨m, fun _ => 0, g⟩ (fun r => (∀ c : Dev Cert.FoxGateFwdRefIdeal.nD,
      r.2.mem ((c.tc : Thread Cert.FoxGateFwdRefIdeal.nD Cert.FoxGateFwdRefIdeal.τ).loc Cert.FoxGateFwdRefIdeal.main_arg0) = m ((c.tc : Thread Cert.FoxGateFwdRefIdeal.nD Cert.FoxGateFwdRefIdeal.τ).loc Cert.FoxGateFwdRefIdeal.main_arg0)
      ∧ r.2.mem ((c.tc : Thread Cert.FoxGateFwdRefIdeal.nD Cert.FoxGateFwdRefIdeal.τ).loc Cert.FoxGateFwdRefIdeal.main_arg1) = m ((c.tc : Thread Cert.FoxGateFwdRefIdeal.nD Cert.FoxGateFwdRefIdeal.τ).loc Cert.FoxGateFwdRefIdeal.main_arg1))
      ∧ r.2.sem = fun _ => 0)

def preserves_FfnAct_FfnActIdeal : Prop :=
  True

def algebraic_FfnActIdeal_FfnActRefIdeal_pre_ffn_finite [hFfnActIdeal : Cert.FfnActIdeal.Facts] [hFfnActRefIdeal : Cert.FfnActRefIdeal.Facts] [hPre_ffn_finite : Cert.Pre_ffn_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_ffn_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v2_0)) (v1 : (c : Dev Cert.FfnActIdeal.nD) → Buf (Elt Ideal) ((c.tc : Thread Cert.FfnActIdeal.nD Cert.FfnActIdeal.τ).loc Cert.FfnActIdeal.main_v2_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v2_0) = v0 c
          ∧ r.2.mem ((c.tc : Thread Cert.FfnActIdeal.nD Cert.FfnActIdeal.τ).loc Cert.FfnActIdeal.main_v2_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v7) = v0 c
          ∧ r.2.mem ((c.tc : Thread Cert.FfnActRefIdeal.nD Cert.FfnActRefIdeal.τ).loc Cert.FfnActRefIdeal.main_v8) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_FoxBwd_FoxBwdIdeal : Prop :=
  True

def algebraic_FoxBwdIdeal_FoxRefIdeal_pre_fox_finite [hFoxBwdIdeal : Cert.FoxBwdIdeal.Facts] [hFoxRefIdeal : Cert.FoxRefIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxBwdIdeal_fox_finite m →
    (∀ c : Dev Cert.FoxBwdIdeal.nD,
      m' ((c.tc : Thread Cert.FoxRefIdeal.nD Cert.FoxRefIdeal.τ).loc Cert.FoxRefIdeal.main_arg0) = m ((c.tc : Thread Cert.FoxBwdIdeal.nD Cert.FoxBwdIdeal.τ).loc Cert.FoxBwdIdeal.main_arg0)
      ∧ m' ((c.tc : Thread Cert.FoxRefIdeal.nD Cert.FoxRefIdeal.τ).loc Cert.FoxRefIdeal.main_arg1) = m ((c.tc : Thread Cert.FoxBwdIdeal.nD Cert.FoxBwdIdeal.τ).loc Cert.FoxBwdIdeal.main_arg1)
      ∧ m' ((c.tc : Thread Cert.FoxRefIdeal.nD Cert.FoxRefIdeal.τ).loc Cert.FoxRefIdeal.main_arg2) = m ((c.tc : Thread Cert.FoxBwdIdeal.nD Cert.FoxBwdIdeal.τ).loc Cert.FoxBwdIdeal.main_arg2)
      ∧ m' ((c.tc : Thread Cert.FoxRefIdeal.nD Cert.FoxRefIdeal.τ).loc Cert.FoxRefIdeal.main_arg3) = m ((c.tc : Thread Cert.FoxBwdIdeal.nD Cert.FoxBwdIdeal.τ).loc Cert.FoxBwdIdeal.main_arg3)
      ∧ m' ((c.tc : Thread Cert.FoxRefIdeal.nD Cert.FoxRefIdeal.τ).loc Cert.FoxRefIdeal.main_arg4) = m ((c.tc : Thread Cert.FoxBwdIdeal.nD Cert.FoxBwdIdeal.τ).loc Cert.FoxBwdIdeal.main_arg4)) →
    ∃ (v0 : (c : Dev Cert.FoxBwdIdeal.nD) → Buf (Elt Ideal) ((c.tc : Thread Cert.FoxBwdIdeal.nD Cert.FoxBwdIdeal.τ).loc Cert.FoxBwdIdeal.main_v38)) (v1 : (c : Dev Cert.FoxBwdIdeal.nD) → Buf (Elt Ideal) ((c.tc : Thread Cert.FoxBwdIdeal.nD Cert.FoxBwdIdeal.τ).loc Cert.FoxBwdIdeal.main_v39)) (v2 : (c : Dev Cert.FoxBwdIdeal.nD) → Buf (Elt Ideal) ((c.tc : Thread Cert.FoxBwdIdeal.nD Cert.FoxBwdIdeal.τ).loc Cert.FoxBwdIdeal.main_v40)) (v3 : (c : Dev Cert.FoxBwdIdeal.nD) → Buf (Elt Ideal) ((c.tc : Thread Cert.FoxBwdIdeal.nD Cert.FoxBwdIdeal.τ).loc Cert.FoxBwdIdeal.main_v42)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v38) = v0 c
          ∧ r.2.mem ((c.tc : Thread Cert.FoxBwdIdeal.nD Cert.FoxBwdIdeal.τ).loc Cert.FoxBwdIdeal.main_v39) = v1 c
          ∧ r.2.mem ((c.tc : Thread Cert.FoxBwdIdeal.nD Cert.FoxBwdIdeal.τ).loc Cert.FoxBwdIdeal.main_v40) = v2 c
          ∧ r.2.mem ((c.tc : Thread Cert.FoxBwdIdeal.nD Cert.FoxBwdIdeal.τ).loc Cert.FoxBwdIdeal.main_v42) = v3 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v87) = v0 c
          ∧ r.2.mem ((c.tc : Thread Cert.FoxRefIdeal.nD Cert.FoxRefIdeal.τ).loc Cert.FoxRefIdeal.main_v88) = v1 c
          ∧ r.2.mem ((c.tc : Thread Cert.FoxRefIdeal.nD Cert.FoxRefIdeal.τ).loc Cert.FoxRefIdeal.main_v89) = v2 c
          ∧ r.2.mem ((c.tc : Thread Cert.FoxRefIdeal.nD Cert.FoxRefIdeal.τ).loc Cert.FoxRefIdeal.main_v77) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_FoxGateBwd_FoxGateBwdIdeal : Prop :=
  True

def algebraic_FoxGateBwdIdeal_FoxGateRefIdeal_pre_gate_finite [hFoxGateBwdIdeal : Cert.FoxGateBwdIdeal.Facts] [hFoxGateRefIdeal : Cert.FoxGateRefIdeal.Facts] [hPre_gate_finite : Cert.Pre_gate_finite.Facts] : Prop :=
  ∀ (m : (ℓ : Loc Cert.FoxGateBwdIdeal.nD Cert.FoxGateBwdIdeal.τ Cert.FoxGateBwdIdeal.sig) → Buf (Elt Ideal) ℓ) (g : Dev Cert.FoxGateBwdIdeal.nD → PrngReg)
    (m' : (ℓ : Loc Cert.FoxGateRefIdeal.nD Cert.FoxGateRefIdeal.τ Cert.FoxGateRefIdeal.sig) → Buf (Elt Ideal) ℓ) (g' : Dev Cert.FoxGateRefIdeal.nD → PrngReg), Pre_FoxGateBwdIdeal_gate_finite m →
    (∀ c : Dev Cert.FoxGateBwdIdeal.nD,
      m' ((c.tc : Thread Cert.FoxGateRefIdeal.nD Cert.FoxGateRefIdeal.τ).loc Cert.FoxGateRefIdeal.main_arg0) = m ((c.tc : Thread Cert.FoxGateBwdIdeal.nD Cert.FoxGateBwdIdeal.τ).loc Cert.FoxGateBwdIdeal.main_arg0)
      ∧ m' ((c.tc : Thread Cert.FoxGateRefIdeal.nD Cert.FoxGateRefIdeal.τ).loc Cert.FoxGateRefIdeal.main_arg1) = m ((c.tc : Thread Cert.FoxGateBwdIdeal.nD Cert.FoxGateBwdIdeal.τ).loc Cert.FoxGateBwdIdeal.main_arg1)
      ∧ m' ((c.tc : Thread Cert.FoxGateRefIdeal.nD Cert.FoxGateRefIdeal.τ).loc Cert.FoxGateRefIdeal.main_arg2) = m ((c.tc : Thread Cert.FoxGateBwdIdeal.nD Cert.FoxGateBwdIdeal.τ).loc Cert.FoxGateBwdIdeal.main_arg2)) →
    ∃ (v0 : (c : Dev Cert.FoxGateBwdIdeal.nD) → Buf (Elt Ideal) ((c.tc : Thread Cert.FoxGateBwdIdeal.nD Cert.FoxGateBwdIdeal.τ).loc Cert.FoxGateBwdIdeal.main_v7)) (v1 : (c : Dev Cert.FoxGateBwdIdeal.nD) → Buf (Elt Ideal) ((c.tc : Thread Cert.FoxGateBwdIdeal.nD Cert.FoxGateBwdIdeal.τ).loc Cert.FoxGateBwdIdeal.main_v8)),
      θ_run (Cert.FoxGateBwdIdeal.defs (F := Ideal)) (onTc (τ := Cert.FoxGateBwdIdeal.τ) (Cert.FoxGateBwdIdeal.main (F := Ideal))) ⟨m, fun _ => 0, g⟩ (fun r => ∀ c : Dev Cert.FoxGateBwdIdeal.nD,
          r.2.mem ((c.tc : Thread Cert.FoxGateBwdIdeal.nD Cert.FoxGateBwdIdeal.τ).loc Cert.FoxGateBwdIdeal.main_v7) = v0 c
          ∧ r.2.mem ((c.tc : Thread Cert.FoxGateBwdIdeal.nD Cert.FoxGateBwdIdeal.τ).loc Cert.FoxGateBwdIdeal.main_v8) = v1 c
          ∧ r.2.mem ((c.tc : Thread Cert.FoxGateBwdIdeal.nD Cert.FoxGateBwdIdeal.τ).loc Cert.FoxGateBwdIdeal.main_arg0) = m ((c.tc : Thread Cert.FoxGateBwdIdeal.nD Cert.FoxGateBwdIdeal.τ).loc Cert.FoxGateBwdIdeal.main_arg0)
          ∧ r.2.mem ((c.tc : Thread Cert.FoxGateBwdIdeal.nD Cert.FoxGateBwdIdeal.τ).loc Cert.FoxGateBwdIdeal.main_arg1) = m ((c.tc : Thread Cert.FoxGateBwdIdeal.nD Cert.FoxGateBwdIdeal.τ).loc Cert.FoxGateBwdIdeal.main_arg1)
          ∧ r.2.mem ((c.tc : Thread Cert.FoxGateBwdIdeal.nD Cert.FoxGateBwdIdeal.τ).loc Cert.FoxGateBwdIdeal.main_arg2) = m ((c.tc : Thread Cert.FoxGateBwdIdeal.nD Cert.FoxGateBwdIdeal.τ).loc Cert.FoxGateBwdIdeal.main_arg2))
      ∧ θ_run (Cert.FoxGateRefIdeal.defs (F := Ideal)) (onTc (τ := Cert.FoxGateRefIdeal.τ) (Cert.FoxGateRefIdeal.main (F := Ideal))) ⟨m', fun _ => 0, g'⟩ (fun r => ∀ c : Dev Cert.FoxGateRefIdeal.nD,
          r.2.mem ((c.tc : Thread Cert.FoxGateRefIdeal.nD Cert.FoxGateRefIdeal.τ).loc Cert.FoxGateRefIdeal.main_v14) = v0 c
          ∧ r.2.mem ((c.tc : Thread Cert.FoxGateRefIdeal.nD Cert.FoxGateRefIdeal.τ).loc Cert.FoxGateRefIdeal.main_v13) = v1 c
          ∧ r.2.mem ((c.tc : Thread Cert.FoxGateRefIdeal.nD Cert.FoxGateRefIdeal.τ).loc Cert.FoxGateRefIdeal.main_arg0) = m' ((c.tc : Thread Cert.FoxGateRefIdeal.nD Cert.FoxGateRefIdeal.τ).loc Cert.FoxGateRefIdeal.main_arg0)
          ∧ r.2.mem ((c.tc : Thread Cert.FoxGateRefIdeal.nD Cert.FoxGateRefIdeal.τ).loc Cert.FoxGateRefIdeal.main_arg1) = m' ((c.tc : Thread Cert.FoxGateRefIdeal.nD Cert.FoxGateRefIdeal.τ).loc Cert.FoxGateRefIdeal.main_arg1)
          ∧ r.2.mem ((c.tc : Thread Cert.FoxGateRefIdeal.nD Cert.FoxGateRefIdeal.τ).loc Cert.FoxGateRefIdeal.main_arg2) = m' ((c.tc : Thread Cert.FoxGateRefIdeal.nD Cert.FoxGateRefIdeal.τ).loc Cert.FoxGateRefIdeal.main_arg2))

def preserves_DilCombine_DilCombineIdeal : Prop :=
  True

def algebraic_DilCombineIdeal_DilCombineRefIdeal_pre_comb_finite [hDilCombineIdeal : Cert.DilCombineIdeal.Facts] [hDilCombineRefIdeal : Cert.DilCombineRefIdeal.Facts] [hPre_comb_finite : Cert.Pre_comb_finite.Facts] : Prop :=
  ∀ (m : (ℓ : Loc Cert.DilCombineIdeal.nD Cert.DilCombineIdeal.τ Cert.DilCombineIdeal.sig) → Buf (Elt Ideal) ℓ) (g : Dev Cert.DilCombineIdeal.nD → PrngReg)
    (m' : (ℓ : Loc Cert.DilCombineRefIdeal.nD Cert.DilCombineRefIdeal.τ Cert.DilCombineRefIdeal.sig) → Buf (Elt Ideal) ℓ) (g' : Dev Cert.DilCombineRefIdeal.nD → PrngReg), Pre_DilCombineIdeal_comb_finite m →
    (∀ c : Dev Cert.DilCombineIdeal.nD,
      m' ((c.tc : Thread Cert.DilCombineRefIdeal.nD Cert.DilCombineRefIdeal.τ).loc Cert.DilCombineRefIdeal.main_arg0) = m ((c.tc : Thread Cert.DilCombineIdeal.nD Cert.DilCombineIdeal.τ).loc Cert.DilCombineIdeal.main_arg0)
      ∧ m' ((c.tc : Thread Cert.DilCombineRefIdeal.nD Cert.DilCombineRefIdeal.τ).loc Cert.DilCombineRefIdeal.main_arg1) = m ((c.tc : Thread Cert.DilCombineIdeal.nD Cert.DilCombineIdeal.τ).loc Cert.DilCombineIdeal.main_arg1)
      ∧ m' ((c.tc : Thread Cert.DilCombineRefIdeal.nD Cert.DilCombineRefIdeal.τ).loc Cert.DilCombineRefIdeal.main_arg2) = m ((c.tc : Thread Cert.DilCombineIdeal.nD Cert.DilCombineIdeal.τ).loc Cert.DilCombineIdeal.main_arg2)) →
    ∃ (v0 : (c : Dev Cert.DilCombineIdeal.nD) → Buf (Elt Ideal) ((c.tc : Thread Cert.DilCombineIdeal.nD Cert.DilCombineIdeal.τ).loc Cert.DilCombineIdeal.main_v8)) (v1 : (c : Dev Cert.DilCombineIdeal.nD) → Buf (Elt Ideal) ((c.tc : Thread Cert.DilCombineIdeal.nD Cert.DilCombineIdeal.τ).loc Cert.DilCombineIdeal.main_v15)),
      θ_run (Cert.DilCombineIdeal.defs (F := Ideal)) (onTc (τ := Cert.DilCombineIdeal.τ) (Cert.DilCombineIdeal.main (F := Ideal))) ⟨m, fun _ => 0, g⟩ (fun r => ∀ c : Dev Cert.DilCombineIdeal.nD,
          r.2.mem ((c.tc : Thread Cert.DilCombineIdeal.nD Cert.DilCombineIdeal.τ).loc Cert.DilCombineIdeal.main_v8) = v0 c
          ∧ r.2.mem ((c.tc : Thread Cert.DilCombineIdeal.nD Cert.DilCombineIdeal.τ).loc Cert.DilCombineIdeal.main_v15) = v1 c
          ∧ r.2.mem ((c.tc : Thread Cert.DilCombineIdeal.nD Cert.DilCombineIdeal.τ).loc Cert.DilCombineIdeal.main_arg0) = m ((c.tc : Thread Cert.DilCombineIdeal.nD Cert.DilCombineIdeal.τ).loc Cert.DilCombineIdeal.main_arg0)
          ∧ r.2.mem ((c.tc : Thread Cert.DilCombineIdeal.nD Cert.DilCombineIdeal.τ).loc Cert.DilCombineIdeal.main_arg1) = m ((c.tc : Thread Cert.DilCombineIdeal.nD Cert.DilCombineIdeal.τ).loc Cert.DilCombineIdeal.main_arg1)
          ∧ r.2.mem ((c.tc : Thread Cert.DilCombineIdeal.nD Cert.DilCombineIdeal.τ).loc Cert.DilCombineIdeal.main_arg2) = m ((c.tc : Thread Cert.DilCombineIdeal.nD Cert.DilCombineIdeal.τ).loc Cert.DilCombineIdeal.main_arg2))
      ∧ θ_run (Cert.DilCombineRefIdeal.defs (F := Ideal)) (onTc (τ := Cert.DilCombineRefIdeal.τ) (Cert.DilCombineRefIdeal.main (F := Ideal))) ⟨m', fun _ => 0, g'⟩ (fun r => ∀ c : Dev Cert.DilCombineRefIdeal.nD,
          r.2.mem ((c.tc : Thread Cert.DilCombineRefIdeal.nD Cert.DilCombineRefIdeal.τ).loc Cert.DilCombineRefIdeal.main_v36) = v0 c
          ∧ r.2.mem ((c.tc : Thread Cert.DilCombineRefIdeal.nD Cert.DilCombineRefIdeal.τ).loc Cert.DilCombineRefIdeal.main_v52) = v1 c
          ∧ r.2.mem ((c.tc : Thread Cert.DilCombineRefIdeal.nD Cert.DilCombineRefIdeal.τ).loc Cert.DilCombineRefIdeal.main_arg0) = m' ((c.tc : Thread Cert.DilCombineRefIdeal.nD Cert.DilCombineRefIdeal.τ).loc Cert.DilCombineRefIdeal.main_arg0)
          ∧ r.2.mem ((c.tc : Thread Cert.DilCombineRefIdeal.nD Cert.DilCombineRefIdeal.τ).loc Cert.DilCombineRefIdeal.main_arg1) = m' ((c.tc : Thread Cert.DilCombineRefIdeal.nD Cert.DilCombineRefIdeal.τ).loc Cert.DilCombineRefIdeal.main_arg1)
          ∧ r.2.mem ((c.tc : Thread Cert.DilCombineRefIdeal.nD Cert.DilCombineRefIdeal.τ).loc Cert.DilCombineRefIdeal.main_arg2) = m' ((c.tc : Thread Cert.DilCombineRefIdeal.nD Cert.DilCombineRefIdeal.τ).loc Cert.DilCombineRefIdeal.main_arg2))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v2_0)) (v1 : (c : Dev Cert.LossHeadIdeal.nD) → Buf (Elt Ideal) ((c.tc : Thread Cert.LossHeadIdeal.nD Cert.LossHeadIdeal.τ).loc Cert.LossHeadIdeal.main_v2_1)) (v2 : (c : Dev Cert.LossHeadIdeal.nD) → Buf (Elt Ideal) ((c.tc : Thread Cert.LossHeadIdeal.nD Cert.LossHeadIdeal.τ).loc Cert.LossHeadIdeal.main_v2_2)) (v3 : (c : Dev Cert.LossHeadIdeal.nD) → Buf (Elt Ideal) ((c.tc : Thread Cert.LossHeadIdeal.nD Cert.LossHeadIdeal.τ).loc Cert.LossHeadIdeal.main_v2_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2_0) = v0 c
          ∧ r.2.mem ((c.tc : Thread Cert.LossHeadIdeal.nD Cert.LossHeadIdeal.τ).loc Cert.LossHeadIdeal.main_v2_1) = v1 c
          ∧ r.2.mem ((c.tc : Thread Cert.LossHeadIdeal.nD Cert.LossHeadIdeal.τ).loc Cert.LossHeadIdeal.main_v2_2) = v2 c
          ∧ r.2.mem ((c.tc : Thread Cert.LossHeadIdeal.nD Cert.LossHeadIdeal.τ).loc Cert.LossHeadIdeal.main_v2_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v33) = v0 c
          ∧ r.2.mem ((c.tc : Thread Cert.LossHeadRefIdeal.nD Cert.LossHeadRefIdeal.τ).loc Cert.LossHeadRefIdeal.main_v55) = v1 c
          ∧ r.2.mem ((c.tc : Thread Cert.LossHeadRefIdeal.nD Cert.LossHeadRefIdeal.τ).loc Cert.LossHeadRefIdeal.main_v56) = v2 c
          ∧ r.2.mem ((c.tc : Thread Cert.LossHeadRefIdeal.nD Cert.LossHeadRefIdeal.τ).loc Cert.LossHeadRefIdeal.main_v54) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_PostFfnBwd_PostFfnBwdIdeal : Prop :=
  True

def algebraic_PostFfnBwdIdeal_PostFfnRefIdeal_pre_post_finite [hPostFfnBwdIdeal : Cert.PostFfnBwdIdeal.Facts] [hPostFfnRefIdeal : Cert.PostFfnRefIdeal.Facts] [hPre_post_finite : Cert.Pre_post_finite.Facts] : Prop :=
  ∀ (m : (ℓ : Loc Cert.PostFfnBwdIdeal.nD Cert.PostFfnBwdIdeal.τ Cert.PostFfnBwdIdeal.sig) → Buf (Elt Ideal) ℓ) (g : Dev Cert.PostFfnBwdIdeal.nD → PrngReg)
    (m' : (ℓ : Loc Cert.PostFfnRefIdeal.nD Cert.PostFfnRefIdeal.τ Cert.PostFfnRefIdeal.sig) → Buf (Elt Ideal) ℓ) (g' : Dev Cert.PostFfnRefIdeal.nD → PrngReg), Pre_PostFfnBwdIdeal_post_finite m →
    (∀ c : Dev Cert.PostFfnBwdIdeal.nD,
      m' ((c.tc : Thread Cert.PostFfnRefIdeal.nD Cert.PostFfnRefIdeal.τ).loc Cert.PostFfnRefIdeal.main_arg0) = m ((c.tc : Thread Cert.PostFfnBwdIdeal.nD Cert.PostFfnBwdIdeal.τ).loc Cert.PostFfnBwdIdeal.main_arg0)
      ∧ m' ((c.tc : Thread Cert.PostFfnRefIdeal.nD Cert.PostFfnRefIdeal.τ).loc Cert.PostFfnRefIdeal.main_arg1) = m ((c.tc : Thread Cert.PostFfnBwdIdeal.nD Cert.PostFfnBwdIdeal.τ).loc Cert.PostFfnBwdIdeal.main_arg1)
      ∧ m' ((c.tc : Thread Cert.PostFfnRefIdeal.nD Cert.PostFfnRefIdeal.τ).loc Cert.PostFfnRefIdeal.main_arg2) = m ((c.tc : Thread Cert.PostFfnBwdIdeal.nD Cert.PostFfnBwdIdeal.τ).loc Cert.PostFfnBwdIdeal.main_arg2)
      ∧ m' ((c.tc : Thread Cert.PostFfnRefIdeal.nD Cert.PostFfnRefIdeal.τ).loc Cert.PostFfnRefIdeal.main_arg3) = m ((c.tc : Thread Cert.PostFfnBwdIdeal.nD Cert.PostFfnBwdIdeal.τ).loc Cert.PostFfnBwdIdeal.main_arg3)
      ∧ m' ((c.tc : Thread Cert.PostFfnRefIdeal.nD Cert.PostFfnRefIdeal.τ).loc Cert.PostFfnRefIdeal.main_arg4) = m ((c.tc : Thread Cert.PostFfnBwdIdeal.nD Cert.PostFfnBwdIdeal.τ).loc Cert.PostFfnBwdIdeal.main_arg4)
      ∧ m' ((c.tc : Thread Cert.PostFfnRefIdeal.nD Cert.PostFfnRefIdeal.τ).loc Cert.PostFfnRefIdeal.main_arg5) = m ((c.tc : Thread Cert.PostFfnBwdIdeal.nD Cert.PostFfnBwdIdeal.τ).loc Cert.PostFfnBwdIdeal.main_arg5)
      ∧ m' ((c.tc : Thread Cert.PostFfnRefIdeal.nD Cert.PostFfnRefIdeal.τ).loc Cert.PostFfnRefIdeal.main_arg6) = m ((c.tc : Thread Cert.PostFfnBwdIdeal.nD Cert.PostFfnBwdIdeal.τ).loc Cert.PostFfnBwdIdeal.main_arg6)
      ∧ m' ((c.tc : Thread Cert.PostFfnRefIdeal.nD Cert.PostFfnRefIdeal.τ).loc Cert.PostFfnRefIdeal.main_arg7) = m ((c.tc : Thread Cert.PostFfnBwdIdeal.nD Cert.PostFfnBwdIdeal.τ).loc Cert.PostFfnBwdIdeal.main_arg7)
      ∧ m' ((c.tc : Thread Cert.PostFfnRefIdeal.nD Cert.PostFfnRefIdeal.τ).loc Cert.PostFfnRefIdeal.main_arg8) = m ((c.tc : Thread Cert.PostFfnBwdIdeal.nD Cert.PostFfnBwdIdeal.τ).loc Cert.PostFfnBwdIdeal.main_arg8)) →
    ∃ (v0 : (c : Dev Cert.PostFfnBwdIdeal.nD) → Buf (Elt Ideal) ((c.tc : Thread Cert.PostFfnBwdIdeal.nD Cert.PostFfnBwdIdeal.τ).loc Cert.PostFfnBwdIdeal.main_v21_0)) (v1 : (c : Dev Cert.PostFfnBwdIdeal.nD) → Buf (Elt Ideal) ((c.tc : Thread Cert.PostFfnBwdIdeal.nD Cert.PostFfnBwdIdeal.τ).loc Cert.PostFfnBwdIdeal.main_v21_1)) (v2 : (c : Dev Cert.PostFfnBwdIdeal.nD) → Buf (Elt Ideal) ((c.tc : Thread Cert.PostFfnBwdIdeal.nD Cert.PostFfnBwdIdeal.τ).loc Cert.PostFfnBwdIdeal.main_v21_2)) (v3 : (c : Dev Cert.PostFfnBwdIdeal.nD) → Buf (Elt Ideal) ((c.tc : Thread Cert.PostFfnBwdIdeal.nD Cert.PostFfnBwdIdeal.τ).loc Cert.PostFfnBwdIdeal.main_v21_3)),
      θ_run (Cert.PostFfnBwdIdeal.defs (F := Ideal)) (onTc (τ := Cert.PostFfnBwdIdeal.τ) (Cert.PostFfnBwdIdeal.main (F := Ideal))) ⟨m, fun _ => 0, g⟩ (fun r => ∀ c : Dev Cert.PostFfnBwdIdeal.nD,
          r.2.mem ((c.tc : Thread Cert.PostFfnBwdIdeal.nD Cert.PostFfnBwdIdeal.τ).loc Cert.PostFfnBwdIdeal.main_v21_0) = v0 c
          ∧ r.2.mem ((c.tc : Thread Cert.PostFfnBwdIdeal.nD Cert.PostFfnBwdIdeal.τ).loc Cert.PostFfnBwdIdeal.main_v21_1) = v1 c
          ∧ r.2.mem ((c.tc : Thread Cert.PostFfnBwdIdeal.nD Cert.PostFfnBwdIdeal.τ).loc Cert.PostFfnBwdIdeal.main_v21_2) = v2 c
          ∧ r.2.mem ((c.tc : Thread Cert.PostFfnBwdIdeal.nD Cert.PostFfnBwdIdeal.τ).loc Cert.PostFfnBwdIdeal.main_v21_3) = v3 c
          ∧ r.2.mem ((c.tc : Thread Cert.PostFfnBwdIdeal.nD Cert.PostFfnBwdIdeal.τ).loc Cert.PostFfnBwdIdeal.main_arg0) = m ((c.tc : Thread Cert.PostFfnBwdIdeal.nD Cert.PostFfnBwdIdeal.τ).loc Cert.PostFfnBwdIdeal.main_arg0)
          ∧ r.2.mem ((c.tc : Thread Cert.PostFfnBwdIdeal.nD Cert.PostFfnBwdIdeal.τ).loc Cert.PostFfnBwdIdeal.main_arg1) = m ((c.tc : Thread Cert.PostFfnBwdIdeal.nD Cert.PostFfnBwdIdeal.τ).loc Cert.PostFfnBwdIdeal.main_arg1)
          ∧ r.2.mem ((c.tc : Thread Cert.PostFfnBwdIdeal.nD Cert.PostFfnBwdIdeal.τ).loc Cert.PostFfnBwdIdeal.main_arg2) = m ((c.tc : Thread Cert.PostFfnBwdIdeal.nD Cert.PostFfnBwdIdeal.τ).loc Cert.PostFfnBwdIdeal.main_arg2)
          ∧ r.2.mem ((c.tc : Thread Cert.PostFfnBwdIdeal.nD Cert.PostFfnBwdIdeal.τ).loc Cert.PostFfnBwdIdeal.main_arg3) = m ((c.tc : Thread Cert.PostFfnBwdIdeal.nD Cert.PostFfnBwdIdeal.τ).loc Cert.PostFfnBwdIdeal.main_arg3)
          ∧ r.2.mem ((c.tc : Thread Cert.PostFfnBwdIdeal.nD Cert.PostFfnBwdIdeal.τ).loc Cert.PostFfnBwdIdeal.main_arg4) = m ((c.tc : Thread Cert.PostFfnBwdIdeal.nD Cert.PostFfnBwdIdeal.τ).loc Cert.PostFfnBwdIdeal.main_arg4)
          ∧ r.2.mem ((c.tc : Thread Cert.PostFfnBwdIdeal.nD Cert.PostFfnBwdIdeal.τ).loc Cert.PostFfnBwdIdeal.main_arg5) = m ((c.tc : Thread Cert.PostFfnBwdIdeal.nD Cert.PostFfnBwdIdeal.τ).loc Cert.PostFfnBwdIdeal.main_arg5)
          ∧ r.2.mem ((c.tc : Thread Cert.PostFfnBwdIdeal.nD Cert.PostFfnBwdIdeal.τ).loc Cert.PostFfnBwdIdeal.main_arg6) = m ((c.tc : Thread Cert.PostFfnBwdIdeal.nD Cert.PostFfnBwdIdeal.τ).loc Cert.PostFfnBwdIdeal.main_arg6)
          ∧ r.2.mem ((c.tc : Thread Cert.PostFfnBwdIdeal.nD Cert.PostFfnBwdIdeal.τ).loc Cert.PostFfnBwdIdeal.main_arg7) = m ((c.tc : Thread Cert.PostFfnBwdIdeal.nD Cert.PostFfnBwdIdeal.τ).loc Cert.PostFfnBwdIdeal.main_arg7)
          ∧ r.2.mem ((c.tc : Thread Cert.PostFfnBwdIdeal.nD Cert.PostFfnBwdIdeal.τ).loc Cert.PostFfnBwdIdeal.main_arg8) = m ((c.tc : Thread Cert.PostFfnBwdIdeal.nD Cert.PostFfnBwdIdeal.τ).loc Cert.PostFfnBwdIdeal.main_arg8))
      ∧ θ_run (Cert.PostFfnRefIdeal.defs (F := Ideal)) (onTc (τ := Cert.PostFfnRefIdeal.τ) (Cert.PostFfnRefIdeal.main (F := Ideal))) ⟨m', fun _ => 0, g'⟩ (fun r => ∀ c : Dev Cert.PostFfnRefIdeal.nD,
          r.2.mem ((c.tc : Thread Cert.PostFfnRefIdeal.nD Cert.PostFfnRefIdeal.τ).loc Cert.PostFfnRefIdeal.main_v60) = v0 c
          ∧ r.2.mem ((c.tc : Thread Cert.PostFfnRefIdeal.nD Cert.PostFfnRefIdeal.τ).loc Cert.PostFfnRefIdeal.main_v84) = v1 c
          ∧ r.2.mem ((c.tc : Thread Cert.PostFfnRefIdeal.nD Cert.PostFfnRefIdeal.τ).loc Cert.PostFfnRefIdeal.main_v61) = v2 c
          ∧ r.2.mem ((c.tc : Thread Cert.PostFfnRefIdeal.nD Cert.PostFfnRefIdeal.τ).loc Cert.PostFfnRefIdeal.main_v83) = v3 c
          ∧ r.2.mem ((c.tc : Thread Cert.PostFfnRefIdeal.nD Cert.PostFfnRefIdeal.τ).loc Cert.PostFfnRefIdeal.main_arg0) = m' ((c.tc : Thread Cert.PostFfnRefIdeal.nD Cert.PostFfnRefIdeal.τ).loc Cert.PostFfnRefIdeal.main_arg0)
          ∧ r.2.mem ((c.tc : Thread Cert.PostFfnRefIdeal.nD Cert.PostFfnRefIdeal.τ).loc Cert.PostFfnRefIdeal.main_arg1) = m' ((c.tc : Thread Cert.PostFfnRefIdeal.nD Cert.PostFfnRefIdeal.τ).loc Cert.PostFfnRefIdeal.main_arg1)
          ∧ r.2.mem ((c.tc : Thread Cert.PostFfnRefIdeal.nD Cert.PostFfnRefIdeal.τ).loc Cert.PostFfnRefIdeal.main_arg2) = m' ((c.tc : Thread Cert.PostFfnRefIdeal.nD Cert.PostFfnRefIdeal.τ).loc Cert.PostFfnRefIdeal.main_arg2)
          ∧ r.2.mem ((c.tc : Thread Cert.PostFfnRefIdeal.nD Cert.PostFfnRefIdeal.τ).loc Cert.PostFfnRefIdeal.main_arg3) = m' ((c.tc : Thread Cert.PostFfnRefIdeal.nD Cert.PostFfnRefIdeal.τ).loc Cert.PostFfnRefIdeal.main_arg3)
          ∧ r.2.mem ((c.tc : Thread Cert.PostFfnRefIdeal.nD Cert.PostFfnRefIdeal.τ).loc Cert.PostFfnRefIdeal.main_arg4) = m' ((c.tc : Thread Cert.PostFfnRefIdeal.nD Cert.PostFfnRefIdeal.τ).loc Cert.PostFfnRefIdeal.main_arg4)
          ∧ r.2.mem ((c.tc : Thread Cert.PostFfnRefIdeal.nD Cert.PostFfnRefIdeal.τ).loc Cert.PostFfnRefIdeal.main_arg5) = m' ((c.tc : Thread Cert.PostFfnRefIdeal.nD Cert.PostFfnRefIdeal.τ).loc Cert.PostFfnRefIdeal.main_arg5)
          ∧ r.2.mem ((c.tc : Thread Cert.PostFfnRefIdeal.nD Cert.PostFfnRefIdeal.τ).loc Cert.PostFfnRefIdeal.main_arg6) = m' ((c.tc : Thread Cert.PostFfnRefIdeal.nD Cert.PostFfnRefIdeal.τ).loc Cert.PostFfnRefIdeal.main_arg6)
          ∧ r.2.mem ((c.tc : Thread Cert.PostFfnRefIdeal.nD Cert.PostFfnRefIdeal.τ).loc Cert.PostFfnRefIdeal.main_arg7) = m' ((c.tc : Thread Cert.PostFfnRefIdeal.nD Cert.PostFfnRefIdeal.τ).loc Cert.PostFfnRefIdeal.main_arg7)
          ∧ r.2.mem ((c.tc : Thread Cert.PostFfnRefIdeal.nD Cert.PostFfnRefIdeal.τ).loc Cert.PostFfnRefIdeal.main_arg8) = m' ((c.tc : Thread Cert.PostFfnRefIdeal.nD Cert.PostFfnRefIdeal.τ).loc Cert.PostFfnRefIdeal.main_arg8))

def preserves_InputBwd_InputBwdIdeal : Prop :=
  True

def algebraic_InputBwdIdeal_InputBwdRefIdeal_pre_input_finite [hInputBwdIdeal : Cert.InputBwdIdeal.Facts] [hInputBwdRefIdeal : Cert.InputBwdRefIdeal.Facts] [hPre_input_finite : Cert.Pre_input_finite.Facts] : Prop :=
  ∀ (m : (ℓ : Loc Cert.InputBwdIdeal.nD Cert.InputBwdIdeal.τ Cert.InputBwdIdeal.sig) → Buf (Elt Ideal) ℓ) (g : Dev Cert.InputBwdIdeal.nD → PrngReg)
    (m' : (ℓ : Loc Cert.InputBwdRefIdeal.nD Cert.InputBwdRefIdeal.τ Cert.InputBwdRefIdeal.sig) → Buf (Elt Ideal) ℓ) (g' : Dev Cert.InputBwdRefIdeal.nD → PrngReg), Pre_InputBwdIdeal_input_finite m →
    (∀ c : Dev Cert.InputBwdIdeal.nD,
      m' ((c.tc : Thread Cert.InputBwdRefIdeal.nD Cert.InputBwdRefIdeal.τ).loc Cert.InputBwdRefIdeal.main_arg0) = m ((c.tc : Thread Cert.InputBwdIdeal.nD Cert.InputBwdIdeal.τ).loc Cert.InputBwdIdeal.main_arg0)
      ∧ m' ((c.tc : Thread Cert.InputBwdRefIdeal.nD Cert.InputBwdRefIdeal.τ).loc Cert.InputBwdRefIdeal.main_arg1) = m ((c.tc : Thread Cert.InputBwdIdeal.nD Cert.InputBwdIdeal.τ).loc Cert.InputBwdIdeal.main_arg1)
      ∧ m' ((c.tc : Thread Cert.InputBwdRefIdeal.nD Cert.InputBwdRefIdeal.τ).loc Cert.InputBwdRefIdeal.main_arg2) = m ((c.tc : Thread Cert.InputBwdIdeal.nD Cert.InputBwdIdeal.τ).loc Cert.InputBwdIdeal.main_arg2)
      ∧ m' ((c.tc : Thread Cert.InputBwdRefIdeal.nD Cert.InputBwdRefIdeal.τ).loc Cert.InputBwdRefIdeal.main_arg3) = m ((c.tc : Thread Cert.InputBwdIdeal.nD Cert.InputBwdIdeal.τ).loc Cert.InputBwdIdeal.main_arg3)
      ∧ m' ((c.tc : Thread Cert.InputBwdRefIdeal.nD Cert.InputBwdRefIdeal.τ).loc Cert.InputBwdRefIdeal.main_arg4) = m ((c.tc : Thread Cert.InputBwdIdeal.nD Cert.InputBwdIdeal.τ).loc Cert.InputBwdIdeal.main_arg4)) →
    ∃ (v0 : (c : Dev Cert.InputBwdIdeal.nD) → Buf (Elt Ideal) ((c.tc : Thread Cert.InputBwdIdeal.nD Cert.InputBwdIdeal.τ).loc Cert.InputBwdIdeal.main_v13_0)) (v1 : (c : Dev Cert.InputBwdIdeal.nD) → Buf (Elt Ideal) ((c.tc : Thread Cert.InputBwdIdeal.nD Cert.InputBwdIdeal.τ).loc Cert.InputBwdIdeal.main_v13_1)),
      θ_run (Cert.InputBwdIdeal.defs (F := Ideal)) (onTc (τ := Cert.InputBwdIdeal.τ) (Cert.InputBwdIdeal.main (F := Ideal))) ⟨m, fun _ => 0, g⟩ (fun r => ∀ c : Dev Cert.InputBwdIdeal.nD,
          r.2.mem ((c.tc : Thread Cert.InputBwdIdeal.nD Cert.InputBwdIdeal.τ).loc Cert.InputBwdIdeal.main_v13_0) = v0 c
          ∧ r.2.mem ((c.tc : Thread Cert.InputBwdIdeal.nD Cert.InputBwdIdeal.τ).loc Cert.InputBwdIdeal.main_v13_1) = v1 c
          ∧ r.2.mem ((c.tc : Thread Cert.InputBwdIdeal.nD Cert.InputBwdIdeal.τ).loc Cert.InputBwdIdeal.main_arg0) = m ((c.tc : Thread Cert.InputBwdIdeal.nD Cert.InputBwdIdeal.τ).loc Cert.InputBwdIdeal.main_arg0)
          ∧ r.2.mem ((c.tc : Thread Cert.InputBwdIdeal.nD Cert.InputBwdIdeal.τ).loc Cert.InputBwdIdeal.main_arg1) = m ((c.tc : Thread Cert.InputBwdIdeal.nD Cert.InputBwdIdeal.τ).loc Cert.InputBwdIdeal.main_arg1)
          ∧ r.2.mem ((c.tc : Thread Cert.InputBwdIdeal.nD Cert.InputBwdIdeal.τ).loc Cert.InputBwdIdeal.main_arg2) = m ((c.tc : Thread Cert.InputBwdIdeal.nD Cert.InputBwdIdeal.τ).loc Cert.InputBwdIdeal.main_arg2)
          ∧ r.2.mem ((c.tc : Thread Cert.InputBwdIdeal.nD Cert.InputBwdIdeal.τ).loc Cert.InputBwdIdeal.main_arg3) = m ((c.tc : Thread Cert.InputBwdIdeal.nD Cert.InputBwdIdeal.τ).loc Cert.InputBwdIdeal.main_arg3)
          ∧ r.2.mem ((c.tc : Thread Cert.InputBwdIdeal.nD Cert.InputBwdIdeal.τ).loc Cert.InputBwdIdeal.main_arg4) = m ((c.tc : Thread Cert.InputBwdIdeal.nD Cert.InputBwdIdeal.τ).loc Cert.InputBwdIdeal.main_arg4))
      ∧ θ_run (Cert.InputBwdRefIdeal.defs (F := Ideal)) (onTc (τ := Cert.InputBwdRefIdeal.τ) (Cert.InputBwdRefIdeal.main (F := Ideal))) ⟨m', fun _ => 0, g'⟩ (fun r => ∀ c : Dev Cert.InputBwdRefIdeal.nD,
          r.2.mem ((c.tc : Thread Cert.InputBwdRefIdeal.nD Cert.InputBwdRefIdeal.τ).loc Cert.InputBwdRefIdeal.main_v39) = v0 c
          ∧ r.2.mem ((c.tc : Thread Cert.InputBwdRefIdeal.nD Cert.InputBwdRefIdeal.τ).loc Cert.InputBwdRefIdeal.main_v40) = v1 c
          ∧ r.2.mem ((c.tc : Thread Cert.InputBwdRefIdeal.nD Cert.InputBwdRefIdeal.τ).loc Cert.InputBwdRefIdeal.main_arg0) = m' ((c.tc : Thread Cert.InputBwdRefIdeal.nD Cert.InputBwdRefIdeal.τ).loc Cert.InputBwdRefIdeal.main_arg0)
          ∧ r.2.mem ((c.tc : Thread Cert.InputBwdRefIdeal.nD Cert.InputBwdRefIdeal.τ).loc Cert.InputBwdRefIdeal.main_arg1) = m' ((c.tc : Thread Cert.InputBwdRefIdeal.nD Cert.InputBwdRefIdeal.τ).loc Cert.InputBwdRefIdeal.main_arg1)
          ∧ r.2.mem ((c.tc : Thread Cert.InputBwdRefIdeal.nD Cert.InputBwdRefIdeal.τ).loc Cert.InputBwdRefIdeal.main_arg2) = m' ((c.tc : Thread Cert.InputBwdRefIdeal.nD Cert.InputBwdRefIdeal.τ).loc Cert.InputBwdRefIdeal.main_arg2)
          ∧ r.2.mem ((c.tc : Thread Cert.InputBwdRefIdeal.nD Cert.InputBwdRefIdeal.τ).loc Cert.InputBwdRefIdeal.main_arg3) = m' ((c.tc : Thread Cert.InputBwdRefIdeal.nD Cert.InputBwdRefIdeal.τ).loc Cert.InputBwdRefIdeal.main_arg3)
          ∧ r.2.mem ((c.tc : Thread Cert.InputBwdRefIdeal.nD Cert.InputBwdRefIdeal.τ).loc Cert.InputBwdRefIdeal.main_arg4) = m' ((c.tc : Thread Cert.InputBwdRefIdeal.nD Cert.InputBwdRefIdeal.τ).loc Cert.InputBwdRefIdeal.main_arg4))

def preserves_MixOutBwd_MixOutBwdIdeal : Prop :=
  True

def algebraic_MixOutBwdIdeal_MixOutRefIdeal [hMixOutBwdIdeal : Cert.MixOutBwdIdeal.Facts] [hMixOutRefIdeal : Cert.MixOutRefIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutBwdIdeal m →
    (∀ c : Dev Cert.MixOutBwdIdeal.nD,
      m' ((c.tc : Thread Cert.MixOutRefIdeal.nD Cert.MixOutRefIdeal.τ).loc Cert.MixOutRefIdeal.main_arg0) = m ((c.tc : Thread Cert.MixOutBwdIdeal.nD Cert.MixOutBwdIdeal.τ).loc Cert.MixOutBwdIdeal.main_arg0)
      ∧ m' ((c.tc : Thread Cert.MixOutRefIdeal.nD Cert.MixOutRefIdeal.τ).loc Cert.MixOutRefIdeal.main_arg1) = m ((c.tc : Thread Cert.MixOutBwdIdeal.nD Cert.MixOutBwdIdeal.τ).loc Cert.MixOutBwdIdeal.main_arg1)
      ∧ m' ((c.tc : Thread Cert.MixOutRefIdeal.nD Cert.MixOutRefIdeal.τ).loc Cert.MixOutRefIdeal.main_arg2) = m ((c.tc : Thread Cert.MixOutBwdIdeal.nD Cert.MixOutBwdIdeal.τ).loc Cert.MixOutBwdIdeal.main_arg2)
      ∧ m' ((c.tc : Thread Cert.MixOutRefIdeal.nD Cert.MixOutRefIdeal.τ).loc Cert.MixOutRefIdeal.main_arg3) = m ((c.tc : Thread Cert.MixOutBwdIdeal.nD Cert.MixOutBwdIdeal.τ).loc Cert.MixOutBwdIdeal.main_arg3)
      ∧ m' ((c.tc : Thread Cert.MixOutRefIdeal.nD Cert.MixOutRefIdeal.τ).loc Cert.MixOutRefIdeal.main_arg4) = m ((c.tc : Thread Cert.MixOutBwdIdeal.nD Cert.MixOutBwdIdeal.τ).loc Cert.MixOutBwdIdeal.main_arg4)
      ∧ m' ((c.tc : Thread Cert.MixOutRefIdeal.nD Cert.MixOutRefIdeal.τ).loc Cert.MixOutRefIdeal.main_arg5) = m ((c.tc : Thread Cert.MixOutBwdIdeal.nD Cert.MixOutBwdIdeal.τ).loc Cert.MixOutBwdIdeal.main_arg5)
      ∧ m' ((c.tc : Thread Cert.MixOutRefIdeal.nD Cert.MixOutRefIdeal.τ).loc Cert.MixOutRefIdeal.main_arg6) = m ((c.tc : Thread Cert.MixOutBwdIdeal.nD Cert.MixOutBwdIdeal.τ).loc Cert.MixOutBwdIdeal.main_arg6)
      ∧ m' ((c.tc : Thread Cert.MixOutRefIdeal.nD Cert.MixOutRefIdeal.τ).loc Cert.MixOutRefIdeal.main_arg7) = m ((c.tc : Thread Cert.MixOutBwdIdeal.nD Cert.MixOutBwdIdeal.τ).loc Cert.MixOutBwdIdeal.main_arg7)) →
    ∃ (v0 : (c : Dev Cert.MixOutBwdIdeal.nD) → Buf (Elt Ideal) ((c.tc : Thread Cert.MixOutBwdIdeal.nD Cert.MixOutBwdIdeal.τ).loc Cert.MixOutBwdIdeal.main_v11)) (v1 : (c : Dev Cert.MixOutBwdIdeal.nD) → Buf (Elt Ideal) ((c.tc : Thread Cert.MixOutBwdIdeal.nD Cert.MixOutBwdIdeal.τ).loc Cert.MixOutBwdIdeal.main_v12)) (v2 : (c : Dev Cert.MixOutBwdIdeal.nD) → Buf (Elt Ideal) ((c.tc : Thread Cert.MixOutBwdIdeal.nD Cert.MixOutBwdIdeal.τ).loc Cert.MixOutBwdIdeal.main_v10_1)) (v3 : (c : Dev Cert.MixOutBwdIdeal.nD) → Buf (Elt Ideal) ((c.tc : Thread Cert.MixOutBwdIdeal.nD Cert.MixOutBwdIdeal.τ).loc Cert.MixOutBwdIdeal.main_v10_2)) (v4 : (c : Dev Cert.MixOutBwdIdeal.nD) → Buf (Elt Ideal) ((c.tc : Thread Cert.MixOutBwdIdeal.nD Cert.MixOutBwdIdeal.τ).loc Cert.MixOutBwdIdeal.main_v10_3)) (v5 : (c : Dev Cert.MixOutBwdIdeal.nD) → Buf (Elt Ideal) ((c.tc : Thread Cert.MixOutBwdIdeal.nD Cert.MixOutBwdIdeal.τ).loc Cert.MixOutBwdIdeal.main_v10_4)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v11) = v0 c
          ∧ r.2.mem ((c.tc : Thread Cert.MixOutBwdIdeal.nD Cert.MixOutBwdIdeal.τ).loc Cert.MixOutBwdIdeal.main_v12) = v1 c
          ∧ r.2.mem ((c.tc : Thread Cert.MixOutBwdIdeal.nD Cert.MixOutBwdIdeal.τ).loc Cert.MixOutBwdIdeal.main_v10_1) = v2 c
          ∧ r.2.mem ((c.tc : Thread Cert.MixOutBwdIdeal.nD Cert.MixOutBwdIdeal.τ).loc Cert.MixOutBwdIdeal.main_v10_2) = v3 c
          ∧ r.2.mem ((c.tc : Thread Cert.MixOutBwdIdeal.nD Cert.MixOutBwdIdeal.τ).loc Cert.MixOutBwdIdeal.main_v10_3) = v4 c
          ∧ r.2.mem ((c.tc : Thread Cert.MixOutBwdIdeal.nD Cert.MixOutBwdIdeal.τ).loc Cert.MixOutBwdIdeal.main_v10_4) = v5 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
          ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
          ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
          ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6)
          ∧ r.2.mem ((c.tc : Thread Cert.MixOutBwdIdeal.nD Cert.MixOutBwdIdeal.τ).loc Cert.MixOutBwdIdeal.main_arg7) = m ((c.tc : Thread Cert.MixOutBwdIdeal.nD Cert.MixOutBwdIdeal.τ).loc Cert.MixOutBwdIdeal.main_arg7))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v31) = v0 c
          ∧ r.2.mem ((c.tc : Thread Cert.MixOutRefIdeal.nD Cert.MixOutRefIdeal.τ).loc Cert.MixOutRefIdeal.main_v32) = v1 c
          ∧ r.2.mem ((c.tc : Thread Cert.MixOutRefIdeal.nD Cert.MixOutRefIdeal.τ).loc Cert.MixOutRefIdeal.main_v33) = v2 c
          ∧ r.2.mem ((c.tc : Thread Cert.MixOutRefIdeal.nD Cert.MixOutRefIdeal.τ).loc Cert.MixOutRefIdeal.main_v34) = v3 c
          ∧ r.2.mem ((c.tc : Thread Cert.MixOutRefIdeal.nD Cert.MixOutRefIdeal.τ).loc Cert.MixOutRefIdeal.main_v35) = v4 c
          ∧ r.2.mem ((c.tc : Thread Cert.MixOutRefIdeal.nD Cert.MixOutRefIdeal.τ).loc Cert.MixOutRefIdeal.main_v37) = v5 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7))

def preserves_FoxFwd_FoxFwdIdeal : Prop :=
  IdealRules.named_const.Statement Cert.FoxFwdIdeal.κ "masked" .f32 0xF149F2CA#32 ⊥

def algebraic_FoxFwdIdeal_FoxFwdRefIdeal_pre_foxf_finite [hFoxFwdIdeal : Cert.FoxFwdIdeal.Facts] [hFoxFwdRefIdeal : Cert.FoxFwdRefIdeal.Facts] [hPre_foxf_finite : Cert.Pre_foxf_finite.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdRefIdeal.nD Cert.FoxFwdRefIdeal.τ Cert.FoxFwdRefIdeal.sig) → Buf (Elt Ideal) ℓ) (g' : Dev Cert.FoxFwdRefIdeal.nD → PrngReg), Pre_FoxFwdIdeal_foxf_finite m →
    (∀ c : Dev Cert.FoxFwdIdeal.nD,
      m' ((c.tc : Thread Cert.FoxFwdRefIdeal.nD Cert.FoxFwdRefIdeal.τ).loc Cert.FoxFwdRefIdeal.main_arg0) = m ((c.tc : Thread Cert.FoxFwdIdeal.nD Cert.FoxFwdIdeal.τ).loc Cert.FoxFwdIdeal.main_arg0)
      ∧ m' ((c.tc : Thread Cert.FoxFwdRefIdeal.nD Cert.FoxFwdRefIdeal.τ).loc Cert.FoxFwdRefIdeal.main_arg1) = m ((c.tc : Thread Cert.FoxFwdIdeal.nD Cert.FoxFwdIdeal.τ).loc Cert.FoxFwdIdeal.main_arg1)
      ∧ m' ((c.tc : Thread Cert.FoxFwdRefIdeal.nD Cert.FoxFwdRefIdeal.τ).loc Cert.FoxFwdRefIdeal.main_arg2) = m ((c.tc : Thread Cert.FoxFwdIdeal.nD Cert.FoxFwdIdeal.τ).loc Cert.FoxFwdIdeal.main_arg2)
      ∧ m' ((c.tc : Thread Cert.FoxFwdRefIdeal.nD Cert.FoxFwdRefIdeal.τ).loc Cert.FoxFwdRefIdeal.main_arg3) = m ((c.tc : Thread Cert.FoxFwdIdeal.nD Cert.FoxFwdIdeal.τ).loc Cert.FoxFwdIdeal.main_arg3)) →
    ∃ (v0 : (c : Dev Cert.FoxFwdIdeal.nD) → Buf (Elt Ideal) ((c.tc : Thread Cert.FoxFwdIdeal.nD Cert.FoxFwdIdeal.τ).loc Cert.FoxFwdIdeal.main_v4_0)) (v1 : (c : Dev Cert.FoxFwdIdeal.nD) → Buf (Elt Ideal) ((c.tc : Thread Cert.FoxFwdIdeal.nD Cert.FoxFwdIdeal.τ).loc Cert.FoxFwdIdeal.main_v4_1)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v4_0) = v0 c
          ∧ r.2.mem ((c.tc : Thread Cert.FoxFwdIdeal.nD Cert.FoxFwdIdeal.τ).loc Cert.FoxFwdIdeal.main_v4_1) = v1 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
          ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
          ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ θ_run (Cert.FoxFwdRefIdeal.defs (F := Ideal)) (onTc (τ := Cert.FoxFwdRefIdeal.τ) (Cert.FoxFwdRefIdeal.main (F := Ideal))) ⟨m', fun _ => 0, g'⟩ (fun r => ∀ c : Dev Cert.FoxFwdRefIdeal.nD,
          r.2.mem ((c.tc : Thread Cert.FoxFwdRefIdeal.nD Cert.FoxFwdRefIdeal.τ).loc Cert.FoxFwdRefIdeal.main_v34) = v0 c
          ∧ r.2.mem ((c.tc : Thread Cert.FoxFwdRefIdeal.nD Cert.FoxFwdRefIdeal.τ).loc Cert.FoxFwdRefIdeal.main_v65) = v1 c
          ∧ r.2.mem ((c.tc : Thread Cert.FoxFwdRefIdeal.nD Cert.FoxFwdRefIdeal.τ).loc Cert.FoxFwdRefIdeal.main_arg0) = m' ((c.tc : Thread Cert.FoxFwdRefIdeal.nD Cert.FoxFwdRefIdeal.τ).loc Cert.FoxFwdRefIdeal.main_arg0)
          ∧ r.2.mem ((c.tc : Thread Cert.FoxFwdRefIdeal.nD Cert.FoxFwdRefIdeal.τ).loc Cert.FoxFwdRefIdeal.main_arg1) = m' ((c.tc : Thread Cert.FoxFwdRefIdeal.nD Cert.FoxFwdRefIdeal.τ).loc Cert.FoxFwdRefIdeal.main_arg1)
          ∧ r.2.mem ((c.tc : Thread Cert.FoxFwdRefIdeal.nD Cert.FoxFwdRefIdeal.τ).loc Cert.FoxFwdRefIdeal.main_arg2) = m' ((c.tc : Thread Cert.FoxFwdRefIdeal.nD Cert.FoxFwdRefIdeal.τ).loc Cert.FoxFwdRefIdeal.main_arg2)
          ∧ r.2.mem ((c.tc : Thread Cert.FoxFwdRefIdeal.nD Cert.FoxFwdRefIdeal.τ).loc Cert.FoxFwdRefIdeal.main_arg3) = m' ((c.tc : Thread Cert.FoxFwdRefIdeal.nD Cert.FoxFwdRefIdeal.τ).loc Cert.FoxFwdRefIdeal.main_arg3))

def preserves_DilMean_DilMeanIdeal : Prop :=
  True

def algebraic_DilMeanIdeal_DilMeanRefIdeal_pre_combf_finite [hDilMeanIdeal : Cert.DilMeanIdeal.Facts] [hDilMeanRefIdeal : Cert.DilMeanRefIdeal.Facts] [hPre_combf_finite : Cert.Pre_combf_finite.Facts] : Prop :=
  ∀ (m : (ℓ : Loc Cert.DilMeanIdeal.nD Cert.DilMeanIdeal.τ Cert.DilMeanIdeal.sig) → Buf (Elt Ideal) ℓ) (g : Dev Cert.DilMeanIdeal.nD → PrngReg)
    (m' : (ℓ : Loc Cert.DilMeanRefIdeal.nD Cert.DilMeanRefIdeal.τ Cert.DilMeanRefIdeal.sig) → Buf (Elt Ideal) ℓ) (g' : Dev Cert.DilMeanRefIdeal.nD → PrngReg), Pre_DilMeanIdeal_combf_finite m →
    (∀ c : Dev Cert.DilMeanIdeal.nD,
      m' ((c.tc : Thread Cert.DilMeanRefIdeal.nD Cert.DilMeanRefIdeal.τ).loc Cert.DilMeanRefIdeal.main_arg0) = m ((c.tc : Thread Cert.DilMeanIdeal.nD Cert.DilMeanIdeal.τ).loc Cert.DilMeanIdeal.main_arg0)
      ∧ m' ((c.tc : Thread Cert.DilMeanRefIdeal.nD Cert.DilMeanRefIdeal.τ).loc Cert.DilMeanRefIdeal.main_arg1) = m ((c.tc : Thread Cert.DilMeanIdeal.nD Cert.DilMeanIdeal.τ).loc Cert.DilMeanIdeal.main_arg1)) →
    ∃ (v0 : (c : Dev Cert.DilMeanIdeal.nD) → Buf (Elt Ideal) ((c.tc : Thread Cert.DilMeanIdeal.nD Cert.DilMeanIdeal.τ).loc Cert.DilMeanIdeal.main_v6)),
      θ_run (Cert.DilMeanIdeal.defs (F := Ideal)) (onTc (τ := Cert.DilMeanIdeal.τ) (Cert.DilMeanIdeal.main (F := Ideal))) ⟨m, fun _ => 0, g⟩ (fun r => ∀ c : Dev Cert.DilMeanIdeal.nD,
          r.2.mem ((c.tc : Thread Cert.DilMeanIdeal.nD Cert.DilMeanIdeal.τ).loc Cert.DilMeanIdeal.main_v6) = v0 c
          ∧ r.2.mem ((c.tc : Thread Cert.DilMeanIdeal.nD Cert.DilMeanIdeal.τ).loc Cert.DilMeanIdeal.main_arg0) = m ((c.tc : Thread Cert.DilMeanIdeal.nD Cert.DilMeanIdeal.τ).loc Cert.DilMeanIdeal.main_arg0)
          ∧ r.2.mem ((c.tc : Thread Cert.DilMeanIdeal.nD Cert.DilMeanIdeal.τ).loc Cert.DilMeanIdeal.main_arg1) = m ((c.tc : Thread Cert.DilMeanIdeal.nD Cert.DilMeanIdeal.τ).loc Cert.DilMeanIdeal.main_arg1))
      ∧ θ_run (Cert.DilMeanRefIdeal.defs (F := Ideal)) (onTc (τ := Cert.DilMeanRefIdeal.τ) (Cert.DilMeanRefIdeal.main (F := Ideal))) ⟨m', fun _ => 0, g'⟩ (fun r => ∀ c : Dev Cert.DilMeanRefIdeal.nD,
          r.2.mem ((c.tc : Thread Cert.DilMeanRefIdeal.nD Cert.DilMeanRefIdeal.τ).loc Cert.DilMeanRefIdeal.main_v15) = v0 c
          ∧ r.2.mem ((c.tc : Thread Cert.DilMeanRefIdeal.nD Cert.DilMeanRefIdeal.τ).loc Cert.DilMeanRefIdeal.main_arg0) = m' ((c.tc : Thread Cert.DilMeanRefIdeal.nD Cert.DilMeanRefIdeal.τ).loc Cert.DilMeanRefIdeal.main_arg0)
          ∧ r.2.mem ((c.tc : Thread Cert.DilMeanRefIdeal.nD Cert.DilMeanRefIdeal.τ).loc Cert.DilMeanRefIdeal.main_arg1) = m' ((c.tc : Thread Cert.DilMeanRefIdeal.nD Cert.DilMeanRefIdeal.τ).loc Cert.DilMeanRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v5_1)) (v2 : (c : Dev Cert.FfnUpIdeal.nD) → Buf (Elt Ideal) ((c.tc : Thread Cert.FfnUpIdeal.nD Cert.FfnUpIdeal.τ).loc Cert.FfnUpIdeal.main_v5_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v5_1) = v1 c
          ∧ r.2.mem ((c.tc : Thread Cert.FfnUpIdeal.nD Cert.FfnUpIdeal.τ).loc Cert.FfnUpIdeal.main_v5_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v0) = v0 c
          ∧ r.2.mem ((c.tc : Thread Cert.FfnUpRefIdeal.nD Cert.FfnUpRefIdeal.τ).loc Cert.FfnUpRefIdeal.main_v1) = v1 c
          ∧ r.2.mem ((c.tc : Thread Cert.FfnUpRefIdeal.nD Cert.FfnUpRefIdeal.τ).loc Cert.FfnUpRefIdeal.main_v4) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_NormPre_NormPreIdeal : Prop :=
  True

def algebraic_NormPreIdeal_NormPreRefIdeal [hNormPreIdeal : Cert.NormPreIdeal.Facts] [hNormPreRefIdeal : Cert.NormPreRefIdeal.Facts] : Prop :=
  ∀ (m : (ℓ : Loc Cert.NormPreIdeal.nD Cert.NormPreIdeal.τ Cert.NormPreIdeal.sig) → Buf (Elt Ideal) ℓ) (g : Dev Cert.NormPreIdeal.nD → PrngReg)
    (m' : (ℓ : Loc Cert.NormPreRefIdeal.nD Cert.NormPreRefIdeal.τ Cert.NormPreRefIdeal.sig) → Buf (Elt Ideal) ℓ) (g' : Dev Cert.NormPreRefIdeal.nD → PrngReg), Pre_NormPreIdeal m →
    (∀ c : Dev Cert.NormPreIdeal.nD,
      m' ((c.tc : Thread Cert.NormPreRefIdeal.nD Cert.NormPreRefIdeal.τ).loc Cert.NormPreRefIdeal.main_arg0) = m ((c.tc : Thread Cert.NormPreIdeal.nD Cert.NormPreIdeal.τ).loc Cert.NormPreIdeal.main_arg0)
      ∧ m' ((c.tc : Thread Cert.NormPreRefIdeal.nD Cert.NormPreRefIdeal.τ).loc Cert.NormPreRefIdeal.main_arg1) = m ((c.tc : Thread Cert.NormPreIdeal.nD Cert.NormPreIdeal.τ).loc Cert.NormPreIdeal.main_arg1)) →
    ∃ (v0 : (c : Dev Cert.NormPreIdeal.nD) → Buf (Elt Ideal) ((c.tc : Thread Cert.NormPreIdeal.nD Cert.NormPreIdeal.τ).loc Cert.NormPreIdeal.main_v0)),
      θ_run (Cert.NormPreIdeal.defs (F := Ideal)) (onTc (τ := Cert.NormPreIdeal.τ) (Cert.NormPreIdeal.main (F := Ideal))) ⟨m, fun _ => 0, g⟩ (fun r => ∀ c : Dev Cert.NormPreIdeal.nD,
          r.2.mem ((c.tc : Thread Cert.NormPreIdeal.nD Cert.NormPreIdeal.τ).loc Cert.NormPreIdeal.main_v0) = v0 c
          ∧ r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
          ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1))
      ∧ θ_run (Cert.NormPreRefIdeal.defs (F := Ideal)) (onTc (τ := Cert.NormPreRefIdeal.τ) (Cert.NormPreRefIdeal.main (F := Ideal))) ⟨m', fun _ => 0, g'⟩ (fun r => ∀ c : Dev Cert.NormPreRefIdeal.nD,
          r.2.mem ((c.tc : Thread Cert.NormPreRefIdeal.nD Cert.NormPreRefIdeal.τ).loc Cert.NormPreRefIdeal.main_v14) = v0 c
          ∧ r.2.mem ((c.tc : Thread Cert.NormPreRefIdeal.nD Cert.NormPreRefIdeal.τ).loc Cert.NormPreRefIdeal.main_arg0) = m' ((c.tc : Thread Cert.NormPreRefIdeal.nD Cert.NormPreRefIdeal.τ).loc Cert.NormPreRefIdeal.main_arg0)
          ∧ r.2.mem ((c.tc : Thread Cert.NormPreRefIdeal.nD Cert.NormPreRefIdeal.τ).loc Cert.NormPreRefIdeal.main_arg1) = m' ((c.tc : Thread Cert.NormPreRefIdeal.nD Cert.NormPreRefIdeal.τ).loc Cert.NormPreRefIdeal.main_arg1))

def preserves_MixOut_MixOutIdeal : Prop :=
  True

def algebraic_MixOutIdeal_MixOutFwdRefIdeal [hMixOutIdeal : Cert.MixOutIdeal.Facts] [hMixOutFwdRefIdeal : Cert.MixOutFwdRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutFwdRefIdeal.nD Cert.MixOutFwdRefIdeal.τ Cert.MixOutFwdRefIdeal.sig) → Buf (Elt Ideal) ℓ) (g' : Dev Cert.MixOutFwdRefIdeal.nD → PrngReg), Pre_MixOutIdeal m →
    (∀ c : Dev Cert.MixOutIdeal.nD,
      m' ((c.tc : Thread Cert.MixOutFwdRefIdeal.nD Cert.MixOutFwdRefIdeal.τ).loc Cert.MixOutFwdRefIdeal.main_arg0) = m ((c.tc : Thread Cert.MixOutIdeal.nD Cert.MixOutIdeal.τ).loc Cert.MixOutIdeal.main_arg0)
      ∧ m' ((c.tc : Thread Cert.MixOutFwdRefIdeal.nD Cert.MixOutFwdRefIdeal.τ).loc Cert.MixOutFwdRefIdeal.main_arg1) = m ((c.tc : Thread Cert.MixOutIdeal.nD Cert.MixOutIdeal.τ).loc Cert.MixOutIdeal.main_arg1)
      ∧ m' ((c.tc : Thread Cert.MixOutFwdRefIdeal.nD Cert.MixOutFwdRefIdeal.τ).loc Cert.MixOutFwdRefIdeal.main_arg2) = m ((c.tc : Thread Cert.MixOutIdeal.nD Cert.MixOutIdeal.τ).loc Cert.MixOutIdeal.main_arg2)
      ∧ m' ((c.tc : Thread Cert.MixOutFwdRefIdeal.nD Cert.MixOutFwdRefIdeal.τ).loc Cert.MixOutFwdRefIdeal.main_arg3) = m ((c.tc : Thread Cert.MixOutIdeal.nD Cert.MixOutIdeal.τ).loc Cert.MixOutIdeal.main_arg3)
      ∧ m' ((c.tc : Thread Cert.MixOutFwdRefIdeal.nD Cert.MixOutFwdRefIdeal.τ).loc Cert.MixOutFwdRefIdeal.main_arg4) = m ((c.tc : Thread Cert.MixOutIdeal.nD Cert.MixOutIdeal.τ).loc Cert.MixOutIdeal.main_arg4)
      ∧ m' ((c.tc : Thread Cert.MixOutFwdRefIdeal.nD Cert.MixOutFwdRefIdeal.τ).loc Cert.MixOutFwdRefIdeal.main_arg5) = m ((c.tc : Thread Cert.MixOutIdeal.nD Cert.MixOutIdeal.τ).loc Cert.MixOutIdeal.main_arg5)
      ∧ m' ((c.tc : Thread Cert.MixOutFwdRefIdeal.nD Cert.MixOutFwdRefIdeal.τ).loc Cert.MixOutFwdRefIdeal.main_arg6) = m ((c.tc : Thread Cert.MixOutIdeal.nD Cert.MixOutIdeal.τ).loc Cert.MixOutIdeal.main_arg6)
      ∧ m' ((c.tc : Thread Cert.MixOutFwdRefIdeal.nD Cert.MixOutFwdRefIdeal.τ).loc Cert.MixOutFwdRefIdeal.main_arg7) = m ((c.tc : Thread Cert.MixOutIdeal.nD Cert.MixOutIdeal.τ).loc Cert.MixOutIdeal.main_arg7)
      ∧ m' ((c.tc : Thread Cert.MixOutFwdRefIdeal.nD Cert.MixOutFwdRefIdeal.τ).loc Cert.MixOutFwdRefIdeal.main_arg8) = m ((c.tc : Thread Cert.MixOutIdeal.nD Cert.MixOutIdeal.τ).loc Cert.MixOutIdeal.main_arg8)
      ∧ m' ((c.tc : Thread Cert.MixOutFwdRefIdeal.nD Cert.MixOutFwdRefIdeal.τ).loc Cert.MixOutFwdRefIdeal.main_arg9) = m ((c.tc : Thread Cert.MixOutIdeal.nD Cert.MixOutIdeal.τ).loc Cert.MixOutIdeal.main_arg9)) →
    ∃ (v0 : (c : Dev Cert.MixOutIdeal.nD) → Buf (Elt Ideal) ((c.tc : Thread Cert.MixOutIdeal.nD Cert.MixOutIdeal.τ).loc Cert.MixOutIdeal.main_v9_0)) (v1 : (c : Dev Cert.MixOutIdeal.nD) → Buf (Elt Ideal) ((c.tc : Thread Cert.MixOutIdeal.nD Cert.MixOutIdeal.τ).loc Cert.MixOutIdeal.main_v9_1)) (v2 : (c : Dev Cert.MixOutIdeal.nD) → Buf (Elt Ideal) ((c.tc : Thread Cert.MixOutIdeal.nD Cert.MixOutIdeal.τ).loc Cert.MixOutIdeal.main_v9_2)) (v3 : (c : Dev Cert.MixOutIdeal.nD) → Buf (Elt Ideal) ((c.tc : Thread Cert.MixOutIdeal.nD Cert.MixOutIdeal.τ).loc Cert.MixOutIdeal.main_v9_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v9_0) = v0 c
          ∧ r.2.mem ((c.tc : Thread Cert.MixOutIdeal.nD Cert.MixOutIdeal.τ).loc Cert.MixOutIdeal.main_v9_1) = v1 c
          ∧ r.2.mem ((c.tc : Thread Cert.MixOutIdeal.nD Cert.MixOutIdeal.τ).loc Cert.MixOutIdeal.main_v9_2) = v2 c
          ∧ r.2.mem ((c.tc : Thread Cert.MixOutIdeal.nD Cert.MixOutIdeal.τ).loc Cert.MixOutIdeal.main_v9_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9))
      ∧ θ_run (Cert.MixOutFwdRefIdeal.defs (F := Ideal)) (onTc (τ := Cert.MixOutFwdRefIdeal.τ) (Cert.MixOutFwdRefIdeal.main (F := Ideal))) ⟨m', fun _ => 0, g'⟩ (fun r => ∀ c : Dev Cert.MixOutFwdRefIdeal.nD,
          r.2.mem ((c.tc : Thread Cert.MixOutFwdRefIdeal.nD Cert.MixOutFwdRefIdeal.τ).loc Cert.MixOutFwdRefIdeal.main_v33) = v0 c
          ∧ r.2.mem ((c.tc : Thread Cert.MixOutFwdRefIdeal.nD Cert.MixOutFwdRefIdeal.τ).loc Cert.MixOutFwdRefIdeal.main_v17) = v1 c
          ∧ r.2.mem ((c.tc : Thread Cert.MixOutFwdRefIdeal.nD Cert.MixOutFwdRefIdeal.τ).loc Cert.MixOutFwdRefIdeal.main_v32) = v2 c
          ∧ r.2.mem ((c.tc : Thread Cert.MixOutFwdRefIdeal.nD Cert.MixOutFwdRefIdeal.τ).loc Cert.MixOutFwdRefIdeal.main_v48) = v3 c
          ∧ r.2.mem ((c.tc : Thread Cert.MixOutFwdRefIdeal.nD Cert.MixOutFwdRefIdeal.τ).loc Cert.MixOutFwdRefIdeal.main_arg0) = m' ((c.tc : Thread Cert.MixOutFwdRefIdeal.nD Cert.MixOutFwdRefIdeal.τ).loc Cert.MixOutFwdRefIdeal.main_arg0)
          ∧ r.2.mem ((c.tc : Thread Cert.MixOutFwdRefIdeal.nD Cert.MixOutFwdRefIdeal.τ).loc Cert.MixOutFwdRefIdeal.main_arg1) = m' ((c.tc : Thread Cert.MixOutFwdRefIdeal.nD Cert.MixOutFwdRefIdeal.τ).loc Cert.MixOutFwdRefIdeal.main_arg1)
          ∧ r.2.mem ((c.tc : Thread Cert.MixOutFwdRefIdeal.nD Cert.MixOutFwdRefIdeal.τ).loc Cert.MixOutFwdRefIdeal.main_arg2) = m' ((c.tc : Thread Cert.MixOutFwdRefIdeal.nD Cert.MixOutFwdRefIdeal.τ).loc Cert.MixOutFwdRefIdeal.main_arg2)
          ∧ r.2.mem ((c.tc : Thread Cert.MixOutFwdRefIdeal.nD Cert.MixOutFwdRefIdeal.τ).loc Cert.MixOutFwdRefIdeal.main_arg3) = m' ((c.tc : Thread Cert.MixOutFwdRefIdeal.nD Cert.MixOutFwdRefIdeal.τ).loc Cert.MixOutFwdRefIdeal.main_arg3)
          ∧ r.2.mem ((c.tc : Thread Cert.MixOutFwdRefIdeal.nD Cert.MixOutFwdRefIdeal.τ).loc Cert.MixOutFwdRefIdeal.main_arg4) = m' ((c.tc : Thread Cert.MixOutFwdRefIdeal.nD Cert.MixOutFwdRefIdeal.τ).loc Cert.MixOutFwdRefIdeal.main_arg4)
          ∧ r.2.mem ((c.tc : Thread Cert.MixOutFwdRefIdeal.nD Cert.MixOutFwdRefIdeal.τ).loc Cert.MixOutFwdRefIdeal.main_arg5) = m' ((c.tc : Thread Cert.MixOutFwdRefIdeal.nD Cert.MixOutFwdRefIdeal.τ).loc Cert.MixOutFwdRefIdeal.main_arg5)
          ∧ r.2.mem ((c.tc : Thread Cert.MixOutFwdRefIdeal.nD Cert.MixOutFwdRefIdeal.τ).loc Cert.MixOutFwdRefIdeal.main_arg6) = m' ((c.tc : Thread Cert.MixOutFwdRefIdeal.nD Cert.MixOutFwdRefIdeal.τ).loc Cert.MixOutFwdRefIdeal.main_arg6)
          ∧ r.2.mem ((c.tc : Thread Cert.MixOutFwdRefIdeal.nD Cert.MixOutFwdRefIdeal.τ).loc Cert.MixOutFwdRefIdeal.main_arg7) = m' ((c.tc : Thread Cert.MixOutFwdRefIdeal.nD Cert.MixOutFwdRefIdeal.τ).loc Cert.MixOutFwdRefIdeal.main_arg7)
          ∧ r.2.mem ((c.tc : Thread Cert.MixOutFwdRefIdeal.nD Cert.MixOutFwdRefIdeal.τ).loc Cert.MixOutFwdRefIdeal.main_arg8) = m' ((c.tc : Thread Cert.MixOutFwdRefIdeal.nD Cert.MixOutFwdRefIdeal.τ).loc Cert.MixOutFwdRefIdeal.main_arg8)
          ∧ r.2.mem ((c.tc : Thread Cert.MixOutFwdRefIdeal.nD Cert.MixOutFwdRefIdeal.τ).loc Cert.MixOutFwdRefIdeal.main_arg9) = m' ((c.tc : Thread Cert.MixOutFwdRefIdeal.nD Cert.MixOutFwdRefIdeal.τ).loc Cert.MixOutFwdRefIdeal.main_arg9))

def preserves_FoxGateFwd_FoxGateFwdIdeal : Prop :=
  True

def algebraic_FoxGateFwdIdeal_FoxGateFwdRefIdeal_pre_gatef_finite [hFoxGateFwdIdeal : Cert.FoxGateFwdIdeal.Facts] [hFoxGateFwdRefIdeal : Cert.FoxGateFwdRefIdeal.Facts] [hPre_gatef_finite : Cert.Pre_gatef_finite.Facts] : Prop :=
  ∀ (m : (ℓ : Loc Cert.FoxGateFwdIdeal.nD Cert.FoxGateFwdIdeal.τ Cert.FoxGateFwdIdeal.sig) → Buf (Elt Ideal) ℓ) (g : Dev Cert.FoxGateFwdIdeal.nD → PrngReg)
    (m' : (ℓ : Loc Cert.FoxGateFwdRefIdeal.nD Cert.FoxGateFwdRefIdeal.τ Cert.FoxGateFwdRefIdeal.sig) → Buf (Elt Ideal) ℓ) (g' : Dev Cert.FoxGateFwdRefIdeal.nD → PrngReg), Pre_FoxGateFwdIdeal_gatef_finite m →
    (∀ c : Dev Cert.FoxGateFwdIdeal.nD,
      m' ((c.tc : Thread Cert.FoxGateFwdRefIdeal.nD Cert.FoxGateFwdRefIdeal.τ).loc Cert.FoxGateFwdRefIdeal.main_arg0) = m ((c.tc : Thread Cert.FoxGateFwdIdeal.nD Cert.FoxGateFwdIdeal.τ).loc Cert.FoxGateFwdIdeal.main_arg0)
      ∧ m' ((c.tc : Thread Cert.FoxGateFwdRefIdeal.nD Cert.FoxGateFwdRefIdeal.τ).loc Cert.FoxGateFwdRefIdeal.main_arg1) = m ((c.tc : Thread Cert.FoxGateFwdIdeal.nD Cert.FoxGateFwdIdeal.τ).loc Cert.FoxGateFwdIdeal.main_arg1)) →
    ∃ (v0 : (c : Dev Cert.FoxGateFwdIdeal.nD) → Buf (Elt Ideal) ((c.tc : Thread Cert.FoxGateFwdIdeal.nD Cert.FoxGateFwdIdeal.τ).loc Cert.FoxGateFwdIdeal.main_v5)),
      θ_run (Cert.FoxGateFwdIdeal.defs (F := Ideal)) (onTc (τ := Cert.FoxGateFwdIdeal.τ) (Cert.FoxGateFwdIdeal.main (F := Ideal))) ⟨m, fun _ => 0, g⟩ (fun r => ∀ c : Dev Cert.FoxGateFwdIdeal.nD,
          r.2.mem ((c.tc : Thread Cert.FoxGateFwdIdeal.nD Cert.FoxGateFwdIdeal.τ).loc Cert.FoxGateFwdIdeal.main_v5) = v0 c
          ∧ r.2.mem ((c.tc : Thread Cert.FoxGateFwdIdeal.nD Cert.FoxGateFwdIdeal.τ).loc Cert.FoxGateFwdIdeal.main_arg0) = m ((c.tc : Thread Cert.FoxGateFwdIdeal.nD Cert.FoxGateFwdIdeal.τ).loc Cert.FoxGateFwdIdeal.main_arg0)
          ∧ r.2.mem ((c.tc : Thread Cert.FoxGateFwdIdeal.nD Cert.FoxGateFwdIdeal.τ).loc Cert.FoxGateFwdIdeal.main_arg1) = m ((c.tc : Thread Cert.FoxGateFwdIdeal.nD Cert.FoxGateFwdIdeal.τ).loc Cert.FoxGateFwdIdeal.main_arg1))
      ∧ θ_run (Cert.FoxGateFwdRefIdeal.defs (F := Ideal)) (onTc (τ := Cert.FoxGateFwdRefIdeal.τ) (Cert.FoxGateFwdRefIdeal.main (F := Ideal))) ⟨m', fun _ => 0, g'⟩ (fun r => ∀ c : Dev Cert.FoxGateFwdRefIdeal.nD,
          r.2.mem ((c.tc : Thread Cert.FoxGateFwdRefIdeal.nD Cert.FoxGateFwdRefIdeal.τ).loc Cert.FoxGateFwdRefIdeal.main_v6) = v0 c
          ∧ r.2.mem ((c.tc : Thread Cert.FoxGateFwdRefIdeal.nD Cert.FoxGateFwdRefIdeal.τ).loc Cert.FoxGateFwdRefIdeal.main_arg0) = m' ((c.tc : Thread Cert.FoxGateFwdRefIdeal.nD Cert.FoxGateFwdRefIdeal.τ).loc Cert.FoxGateFwdRefIdeal.main_arg0)
          ∧ r.2.mem ((c.tc : Thread Cert.FoxGateFwdRefIdeal.nD Cert.FoxGateFwdRefIdeal.τ).loc Cert.FoxGateFwdRefIdeal.main_arg1) = m' ((c.tc : Thread Cert.FoxGateFwdRefIdeal.nD Cert.FoxGateFwdRefIdeal.τ).loc Cert.FoxGateFwdRefIdeal.main_arg1))

def Claim : Prop :=
  ∃ (hFfnAct : Cert.FfnAct.Facts) (hFfnActIdeal : Cert.FfnActIdeal.Facts) (hFfnActRefIdeal : Cert.FfnActRefIdeal.Facts) (hFoxBwd : Cert.FoxBwd.Facts) (hFoxBwdIdeal : Cert.FoxBwdIdeal.Facts) (hFoxRefIdeal : Cert.FoxRefIdeal.Facts) (hFoxGateBwd : Cert.FoxGateBwd.Facts) (hFoxGateBwdIdeal : Cert.FoxGateBwdIdeal.Facts) (hFoxGateRefIdeal : Cert.FoxGateRefIdeal.Facts) (hDilCombine : Cert.DilCombine.Facts) (hDilCombineIdeal : Cert.DilCombineIdeal.Facts) (hDilCombineRefIdeal : Cert.DilCombineRefIdeal.Facts) (hLossHead : Cert.LossHead.Facts) (hLossHeadIdeal : Cert.LossHeadIdeal.Facts) (hLossHeadRefIdeal : Cert.LossHeadRefIdeal.Facts) (hPostFfnBwd : Cert.PostFfnBwd.Facts) (hPostFfnBwdIdeal : Cert.PostFfnBwdIdeal.Facts) (hPostFfnRefIdeal : Cert.PostFfnRefIdeal.Facts) (hInputBwd : Cert.InputBwd.Facts) (hInputBwdIdeal : Cert.InputBwdIdeal.Facts) (hInputBwdRefIdeal : Cert.InputBwdRefIdeal.Facts) (hMixOutBwd : Cert.MixOutBwd.Facts) (hMixOutBwdIdeal : Cert.MixOutBwdIdeal.Facts) (hMixOutRefIdeal : Cert.MixOutRefIdeal.Facts) (hFoxFwd : Cert.FoxFwd.Facts) (hFoxFwdIdeal : Cert.FoxFwdIdeal.Facts) (hFoxFwdRefIdeal : Cert.FoxFwdRefIdeal.Facts) (hDilMean : Cert.DilMean.Facts) (hDilMeanIdeal : Cert.DilMeanIdeal.Facts) (hDilMeanRefIdeal : Cert.DilMeanRefIdeal.Facts) (hFfnUp : Cert.FfnUp.Facts) (hFfnUpIdeal : Cert.FfnUpIdeal.Facts) (hFfnUpRefIdeal : Cert.FfnUpRefIdeal.Facts) (hNormPre : Cert.NormPre.Facts) (hNormPreIdeal : Cert.NormPreIdeal.Facts) (hNormPreRefIdeal : Cert.NormPreRefIdeal.Facts) (hMixOut : Cert.MixOut.Facts) (hMixOutIdeal : Cert.MixOutIdeal.Facts) (hMixOutFwdRefIdeal : Cert.MixOutFwdRefIdeal.Facts) (hFoxGateFwd : Cert.FoxGateFwd.Facts) (hFoxGateFwdIdeal : Cert.FoxGateFwdIdeal.Facts) (hFoxGateFwdRefIdeal : Cert.FoxGateFwdRefIdeal.Facts) (hPre_ffn_finite : Cert.Pre_ffn_finite.Facts) (hPre_fox_finite : Cert.Pre_fox_finite.Facts) (hPre_gate_finite : Cert.Pre_gate_finite.Facts) (hPre_comb_finite : Cert.Pre_comb_finite.Facts) (hPre_loss_finite : Cert.Pre_loss_finite.Facts) (hPre_post_finite : Cert.Pre_post_finite.Facts) (hPre_input_finite : Cert.Pre_input_finite.Facts) (hPre_foxf_finite : Cert.Pre_foxf_finite.Facts) (hPre_combf_finite : Cert.Pre_combf_finite.Facts) (hPre_gatef_finite : Cert.Pre_gatef_finite.Facts),
    quiescent_FfnAct (hFfnAct := hFfnAct)
    ∧ quiescent_FfnActIdeal (hFfnActIdeal := hFfnActIdeal)
    ∧ quiescent_FfnActIdeal_pre_ffn_finite (hFfnActIdeal := hFfnActIdeal) (hPre_ffn_finite := hPre_ffn_finite)
    ∧ quiescent_FfnActRefIdeal (hFfnActRefIdeal := hFfnActRefIdeal)
    ∧ quiescent_FfnActRefIdeal_pre_ffn_finite (hFfnActRefIdeal := hFfnActRefIdeal) (hPre_ffn_finite := hPre_ffn_finite)
    ∧ quiescent_FoxBwd (hFoxBwd := hFoxBwd)
    ∧ quiescent_FoxBwdIdeal (hFoxBwdIdeal := hFoxBwdIdeal)
    ∧ quiescent_FoxBwdIdeal_pre_fox_finite (hFoxBwdIdeal := hFoxBwdIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_FoxGateBwd (hFoxGateBwd := hFoxGateBwd)
    ∧ quiescent_FoxGateBwdIdeal (hFoxGateBwdIdeal := hFoxGateBwdIdeal)
    ∧ quiescent_FoxGateBwdIdeal_pre_gate_finite (hFoxGateBwdIdeal := hFoxGateBwdIdeal) (hPre_gate_finite := hPre_gate_finite)
    ∧ quiescent_FoxGateRefIdeal (hFoxGateRefIdeal := hFoxGateRefIdeal)
    ∧ quiescent_FoxGateRefIdeal_pre_gate_finite (hFoxGateRefIdeal := hFoxGateRefIdeal) (hPre_gate_finite := hPre_gate_finite)
    ∧ quiescent_DilCombine (hDilCombine := hDilCombine)
    ∧ quiescent_DilCombineIdeal (hDilCombineIdeal := hDilCombineIdeal)
    ∧ quiescent_DilCombineIdeal_pre_comb_finite (hDilCombineIdeal := hDilCombineIdeal) (hPre_comb_finite := hPre_comb_finite)
    ∧ quiescent_DilCombineRefIdeal (hDilCombineRefIdeal := hDilCombineRefIdeal)
    ∧ quiescent_DilCombineRefIdeal_pre_comb_finite (hDilCombineRefIdeal := hDilCombineRefIdeal) (hPre_comb_finite := hPre_comb_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_PostFfnBwd (hPostFfnBwd := hPostFfnBwd)
    ∧ quiescent_PostFfnBwdIdeal (hPostFfnBwdIdeal := hPostFfnBwdIdeal)
    ∧ quiescent_PostFfnBwdIdeal_pre_post_finite (hPostFfnBwdIdeal := hPostFfnBwdIdeal) (hPre_post_finite := hPre_post_finite)
    ∧ quiescent_PostFfnRefIdeal (hPostFfnRefIdeal := hPostFfnRefIdeal)
    ∧ quiescent_PostFfnRefIdeal_pre_post_finite (hPostFfnRefIdeal := hPostFfnRefIdeal) (hPre_post_finite := hPre_post_finite)
    ∧ quiescent_InputBwd (hInputBwd := hInputBwd)
    ∧ quiescent_InputBwdIdeal (hInputBwdIdeal := hInputBwdIdeal)
    ∧ quiescent_InputBwdIdeal_pre_input_finite (hInputBwdIdeal := hInputBwdIdeal) (hPre_input_finite := hPre_input_finite)
    ∧ quiescent_InputBwdRefIdeal (hInputBwdRefIdeal := hInputBwdRefIdeal)
    ∧ quiescent_InputBwdRefIdeal_pre_input_finite (hInputBwdRefIdeal := hInputBwdRefIdeal) (hPre_input_finite := hPre_input_finite)
    ∧ quiescent_MixOutBwd (hMixOutBwd := hMixOutBwd)
    ∧ quiescent_MixOutBwdIdeal (hMixOutBwdIdeal := hMixOutBwdIdeal)
    ∧ quiescent_MixOutRefIdeal (hMixOutRefIdeal := hMixOutRefIdeal)
    ∧ quiescent_FoxFwd (hFoxFwd := hFoxFwd)
    ∧ quiescent_FoxFwdIdeal (hFoxFwdIdeal := hFoxFwdIdeal)
    ∧ quiescent_FoxFwdIdeal_pre_foxf_finite (hFoxFwdIdeal := hFoxFwdIdeal) (hPre_foxf_finite := hPre_foxf_finite)
    ∧ quiescent_FoxFwdRefIdeal (hFoxFwdRefIdeal := hFoxFwdRefIdeal)
    ∧ quiescent_FoxFwdRefIdeal_pre_foxf_finite (hFoxFwdRefIdeal := hFoxFwdRefIdeal) (hPre_foxf_finite := hPre_foxf_finite)
    ∧ quiescent_DilMean (hDilMean := hDilMean)
    ∧ quiescent_DilMeanIdeal (hDilMeanIdeal := hDilMeanIdeal)
    ∧ quiescent_DilMeanIdeal_pre_combf_finite (hDilMeanIdeal := hDilMeanIdeal) (hPre_combf_finite := hPre_combf_finite)
    ∧ quiescent_DilMeanRefIdeal (hDilMeanRefIdeal := hDilMeanRefIdeal)
    ∧ quiescent_DilMeanRefIdeal_pre_combf_finite (hDilMeanRefIdeal := hDilMeanRefIdeal) (hPre_combf_finite := hPre_combf_finite)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_NormPre (hNormPre := hNormPre)
    ∧ quiescent_NormPreIdeal (hNormPreIdeal := hNormPreIdeal)
    ∧ quiescent_NormPreRefIdeal (hNormPreRefIdeal := hNormPreRefIdeal)
    ∧ quiescent_MixOut (hMixOut := hMixOut)
    ∧ quiescent_MixOutIdeal (hMixOutIdeal := hMixOutIdeal)
    ∧ quiescent_MixOutFwdRefIdeal (hMixOutFwdRefIdeal := hMixOutFwdRefIdeal)
    ∧ quiescent_FoxGateFwd (hFoxGateFwd := hFoxGateFwd)
    ∧ quiescent_FoxGateFwdIdeal (hFoxGateFwdIdeal := hFoxGateFwdIdeal)
    ∧ quiescent_FoxGateFwdIdeal_pre_gatef_finite (hFoxGateFwdIdeal := hFoxGateFwdIdeal) (hPre_gatef_finite := hPre_gatef_finite)
    ∧ quiescent_FoxGateFwdRefIdeal (hFoxGateFwdRefIdeal := hFoxGateFwdRefIdeal)
    ∧ quiescent_FoxGateFwdRefIdeal_pre_gatef_finite (hFoxGateFwdRefIdeal := hFoxGateFwdRefIdeal) (hPre_gatef_finite := hPre_gatef_finite)
    ∧ preserves_FfnAct_FfnActIdeal
    ∧ algebraic_FfnActIdeal_FfnActRefIdeal_pre_ffn_finite (hFfnActIdeal := hFfnActIdeal) (hFfnActRefIdeal := hFfnActRefIdeal) (hPre_ffn_finite := hPre_ffn_finite)
    ∧ preserves_FoxBwd_FoxBwdIdeal
    ∧ algebraic_FoxBwdIdeal_FoxRefIdeal_pre_fox_finite (hFoxBwdIdeal := hFoxBwdIdeal) (hFoxRefIdeal := hFoxRefIdeal) (hPre_fox_finite := hPre_fox_finite)
    ∧ preserves_FoxGateBwd_FoxGateBwdIdeal
    ∧ algebraic_FoxGateBwdIdeal_FoxGateRefIdeal_pre_gate_finite (hFoxGateBwdIdeal := hFoxGateBwdIdeal) (hFoxGateRefIdeal := hFoxGateRefIdeal) (hPre_gate_finite := hPre_gate_finite)
    ∧ preserves_DilCombine_DilCombineIdeal
    ∧ algebraic_DilCombineIdeal_DilCombineRefIdeal_pre_comb_finite (hDilCombineIdeal := hDilCombineIdeal) (hDilCombineRefIdeal := hDilCombineRefIdeal) (hPre_comb_finite := hPre_comb_finite)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_PostFfnBwd_PostFfnBwdIdeal
    ∧ algebraic_PostFfnBwdIdeal_PostFfnRefIdeal_pre_post_finite (hPostFfnBwdIdeal := hPostFfnBwdIdeal) (hPostFfnRefIdeal := hPostFfnRefIdeal) (hPre_post_finite := hPre_post_finite)
    ∧ preserves_InputBwd_InputBwdIdeal
    ∧ algebraic_InputBwdIdeal_InputBwdRefIdeal_pre_input_finite (hInputBwdIdeal := hInputBwdIdeal) (hInputBwdRefIdeal := hInputBwdRefIdeal) (hPre_input_finite := hPre_input_finite)
    ∧ preserves_MixOutBwd_MixOutBwdIdeal
    ∧ algebraic_MixOutBwdIdeal_MixOutRefIdeal (hMixOutBwdIdeal := hMixOutBwdIdeal) (hMixOutRefIdeal := hMixOutRefIdeal)
    ∧ preserves_FoxFwd_FoxFwdIdeal
    ∧ algebraic_FoxFwdIdeal_FoxFwdRefIdeal_pre_foxf_finite (hFoxFwdIdeal := hFoxFwdIdeal) (hFoxFwdRefIdeal := hFoxFwdRefIdeal) (hPre_foxf_finite := hPre_foxf_finite)
    ∧ preserves_DilMean_DilMeanIdeal
    ∧ algebraic_DilMeanIdeal_DilMeanRefIdeal_pre_combf_finite (hDilMeanIdeal := hDilMeanIdeal) (hDilMeanRefIdeal := hDilMeanRefIdeal) (hPre_combf_finite := hPre_combf_finite)
    ∧ preserves_FfnUp_FfnUpIdeal
    ∧ algebraic_FfnUpIdeal_FfnUpRefIdeal (hFfnUpIdeal := hFfnUpIdeal) (hFfnUpRefIdeal := hFfnUpRefIdeal)
    ∧ preserves_NormPre_NormPreIdeal
    ∧ algebraic_NormPreIdeal_NormPreRefIdeal (hNormPreIdeal := hNormPreIdeal) (hNormPreRefIdeal := hNormPreRefIdeal)
    ∧ preserves_MixOut_MixOutIdeal
    ∧ algebraic_MixOutIdeal_MixOutFwdRefIdeal (hMixOutIdeal := hMixOutIdeal) (hMixOutFwdRefIdeal := hMixOutFwdRefIdeal)
    ∧ preserves_FoxGateFwd_FoxGateFwdIdeal
    ∧ algebraic_FoxGateFwdIdeal_FoxGateFwdRefIdeal_pre_gatef_finite (hFoxGateFwdIdeal := hFoxGateFwdIdeal) (hFoxGateFwdRefIdeal := hFoxGateFwdRefIdeal) (hPre_gatef_finite := hPre_gatef_finite)
-- ==== Pre_comb_finite.lean ====
abbrev S3x2048x4x64 : Shape := ⟨4, ![3, 2048, 4, 64]⟩
abbrev S3x2048x4 : Shape := ⟨3, ![3, 2048, 4]⟩
abbrev S2048x256 : Shape := ⟨2, ![2048, 256]⟩
abbrev S_ : Shape := ⟨0, ![]⟩

class Facts : Prop where
  bcast_S_S3x2048x4x64 : S_.BroadcastsInDim S3x2048x4x64 (![] : Fin 0 → Fin S3x2048x4x64.rank)
  reducesTo_S3x2048x4x64_S_d0_1_2_3 : S3x2048x4x64.ReducesTo [0, 1, 2, 3] S_
  h_S_ : 0 < S_.numel
  bcast_S_S3x2048x4 : S_.BroadcastsInDim S3x2048x4 (![] : Fin 0 → Fin S3x2048x4.rank)
  reducesTo_S3x2048x4_S_d0_1_2 : S3x2048x4.ReducesTo [0, 1, 2] S_
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S3x2048x4x64 .f32) (main_arg1 : FVec F S3x2048x4 .f32) (main_arg2 : FVec F S2048x256 .f32) : IVec S_ 1 :=
  let main_v0 : FVec F S3x2048x4x64 .f32 := Host.absf main_arg0
  let main_cst : FVec F S_ .f32 := constant S_ .f32 0x7F800000#32
  let main_v1 : FVec F S3x2048x4x64 .f32 := broadcastInDim S3x2048x4x64 ![] bcast_S_S3x2048x4x64 main_cst
  let main_v2 : IVec S3x2048x4x64 1 := cmpf .olt main_v0 main_v1
  let main_c : IVec S_ 1 := constantI S_ 1 1#1
  let main_v3 : IVec S_ 1 := (fun x v => Host.reduce IntOp.andi x v reducesTo_S3x2048x4x64_S_d0_1_2_3 h_S_) main_v2 main_c
  let main_v4 : FVec F S3x2048x4 .f32 := Host.absf main_arg1
  let main_cst_0 : FVec F S_ .f32 := constant S_ .f32 0x7F800000#32
  let main_v5 : FVec F S3x2048x4 .f32 := broadcastInDim S3x2048x4 ![] bcast_S_S3x2048x4 main_cst_0
  let main_v6 : IVec S3x2048x4 1 := cmpf .olt main_v4 main_v5
  let main_c_1 : IVec S_ 1 := constantI S_ 1 1#1
  let main_v7 : IVec S_ 1 := (fun x v => Host.reduce IntOp.andi x v reducesTo_S3x2048x4_S_d0_1_2 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  main_v13
-- ==== Pre_combf_finite.lean ====
abbrev S3x2048x4x64 : Shape := ⟨4, ![3, 2048, 4, 64]⟩
abbrev S3x2048x4 : Shape := ⟨3, ![3, 2048, 4]⟩
abbrev S_ : Shape := ⟨0, ![]⟩

class Facts : Prop where
  bcast_S_S3x2048x4x64 : S_.BroadcastsInDim S3x2048x4x64 (![] : Fin 0 → Fin S3x2048x4x64.rank)
  reducesTo_S3x2048x4x64_S_d0_1_2_3 : S3x2048x4x64.ReducesTo [0, 1, 2, 3] S_
  h_S_ : 0 < S_.numel
  bcast_S_S3x2048x4 : S_.BroadcastsInDim S3x2048x4 (![] : Fin 0 → Fin S3x2048x4.rank)
  reducesTo_S3x2048x4_S_d0_1_2 : S3x2048x4.ReducesTo [0, 1, 2] S_

variable [Facts]

def fn {F : FTy → Type} [FloatOps F] (main_arg0 : FVec F S3x2048x4x64 .f32) (main_arg1 : FVec F S3x2048x4 .f32) : IVec S_ 1 :=
  let main_v0 : FVec F S3x2048x4x64 .f32 := Host.absf main_arg0
  let main_cst : FVec F S_ .f32 := constant S_ .f32 0x7F800000#32
  let main_v1 : FVec F S3x2048x4x64 .f32 := broadcastInDim S3x2048x4x64 ![] bcast_S_S3x2048x4x64 main_cst
  let main_v2 : IVec S3x2048x4x64 1 := cmpf .olt main_v0 main_v1
  let main_c : IVec S_ 1 := constantI S_ 1 1#1
  let main_v3 : IVec S_ 1 := (fun x v => Host.reduce IntOp.andi x v reducesTo_S3x2048x4x64_S_d0_1_2_3 h_S_) main_v2 main_c
  let main_v4 : FVec F S3x2048x4 .f32 := Host.absf main_arg1
  let main_cst_0 : FVec F S_ .f32 := constant S_ .f32 0x7F800000#32
  let main_v5 : FVec F S3x2048x4 .f32 := broadcastInDim S3x2048x4 ![] bcast_S_S3x2048x4 main_cst_0
  let main_v6 : IVec S3x2048x4 1 := cmpf .olt main_v4 main_v5
  let main_c_1 : IVec S_ 1 := constantI S_ 1 1#1
  let main_v7 : IVec S_ 1 := (fun x v => Host.reduce IntOp.andi x v reducesTo_S3x2048x4_S_d0_1_2 h_S_) main_v6 main_c_1
  let main_v8 : IVec S_ 1 := andi main_v3 main_v7
  main_v8
-- ==== Pre_ffn_finite.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x2816 .f32) (main_arg1 : FVec F S2048x2816 .f32) (main_arg2 : FVec F S2816x1024 .f32) (main_arg3 : FVec F S2048x1024 .f32) : IVec S_ 1 :=
  let main_v0 : FVec F S2048x2816 .f32 := Host.absf main_arg1
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2816x1024 .f32 := Host.absf main_arg2
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_fox_finite.lean ====
abbrev S2048x512 : Shape := ⟨2, ![2048, 512]⟩
abbrev S8x2048 : Shape := ⟨2, ![8, 2048]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S2048x512 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  main_v23

def fn {F : FTy → Type} [FloatOps F] (main_arg0 : FVec F S2048x512 .f32) (main_arg1 : FVec F S2048x512 .f32) (main_arg2 : FVec F S2048x512 .f32) (main_arg3 : FVec F S8x2048 .f32) (main_arg4 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_v13 main_v16
-- ==== Pre_foxf_finite.lean ====
abbrev S2048x512 : Shape := ⟨2, ![2048, 512]⟩
abbrev S8x2048 : Shape := ⟨2, ![8, 2048]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  main_v18

def fn {F : FTy → Type} [FloatOps F] (main_arg0 : FVec F S2048x512 .f32) (main_arg1 : FVec F S2048x512 .f32) (main_arg2 : FVec F S2048x512 .f32) (main_arg3 : FVec F S8x2048 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_v13 main_v16
-- ==== Pre_gate_finite.lean ====
abbrev S2048x8 : Shape := ⟨2, ![2048, 8]⟩
abbrev S1x8 : Shape := ⟨2, ![1, 8]⟩
abbrev S8x2048 : Shape := ⟨2, ![8, 2048]⟩
abbrev S_ : Shape := ⟨0, ![]⟩

class Facts : Prop where
  bcast_S_S2048x8 : S_.BroadcastsInDim S2048x8 (![] : Fin 0 → Fin S2048x8.rank)
  reducesTo_S2048x8_S_d0_1 : S2048x8.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S2048x8 .f32) (main_arg1 : FVec F S1x8 .f32) (main_arg2 : FVec F S8x2048 .f32) : IVec S_ 1 :=
  let main_v0 : FVec F S2048x8 .f32 := Host.absf main_arg0
  let main_cst : FVec F S_ .f32 := constant S_ .f32 0x7F800000#32
  let main_v1 : FVec F S2048x8 .f32 := broadcastInDim S2048x8 ![] bcast_S_S2048x8 main_cst
  let main_v2 : IVec S2048x8 1 := cmpf .olt main_v0 main_v1
  let main_c : IVec S_ 1 := constantI S_ 1 1#1
  let main_v3 : IVec S_ 1 := (fun x v => Host.reduce IntOp.andi x v reducesTo_S2048x8_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  main_v13
-- ==== Pre_gatef_finite.lean ====
abbrev S2048x8 : Shape := ⟨2, ![2048, 8]⟩
abbrev S1x8 : Shape := ⟨2, ![1, 8]⟩
abbrev S_ : Shape := ⟨0, ![]⟩

class Facts : Prop where
  bcast_S_S2048x8 : S_.BroadcastsInDim S2048x8 (![] : Fin 0 → Fin S2048x8.rank)
  reducesTo_S2048x8_S_d0_1 : S2048x8.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S2048x8 .f32) (main_arg1 : FVec F S1x8 .f32) : IVec S_ 1 :=
  let main_v0 : FVec F S2048x8 .f32 := Host.absf main_arg0
  let main_cst : FVec F S_ .f32 := constant S_ .f32 0x7F800000#32
  let main_v1 : FVec F S2048x8 .f32 := broadcastInDim S2048x8 ![] bcast_S_S2048x8 main_cst
  let main_v2 : IVec S2048x8 1 := cmpf .olt main_v0 main_v1
  let main_c : IVec S_ 1 := constantI S_ 1 1#1
  let main_v3 : IVec S_ 1 := (fun x v => Host.reduce IntOp.andi x v reducesTo_S2048x8_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  main_v8
-- ==== Pre_input_finite.lean ====
abbrev S2048x1024 : Shape := ⟨2, ![2048, 1024]⟩
abbrev S1x1024 : Shape := ⟨2, ![1, 1024]⟩
abbrev S1024x5896 : Shape := ⟨2, ![1024, 5896]⟩
abbrev S2048x5896 : Shape := ⟨2, ![2048, 5896]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5896 : S_.BroadcastsInDim S1024x5896 (![] : Fin 0 → Fin S1024x5896.rank)
  reducesTo_S1024x5896_S_d0_1 : S1024x5896.ReducesTo [0, 1] S_
  bcast_S_S2048x5896 : S_.BroadcastsInDim S2048x5896 (![] : Fin 0 → Fin S2048x5896.rank)
  reducesTo_S2048x5896_S_d0_1 : S2048x5896.ReducesTo [0, 1] S_

variable [Facts]

def fn_part1 {F : FTy → Type} [FloatOps F] (main_arg4 : FVec F S2048x1024 .f32) (main_v13 : IVec S_ 1) (main_v16 : IVec S2048x5896 1) : IVec S_ 1 :=
  let main_c_5 : IVec S_ 1 := constantI S_ 1 1#1
  let main_v17 : IVec S_ 1 := (fun x v => Host.reduce IntOp.andi x v reducesTo_S2048x5896_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S1x1024 .f32) (main_arg2 : FVec F S1024x5896 .f32) (main_arg3 : FVec F S2048x5896 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5896 .f32 := Host.absf main_arg2
  let main_cst_2 : FVec F S_ .f32 := constant S_ .f32 0x7F800000#32
  let main_v10 : FVec F S1024x5896 .f32 := broadcastInDim S1024x5896 ![] bcast_S_S1024x5896 main_cst_2
  let main_v11 : IVec S1024x5896 1 := cmpf .olt main_v9 main_v10
  let main_c_3 : IVec S_ 1 := constantI S_ 1 1#1
  let main_v12 : IVec S_ 1 := (fun x v => Host.reduce IntOp.andi x v reducesTo_S1024x5896_S_d0_1 h_S_) main_v11 main_c_3
  let main_v13 : IVec S_ 1 := andi main_v8 main_v12
  let main_v14 : FVec F S2048x5896 .f32 := Host.absf main_arg3
  let main_cst_4 : FVec F S_ .f32 := constant S_ .f32 0x7F800000#32
  let main_v15 : FVec F S2048x5896 .f32 := broadcastInDim S2048x5896 ![] bcast_S_S2048x5896 main_cst_4
  let main_v16 : IVec S2048x5896 1 := cmpf .olt main_v14 main_v15
  fn_part1 (F := F) main_arg4 main_v13 main_v16
-- ==== Pre_loss_finite.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S2048x2816 .f32) (main_arg1 : FVec F S2816x1024 .f32) (main_arg2 : FVec F S2048x1024 .f32) (main_arg3 : FVec F S2048x1024 .f32) (main_arg4 : FVec F S1x1024 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Pre_post_finite.lean ====
abbrev S2048x1024 : Shape := ⟨2, ![2048, 1024]⟩
abbrev S1x1024 : Shape := ⟨2, ![1, 1024]⟩
abbrev S1024x2816 : Shape := ⟨2, ![1024, 2816]⟩
abbrev S2048x2816 : Shape := ⟨2, ![2048, 2816]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn_part2 {F : FTy → Type} [FloatOps F] (main_arg7 : FVec F S2048x2816 .f32) (main_arg8 : FVec F S2048x2816 .f32) (main_v33 : IVec S_ 1) : IVec S_ 1 :=
  let main_v34 : FVec F S2048x2816 .f32 := Host.absf main_arg7
  let main_cst_12 : FVec F S_ .f32 := constant S_ .f32 0x7F800000#32
  let main_v35 : FVec F S2048x2816 .f32 := broadcastInDim S2048x2816 ![] bcast_S_S2048x2816 main_cst_12
  let main_v36 : IVec S2048x2816 1 := cmpf .olt main_v34 main_v35
  let main_c_13 : IVec S_ 1 := constantI S_ 1 1#1
  let main_v37 : IVec S_ 1 := (fun x v => Host.reduce IntOp.andi x v reducesTo_S2048x2816_S_d0_1 h_S_) main_v36 main_c_13
  let main_v38 : IVec S_ 1 := andi main_v33 main_v37
  let main_v39 : FVec F S2048x2816 .f32 := Host.absf main_arg8
  let main_cst_14 : FVec F S_ .f32 := constant S_ .f32 0x7F800000#32
  let main_v40 : FVec F S2048x2816 .f32 := broadcastInDim S2048x2816 ![] bcast_S_S2048x2816 main_cst_14
  let main_v41 : IVec S2048x2816 1 := cmpf .olt main_v39 main_v40
  let main_c_15 : IVec S_ 1 := constantI S_ 1 1#1
  let main_v42 : IVec S_ 1 := (fun x v => Host.reduce IntOp.andi x v reducesTo_S2048x2816_S_d0_1 h_S_) main_v41 main_c_15
  let main_v43 : IVec S_ 1 := andi main_v38 main_v42
  main_v43

def fn_part1 {F : FTy → Type} [FloatOps F] (main_arg4 : FVec F S1024x2816 .f32) (main_arg5 : FVec F S1024x2816 .f32) (main_arg6 : FVec F S2048x1024 .f32) (main_arg7 : FVec F S2048x2816 .f32) (main_arg8 : FVec F S2048x2816 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_v33

def fn {F : FTy → Type} [FloatOps F] (main_arg0 : FVec F S2048x1024 .f32) (main_arg1 : FVec F S2048x1024 .f32) (main_arg2 : FVec F S1x1024 .f32) (main_arg3 : FVec F S1x1024 .f32) (main_arg4 : FVec F S1024x2816 .f32) (main_arg5 : FVec F S1024x2816 .f32) (main_arg6 : FVec F S2048x1024 .f32) (main_arg7 : FVec F S2048x2816 .f32) (main_arg8 : FVec F S2048x2816 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_v13 main_v16
-- ==== FfnAct.lean ====
abbrev S2048x2816 : Shape := ⟨2, ![2048, 2816]⟩
abbrev S2816x1024 : Shape := ⟨2, ![2816, 1024]⟩
abbrev S2048x1024 : Shape := ⟨2, ![2048, 1024]⟩
abbrev S256x1024 : Shape := ⟨2, ![256, 1024]⟩
abbrev S2048x256 : Shape := ⟨2, ![2048, 256]⟩
abbrev S1024x1024 : Shape := ⟨2, ![1024, 1024]⟩
abbrev S1024x256 : Shape := ⟨2, ![1024, 256]⟩

abbrev nBuf : Space → Nat
  | .hbm => 8
  | .vmem => 11
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x1024, .bf16⟩
  | .hbm, ⟨5, _⟩ => ⟨S2816x1024, .bf16⟩
  | .hbm, ⟨6, _⟩ => ⟨S2048x2816, .bf16⟩
  | .hbm, ⟨7, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnActRefIdeal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .bf16⟩
  | .hbm, ⟨27, _⟩ => ⟨S2048x2816, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== FoxBwd.lean ====
abbrev S2048x512 : Shape := ⟨2, ![2048, 512]⟩
abbrev S8x2048 : Shape := ⟨2, ![8, 2048]⟩
abbrev S_ : Shape := ⟨0, ![]⟩
abbrev S2048x4608 : Shape := ⟨2, ![2048, 4608]⟩
abbrev S2048x128 : Shape := ⟨2, ![2048, 128]⟩
abbrev S2048x6272 : Shape := ⟨2, ![2048, 6272]⟩
abbrev S2048x8x64 : Shape := ⟨3, ![2048, 8, 64]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S2048x8 : Shape := ⟨2, ![2048, 8]⟩
abbrev S16x2048 : Shape := ⟨2, ![16, 2048]⟩
abbrev S4x8x2048 : Shape := ⟨3, ![4, 8, 2048]⟩
abbrev S1x8x2048 : Shape := ⟨3, ![1, 8, 2048]⟩
abbrev S3 : Shape := ⟨1, ![3]⟩
abbrev S256x128 : Shape := ⟨2, ![256, 128]⟩
abbrev S1x128 : Shape := ⟨2, ![1, 128]⟩
abbrev S512x128 : Shape := ⟨2, ![512, 128]⟩
abbrev S512x256 : Shape := ⟨2, ![512, 256]⟩
abbrev S1x256 : Shape := ⟨2, ![1, 256]⟩
abbrev S256x256 : Shape := ⟨2, ![256, 256]⟩
abbrev S256 : Shape := ⟨1, ![256]⟩
abbrev S256x1 : Shape := ⟨2, ![256, 1]⟩
abbrev S1x1x256 : Shape := ⟨3, ![1, 1, 256]⟩
abbrev S512x512 : Shape := ⟨2, ![512, 512]⟩
abbrev S1x512 : Shape := ⟨2, ![1, 512]⟩
abbrev S256x512 : Shape := ⟨2, ![256, 512]⟩
abbrev S1x1x512 : Shape := ⟨3, ![1, 1, 512]⟩
abbrev S512 : Shape := ⟨1, ![512]⟩
abbrev S768x128 : Shape := ⟨2, ![768, 128]⟩
abbrev S512x768 : Shape := ⟨2, ![512, 768]⟩
abbrev S1x768 : Shape := ⟨2, ![1, 768]⟩
abbrev S256x768 : Shape := ⟨2, ![256, 768]⟩
abbrev S1x1x768 : Shape := ⟨3, ![1, 1, 768]⟩
abbrev S768 : Shape := ⟨1, ![768]⟩
abbrev S1024x128 : Shape := ⟨2, ![1024, 128]⟩
abbrev S512x1024 : Shape := ⟨2, ![512, 1024]⟩
abbrev S1x1024 : Shape := ⟨2, ![1, 1024]⟩
abbrev S256x1024 : Shape := ⟨2, ![256, 1024]⟩
abbrev S1x1x1024 : Shape := ⟨3, ![1, 1, 1024]⟩
abbrev S1024 : Shape := ⟨1, ![1024]⟩
abbrev S1280x128 : Shape := ⟨2, ![1280, 128]⟩
abbrev S512x1280 : Shape := ⟨2, ![512, 1280]⟩
abbrev S1x1280 : Shape := ⟨2, ![1, 1280]⟩
abbrev S256x1280 : Shape := ⟨2, ![256, 1280]⟩
abbrev S1x1x1280 : Shape := ⟨3, ![1, 1, 1280]⟩
abbrev S1280 : Shape := ⟨1, ![1280]⟩
abbrev S1536x128 : Shape := ⟨2, ![1536, 128]⟩
abbrev S512x1536 : Shape := ⟨2, ![512, 1536]⟩
abbrev S1x1536 : Shape := ⟨2, ![1, 1536]⟩
abbrev S256x1536 : Shape := ⟨2, ![256, 1536]⟩
abbrev S1x1x1536 : Shape := ⟨3, ![1, 1, 1536]⟩
abbrev S1536 : Shape := ⟨1, ![1536]⟩
abbrev S1792x128 : Shape := ⟨2, ![1792, 128]⟩
abbrev S512x1792 : Shape := ⟨2, ![512, 1792]⟩
abbrev S1x1792 : Shape := ⟨2, ![1, 1792]⟩
abbrev S256x1792 : Shape := ⟨2, ![256, 1792]⟩
abbrev S1x1x1792 : Shape := ⟨3, ![1, 1, 1792]⟩
abbrev S1792 : Shape := ⟨1, ![1792]⟩
abbrev S512x2048 : Shape := ⟨2, ![512, 2048]⟩
abbrev S256x2048 : Shape := ⟨2, ![256, 2048]⟩
abbrev S1x1x2048 : Shape := ⟨3, ![1, 1, 2048]⟩
abbrev S1 : Shape := ⟨1, ![1]⟩
abbrev S4x2x2048 : Shape := ⟨3, ![4, 2, 2048]⟩

abbrev nBuf : Space → Nat
  | .hbm => 61
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048, .f32⟩
  | .hbm, ⟨4, _⟩ => ⟨S2048x512, .f32⟩
  | .hbm, ⟨5, _⟩ => ⟨S_, .f32⟩
  | .hbm, ⟨6, _⟩ => ⟨S2048x4608, .f32⟩
  | .hbm, ⟨7, _⟩ => ⟨S_, .f32⟩
  | .hbm, ⟨8, _⟩ => ⟨S2048x128, .f32⟩
  | .hbm, ⟨9, _⟩ => ⟨S2048x6272, .f32⟩
  | .hbm, ⟨10, _⟩ => ⟨S2048x8x64, .f32⟩
  | .hbm, ⟨11, _⟩ => ⟨S2048x8x64, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x1, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x2048x2048, .i1⟩
  | .hbm, ⟨30, _⟩ => ⟨S_, .f32⟩
  | .hbm, ⟨31, _⟩ => ⟨S_, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048, .f32⟩
  | .hbm, ⟨44, _⟩ => ⟨S8x2048, .f32⟩
  | .hbm, ⟨45, _⟩ => ⟨S2048x8, .f32⟩
  | .hbm, ⟨46, _⟩ => ⟨S2048x8x64, .f32⟩
  | .hbm, ⟨47, _⟩ => ⟨S2048x512, .f32⟩
  | .hbm, ⟨48, _⟩ => ⟨S_, .i32⟩
  | .hbm, ⟨49, _⟩ => ⟨S_, .f32⟩
  | .hbm, ⟨50, _⟩ => ⟨S16x2048, .f32⟩
  | .hbm, ⟨51, _⟩ => ⟨S2048x512, .bf16⟩
  | .hbm, ⟨52, _⟩ => ⟨S_, .bf16⟩
  | .hbm, ⟨53, _⟩ => ⟨S2048x6272, .bf16⟩
  | .hbm, ⟨54, _⟩ => ⟨S2048x6272, .bf16⟩
  | .hbm, ⟨55, _⟩ => ⟨S4x8x2048, .f32⟩
  | .hbm, ⟨56, _⟩ => ⟨S2048x512, .bf16⟩
  | .hbm, ⟨57, _⟩ => ⟨S2048x512, .bf16⟩
  | .hbm, ⟨58, _⟩ => ⟨S2048x512, .bf16⟩
  | .hbm, ⟨59, _⟩ => ⟨S4x2x2048, .f32⟩
  | .hbm, ⟨60, _⟩ => ⟨S8x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S16x2048, .f32⟩
  | .local _ .vmem, ⟨7, _⟩ => ⟨S2048x128, .bf16⟩
  | .local _ .vmem, ⟨8, _⟩ => ⟨S2048x128, .bf16⟩
  | .local _ .vmem, ⟨9, _⟩ => ⟨S2048x128, .f32⟩
  | .local _ .vmem, ⟨10, _⟩ => ⟨S2048x128, .f32⟩
  | .local _ .vmem, ⟨11, _⟩ => ⟨S1x8x2048, .f32⟩
  | .local _ .vmem, ⟨12, _⟩ => ⟨S1x8x2048, .f32⟩
  | .local _ .vmem, ⟨13, _⟩ => ⟨S2048x128, .f32⟩
  | .local _ .vmem, ⟨14, _⟩ => ⟨S2048x128, .f32⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_call1_v0 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def k0_off1 (i : grid0.Coords) (c0_i32 : BitVec 32) : Fin 2 → Nat :=
  let c2_i32 : BitVec 32 := 2#32
  let arg0 : BitVec 32 := BitVec.ofNat 32 (i 0).val
  let v6 : BitVec 32 := Scalar.muli c2_i32 arg0
  let v7 : BitVec 32 := Scalar.addi v6 c0_i32
  let v8 : Index := Scalar.indexCast v7
  let c0_3 : Index := 0#32
  ![v8.toNat, 0]
def k0_mult1 (i : grid0.Coords) : BitVec 32 :=
  let c36_i32 : BitVec 32 := 36#32
  let arg0 : BitVec 32 := BitVec.ofNat 32 (i 0).val
  let v1305 : BitVec 32 := Scalar.addi c36_i32 arg0
  let c128_i32 : BitVec 32 := 128#32
  let v1308 : BitVec 32 := Scalar.muli v1305 c128_i32
  v1308
def k0_mult2 (i : grid0.Coords) : BitVec 32 :=
  let c40_i32 : BitVec 32 := 40#32
  let arg0 : BitVec 32 := BitVec.ofNat 32 (i 0).val
  let v1306 : BitVec 32 := Scalar.addi c40_i32 arg0
  let c128_i32_439 : BitVec 32 := 128#32
  let v1310 : BitVec 32 := Scalar.muli v1306 c128_i32_439
  v1310
def k0_mult3 (i : grid0.Coords) : BitVec 32 :=
  let c44_i32 : BitVec 32 := 44#32
  let arg0 : BitVec 32 := BitVec.ofNat 32 (i 0).val
  let v1307 : BitVec 32 := Scalar.addi c44_i32 arg0
  let c128_i32_440 : BitVec 32 := 128#32
  let v1312 : BitVec 32 := Scalar.muli v1307 c128_i32_440
  v1312
def k0_off2 (i : grid0.Coords) (c36_i32 : BitVec 32) : Fin 2 → Nat :=
  let c0_i32_442 : BitVec 32 := 0#32
  let arg0 : BitVec 32 := BitVec.ofNat 32 (i 0).val
  let v1305 : BitVec 32 := Scalar.addi c36_i32 arg0
  let c128_i32 : BitVec 32 := 128#32
  let v1308 : BitVec 32 := Scalar.muli v1305 c128_i32
  let v1309 : BitVec 32 := v1308
  ![0, v1309.toNat]
def cc0_transform_0 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FoxRefIdeal.lean ====
abbrev S2048x512 : Shape := ⟨2, ![2048, 512]⟩
abbrev S8x2048 : Shape := ⟨2, ![8, 2048]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S8x2048x64 : Shape := ⟨3, ![8, 2048, 64]⟩

abbrev nBuf : Space → Nat
  | .hbm => 121
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048, .f32⟩
  | .hbm, ⟨4, _⟩ => ⟨S2048x512, .f32⟩
  | .hbm, ⟨5, _⟩ => ⟨S2048x8x64, .f32⟩
  | .hbm, ⟨6, _⟩ => ⟨S2048x8x64, .f32⟩
  | .hbm, ⟨7, _⟩ => ⟨S2048x8x64, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x1, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S1x2048x2048, .i1⟩
  | .hbm, ⟨26, _⟩ => ⟨S_, .f32⟩
  | .hbm, ⟨27, _⟩ => ⟨S_, .f32⟩
  | .hbm, ⟨28, _⟩ => ⟨S8x2048x2048, .i1⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .i1⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S_, .f32⟩
  | .hbm, ⟨42, _⟩ => ⟨S8x2048, .f32⟩
  | .hbm, ⟨43, _⟩ => ⟨S8x2048, .f32⟩
  | .hbm, ⟨44, _⟩ => ⟨S_, .f32⟩
  | .hbm, ⟨45, _⟩ => ⟨S8x2048, .f32⟩
  | .hbm, ⟨46, _⟩ => ⟨S8x2048, .i1⟩
  | .hbm, ⟨47, _⟩ => ⟨S_, .f32⟩
  | .hbm, ⟨48, _⟩ => ⟨S8x2048, .f32⟩
  | .hbm, ⟨49, _⟩ => ⟨S8x2048, .i1⟩
  | .hbm, ⟨50, _⟩ => ⟨S_, .f32⟩
  | .hbm, ⟨51, _⟩ => ⟨S8x2048, .f32⟩
  | .hbm, ⟨52, _⟩ => ⟨S_, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S8x2048, .f32⟩
  | .hbm, ⟨57, _⟩ => ⟨S8x2048, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S8x2048x2048, .f32⟩
  | .hbm, ⟨66, _⟩ => ⟨S8x2048x2048, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x64x2048, .f32⟩
  | .hbm, ⟨72, _⟩ => ⟨S2048x8x64, .f32⟩
  | .hbm, ⟨73, _⟩ => ⟨S2048x512, .f32⟩
  | .hbm, ⟨74, _⟩ => ⟨S2048x8x64, .f32⟩
  | .hbm, ⟨75, _⟩ => ⟨S8x64x2048, .f32⟩
  | .hbm, ⟨76, _⟩ => ⟨S8x2048x2048, .f32⟩
  | .hbm, ⟨77, _⟩ => ⟨S8x64x2048, .f32⟩
  | .hbm, ⟨78, _⟩ => ⟨S2048x8x64, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048, .f32⟩
  | .hbm, ⟨84, _⟩ => ⟨S8x2048x1, .f32⟩
  | .hbm, ⟨85, _⟩ => ⟨S8x2048x1, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048, .f32⟩
  | .hbm, ⟨90, _⟩ => ⟨S8x2048x2048, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048x2048, .f32⟩
  | .hbm, ⟨95, _⟩ => ⟨S8x2048x2048, .f32⟩
  | .hbm, ⟨96, _⟩ => ⟨S_, .f32⟩
  | .hbm, ⟨97, _⟩ => ⟨S8x2048, .f32⟩
  | .hbm, ⟨98, _⟩ => ⟨S8x2048x1, .f32⟩
  | .hbm, ⟨99, _⟩ => ⟨S8x2048x2048, .f32⟩
  | .hbm, ⟨100, _⟩ => ⟨S_, .f32⟩
  | .hbm, ⟨101, _⟩ => ⟨S8x2048, .f32⟩
  | .hbm, ⟨102, _⟩ => ⟨S8x1x2048, .f32⟩
  | .hbm, ⟨103, _⟩ => ⟨S_, .f32⟩
  | .hbm, ⟨104, _⟩ => ⟨S8x2048, .f32⟩
  | .hbm, ⟨105, _⟩ => ⟨S_, .f32⟩
  | .hbm, ⟨106, _⟩ => ⟨S8x2048, .f32⟩
  | .hbm, ⟨107, _⟩ => ⟨S8x2048, .f32⟩
  | .hbm, ⟨108, _⟩ => ⟨S_, .f32⟩
  | .hbm, ⟨109, _⟩ => ⟨S8x2048x2048, .f32⟩
  | .hbm, ⟨110, _⟩ => ⟨S8x2048x2048, .f32⟩
  | .hbm, ⟨111, _⟩ => ⟨S8x2048x64, .f32⟩
  | .hbm, ⟨112, _⟩ => ⟨S2048x8x64, .f32⟩
  | .hbm, ⟨113, _⟩ => ⟨S8x2048x64, .f32⟩
  | .hbm, ⟨114, _⟩ => ⟨S2048x8x64, .f32⟩
  | .hbm, ⟨115, _⟩ => ⟨S2048x512, .f32⟩
  | .hbm, ⟨116, _⟩ => ⟨S2048x512, .f32⟩
  | .hbm, ⟨117, _⟩ => ⟨S2048x512, .f32⟩
  | .hbm, ⟨118, _⟩ => ⟨S2048x512, .bf16⟩
  | .hbm, ⟨119, _⟩ => ⟨S2048x512, .bf16⟩
  | .hbm, ⟨120, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== FoxGateBwd.lean ====
abbrev S2048x8 : Shape := ⟨2, ![2048, 8]⟩
abbrev S1x8 : Shape := ⟨2, ![1, 8]⟩
abbrev S8x2048 : Shape := ⟨2, ![8, 2048]⟩
abbrev S_ : Shape := ⟨0, ![]⟩
abbrev S2048x6144 : Shape := ⟨2, ![2048, 6144]⟩
abbrev S2048x120 : Shape := ⟨2, ![2048, 120]⟩
abbrev S2048x6272 : Shape := ⟨2, ![2048, 6272]⟩
abbrev S1x128 : Shape := ⟨2, ![1, 128]⟩
abbrev S16x2048 : Shape := ⟨2, ![16, 2048]⟩
abbrev S2048x128 : Shape := ⟨2, ![2048, 128]⟩
abbrev S128x128 : Shape := ⟨2, ![128, 128]⟩
abbrev S16x1 : Shape := ⟨2, ![16, 1]⟩
abbrev S16x128 : Shape := ⟨2, ![16, 128]⟩
abbrev S112x2048 : Shape := ⟨2, ![112, 2048]⟩
abbrev S128x2048 : Shape := ⟨2, ![128, 2048]⟩
abbrev S128 : Shape := ⟨1, ![128]⟩

abbrev nBuf : Space → Nat
  | .hbm => 20
  | .vmem => 5
  | .smem => 0
  | _ => 0

abbrev bufTy : (tb : Table) → Fin (tcTables nBuf tb) → BufTy
  | .hbm, ⟨0, _⟩ => ⟨S2048x8, .f32⟩
  | .hbm, ⟨1, _⟩ => ⟨S1x8, .f32⟩
  | .hbm, ⟨2, _⟩ => ⟨S8x2048, .f32⟩
  | .hbm, ⟨3, _⟩ => ⟨S_, .f32⟩
  | .hbm, ⟨4, _⟩ => ⟨S2048x6144, .f32⟩
  | .hbm, ⟨5, _⟩ => ⟨S_, .f32⟩
  | .hbm, ⟨6, _⟩ => ⟨S2048x120, .f32⟩
  | .hbm, ⟨7, _⟩ => ⟨S2048x6272, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S16x2048, .f32⟩
  | .hbm, ⟨14, _⟩ => ⟨S_, .bf16⟩
  | .hbm, ⟨15, _⟩ => ⟨S2048x6272, .bf16⟩
  | .hbm, ⟨16, _⟩ => ⟨S2048x6272, .bf16⟩
  | .hbm, ⟨17, _⟩ => ⟨S1x128, .f32⟩
  | .hbm, ⟨18, _⟩ => ⟨S2048x8, .bf16⟩
  | .hbm, ⟨19, _⟩ => ⟨S1x8, .f32⟩
  | .local _ .vmem, ⟨0, _⟩ => ⟨S16x2048, .f32⟩
  | .local _ .vmem, ⟨1, _⟩ => ⟨S2048x128, .f32⟩
  | .local _ .vmem, ⟨2, _⟩ => ⟨S1x128, .f32⟩
  | .local _ .vmem, ⟨3, _⟩ => ⟨S2048x128, .bf16⟩
  | .local _ .vmem, ⟨4, _⟩ => ⟨S1x128, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_c_1 : Ref sig .tc := ⟨.hbm, 11, rfl⟩
abbrev main_call1_v0 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c48_i32 : BitVec 32 := 48#32
  let c0_i32_0 : BitVec 32 := 0#32
  ![c0_i32.toNat, c48_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c48_i32 : BitVec 32 := 48#32
  let c0_i32_0 : BitVec 32 := 0#32
  ![c0_i32.toNat, c48_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FoxGateRefIdeal.lean ====
abbrev S2048x8 : Shape := ⟨2, ![2048, 8]⟩
abbrev S1x8 : Shape := ⟨2, ![1, 8]⟩
abbrev S8x2048 : Shape := ⟨2, ![8, 2048]⟩
abbrev S8 : Shape := ⟨1, ![8]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S1x8, .f32⟩
  | .hbm, ⟨2, _⟩ => ⟨S8x2048, .f32⟩
  | .hbm, ⟨3, _⟩ => ⟨S8, .f32⟩
  | .hbm, ⟨4, _⟩ => ⟨S1x8, .f32⟩
  | .hbm, ⟨5, _⟩ => ⟨S2048x8, .f32⟩
  | .hbm, ⟨6, _⟩ => ⟨S2048x8, .f32⟩
  | .hbm, ⟨7, _⟩ => ⟨S2048x8, .f32⟩
  | .hbm, ⟨8, _⟩ => ⟨S_, .f32⟩
  | .hbm, ⟨9, _⟩ => ⟨S2048x8, .f32⟩
  | .hbm, ⟨10, _⟩ => ⟨S2048x8, .f32⟩
  | .hbm, ⟨11, _⟩ => ⟨S2048x8, .f32⟩
  | .hbm, ⟨12, _⟩ => ⟨S2048x8, .f32⟩
  | .hbm, ⟨13, _⟩ => ⟨S2048x8, .i1⟩
  | .hbm, ⟨14, _⟩ => ⟨S2048x8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S2048x8, .f32⟩
  | .hbm, ⟨24, _⟩ => ⟨S2048x8, .i1⟩
  | .hbm, ⟨25, _⟩ => ⟨S_, .f32⟩
  | .hbm, ⟨26, _⟩ => ⟨S2048x8, .f32⟩
  | .hbm, ⟨27, _⟩ => ⟨S2048x8, .f32⟩
  | .hbm, ⟨28, _⟩ => ⟨S_, .f32⟩
  | .hbm, ⟨29, _⟩ => ⟨S2048x8, .f32⟩
  | .hbm, ⟨30, _⟩ => ⟨S2048x8, .i1⟩
  | .hbm, ⟨31, _⟩ => ⟨S_, .f32⟩
  | .hbm, ⟨32, _⟩ => ⟨S2048x8, .f32⟩
  | .hbm, ⟨33, _⟩ => ⟨S2048x8, .f32⟩
  | .hbm, ⟨34, _⟩ => ⟨S2048x8, .f32⟩
  | .hbm, ⟨35, _⟩ => ⟨S2048x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048x8, .f32⟩
  | .hbm, ⟨44, _⟩ => ⟨S2048x8, .i1⟩
  | .hbm, ⟨45, _⟩ => ⟨S_, .f32⟩
  | .hbm, ⟨46, _⟩ => ⟨S2048x8, .f32⟩
  | .hbm, ⟨47, _⟩ => ⟨S2048x8, .f32⟩
  | .hbm, ⟨48, _⟩ => ⟨S2048x8, .f32⟩
  | .hbm, ⟨49, _⟩ => ⟨S2048x8, .f32⟩
  | .hbm, ⟨50, _⟩ => ⟨S2048x8, .f32⟩
  | .hbm, ⟨51, _⟩ => ⟨S_, .f32⟩
  | .hbm, ⟨52, _⟩ => ⟨S2048x8, .f32⟩
  | .hbm, ⟨53, _⟩ => ⟨S2048x8, .f32⟩
  | .hbm, ⟨54, _⟩ => ⟨S2048x8, .f32⟩
  | .hbm, ⟨55, _⟩ => ⟨S_, .f32⟩
  | .hbm, ⟨56, _⟩ => ⟨S_, .f32⟩
  | .hbm, ⟨57, _⟩ => ⟨S2048x8, .f32⟩
  | .hbm, ⟨58, _⟩ => ⟨S8x2048, .f32⟩
  | .hbm, ⟨59, _⟩ => ⟨S2048x8, .f32⟩
  | .hbm, ⟨60, _⟩ => ⟨S_, .f32⟩
  | .hbm, ⟨61, _⟩ => ⟨S_, .f32⟩
  | .hbm, ⟨62, _⟩ => ⟨S2048x8, .f32⟩
  | .hbm, ⟨63, _⟩ => ⟨S2048x8, .f32⟩
  | .hbm, ⟨64, _⟩ => ⟨S2048x8, .f32⟩
  | .hbm, ⟨65, _⟩ => ⟨S2048x8, .f32⟩
  | .hbm, ⟨66, _⟩ => ⟨S_, .f32⟩
  | .hbm, ⟨67, _⟩ => ⟨S8, .f32⟩
  | .hbm, ⟨68, _⟩ => ⟨S1x8, .f32⟩
  | .hbm, ⟨69, _⟩ => ⟨S_, .f32⟩
  | .hbm, ⟨70, _⟩ => ⟨S8, .f32⟩
  | .hbm, ⟨71, _⟩ => ⟨S1x8, .f32⟩
  | .hbm, ⟨72, _⟩ => ⟨S2048x8, .bf16⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_call0_cst : Ref sig .tc := ⟨.hbm, 60, rfl⟩
abbrev main_call2_call0_v0 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩

abbrev nD : Nat := 1
abbrev τ : Topo := Topo.v7x

variable {F : FTy → Type} [FloatOps F]
-- ==== DilCombine.lean ====
abbrev S3x2048x4x64 : Shape := ⟨4, ![3, 2048, 4, 64]⟩
abbrev S3x2048x4 : Shape := ⟨3, ![3, 2048, 4]⟩
abbrev S2048x256 : Shape := ⟨2, ![2048, 256]⟩
abbrev S2048x3x4 : Shape := ⟨3, ![2048, 3, 4]⟩
abbrev S2048x12 : Shape := ⟨2, ![2048, 12]⟩
abbrev S2048x12x64 : Shape := ⟨3, ![2048, 12, 64]⟩
abbrev S2048x768 : Shape := ⟨2, ![2048, 768]⟩
abbrev S2048x3x4x64 : Shape := ⟨4, ![2048, 3, 4, 64]⟩
abbrev S512x256 : Shape := ⟨2, ![512, 256]⟩
abbrev S512x768 : Shape := ⟨2, ![512, 768]⟩
abbrev S256x256 : Shape := ⟨2, ![256, 256]⟩
abbrev S3x2048x4x1 : Shape := ⟨4, ![3, 2048, 4, 1]⟩
abbrev S_ : Shape := ⟨0, ![]⟩

abbrev nBuf : Space → Nat
  | .hbm => 21
  | .vmem => 18
  | .smem => 0
  | _ => 0

abbrev bufTy : (tb : Table) → Fin (tcTables nBuf tb) → BufTy
  | .hbm, ⟨0, _⟩ => ⟨S3x2048x4x64, .f32⟩
  | .hbm, ⟨1, _⟩ => ⟨S3x2048x4, .f32⟩
  | .hbm, ⟨2, _⟩ => ⟨S2048x256, .f32⟩
  | .hbm, ⟨3, _⟩ => ⟨S2048x3x4, .f32⟩
  | .hbm, ⟨4, _⟩ => ⟨S2048x12, .f32⟩
  | .hbm, ⟨5, _⟩ => ⟨S2048x12x64, .f32⟩
  | .hbm, ⟨6, _⟩ => ⟨S2048x768, .f32⟩
  | .hbm, ⟨7, _⟩ => ⟨S2048x3x4x64, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x3x4x64, .f32⟩
  | .hbm, ⟨12, _⟩ => ⟨S3x2048x4x64, .f32⟩
  | .hbm, ⟨13, _⟩ => ⟨S2048x3x4x64, .f32⟩
  | .hbm, ⟨14, _⟩ => ⟨S3x2048x4x64, .f32⟩
  | .hbm, ⟨15, _⟩ => ⟨S3x2048x4x1, .f32⟩
  | .hbm, ⟨16, _⟩ => ⟨S3x2048x4, .f32⟩
  | .hbm, ⟨17, _⟩ => ⟨S3x2048x4x64, .f32⟩
  | .hbm, ⟨18, _⟩ => ⟨S_, .f32⟩
  | .hbm, ⟨19, _⟩ => ⟨S3x2048x4, .f32⟩
  | .hbm, ⟨20, _⟩ => ⟨S3x2048x4, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | _, _ => ⟨S3x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DilCombineRefIdeal.lean ====
abbrev S3x2048x4x64 : Shape := ⟨4, ![3, 2048, 4, 64]⟩
abbrev S3x2048x4 : Shape := ⟨3, ![3, 2048, 4]⟩
abbrev S2048x256 : Shape := ⟨2, ![2048, 256]⟩
abbrev S_ : Shape := ⟨0, ![]⟩
abbrev S2048x4 : Shape := ⟨2, ![2048, 4]⟩
abbrev S1x2048x4 : Shape := ⟨3, ![1, 2048, 4]⟩
abbrev S3x2048x4x1 : Shape := ⟨4, ![3, 2048, 4, 1]⟩
abbrev S2048x4x64 : Shape := ⟨3, ![2048, 4, 64]⟩

abbrev nBuf : Space → Nat
  | .hbm => 71
  | .vmem => 0
  | .smem => 0
  | _ => 0

abbrev bufTy : (tb : Table) → Fin (tcTables nBuf tb) → BufTy
  | .hbm, ⟨0, _⟩ => ⟨S3x2048x4x64, .f32⟩
  | .hbm, ⟨1, _⟩ => ⟨S3x2048x4, .f32⟩
  | .hbm, ⟨2, _⟩ => ⟨S2048x256, .f32⟩
  | .hbm, ⟨3, _⟩ => ⟨S_, .f32⟩
  | .hbm, ⟨4, _⟩ => ⟨S2048x4, .f32⟩
  | .hbm, ⟨5, _⟩ => ⟨S1x2048x4, .f32⟩
  | .hbm, ⟨6, _⟩ => ⟨S3x2048x4, .f32⟩
  | .hbm, ⟨7, _⟩ => ⟨S3x2048x4, .i1⟩
  | .hbm, ⟨8, _⟩ => ⟨S3x2048x4, .f32⟩
  | .hbm, ⟨9, _⟩ => ⟨S_, .f32⟩
  | .hbm, ⟨10, _⟩ => ⟨S2048x4, .f32⟩
  | .hbm, ⟨11, _⟩ => ⟨S_, .f32⟩
  | .hbm, ⟨12, _⟩ => ⟨S2048x4, .f32⟩
  | .hbm, ⟨13, _⟩ => ⟨S2048x4, .f32⟩
  | .hbm, ⟨14, _⟩ => ⟨S_, .f32⟩
  | .hbm, ⟨15, _⟩ => ⟨S2048x4, .f32⟩
  | .hbm, ⟨16, _⟩ => ⟨S2048x4, .i1⟩
  | .hbm, ⟨17, _⟩ => ⟨S_, .f32⟩
  | .hbm, ⟨18, _⟩ => ⟨S2048x4, .f32⟩
  | .hbm, ⟨19, _⟩ => ⟨S2048x4, .i1⟩
  | .hbm, ⟨20, _⟩ => ⟨S_, .f32⟩
  | .hbm, ⟨21, _⟩ => ⟨S2048x4, .f32⟩
  | .hbm, ⟨22, _⟩ => ⟨S_, .f32⟩
  | .hbm, ⟨23, _⟩ => ⟨S2048x4, .f32⟩
  | .hbm, ⟨24, _⟩ => ⟨S_, .f32⟩
  | .hbm, ⟨25, _⟩ => ⟨S2048x4, .f32⟩
  | .hbm, ⟨26, _⟩ => ⟨S2048x4, .f32⟩
  | .hbm, ⟨27, _⟩ => ⟨S2048x4, .f32⟩
  | .hbm, ⟨28, _⟩ => ⟨S1x2048x4, .f32⟩
  | .hbm, ⟨29, _⟩ => ⟨S3x2048x4, .f32⟩
  | .hbm, ⟨30, _⟩ => ⟨S3x2048x4, .f32⟩
  | .hbm, ⟨31, _⟩ => ⟨S3x2048x4, .f32⟩
  | .hbm, ⟨32, _⟩ => ⟨S_, .f32⟩
  | .hbm, ⟨33, _⟩ => ⟨S2048x4, .f32⟩
  | .hbm, ⟨34, _⟩ => ⟨S1x2048x4, .f32⟩
  | .hbm, ⟨35, _⟩ => ⟨S3x2048x4, .f32⟩
  | .hbm, ⟨36, _⟩ => ⟨S3x2048x4, .f32⟩
  | .hbm, ⟨37, _⟩ => ⟨S1x2048x4, .f32⟩
  | .hbm, ⟨38, _⟩ => ⟨S_, .f32⟩
  | .hbm, ⟨39, _⟩ => ⟨S1x2048x4, .f32⟩
  | .hbm, ⟨40, _⟩ => ⟨S1x2048x4, .f32⟩
  | .hbm, ⟨41, _⟩ => ⟨S3x2048x4x1, .f32⟩
  | .hbm, ⟨42, _⟩ => ⟨S3x2048x4x64, .f32⟩
  | .hbm, ⟨43, _⟩ => ⟨S3x2048x4x64, .f32⟩
  | .hbm, ⟨44, _⟩ => ⟨S_, .f32⟩
  | .hbm, ⟨45, _⟩ => ⟨S2048x4x64, .f32⟩
  | .hbm, ⟨46, _⟩ => ⟨S2048x256, .f32⟩
  | .hbm, ⟨47, _⟩ => ⟨S2048x4x64, .f32⟩
  | .hbm, ⟨48, _⟩ => ⟨S3x2048x4x64, .f32⟩
  | .hbm, ⟨49, _⟩ => ⟨S3x2048x4x64, .f32⟩
  | .hbm, ⟨50, _⟩ => ⟨S3x2048x4x64, .f32⟩
  | .hbm, ⟨51, _⟩ => ⟨S3x2048x4x64, .f32⟩
  | .hbm, ⟨52, _⟩ => ⟨S_, .f32⟩
  | .hbm, ⟨53, _⟩ => ⟨S3x2048x4, .f32⟩
  | .hbm, ⟨54, _⟩ => ⟨S3x2048x4x1, .f32⟩
  | .hbm, ⟨55, _⟩ => ⟨S_, .f32⟩
  | .hbm, ⟨56, _⟩ => ⟨S3x2048x4, .f32⟩
  | .hbm, ⟨57, _⟩ => ⟨S3x2048x4, .f32⟩
  | .hbm, ⟨58, _⟩ => ⟨S3x2048x4, .f32⟩
  | .hbm, ⟨59, _⟩ => ⟨S3x2048x4, .f32⟩
  | .hbm, ⟨60, _⟩ => ⟨S_, .f32⟩
  | .hbm, ⟨61, _⟩ => ⟨S2048x4, .f32⟩
  | .hbm, ⟨62, _⟩ => ⟨S1x2048x4, .f32⟩
  | .hbm, ⟨63, _⟩ => ⟨S1x2048x4, .f32⟩
  | .hbm, ⟨64, _⟩ => ⟨S3x2048x4, .f32⟩
  | .hbm, ⟨65, _⟩ => ⟨S3x2048x4, .f32⟩
  | .hbm, ⟨66, _⟩ => ⟨S_, .f32⟩
  | .hbm, ⟨67, _⟩ => ⟨S2048x4, .f32⟩
  | .hbm, ⟨68, _⟩ => ⟨S3x2048x4, .f32⟩
  | .hbm, ⟨69, _⟩ => ⟨S3x2048x4, .f32⟩
  | .hbm, ⟨70, _⟩ => ⟨S3x2048x4, .f32⟩
  | _, _ => ⟨S3x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_12 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== LossHead.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x2816, .bf16⟩
  | .hbm, ⟨6, _⟩ => ⟨S2816x1024, .bf16⟩
  | .hbm, ⟨7, _⟩ => ⟨S2048x1024, .f32⟩
  | .hbm, ⟨8, _⟩ => ⟨S2048x1024, .bf16⟩
  | .hbm, ⟨9, _⟩ => ⟨S1x128, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_24 : BitVec 32 := 0#32
  let v63 : BitVec 1 := Scalar.cmpi .ne v62 c0_i32_24
  v63

def k0_cond2 (i : grid0.Coords) : BitVec 1 :=
  let arg0 : BitVec 32 := BitVec.ofNat 32 (i 0).val
  let c0_i32 : BitVec 32 := 0#32
  let v61 : BitVec 1 := Scalar.cmpi .eq arg0 c0_i32
  let v_true : BitVec 1 := 1#1
  let v64 : BitVec 1 := Scalar.xori v61 v_true
  let v65 : BitVec 32 := Scalar.extui v64
  let c0_i32_25 : BitVec 32 := 0#32
  let v66 : BitVec 1 := Scalar.cmpi .ne v65 c0_i32_25
  v66

def k0_cond3 (i : grid0.Coords) : BitVec 1 :=
  let arg0 : BitVec 32 := BitVec.ofNat 32 (i 0).val
  let c0_i32 : BitVec 32 := 0#32
  let v61 : BitVec 1 := Scalar.cmpi .eq arg0 c0_i32
  let v67 : BitVec 32 := Scalar.extui v61
  let c0_i32_26 : BitVec 32 := 0#32
  let v68 : BitVec 1 := Scalar.cmpi .ne v67 c0_i32_26
  v68

def k0_cond4 (i : grid0.Coords) : BitVec 1 :=
  let arg0 : BitVec 32 := BitVec.ofNat 32 (i 0).val
  let c0_i32 : BitVec 32 := 0#32
  let v61 : BitVec 1 := Scalar.cmpi .eq arg0 c0_i32
  let true_27 : BitVec 1 := 1#1
  let v69 : BitVec 1 := Scalar.xori v61 true_27
  let v70 : BitVec 32 := Scalar.extui v69
  let c0_i32_28 : BitVec 32 := 0#32
  let v71 : BitVec 1 := Scalar.cmpi .ne v70 c0_i32_28
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossHeadRefIdeal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S1x1024, .f32⟩
  | .hbm, ⟨77, _⟩ => ⟨S2048x1024, .bf16⟩
  | .hbm, ⟨78, _⟩ => ⟨S1x128, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== PostFfnBwd.lean ====
abbrev S2048x1024 : Shape := ⟨2, ![2048, 1024]⟩
abbrev S1x1024 : Shape := ⟨2, ![1, 1024]⟩
abbrev S1024x2816 : Shape := ⟨2, ![1024, 2816]⟩
abbrev S2048x2816 : Shape := ⟨2, ![2048, 2816]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 37
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2048x1024, .f32⟩
  | .hbm, ⟨7, _⟩ => ⟨S2048x2816, .f32⟩
  | .hbm, ⟨8, _⟩ => ⟨S2048x2816, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x2816, .bf16⟩
  | .hbm, ⟨28, _⟩ => ⟨S2816x1024, .f32⟩
  | .hbm, ⟨29, _⟩ => ⟨S2816x1024, .bf16⟩
  | .hbm, ⟨30, _⟩ => ⟨S2048x2816, .bf16⟩
  | .hbm, ⟨31, _⟩ => ⟨S2816x1024, .f32⟩
  | .hbm, ⟨32, _⟩ => ⟨S2816x1024, .bf16⟩
  | .hbm, ⟨33, _⟩ => ⟨S2048x1024, .f32⟩
  | .hbm, ⟨34, _⟩ => ⟨S2048x1024, .bf16⟩
  | .hbm, ⟨35, _⟩ => ⟨S1x1024, .f32⟩
  | .hbm, ⟨36, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v83 : BitVec 1 := Scalar.cmpi .eq arg0 c0_i32
  let v84 : BitVec 32 := Scalar.extui v83
  let c0_i32_34 : BitVec 32 := 0#32
  let v85 : BitVec 1 := Scalar.cmpi .ne v84 c0_i32_34
  v85

def k0_cond2 (i : grid0.Coords) : BitVec 1 :=
  let arg0 : BitVec 32 := BitVec.ofNat 32 (i 0).val
  let c0_i32 : BitVec 32 := 0#32
  let v83 : BitVec 1 := Scalar.cmpi .eq arg0 c0_i32
  let v_true : BitVec 1 := 1#1
  let v86 : BitVec 1 := Scalar.xori v83 v_true
  let v87 : BitVec 32 := Scalar.extui v86
  let c0_i32_35 : BitVec 32 := 0#32
  let v88 : BitVec 1 := Scalar.cmpi .ne v87 c0_i32_35
  v88

def k0_cond3 (i : grid0.Coords) : BitVec 1 :=
  let arg0 : BitVec 32 := BitVec.ofNat 32 (i 0).val
  let c0_i32 : BitVec 32 := 0#32
  let v83 : BitVec 1 := Scalar.cmpi .eq arg0 c0_i32
  let v89 : BitVec 32 := Scalar.extui v83
  let c0_i32_36 : BitVec 32 := 0#32
  let v90 : BitVec 1 := Scalar.cmpi .ne v89 c0_i32_36
  v90

def k0_cond4 (i : grid0.Coords) : BitVec 1 :=
  let arg0 : BitVec 32 := BitVec.ofNat 32 (i 0).val
  let c0_i32 : BitVec 32 := 0#32
  let v83 : BitVec 1 := Scalar.cmpi .eq arg0 c0_i32
  let true_37 : BitVec 1 := 1#1
  let v91 : BitVec 1 := Scalar.xori v83 true_37
  let v92 : BitVec 32 := Scalar.extui v91
  let c0_i32_38 : BitVec 32 := 0#32
  let v93 : BitVec 1 := Scalar.cmpi .ne v92 c0_i32_38
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PostFfnRefIdeal.lean ====
abbrev S2048x1024 : Shape := ⟨2, ![2048, 1024]⟩
abbrev S1x1024 : Shape := ⟨2, ![1, 1024]⟩
abbrev S1024x2816 : Shape := ⟨2, ![1024, 2816]⟩
abbrev S2048x2816 : Shape := ⟨2, ![2048, 2816]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 112
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2048x1024, .f32⟩
  | .hbm, ⟨7, _⟩ => ⟨S2048x2816, .f32⟩
  | .hbm, ⟨8, _⟩ => ⟨S2048x2816, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x2816, .f32⟩
  | .hbm, ⟨53, _⟩ => ⟨S2048x2816, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S1x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S2048x1024, .f32⟩
  | .hbm, ⟨90, _⟩ => ⟨S2048x1024, .f32⟩
  | .hbm, ⟨91, _⟩ => ⟨S_, .f32⟩
  | .hbm, ⟨92, _⟩ => ⟨S1024, .f32⟩
  | .hbm, ⟨93, _⟩ => ⟨S2048x1024, .f32⟩
  | .hbm, ⟨94, _⟩ => ⟨S_, .f32⟩
  | .hbm, ⟨95, _⟩ => ⟨S2048, .f32⟩
  | .hbm, ⟨96, _⟩ => ⟨S2048x1, .f32⟩
  | .hbm, ⟨97, _⟩ => ⟨S2048x1024, .f32⟩
  | .hbm, ⟨98, _⟩ => ⟨S2048x1024, .f32⟩
  | .hbm, ⟨99, _⟩ => ⟨S2048x1, .f32⟩
  | .hbm, ⟨100, _⟩ => ⟨S_, .f32⟩
  | .hbm, ⟨101, _⟩ => ⟨S2048x1, .f32⟩
  | .hbm, ⟨102, _⟩ => ⟨S2048x1, .f32⟩
  | .hbm, ⟨103, _⟩ => ⟨S_, .f32⟩
  | .hbm, ⟨104, _⟩ => ⟨S2048, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S1x1024, .f32⟩
  | .hbm, ⟨111, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== InputBwd.lean ====
abbrev S2048x1024 : Shape := ⟨2, ![2048, 1024]⟩
abbrev S1x1024 : Shape := ⟨2, ![1, 1024]⟩
abbrev S1024x5896 : Shape := ⟨2, ![1024, 5896]⟩
abbrev S2048x5896 : Shape := ⟨2, ![2048, 5896]⟩
abbrev S2048x2048 : Shape := ⟨2, ![2048, 2048]⟩
abbrev S_ : Shape := ⟨0, ![]⟩
abbrev S2048x256 : Shape := ⟨2, ![2048, 256]⟩
abbrev S2048x3848 : Shape := ⟨2, ![2048, 3848]⟩
abbrev S2048x120 : Shape := ⟨2, ![2048, 120]⟩
abbrev S2048x6272 : Shape := ⟨2, ![2048, 6272]⟩
abbrev S1024x2048 : Shape := ⟨2, ![1024, 2048]⟩
abbrev S1024x256 : Shape := ⟨2, ![1024, 256]⟩
abbrev S1024x3848 : Shape := ⟨2, ![1024, 3848]⟩
abbrev S1024x120 : Shape := ⟨2, ![1024, 120]⟩
abbrev S1024x6272 : Shape := ⟨2, ![1024, 6272]⟩
abbrev S6272x1024 : Shape := ⟨2, ![6272, 1024]⟩
abbrev S512x6272 : Shape := ⟨2, ![512, 6272]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5896, .f32⟩
  | .hbm, ⟨3, _⟩ => ⟨S2048x5896, .f32⟩
  | .hbm, ⟨4, _⟩ => ⟨S2048x1024, .f32⟩
  | .hbm, ⟨5, _⟩ => ⟨S2048x2048, .f32⟩
  | .hbm, ⟨6, _⟩ => ⟨S_, .f32⟩
  | .hbm, ⟨7, _⟩ => ⟨S2048x256, .f32⟩
  | .hbm, ⟨8, _⟩ => ⟨S2048x3848, .f32⟩
  | .hbm, ⟨9, _⟩ => ⟨S_, .f32⟩
  | .hbm, ⟨10, _⟩ => ⟨S2048x120, .f32⟩
  | .hbm, ⟨11, _⟩ => ⟨S2048x6272, .f32⟩
  | .hbm, ⟨12, _⟩ => ⟨S2048x6272, .bf16⟩
  | .hbm, ⟨13, _⟩ => ⟨S1024x2048, .f32⟩
  | .hbm, ⟨14, _⟩ => ⟨S_, .f32⟩
  | .hbm, ⟨15, _⟩ => ⟨S1024x256, .f32⟩
  | .hbm, ⟨16, _⟩ => ⟨S1024x3848, .f32⟩
  | .hbm, ⟨17, _⟩ => ⟨S_, .f32⟩
  | .hbm, ⟨18, _⟩ => ⟨S1024x120, .f32⟩
  | .hbm, ⟨19, _⟩ => ⟨S1024x6272, .f32⟩
  | .hbm, ⟨20, _⟩ => ⟨S6272x1024, .f32⟩
  | .hbm, ⟨21, _⟩ => ⟨S6272x1024, .bf16⟩
  | .hbm, ⟨22, _⟩ => ⟨S2048x1024, .f32⟩
  | .hbm, ⟨23, _⟩ => ⟨S1x1024, .f32⟩
  | .local _ .vmem, ⟨0, _⟩ => ⟨S512x6272, .bf16⟩
  | .local _ .vmem, ⟨1, _⟩ => ⟨S512x6272, .bf16⟩
  | .local _ .vmem, ⟨2, _⟩ => ⟨S6272x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_17 : BitVec 32 := 0#32
  let v43 : BitVec 1 := Scalar.cmpi .ne v42 c0_i32_17
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_18 : BitVec 32 := 0#32
  let v46 : BitVec 1 := Scalar.cmpi .ne v45 c0_i32_18
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6272x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InputBwdRefIdeal.lean ====
abbrev S2048x1024 : Shape := ⟨2, ![2048, 1024]⟩
abbrev S1x1024 : Shape := ⟨2, ![1, 1024]⟩
abbrev S1024x5896 : Shape := ⟨2, ![1024, 5896]⟩
abbrev S2048x5896 : Shape := ⟨2, ![2048, 5896]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5896, .f32⟩
  | .hbm, ⟨3, _⟩ => ⟨S2048x5896, .f32⟩
  | .hbm, ⟨4, _⟩ => ⟨S2048x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x5896, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MixOutBwd.lean ====
abbrev S2048x256 : Shape := ⟨2, ![2048, 256]⟩
abbrev S2048x512 : Shape := ⟨2, ![2048, 512]⟩
abbrev S2048x1024 : Shape := ⟨2, ![2048, 1024]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S2048x4224 : Shape := ⟨2, ![2048, 4224]⟩
abbrev S2048x6272 : Shape := ⟨2, ![2048, 6272]⟩
abbrev S256x8x128 : Shape := ⟨3, ![256, 8, 128]⟩
abbrev S8x256x128 : Shape := ⟨3, ![8, 256, 128]⟩
abbrev S512x8x128 : Shape := ⟨3, ![512, 8, 128]⟩
abbrev S8x512x128 : Shape := ⟨3, ![8, 512, 128]⟩
abbrev S512x256 : Shape := ⟨2, ![512, 256]⟩
abbrev S512x512 : Shape := ⟨2, ![512, 512]⟩
abbrev S512x2304 : Shape := ⟨2, ![512, 2304]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩

abbrev nBuf : Space → Nat
  | .hbm => 26
  | .vmem => 23
  | .smem => 0
  | _ => 0

abbrev bufTy : (tb : Table) → Fin (tcTables nBuf tb) → BufTy
  | .hbm, ⟨0, _⟩ => ⟨S2048x256, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S256x1024, .f32⟩
  | .hbm, ⟨5, _⟩ => ⟨S512x1024, .f32⟩
  | .hbm, ⟨6, _⟩ => ⟨S1024x1024, .f32⟩
  | .hbm, ⟨7, _⟩ => ⟨S2048x1024, .f32⟩
  | .hbm, ⟨8, _⟩ => ⟨S_, .f32⟩
  | .hbm, ⟨9, _⟩ => ⟨S2048x4224, .f32⟩
  | .hbm, ⟨10, _⟩ => ⟨S2048x6272, .f32⟩
  | .hbm, ⟨11, _⟩ => ⟨S2048x1024, .bf16⟩
  | .hbm, ⟨12, _⟩ => ⟨S256x8x128, .f32⟩
  | .hbm, ⟨13, _⟩ => ⟨S8x256x128, .f32⟩
  | .hbm, ⟨14, _⟩ => ⟨S8x256x128, .bf16⟩
  | .hbm, ⟨15, _⟩ => ⟨S512x8x128, .f32⟩
  | .hbm, ⟨16, _⟩ => ⟨S8x512x128, .f32⟩
  | .hbm, ⟨17, _⟩ => ⟨S8x512x128, .bf16⟩
  | .hbm, ⟨18, _⟩ => ⟨S1024x1024, .bf16⟩
  | .hbm, ⟨19, _⟩ => ⟨S2048x6272, .bf16⟩
  | .hbm, ⟨20, _⟩ => ⟨S2048x1024, .bf16⟩
  | .hbm, ⟨21, _⟩ => ⟨S2048x1024, .bf16⟩
  | .hbm, ⟨22, _⟩ => ⟨S2048x256, .f32⟩
  | .hbm, ⟨23, _⟩ => ⟨S2048x512, .bf16⟩
  | .hbm, ⟨24, _⟩ => ⟨S2048x1024, .bf16⟩
  | .hbm, ⟨25, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x256x128, .bf16⟩
  | .local _ .vmem, ⟨11, _⟩ => ⟨S8x512x128, .bf16⟩
  | .local _ .vmem, ⟨12, _⟩ => ⟨S1024x1024, .bf16⟩
  | .local _ .vmem, ⟨13, _⟩ => ⟨S512x2304, .bf16⟩
  | .local _ .vmem, ⟨14, _⟩ => ⟨S512x2304, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x256, .f32⟩
  | .local _ .vmem, ⟨20, _⟩ => ⟨S512x256, .f32⟩
  | .local _ .vmem, ⟨21, _⟩ => ⟨S512x512, .bf16⟩
  | .local _ .vmem, ⟨22, _⟩ => ⟨S512x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2304 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixOutRefIdeal.lean ====
abbrev S2048x256 : Shape := ⟨2, ![2048, 256]⟩
abbrev S2048x512 : Shape := ⟨2, ![2048, 512]⟩
abbrev S2048x1024 : Shape := ⟨2, ![2048, 1024]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S256x1024, .f32⟩
  | .hbm, ⟨5, _⟩ => ⟨S512x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | .hbm, ⟨46, _⟩ => ⟨S2048x1024, .bf16⟩
  | .hbm, ⟨47, _⟩ => ⟨S2048x1024, .bf16⟩
  | .hbm, ⟨48, _⟩ => ⟨S2048x1024, .bf16⟩
  | .hbm, ⟨49, _⟩ => ⟨S2048x256, .f32⟩
  | .hbm, ⟨50, _⟩ => ⟨S2048x512, .f32⟩
  | .hbm, ⟨51, _⟩ => ⟨S2048x512, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== FoxFwd.lean ====
abbrev S2048x512 : Shape := ⟨2, ![2048, 512]⟩
abbrev S8x2048 : Shape := ⟨2, ![8, 2048]⟩
abbrev S_ : Shape := ⟨0, ![]⟩
abbrev S2048x4608 : Shape := ⟨2, ![2048, 4608]⟩
abbrev S2048x128 : Shape := ⟨2, ![2048, 128]⟩
abbrev S2048x6272 : Shape := ⟨2, ![2048, 6272]⟩
abbrev S16x2048 : Shape := ⟨2, ![16, 2048]⟩
abbrev S1x128 : Shape := ⟨2, ![1, 128]⟩
abbrev S1x2048 : Shape := ⟨2, ![1, 2048]⟩
abbrev S256x128 : Shape := ⟨2, ![256, 128]⟩
abbrev S512x128 : Shape := ⟨2, ![512, 128]⟩
abbrev S512x256 : Shape := ⟨2, ![512, 256]⟩
abbrev S1x256 : Shape := ⟨2, ![1, 256]⟩
abbrev S256x256 : Shape := ⟨2, ![256, 256]⟩
abbrev S256 : Shape := ⟨1, ![256]⟩
abbrev S256x1 : Shape := ⟨2, ![256, 1]⟩
abbrev S512x512 : Shape := ⟨2, ![512, 512]⟩
abbrev S1x512 : Shape := ⟨2, ![1, 512]⟩
abbrev S256x512 : Shape := ⟨2, ![256, 512]⟩
abbrev S768x128 : Shape := ⟨2, ![768, 128]⟩
abbrev S512x768 : Shape := ⟨2, ![512, 768]⟩
abbrev S1x768 : Shape := ⟨2, ![1, 768]⟩
abbrev S256x768 : Shape := ⟨2, ![256, 768]⟩
abbrev S1024x128 : Shape := ⟨2, ![1024, 128]⟩
abbrev S512x1024 : Shape := ⟨2, ![512, 1024]⟩
abbrev S1x1024 : Shape := ⟨2, ![1, 1024]⟩
abbrev S256x1024 : Shape := ⟨2, ![256, 1024]⟩
abbrev S1280x128 : Shape := ⟨2, ![1280, 128]⟩
abbrev S512x1280 : Shape := ⟨2, ![512, 1280]⟩
abbrev S1x1280 : Shape := ⟨2, ![1, 1280]⟩
abbrev S256x1280 : Shape := ⟨2, ![256, 1280]⟩
abbrev S1536x128 : Shape := ⟨2, ![1536, 128]⟩
abbrev S512x1536 : Shape := ⟨2, ![512, 1536]⟩
abbrev S1x1536 : Shape := ⟨2, ![1, 1536]⟩
abbrev S256x1536 : Shape := ⟨2, ![256, 1536]⟩
abbrev S1792x128 : Shape := ⟨2, ![1792, 128]⟩
abbrev S512x1792 : Shape := ⟨2, ![512, 1792]⟩
abbrev S1x1792 : Shape := ⟨2, ![1, 1792]⟩
abbrev S256x1792 : Shape := ⟨2, ![256, 1792]⟩
abbrev S512x2048 : Shape := ⟨2, ![512, 2048]⟩
abbrev S256x2048 : Shape := ⟨2, ![256, 2048]⟩

abbrev nBuf : Space → Nat
  | .hbm => 14
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048, .f32⟩
  | .hbm, ⟨4, _⟩ => ⟨S_, .f32⟩
  | .hbm, ⟨5, _⟩ => ⟨S2048x4608, .f32⟩
  | .hbm, ⟨6, _⟩ => ⟨S_, .f32⟩
  | .hbm, ⟨7, _⟩ => ⟨S2048x128, .f32⟩
  | .hbm, ⟨8, _⟩ => ⟨S2048x6272, .f32⟩
  | .hbm, ⟨9, _⟩ => ⟨S_, .i32⟩
  | .hbm, ⟨10, _⟩ => ⟨S_, .f32⟩
  | .hbm, ⟨11, _⟩ => ⟨S16x2048, .f32⟩
  | .hbm, ⟨12, _⟩ => ⟨S2048x512, .f32⟩
  | .hbm, ⟨13, _⟩ => ⟨S2048x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S16x2048, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def k0_off1 (i : grid0.Coords) (c0_i32 : BitVec 32) : Fin 2 → Nat :=
  let c2_i32 : BitVec 32 := 2#32
  let arg0 : BitVec 32 := BitVec.ofNat 32 (i 0).val
  let v9 : BitVec 32 := Scalar.muli c2_i32 arg0
  let v10 : BitVec 32 := Scalar.addi v9 c0_i32
  let v11 : Index := Scalar.indexCast v10
  let c0_3 : Index := 0#32
  ![v11.toNat, 0]
def cc0_transform_0 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FoxFwdIdeal.lean ====
variable {F : FTy → Type} [FloatOps F] [Named F]
def κ : String → Option EReal := fun
  | "masked" => some ⊥
  | _ => none
-- ==== FoxFwdRefIdeal.lean ====
abbrev S2048x512 : Shape := ⟨2, ![2048, 512]⟩
abbrev S8x2048 : Shape := ⟨2, ![8, 2048]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S2048x8 : Shape := ⟨2, ![2048, 8]⟩

abbrev nBuf : Space → Nat
  | .hbm => 85
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048, .f32⟩
  | .hbm, ⟨4, _⟩ => ⟨S2048x8x64, .f32⟩
  | .hbm, ⟨5, _⟩ => ⟨S2048x8x64, .f32⟩
  | .hbm, ⟨6, _⟩ => ⟨S2048x8x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S8x2048x1, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S1x2048x2048, .i1⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x64x2048, .f32⟩
  | .hbm, ⟨45, _⟩ => ⟨S2048x8x64, .f32⟩
  | .hbm, ⟨46, _⟩ => ⟨S2048x512, .f32⟩
  | .hbm, ⟨47, _⟩ => ⟨S2048x8x64, .f32⟩
  | .hbm, ⟨48, _⟩ => ⟨S2048x8x64, .f32⟩
  | .hbm, ⟨49, _⟩ => ⟨S8x2048x2048, .f32⟩
  | .hbm, ⟨50, _⟩ => ⟨S_, .f32⟩
  | .hbm, ⟨51, _⟩ => ⟨S8x2048x2048, .f32⟩
  | .hbm, ⟨52, _⟩ => ⟨S8x2048x2048, .f32⟩
  | .hbm, ⟨53, _⟩ => ⟨S8x2048x1, .f32⟩
  | .hbm, ⟨54, _⟩ => ⟨S8x1x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S2048, .i32⟩
  | .hbm, ⟨60, _⟩ => ⟨S2048x1, .i32⟩
  | .hbm, ⟨61, _⟩ => ⟨S2048, .i32⟩
  | .hbm, ⟨62, _⟩ => ⟨S1x2048, .i32⟩
  | .hbm, ⟨63, _⟩ => ⟨S2048x2048, .i32⟩
  | .hbm, ⟨64, _⟩ => ⟨S2048x2048, .i32⟩
  | .hbm, ⟨65, _⟩ => ⟨S2048x2048, .i1⟩
  | .hbm, ⟨66, _⟩ => ⟨S1x2048x2048, .i1⟩
  | .hbm, ⟨67, _⟩ => ⟨S_, .f32⟩
  | .hbm, ⟨68, _⟩ => ⟨S_, .f32⟩
  | .hbm, ⟨69, _⟩ => ⟨S8x2048x2048, .i1⟩
  | .hbm, ⟨70, _⟩ => ⟨S8x2048x2048, .f32⟩
  | .hbm, ⟨71, _⟩ => ⟨S8x2048x2048, .f32⟩
  | .hbm, ⟨72, _⟩ => ⟨S_, .f32⟩
  | .hbm, ⟨73, _⟩ => ⟨S8x2048, .f32⟩
  | .hbm, ⟨74, _⟩ => ⟨S8x2048x1, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048, .f32⟩
  | .hbm, ⟨80, _⟩ => ⟨S8x2048, .f32⟩
  | .hbm, ⟨81, _⟩ => ⟨S8x2048, .f32⟩
  | .hbm, ⟨82, _⟩ => ⟨S2048x8, .f32⟩
  | .hbm, ⟨83, _⟩ => ⟨S2048x8x64, .f32⟩
  | .hbm, ⟨84, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== DilMean.lean ====
abbrev S3x2048x4x64 : Shape := ⟨4, ![3, 2048, 4, 64]⟩
abbrev S3x2048x4 : Shape := ⟨3, ![3, 2048, 4]⟩
abbrev S2048x3x4 : Shape := ⟨3, ![2048, 3, 4]⟩
abbrev S2048x12 : Shape := ⟨2, ![2048, 12]⟩
abbrev S2048x12x64 : Shape := ⟨3, ![2048, 12, 64]⟩
abbrev S2048x768 : Shape := ⟨2, ![2048, 768]⟩
abbrev S2048x3x4x64 : Shape := ⟨4, ![2048, 3, 4, 64]⟩
abbrev S2048x256 : Shape := ⟨2, ![2048, 256]⟩
abbrev S512x256 : Shape := ⟨2, ![512, 256]⟩

abbrev nBuf : Space → Nat
  | .hbm => 9
  | .vmem => 14
  | .smem => 0
  | _ => 0

abbrev bufTy : (tb : Table) → Fin (tcTables nBuf tb) → BufTy
  | .hbm, ⟨0, _⟩ => ⟨S3x2048x4x64, .f32⟩
  | .hbm, ⟨1, _⟩ => ⟨S3x2048x4, .f32⟩
  | .hbm, ⟨2, _⟩ => ⟨S2048x3x4, .f32⟩
  | .hbm, ⟨3, _⟩ => ⟨S2048x12, .f32⟩
  | .hbm, ⟨4, _⟩ => ⟨S2048x12x64, .f32⟩
  | .hbm, ⟨5, _⟩ => ⟨S2048x768, .f32⟩
  | .hbm, ⟨6, _⟩ => ⟨S2048x3x4x64, .f32⟩
  | .hbm, ⟨7, _⟩ => ⟨S2048x768, .f32⟩
  | .hbm, ⟨8, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S3x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DilMeanRefIdeal.lean ====
abbrev S3x2048x4x64 : Shape := ⟨4, ![3, 2048, 4, 64]⟩
abbrev S3x2048x4 : Shape := ⟨3, ![3, 2048, 4]⟩
abbrev S_ : Shape := ⟨0, ![]⟩
abbrev S2048x4 : Shape := ⟨2, ![2048, 4]⟩
abbrev S1x2048x4 : Shape := ⟨3, ![1, 2048, 4]⟩
abbrev S3x2048x4x1 : Shape := ⟨4, ![3, 2048, 4, 1]⟩
abbrev S2048x4x64 : Shape := ⟨3, ![2048, 4, 64]⟩
abbrev S2048x256 : Shape := ⟨2, ![2048, 256]⟩

abbrev nBuf : Space → Nat
  | .hbm => 22
  | .vmem => 0
  | .smem => 0
  | _ => 0

abbrev bufTy : (tb : Table) → Fin (tcTables nBuf tb) → BufTy
  | .hbm, ⟨0, _⟩ => ⟨S3x2048x4x64, .f32⟩
  | .hbm, ⟨1, _⟩ => ⟨S3x2048x4, .f32⟩
  | .hbm, ⟨2, _⟩ => ⟨S_, .f32⟩
  | .hbm, ⟨3, _⟩ => ⟨S2048x4, .f32⟩
  | .hbm, ⟨4, _⟩ => ⟨S_, .f32⟩
  | .hbm, ⟨5, _⟩ => ⟨S2048x4, .f32⟩
  | .hbm, ⟨6, _⟩ => ⟨S2048x4, .f32⟩
  | .hbm, ⟨7, _⟩ => ⟨S1x2048x4, .f32⟩
  | .hbm, ⟨8, _⟩ => ⟨S3x2048x4, .f32⟩
  | .hbm, ⟨9, _⟩ => ⟨S3x2048x4, .f32⟩
  | .hbm, ⟨10, _⟩ => ⟨S3x2048x4, .f32⟩
  | .hbm, ⟨11, _⟩ => ⟨S_, .f32⟩
  | .hbm, ⟨12, _⟩ => ⟨S2048x4, .f32⟩
  | .hbm, ⟨13, _⟩ => ⟨S1x2048x4, .f32⟩
  | .hbm, ⟨14, _⟩ => ⟨S3x2048x4, .f32⟩
  | .hbm, ⟨15, _⟩ => ⟨S3x2048x4, .f32⟩
  | .hbm, ⟨16, _⟩ => ⟨S3x2048x4x1, .f32⟩
  | .hbm, ⟨17, _⟩ => ⟨S3x2048x4x64, .f32⟩
  | .hbm, ⟨18, _⟩ => ⟨S3x2048x4x64, .f32⟩
  | .hbm, ⟨19, _⟩ => ⟨S_, .f32⟩
  | .hbm, ⟨20, _⟩ => ⟨S2048x4x64, .f32⟩
  | .hbm, ⟨21, _⟩ => ⟨S2048x256, .f32⟩
  | _, _ => ⟨S3x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FfnUp.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩
abbrev S1024x1024 : Shape := ⟨2, ![1024, 1024]⟩
abbrev S1024x256 : Shape := ⟨2, ![1024, 256]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S2048x2816, .f32⟩
  | .hbm, ⟨9, _⟩ => ⟨S2048x2816, .f32⟩
  | .hbm, ⟨10, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .bf16⟩
  | .local _ .vmem, ⟨10, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S2048x1024 : Shape := ⟨2, ![2048, 1024]⟩
abbrev S1024x2816 : Shape := ⟨2, ![1024, 2816]⟩
abbrev S2048x2816 : Shape := ⟨2, ![2048, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== NormPre.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPreRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MixOut.lean ====
abbrev S2048x256 : Shape := ⟨2, ![2048, 256]⟩
abbrev S2048x512 : Shape := ⟨2, ![2048, 512]⟩
abbrev S2048x1024 : Shape := ⟨2, ![2048, 1024]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S2048x4224 : Shape := ⟨2, ![2048, 4224]⟩
abbrev S2048x6272 : Shape := ⟨2, ![2048, 6272]⟩
abbrev S256x8x128 : Shape := ⟨3, ![256, 8, 128]⟩
abbrev S8x256x128 : Shape := ⟨3, ![8, 256, 128]⟩
abbrev S512x8x128 : Shape := ⟨3, ![512, 8, 128]⟩
abbrev S8x512x128 : Shape := ⟨3, ![8, 512, 128]⟩
abbrev S512x256 : Shape := ⟨2, ![512, 256]⟩
abbrev S512x512 : Shape := ⟨2, ![512, 512]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 24
  | .vmem => 23
  | .smem => 0
  | _ => 0

abbrev bufTy : (tb : Table) → Fin (tcTables nBuf tb) → BufTy
  | .hbm, ⟨0, _⟩ => ⟨S2048x256, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S256x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S2048x4224, .f32⟩
  | .hbm, ⟨12, _⟩ => ⟨S2048x6272, .f32⟩
  | .hbm, ⟨13, _⟩ => ⟨S256x8x128, .f32⟩
  | .hbm, ⟨14, _⟩ => ⟨S8x256x128, .f32⟩
  | .hbm, ⟨15, _⟩ => ⟨S8x256x128, .bf16⟩
  | .hbm, ⟨16, _⟩ => ⟨S512x8x128, .f32⟩
  | .hbm, ⟨17, _⟩ => ⟨S8x512x128, .f32⟩
  | .hbm, ⟨18, _⟩ => ⟨S8x512x128, .bf16⟩
  | .hbm, ⟨19, _⟩ => ⟨S1024x1024, .bf16⟩
  | .hbm, ⟨20, _⟩ => ⟨S2048x1024, .bf16⟩
  | .hbm, ⟨21, _⟩ => ⟨S2048x1024, .f32⟩
  | .hbm, ⟨22, _⟩ => ⟨S2048x1024, .f32⟩
  | .hbm, ⟨23, _⟩ => ⟨S2048x1024, .bf16⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x256x128, .bf16⟩
  | .local _ .vmem, ⟨11, _⟩ => ⟨S8x512x128, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixOutFwdRefIdeal.lean ====
abbrev S2048x256 : Shape := ⟨2, ![2048, 256]⟩
abbrev S2048x512 : Shape := ⟨2, ![2048, 512]⟩
abbrev S2048x1024 : Shape := ⟨2, ![2048, 1024]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S256x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | .hbm, ⟨51, _⟩ => ⟨S1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S2048x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== FoxGateFwd.lean ====
abbrev S2048x8 : Shape := ⟨2, ![2048, 8]⟩
abbrev S1x8 : Shape := ⟨2, ![1, 8]⟩
abbrev S_ : Shape := ⟨0, ![]⟩
abbrev S2048x6144 : Shape := ⟨2, ![2048, 6144]⟩
abbrev S2048x120 : Shape := ⟨2, ![2048, 120]⟩
abbrev S2048x6272 : Shape := ⟨2, ![2048, 6272]⟩
abbrev S1x128 : Shape := ⟨2, ![1, 128]⟩
abbrev S16x2048 : Shape := ⟨2, ![16, 2048]⟩
abbrev S2048x128 : Shape := ⟨2, ![2048, 128]⟩
abbrev S128x2048 : Shape := ⟨2, ![128, 2048]⟩
abbrev S128x128 : Shape := ⟨2, ![128, 128]⟩
abbrev S16x1 : Shape := ⟨2, ![16, 1]⟩
abbrev S16x128 : Shape := ⟨2, ![16, 128]⟩
abbrev S8x2048 : Shape := ⟨2, ![8, 2048]⟩

abbrev nBuf : Space → Nat
  | .hbm => 12
  | .vmem => 3
  | .smem => 0
  | _ => 0

abbrev bufTy : (tb : Table) → Fin (tcTables nBuf tb) → BufTy
  | .hbm, ⟨0, _⟩ => ⟨S2048x8, .f32⟩
  | .hbm, ⟨1, _⟩ => ⟨S1x8, .f32⟩
  | .hbm, ⟨2, _⟩ => ⟨S_, .f32⟩
  | .hbm, ⟨3, _⟩ => ⟨S2048x6144, .f32⟩
  | .hbm, ⟨4, _⟩ => ⟨S_, .f32⟩
  | .hbm, ⟨5, _⟩ => ⟨S2048x120, .f32⟩
  | .hbm, ⟨6, _⟩ => ⟨S2048x6272, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S16x2048, .f32⟩
  | .hbm, ⟨11, _⟩ => ⟨S8x2048, .f32⟩
  | .local _ .vmem, ⟨0, _⟩ => ⟨S2048x128, .f32⟩
  | .local _ .vmem, ⟨1, _⟩ => ⟨S1x128, .f32⟩
  | .local _ .vmem, ⟨2, _⟩ => ⟨S16x2048, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c48_i32 : BitVec 32 := 48#32
  let c0_i32_0 : BitVec 32 := 0#32
  ![c0_i32.toNat, c48_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== FoxGateFwdRefIdeal.lean ====
abbrev S2048x8 : Shape := ⟨2, ![2048, 8]⟩
abbrev S1x8 : Shape := ⟨2, ![1, 8]⟩
abbrev S8 : Shape := ⟨1, ![8]⟩
abbrev S_ : Shape := ⟨0, ![]⟩
abbrev S8x2048 : Shape := ⟨2, ![8, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S1x8, .f32⟩
  | .hbm, ⟨2, _⟩ => ⟨S8, .f32⟩
  | .hbm, ⟨3, _⟩ => ⟨S1x8, .f32⟩
  | .hbm, ⟨4, _⟩ => ⟨S2048x8, .f32⟩
  | .hbm, ⟨5, _⟩ => ⟨S2048x8, .f32⟩
  | .hbm, ⟨6, _⟩ => ⟨S2048x8, .f32⟩
  | .hbm, ⟨7, _⟩ => ⟨S_, .f32⟩
  | .hbm, ⟨8, _⟩ => ⟨S2048x8, .f32⟩
  | .hbm, ⟨9, _⟩ => ⟨S2048x8, .f32⟩
  | .hbm, ⟨10, _⟩ => ⟨S2048x8, .f32⟩
  | .hbm, ⟨11, _⟩ => ⟨S2048x8, .f32⟩
  | .hbm, ⟨12, _⟩ => ⟨S2048x8, .i1⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S_, .f32⟩
  | .hbm, ⟨24, _⟩ => ⟨S2048x8, .f32⟩
  | .hbm, ⟨25, _⟩ => ⟨S8x2048, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Proof.Ffn.Value.lean ====
/- What the SwiGLU activation's backward call leaves in its two result arrays, index by index. -/
module

public import proofs.«01_k».proof.Proof.Gen.FfnActIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnActIdeal.Value

open Cert.FfnActIdeal Cert.FfnActIdeal.Gen

variable (m : (ℓ : Loc nD τ sig) → Buf (Elt Ideal) ℓ)

/-- The logistic function as the call spells it. -/
def sig1 (z : EReal) : EReal := Ideal.div 1 (1 + Ideal.exp (0 - z))

/-- The gradient of the activation, one product of a row of the cotangent with a row of the weight. -/
def dAct (w : FVec Ideal S2816x1024 .f32) (d : FVec Ideal S2048x1024 .f32) (i : S2048x2816.Idx) : EReal :=
  ∑ k : Fin 1024, d (ix2 (i 0) k) * w (ix2 (i 1) k)

/-- The gradient of the gate's projection at one index, in the call's order of operations. -/
def dGate (g u : FVec Ideal S2048x2816 .f32) (w : FVec Ideal S2816x1024 .f32) (d : FVec Ideal S2048x1024 .f32) :
    FVec Ideal S2048x2816 .bf16 := fun i =>
  (dAct w d i * u i) * (sig1 (g i) * (1 + g i * (1 - sig1 (g i))))

/-- The gradient of the other projection. -/
def dUp (g : FVec Ideal S2048x2816 .f32) (w : FVec Ideal S2816x1024 .f32) (d : FVec Ideal S2048x1024 .f32) :
    FVec Ideal S2048x2816 .bf16 := fun i => dAct w d i * (g i * sig1 (g i))

theorem idx : ∀ t : Fin cfg0.N, win0_0.index t = ![0, 0] ∧ win0_1.index t = ![t.val, 0] ∧ win0_2.index t = ![0, t.val]
    ∧ win0_3.index t = ![0, t.val] ∧ win0_4.index t = ![0, t.val] ∧ win0_5.index t = ![0, t.val] :=
  (by decide +kernel : ∀ t : Fin grid0.N, _)

theorem point4 (c : Dev nD) (t : Fin cfg0.N) (y) : out0_4 (iblk m c 0 t) (iblk m c 1 t) (iblk m c 2 t) (iblk m c 3 t) y
    = dGate (m ((c : Thread nD τ).loc main_arg0)) (m ((c : Thread nD τ).loc main_arg1)) (m ((c : Thread nD τ).loc main_arg2))
        (m ((c : Thread nD τ).loc main_arg3)) (((cfg0.win 4).blk t).view.emb y) := by
  unfold_out out0_4
  canon_tiles x h
  all_goals open_payloads
  all_goals (pointwise [dGate, dAct, sig1]; blk_point [iblk, V, idx t])

theorem final4 (c : Dev nD) : (dats m 0 c).arrAt 4 (cfgs 0).N = dGate (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point4 m c t y

theorem point5 (c : Dev nD) (t : Fin cfg0.N) (y) : out0_5 (iblk m c 0 t) (iblk m c 1 t) (iblk m c 2 t) (iblk m c 3 t) y
    = dUp (m ((c : Thread nD τ).loc main_arg0)) (m ((c : Thread nD τ).loc main_arg2))
        (m ((c : Thread nD τ).loc main_arg3)) (((cfg0.win 5).blk t).view.emb y) := by
  unfold_out out0_5
  canon_tiles x h
  all_goals open_payloads
  all_goals (pointwise [dUp, dAct, sig1]; blk_point [iblk, V, idx t])

theorem final5 (c : Dev nD) : (dats m 0 c).arrAt 5 (cfgs 0).N = dUp (m ((c : Thread nD τ).loc main_arg0))
    (m ((c : Thread nD τ).loc main_arg2)) (m ((c : Thread nD τ).loc main_arg3)) := by
  refine (dats m 0 c).arrAt_eq_of_covers 5 _ (by decide +kernel) fun t _ y => ?_
  blk_simp
  rw [after0_5]
  exact point5 m c t y

end Cert.FfnActIdeal.Value

end
-- ==== Proof.Lift.lean ====
/- Extended reals that are real numbers: sums and the finiteness preconditions. -/
module

public import Idealize.ShloMosaic.Lib.Pipeline.ValueKit
public import Idealize.ShloMosaic.Lib.ReduceAll
public import Idealize.ShloMosaic.Lib.Pointwise

@[expose] public section

noncomputable section

open Idealize.ShloMosaic

namespace Cert.Lift

/-- A finite sum of real numbers, read in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real whose absolute value is below `⊤` is a real number. -/
theorem real_of_lt_top {x : EReal} (h : max x (-x) < ⊤) : ∃ r : ℝ, x = (r : EReal) := by
  induction x using EReal.rec with
  | bot => simp at h
  | top => simp at h
  | coe r => exact ⟨r, rfl⟩

theorem ofBits_inf : Ideal.ofBits .f32 0x7F800000#32 = ⊤ := by simp [Ideal.ofBits, Ideal.ieee]

/-- An array that passes `(|x| < ∞).all()` is an array of real numbers. -/
theorem real_of_all {s t u o : Shape} {axes : List (Fin s.rank)} [Subsingleton t.Idx] {x : FVec Ideal s .f32} {dims : Fin o.rank → Fin s.rank}
    {hb : o.BroadcastsInDim s dims} {init : IVec u 1} {h : s.ReducesTo axes t} {hu : 0 < u.numel} {j : t.Idx}
    (e : Host.reduce IntOp.andi (cmpf .olt (Host.absf x) (broadcastInDim s dims hb (constant o .f32 0x7F800000#32))) init h hu j = 1#1) :
    ∃ r : s.Idx → ℝ, x = fun i => ((r i : ℝ) : EReal) := by
  have key : ∀ i, ∃ r : ℝ, x i = (r : EReal) := fun i => by
    have := Host.reduce_andi_all _ _ h hu j e i
    refine real_of_lt_top ?_
    have h2 : Ideal.cmp .olt (max (x i : EReal) (-(x i : EReal))) (Ideal.ofBits .f32 0x7F800000#32) = 1#1 := this
    rw [ofBits_inf] at h2
    by_contra hn
    simp [Ideal.cmp, hn] at h2
  exact ⟨fun i => (key i).choose, funext fun i => (key i).choose_spec⟩

end Cert.Lift

end
-- ==== Proof.Ffn.Equation.lean ====
/- The SwiGLU activation's derivative: what the call computes and what the forward lines' derivative computes agree
   on real arguments. -/
module

public import proofs.«01_k».proof.Proof.Ffn.Value
public import proofs.«01_k».proof.Proof.Lift
public import proofs.«01_k».proof.Proof.Gen.FfnActRefIdeal.Run
public import proofs.«01_k».proof.Proof.Gen.Pre_ffn_finite
public import proofs.«01_k».proof.Defs

@[expose] public section

set_option maxRecDepth 16384

noncomputable section

open Idealize.ShloMosaic Idealize.ShloMosaic.TcCoe Idealize.SL.Sem

namespace Cert.FfnActIdeal.Value

open Cert.FfnActIdeal Cert.FfnActIdeal.Gen

variable (m : (ℓ : Loc nD τ sig) → Buf (Elt Ideal) ℓ)

/-- The precondition, read: three of the arrays are arrays of real numbers. -/
theorem reals (g u : FVec Ideal S2048x2816 .f32) (w : FVec Ideal S2816x1024 .f32) (d : FVec Ideal S2048x1024 .f32)
    (h : Cert.Pre_ffn_finite.fn (F := Ideal) g u w d = fun _ => 1#1) :
    (∃ r : S2048x2816.Idx → ℝ, u = fun i => ((r i : ℝ) : EReal))
    ∧ (∃ r : S2816x1024.Idx → ℝ, w = fun i => ((r i : ℝ) : EReal)) ∧ (∃ r : S2048x1024.Idx → ℝ, d = fun i => ((r i : ℝ) : EReal)) := by
  obtain ⟨h1, h2⟩ := IntOp.andi_eq_one.1 (congrFun h fun a => a.elim0)
  obtain ⟨h1, h3⟩ := IntOp.andi_eq_one.1 h1
  exact ⟨Lift.real_of_all h1, Lift.real_of_all h3, Lift.real_of_all h2⟩

theorem sig1_eq (x : EReal) : sig1 x = Ideal.logistic x := by
  rw [Ideal.logistic, sig1, zero_sub]

/-- The gate's gradient, both ways: the derivative `σ + g σ (1 - σ)` against the call's `σ (1 + g (1 - σ))`. -/
theorem gate_eq {n : ℕ} (a b : Fin n → ℝ) (u : ℝ) (g : EReal) :
    (∑ k, (a k : EReal) * (b k : EReal)) * (u : EReal) * Ideal.div 1 (1 + Ideal.exp (-g))
      + g * ((∑ k, (a k : EReal) * (b k : EReal)) * (u : EReal))
        * (Ideal.div 1 (1 + Ideal.exp (-g)) * (1 - Ideal.div 1 (1 + Ideal.exp (-g))))
    = (∑ k, (a k : EReal) * (b k : EReal)) * (u : EReal) * (sig1 g * (1 + g * (1 - sig1 g))) := by
  simp only [← EReal.coe_mul, Lift.coe_sum]
  generalize (∑ k, a k * b k) * u = x
  rw [sig1_eq, ← Ideal.logistic]
  induction g using EReal.rec with
  | bot => simp
  | top =>
    have h : (1 : EReal) - 1 = 0 := by rw [← EReal.coe_one, ← EReal.coe_sub, sub_self, EReal.coe_zero]
    simp [h]
  | coe g =>
    rw [Ideal.logistic_coe, ← EReal.coe_one]
    simp only [← EReal.coe_mul, ← EReal.coe_add, ← EReal.coe_sub]
    congr 1
    ring

/-- The other projection's gradient, both ways. -/
theorem up_eq {n : ℕ} (a b : Fin n → EReal) (g : EReal) :
    g * Ideal.div 1 (1 + Ideal.exp (-g)) * (∑ k, a k * b k) = (∑ k, a k * b k) * (g * sig1 g) := by
  rw [sig1_eq, ← Ideal.logistic, mul_comm]

/-- The value claim: from finite arguments the call's two results are the derivative of the forward lines. -/
theorem algebraic : Cert.algebraic_FfnActIdeal_FfnActRefIdeal_pre_ffn_finite := by
  intro m g m' g' hpre hargs
  refine ⟨fun c => (dats m 0 c).arrAt 4 cfg0.N, fun c => (dats m 0 c).arrAt 5 cfg0.N, run_blocks m g,
    (θ_run _ _ _).mono (fun r h c => ?_) (Cert.FfnActRefIdeal.Value.run m' g')⟩
  obtain ⟨h1, h2, h3⟩ := h c
  obtain ⟨a0, a1, a2, a3⟩ := hargs c
  obtain ⟨⟨U, hU⟩, ⟨W, hW⟩, ⟨D, hD⟩⟩ := reals _ _ _ _ (hpre c)
  rw [a0, a1, a2, a3] at h1
  rw [a0, a2, a3] at h2
  refine ⟨h1.trans (Eq.trans ?_ (final4 m c).symm), h2.trans (Eq.trans ?_ (final5 m c).symm), h3⟩
  · rw [hU, hW, hD]
    funext i
    pointwise [dGate, dAct]
    exact gate_eq (fun k => D (ix2 (i 0) k)) (fun k => W (ix2 (i 1) k)) (U i) _
  · funext i
    pointwise [dUp, dAct]
    exact up_eq _ _ _

end Cert.FfnActIdeal.Value

end
-- ==== Proof.Fox.Windows.lean ====
/- The forgetting attention's backward kernel copies its three gradients itself, by three transfers started together, into
   column windows of the one array `main_v37_0`: the memrefs this needs, and that no two of the windows meet. -/
module

public import proofs.«01_k».proof.Proof.Gen.FoxBwdIdeal.Frame
public import proofs.«01_k».proof.Proof.Gen.FoxBwdIdeal.Skeleton
public import Idealize.ShloMosaic.Lib.Pipeline.FrameSuffixV
public import Idealize.ShloMosaic.Lib.ViewIndex

@[expose] public section

set_option maxRecDepth 16384

noncomputable section

namespace Cert.FoxBwdIdeal.Fox

open Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The array the three gradients are copied into, whole. -/
abbrev grads : Memref sig .tc .hbm S2048x6272 .bf16 := Memref.whole main_v37_0

/-- Its contents on core `c`. -/
abbrev Grads (c : Dev nD) : Type := Buf (Elt F) (grads.view.loc (c : Thread nD τ))

/-- It is held whole at `f`. -/
abbrev gradsAt (c : Dev nD) (f : Grads (F := F) c) : sProp 𝕄 := grads.view.loc (c : Thread nD τ) ↦{fullShare} f

/-- The first column a point writes of the gradient whose columns begin at `128 k`. -/
theorem off_col (i : grid0.Coords) (k : Nat) (hk : k ≤ 44) : k0_off2 i (BitVec.ofNat 32 k) 1 = (k + (i 0).val) * 128 := by
  have hi : (i 0).val < 4 := (i 0).isLt
  show ((BitVec.ofNat 32 k + BitVec.ofNat 32 (i 0).val) * 128#32).toNat = _
  rw [BitVec.toNat_mul, BitVec.toNat_add, BitVec.toNat_ofNat, BitVec.toNat_ofNat]
  show (((k % 4294967296 + (i 0).val % 4294967296) % 4294967296) * 128) % 4294967296 = _
  omega

/-- The windows of two of the gradients have no column in common. -/
theorem windows_disjoint (i : grid0.Coords) (k k' : Nat) (hk : k ≤ 44) (hk' : k' ≤ 44) (h : k + 4 ≤ k' ∨ k' + 4 ≤ k)
    (b : ∀ a, k0_off2 i (BitVec.ofNat 32 k) a + S2048x128.size a ≤ S2048x6272.size a)
    (b' : ∀ a, k0_off2 i (BitVec.ofNat 32 k') a + S2048x128.size a ≤ S2048x6272.size a) :
    Disjoint (grads.slice (Rect.unit (s := S2048x6272) (k0_off2 i (BitVec.ofNat 32 k)) S2048x128.size b) (fun _ => rfl)).view.set
      (grads.slice (Rect.unit (s := S2048x6272) (k0_off2 i (BitVec.ofNat 32 k')) S2048x128.size b') (fun _ => rfl)).view.set := by
  refine View.disjoint_slice (Rect.unit_disjoint (1 : Fin 2) ?_)
  have hi : (i 0).val < 4 := (i 0).isLt
  rw [off_col i k hk, off_col i k' hk']
  show (k + (i 0).val) * 128 + 128 ≤ (k' + (i 0).val) * 128 ∨ (k' + (i 0).val) * 128 + 128 ≤ (k + (i 0).val) * 128
  omega

end Cert.FoxBwdIdeal.Fox

end
-- ==== Proof.Fox.Run.lean ====
/- The run of the forgetting attention's backward kernel at one point, on any staging buffers. -/
module

public import proofs.«01_k».proof.Proof.Fox.Windows

@[expose] public section

set_option maxRecDepth 16384

noncomputable section

namespace Cert.FoxBwdIdeal.Fox

open Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What one point leaves: the pieces written into the staging buffer of the decay's gradient, and what becomes of the array the
    three other gradients are copied into, as a function of what it held. The run of the body finds both. -/
def run (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S16x2048 .f32) (harg4 : arg4.IsWhole) (arg5 : Memref sig .tc .vmem S2048x128 .bf16) (harg5 : arg5.IsWhole) (arg6 : Memref sig .tc .vmem S2048x128 .f32) (harg6 : arg6.IsWhole) (arg9 : Memref sig .tc .vmem S1x8x2048 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole)
    (x0 : Vec F S2048x128 .f32) (x1 : Vec F S2048x128 .f32) (x2 : Vec F S2048x128 .f32) (x3 : Vec F S16x2048 .f32) (x4 : Vec F S2048x128 .bf16) (x5 : Vec F S2048x128 .f32) :
    { L : List (View.Piece (Elt F) S1x8x2048 .f32) × (Buf (Elt F) (arg12.view.loc (c : Thread nD τ)) → Buf (Elt F) (arg13.view.loc (c : Thread nD τ)) → Buf (Elt F) (arg14.view.loc (c : Thread nD τ)) → Grads (F := F) c → Grads (F := F) c) //
      ∀ (W : Waits sig Unit) (fw : Grads (F := F) c) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 13) 0 ∗ semVal ((c : Thread nD τ), SemLoc.dma 14) 0 ∗ semVal ((c : Thread nD τ), SemLoc.dma 15) 0 ∗ gradsAt c fw ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg9.view.loc (c : Thread nD τ) ↦[arg9.view.set]{fullShare} arg9.view.writes (Elt F) f L.1) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 13) 0 ∗ semVal ((c : Thread nD τ), SemLoc.dma 14) 0 ∗ semVal ((c : Thread nD τ), SemLoc.dma 15) 0 ∗ (∃ g2 g3 g4, gradsAt c (L.2 g2 g3 g4 fw)) ∗ (∃ W', owes (c : Thread nD τ) 0 W')) -∗ K ⟨⟩))
          ⊢ wp frame (wpE (defs₀ (F := F)) Variants.none c none) Set.univ (cc0_fox_attn_bwd i arg1 harg1 arg2 harg2 arg3 harg3 arg4 harg4 arg5 harg5 arg6 harg6 grads (Memref.isWhole_whole _) grads (Memref.isWhole_whole _) arg9 harg9 arg10 harg10 arg11 harg11 arg12 harg12 arg13 harg13 arg14 harg14 cc0_scratch5) K } := by
  refine ⟨⟨?_, ?_⟩, fun W fw K => ?run⟩
  case run =>
    simp only [cc0_fox_attn_bwd_eq_skeleton]; unfold cc0_fox_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hh, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    set_option sl_exec.dmaWindowLent true in sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hh]; · iexists fs2, fs3, fs4; iexact Hh
    iexists _; iexact HW

end Cert.FoxBwdIdeal.Fox

end
-- ==== Proof.Fox.Points.lean ====
/- The points of the forgetting attention's backward kernel: the buffers each one runs on, and what it leaves. -/
module

public import proofs.«01_k».proof.Proof.Fox.Run

@[expose] public section

set_option maxRecDepth 16384

noncomputable section

namespace Cert.FoxBwdIdeal.Fox

open Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers of a point -/

/-- The staging buffer of window 0 at point `t`, and that it is whole. -/
abbrev stage0 (t : Fin cfg0.N) : Memref sig .tc .vmem S2048x128 .f32 := win0_0.stage (cfg0.slots t 0)
abbrev stage0_whole (t : Fin cfg0.N) : (stage0 t).IsWhole := hstage0_0 ((cfg0.slots t 0).cast nbuf0_0)

/-- The staging buffer of window 1 at point `t`, and that it is whole. -/
abbrev stage1 (t : Fin cfg0.N) : Memref sig .tc .vmem S2048x128 .f32 := win0_1.stage (cfg0.slots t 1)
abbrev stage1_whole (t : Fin cfg0.N) : (stage1 t).IsWhole := hstage0_1 ((cfg0.slots t 1).cast nbuf0_1)

/-- The staging buffer of window 2 at point `t`, and that it is whole. -/
abbrev stage2 (t : Fin cfg0.N) : Memref sig .tc .vmem S2048x128 .f32 := win0_2.stage (cfg0.slots t 2)
abbrev stage2_whole (t : Fin cfg0.N) : (stage2 t).IsWhole := hstage0_2 ((cfg0.slots t 2).cast nbuf0_2)

/-- The staging buffer of window 3 at point `t`, and that it is whole. -/
abbrev stage3 (t : Fin cfg0.N) : Memref sig .tc .vmem S16x2048 .f32 := win0_3.stage (cfg0.slots t 3)
abbrev stage3_whole (t : Fin cfg0.N) : (stage3 t).IsWhole := hstage0_3 ((cfg0.slots t 3).cast nbuf0_3)

/-- The staging buffer of window 4 at point `t`, and that it is whole. -/
abbrev stage4 (t : Fin cfg0.N) : Memref sig .tc .vmem S2048x128 .bf16 := win0_4.stage (cfg0.slots t 4)
abbrev stage4_whole (t : Fin cfg0.N) : (stage4 t).IsWhole := hstage0_4 ((cfg0.slots t 4).cast nbuf0_4)

/-- The staging buffer of window 5 at point `t`, and that it is whole. -/
abbrev stage5 (t : Fin cfg0.N) : Memref sig .tc .vmem S2048x128 .f32 := win0_5.stage (cfg0.slots t 5)
abbrev stage5_whole (t : Fin cfg0.N) : (stage5 t).IsWhole := hstage0_5 ((cfg0.slots t 5).cast nbuf0_5)

/-- The staging buffer of window 6 at point `t`, and that it is whole. -/
abbrev stage6 (t : Fin cfg0.N) : Memref sig .tc .vmem S1x8x2048 .f32 := win0_6.stage (cfg0.slots t 6)
abbrev stage6_whole (t : Fin cfg0.N) : (stage6 t).IsWhole := hstage0_6 ((cfg0.slots t 6).cast nbuf0_6)

/-- The scratch buffer 0. -/
abbrev scratch0 : Memref sig .tc .vmem S2048x128 .f32 := Memref.whole cc0_scratch0

/-- The scratch buffer 1. -/
abbrev scratch1 : Memref sig .tc .vmem S2048x128 .f32 := Memref.whole cc0_scratch1

/-- The scratch buffer 2. -/
abbrev scratch2 : Memref sig .tc .vmem S2048x128 .bf16 := Memref.whole cc0_scratch2

/-- The scratch buffer 3. -/
abbrev scratch3 : Memref sig .tc .vmem S2048x128 .bf16 := Memref.whole cc0_scratch3

/-- The scratch buffer 4. -/
abbrev scratch4 : Memref sig .tc .vmem S2048x128 .bf16 := Memref.whole cc0_scratch4

/-- The run of point `t`, on its own buffers and blocks. -/
abbrev runAt (c : Dev nD) (t : Fin cfg0.N) :=
  run (F := F) c (grid0.coords t) (stage0 t) (stage0_whole t) (stage1 t) (stage1_whole t) (stage2 t) (stage2_whole t)
    (stage3 t) (stage3_whole t) (stage4 t) (stage4_whole t) (stage5 t) (stage5_whole t) (stage6 t) (stage6_whole t)
    scratch0 (Memref.isWhole_whole _) scratch1 (Memref.isWhole_whole _) scratch2 (Memref.isWhole_whole _)
    scratch3 (Memref.isWhole_whole _) scratch4 (Memref.isWhole_whole _)
    (iblk m c 0 t) (iblk m c 1 t) (iblk m c 2 t) (iblk m c 3 t) (iblk m c 4 t) (iblk m c 5 t)

/-- One staging buffer of the decay's gradient, through which a point's block is stated. -/
abbrev decayView : View sig .tc .vmem S1x8x2048 .f32 := (Memref.whole cc0_stg6_0 : Memref sig .tc .vmem S1x8x2048 .f32).view

/-- The pieces a point stores of the decay's gradient fill its block. -/
theorem decay_cover (c : Dev nD) (t : Fin cfg0.N) (y : S1x8x2048.Idx) : ∃ pc ∈ (runAt m c t).1.1, y ∈ pc.1.set :=
  View.cover_of_tiledBy (runAt m c t).1.1 ![1, 1, 256] (by sl_kernel_rfl) y

/-- The block of the decay's gradient that point `t` leaves. -/
def decayBlock (c : Dev nD) (t : Fin cfg0.N) : Vec F S1x8x2048 .f32 :=
  decayView.read (Elt F) (decayView.writes (Elt F) decayView.junk (runAt m c t).1.1)

/-! ## The three gradients copied out -/

/-- The rectangle of the shared array a point copies a gradient into: 128 columns, the whole height. -/
abbrev window (i : grid0.Coords) (k : BitVec 32) (b : ∀ a, (k0_off2 i k) a + S2048x128.size a ≤ S2048x6272.size a) : Memref sig .tc .hbm S2048x128 .bf16 :=
  grads.slice (Rect.unit (s := S2048x6272) (k0_off2 i k) S2048x128.size b) (fun _ => rfl)

/-- The pieces a point stores of the queries' gradient: one for each tile of rows. -/
def queryPieces (c : Dev nD) (t : Fin cfg0.N) : List (View.Piece (Elt F) S2048x128 .bf16) :=
  run.sl.HS2_8 c (grid0.coords t) (stage0 t) (stage0_whole t) (stage1 t) (stage1_whole t) (stage2 t) (stage2_whole t) (stage3 t) (stage3_whole t) (stage4 t) (stage4_whole t) (stage5 t) (stage5_whole t) (iblk m c 0 t) (iblk m c 1 t) (iblk m c 2 t) (iblk m c 3 t) (iblk m c 4 t) (iblk m c 5 t)
/-- The piece of the keys' gradient. -/
def keyPieces (c : Dev nD) (t : Fin cfg0.N) : List (View.Piece (Elt F) S2048x128 .bf16) :=
  run.sl.HS3_1 c (grid0.coords t) (stage0 t) (stage0_whole t) (stage1 t) (stage1_whole t) (stage2 t) (stage2_whole t) (stage3 t) (stage3_whole t) (stage4 t) (stage4_whole t) (stage5 t) (stage5_whole t) scratch0 (iblk m c 0 t) (iblk m c 1 t) (iblk m c 2 t) (iblk m c 3 t) (iblk m c 4 t) (iblk m c 5 t)
/-- The piece of the values' gradient. -/
def valuePieces (c : Dev nD) (t : Fin cfg0.N) : List (View.Piece (Elt F) S2048x128 .bf16) :=
  run.sl.HS4_1 c (grid0.coords t) (stage0 t) (stage0_whole t) (stage1 t) (stage1_whole t) (stage3 t) (stage3_whole t) (stage4 t) (stage4_whole t) (stage5 t) (stage5_whole t) scratch1 (iblk m c 0 t) (iblk m c 1 t) (iblk m c 3 t) (iblk m c 4 t) (iblk m c 5 t)

theorem query_cover (c : Dev nD) (t : Fin cfg0.N) (y : S2048x128.Idx) : ∃ pc ∈ queryPieces m c t, y ∈ pc.1.set :=
  View.cover_of_tiledBy (queryPieces m c t) ![256, 128] (by sl_kernel_rfl) y
theorem key_cover (c : Dev nD) (t : Fin cfg0.N) (y : S2048x128.Idx) : ∃ pc ∈ keyPieces m c t, y ∈ pc.1.set :=
  View.cover_of_tiledBy (keyPieces m c t) ![2048, 128] (by sl_kernel_rfl) y
theorem value_cover (c : Dev nD) (t : Fin cfg0.N) (y : S2048x128.Idx) : ∃ pc ∈ valuePieces m c t, y ∈ pc.1.set :=
  View.cover_of_tiledBy (valuePieces m c t) ![2048, 128] (by sl_kernel_rfl) y

/-- The three gradients of point `t`: 128 columns each. -/
def queryBlock (c : Dev nD) (t : Fin cfg0.N) : Vec F S2048x128 .bf16 :=
  scratch2.view.read (Elt F) (scratch2.view.writes (Elt F) scratch2.view.junk (queryPieces m c t))
def keyBlock (c : Dev nD) (t : Fin cfg0.N) : Vec F S2048x128 .bf16 :=
  scratch3.view.read (Elt F) (scratch3.view.writes (Elt F) scratch3.view.junk (keyPieces m c t))
def valueBlock (c : Dev nD) (t : Fin cfg0.N) : Vec F S2048x128 .bf16 :=
  scratch4.view.read (Elt F) (scratch4.view.writes (Elt F) scratch4.view.junk (valuePieces m c t))

/-- What point `t` makes of the shared array: its three blocks written, each into its own columns. -/
def leave (c : Dev nD) (t : Fin cfg0.N) (f : Grads (F := F) c) : Grads (F := F) c :=
  (window (grid0.coords t) 44#32 (k0_off2_inb _ 2)).view.write (Elt F)
    ((window (grid0.coords t) 40#32 (k0_off2_inb _ 1)).view.write (Elt F)
      ((window (grid0.coords t) 36#32 (k0_off2_inb _ 0)).view.write (Elt F) f (queryBlock m c t) Finset.univ)
      (keyBlock m c t) Finset.univ)
    (valueBlock m c t) Finset.univ

/-- Whatever the scratch buffers held, a point makes this of the shared array. -/
theorem run_leaves (c : Dev nD) (t : Fin cfg0.N) (g2 : Buf (Elt F) (scratch2.view.loc (c : Thread nD τ)))
    (g3 : Buf (Elt F) (scratch3.view.loc (c : Thread nD τ))) (g4 : Buf (Elt F) (scratch4.view.loc (c : Thread nD τ))) (f : Grads (F := F) c) :
    (runAt m c t).1.2 g2 g3 g4 f = leave m c t f := by
  have h2 : scratch2.view.read (Elt F) (scratch2.view.writes (Elt F) g2 (queryPieces m c t)) = queryBlock m c t :=
    View.read_writes_of_cover _ _ _ _ _ (query_cover m c t)
  have h3 : scratch3.view.read (Elt F) (scratch3.view.writes (Elt F) g3 (keyPieces m c t)) = keyBlock m c t :=
    View.read_writes_of_cover _ _ _ _ _ (key_cover m c t)
  have h4 : scratch4.view.read (Elt F) (scratch4.view.writes (Elt F) g4 (valuePieces m c t)) = valueBlock m c t :=
    View.read_writes_of_cover _ _ _ _ _ (value_cover m c t)
  unfold leave
  rw [← h2, ← h3, ← h4]
  rfl

end Cert.FoxBwdIdeal.Fox

end
-- ==== Proof.Fox.Frame.lean ====
/- The forgetting attention's backward kernel runs to the end, whatever the numbers are: its arrays hold the points' blocks, its
   arguments are unchanged. -/
module

public import proofs.«01_k».proof.Proof.Fox.Points
public import Idealize.ShloMosaic.Lib.Pipeline.FrameSuffixV
public import Idealize.ShloMosaic.Lib.Claim

@[expose] public section

set_option maxRecDepth 16384

noncomputable section

namespace Cert.FoxBwdIdeal.Fox

open Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The shared array, point by point -/

/-- The shared array before point `n`. -/
def contents (c : Dev nD) : ℕ → Grads (F := F) c
  | 0 => V m c main_v37_0
  | n + 1 => if h : n < cfg0.N then leave m c ⟨n, h⟩ (contents c n) else contents c n

theorem contents_succ (c : Dev nD) (t : Fin cfg0.N) : contents m c (t.val + 1) = leave m c t (contents m c t.val) := by
  rw [contents, dif_pos t.isLt]

/-- The buffers before point `n`: as the region finds them, but the shared array. -/
def buffers (n : ℕ) (c : Dev nD) : (b : Ref sig .tc) → Buf (Elt F) ((c.tc : Thread nD τ).loc b) :=
  Function.update (V m c) main_v37_0 (contents m c n)

theorem buffers_shared (n : ℕ) (c : Dev nD) : buffers m n c main_v37_0 = contents m c n := Function.update_self ..

theorem buffers_zero : buffers m 0 = V m := funext fun c => Function.update_eq_self (β := fun b => Buf (Elt F) ((c.tc : Thread nD τ).loc b)) main_v37_0 (V m c)

/-- The buffer the body writes by its own copies. -/
def written : Finset (Ref sig .tc) := {main_v37_0}
theorem written_sub : written ⊆ Pipeline.restRefs sig spec0 \ ∅ := by decide

/-- The three counters of the body's own copies. -/
abbrev counters : Fin 3 → SemLoc sig := fun j => (![SemLoc.dma 13, SemLoc.dma 14, SemLoc.dma 15] : Fin 3 → SemLoc sig) j
theorem counters_facts : Pipeline.OwnSemFacts spec0 counters := by decide
theorem counters_eq (c : Dev nD) :
    (Pipeline.ownSems0 (Ix := Unit) (Name := ℕ) (U := Pipeline.UD sig nD τ) (Lvl := ℕ) (Val := Elt F) (τ := τ) counters c : sProp 𝕄)
      = iprop(semVal ((c : Thread nD τ), SemLoc.dma 13) 0 ∗ semVal ((c : Thread nD τ), SemLoc.dma 14) 0 ∗ semVal ((c : Thread nD τ), SemLoc.dma 15) 0) := by
  rw [Pipeline.ownSems0_eq_of_list c counters [0, 1, 2] (by decide) (by decide)]; rfl

theorem written_eq (n : ℕ) (c : Dev nD) :
    (bigSep written (fun b => ((c : Thread nD τ).loc b) ↦{fullShare} buffers m n c b) : sProp 𝕄) = gradsAt c (contents m c n) := by
  rw [BI.bigSep_eq_bigSepL_of_eq [main_v37_0] (by decide) (by decide), ← buffers_shared]; rfl

/-- What the points pass on: the scratch buffers at any contents, the counters at zero, the shared array. -/
def passed (n : ℕ) (c : Dev nD) : sProp 𝕄 := Pipeline.ΦDRV counters spec0 ∅ written (V m) (buffers m n) c

theorem passed_eq (n : ℕ) (c : Dev nD) :
    passed m n c = iprop(iprop((∃ d, owns (c : Thread nD τ) scratch0 fullShare d) ∗ (∃ d, owns (c : Thread nD τ) scratch1 fullShare d)
        ∗ (∃ d, owns (c : Thread nD τ) scratch2 fullShare d) ∗ (∃ d, owns (c : Thread nD τ) scratch3 fullShare d) ∗ (∃ d, owns (c : Thread nD τ) scratch4 fullShare d))
      ∗ iprop(semVal ((c : Thread nD τ), SemLoc.dma 13) 0 ∗ semVal ((c : Thread nD τ), SemLoc.dma 14) 0 ∗ semVal ((c : Thread nD τ), SemLoc.dma 15) 0)
      ∗ (bigSep (∅ : Finset (Ref sig .tc)) fun b => ((c.tc : Thread nD τ).loc b) ↦{fullShare} V m c b) ∗ gradsAt c (contents m c n)) := by
  unfold passed Pipeline.ΦDRV
  rw [scopedRest0_eq, counters_eq, written_eq]
  simp only [scratch0, scratch1, scratch2, scratch3, scratch4, owns_whole]; try rfl

/-! ## The pipeline's data -/

/-- The arrays as the region finds them; each input's block left in place, the decay's gradient at its block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => decayBlock m c t
  Φ t := passed m t.val c
  q w := Pipeline.shareOf spec0 w
  owed _ := 0

theorem arrays_eq (c : Dev nD) (w : Fin cfg0.W) : (dats m 0 c).A w = V m c (Pipeline.arrRef spec0 w) := by dsimp only [dats]

/-- An input's staging buffer holds its block before every point. -/
theorem before_blocks (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) := by
  refine ⟨?_, ?_, ?_, ?_, ?_, ?_⟩ <;> intro d
  all_goals
    refine (Dat.before_in_eq_fetched (dats m 0 c) _ rfl (fun _ => rfl) (fun _ _ _ => rfl)
      (fun t => by unfold Dat.blockOf; rw [arrays_eq]; dsimp only [dats]; unfold iblk; rfl) t d).trans ?_
    unfold Dat.fetched Dat.blockOf iblk; rw [arrays_eq]; try rfl

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t))

set_option maxHeartbeats 1200000 in
/-- The body at any point, from the run: it takes the shared array as the points before left it and leaves it with its own
    three blocks written. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5⟩ := before_blocks m c t
  unfold bodyPre bodyPost bodyAt0
  simp only [b0, b1, b2, b3, b4, b5]
  rw [show (dats m 0 c).Φ t.succ = passed m (t.val + 1) c from rfl, show (dats m 0 c).Φ t.castSucc = passed m t.val c from rfl,
    passed_eq, passed_eq, contents_succ]
  unfold Dat.owesAt Pipeline.owesWithin
  rw [show (dats m 0 c).owed t.castSucc = 0 from rfl, show (dats m 0 c).owed t.succ = 0 from rfl]
  dsimp only [dats]
  unfold decayBlock
  iintro ⟨⟨⟨HS0, HS1, HS2, HS3, HS4⟩, ⟨Hq0, Hq1, Hq2⟩, He, Hh⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((runAt m c t).2 W (contents m c t.val) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hh]; · iexact Hh
  isplitl [HW]; · iexact HW
  iintro ⟨H0, H1, H2, H3, H4, H5, ⟨%e6, H6⟩, HS0, HS1, HS2, HS3, HS4, Hq0, Hq1, Hq2, ⟨%g2, %g3, %g4, Hh⟩, ⟨%W', HW'⟩⟩
  rw [run_leaves]
  isplitl [HS0 HS1 HS2 HS3 HS4 Hq0 Hq1 Hq2 He Hh]
  · isplitl [HS0 HS1 HS2 HS3 HS4]
    · isplitl [HS0]; · iexact HS0
      isplitl [HS1]; · iexact HS1
      isplitl [HS2]; · iexact HS2
      isplitl [HS3]; · iexact HS3
      iexact HS4
    isplitl [Hq0 Hq1 Hq2]
    · isplitl [Hq0]; · iexact Hq0
      isplitl [Hq1]; · iexact Hq1
      iexact Hq2
    isplitl [He]
    · iexact He
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (decay_cover m c t)

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The whole program -/

/-- The program around its region. -/
theorem around : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The buffers when the region ends: the staged arrays at their blocks, the shared array at all points' blocks, the rest as
    before it. -/
abbrev ended (c : Dev nD) : Valuation τ sig (Elt F) :=
  Pipeline.withArrays spec0 c (Pipeline.withR (V0 m c) written c (buffers m cfg0.N c)) fun w => (dats m 0 c).arrAt w cfg0.N

set_option backward.isDefEq.respectTransparency.types false in
set_option maxHeartbeats 800000 in
/-- The program runs to the end: every buffer beside the staged arrays holds what the last host lines make of `ended`, and
    every counter is zero. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after hostOps1 (ended m c) (Proc.devRef .tc b))
    ∧ r.2.sem = fun _ => 0) :=
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  (θ_run defs _ _).mono (fun r ⟨h, hz⟩ => ⟨fun c => ⟨(h c).1, fun b hb => ((h c).2 b (hrest hb)).trans (by
      rw [List.flatten_cons, List.flatten_nil, List.append_nil])⟩, hz⟩)
    (Pipeline.θ_run_frameP_dmaR_aroundV_shared (Q' := _) (hQ' := fun _ h => h) (fun q => (cfgs q).toPCfg (Val := Elt F)) (fun q => (cfgs q).toPCfg_adm)
      (dats m) 0 launch₀0.toP counters defs₀ Variants.none counters_facts ∅ written (Finset.empty_subset _)
      (written_sub.trans (Finset.sdiff_subset_sdiff hrest subset_rfl)) m ρ main
      (fun c => (body_obligation m c).loose) (fun _ _ _ => rfl) (fun _ _ => rfl) (V0 m) [hostOps1] sfx_sub sfx_fresh sfx_keeps
      (fun c => buffers m cfg0.N c) (around m) (arrays_eq m) (fun _ k => k.elim0)
      (fun c => (show _ ⊢ passed m 0 c from by unfold passed; rw [buffers_zero]; iintro ⟨H, -⟩; iexact H))
      (fun c => (show passed m cfg0.N c ⊢ _ from .rfl)))

/-- The last host lines write no argument, the region none either. -/
theorem args_kept (c : Dev nD) :
    StableHlo.after hostOps1 (ended m c) (Proc.devRef .tc main_arg0) = m ((c.tc : Thread nD τ).loc main_arg0) ∧ StableHlo.after hostOps1 (ended m c) (Proc.devRef .tc main_arg1) = m ((c.tc : Thread nD τ).loc main_arg1) ∧ StableHlo.after hostOps1 (ended m c) (Proc.devRef .tc main_arg2) = m ((c.tc : Thread nD τ).loc main_arg2) ∧ StableHlo.after hostOps1 (ended m c) (Proc.devRef .tc main_arg3) = m ((c.tc : Thread nD τ).loc main_arg3) ∧ StableHlo.after hostOps1 (ended m c) (Proc.devRef .tc main_arg4) = m ((c.tc : Thread nD τ).loc main_arg4) := by
  refine ⟨?_, ?_, ?_, ?_, ?_⟩
  all_goals
    unfold ended
    rw [StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
      Pipeline.withArrays_of_ne _ c _ _ _ (by decide), Pipeline.withR_of_not_mem _ _ _ _ _ (by decide)]
  exacts [V_main_arg0 m c, V_main_arg1 m c, V_main_arg2 m c, V_main_arg3 m c, V_main_arg4 m c]

/-- The frame: the arguments end as they were given, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => by
    obtain ⟨a0, a1, a2, a3, a4⟩ := args_kept m c
    have hb := fun b hb => (h.1 c).2 b hb
    exact ⟨(hb main_arg0 (Pipeline.mem_restRefs_of _ (by decide) (by decide))).trans a0,
      (hb main_arg1 (Pipeline.mem_restRefs_of _ (by decide) (by decide))).trans a1,
      (hb main_arg2 (Pipeline.mem_restRefs_of _ (by decide) (by decide))).trans a2,
      (hb main_arg3 (Pipeline.mem_restRefs_of _ (by decide) (by decide))).trans a3,
      (hb main_arg4 (Pipeline.mem_restRefs_of _ (by decide) (by decide))).trans a4⟩, h.2⟩) (run_main m ρ)

end Cert.FoxBwdIdeal.Fox

end
-- ==== Proof.Fox.Claims.lean ====
/- The frame claims of the forgetting attention's backward kernel: one run read at both kinds of numbers. -/
module

public import proofs.«01_k».proof.Defs
public import proofs.«01_k».proof.Proof.Gen.FoxBwd
public import proofs.«01_k».proof.Proof.Fox.Frame

@[expose] public section

noncomputable section

namespace Cert.FoxBwdIdeal.Fox

open Idealize.ShloMosaic Idealize.SL.Sem

theorem frame_ideal : Cert.quiescent_FoxBwdIdeal := fun m ρ _ => frame m ρ

/-- The kernel and its idealized form are the same text. -/
theorem same_main : Cert.FoxBwd.main (F := Bits) = Cert.FoxBwdIdeal.main (F := Bits) := by sl_kernel_rfl
theorem same_defs : Cert.FoxBwd.defs (F := Bits) = Cert.FoxBwdIdeal.defs (F := Bits) := by sl_kernel_rfl

/-- So the same run is the kernel's own. -/
theorem frame_bits : Cert.quiescent_FoxBwd := fun m ρ _ => by
  have h := frame (F := Bits) m ρ
  rw [← same_main, ← same_defs] at h
  exact h

end Cert.FoxBwdIdeal.Fox

end
-- ==== Proof.Fox.Tile.lean ====
/- One tile of 256 queries of the forgetting attention's backward kernel, for any number of keys: what its text computes. -/
module

public import proofs.«01_k».proof.Proof.Fox.Run
public import Idealize.ShloMosaic.Lib.Pipeline.ValueKit
public import Idealize.ShloMosaic.Lib.ValueLayout
public import Idealize.ShloMosaic.Lib.MatmulPlain

@[expose] public section

set_option maxRecDepth 16384

noncomputable section

namespace Cert.FoxBwdIdeal.Fox

open Cert.FoxBwdIdeal.Gen
open Idealize.ShloMosaic Idealize.ShloMosaic.TcCoe Idealize.SL.Sem

/-- The shape of `a` rows and `b` columns. -/
abbrev M (a b : ℕ) : Shape := ⟨2, ![a, b]⟩

/-- What the shapes of a tile with `E` keys satisfy. -/
structure Fits (E : ℕ) : Prop where
  col : S256x1.Broadcasts (M 256 E)
  row : (M 1 E).Broadcasts (M 256 E)
  rows : (M 256 E).Iotas .tc 32 [0]
  cols : (M 256 E).Iotas .tc 32 [1]
  top : (M 512 E).Slices ![0, 0] (M 256 E)
  bottom : (M 512 E).Slices ![256, 0] (M 256 E)
  pair : Shape.Concatenates [M 256 E, M 256 E] (M 512 E) 0
  alongRow : (M 256 E).Reduces [1] S256
  alongCol : (M 256 E).Reduces [0] ⟨1, ![E]⟩
  line : (⟨1, ![E]⟩ : Shape).ShapeCasts (M 1 E)
  flat : (⟨3, ![1, 1, E]⟩ : Shape).ShapeCasts (M 1 E)
  deep : (M 1 E).ShapeCasts ⟨3, ![1, 1, E]⟩
  same : (M E 128).ShapeCasts (M E 128)

/-- A product contracted over the rows of both operands. -/
def overRows (K A B : ℕ) : DotDims (M K A) (M K B) (M A B) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-! ## The operations of a tile -/

/-- The columns of the second head of a pair. -/
def second : IVec S256x128 1 :=
  broadcastTo S256x128 (shapeCast S1x128 (cmpi .sge (iota .tc S1x128 32 [1] iota_S1x128_d1_w32) (broadcast S1x128 64#32))
    shapeCasts_S1x128_S1x128) broadcasts_S1x128_S256x128

/-- The two heads of a tile, one under the other. -/
def stack (x : FVec Ideal S256x128 .bf16) : FVec Ideal S512x128 .bf16 :=
  concatenate S512x128 0
    [⟨S256x128, select second (broadcast S256x128 (Scalar.sitofp (F := Ideal) .bf16 0#32)) x⟩,
     ⟨S256x128, select second x (broadcast S256x128 (Scalar.sitofp (F := Ideal) .bf16 0#32))⟩]
    concatenates_S256x128_S256x128_S512x128_d0

/-- The queries of a tile, scaled. -/
def scaled (q : FVec Ideal S256x128 .f32) : FVec Ideal S256x128 .bf16 :=
  truncf .bf16 (mulf (shapeCast S256x128 q shapeCasts_S256x128_S256x128)
    (broadcast S256x128 (Scalar.ofBits (F := Ideal) .f32 0x3E000000#32))) bitsLt_bf16_f32

variable {E : ℕ} (h : Fits E)

/-- The stacked rows against the keys (or the values). -/
def against (x : FVec Ideal S512x128 .bf16) (ks : FVec Ideal (M E 128) .bf16) : FVec Ideal (M 512 E) .f32 :=
  matmul (DotDims.transposedRhs 512 128 E) none x ks (constant (M 512 E) .f32 0x00000000#32)

include h in
/-- The difference of the two decays, for each query and key. -/
def gap (fq : FVec Ideal S1x256 .f32) (fk : FVec Ideal (M 1 E) .f32) : FVec Ideal (M 256 E) .f32 :=
  subf
    (broadcastTo (M 256 E)
      (shapeCast S256x1
        (multiReduction .add [1] S256
          (select (cmpi .eq (iota .tc S256x256 32 [0] iota_S256x256_d0_w32) (iota .tc S256x256 32 [1] iota_S256x256_d1_w32))
            (broadcastTo S256x256 (shapeCast S1x256 fq shapeCasts_S1x256_S1x256) broadcasts_S1x256_S256x256)
            (broadcast S256x256 (Scalar.ofBits (F := Ideal) .f32 0x00000000#32)))
          0x00000000#32 reduces_S256x256_S256 (.inl rfl) rfl) shapeCasts_S256_S256x1) h.col)
    (broadcastTo (M 256 E) fk h.row)

include h in
/-- The weights of a tile: the exponential where the key is not after the query. -/
def weights (first : BitVec 32) (s b : FVec Ideal (M 256 E) .f32) (l : FVec Ideal S256x1 .f32) : FVec Ideal (M 256 E) .f32 :=
  select (cmpi .sle (iota .tc (M 256 E) 32 [1] h.cols) (addi (iota .tc (M 256 E) 32 [0] h.rows) (broadcast (M 256 E) first)))
    (exp (subf (addf s b) (broadcastTo (M 256 E) l h.col)))
    (broadcast (M 256 E) (Scalar.ofBits (F := Ideal) .f32 0x00000000#32))

include h in
/-- The gradient of the scores. -/
def pulled (p dp : FVec Ideal (M 256 E) .f32) : FVec Ideal (M 256 E) .f32 :=
  mulf p (subf dp (broadcastTo (M 256 E) (shapeCast S256x1
    (multiReduction .add [1] S256 (mulf p dp) 0x00000000#32 h.alongRow (.inl rfl) rfl) shapeCasts_S256_S256x1) h.col))

include h in
/-- The two heads' rows, one under the other. -/
def both (a b : FVec Ideal (M 256 E) .f32) : FVec Ideal (M 512 E) .bf16 :=
  concatenate (M 512 E) 0 [⟨M 256 E, truncf .bf16 a bitsLt_bf16_f32⟩, ⟨M 256 E, truncf .bf16 b bitsLt_bf16_f32⟩] h.pair

include h in
/-- A tile added to the running sum of a gradient. -/
def added (acc : FVec Ideal (M E 128) .f32) (a : FVec Ideal (M 512 E) .bf16) (x : FVec Ideal S512x128 .bf16) : FVec Ideal (M E 128) .f32 :=
  shapeCast (M E 128) (addf acc (matmul (overRows 512 E 128) none a x (constant (M E 128) .f32 0x00000000#32))) h.same

/-- The queries' gradient of a tile. -/
def ownRows (a : FVec Ideal (M 512 E) .bf16) (ks : FVec Ideal (M E 128) .bf16) : FVec Ideal S256x128 .bf16 :=
  shapeCast S256x128
    (truncf .bf16 (mulf
      (select second
        (extractStridedSlice S256x128 ![256, 0] (matmul (DotDims.plain 512 E 128) none a ks (constant S512x128 .f32 0x00000000#32))
          slices_S512x128_o256_0_S256x128)
        (extractStridedSlice S256x128 ![0, 0] (matmul (DotDims.plain 512 E 128) none a ks (constant S512x128 .f32 0x00000000#32))
          slices_S512x128_o0_0_S256x128))
      (broadcast S256x128 (Scalar.ofBits (F := Ideal) .f32 0x3E000000#32))) bitsLt_bf16_f32) shapeCasts_S256x128_S256x128

include h in
/-- A tile's part taken off a row of the decay's gradient. -/
def lowered (acc : FVec Ideal ⟨3, ![1, 1, E]⟩ .f32) (ds : FVec Ideal (M 256 E) .f32) : FVec Ideal ⟨3, ![1, 1, E]⟩ .f32 :=
  shapeCast ⟨3, ![1, 1, E]⟩ (subf (shapeCast (M 1 E) acc h.flat)
    (shapeCast (M 1 E) (multiReduction .add [0] ⟨1, ![E]⟩ ds 0x00000000#32 h.alongCol (.inl rfl) rfl) h.line)) h.deep

/-! ## A tile from the arrays of its point -/

/-- How many keys tile `n` looks at: all up to its last query. -/
abbrev ext (n : Fin 8) : ℕ := 256 * (n.val + 1)

theorem fits : ∀ n : Fin 8, Fits (ext n) := fun n => by
  constructor <;> revert n <;> decide +kernel

theorem keys_fit : ∀ n : Fin 8, S2048x128.Slices ![0, 0] (M (ext n) 128) := by decide +kernel
theorem line_fits : ∀ n : Fin 8, S1x2048.Slices ![0, 0] (M 1 (ext n)) := by decide +kernel
theorem part_fits : ∀ n : Fin 8, S1x2048.Slices ![0, 256 * n.val] S1x256 := by decide +kernel

/-- The keys (or values) of tile `n`: the first rows; all of them for the last tile. -/
def prefixRows (k : FVec Ideal S2048x128 .bf16) : (n : Fin 8) → FVec Ideal (M (ext n) 128) .bf16
  | ⟨7, _⟩ => k
  | n => extractStridedSlice (M (ext n) 128) ![0, 0] k (keys_fit n)

/-- The decays of the keys of tile `n`. -/
def prefixLine (f : FVec Ideal S1x2048 .f32) : (n : Fin 8) → FVec Ideal (M 1 (ext n)) .f32
  | ⟨7, _⟩ => f
  | n => extractStridedSlice (M 1 (ext n)) ![0, 0] f (line_fits n)

/-- The decays of the queries of tile `n`. -/
def tileLine (f : FVec Ideal S1x2048 .f32) (n : Fin 8) : FVec Ideal S1x256 .f32 :=
  extractStridedSlice S1x256 ![0, 256 * n.val] f (part_fits n)

/-- What a point reads: the queries, their upstream gradient and their log-sums tile by tile, keys, values, and the
    decays of its two heads. -/
structure Read where
  q : Fin 8 → FVec Ideal S256x128 .f32
  o : Fin 8 → FVec Ideal S256x128 .bf16
  l : Fin 8 → FVec Ideal S256x128 .f32
  k : FVec Ideal S2048x128 .bf16
  v : FVec Ideal S2048x128 .bf16
  f : FVec Ideal S1x2048 .f32
  g : FVec Ideal S1x2048 .f32

namespace Read

variable (R : Read) (n : Fin 8)

def queries : FVec Ideal S512x128 .bf16 := stack (scaled (R.q n))
def upstream : FVec Ideal S512x128 .bf16 := stack (shapeCast S256x128 (R.o n) shapeCasts_S256x128_S256x128)
def scores : FVec Ideal (M 512 (ext n)) .f32 := against (R.queries n) (prefixRows R.k n)
def pulls : FVec Ideal (M 512 (ext n)) .f32 := against (R.upstream n) (prefixRows R.v n)
def logs : FVec Ideal S256x128 .f32 := shapeCast S256x128 (R.l n) shapeCasts_S256x128_S256x128
def firstQuery : BitVec 32 := BitVec.ofNat 32 (256 * n.val)
def weightsA : FVec Ideal (M 256 (ext n)) .f32 :=
  weights (fits n) (firstQuery n) (extractStridedSlice (M 256 (ext n)) ![0, 0] (R.scores n) (fits n).top)
    (gap (fits n) (tileLine R.f n) (prefixLine R.f n)) (extractStridedSlice S256x1 ![0, 0] (R.logs n) slices_S256x128_o0_0_S256x1)
def weightsB : FVec Ideal (M 256 (ext n)) .f32 :=
  weights (fits n) (firstQuery n) (extractStridedSlice (M 256 (ext n)) ![256, 0] (R.scores n) (fits n).bottom)
    (gap (fits n) (tileLine R.g n) (prefixLine R.g n)) (extractStridedSlice S256x1 ![0, 64] (R.logs n) slices_S256x128_o0_64_S256x1)
def pulledA : FVec Ideal (M 256 (ext n)) .f32 :=
  pulled (fits n) (R.weightsA n) (extractStridedSlice (M 256 (ext n)) ![0, 0] (R.pulls n) (fits n).top)
def pulledB : FVec Ideal (M 256 (ext n)) .f32 :=
  pulled (fits n) (R.weightsB n) (extractStridedSlice (M 256 (ext n)) ![256, 0] (R.pulls n) (fits n).bottom)

end Read

end Cert.FoxBwdIdeal.Fox

end
-- ==== Proof.Fox.Pieces.lean ====
/- The pieces one point of the forgetting attention's backward kernel stores, as lists over its tiles. -/
module

public import proofs.«01_k».proof.Proof.Fox.Tile

@[expose] public section

set_option maxRecDepth 16384

noncomputable section

namespace Cert.FoxBwdIdeal.Fox

open Cert.FoxBwdIdeal.Gen
open Idealize.ShloMosaic Idealize.ShloMosaic.TcCoe Idealize.SL.Sem

theorem prefix_inside : ∀ n : Fin 8, ∀ a, (![0, 0] : Fin 2 → ℕ) a + (M (ext n) 128).size a ≤ S2048x128.size a := by decide +kernel
theorem rows_inside : ∀ n : Fin 8, ∀ a, (![256 * n.val, 0] : Fin 2 → ℕ) a + S256x128.size a ≤ S2048x128.size a := by decide +kernel
theorem line_inside : ∀ (n : Fin 8) (e : Fin 2), ∀ a, (![0, e.val, 0] : Fin 3 → ℕ) a + (⟨3, ![1, 1, ext n]⟩ : Shape).size a ≤ S1x8x2048.size a := by decide +kernel

/-- The first `ext n` rows. -/
abbrev prefixRect (n : Fin 8) : Rect S2048x128 := Rect.unit ![0, 0] (M (ext n) 128).size (prefix_inside n)
/-- The rows of tile `n`. -/
abbrev rowsRect (n : Fin 8) : Rect S2048x128 := Rect.unit ![256 * n.val, 0] S256x128.size (rows_inside n)
/-- The first `ext n` entries of row `e` of the decay's gradient. -/
abbrev lineRect (n : Fin 8) (e : Fin 2) : Rect S1x8x2048 := Rect.unit ![0, e.val, 0] (⟨3, ![1, 1, ext n]⟩ : Shape).size (line_inside n e)

variable (R : Read)

/-- The running sum of the keys' gradient after the tiles of a list (last first). -/
def keySums (w : View sig .tc .vmem S2048x128 .f32) : List (Fin 8) → List (View.Piece (Elt Ideal) S2048x128 .f32)
  | [] => [⟨Rect.unit ![0, 0] S2048x128.size inb_S2048x128_S2048x128_0_0, k0_pay5 (F := Ideal)⟩]
  | n :: L => ⟨prefixRect n, added (fits n) (w.readCov (keySums w L) (prefixRect n).toLoadRect)
      (both (fits n) (R.pulledA n) (R.pulledB n)) (R.queries n)⟩ :: keySums w L

/-- The running sum of the values' gradient. -/
def valueSums (w : View sig .tc .vmem S2048x128 .f32) : List (Fin 8) → List (View.Piece (Elt Ideal) S2048x128 .f32)
  | [] => [⟨Rect.unit ![0, 0] S2048x128.size inb_S2048x128_S2048x128_0_0, k0_pay6 (F := Ideal)⟩]
  | n :: L => ⟨prefixRect n, added (fits n) (w.readCov (valueSums w L) (prefixRect n).toLoadRect)
      (both (fits n) (R.weightsA n) (R.weightsB n)) (R.upstream n)⟩ :: valueSums w L

/-- The queries' gradient, tile by tile. -/
def queryRows : List (Fin 8) → List (View.Piece (Elt Ideal) S2048x128 .bf16)
  | [] => []
  | n :: L => ⟨rowsRect n, ownRows (both (fits n) (R.pulledA n) (R.pulledB n)) (prefixRows R.k n)⟩ :: queryRows L

/-- The decay's gradient: zero, then for each tile its part taken off the two heads' rows. -/
def decayLines (w : View sig .tc .vmem S1x8x2048 .f32) : List (Fin 8) → List (View.Piece (Elt Ideal) S1x8x2048 .f32)
  | [] => [⟨Rect.unit ![0, 0, 0] S1x8x2048.size inb_S1x8x2048_S1x8x2048_0_0_0, k0_pay7 (F := Ideal)⟩]
  | n :: L =>
    let first : View.Piece (Elt Ideal) S1x8x2048 .f32 :=
      ⟨lineRect n 0, lowered (fits n) (w.readCov (decayLines w L) (lineRect n 0).toLoadRect) (R.pulledA n)⟩
    ⟨lineRect n 1, lowered (fits n) (w.readCov (first :: decayLines w L) (lineRect n 1).toLoadRect) (R.pulledB n)⟩ :: first :: decayLines w L

/-- The tiles, last first. -/
abbrev tiles : List (Fin 8) := [7, 6, 5, 4, 3, 2, 1, 0]

section Point

variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S16x2048 .f32) (harg4 : arg4.IsWhole) (arg5 : Memref sig .tc .vmem S2048x128 .bf16) (harg5 : arg5.IsWhole) (arg6 : Memref sig .tc .vmem S2048x128 .f32) (harg6 : arg6.IsWhole) (arg9 : Memref sig .tc .vmem S1x8x2048 .f32) (harg9 : arg9.IsWhole) (arg10 : Memref sig .tc .vmem S2048x128 .f32)
    (arg11 : Memref sig .tc .vmem S2048x128 .f32)
    (x0 : Vec Ideal S2048x128 .f32) (x1 : Vec Ideal S2048x128 .f32) (x2 : Vec Ideal S2048x128 .f32) (x3 : Vec Ideal S16x2048 .f32) (x4 : Vec Ideal S2048x128 .bf16) (x5 : Vec Ideal S2048x128 .f32)

/-- What a point reads of its staging buffers. -/
def reads : Read where
  q n := View.readAt (Elt Ideal) arg1.view (rowsRect n).toLoadRect (harg1.unread x0)
  o n := View.readAt (Elt Ideal) arg5.view (rowsRect n).toLoadRect (harg5.unread x4)
  l n := View.readAt (Elt Ideal) arg6.view (rowsRect n).toLoadRect (harg6.unread x5)
  k := k0_pay1 (View.readAt (Elt Ideal) arg2.view (Rect.unit ![0, 0] S2048x128.size inb_S2048x128_S2048x128_0_0).toLoadRect (harg2.unread x1))
  v := k0_pay2 (View.readAt (Elt Ideal) arg3.view (Rect.unit ![0, 0] S2048x128.size inb_S2048x128_S2048x128_0_0).toLoadRect (harg3.unread x2))
  f := k0_pay3 (View.readAt (Elt Ideal) arg4.view (Rect.unit (s := S16x2048) (k0_off1 i 0#32) S1x2048.size (k0_off1_inb i 0)).toLoadRect (harg4.unread x3))
  g := k0_pay4 (View.readAt (Elt Ideal) arg4.view (Rect.unit (s := S16x2048) (k0_off1 i 1#32) S1x2048.size (k0_off1_inb i 1)).toLoadRect (harg4.unread x3))

theorem query_rows : run.sl.HS2_8 c i arg1 harg1 arg2 harg2 arg3 harg3 arg4 harg4 arg5 harg5 arg6 harg6 x0 x1 x2 x3 x4 x5
    = queryRows (reads i arg1 harg1 arg2 harg2 arg3 harg3 arg4 harg4 arg5 harg5 arg6 harg6 x0 x1 x2 x3 x4 x5) tiles := by
  sl_kernel_rfl

theorem key_rows : run.sl.HS3_1 c i arg1 harg1 arg2 harg2 arg3 harg3 arg4 harg4 arg5 harg5 arg6 harg6 arg10 x0 x1 x2 x3 x4 x5
    = [⟨Rect.unit ![0, 0] S2048x128.size inb_S2048x128_S2048x128_0_0, k0_pay192 (arg10.view.readCov
        (keySums (reads i arg1 harg1 arg2 harg2 arg3 harg3 arg4 harg4 arg5 harg5 arg6 harg6 x0 x1 x2 x3 x4 x5) arg10.view tiles)
        (prefixRect 7).toLoadRect)⟩] := by
  sl_kernel_rfl

theorem value_rows : run.sl.HS4_1 c i arg1 harg1 arg2 harg2 arg4 harg4 arg5 harg5 arg6 harg6 arg11 x0 x1 x3 x4 x5
    = [⟨Rect.unit ![0, 0] S2048x128.size inb_S2048x128_S2048x128_0_0, k0_pay193 (arg11.view.readCov
        (valueSums (reads i arg1 harg1 arg2 harg2 arg3 harg3 arg4 harg4 arg5 harg5 arg6 harg6 x0 x1 x2 x3 x4 x5) arg11.view tiles)
        (prefixRect 7).toLoadRect)⟩] := by
  sl_kernel_rfl

theorem decay_lines (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole)
    (harg10 : arg10.IsWhole) (harg11 : arg11.IsWhole) :
    (run (F := Ideal) c i arg1 harg1 arg2 harg2 arg3 harg3 arg4 harg4 arg5 harg5 arg6 harg6 arg9 harg9 arg10 harg10 arg11 harg11 arg12 harg12 arg13 harg13 arg14 harg14 x0 x1 x2 x3 x4 x5).1.1
      = decayLines (reads i arg1 harg1 arg2 harg2 arg3 harg3 arg4 harg4 arg5 harg5 arg6 harg6 x0 x1 x2 x3 x4 x5) arg9.view tiles := by
  sl_kernel_rfl

end Point

end Cert.FoxBwdIdeal.Fox

end
-- ==== Proof.Fox.Entries.lean ====
/- The operations of a tile of the forgetting attention's backward kernel, read at one index. -/
module

public import proofs.«01_k».proof.Proof.Fox.Tile
public import Idealize.ShloMosaic.Lib.Pointwise
public import Idealize.ShloMosaic.Lib.Claim

@[expose] public section

set_option maxRecDepth 16384

noncomputable section

namespace Cert.FoxBwdIdeal.Fox

open Cert.FoxBwdIdeal.Gen
open Idealize.ShloMosaic Idealize.ShloMosaic.TcCoe Idealize.SL.Sem

theorem select_decide {α : Type} (p : Prop) [Decidable p] (a b : α) :
    Scalar.select (BitVec.ofBool (decide p)) a b = if p then a else b := by
  by_cases h : p <;> simp [Scalar.select, h]

variable {E : ℕ} (h : Fits E)

theorem second_apply (r : Fin 256) (d : Fin 128) : second (ix2 r d) = BitVec.ofBool (decide (64 ≤ d.val)) := by
  unfold second
  pointwise
  word_cmp

theorem zero_word : ((((0#32 : BitVec 32).toInt : ℝ)) : EReal) = 0 := by simp

theorem stack_top (x : FVec Ideal S256x128 .bf16) (r : Fin 256) (d : Fin 128) (hr : r.val < 512) :
    stack x (ix2 ⟨r.val, hr⟩ d) = if d.val < 64 then x (ix2 r d) else 0 := by
  have hc := r.isLt
  unfold stack
  pointwise
  rw [second_apply, select_decide]
  by_cases hd : d.val < 64
  · rw [if_neg (by omega), if_pos hd]
  · rw [if_pos (by omega), if_neg hd]
    exact zero_word

theorem stack_bottom (x : FVec Ideal S256x128 .bf16) (r : Fin 256) (d : Fin 128) (hr : 256 + r.val < 512) :
    stack x (ix2 ⟨256 + r.val, hr⟩ d) = if d.val < 64 then 0 else x (ix2 r d) := by
  have hx : ∀ (y : Fin 512) (hy : ¬ y.val < 256), stack x (ix2 y d) = if 64 ≤ d.val then x (ix2 ⟨y.val - 256, by omega⟩ d) else 0 := by
    intro y hy
    unfold stack
    pointwise
    rw [dif_neg hy, second_apply, select_decide]
    exact congrArg (fun z : EReal => if 64 ≤ d.val then x (ix2 ⟨y.val - 256, by omega⟩ d) else z) zero_word
  rw [hx _ (by simp)]
  by_cases hd : d.val < 64
  · rw [if_neg (by omega), if_pos hd]
  · rw [if_pos (by omega), if_neg hd]
    congr 2
    exact Fin.ext (by simp)

theorem eighth_word : Ideal.ofBits .f32 0x3E000000#32 = ((1 / 8 : ℝ) : EReal) := by
  simp [Ideal.ofBits, Ideal.ieee, -EReal.coe_mul]
  norm_num

theorem scaled_apply (q : FVec Ideal S256x128 .f32) (r : Fin 256) (d : Fin 128) :
    scaled q (ix2 r d) = q (ix2 r d) * ((1 / 8 : ℝ) : EReal) := by
  unfold scaled
  pointwise
  rw [eighth_word]

theorem against_apply (x : FVec Ideal S512x128 .bf16) (ks : FVec Ideal (M E 128) .bf16) (y : Fin 512) (j : Fin E) :
    against x ks (ix2 y j) = ∑ d : Fin 128, x (ix2 y d) * ks (ix2 j d) := by
  unfold against
  refine (Ideal.matmul_transposedRhs_apply _ _ _ _ _ _).trans ?_
  exact (congrArg (· + _) Ideal.ofBits_zero_f32).trans (zero_add _)

theorem gap_apply (fq : FVec Ideal S1x256 .f32) (fk : FVec Ideal (M 1 E) .f32) (r : Fin 256) (j : Fin E) :
    gap h fq fk (ix2 r j) = fq (ix2 0 r) - fk (ix2 0 j) := by
  unfold gap
  pointwise
  have hs : ∀ x : Fin 256, Scalar.select (IntOp.cmpi .eq (BitVec.ofNat 32 r.val) (BitVec.ofNat 32 x.val)) (fq (ix2 0 x)) 0
      = if r = x then fq (ix2 0 x) else 0 := fun x => by
    rw [show IntOp.cmpi .eq (BitVec.ofNat 32 r.val) (BitVec.ofNat 32 x.val) = BitVec.ofBool (decide (r.val = x.val)) by (have := r.isLt; have := x.isLt; word_cmp), select_decide]
    simp only [Fin.ext_iff]
  congr 1
  · rw [Finset.sum_congr rfl fun x _ => hs x, Finset.sum_ite_eq, if_pos (Finset.mem_univ _)]
  · rw [Shape.Idx.norm2]
    congr 1
    refine (ix2_inj ..).2 ⟨Subsingleton.elim _ _, ?_⟩
    ext
    by_cases h1 : E = 1
    · have hj := j.isLt
      exact (congrArg Fin.val (dif_pos h1)).trans (show 0 = j.val by omega)
    · exact congrArg Fin.val (dif_neg h1)

theorem weights_apply (first : ℕ) (hf : first < 4096) (hE : E ≤ 4096) (s b : FVec Ideal (M 256 E) .f32) (l : FVec Ideal S256x1 .f32) (r : Fin 256) (j : Fin E) :
    weights h (BitVec.ofNat 32 first) s b l (ix2 r j)
      = if j.val ≤ first + r.val then Ideal.exp (s (ix2 r j) + b (ix2 r j) - l (ix2 r 0)) else 0 := by
  have hj := j.isLt
  unfold weights
  pointwise
  have hr := r.isLt
  have ha : IntOp.addi (BitVec.ofNat 32 r.val) (BitVec.ofNat 32 first) = BitVec.ofNat 32 (first + r.val) := by
    show BitVec.ofNat 32 r.val + BitVec.ofNat 32 first = _
    rw [← BitVec.ofNat_add, add_comm]
  have hc : IntOp.cmpi .sle (BitVec.ofNat 32 j.val) (BitVec.ofNat 32 (first + r.val)) = BitVec.ofBool (decide (j.val ≤ first + r.val)) :=
    WordCmp.cmpi_sle_ofNat (by omega) (by omega)
  rw [ha]
  exact (congrArg (fun z => Scalar.select z _ _) hc).trans (select_decide _ _ _)

theorem pulled_apply (p dp : FVec Ideal (M 256 E) .f32) (r : Fin 256) (j : Fin E) :
    pulled h p dp (ix2 r j) = p (ix2 r j) * (dp (ix2 r j) - ∑ x, p (ix2 r x) * dp (ix2 r x)) := by
  unfold pulled
  pointwise

theorem both_top (a b : FVec Ideal (M 256 E) .f32) (r : Fin 256) (hr : r.val < 512) (j : Fin E) :
    both h a b (ix2 ⟨r.val, hr⟩ j) = a (ix2 r j) := by
  have hc := r.isLt
  unfold both
  pointwise
  rw [Shape.Idx.norm2]
  rfl

theorem both_bottom (a b : FVec Ideal (M 256 E) .f32) (r : Fin 256) (hr : 256 + r.val < 512) (j : Fin E) :
    both h a b (ix2 ⟨256 + r.val, hr⟩ j) = b (ix2 r j) := by
  have hx : ∀ (y : Fin 512) (hy : ¬ y.val < 256), both h a b (ix2 y j) = b (ix2 ⟨y.val - 256, by omega⟩ j) := by
    intro y hy
    unfold both
    pointwise
    rw [dif_neg hy]
    rw [Shape.Idx.norm2]
    rfl
  rw [hx _ (by simp)]
  congr 2
  exact Fin.ext (by simp)

theorem half_sum (F : Fin 512 → EReal) : ∑ y, F y = (∑ r : Fin 256, F ⟨r.val, by omega⟩) + ∑ r : Fin 256, F ⟨256 + r.val, by omega⟩ :=
  Fin.sum_univ_add (a := 256) (b := 256) F

theorem overRows_apply {K A B : ℕ} (a : FVec Ideal (M K A) .bf16) (x : FVec Ideal (M K B) .bf16) (acc : FVec Ideal (M A B) .f32) (r : Fin A) (c : Fin B) :
    matmul (overRows K A B) none a x acc (ix2 r c) = acc (ix2 r c) + ∑ k : Fin K, a (ix2 k r) * x (ix2 k c) := by
  refine (Ideal.matmul_apply₁ (d := overRows K A B) (a := (0 : Fin 2)) rfl (K := K) rfl _ _ _ _).trans ?_
  refine congrArg (acc (ix2 r c) + ·) (Finset.sum_congr rfl fun k _ => ?_)
  rw [Shape.Idx.norm2, Shape.Idx.norm2]
  rfl

theorem added_apply (acc : FVec Ideal (M E 128) .f32) (a : FVec Ideal (M 512 E) .bf16) (x : FVec Ideal S512x128 .bf16) (j : Fin E) (d : Fin 128) :
    added h acc a x (ix2 j d) = acc (ix2 j d)
      + ((∑ r : Fin 256, a (ix2 ⟨r.val, by omega⟩ j) * x (ix2 ⟨r.val, by omega⟩ d))
        + ∑ r : Fin 256, a (ix2 ⟨256 + r.val, by omega⟩ j) * x (ix2 ⟨256 + r.val, by omega⟩ d)) := by
  unfold added
  rw [shapeCast_self]
  show acc (ix2 j d) + matmul (overRows 512 E 128) none a x (constant (M E 128) .f32 0x00000000#32) (ix2 j d) = _
  rw [overRows_apply, half_sum]
  exact congrArg (acc (ix2 j d) + ·) ((congrArg (· + _) Ideal.ofBits_zero_f32).trans (zero_add _))

theorem ownRows_apply (a : FVec Ideal (M 512 E) .bf16) (ks : FVec Ideal (M E 128) .bf16) (r : Fin 256) (d : Fin 128) :
    ownRows a ks (ix2 r d) = (if d.val < 64 then ∑ j : Fin E, a (ix2 ⟨r.val, by omega⟩ j) * ks (ix2 j d)
      else ∑ j : Fin E, a (ix2 ⟨256 + r.val, by omega⟩ j) * ks (ix2 j d)) * ((1 / 8 : ℝ) : EReal) := by
  unfold ownRows
  pointwise
  rw [second_apply, select_decide, eighth_word]
  have hp : ∀ y : Fin 512, matmul (DotDims.plain 512 E 128) none a ks (constant S512x128 .f32 0x00000000#32) (ix2 y d) = ∑ j : Fin E, a (ix2 y j) * ks (ix2 j d) :=
    fun y => (Ideal.matmul_plain_apply none a ks (constant S512x128 .f32 0x00000000#32) y d).trans
      ((congrArg (· + _) Ideal.ofBits_zero_f32).trans (zero_add _))
  by_cases hd : d.val < 64
  · rw [if_neg (by omega), if_pos hd]
    exact congrArg (· * _) (hp _)
  · rw [if_pos (by omega), if_neg hd]
    exact congrArg (· * _) (hp _)

theorem lowered_apply (acc : FVec Ideal ⟨3, ![1, 1, E]⟩ .f32) (ds : FVec Ideal (M 256 E) .f32) (j : Fin E) :
    lowered h acc ds (ix3 0 0 j) = acc (ix3 0 0 j) - ∑ r : Fin 256, ds (ix2 r j) := by
  unfold lowered
  pointwise
  congr 1
  refine Finset.sum_congr rfl fun x _ => ?_
  refine congrArg ds ((ix2_inj ..).2 ⟨rfl, ?_⟩)
  exact congrFun (Shape.reshapeEquiv_eq_of_rowMajor (y := ix1 j) _ (by
    rw [Shape.rowMajor_val_three, Shape.rowMajor_val_one]
    show j.val = (0 * 1 + 0) * E + j.val
    simp)) 0

end Cert.FoxBwdIdeal.Fox

end
-- ==== Proof.Fox.Reals.lean ====
/- What the backward pass of one pair of heads of the forgetting attention is over the reals, and each tile's share of it. -/
module

public import proofs.«01_k».proof.Proof.Fox.Entries
public import proofs.«01_k».proof.Proof.Fox.Pieces
public import proofs.«01_k».proof.Proof.Lift

@[expose] public section

set_option maxRecDepth 16384

noncomputable section

namespace Cert.FoxBwdIdeal.Fox

open Cert.FoxBwdIdeal.Gen
open Idealize.ShloMosaic Idealize.ShloMosaic.TcCoe Idealize.SL.Sem

/-- The real arrays of one pair of heads. -/
structure Reals where
  q : Fin 2048 → Fin 128 → ℝ
  k : Fin 2048 → Fin 128 → ℝ
  v : Fin 2048 → Fin 128 → ℝ
  o : Fin 2048 → Fin 128 → ℝ
  l : Fin 2048 → Fin 128 → ℝ
  f : Fin 2 → Fin 2048 → ℝ

/-- The head of a column. -/
def headOf (d : Fin 128) : Fin 2 := ⟨d.val / 64, by omega⟩

/-- The first column of a head. -/
def firstCol (e : Fin 2) : Fin 128 := ⟨64 * e.val, by omega⟩

namespace Reals

variable (T : Reals) (e : Fin 2) (i j : Fin 2048) (d : Fin 128)

def score : ℝ := ∑ d : Fin 128, (if headOf d = e then T.q i d * (1 / 8) else 0) * T.k j d
def pull : ℝ := ∑ d : Fin 128, (if headOf d = e then T.o i d else 0) * T.v j d
def weight : ℝ := if j.val ≤ i.val then Real.exp (T.score e i j + (T.f e i - T.f e j) - T.l i (firstCol e)) else 0
def grad : ℝ := T.weight e i j * (T.pull e i j - ∑ x, T.weight e i x * T.pull e i x)
def gradQ : ℝ := (∑ j, T.grad (headOf d) i j * T.k j d) * (1 / 8)
def gradK : ℝ := ∑ i, T.grad (headOf d) i j * (T.q i d * (1 / 8))
def gradV : ℝ := ∑ i, T.weight (headOf d) i j * T.o i d
def gradF : ℝ := -∑ i, T.grad e i j

end Reals

/-- Query `r` of tile `n`. -/
def qry (n : Fin 8) (r : Fin 256) : Fin 2048 := ⟨256 * n.val + r.val, by omega⟩
/-- Key `j` of tile `n`. -/
def key (n : Fin 8) (j : Fin (ext n)) : Fin 2048 := ⟨j.val, by have := j.isLt; unfold ext at this; omega⟩

/-- The arrays a point reads are the real ones. -/
structure Holds (R : Read) (T : Reals) : Prop where
  q : ∀ n r d, R.q n (ix2 r d) = ((T.q (qry n r) d : ℝ) : EReal)
  o : ∀ n r d, R.o n (ix2 r d) = ((T.o (qry n r) d : ℝ) : EReal)
  l : ∀ n r d, R.l n (ix2 r d) = ((T.l (qry n r) d : ℝ) : EReal)
  k : ∀ j d, R.k (ix2 j d) = ((T.k j d : ℝ) : EReal)
  v : ∀ j d, R.v (ix2 j d) = ((T.v j d : ℝ) : EReal)
  f : ∀ j, R.f (ix2 0 j) = ((T.f 0 j : ℝ) : EReal)
  g : ∀ j, R.g (ix2 0 j) = ((T.f 1 j : ℝ) : EReal)

theorem prefixRows_apply (k : FVec Ideal S2048x128 .bf16) (n : Fin 8) (j : Fin (ext n)) (d : Fin 128) :
    prefixRows k n (ix2 j d) = k (ix2 (key n j) d) := by
  revert j
  fin_cases n <;> intro j
  case «7» => rfl
  all_goals exact extractStridedSlice_apply _ _ (keys_fit _) _ _ fun a => by fin_cases a <;> simp [key]

theorem prefixLine_apply (k : FVec Ideal S1x2048 .f32) (n : Fin 8) (j : Fin (ext n)) :
    prefixLine k n (ix2 0 j) = k (ix2 0 (key n j)) := by
  revert j
  fin_cases n <;> intro j
  case «7» => rfl
  all_goals exact extractStridedSlice_apply _ _ (line_fits _) _ _ fun a => by fin_cases a <;> simp [key]

theorem upper_apply {E : ℕ} (h : (M 512 E).Slices ![0, 0] (M 256 E)) (x : FVec Ideal (M 512 E) .f32) (r : Fin 256) (j : Fin E) (hr : r.val < 512) :
    extractStridedSlice (M 256 E) ![0, 0] x h (ix2 r j) = x (ix2 ⟨r.val, hr⟩ j) :=
  extractStridedSlice_apply _ _ _ _ _ fun a => by fin_cases a <;> simp

theorem lower_apply {E : ℕ} (h : (M 512 E).Slices ![256, 0] (M 256 E)) (x : FVec Ideal (M 512 E) .f32) (r : Fin 256) (j : Fin E) (hr : 256 + r.val < 512) :
    extractStridedSlice (M 256 E) ![256, 0] x h (ix2 r j) = x (ix2 ⟨256 + r.val, hr⟩ j) :=
  extractStridedSlice_apply _ _ _ _ _ fun a => by fin_cases a <;> simp

theorem tileLine_apply (k : FVec Ideal S1x2048 .f32) (n : Fin 8) (r : Fin 256) :
    tileLine k n (ix2 0 r) = k (ix2 0 (qry n r)) := by
  unfold tileLine
  pointwise
  rfl

/-- The keys of a tile are all the keys that count. -/
theorem sum_keys (n : Fin 8) (F : Fin 2048 → ℝ) (hF : ∀ j, ext n ≤ j.val → F j = 0) : ∑ j, F (key n j) = ∑ j, F j := by
  refine Finset.sum_of_injOn (key n) ?_ (fun _ _ => Finset.mem_coe.2 (Finset.mem_univ _)) ?_ (fun _ _ => rfl)
  · intro a _ b _ hab
    have hv : key n a = key n b := hab
    exact Fin.ext (show (key n a).val = (key n b).val from congrArg Fin.val hv)
  · intro j _ hj
    refine hF j (not_lt.1 fun hlt => hj ⟨⟨j.val, hlt⟩, Finset.mem_coe.2 (Finset.mem_univ _), rfl⟩)

variable {R : Read} {T : Reals} (H : Holds R T) (n : Fin 8)

theorem weight_zero (T : Reals) (e : Fin 2) (r : Fin 256) (j : Fin 2048) (hj : ext n ≤ j.val) : T.weight e (qry n r) j = 0 := by
  unfold Reals.weight
  rw [if_neg]
  have := r.isLt
  unfold qry ext at *
  simp only at *
  omega

theorem grad_zero (T : Reals) (e : Fin 2) (r : Fin 256) (j : Fin 2048) (hj : ext n ≤ j.val) : T.grad e (qry n r) j = 0 := by
  unfold Reals.grad
  rw [weight_zero n T e r j hj, zero_mul]

include H

theorem queries_top (r : Fin 256) (d : Fin 128) (hr : r.val < 512) :
    R.queries n (ix2 ⟨r.val, hr⟩ d) = (((if headOf d = 0 then T.q (qry n r) d * (1 / 8) else 0 : ℝ)) : EReal) := by
  unfold Read.queries
  rw [stack_top, scaled_apply, H.q, ← EReal.coe_mul]
  have hd : headOf d = 0 ↔ d.val < 64 := by simp [headOf, Fin.ext_iff]; try omega
  simp only [hd]
  split_ifs <;> simp

theorem queries_bottom (r : Fin 256) (d : Fin 128) (hr : 256 + r.val < 512) :
    R.queries n (ix2 ⟨256 + r.val, hr⟩ d) = (((if headOf d = 1 then T.q (qry n r) d * (1 / 8) else 0 : ℝ)) : EReal) := by
  unfold Read.queries
  rw [stack_bottom, scaled_apply, H.q, ← EReal.coe_mul]
  have hd : headOf d = 1 ↔ ¬ d.val < 64 := by simp [headOf, Fin.ext_iff]; try omega
  simp only [hd]
  split_ifs <;> simp

theorem upstream_top (r : Fin 256) (d : Fin 128) (hr : r.val < 512) :
    R.upstream n (ix2 ⟨r.val, hr⟩ d) = (((if headOf d = 0 then T.o (qry n r) d else 0 : ℝ)) : EReal) := by
  unfold Read.upstream
  rw [stack_top, shapeCast_self, H.o]
  have hd : headOf d = 0 ↔ d.val < 64 := by simp [headOf, Fin.ext_iff]; try omega
  simp only [hd]
  split_ifs <;> simp

theorem upstream_bottom (r : Fin 256) (d : Fin 128) (hr : 256 + r.val < 512) :
    R.upstream n (ix2 ⟨256 + r.val, hr⟩ d) = (((if headOf d = 1 then T.o (qry n r) d else 0 : ℝ)) : EReal) := by
  unfold Read.upstream
  rw [stack_bottom, shapeCast_self, H.o]
  have hd : headOf d = 1 ↔ ¬ d.val < 64 := by simp [headOf, Fin.ext_iff]; try omega
  simp only [hd]
  split_ifs <;> simp

theorem scores_top (r : Fin 256) (j : Fin (ext n)) (hr : r.val < 512) :
    R.scores n (ix2 ⟨r.val, hr⟩ j) = ((T.score 0 (qry n r) (key n j) : ℝ) : EReal) := by
  unfold Read.scores Reals.score
  rw [against_apply, ← Cert.Lift.coe_sum]
  refine Finset.sum_congr rfl fun d _ => ?_
  rw [queries_top H, prefixRows_apply, H.k, ← EReal.coe_mul]

theorem scores_bottom (r : Fin 256) (j : Fin (ext n)) (hr : 256 + r.val < 512) :
    R.scores n (ix2 ⟨256 + r.val, hr⟩ j) = ((T.score 1 (qry n r) (key n j) : ℝ) : EReal) := by
  unfold Read.scores Reals.score
  rw [against_apply, ← Cert.Lift.coe_sum]
  refine Finset.sum_congr rfl fun d _ => ?_
  rw [queries_bottom H, prefixRows_apply, H.k, ← EReal.coe_mul]

theorem pulls_top (r : Fin 256) (j : Fin (ext n)) (hr : r.val < 512) :
    R.pulls n (ix2 ⟨r.val, hr⟩ j) = ((T.pull 0 (qry n r) (key n j) : ℝ) : EReal) := by
  unfold Read.pulls Reals.pull
  rw [against_apply, ← Cert.Lift.coe_sum]
  refine Finset.sum_congr rfl fun d _ => ?_
  rw [upstream_top H, prefixRows_apply, H.v, ← EReal.coe_mul]

theorem pulls_bottom (r : Fin 256) (j : Fin (ext n)) (hr : 256 + r.val < 512) :
    R.pulls n (ix2 ⟨256 + r.val, hr⟩ j) = ((T.pull 1 (qry n r) (key n j) : ℝ) : EReal) := by
  unfold Read.pulls Reals.pull
  rw [against_apply, ← Cert.Lift.coe_sum]
  refine Finset.sum_congr rfl fun d _ => ?_
  rw [upstream_bottom H, prefixRows_apply, H.v, ← EReal.coe_mul]

theorem weightsA_apply (r : Fin 256) (j : Fin (ext n)) :
    R.weightsA n (ix2 r j) = ((T.weight 0 (qry n r) (key n j) : ℝ) : EReal) := by
  unfold Read.weightsA Read.firstQuery Reals.weight
  have hn : 256 * n.val < 4096 := by omega
  have hE : ext n ≤ 4096 := by unfold ext; omega
  rw [weights_apply (fits n) _ hn hE]
  have hs : extractStridedSlice (M 256 (ext n)) ![0, 0] (R.scores n) (fits n).top (ix2 r j) = ((T.score 0 (qry n r) (key n j) : ℝ) : EReal) := by
    rw [← scores_top H n r j (by omega)]
    exact upper_apply _ _ _ _ _
  have hl : extractStridedSlice S256x1 ![0, 0] (R.logs n) slices_S256x128_o0_0_S256x1 (ix2 r 0) = ((T.l (qry n r) (firstCol 0) : ℝ) : EReal) := by
    rw [← H.l]
    unfold Read.logs
    rw [shapeCast_self]
    pointwise
    rfl
  rw [hs, hl, gap_apply, tileLine_apply, prefixLine_apply, H.f, H.f, ← EReal.coe_sub, ← EReal.coe_add, ← EReal.coe_sub, Ideal.exp_coe]
  have hm : (key n j).val ≤ (qry n r).val ↔ j.val ≤ 256 * n.val + r.val := Iff.rfl
  simp only [hm]
  split_ifs <;> simp

theorem weightsB_apply (r : Fin 256) (j : Fin (ext n)) :
    R.weightsB n (ix2 r j) = ((T.weight 1 (qry n r) (key n j) : ℝ) : EReal) := by
  unfold Read.weightsB Read.firstQuery Reals.weight
  have hn : 256 * n.val < 4096 := by omega
  have hE : ext n ≤ 4096 := by unfold ext; omega
  rw [weights_apply (fits n) _ hn hE]
  have hs : extractStridedSlice (M 256 (ext n)) ![256, 0] (R.scores n) (fits n).bottom (ix2 r j) = ((T.score 1 (qry n r) (key n j) : ℝ) : EReal) := by
    rw [← scores_bottom H n r j (by omega)]
    exact lower_apply _ _ _ _ _
  have hl : extractStridedSlice S256x1 ![0, 64] (R.logs n) slices_S256x128_o0_64_S256x1 (ix2 r 0) = ((T.l (qry n r) (firstCol 1) : ℝ) : EReal) := by
    rw [← H.l]
    unfold Read.logs
    rw [shapeCast_self]
    pointwise
    rfl
  rw [hs, hl, gap_apply, tileLine_apply, prefixLine_apply, H.g, H.g, ← EReal.coe_sub, ← EReal.coe_add, ← EReal.coe_sub, Ideal.exp_coe]
  have hm : (key n j).val ≤ (qry n r).val ↔ j.val ≤ 256 * n.val + r.val := Iff.rfl
  simp only [hm]
  split_ifs <;> simp

theorem pulledA_apply (r : Fin 256) (j : Fin (ext n)) :
    R.pulledA n (ix2 r j) = ((T.grad 0 (qry n r) (key n j) : ℝ) : EReal) := by
  unfold Read.pulledA Reals.grad
  have hs : ∀ j, extractStridedSlice (M 256 (ext n)) ![0, 0] (R.pulls n) (fits n).top (ix2 r j) = ((T.pull 0 (qry n r) (key n j) : ℝ) : EReal) := fun j => by
    rw [← pulls_top H n r j (by omega)]
    exact upper_apply _ _ _ _ _
  have hx : ∑ x, R.weightsA n (ix2 r x) * extractStridedSlice (M 256 (ext n)) ![0, 0] (R.pulls n) (fits n).top (ix2 r x)
      = ((∑ x, T.weight 0 (qry n r) x * T.pull 0 (qry n r) x : ℝ) : EReal) := by
    rw [← sum_keys n _ (fun j hj => by rw [weight_zero n T 0 r j hj, zero_mul]), ← Cert.Lift.coe_sum]
    exact Finset.sum_congr rfl fun x _ => by rw [weightsA_apply H, hs, ← EReal.coe_mul]
  rw [pulled_apply, hx, weightsA_apply H, hs, ← EReal.coe_sub, ← EReal.coe_mul]

theorem pulledB_apply (r : Fin 256) (j : Fin (ext n)) :
    R.pulledB n (ix2 r j) = ((T.grad 1 (qry n r) (key n j) : ℝ) : EReal) := by
  unfold Read.pulledB Reals.grad
  have hs : ∀ j, extractStridedSlice (M 256 (ext n)) ![256, 0] (R.pulls n) (fits n).bottom (ix2 r j) = ((T.pull 1 (qry n r) (key n j) : ℝ) : EReal) := fun j => by
    rw [← pulls_bottom H n r j (by omega)]
    exact lower_apply _ _ _ _ _
  have hx : ∑ x, R.weightsB n (ix2 r x) * extractStridedSlice (M 256 (ext n)) ![256, 0] (R.pulls n) (fits n).bottom (ix2 r x)
      = ((∑ x, T.weight 1 (qry n r) x * T.pull 1 (qry n r) x : ℝ) : EReal) := by
    rw [← sum_keys n _ (fun j hj => by rw [weight_zero n T 1 r j hj, zero_mul]), ← Cert.Lift.coe_sum]
    exact Finset.sum_congr rfl fun x _ => by rw [weightsB_apply H, hs, ← EReal.coe_mul]
  rw [pulled_apply, hx, weightsB_apply H, hs, ← EReal.coe_sub, ← EReal.coe_mul]

end Cert.FoxBwdIdeal.Fox

end
-- ==== Proof.Fox.Sums.lean ====
/- The running sums over the tiles of a point, and the arrays they end with. -/
module

public import proofs.«01_k».proof.Proof.Fox.Reals

@[expose] public section

set_option maxRecDepth 16384

noncomputable section

namespace Cert.FoxBwdIdeal.Fox

open Cert.FoxBwdIdeal.Gen
open Idealize.ShloMosaic Idealize.ShloMosaic.TcCoe Idealize.SL.Sem

/-- What the pieces of a list leave. -/
def left {s : Shape} {e : EltTy} (L : List (View.Piece (Elt Ideal) s e)) : s.Idx → Elt Ideal e := View.canon L

theorem left_hit {s : Shape} {e : EltTy} (r : Rect s) (w : r.shape.Idx → Elt Ideal e) (L : List (View.Piece (Elt Ideal) s e)) (x : r.shape.Idx)
    {y : s.Idx} (h : r.emb x = y) : left (⟨r, w⟩ :: L) y = w x := by
  subst h
  exact View.canon_cons_emb r w L x

theorem left_miss {s : Shape} {e : EltTy} (r : Rect s) (w : r.shape.Idx → Elt Ideal e) (L : List (View.Piece (Elt Ideal) s e)) {y : s.Idx} (h : y ∉ r.set) :
    left (⟨r, w⟩ :: L) y = left L y :=
  View.canon_cons_of_not_mem ⟨r, w⟩ L h

theorem left_whole {s : Shape} {e : EltTy} {off : Fin s.rank → ℕ} (inb : ∀ a, off a + s.size a ≤ s.size a) (w : s.Idx → Elt Ideal e)
    (L : List (View.Piece (Elt Ideal) s e)) (h : ∀ a, off a = 0) : left (⟨Rect.unit off s.size inb, w⟩ :: L) = w :=
  View.canon_cons_unit_lit inb w L h

theorem covered {s : Shape} {e : EltTy} (v : View sig .tc .vmem s e) (L : List (View.Piece (Elt Ideal) s e)) (B : LoadRect s) (x : B.shape.Idx)
    {y : s.Idx} (h : B.idx x = y) : v.readCov L B x = left L y := by
  subst h
  exact congrFun (View.readCov_eq_canon' v L B) x

theorem prefix_emb (n : Fin 8) (j : Fin (ext n)) (d : Fin 128) : (prefixRect n).emb (ix2 j d) = ix2 (key n j) d := by
  funext a
  apply Fin.ext
  refine (Rect.idx_unit_val _ _ _ _ a).trans ?_
  fin_cases a <;> simp [key]

theorem prefix_idx (n : Fin 8) (j : Fin (ext n)) (d : Fin 128) : (prefixRect n).toLoadRect.idx (ix2 j d) = ix2 (key n j) d :=
  prefix_emb n j d

theorem not_prefix (n : Fin 8) (j : Fin 2048) (d : Fin 128) (hj : ext n ≤ j.val) : ix2 j d ∉ (prefixRect n).set := by
  intro h
  have h0 : j.val < 0 + ext n := (Rect.mem_set_unit.1 h 0).2
  omega

theorem line_emb (n : Fin 8) (e : Fin 2) (j : Fin (ext n)) : (lineRect n e).emb (ix3 0 0 j) = ix3 0 (⟨e.val, by omega⟩ : Fin 8) (key n j) := by
  funext a
  apply Fin.ext
  refine (Rect.idx_unit_val _ _ _ _ a).trans ?_
  fin_cases a <;> simp [key]

theorem not_line (n : Fin 8) (e e' : Fin 2) (j : Fin 2048) (hj : ext n ≤ j.val ∨ e ≠ e') :
    ix3 0 (⟨e'.val, by omega⟩ : Fin 8) j ∉ (lineRect n e).set := by
  intro h
  have h2 : j.val < 0 + ext n := (Rect.mem_set_unit.1 h 2).2
  have h1 : e.val ≤ e'.val ∧ e'.val < e.val + 1 := Rect.mem_set_unit.1 h 1
  rcases hj with hj | hj
  · omega
  · exact hj (Fin.ext (by omega))

theorem rows_emb (n : Fin 8) (r : Fin 256) (d : Fin 128) : (rowsRect n).emb (ix2 r d) = ix2 (qry n r) d := by
  funext a
  apply Fin.ext
  refine (Rect.idx_unit_val _ _ _ _ a).trans ?_
  fin_cases a <;> simp [qry]

theorem not_rows (n m : Fin 8) (hm : n ≠ m) (r : Fin 256) (d : Fin 128) : ix2 (qry m r) d ∉ (rowsRect n).set := by
  intro h
  have h0 : 256 * n.val ≤ 256 * m.val + r.val ∧ 256 * m.val + r.val < 256 * n.val + 256 := Rect.mem_set_unit.1 h 0
  exact hm (Fin.ext (by omega))

variable {R : Read} {T : Reals} (H : Holds R T)

/-- A tile's share of the keys' gradient. -/
def partK (T : Reals) (j : Fin 2048) (d : Fin 128) (n : Fin 8) : ℝ := ∑ r : Fin 256, T.grad (headOf d) (qry n r) j * (T.q (qry n r) d * (1 / 8))
def partV (T : Reals) (j : Fin 2048) (d : Fin 128) (n : Fin 8) : ℝ := ∑ r : Fin 256, T.weight (headOf d) (qry n r) j * T.o (qry n r) d
def partF (T : Reals) (e : Fin 2) (j : Fin 2048) (n : Fin 8) : ℝ := ∑ r : Fin 256, T.grad e (qry n r) j

/-- A sum over the queries, tile by tile. -/
theorem sum_tiles (F : Fin 2048 → ℝ) : (tiles.map fun n => ∑ r : Fin 256, F (qry n r)).sum = ∑ i, F i := by
  have h1 : ∑ i, F i = ∑ n : Fin 8, ∑ r : Fin 256, F (qry n r) := by
    rw [Fin.sum_univ_tiles 8 256 rfl F]
    refine Finset.sum_congr rfl fun n _ => Finset.sum_congr rfl fun r _ => congrArg F (Fin.ext ?_)
    simp [qry, mul_comm]
  rw [h1, Fin.sum_univ_eight]
  simp [tiles]
  ring

/-- Of two heads stacked, a column sees its own. -/
theorem own_head (d : Fin 128) (A B x : ℝ) :
    A * (if headOf d = 0 then x else 0) + B * (if headOf d = 1 then x else 0) = (if headOf d = 0 then A else B) * x := by
  have h : headOf d = 0 ∨ headOf d = 1 := by
    have := (headOf d).isLt
    rcases (show (headOf d).val = 0 ∨ (headOf d).val = 1 by omega) with h | h
    · exact Or.inl (Fin.ext h)
    · exact Or.inr (Fin.ext h)
  rcases h with h | h <;> simp [h]

theorem pick_head (d : Fin 128) (f : Fin 2 → ℝ) : (if headOf d = 0 then f 0 else f 1) = f (headOf d) := by
  have h : headOf d = 0 ∨ headOf d = 1 := by
    have := (headOf d).isLt
    rcases (show (headOf d).val = 0 ∨ (headOf d).val = 1 by omega) with h | h
    · exact Or.inl (Fin.ext h)
    · exact Or.inr (Fin.ext h)
  rcases h with h | h <;> simp [h]

include H

theorem key_part (n : Fin 8) (acc : FVec Ideal (M (ext n) 128) .f32) (j : Fin (ext n)) (d : Fin 128) (a : ℝ) (ha : acc (ix2 j d) = (a : EReal)) :
    added (fits n) acc (both (fits n) (R.pulledA n) (R.pulledB n)) (R.queries n) (ix2 j d) = ((partK T (key n j) d n + a : ℝ) : EReal) := by
  have h0 : ∀ r : Fin 256, both (fits n) (R.pulledA n) (R.pulledB n) (ix2 ⟨r.val, by omega⟩ j) * R.queries n (ix2 ⟨r.val, by omega⟩ d)
      = ((T.grad 0 (qry n r) (key n j) * (if headOf d = 0 then T.q (qry n r) d * (1 / 8) else 0) : ℝ) : EReal) := fun r => by
    rw [both_top, pulledA_apply H, queries_top H, ← EReal.coe_mul]
  have h1 : ∀ r : Fin 256, both (fits n) (R.pulledA n) (R.pulledB n) (ix2 ⟨256 + r.val, by omega⟩ j) * R.queries n (ix2 ⟨256 + r.val, by omega⟩ d)
      = ((T.grad 1 (qry n r) (key n j) * (if headOf d = 1 then T.q (qry n r) d * (1 / 8) else 0) : ℝ) : EReal) := fun r => by
    rw [both_bottom, pulledB_apply H, queries_bottom H, ← EReal.coe_mul]
  rw [added_apply, ha, Finset.sum_congr rfl fun r _ => h0 r, Finset.sum_congr rfl fun r _ => h1 r, Cert.Lift.coe_sum, Cert.Lift.coe_sum,
    ← EReal.coe_add, ← EReal.coe_add, ← Finset.sum_add_distrib, add_comm]
  refine congrArg (fun z : ℝ => ((z + a : ℝ) : EReal)) (Finset.sum_congr rfl fun r _ => ?_)
  rw [own_head, pick_head d fun e => T.grad e (qry n r) (key n j)]

theorem value_part (n : Fin 8) (acc : FVec Ideal (M (ext n) 128) .f32) (j : Fin (ext n)) (d : Fin 128) (a : ℝ) (ha : acc (ix2 j d) = (a : EReal)) :
    added (fits n) acc (both (fits n) (R.weightsA n) (R.weightsB n)) (R.upstream n) (ix2 j d) = ((partV T (key n j) d n + a : ℝ) : EReal) := by
  have h0 : ∀ r : Fin 256, both (fits n) (R.weightsA n) (R.weightsB n) (ix2 ⟨r.val, by omega⟩ j) * R.upstream n (ix2 ⟨r.val, by omega⟩ d)
      = ((T.weight 0 (qry n r) (key n j) * (if headOf d = 0 then T.o (qry n r) d else 0) : ℝ) : EReal) := fun r => by
    rw [both_top, weightsA_apply H, upstream_top H, ← EReal.coe_mul]
  have h1 : ∀ r : Fin 256, both (fits n) (R.weightsA n) (R.weightsB n) (ix2 ⟨256 + r.val, by omega⟩ j) * R.upstream n (ix2 ⟨256 + r.val, by omega⟩ d)
      = ((T.weight 1 (qry n r) (key n j) * (if headOf d = 1 then T.o (qry n r) d else 0) : ℝ) : EReal) := fun r => by
    rw [both_bottom, weightsB_apply H, upstream_bottom H, ← EReal.coe_mul]
  rw [added_apply, ha, Finset.sum_congr rfl fun r _ => h0 r, Finset.sum_congr rfl fun r _ => h1 r, Cert.Lift.coe_sum, Cert.Lift.coe_sum,
    ← EReal.coe_add, ← EReal.coe_add, ← Finset.sum_add_distrib, add_comm]
  refine congrArg (fun z : ℝ => ((z + a : ℝ) : EReal)) (Finset.sum_congr rfl fun r _ => ?_)
  rw [own_head, pick_head d fun e => T.weight e (qry n r) (key n j)]

variable (w : View sig .tc .vmem S2048x128 .f32)

theorem key_sums (j : Fin 2048) (d : Fin 128) (L : List (Fin 8)) :
    left (keySums R w L) (ix2 j d) = (((L.map (partK T j d)).sum : ℝ) : EReal) := by
  induction L with
  | nil =>
    rw [keySums, left_whole _ _ _ (by decide)]
    simp only [List.map_nil, List.sum_nil, EReal.coe_zero]
    unfold k0_pay5
    pointwise
  | cons n L ih =>
    rw [List.map_cons, List.sum_cons, keySums]
    by_cases hj : j.val < ext n
    · have he : (prefixRect n).emb (ix2 ⟨j.val, hj⟩ d) = ix2 j d := prefix_emb n ⟨j.val, hj⟩ d
      rw [left_hit _ _ _ _ he]
      exact key_part H n _ ⟨j.val, hj⟩ d _ ((covered _ _ _ _ he).trans ih)
    · rw [left_miss _ _ _ (not_prefix n j d (not_lt.1 hj)), ih]
      have hz : partK T j d n = 0 := Finset.sum_eq_zero fun r _ => by rw [grad_zero n T _ r j (not_lt.1 hj), zero_mul]
      rw [hz, zero_add]

theorem value_sums (j : Fin 2048) (d : Fin 128) (L : List (Fin 8)) :
    left (valueSums R w L) (ix2 j d) = (((L.map (partV T j d)).sum : ℝ) : EReal) := by
  induction L with
  | nil =>
    rw [valueSums, left_whole _ _ _ (by decide)]
    simp only [List.map_nil, List.sum_nil, EReal.coe_zero]
    unfold k0_pay6
    pointwise
  | cons n L ih =>
    rw [List.map_cons, List.sum_cons, valueSums]
    by_cases hj : j.val < ext n
    · have he : (prefixRect n).emb (ix2 ⟨j.val, hj⟩ d) = ix2 j d := prefix_emb n ⟨j.val, hj⟩ d
      rw [left_hit _ _ _ _ he]
      exact value_part H n _ ⟨j.val, hj⟩ d _ ((covered _ _ _ _ he).trans ih)
    · rw [left_miss _ _ _ (not_prefix n j d (not_lt.1 hj)), ih]
      have hz : partV T j d n = 0 := Finset.sum_eq_zero fun r _ => by rw [weight_zero n T _ r j (not_lt.1 hj), zero_mul]
      rw [hz, zero_add]

theorem key_total (j : Fin 2048) (d : Fin 128) : left (keySums R w tiles) (ix2 j d) = ((T.gradK j d : ℝ) : EReal) :=
  (key_sums H w j d tiles).trans (congrArg _ (sum_tiles fun i => T.grad (headOf d) i j * (T.q i d * (1 / 8))))

theorem value_total (j : Fin 2048) (d : Fin 128) : left (valueSums R w tiles) (ix2 j d) = ((T.gradV j d : ℝ) : EReal) :=
  (value_sums H w j d tiles).trans (congrArg _ (sum_tiles fun i => T.weight (headOf d) i j * T.o i d))

theorem query_part (n : Fin 8) (r : Fin 256) (d : Fin 128) :
    ownRows (both (fits n) (R.pulledA n) (R.pulledB n)) (prefixRows R.k n) (ix2 r d) = ((T.gradQ (qry n r) d : ℝ) : EReal) := by
  have h0 : ∑ j : Fin (ext n), both (fits n) (R.pulledA n) (R.pulledB n) (ix2 ⟨r.val, by omega⟩ j) * prefixRows R.k n (ix2 j d)
      = ((∑ j, T.grad 0 (qry n r) j * T.k j d : ℝ) : EReal) := by
    rw [← sum_keys n _ (fun j hj => by rw [grad_zero n T 0 r j hj, zero_mul]), ← Cert.Lift.coe_sum]
    exact Finset.sum_congr rfl fun j _ => by rw [both_top, pulledA_apply H, prefixRows_apply, H.k, ← EReal.coe_mul]
  have h1 : ∑ j : Fin (ext n), both (fits n) (R.pulledA n) (R.pulledB n) (ix2 ⟨256 + r.val, by omega⟩ j) * prefixRows R.k n (ix2 j d)
      = ((∑ j, T.grad 1 (qry n r) j * T.k j d : ℝ) : EReal) := by
    rw [← sum_keys n _ (fun j hj => by rw [grad_zero n T 1 r j hj, zero_mul]), ← Cert.Lift.coe_sum]
    exact Finset.sum_congr rfl fun j _ => by rw [both_bottom, pulledB_apply H, prefixRows_apply, H.k, ← EReal.coe_mul]
  have hd : d.val < 64 ↔ headOf d = 0 := by simp [headOf, Fin.ext_iff]
  rw [ownRows_apply, h0, h1]
  unfold Reals.gradQ
  rw [← pick_head d fun e => ∑ j, T.grad e (qry n r) j * T.k j d]
  simp only [hd]
  split_ifs <;> rw [← EReal.coe_mul]

theorem query_left (m : Fin 8) (r : Fin 256) (d : Fin 128) (L : List (Fin 8)) (hm : m ∈ L) :
    left (queryRows R L) (ix2 (qry m r) d) = ((T.gradQ (qry m r) d : ℝ) : EReal) := by
  induction L with
  | nil => exact absurd hm (List.not_mem_nil)
  | cons n L ih =>
    rw [queryRows]
    by_cases hn : n = m
    · subst hn
      rw [left_hit _ _ _ _ (rows_emb n r d)]
      exact query_part H n r d
    · rw [left_miss _ _ _ (not_rows n m hn r d)]
      exact ih ((List.mem_cons.1 hm).resolve_left fun h => hn h.symm)

theorem query_total (i : Fin 2048) (d : Fin 128) : left (queryRows R tiles) (ix2 i d) = ((T.gradQ i d : ℝ) : EReal) := by
  have hi : qry ⟨i.val / 256, by omega⟩ ⟨i.val % 256, by omega⟩ = i := Fin.ext (by simp [qry]; omega)
  have h := query_left H ⟨i.val / 256, by omega⟩ ⟨i.val % 256, by omega⟩ d tiles (by
    generalize (⟨i.val / 256, by omega⟩ : Fin 8) = m
    fin_cases m <;> simp [tiles])
  rwa [hi] at h

variable (w8 : View sig .tc .vmem S1x8x2048 .f32)

theorem decay_part (n : Fin 8) (e : Fin 2) (acc : FVec Ideal ⟨3, ![1, 1, ext n]⟩ .f32) (j : Fin (ext n)) (a : ℝ) (ha : acc (ix3 0 0 j) = ((-a : ℝ) : EReal)) :
    lowered (fits n) acc (if e = 0 then R.pulledA n else R.pulledB n) (ix3 0 0 j) = ((-(partF T e (key n j) n + a) : ℝ) : EReal) := by
  have hs : ∑ r : Fin 256, (if e = 0 then R.pulledA n else R.pulledB n) (ix2 r j) = ((partF T e (key n j) n : ℝ) : EReal) := by
    unfold partF
    rw [← Cert.Lift.coe_sum]
    refine Finset.sum_congr rfl fun r _ => ?_
    by_cases he : e = 0
    · subst he; exact pulledA_apply H n r j
    · have h1 : e = 1 := Fin.ext (by have := e.isLt; have : e.val ≠ 0 := fun h => he (Fin.ext h); show e.val = 1; omega)
      subst h1; exact pulledB_apply H n r j
  rw [lowered_apply, ha, hs, ← EReal.coe_sub]
  congr 1
  ring

theorem decay_lines_left (e : Fin 2) (j : Fin 2048) (L : List (Fin 8)) :
    left (decayLines R w8 L) (ix3 0 (⟨e.val, by omega⟩ : Fin 8) j) = ((-(L.map (partF T e j)).sum : ℝ) : EReal) := by
  induction L with
  | nil =>
    rw [decayLines, left_whole _ _ _ (by decide)]
    simp only [List.map_nil, List.sum_nil, neg_zero, EReal.coe_zero]
    unfold k0_pay7
    pointwise
  | cons n L ih =>
    rw [List.map_cons, List.sum_cons, decayLines]
    by_cases hj : j.val < ext n
    · have he : (lineRect n e).emb (ix3 0 0 ⟨j.val, hj⟩) = ix3 0 (⟨e.val, by omega⟩ : Fin 8) j := line_emb n e ⟨j.val, hj⟩
      by_cases h0 : e = 0
      · subst h0
        rw [left_miss _ _ _ (not_line n 1 0 j (Or.inr (by decide))), left_hit _ _ _ _ he]
        exact decay_part H n 0 _ ⟨j.val, hj⟩ _ ((covered _ _ _ _ he).trans ih)
      · have h1 : e = 1 := Fin.ext (by have := e.isLt; have : e.val ≠ 0 := fun h => h0 (Fin.ext h); show e.val = 1; omega)
        subst h1
        rw [left_hit _ _ _ _ he]
        refine decay_part H n 1 _ ⟨j.val, hj⟩ _ ((covered _ _ _ _ he).trans ?_)
        rw [left_miss _ _ _ (not_line n 0 1 j (Or.inr (by decide)))]
        exact ih
    · have hz : partF T e j n = 0 := Finset.sum_eq_zero fun r _ => grad_zero n T _ r j (not_lt.1 hj)
      rw [hz, zero_add, left_miss _ _ _ (not_line n 1 e j (Or.inl (not_lt.1 hj))), left_miss _ _ _ (not_line n 0 e j (Or.inl (not_lt.1 hj)))]
      exact ih

theorem decay_total (e : Fin 2) (j : Fin 2048) :
    left (decayLines R w8 tiles) (ix3 0 (⟨e.val, by omega⟩ : Fin 8) j) = ((T.gradF e j : ℝ) : EReal) :=
  (decay_lines_left H w8 e j tiles).trans (congrArg (fun z : ℝ => ((-z : ℝ) : EReal)) (sum_tiles fun i => T.grad e i j))

end Cert.FoxBwdIdeal.Fox

end
-- ==== Proof.Fox.Blocks.lean ====
/- What a point of the forgetting attention's backward kernel leaves, from the blocks it is given. -/
module

public import proofs.«01_k».proof.Proof.Fox.Points
public import proofs.«01_k».proof.Proof.Fox.Pieces
public import proofs.«01_k».proof.Proof.Fox.Sums

@[expose] public section

set_option maxRecDepth 16384

noncomputable section

namespace Cert.FoxBwdIdeal.Fox

open Cert.FoxBwdIdeal.Gen
open Idealize.ShloMosaic Idealize.ShloMosaic.TcCoe Idealize.SL.Sem

theorem point_lt (t : Fin cfg0.N) : t.val < 4 := t.isLt

/-- The row of head `e` of point `t` among the sixteen rows of the decays. -/
def decayRow (t : Fin cfg0.N) (e : Fin 2) : Fin 16 := ⟨2 * t.val + e.val, by have := point_lt t; omega⟩

/-- The blocks of point `t` are real, and these are their entries. -/
structure Given (t : Fin cfg0.N) (x0 x1 x2 : FVec Ideal S2048x128 .f32) (x3 : FVec Ideal S16x2048 .f32) (x4 : FVec Ideal S2048x128 .bf16)
    (x5 : FVec Ideal S2048x128 .f32) (T : Reals) : Prop where
  q : ∀ i d, x0 (ix2 i d) = ((T.q i d : ℝ) : EReal)
  k : ∀ i d, x1 (ix2 i d) = ((T.k i d : ℝ) : EReal)
  v : ∀ i d, x2 (ix2 i d) = ((T.v i d : ℝ) : EReal)
  f : ∀ e j, x3 (ix2 (decayRow t e) j) = ((T.f e j : ℝ) : EReal)
  o : ∀ i d, x4 (ix2 i d) = ((T.o i d : ℝ) : EReal)
  l : ∀ i d, x5 (ix2 i d) = ((T.l i d : ℝ) : EReal)

theorem rows_idx (n : Fin 8) (r : Fin 256) (d : Fin 128) : (rowsRect n).toLoadRect.idx (ix2 r d) = ix2 (qry n r) d := rows_emb n r d

theorem row_offset : ∀ (t : Fin cfg0.N) (e : Fin 2) (a : Fin 2),
    (k0_off1 (grid0.coords t) (if e = 0 then 0#32 else 1#32)) a = (![2 * t.val + e.val, 0] : Fin 2 → ℕ) a := by
  decide +kernel

theorem whole_idx (x : S2048x128.Idx) :
    (Rect.unit (s := S2048x128) ![0, 0] S2048x128.size inb_S2048x128_S2048x128_0_0).toLoadRect.idx x = x := by
  funext a
  apply Fin.ext
  refine (Rect.idx_unit_val _ _ _ _ a).trans ?_
  fin_cases a <;> simp

theorem row_idx (t : Fin cfg0.N) (e : Fin 2) (b : BitVec 32) (hb : b = if e = 0 then 0#32 else 1#32)
    (inb : ∀ a, (k0_off1 (grid0.coords t) b) a + S1x2048.size a ≤ S16x2048.size a) (j : Fin 2048) :
    (Rect.unit (s := S16x2048) (k0_off1 (grid0.coords t) b) S1x2048.size inb).toLoadRect.idx (ix2 0 j) = ix2 (decayRow t e) j := by
  subst hb
  funext a
  apply Fin.ext
  refine (Rect.idx_unit_val _ _ _ _ a).trans ?_
  rw [row_offset t e a]
  fin_cases a <;> simp [decayRow]

/-- A read of a whole buffer that holds `x`. -/
theorem read_at {s : Shape} {ty : EltTy} {a : Memref sig .tc .vmem s ty} (h : a.IsWhole) (x : Vec Ideal s ty) (B : LoadRect s) (j : B.shape.Idx)
    {y : s.Idx} (hy : B.idx j = y) : View.readAt (Elt Ideal) a.view B (h.unread x) j = x y := by
  subst hy
  exact congrFun (h.read_unread x) (B.idx j)

section Point

variable (t : Fin cfg0.N) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S16x2048 .f32) (harg4 : arg4.IsWhole) (arg5 : Memref sig .tc .vmem S2048x128 .bf16) (harg5 : arg5.IsWhole) (arg6 : Memref sig .tc .vmem S2048x128 .f32) (harg6 : arg6.IsWhole)
  {x0 x1 x2 : FVec Ideal S2048x128 .f32} {x3 : FVec Ideal S16x2048 .f32} {x4 : FVec Ideal S2048x128 .bf16} {x5 : FVec Ideal S2048x128 .f32} {T : Reals}

/-- A point that is given real blocks reads real numbers. -/
theorem holds (G : Given t x0 x1 x2 x3 x4 x5 T) :
    Holds (reads (grid0.coords t) arg1 harg1 arg2 harg2 arg3 harg3 arg4 harg4 arg5 harg5 arg6 harg6 x0 x1 x2 x3 x4 x5) T where
  q n r d := (read_at harg1 x0 _ _ (rows_idx n r d)).trans (G.q _ _)
  o n r d := (read_at harg5 x4 _ _ (rows_idx n r d)).trans (G.o _ _)
  l n r d := (read_at harg6 x5 _ _ (rows_idx n r d)).trans (G.l _ _)
  k j d := by
    refine Eq.trans ?_ ((read_at harg2 x1 _ _ (whole_idx (ix2 j d))).trans (G.k _ _))
    unfold reads k0_pay1
    pointwise
  v j d := by
    refine Eq.trans ?_ ((read_at harg3 x2 _ _ (whole_idx (ix2 j d))).trans (G.v _ _))
    unfold reads k0_pay2
    pointwise
  f j := by
    refine Eq.trans ?_ ((read_at harg4 x3 _ _ (row_idx t 0 0#32 rfl (k0_off1_inb _ 0) j)).trans (G.f _ _))
    unfold reads k0_pay3
    pointwise
  g j := by
    refine Eq.trans ?_ ((read_at harg4 x3 _ _ (row_idx t 1 1#32 rfl (k0_off1_inb _ 1) j)).trans (G.f _ _))
    unfold reads k0_pay4
    pointwise

end Point

variable (m : (ℓ : Loc nD τ sig) → Buf (Elt Ideal) ℓ) (c : Dev nD) (t : Fin cfg0.N) {T : Reals}

/-- The blocks of point `t` are the real ones. -/
abbrev GivenAt (T : Reals) : Prop := Given t (iblk m c 0 t) (iblk m c 1 t) (iblk m c 2 t) (iblk m c 3 t) (iblk m c 4 t) (iblk m c 5 t) T

theorem holdsAt (G : GivenAt m c t T) :
    Holds (reads (grid0.coords t) (stage0 t) (stage0_whole t) (stage1 t) (stage1_whole t) (stage2 t) (stage2_whole t) (stage3 t) (stage3_whole t)
      (stage4 t) (stage4_whole t) (stage5 t) (stage5_whole t) (iblk m c 0 t) (iblk m c 1 t) (iblk m c 2 t) (iblk m c 3 t) (iblk m c 4 t) (iblk m c 5 t)) T :=
  holds t _ _ _ _ _ _ _ _ _ _ _ _ G

theorem queryBlock_apply (G : GivenAt m c t T) (i : Fin 2048) (d : Fin 128) : queryBlock m c t (ix2 i d) = ((T.gradQ i d : ℝ) : EReal) := by
  refine (congrFun (View.read_writes_junk_eq_canon scratch2.view (queryPieces m c t)) (ix2 i d)).trans ?_
  refine (congrArg (fun L => left L (ix2 i d)) (query_rows c _ _ _ _ _ _ _ _ _ _ _ _ _ _ _ _ _ _ _)).trans ?_
  exact query_total (holdsAt m c t G) i d

theorem keyBlock_apply (G : GivenAt m c t T) (i : Fin 2048) (d : Fin 128) : keyBlock m c t (ix2 i d) = ((T.gradK i d : ℝ) : EReal) := by
  refine (congrFun (View.read_writes_junk_eq_canon scratch3.view (keyPieces m c t)) (ix2 i d)).trans ?_
  refine (congrArg (fun L => left L (ix2 i d)) (key_rows c _ _ _ _ _ _ _ _ _ _ _ _ _ scratch0 _ _ _ _ _ _)).trans ?_
  refine (congrFun (left_whole _ _ _ fun a => by fin_cases a <;> rfl) (ix2 i d)).trans ?_
  refine Eq.trans ?_ (key_total (holdsAt m c t G) scratch0.view i d)
  refine Eq.trans ?_ (covered scratch0.view _ (prefixRect 7).toLoadRect (ix2 i d) (prefix_idx 7 i d))
  unfold k0_pay192
  pointwise

theorem valueBlock_apply (G : GivenAt m c t T) (i : Fin 2048) (d : Fin 128) : valueBlock m c t (ix2 i d) = ((T.gradV i d : ℝ) : EReal) := by
  refine (congrFun (View.read_writes_junk_eq_canon scratch4.view (valuePieces m c t)) (ix2 i d)).trans ?_
  refine (congrArg (fun L => left L (ix2 i d)) (value_rows c _ _ _ _ _ (stage2 t) (stage2_whole t) _ _ _ _ _ _ scratch1 _ _ (iblk m c 2 t) _ _ _)).trans ?_
  refine (congrFun (left_whole _ _ _ fun a => by fin_cases a <;> rfl) (ix2 i d)).trans ?_
  refine Eq.trans ?_ (value_total (holdsAt m c t G) scratch1.view i d)
  refine Eq.trans ?_ (covered scratch1.view _ (prefixRect 7).toLoadRect (ix2 i d) (prefix_idx 7 i d))
  unfold k0_pay193
  pointwise

theorem decayBlock_apply (G : GivenAt m c t T) (e : Fin 2) (j : Fin 2048) :
    decayBlock m c t (ix3 0 (⟨e.val, by omega⟩ : Fin 8) j) = ((T.gradF e j : ℝ) : EReal) := by
  refine (congrFun (View.read_writes_junk_eq_canon decayView (runAt m c t).1.1) _).trans ?_
  refine (congrArg (fun L => left L (ix3 0 (⟨e.val, by omega⟩ : Fin 8) j)) (decay_lines c _ _ _ _ _ _ _ _ _ _ _ _ _ _ _ _ _ _ _ _ _ _ _ _ _ _ _ _ _ _ _)).trans ?_
  exact decay_total (holdsAt m c t G) _ e j

end Cert.FoxBwdIdeal.Fox

end
-- ==== Proof.Fox.Shared.lean ====
/- The shared array after all points of the forgetting attention's backward kernel. -/
module

public import proofs.«01_k».proof.Proof.Fox.Frame
public import proofs.«01_k».proof.Proof.Fox.Blocks

@[expose] public section

set_option maxRecDepth 16384

noncomputable section

namespace Cert.FoxBwdIdeal.Fox

open Cert.FoxBwdIdeal.Gen
open Idealize.ShloMosaic Idealize.ShloMosaic.TcCoe Idealize.SL.Sem

/-- Column `d` of block `t` of gradient `r` in the shared array. -/
def column (r : Fin 3) (t : Fin cfg0.N) (d : Fin 128) : Fin 6272 := ⟨512 * r.val + 128 * t.val + 4608 + d.val, by have := point_lt t; omega⟩

theorem idx_eta (x : S2048x128.Idx) : x = ix2 (x 0) (x 1) := by funext a; fin_cases a <;> rfl

theorem window_emb (i : grid0.Coords) (k : BitVec 32) (b) (r : Fin 3) (t : Fin cfg0.N) (h : k0_off2 i k = ![0, 512 * r.val + 128 * t.val + 4608])
    (j : Fin 2048) (d : Fin 128) : (window i k b).view.emb (ix2 j d) = (ix2 j (column r t d) : S2048x6272.Idx) := by
  funext a
  apply Fin.ext
  refine (Rect.idx_unit_val _ _ _ _ a).trans ?_
  refine (congrArg (· + _) (congrFun h a)).trans ?_
  fin_cases a <;> simp [column]

variable (c : Dev nD)

theorem window_hit (i : grid0.Coords) (k : BitVec 32) (b) (r : Fin 3) (t : Fin cfg0.N) (h : k0_off2 i k = ![0, 512 * r.val + 128 * t.val + 4608])
    (f : Grads (F := Ideal) c) (w : FVec Ideal S2048x128 .bf16) (j : Fin 2048) (d : Fin 128) :
    (window i k b).view.write (Elt Ideal) f w Finset.univ (ix2 j (column r t d) : S2048x6272.Idx) = w (ix2 j d) := by
  have e := View.write_emb_of_mem (v := (window i k b).view) (Val := Elt Ideal) f w (Finset.mem_univ (ix2 j d))
  rw [window_emb i k b r t h j d] at e
  exact e

theorem window_miss (i : grid0.Coords) (k : BitVec 32) (b) (r r' : Fin 3) (t t' : Fin cfg0.N) (h : k0_off2 i k = ![0, 512 * r.val + 128 * t.val + 4608])
    (f : Grads (F := Ideal) c) (w : FVec Ideal S2048x128 .bf16) (j : Fin 2048) (d : Fin 128) (hne : r' ≠ r ∨ t' ≠ t) :
    (window i k b).view.write (Elt Ideal) f w Finset.univ (ix2 j (column r' t' d) : S2048x6272.Idx) = f (ix2 j (column r' t' d) : S2048x6272.Idx) := by
  refine View.write_of_not_mem (v := (window i k b).view) (Val := Elt Ideal) f w Finset.univ fun hm => ?_
  obtain ⟨x, -, hx⟩ := Finset.mem_map.1 hm
  have hx1 := congrArg Fin.val (congrFun (hx.symm.trans ((congrArg (window i k b).view.emb (idx_eta x)).trans (window_emb i k b r t h (x 0) (x 1)))) 1)
  have h1 : 512 * r'.val + 128 * t'.val + 4608 + d.val = 512 * r.val + 128 * t.val + 4608 + (x 1).val := hx1
  have h2 : (x 1).val < 128 := (x 1).isLt
  have := point_lt t
  have := point_lt t'
  have := d.isLt
  rcases hne with hne | hne <;> apply hne <;> apply Fin.ext <;> omega

variable (m : (ℓ : Loc nD τ sig) → Buf (Elt Ideal) ℓ)

/-- The block of gradient `r` of point `t`. -/
def block (r : Fin 3) (t : Fin cfg0.N) : FVec Ideal S2048x128 .bf16 :=
  match r with
  | 0 => queryBlock m c t
  | 1 => keyBlock m c t
  | 2 => valueBlock m c t

theorem coords_val : ∀ t : Fin cfg0.N, (grid0.coords t 0).val = t.val := by decide +kernel

theorem offset (t : Fin cfg0.N) (r : Fin 3) : k0_off2 (grid0.coords t) (BitVec.ofNat 32 (36 + 4 * r.val)) = ![0, 512 * r.val + 128 * t.val + 4608] := by
  rw [k0_off2_eq, coords_val]

theorem leave_own (t : Fin cfg0.N) (f : Grads (F := Ideal) c) (r : Fin 3) (j : Fin 2048) (d : Fin 128) :
    leave m c t f (ix2 j (column r t d) : S2048x6272.Idx) = block c m r t (ix2 j d) := by
  unfold leave
  match r with
  | 0 =>
    exact ((window_miss c _ _ _ 2 0 t t (offset t 2) _ _ j d (Or.inl (by decide))).trans
      (window_miss c _ _ _ 1 0 t t (offset t 1) _ _ j d (Or.inl (by decide)))).trans (window_hit c _ _ _ 0 t (offset t 0) _ _ j d)
  | 1 =>
    exact (window_miss c _ _ _ 2 1 t t (offset t 2) _ _ j d (Or.inl (by decide))).trans (window_hit c _ _ _ 1 t (offset t 1) _ _ j d)
  | 2 => exact window_hit c _ _ _ 2 t (offset t 2) _ _ j d

theorem leave_other (t t' : Fin cfg0.N) (hne : t' ≠ t) (f : Grads (F := Ideal) c) (r : Fin 3) (j : Fin 2048) (d : Fin 128) :
    leave m c t f (ix2 j (column r t' d) : S2048x6272.Idx) = f (ix2 j (column r t' d) : S2048x6272.Idx) := by
  unfold leave
  exact ((window_miss c _ _ _ 2 r t t' (offset t 2) _ _ j d (Or.inr hne)).trans
    (window_miss c _ _ _ 1 r t t' (offset t 1) _ _ j d (Or.inr hne))).trans (window_miss c _ _ _ 0 r t t' (offset t 0) _ _ j d (Or.inr hne))

theorem contents_apply (n : ℕ) (t : Fin cfg0.N) (r : Fin 3) (j : Fin 2048) (d : Fin 128) (ht : t.val < n) (hn : n ≤ 4) :
    contents m c n (ix2 j (column r t d) : S2048x6272.Idx) = block c m r t (ix2 j d) := by
  induction n with
  | zero => omega
  | succ n ih =>
    have hlt : n < cfg0.N := hn
    refine (congrFun (contents_succ m c ⟨n, hlt⟩) _).trans ?_
    by_cases h : t.val = n
    · have e : t = ⟨n, hlt⟩ := Fin.ext h
      rw [e]
      exact leave_own c m ⟨n, hlt⟩ _ r j d
    · exact (leave_other c m ⟨n, hlt⟩ t (fun e => h (congrArg Fin.val e)) _ r j d).trans (ih (by omega) (by omega))

theorem decay_index : ∀ t : Fin cfg0.N, win0_6.index t = ![t.val, 0, 0] := (by decide +kernel : ∀ t : Fin grid0.N, _)

/-- The decay's gradient after all points: block `t` is what point `t` left. -/
theorem decay_apply (t : Fin cfg0.N) (e : Fin 8) (j : Fin 2048) :
    (dats m 0 c).arrAt 6 cfg0.N (ix3 t e j : S4x8x2048.Idx) = decayBlock m c t (ix3 0 e j) := by
  let G : FVec Ideal S4x8x2048 .f32 := fun x => decayBlock m c (x 0) (ix3 0 (x 1) (x 2))
  have h : (dats m 0 c).arrAt 6 cfg0.N = G := by
    refine (dats m 0 c).arrAt_eq_of_covers 6 _ (by decide +kernel) fun t _ y => ?_
    blk_simp
    dsimp only [dats]
    have e : ((View.whole main_v37_1).slice (win0_6.rect t)).emb y = (ix3 t (y 1) (y 2) : S4x8x2048.Idx) := by
      funext a
      apply Fin.ext
      refine (Pipeline.Window.rect_emb_val win0_6 t y a).trans ?_
      rw [decay_index t]
      have h0 : (y 0).val < 1 := (y 0).isLt
      fin_cases a
      · show t.val * 1 + (y 0).val = t.val
        omega
      · show 0 * 8 + (y 1).val = (y 1).val
        omega
      · show 0 * 2048 + (y 2).val = (y 2).val
        omega
    refine Eq.trans ?_ (congrArg G e).symm
    refine congrArg (decayBlock m c t) ?_
    funext a
    apply Fin.ext
    have h0 : (y 0).val < 1 := (y 0).isLt
    fin_cases a
    · show (y 0).val = 0
      omega
    · rfl
    · rfl
  exact congrFun h _

end Cert.FoxBwdIdeal.Fox

end
-- ==== Proof.Fox.Parts.lean ====
/- The reference of the forgetting attention's backward call, stage by stage. -/
module

public import proofs.«01_k».proof.Proof.Gen.FoxRefIdeal.Run
public import Idealize.ShloMosaic.Lib.Pointwise
public import Idealize.ShloMosaic.Lib.Claim
public import Idealize.ShloMosaic.PureOps.Ideal.Laws

@[expose] public section

set_option maxRecDepth 16384

noncomputable section

namespace Cert.FoxRefIdeal.Parts

open Cert.FoxRefIdeal Cert.FoxRefIdeal.Gen Cert.FoxRefIdeal.Value
open Idealize.ShloMosaic Idealize.ShloMosaic.TcCoe Idealize.SL.Sem

abbrev Rows : Type := FVec Ideal S2048x512 .f32
abbrev Lines : Type := FVec Ideal S8x2048 .f32
abbrev Square : Type := FVec Ideal S8x2048x2048 .f32
abbrev Column : Type := FVec Ideal S8x2048x1 .f32

/-- The columns of an array by heads. -/
def heads (x : Rows) : FVec Ideal S2048x8x64 .f32 := shapeCast _ x shapeCasts_S2048x512_S2048x8x64

/-- The heads' columns side by side. -/
def flat (x : FVec Ideal S2048x8x64 .f32) : Rows := shapeCast _ x shapeCasts_S2048x8x64_S2048x512

/-- Key `j` is no later than query `i`. -/
def causal : IVec S8x2048x2048 1 :=
  broadcastInDim S8x2048x2048 ![0, 1, 2] bcast_S1x2048x2048_S8x2048x2048_0_1_2 (broadcastInDim S1x2048x2048 ![1, 2] bcast_S2048x2048_S1x2048x2048_1_2
    (cmpi .sge (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))

/-- A row's number for each of its keys. -/
def along (z : Column) : Square := broadcastInDim S8x2048x2048 ![0, 1, 2] bcast_S8x2048x1_S8x2048x2048_0_1_2 z
def upright (x : Lines) : Column := broadcastInDim S8x2048x1 ![0, 1] bcast_S8x2048_S8x2048x1_0_1 x
def eighth : Square := broadcastInDim S8x2048x2048 ![] bcast_S_S8x2048x2048 (constant S_ .f32 0x3E000000#32)

/-- The scores with the decay, before the mask. -/
def scored (q k : Rows) (f : Lines) : Square :=
  addf (mulf (Host.dotGeneral dot_S2048x8x64_S2048x8x64_S8x2048x2048_2_2_0_0_1_1 none (heads q) (heads k)) eighth)
    (subf (along (upright f)) (broadcastInDim S8x2048x2048 ![0, 1, 2] bcast_S8x1x2048_S8x2048x2048_0_1_2 (broadcastInDim S8x1x2048 ![0, 2] bcast_S8x2048_S8x1x2048_0_2 f)))

/-- The scores, −∞ where the mask hides a key. -/
def masked (q k : Rows) (f : Lines) : Square :=
  select causal (scored q k f) (broadcastInDim S8x2048x2048 ![] bcast_S_S8x2048x2048 (constant S_ .f32 0xFF800000#32))

/-- Each row's greatest score. -/
def rowMax (s : Square) : Lines := Host.reduce FloatOps.maximumf s (constant S_ .f32 0xFF800000#32) reducesTo_S8x2048x2048_S8x2048_d2 h_S_
def peak (s : Square) : Lines := maximumf (broadcastInDim S8x2048 ![] bcast_S_S8x2048 (constant S_ .f32 0xFF800000#32)) (rowMax s)

/-- The exponentials of a row, and their sum. -/
def numer (s : Square) (p : Lines) : Square := Host.exp (subf s (along (upright p)))
def rowSum (e : Square) : Lines := Host.reduceAdd e (constant S_ .f32 0x00000000#32) reducesTo_S8x2048x2048_S8x2048_d2 h_S_
def total (e : Square) : Column := upright (rowSum e)

/-- The attention's weights. -/
def probs (e : Square) : Square := Host.divf e (along (total e))

/-- The cotangent of the weights. -/
def turned (o : Rows) : FVec Ideal S8x64x2048 .f32 := transpose S8x64x2048 [1, 2, 0] (heads o) transposes_S2048x8x64_S8x64x2048_1_2_0
def pulls (o v : Rows) : Square := Host.dotGeneral dot_S8x64x2048_S2048x8x64_S8x2048x2048_1_2_2_0_0_1 none (turned o) (heads v)

/-- What the division's derivative puts to the row's sum. -/
def squareInv (e : Square) : Column :=
  Host.divf (broadcastInDim S8x2048x1 ![] bcast_S_S8x2048x1 (constant S_ .f32 0x3F800000#32)) (mulf (total e) (total e))
def loss (p e : Square) : Lines :=
  Host.reduceAdd (Host.negf (shapeCast S8x2048x1 (rowSum (mulf (mulf p (along (squareInv e))) e)) shapeCasts_S8x2048_S8x2048x1))
    (constant S_ .f32 0x00000000#32) reducesTo_S8x2048x1_S8x2048_d2 h_S_

/-- The scores' gradient. -/
def scoreGrad (p e : Square) : Square :=
  select causal (mulf (addf (Host.divf p (along (total e))) (broadcastInDim S8x2048x2048 ![0, 1] bcast_S8x2048_S8x2048x2048_0_1 (loss p e))) e)
    (broadcastInDim S8x2048x2048 ![] bcast_S_S8x2048x2048 (constant S_ .f32 0x00000000#32))

/-- The gradients of the four arguments. -/
def dQuery (g : Square) (k : Rows) : FVec Ideal S2048x512 .bf16 :=
  truncf .bf16 (flat (transpose S2048x8x64 [1, 0, 2] (Host.dotGeneral dot_S8x2048x2048_S2048x8x64_S8x2048x64_2_0_1_2_0_1 none (mulf g eighth) (heads k))
    transposes_S8x2048x64_S2048x8x64_1_0_2)) bitsLt_bf16_f32
def dKey (g : Square) (q : Rows) : FVec Ideal S2048x512 .bf16 :=
  truncf .bf16 (flat (transpose S2048x8x64 [1, 0, 2] (Host.dotGeneral dot_S8x2048x2048_S2048x8x64_S8x2048x64_1_0_2_2_0_1 none (mulf g eighth) (heads q))
    transposes_S8x2048x64_S2048x8x64_1_0_2)) bitsLt_bf16_f32
def dValue (w : Square) (o : Rows) : FVec Ideal S2048x512 .bf16 :=
  truncf .bf16 (flat (transpose S2048x8x64 [2, 0, 1] (Host.dotGeneral dot_S8x64x2048_S8x2048x2048_S8x64x2048_2_1_1_2_0_0 none (turned o) w)
    transposes_S8x64x2048_S2048x8x64_2_0_1)) bitsLt_bf16_f32
def dDecay (g : Square) : Lines :=
  addf
    (Host.reduceAdd (shapeCast S8x1x2048 (Host.reduceAdd (Host.negf g) (constant S_ .f32 0x00000000#32) reducesTo_S8x2048x2048_S8x2048_d1 h_S_ : Lines) shapeCasts_S8x2048_S8x1x2048)
      (constant S_ .f32 0x00000000#32) reducesTo_S8x1x2048_S8x2048_d1 h_S_)
    (Host.reduceAdd (shapeCast S8x2048x1 (rowSum g) shapeCasts_S8x2048_S8x2048x1) (constant S_ .f32 0x00000000#32) reducesTo_S8x2048x1_S8x2048_d2 h_S_)

variable (m : (ℓ : Loc nD τ sig) → Buf (Elt Ideal) ℓ) (c : Dev nD)

/-- The exponentials of the arguments. -/
def expo (q k : Rows) (f : Lines) : Square := numer (masked q k f) (peak (masked q k f))

theorem out_query : res_out0 m c = dQuery (scoreGrad (pulls (m ((c.tc : Thread nD τ).loc main_arg4)) (m ((c.tc : Thread nD τ).loc main_arg2)))
    (expo (m ((c.tc : Thread nD τ).loc main_arg0)) (m ((c.tc : Thread nD τ).loc main_arg1)) (m ((c.tc : Thread nD τ).loc main_arg3))))
    (m ((c.tc : Thread nD τ).loc main_arg1)) := by sl_kernel_rfl

theorem out_key : res_out1 m c = dKey (scoreGrad (pulls (m ((c.tc : Thread nD τ).loc main_arg4)) (m ((c.tc : Thread nD τ).loc main_arg2)))
    (expo (m ((c.tc : Thread nD τ).loc main_arg0)) (m ((c.tc : Thread nD τ).loc main_arg1)) (m ((c.tc : Thread nD τ).loc main_arg3))))
    (m ((c.tc : Thread nD τ).loc main_arg0)) := by sl_kernel_rfl

theorem out_value : res_out2 m c = dValue (probs
    (expo (m ((c.tc : Thread nD τ).loc main_arg0)) (m ((c.tc : Thread nD τ).loc main_arg1)) (m ((c.tc : Thread nD τ).loc main_arg3))))
    (m ((c.tc : Thread nD τ).loc main_arg4)) := by sl_kernel_rfl

theorem out_decay : res_out3 m c = dDecay (scoreGrad (pulls (m ((c.tc : Thread nD τ).loc main_arg4)) (m ((c.tc : Thread nD τ).loc main_arg2)))
    (expo (m ((c.tc : Thread nD τ).loc main_arg0)) (m ((c.tc : Thread nD τ).loc main_arg1)) (m ((c.tc : Thread nD τ).loc main_arg3)))) := by sl_kernel_rfl

end Cert.FoxRefIdeal.Parts

end
-- ==== Proof.Fox.Host.lean ====
/- The host lines around the forgetting attention's backward kernel: what its region is given, and what is taken of its arrays. -/
module

public import proofs.«01_k».proof.Proof.Fox.Shared
public import proofs.«01_k».proof.Proof.Fox.Parts

@[expose] public section

set_option maxRecDepth 16384

noncomputable section

namespace Cert.FoxBwdIdeal.Fox

open Cert.FoxBwdIdeal.Gen
open Idealize.ShloMosaic Idealize.ShloMosaic.TcCoe Idealize.ShloMosaic.StableHlo Idealize.SL.Sem
open Cert.FoxRefIdeal.Parts (Rows Lines Square heads flat along upright masked rowMax rowSum numer)

/-- The packed projections: zeros, the three arrays, zeros. -/
def packed (q k v : Rows) : FVec Ideal S2048x6272 .f32 :=
  concatenate S2048x6272 1 [⟨S2048x4608, broadcastInDim S2048x4608 ![] bcast_S_S2048x4608 (constant S_ .f32 0x00000000#32)⟩,
    ⟨S2048x512, q⟩, ⟨S2048x512, k⟩, ⟨S2048x512, v⟩,
    ⟨S2048x128, broadcastInDim S2048x128 ![] bcast_S_S2048x128 (constant S_ .f32 0x00000000#32)⟩]
    concatenates_S2048x4608_S2048x512_S2048x512_S2048x512_S2048x128_S2048x6272_d1

/-- The logarithm of each row's sum of exponentials. -/
def logSum (s : Square) : Lines := addf (rowMax s) (Host.log (rowSum (numer s (rowMax s))))

/-- A number of each head and row, in all columns of the head. -/
def spread (x : Lines) : Rows :=
  flat (broadcastInDim S2048x8x64 ![0, 1] bcast_S2048x8_S2048x8x64_0_1 (transpose S2048x8 [1, 0] x transposes_S8x2048_S2048x8_1_0))

variable (m : (ℓ : Loc nD τ sig) → Buf (Elt Ideal) ℓ) (c : Dev nD)

theorem V_packed : (V m c main_v2 : FVec Ideal S2048x6272 .f32)
    = packed (m ((c.tc : Thread nD τ).loc main_arg0)) (m ((c.tc : Thread nD τ).loc main_arg1)) (m ((c.tc : Thread nD τ).loc main_arg2)) := by
  simp only [V, V0, hostOps0, hostOps0_1, hostOps0_2, hostOps0_3, hostOps0_4, List.flatten_cons, List.flatten_nil, List.append_nil, List.cons_append, List.nil_append,
    TRef.nullary, TRef.ternary, TRef.unary, TRef.binary, TRef.toBuf, TRef.ofBuf, cast_eq]
  after_results_simp <;> rfl

theorem V_lse : (V m c main_v33 : Rows)
    = spread (logSum (masked (m ((c.tc : Thread nD τ).loc main_arg0)) (m ((c.tc : Thread nD τ).loc main_arg1)) (m ((c.tc : Thread nD τ).loc main_arg3)))) := by
  simp only [V, V0, hostOps0, hostOps0_1, hostOps0_2, hostOps0_3, hostOps0_4, List.flatten_cons, List.flatten_nil, List.append_nil, List.cons_append, List.nil_append,
    TRef.nullary, TRef.ternary, TRef.unary, TRef.binary, TRef.toBuf, TRef.ofBuf, cast_eq]
  after_results_simp <;> rfl

theorem V_decay : (V m c main_v34 : FVec Ideal S16x2048 .f32)
    = pad (α := EReal) S16x2048 ![0, 0] ![8, 0] ![0, 0] (m ((c.tc : Thread nD τ).loc main_arg3) : Lines) (sitofp (F := Ideal) .f32 (constantI S_ 32 0#32)) pads_S8x2048_S16x2048_080_000 h_S_ := by
  simp only [V, V0, hostOps0, hostOps0_1, hostOps0_2, hostOps0_3, hostOps0_4, List.flatten_cons, List.flatten_nil, List.append_nil, List.cons_append, List.nil_append,
    TRef.nullary, TRef.ternary, TRef.unary, TRef.binary, TRef.toBuf, TRef.ofBuf, cast_eq]
  after_results_simp <;> rfl

theorem V_upstream : (V m c main_v35 : FVec Ideal S2048x512 .bf16) = (truncf .bf16 (m ((c.tc : Thread nD τ).loc main_arg4) : Rows) bitsLt_bf16_f32 : FVec Ideal S2048x512 .bf16) := by
  simp only [V, V0, hostOps0, hostOps0_1, hostOps0_2, hostOps0_3, hostOps0_4, List.flatten_cons, List.flatten_nil, List.append_nil, List.cons_append, List.nil_append,
    TRef.nullary, TRef.ternary, TRef.unary, TRef.binary, TRef.toBuf, TRef.ofBuf, cast_eq]
  after_results_simp <;> rfl

end Cert.FoxBwdIdeal.Fox

end
-- ==== Proof.Fox.Exact.lean ====
/- The reference of the forgetting attention's backward call on real arrays: the real numbers it returns. -/
module

public import proofs.«01_k».proof.Proof.Fox.Parts
public import proofs.«01_k».proof.Proof.Lift
public import Idealize.ShloMosaic.Lib.WordCmp

@[expose] public section

set_option maxRecDepth 16384

noncomputable section

namespace Cert.FoxRefIdeal.Parts

open Cert.FoxRefIdeal Cert.FoxRefIdeal.Gen Cert.FoxRefIdeal.Value
open Idealize.ShloMosaic Idealize.ShloMosaic.TcCoe Idealize.SL.Sem

section Entries

variable (q k v o : Rows) (f x : Lines) (s e p : Square) (z : Column) (h : Fin 8) (i j : Fin 2048) (d : Fin 64)

/-- Column `d` of head `h`. -/
def col (h : Fin 8) (d : Fin 64) : Fin 512 := ⟨64 * h.val + d.val, by omega⟩

theorem heads_apply : heads q (ix3 i h d) = q (ix2 i (col h d)) := by
  unfold heads
  pointwise
  exact congrArg (fun y => q (ix2 i y)) (Fin.ext (by simp only [col]; omega))

theorem flat_apply (y : FVec Ideal S2048x8x64 .f32) : flat y (ix2 i (col h d)) = y (ix3 i h d) := by
  unfold flat
  pointwise
  have h1 : (col h d).val / 64 = h.val := by simp only [col]; omega
  have h2 : (col h d).val % 64 = d.val := by simp only [col]; omega
  simp only [h1, h2]

theorem narrow_flat_apply (y : FVec Ideal S2048x8x64 .f32) : (truncf .bf16 (flat y) bitsLt_bf16_f32 : FVec Ideal S2048x512 .bf16) (ix2 i (col h d)) = y (ix3 i h d) := by
  refine Eq.trans ?_ (flat_apply h i d y)
  pointwise

/-- The scale of the scores. -/
theorem eighth_word : Ideal.ofBits .f32 0x3E000000#32 = (((1 / 8 : ℝ)) : EReal) := by
  simp [Ideal.ofBits, Ideal.ieee, -EReal.coe_mul]; norm_num

theorem infinity_word : Ideal.ofBits .f32 0xFF800000#32 = ⊥ := by simp [Ideal.ofBits, Ideal.ieee]

theorem select_before (a b : EReal) : Scalar.select (IntOp.cmpi .sge (BitVec.ofNat 32 i.val) (BitVec.ofNat 32 j.val)) a b = if j.val ≤ i.val then a else b := by
  have := i.isLt
  have := j.isLt
  by_cases hij : j.val ≤ i.val
  · rw [if_pos hij]
    have : IntOp.cmpi .sge (BitVec.ofNat 32 i.val) (BitVec.ofNat 32 j.val) = 1#1 := by word_cmp
    rw [this]
    rfl
  · rw [if_neg hij]
    have : IntOp.cmpi .sge (BitVec.ofNat 32 i.val) (BitVec.ofNat 32 j.val) = 0#1 := by word_cmp
    rw [this]
    rfl

theorem scored_apply : scored q k f (ix3 h i j)
    = (∑ d, heads q (ix3 i h d) * heads k (ix3 j h d)) * Ideal.ofBits .f32 0x3E000000#32 + (f (ix2 h i) - f (ix2 h j)) := by
  unfold scored along upright eighth
  pointwise

theorem masked_apply : masked q k f (ix3 h i j) = if j.val ≤ i.val then scored q k f (ix3 h i j) else ⊥ := by
  unfold masked causal
  pointwise
  rw [select_before, infinity_word]

theorem numer_apply : numer s x (ix3 h i j) = Ideal.exp (s (ix3 h i j) - x (ix2 h i)) := by
  unfold numer along upright
  pointwise

theorem rowSum_apply : rowSum e (ix2 h i) = ∑ j, e (ix3 h i j) := by
  unfold rowSum
  pointwise

theorem over_infinity : maximumf (broadcastInDim S8x2048 ![] bcast_S_S8x2048 (constant S_ .f32 0xFF800000#32)) x (ix2 h i) = x (ix2 h i) := by
  pointwise
  rw [infinity_word]
  exact max_bot_left _

theorem peak_apply : peak s (ix2 h i) = rowMax s (ix2 h i) := over_infinity (rowMax s) h i

theorem probs_apply : probs e (ix3 h i j) = Ideal.div (e (ix3 h i j)) (∑ j, e (ix3 h i j)) := by
  unfold probs along total upright rowSum
  pointwise

theorem pulls_apply : pulls o v (ix3 h i j) = ∑ d, o (ix2 i (col h d)) * v (ix2 j (col h d)) := by
  unfold pulls turned
  pointwise
  exact Finset.sum_congr rfl fun d _ => by rw [heads_apply, heads_apply]

theorem scoreGrad_apply : scoreGrad p e (ix3 h i j) = if j.val ≤ i.val then
      (Ideal.div (p (ix3 h i j)) (∑ x, e (ix3 h i x)) + (-∑ x, p (ix3 h i x) * Ideal.div 1 ((∑ x, e (ix3 h i x)) * ∑ x, e (ix3 h i x)) * e (ix3 h i x))) * e (ix3 h i j)
    else 0 := by
  unfold scoreGrad loss squareInv total along upright causal rowSum
  pointwise
  rw [select_before, Fin.sum_univ_one]

theorem dQuery_apply : dQuery s k (ix2 i (col h d)) = ∑ j, s (ix3 h i j) * Ideal.ofBits .f32 0x3E000000#32 * k (ix2 j (col h d)) := by
  unfold dQuery
  refine (narrow_flat_apply h i d _).trans ?_
  unfold eighth
  pointwise
  exact Finset.sum_congr rfl fun j _ => by rw [heads_apply]

theorem dKey_apply : dKey s q (ix2 j (col h d)) = ∑ i, s (ix3 h i j) * Ideal.ofBits .f32 0x3E000000#32 * q (ix2 i (col h d)) := by
  unfold dKey
  refine (narrow_flat_apply h j d _).trans ?_
  unfold eighth
  pointwise
  exact Finset.sum_congr rfl fun j _ => by rw [heads_apply]

theorem dValue_apply : dValue s o (ix2 j (col h d)) = ∑ i, o (ix2 i (col h d)) * s (ix3 h i j) := by
  unfold dValue
  refine (narrow_flat_apply h j d _).trans ?_
  unfold turned
  pointwise
  exact Finset.sum_congr rfl fun j _ => by rw [heads_apply]

theorem dDecay_apply : dDecay s (ix2 h j) = ∑ i, -s (ix3 h i j) + ∑ x, s (ix3 h j x) := by
  unfold dDecay rowSum
  pointwise
  rw [Fin.sum_univ_one, Fin.sum_univ_one]

/-- The greatest of a row is a real number, if its entries are real or −∞ and one of them is real. -/
theorem rowMax_real (hs : ∀ j, s (ix3 h i j) ≠ ⊤) (j : Fin 2048) (r : ℝ) (hr : s (ix3 h i j) = (r : EReal)) : ∃ μ : ℝ, rowMax s (ix2 h i) = (μ : EReal) := by
  have key : rowMax s (ix2 h i) = (Finset.univ.filter fun y => reducesTo_S8x2048x2048_S8x2048_d2.drop y = ix2 h i).fold max (⊥ : EReal) s := by
    refine (Host.reduce_eq_fold FloatOps.maximumf s _ reducesTo_S8x2048x2048_S8x2048_d2 h_S_ (ix2 h i)).trans ?_
    rw [show constant (F := Ideal) S_ .f32 0xFF800000#32 (Shape.Idx.first h_S_) = (⊥ : EReal) from infinity_word]
    rfl
  have d0 : ∀ y, (reducesTo_S8x2048x2048_S8x2048_d2.drop y 0).val = (y 0).val := fun y => reducesTo_S8x2048x2048_S8x2048_d2.drop_apply_val_of_eq y 0 0
  have d1 : ∀ y, (reducesTo_S8x2048x2048_S8x2048_d2.drop y 1).val = (y 1).val := fun y => reducesTo_S8x2048x2048_S8x2048_d2.drop_apply_val_of_eq y 1 1
  have mem : ∀ y ∈ Finset.univ.filter fun y => reducesTo_S8x2048x2048_S8x2048_d2.drop y = ix2 h i, ∃ j, y = ix3 h i j := fun y hy => by
    have e := (Finset.mem_filter.1 hy).2
    refine ⟨y 2, funext fun a => Fin.ext ?_⟩
    fin_cases a
    · exact (d0 y).symm.trans (congrArg Fin.val (congrFun e 0))
    · exact (d1 y).symm.trans (congrArg Fin.val (congrFun e 1))
    · rfl
  have inn : ix3 h i j ∈ Finset.univ.filter fun y => reducesTo_S8x2048x2048_S8x2048_d2.drop y = ix2 h i := by
    refine Finset.mem_filter.2 ⟨Finset.mem_univ _, funext fun a => Fin.ext ?_⟩
    fin_cases a
    · exact d0 (ix3 h i j)
    · exact d1 (ix3 h i j)
  rw [key]
  have lt : (Finset.univ.filter fun y => reducesTo_S8x2048x2048_S8x2048_d2.drop y = ix2 h i).fold max (⊥ : EReal) s < ⊤ := by
    refine (Finset.fold_max_lt _).2 ⟨bot_lt_top, fun y hy => ?_⟩
    obtain ⟨j, rfl⟩ := mem y hy
    exact lt_top_iff_ne_top.2 (hs j)
  have gt : ⊥ < (Finset.univ.filter fun y => reducesTo_S8x2048x2048_S8x2048_d2.drop y = ix2 h i).fold max (⊥ : EReal) s :=
    (Finset.lt_fold_max _).2 (Or.inr ⟨_, inn, by rw [hr]; exact EReal.bot_lt_coe r⟩)
  exact ⟨_, (EReal.coe_toReal lt.ne gt.ne').symm⟩

end Entries

end Cert.FoxRefIdeal.Parts

end
-- ==== Proof.Fox.Answer.lean ====
/- The gradients of the forgetting attention as real numbers, and the reference's results at them. -/
module

public import proofs.«01_k».proof.Proof.Fox.Exact

@[expose] public section

set_option maxRecDepth 16384

noncomputable section

namespace Cert.FoxRefIdeal.Parts

open Cert.FoxRefIdeal Cert.FoxRefIdeal.Gen Cert.FoxRefIdeal.Value
open Idealize.ShloMosaic Idealize.ShloMosaic.TcCoe Idealize.SL.Sem

/-- The call's arguments as real numbers. -/
structure Args where
  q : Fin 2048 → Fin 512 → ℝ
  k : Fin 2048 → Fin 512 → ℝ
  v : Fin 2048 → Fin 512 → ℝ
  o : Fin 2048 → Fin 512 → ℝ
  f : Fin 8 → Fin 2048 → ℝ

namespace Args

variable (A : Args) (h : Fin 8) (i j : Fin 2048)

def score : ℝ := (∑ d, A.q i (col h d) * A.k j (col h d)) * (1 / 8) + (A.f h i - A.f h j)
def pull : ℝ := ∑ d, A.o i (col h d) * A.v j (col h d)
def rowTotal : ℝ := ∑ j, if j.val ≤ i.val then Real.exp (A.score h i j) else 0
def logSum : ℝ := Real.log (A.rowTotal h i)
def weight : ℝ := if j.val ≤ i.val then Real.exp (A.score h i j - A.logSum h i) else 0
def grad : ℝ := A.weight h i j * (A.pull h i j - ∑ x : Fin 2048, A.weight h i x * A.pull h i x)

theorem rowTotal_pos : 0 < A.rowTotal h i := by
  unfold rowTotal
  refine Finset.sum_pos' (fun j _ => ?_) ⟨i, Finset.mem_univ _, ?_⟩
  · split_ifs
    · exact (Real.exp_pos _).le
    · exact le_rfl
  · rw [if_pos le_rfl]
    exact Real.exp_pos _

/-- A row's exponential, taken off any number `μ`. -/
def shifted (μ : Fin 8 → Fin 2048 → ℝ) : ℝ := if j.val ≤ i.val then Real.exp (A.score h i j - μ h i) else 0

theorem shifted_sum (μ : Fin 8 → Fin 2048 → ℝ) : ∑ j : Fin 2048, A.shifted h i j μ = Real.exp (-μ h i) * A.rowTotal h i := by
  unfold rowTotal shifted
  rw [Finset.mul_sum]
  refine Finset.sum_congr rfl fun j _ => ?_
  split_ifs
  · rw [← Real.exp_add]; congr 1; ring
  · ring

theorem shifted_sum_pos (μ : Fin 8 → Fin 2048 → ℝ) : 0 < ∑ j : Fin 2048, A.shifted h i j μ := by
  rw [shifted_sum]
  exact mul_pos (Real.exp_pos _) (A.rowTotal_pos h i)

/-- Divided by its row's sum it is the weight, whatever the number. -/
theorem shifted_div (μ : Fin 8 → Fin 2048 → ℝ) : A.shifted h i j μ / ∑ j : Fin 2048, A.shifted h i j μ = A.weight h i j := by
  rw [shifted_sum]
  unfold shifted weight logSum
  split_ifs
  · rw [Real.exp_sub, Real.exp_sub, Real.exp_log (A.rowTotal_pos h i), Real.exp_neg]
    have := (A.rowTotal_pos h i).ne'
    have := (Real.exp_pos (μ h i)).ne'
    field_simp
  · exact zero_div _

/-- The logarithm of the sum, with the number put back. -/
theorem shifted_log (μ : Fin 8 → Fin 2048 → ℝ) : μ h i + Real.log (∑ j : Fin 2048, A.shifted h i j μ) = A.logSum h i := by
  rw [shifted_sum, Real.log_mul (Real.exp_pos _).ne' (A.rowTotal_pos h i).ne', Real.log_exp]
  unfold logSum
  ring

theorem weight_sum : ∑ j, A.weight h i j = 1 := by
  have e : ∀ j, A.weight h i j = A.shifted h i j (fun _ _ => 0) / ∑ j : Fin 2048, A.shifted h i j (fun _ _ => 0) := fun j => (A.shifted_div h i j _).symm
  rw [Finset.sum_congr rfl fun j _ => e j, ← Finset.sum_div]
  exact div_self (A.shifted_sum_pos h i _).ne'

/-- A row of the scores' gradient adds up to nothing. -/
theorem grad_row : ∑ j, A.grad h i j = 0 := by
  unfold grad
  simp only [mul_sub]
  rw [Finset.sum_sub_distrib, ← Finset.sum_mul, weight_sum, one_mul, sub_self]

theorem quotient_sum (p e : Fin 2048 → ℝ) (z : ℝ) (hz : z ≠ 0) : ∑ x, p x * (1 / (z * z)) * e x = 1 / z * ∑ x, e x / z * p x := by
  rw [Finset.mul_sum]
  refine Finset.sum_congr rfl fun x _ => ?_
  field_simp

/-- The gradient as the quotient's derivative spells it. -/
theorem grad_quotient (μ : Fin 8 → Fin 2048 → ℝ) :
    (A.pull h i j * (1 / ∑ x : Fin 2048, A.shifted h i x μ)
      + (-∑ x : Fin 2048, A.pull h i x * (1 / ((∑ x : Fin 2048, A.shifted h i x μ) * ∑ x : Fin 2048, A.shifted h i x μ)) * A.shifted h i x μ)) * A.shifted h i j μ = A.grad h i j := by
  unfold grad
  have hs : ∑ x : Fin 2048, A.pull h i x * (1 / ((∑ x : Fin 2048, A.shifted h i x μ) * ∑ x : Fin 2048, A.shifted h i x μ)) * A.shifted h i x μ
      = (1 / ∑ x : Fin 2048, A.shifted h i x μ) * ∑ x : Fin 2048, A.weight h i x * A.pull h i x := by
    refine (quotient_sum _ _ _ (A.shifted_sum_pos h i μ).ne').trans (congrArg _ (Finset.sum_congr rfl fun x _ => ?_))
    rw [A.shifted_div h i x μ]
  rw [hs, ← A.shifted_div h i j μ]
  ring

end Args

/-- The call's arrays are these real numbers. -/
structure Are (A : Args) (q k v o : Rows) (f : Lines) : Prop where
  q : ∀ i c, q (ix2 i c) = ((A.q i c : ℝ) : EReal)
  k : ∀ i c, k (ix2 i c) = ((A.k i c : ℝ) : EReal)
  v : ∀ i c, v (ix2 i c) = ((A.v i c : ℝ) : EReal)
  o : ∀ i c, o (ix2 i c) = ((A.o i c : ℝ) : EReal)
  f : ∀ h i, f (ix2 h i) = ((A.f h i : ℝ) : EReal)

section Values

variable {A : Args} {q k v o : Rows} {f : Lines} (H : Are A q k v o f) (h : Fin 8) (i j : Fin 2048) (d : Fin 64)
include H

theorem masked_real : masked q k f (ix3 h i j) = if j.val ≤ i.val then ((A.score h i j : ℝ) : EReal) else ⊥ := by
  rw [masked_apply, scored_apply, H.f, H.f, eighth_word]
  have e : ∑ d, heads q (ix3 i h d) * heads k (ix3 j h d) = ((∑ d, A.q i (col h d) * A.k j (col h d) : ℝ) : EReal) := by
    rw [← Cert.Lift.coe_sum]
    exact Finset.sum_congr rfl fun d _ => by rw [heads_apply, heads_apply, H.q, H.k, ← EReal.coe_mul]
  rw [e, ← EReal.coe_mul, ← EReal.coe_sub, ← EReal.coe_add]
  rfl

theorem rowMax_exists : ∃ μ : Fin 8 → Fin 2048 → ℝ, ∀ h i, rowMax (masked q k f) (ix2 h i) = ((μ h i : ℝ) : EReal) := by
  have key : ∀ h i, ∃ μ : ℝ, rowMax (masked q k f) (ix2 h i) = (μ : EReal) := fun h i => by
    refine rowMax_real _ h i (fun j => ?_) i (A.score h i i) ?_
    · rw [masked_real H]
      split_ifs
      · exact EReal.coe_ne_top _
      · exact bot_ne_top
    · rw [masked_real H, if_pos le_rfl]
  exact ⟨fun h i => (key h i).choose, fun h i => (key h i).choose_spec⟩

theorem numer_real (x : Lines) (μ : Fin 8 → Fin 2048 → ℝ) (hx : ∀ h i, x (ix2 h i) = ((μ h i : ℝ) : EReal)) :
    numer (masked q k f) x (ix3 h i j) = ((A.shifted h i j μ : ℝ) : EReal) := by
  rw [numer_apply, masked_real H, hx]
  unfold Args.shifted
  split_ifs
  · rw [← EReal.coe_sub, Ideal.exp_coe]
  · rw [EReal.bot_sub, Ideal.exp_bot, EReal.coe_zero]

theorem numer_sum (x : Lines) (μ : Fin 8 → Fin 2048 → ℝ) (hx : ∀ h i, x (ix2 h i) = ((μ h i : ℝ) : EReal)) :
    ∑ j, numer (masked q k f) x (ix3 h i j) = ((∑ j : Fin 2048, A.shifted h i j μ : ℝ) : EReal) := by
  rw [← Cert.Lift.coe_sum]
  exact Finset.sum_congr rfl fun j _ => numer_real H h i j x μ hx

theorem pulls_real : pulls o v (ix3 h i j) = ((A.pull h i j : ℝ) : EReal) := by
  rw [pulls_apply]
  unfold Args.pull
  rw [← Cert.Lift.coe_sum]
  exact Finset.sum_congr rfl fun d _ => by rw [H.o, H.v, ← EReal.coe_mul]

theorem probs_real : probs (expo q k f) (ix3 h i j) = ((A.weight h i j : ℝ) : EReal) := by
  obtain ⟨μ, hμ⟩ := rowMax_exists H
  have hp : ∀ h i, peak (masked q k f) (ix2 h i) = ((μ h i : ℝ) : EReal) := fun h i => (peak_apply _ h i).trans (hμ h i)
  rw [probs_apply]
  unfold expo
  rw [numer_sum H h i _ μ hp, numer_real H h i j _ μ hp, Ideal.div_coe (A.shifted_sum_pos h i μ).ne', ← EReal.coe_mul, mul_one_div, A.shifted_div]

theorem scoreGrad_real : scoreGrad (pulls o v) (expo q k f) (ix3 h i j) = ((A.grad h i j : ℝ) : EReal) := by
  obtain ⟨μ, hμ⟩ := rowMax_exists H
  have hp : ∀ h i, peak (masked q k f) (ix2 h i) = ((μ h i : ℝ) : EReal) := fun h i => (peak_apply _ h i).trans (hμ h i)
  have hz := (A.shifted_sum_pos h i μ).ne'
  rw [scoreGrad_apply]
  unfold expo
  rw [numer_sum H h i _ μ hp, numer_real H h i j _ μ hp, pulls_real H]
  have e : ∑ x : Fin 2048, pulls o v (ix3 h i x) * Ideal.div 1 (((∑ j : Fin 2048, A.shifted h i j μ : ℝ) : EReal) * ((∑ j : Fin 2048, A.shifted h i j μ : ℝ) : EReal)) * numer (masked q k f) (peak (masked q k f)) (ix3 h i x)
      = ((∑ x : Fin 2048, A.pull h i x * (1 / ((∑ x : Fin 2048, A.shifted h i x μ) * ∑ x : Fin 2048, A.shifted h i x μ)) * A.shifted h i x μ : ℝ) : EReal) := by
    refine Eq.trans (Finset.sum_congr rfl fun x _ => ?_) (Cert.Lift.coe_sum _ _)
    rw [pulls_real H, numer_real H h i x _ μ hp, ← EReal.coe_mul, Ideal.div_coe (mul_ne_zero hz hz), one_mul, ← EReal.coe_mul, ← EReal.coe_mul]
  rw [e, Ideal.div_coe hz, ← EReal.coe_mul, ← EReal.coe_neg, ← EReal.coe_add, ← EReal.coe_mul, A.grad_quotient]
  split_ifs with hij
  · rfl
  · unfold Args.grad Args.weight
    rw [if_neg hij, zero_mul, EReal.coe_zero]

theorem query_answer : dQuery (scoreGrad (pulls o v) (expo q k f)) k (ix2 i (col h d)) = (((∑ j, A.grad h i j * A.k j (col h d)) * (1 / 8) : ℝ) : EReal) := by
  rw [dQuery_apply, eighth_word, Finset.sum_mul, ← Cert.Lift.coe_sum]
  refine Finset.sum_congr rfl fun j _ => ?_
  rw [scoreGrad_real H, H.k, ← EReal.coe_mul, ← EReal.coe_mul]
  congr 1
  ring

theorem key_answer : dKey (scoreGrad (pulls o v) (expo q k f)) q (ix2 j (col h d)) = ((∑ i, A.grad h i j * (A.q i (col h d) * (1 / 8)) : ℝ) : EReal) := by
  rw [dKey_apply, eighth_word, ← Cert.Lift.coe_sum]
  refine Finset.sum_congr rfl fun j _ => ?_
  rw [scoreGrad_real H, H.q, ← EReal.coe_mul, ← EReal.coe_mul]
  congr 1
  ring

theorem value_answer : dValue (probs (expo q k f)) o (ix2 j (col h d)) = ((∑ i, A.weight h i j * A.o i (col h d) : ℝ) : EReal) := by
  rw [dValue_apply, ← Cert.Lift.coe_sum]
  refine Finset.sum_congr rfl fun j _ => ?_
  rw [probs_real H, H.o, ← EReal.coe_mul, mul_comm]

theorem decay_answer : dDecay (scoreGrad (pulls o v) (expo q k f)) (ix2 h j) = ((-∑ i, A.grad h i j : ℝ) : EReal) := by
  rw [dDecay_apply]
  have e1 : ∑ x, scoreGrad (pulls o v) (expo q k f) (ix3 h j x) = 0 := by
    rw [Finset.sum_congr rfl fun x _ => scoreGrad_real H h j x, Cert.Lift.coe_sum, A.grad_row, EReal.coe_zero]
  rw [e1, add_zero, ← Finset.sum_neg_distrib, ← Cert.Lift.coe_sum]
  exact Finset.sum_congr rfl fun i _ => by rw [scoreGrad_real H, ← EReal.coe_neg]

end Values

end Cert.FoxRefIdeal.Parts

end
-- ==== Proof.Fox.Given.lean ====
/- What each point of the forgetting attention's backward kernel is given, on real arguments. -/
module

public import proofs.«01_k».proof.Proof.Fox.Host
public import proofs.«01_k».proof.Proof.Fox.Answer

@[expose] public section

set_option maxRecDepth 16384

noncomputable section

namespace Cert.FoxBwdIdeal.Fox

open Cert.FoxBwdIdeal.Gen
open Idealize.ShloMosaic Idealize.ShloMosaic.TcCoe Idealize.ShloMosaic.StableHlo Idealize.SL.Sem
open Cert.FoxRefIdeal.Parts (Rows Lines Square flat masked rowMax rowSum numer Args Are col)

section Entries

variable (q k v : Rows) (x : Lines) (i : Fin 2048) (y : Fin 512)

theorem packed_query : packed q k v (ix2 i (⟨4608 + y.val, by omega⟩ : Fin 6272)) = q (ix2 i y) := by
  unfold packed
  pointwise

theorem packed_key : packed q k v (ix2 i (⟨5120 + y.val, by omega⟩ : Fin 6272)) = k (ix2 i y) := by
  unfold packed
  pointwise
  rw [dif_neg (by omega), dif_neg (by omega), dif_pos (by omega)]
  exact congrArg k (congrArg (ix2 i) (Fin.ext (by show 5120 + y.val - 4608 - 512 = y.val; omega)))

theorem packed_value : packed q k v (ix2 i (⟨5632 + y.val, by omega⟩ : Fin 6272)) = v (ix2 i y) := by
  unfold packed
  pointwise
  rw [dif_neg (by omega), dif_neg (by omega), dif_neg (by omega), dif_pos (by omega)]
  exact congrArg v (congrArg (ix2 i) (Fin.ext (by show 5632 + y.val - 4608 - 512 - 512 = y.val; omega)))

theorem padded (h : Fin 8) : pad (α := EReal) S16x2048 ![0, 0] ![8, 0] ![0, 0] x (sitofp (F := Ideal) .f32 (constantI S_ 32 0#32)) pads_S8x2048_S16x2048_080_000 h_S_
    (ix2 (⟨h.val, by omega⟩ : Fin 16) i) = x (ix2 h i) := by
  pointwise

theorem spread_apply (h : Fin 8) (d : Fin 64) : spread x (ix2 i (col h d)) = x (ix2 h i) := by
  refine (Cert.FoxRefIdeal.Parts.flat_apply h i d _).trans ?_
  pointwise

end Entries

theorem block_index : ∀ t : Fin cfg0.N, win0_0.index t = ![0, 36 + t.val] ∧ win0_1.index t = ![0, 40 + t.val] ∧ win0_2.index t = ![0, 44 + t.val]
    ∧ win0_3.index t = ![0, 0] ∧ win0_4.index t = ![0, t.val] ∧ win0_5.index t = ![0, t.val] :=
  (by decide +kernel : ∀ t : Fin grid0.N, _)

/-- Column `d` of point `t`'s block. -/
def colAt (t : Fin cfg0.N) (d : Fin 128) : Fin 512 := ⟨128 * t.val + d.val, by have := point_lt t; omega⟩

section Blocks

variable (m : (ℓ : Loc nD τ sig) → Buf (Elt Ideal) ℓ) (c : Dev nD) (t : Fin cfg0.N) (i : Fin 2048) (d : Fin 128)

theorem block_query : iblk m c 0 t (ix2 i d) = (V m c main_v2 : FVec Ideal S2048x6272 .f32) (ix2 i (⟨4608 + (colAt t d).val, by omega⟩ : Fin 6272)) := by
  refine congrArg (V m c main_v2 : FVec Ideal S2048x6272 .f32) (?_ : ((cfg0.win 0).blk t).view.emb (ix2 i d) = _)
  funext a
  apply Fin.ext
  refine (Pipeline.Window.rect_emb_val win0_0 t (ix2 i d) a).trans ?_
  rw [(block_index t).1]
  fin_cases a
  · show 0 * 2048 + i.val = i.val
    omega
  · show (36 + t.val) * 128 + d.val = 4608 + (128 * t.val + d.val)
    omega

theorem block_key : iblk m c 1 t (ix2 i d) = (V m c main_v2 : FVec Ideal S2048x6272 .f32) (ix2 i (⟨5120 + (colAt t d).val, by omega⟩ : Fin 6272)) := by
  refine congrArg (V m c main_v2 : FVec Ideal S2048x6272 .f32) (?_ : ((cfg0.win 1).blk t).view.emb (ix2 i d) = _)
  funext a
  apply Fin.ext
  refine (Pipeline.Window.rect_emb_val win0_1 t (ix2 i d) a).trans ?_
  rw [(block_index t).2.1]
  fin_cases a
  · show 0 * 2048 + i.val = i.val
    omega
  · show (40 + t.val) * 128 + d.val = 5120 + (128 * t.val + d.val)
    omega

theorem block_value : iblk m c 2 t (ix2 i d) = (V m c main_v2 : FVec Ideal S2048x6272 .f32) (ix2 i (⟨5632 + (colAt t d).val, by omega⟩ : Fin 6272)) := by
  refine congrArg (V m c main_v2 : FVec Ideal S2048x6272 .f32) (?_ : ((cfg0.win 2).blk t).view.emb (ix2 i d) = _)
  funext a
  apply Fin.ext
  refine (Pipeline.Window.rect_emb_val win0_2 t (ix2 i d) a).trans ?_
  rw [(block_index t).2.2.1]
  fin_cases a
  · show 0 * 2048 + i.val = i.val
    omega
  · show (44 + t.val) * 128 + d.val = 5632 + (128 * t.val + d.val)
    omega

theorem block_upstream : iblk m c 4 t (ix2 i d) = (V m c main_v35 : FVec Ideal S2048x512 .bf16) (ix2 i (colAt t d)) := by
  refine congrArg (V m c main_v35 : FVec Ideal S2048x512 .bf16) (?_ : ((cfg0.win 4).blk t).view.emb (ix2 i d) = _)
  funext a
  apply Fin.ext
  refine (Pipeline.Window.rect_emb_val win0_4 t (ix2 i d) a).trans ?_
  rw [(block_index t).2.2.2.2.1]
  fin_cases a
  · show 0 * 2048 + i.val = i.val
    omega
  · show t.val * 128 + d.val = 128 * t.val + d.val
    omega

theorem read_logSum (X : (b : Ref sig .tc) → Buf (Elt Ideal) ((c.tc : Thread nD τ).loc b)) :
    (((cfg0.win 5).blk t).view.read (Elt Ideal) (X (Pipeline.arrRef spec0 5)) : FVec Ideal S2048x128 .f32) (ix2 i d) = (X main_v33 : Rows) (ix2 i (colAt t d)) := by
  refine congrArg (X main_v33 : Rows) (?_ : ((cfg0.win 5).blk t).view.emb (ix2 i d) = _)
  funext a
  apply Fin.ext
  refine (Pipeline.Window.rect_emb_val win0_5 t (ix2 i d) a).trans ?_
  rw [(block_index t).2.2.2.2.2]
  fin_cases a
  · show 0 * 2048 + i.val = i.val
    omega
  · show t.val * 128 + d.val = 128 * t.val + d.val
    omega

theorem block_logSum : iblk m c 5 t (ix2 i d) = (V m c main_v33 : Rows) (ix2 i (colAt t d)) := read_logSum c t i d (V m c)

theorem block_decay (r : Fin 16) : iblk m c 3 t (ix2 r i) = (V m c main_v34 : FVec Ideal S16x2048 .f32) (ix2 r i) := by
  refine congrArg (V m c main_v34 : FVec Ideal S16x2048 .f32) (?_ : ((cfg0.win 3).blk t).view.emb (ix2 r i) = _)
  funext a
  apply Fin.ext
  refine (Pipeline.Window.rect_emb_val win0_3 t (ix2 r i) a).trans ?_
  rw [(block_index t).2.2.2.1]
  fin_cases a
  · show 0 * 16 + r.val = r.val
    omega
  · show 0 * 2048 + i.val = i.val
    omega

end Blocks

/-- Head `e` of point `t`'s two. -/
def headAt (t : Fin cfg0.N) (e : Fin 2) : Fin 8 := ⟨2 * t.val + e.val, by have := point_lt t; omega⟩

/-- The real block of point `t`. -/
def reals (A : Args) (t : Fin cfg0.N) : Reals where
  q i d := A.q i (colAt t d)
  k i d := A.k i (colAt t d)
  v i d := A.v i (colAt t d)
  o i d := A.o i (colAt t d)
  l i d := A.logSum (headAt t (headOf d)) i
  f e j := A.f (headAt t e) j

theorem colAt_eq (t : Fin cfg0.N) (d : Fin 128) : colAt t d = col (headAt t (headOf d)) ⟨d.val % 64, Nat.mod_lt _ (by norm_num)⟩ := by
  apply Fin.ext
  show 128 * t.val + d.val = 64 * (2 * t.val + d.val / 64) + d.val % 64
  omega

theorem log_total (x y : Lines) (i : S8x2048.Idx) (μ s r : ℝ) (hx : x i = ((μ : ℝ) : EReal)) (hy : y i = ((s : ℝ) : EReal)) (hs : 0 < s) (hr : μ + Real.log s = r) :
    (addf x (Host.log y) : Lines) i = ((r : ℝ) : EReal) := by
  show x i + Ideal.log (y i) = _
  rw [hx, hy, Ideal.log_coe, if_neg (not_le.2 hs), ← EReal.coe_add, hr]

theorem logSum_real {A : Args} {q k v o : Rows} {f : Lines} (H : Are A q k v o f) (h : Fin 8) (i : Fin 2048) :
    logSum (masked q k f) (ix2 h i) = ((A.logSum h i : ℝ) : EReal) := by
  obtain ⟨μ, hμ⟩ := Cert.FoxRefIdeal.Parts.rowMax_exists H
  exact log_total _ _ _ _ _ _ (hμ h i) ((Cert.FoxRefIdeal.Parts.rowSum_apply _ h i).trans (Cert.FoxRefIdeal.Parts.numer_sum H h i _ μ hμ)) (A.shifted_sum_pos h i μ) (A.shifted_log h i μ)

/-- Every point is given its block of real numbers. -/
theorem given (m : (ℓ : Loc nD τ sig) → Buf (Elt Ideal) ℓ) (c : Dev nD) (t : Fin cfg0.N) {A : Args}
    (H : Are A (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg3))) : GivenAt m c t (reals A t) where
  q i d := (block_query m c t i d).trans (by rw [V_packed]; exact (packed_query _ _ _ i _).trans (H.q i _))
  k i d := (block_key m c t i d).trans (by rw [V_packed]; exact (packed_key _ _ _ i _).trans (H.k i _))
  v i d := (block_value m c t i d).trans (by rw [V_packed]; exact (packed_value _ _ _ i _).trans (H.v i _))
  f e j := (block_decay m c t j (decayRow t e)).trans (by rw [V_decay]; exact (padded _ j (headAt t e)).trans (H.f _ j))
  o i d := (block_upstream m c t i d).trans (by rw [V_upstream]; exact H.o i _)
  l i d := (block_logSum m c t i d).trans (by rw [V_lse, colAt_eq]; exact (spread_apply _ i _ _).trans (logSum_real H _ i))

end Cert.FoxBwdIdeal.Fox

end
-- ==== Proof.Fox.Equal.lean ====
/- The gradients of one point's block are those of its two heads. -/
module

public import proofs.«01_k».proof.Proof.Fox.Given

@[expose] public section

set_option maxRecDepth 16384

noncomputable section

namespace Cert.FoxBwdIdeal.Fox

open Cert.FoxBwdIdeal.Gen
open Idealize.ShloMosaic Idealize.ShloMosaic.TcCoe
open Cert.FoxRefIdeal.Parts (Args col)

/-- A sum over a block's columns of what only one head's columns hold. -/
theorem sum_head (e : Fin 2) (a b : Fin 128 → ℝ) (x y : Fin 64 → ℝ)
    (ha : ∀ d : Fin 64, a ⟨64 * e.val + d.val, by omega⟩ = x d) (hb : ∀ d : Fin 64, b ⟨64 * e.val + d.val, by omega⟩ = y d) :
    ∑ d : Fin 128, (if headOf d = e then a d else 0) * b d = ∑ d : Fin 64, x d * y d := by
  rw [Fin.sum_univ_tiles 2 64 rfl]
  refine (Finset.sum_eq_single e (fun n _ hn => Finset.sum_eq_zero fun d _ => ?_) fun h => absurd (Finset.mem_univ _) h).trans
    (Finset.sum_congr rfl fun d _ => ?_)
  · rw [if_neg, zero_mul]
    intro h
    apply hn
    rw [← h]
    apply Fin.ext
    show n.val = (n.val * 64 + d.val) / 64
    omega
  · rw [if_pos (Fin.ext (by show (e.val * 64 + d.val) / 64 = e.val; omega))]
    rw [← ha d, ← hb d]
    congr 2 <;> exact Fin.ext (by show e.val * 64 + d.val = 64 * e.val + d.val; omega)

section Heads

variable (A : Args) (t : Fin cfg0.N) (e : Fin 2) (i j : Fin 2048)

theorem colAt_head (d : Fin 64) : colAt t (⟨64 * e.val + d.val, by omega⟩ : Fin 128) = col (headAt t e) d :=
  Fin.ext (by show 128 * t.val + (64 * e.val + d.val) = 64 * (2 * t.val + e.val) + d.val; omega)

theorem score_eq : (reals A t).score e i j + ((reals A t).f e i - (reals A t).f e j) = A.score (headAt t e) i j := by
  have h := sum_head e (fun d => A.q i (colAt t d) * (1 / 8)) (fun d => A.k j (colAt t d))
    (fun d => A.q i (col (headAt t e) d) * (1 / 8)) (fun d => A.k j (col (headAt t e) d))
    (fun d => by simp only [colAt_head]) (fun d => by simp only [colAt_head])
  unfold Reals.score Args.score
  refine congrArg₂ (· + ·) (h.trans ?_) rfl
  rw [Finset.sum_mul]
  exact Finset.sum_congr rfl fun d _ => by ring

theorem pull_eq : (reals A t).pull e i j = A.pull (headAt t e) i j :=
  sum_head e (fun d => A.o i (colAt t d)) (fun d => A.v j (colAt t d)) (fun d => A.o i (col (headAt t e) d)) (fun d => A.v j (col (headAt t e) d))
    (fun d => by simp only [colAt_head]) (fun d => by simp only [colAt_head])

theorem weight_eq : (reals A t).weight e i j = A.weight (headAt t e) i j := by
  unfold Reals.weight Args.weight
  rw [score_eq]
  have h : headOf (firstCol e) = e := Fin.ext (by show 64 * e.val / 64 = e.val; omega)
  show (if j.val ≤ i.val then Real.exp (A.score (headAt t e) i j - A.logSum (headAt t (headOf (firstCol e))) i) else 0) = _
  rw [h]

theorem grad_eq : (reals A t).grad e i j = A.grad (headAt t e) i j := by
  unfold Reals.grad Args.grad
  simp only [weight_eq, pull_eq]

end Heads

section Answers

variable (A : Args) (t : Fin cfg0.N) (i j : Fin 2048) (d : Fin 128)

/-- The head of column `d` of point `t`'s block, and the column in the head. -/
def headCol : Fin 8 := headAt t (headOf d)
def inHead : Fin 64 := ⟨d.val % 64, Nat.mod_lt _ (by norm_num)⟩

theorem gradQ_eq : (reals A t).gradQ i d = (∑ j, A.grad (headCol t d) i j * A.k j (col (headCol t d) (inHead d))) * (1 / 8) := by
  unfold Reals.gradQ
  simp only [grad_eq]
  show (∑ j, _ * A.k j (colAt t d)) * _ = _
  rw [colAt_eq]
  rfl

theorem gradK_eq : (reals A t).gradK j d = ∑ i, A.grad (headCol t d) i j * (A.q i (col (headCol t d) (inHead d)) * (1 / 8)) := by
  unfold Reals.gradK
  simp only [grad_eq]
  show ∑ i, _ * (A.q i (colAt t d) * _) = _
  rw [colAt_eq]
  rfl

theorem gradV_eq : (reals A t).gradV j d = ∑ i, A.weight (headCol t d) i j * A.o i (col (headCol t d) (inHead d)) := by
  unfold Reals.gradV
  simp only [weight_eq]
  show ∑ i, _ * A.o i (colAt t d) = _
  rw [colAt_eq]
  rfl

theorem gradF_eq (e : Fin 2) : (reals A t).gradF e j = -∑ i, A.grad (headAt t e) i j := by
  unfold Reals.gradF
  simp only [grad_eq]

end Answers

end Cert.FoxBwdIdeal.Fox

end
-- ==== Proof.Fox.Tail.lean ====
/- What the host lines after the region take of its arrays. -/
module

public import proofs.«01_k».proof.Proof.Fox.Equal

@[expose] public section

set_option maxRecDepth 16384

noncomputable section

namespace Cert.FoxBwdIdeal.Fox

open Cert.FoxBwdIdeal.Gen
open Idealize.ShloMosaic Idealize.ShloMosaic.TcCoe Idealize.ShloMosaic.StableHlo Idealize.SL.Sem
open Cert.FoxRefIdeal.Parts (Args Are col Rows Lines)

section Lines

variable (W : Valuation τ sig (Elt Ideal))

theorem tail_query : (after hostOps1 W (Proc.devRef .tc main_v38) : FVec Ideal S2048x512 .bf16)
    = extractStridedSlice S2048x512 ![0, 4608] (W (Proc.devRef .tc main_v37_0) : FVec Ideal S2048x6272 .bf16) slices_S2048x6272_S2048x512_0_4608 := by
  simp only [hostOps1]
  after_results_simp <;> rfl

theorem tail_key : (after hostOps1 W (Proc.devRef .tc main_v39) : FVec Ideal S2048x512 .bf16)
    = extractStridedSlice S2048x512 ![0, 5120] (W (Proc.devRef .tc main_v37_0) : FVec Ideal S2048x6272 .bf16) slices_S2048x6272_S2048x512_0_5120 := by
  simp only [hostOps1]
  after_results_simp <;> rfl

theorem tail_value : (after hostOps1 W (Proc.devRef .tc main_v40) : FVec Ideal S2048x512 .bf16)
    = extractStridedSlice S2048x512 ![0, 5632] (W (Proc.devRef .tc main_v37_0) : FVec Ideal S2048x6272 .bf16) slices_S2048x6272_S2048x512_0_5632 := by
  simp only [hostOps1]
  after_results_simp <;> rfl

theorem tail_decay : (after hostOps1 W (Proc.devRef .tc main_v42) : Lines)
    = shapeCast S8x2048 (extractStridedSlice S4x2x2048 ![0, 0, 0] (W (Proc.devRef .tc main_v37_1) : FVec Ideal S4x8x2048 .f32) slices_S4x8x2048_S4x2x2048_0_0_0)
      shapeCasts_S4x2x2048_S8x2048 := by
  simp only [hostOps1]
  after_results_simp <;> rfl

end Lines

theorem slice_query (x : FVec Ideal S2048x6272 .bf16) (i : Fin 2048) (y : Fin 512) :
    extractStridedSlice S2048x512 ![0, 4608] x slices_S2048x6272_S2048x512_0_4608 (ix2 i y) = x (ix2 i (⟨4608 + y.val, by omega⟩ : Fin 6272)) := by
  pointwise

theorem slice_key (x : FVec Ideal S2048x6272 .bf16) (i : Fin 2048) (y : Fin 512) :
    extractStridedSlice S2048x512 ![0, 5120] x slices_S2048x6272_S2048x512_0_5120 (ix2 i y) = x (ix2 i (⟨5120 + y.val, by omega⟩ : Fin 6272)) := by
  pointwise

theorem slice_value (x : FVec Ideal S2048x6272 .bf16) (i : Fin 2048) (y : Fin 512) :
    extractStridedSlice S2048x512 ![0, 5632] x slices_S2048x6272_S2048x512_0_5632 (ix2 i y) = x (ix2 i (⟨5632 + y.val, by omega⟩ : Fin 6272)) := by
  pointwise

theorem slice_decay (x : FVec Ideal S4x8x2048 .f32) (t : Fin cfg0.N) (e : Fin 2) (j : Fin 2048) :
    shapeCast S8x2048 (extractStridedSlice S4x2x2048 ![0, 0, 0] x slices_S4x8x2048_S4x2x2048_0_0_0) shapeCasts_S4x2x2048_S8x2048 (ix2 (headAt t e) j)
      = x (ix3 t (⟨e.val, by omega⟩ : Fin 8) j : S4x8x2048.Idx) := by
  pointwise
  have h1 : (headAt t e).val / 2 = t.val := by show (2 * t.val + e.val) / 2 = t.val; omega
  have h2 : (headAt t e).val % 2 = e.val := by show (2 * t.val + e.val) % 2 = e.val; omega
  simp only [h1, h2]
  rfl

variable (m : (ℓ : Loc nD τ sig) → Buf (Elt Ideal) ℓ) (c : Dev nD)

theorem ended_shared : ended m c (Proc.devRef .tc main_v37_0) = contents m c cfg0.N := by
  unfold ended
  rw [Pipeline.withArrays_of_ne _ c _ _ _ (by decide), Pipeline.withR_of_mem _ _ _ _ _ (by decide)]
  exact buffers_shared m cfg0.N c

theorem ended_decay : ended m c (Proc.devRef .tc main_v37_1) = (dats m 0 c).arrAt 6 cfg0.N := by
  unfold ended
  refine Pipeline.Dat.withArrays_arrAt (dats m 0 c) launch₀0.sharedIn _ (fun w => (arrays_eq m c w).trans ?_) 6
  refine (Pipeline.withR_of_not_mem _ _ _ _ _ ?_).symm
  fin_cases w <;> decide

end Cert.FoxBwdIdeal.Fox

end
-- ==== Proof.Fox.Equation.lean ====
/- The forgetting attention's backward call computes the derivative of the attention's forward lines. -/
module

public import proofs.«01_k».proof.Proof.Fox.Tail
public import proofs.«01_k».proof.Proof.Lift
public import proofs.«01_k».proof.Defs
public import proofs.«01_k».proof.Proof.Gen.Pre_fox_finite

@[expose] public section

set_option maxRecDepth 16384

noncomputable section

namespace Cert.FoxBwdIdeal.Fox

open Cert.FoxBwdIdeal.Gen
open Idealize.ShloMosaic Idealize.ShloMosaic.TcCoe Idealize.ShloMosaic.StableHlo Idealize.SL.Sem
open Cert.FoxRefIdeal.Parts (Args Are col Rows Lines dQuery dKey dValue dDecay scoreGrad pulls expo probs)

/-- The precondition, read: the arguments are real numbers. -/
theorem reals_of_finite (q k v : Rows) (f : Lines) (o : Rows) (h : Cert.Pre_fox_finite.fn (F := Ideal) q k v f o = fun _ => 1#1) :
    ∃ A, Are A q k v o f := by
  obtain ⟨h, ho⟩ := IntOp.andi_eq_one.1 (congrFun h fun a => a.elim0)
  obtain ⟨h, hf⟩ := IntOp.andi_eq_one.1 h
  obtain ⟨h, hv⟩ := IntOp.andi_eq_one.1 h
  obtain ⟨hq, hk⟩ := IntOp.andi_eq_one.1 h
  obtain ⟨rq, eq⟩ := Lift.real_of_all hq
  obtain ⟨rk, ek⟩ := Lift.real_of_all hk
  obtain ⟨rv, ev⟩ := Lift.real_of_all hv
  obtain ⟨rf, ef⟩ := Lift.real_of_all hf
  obtain ⟨ro, eo⟩ := Lift.real_of_all ho
  exact ⟨⟨fun i c => rq (ix2 i c), fun i c => rk (ix2 i c), fun i c => rv (ix2 i c), fun i c => ro (ix2 i c), fun h i => rf (ix2 h i)⟩,
    fun i c => congrFun eq _, fun i c => congrFun ek _, fun i c => congrFun ev _, fun i c => congrFun eo _, fun h i => congrFun ef _⟩

/-- Every column is one of a point's block, every head one of a point's two. -/
theorem column_at (y : Fin 512) : ∃ (t : Fin cfg0.N) (d : Fin 128), y = colAt t d :=
  ⟨⟨y.val / 128, lt_of_lt_of_eq (by omega) N_0.symm⟩, ⟨y.val % 128, by omega⟩, Fin.ext (by show y.val = 128 * (y.val / 128) + y.val % 128; omega)⟩

theorem head_at (h : Fin 8) : ∃ (t : Fin cfg0.N) (e : Fin 2), h = headAt t e :=
  ⟨⟨h.val / 2, lt_of_lt_of_eq (by omega) N_0.symm⟩, ⟨h.val % 2, by omega⟩, Fin.ext (by show h.val = 2 * (h.val / 2) + h.val % 2; omega)⟩

theorem pair {n k : ℕ} (x : (⟨2, ![n, k]⟩ : Shape).Idx) : ∃ (i : Fin n) (j : Fin k), x = ix2 i j := ⟨x 0, x 1, by funext a; fin_cases a <;> rfl⟩

section Results

variable (m : (ℓ : Loc nD τ sig) → Buf (Elt Ideal) ℓ) (c : Dev nD) {A : Args}
    (H : Are A (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg3)))
include H

theorem shared_query (t : Fin cfg0.N) (i : Fin 2048) (d : Fin 128) :
    (ended m c (Proc.devRef .tc main_v37_0) : FVec Ideal S2048x6272 .bf16) (ix2 i (⟨4608 + (colAt t d).val, by omega⟩ : Fin 6272)) = (((reals A t).gradQ i d : ℝ) : EReal) := by
  rw [ended_shared]
  refine Eq.trans (congrArg (contents m c cfg0.N) (congrArg (ix2 i) (Fin.ext ?_))) ((contents_apply c m cfg0.N t 0 i d t.isLt N_0.le).trans (queryBlock_apply m c t (given m c t H) i d))
  show 4608 + (128 * t.val + d.val) = 512 * 0 + 128 * t.val + 4608 + d.val
  omega

theorem shared_key (t : Fin cfg0.N) (i : Fin 2048) (d : Fin 128) :
    (ended m c (Proc.devRef .tc main_v37_0) : FVec Ideal S2048x6272 .bf16) (ix2 i (⟨5120 + (colAt t d).val, by omega⟩ : Fin 6272)) = (((reals A t).gradK i d : ℝ) : EReal) := by
  rw [ended_shared]
  refine Eq.trans (congrArg (contents m c cfg0.N) (congrArg (ix2 i) (Fin.ext ?_))) ((contents_apply c m cfg0.N t 1 i d t.isLt N_0.le).trans (keyBlock_apply m c t (given m c t H) i d))
  show 5120 + (128 * t.val + d.val) = 512 * 1 + 128 * t.val + 4608 + d.val
  omega

theorem shared_value (t : Fin cfg0.N) (i : Fin 2048) (d : Fin 128) :
    (ended m c (Proc.devRef .tc main_v37_0) : FVec Ideal S2048x6272 .bf16) (ix2 i (⟨5632 + (colAt t d).val, by omega⟩ : Fin 6272)) = (((reals A t).gradV i d : ℝ) : EReal) := by
  rw [ended_shared]
  refine Eq.trans (congrArg (contents m c cfg0.N) (congrArg (ix2 i) (Fin.ext ?_))) ((contents_apply c m cfg0.N t 2 i d t.isLt N_0.le).trans (valueBlock_apply m c t (given m c t H) i d))
  show 5632 + (128 * t.val + d.val) = 512 * 2 + 128 * t.val + 4608 + d.val
  omega

theorem result_query : (after hostOps1 (ended m c) (Proc.devRef .tc main_v38) : FVec Ideal S2048x512 .bf16)
    = dQuery (scoreGrad (pulls (m ((c.tc : Thread nD τ).loc main_arg4)) (m ((c.tc : Thread nD τ).loc main_arg2)))
      (expo (m ((c.tc : Thread nD τ).loc main_arg0)) (m ((c.tc : Thread nD τ).loc main_arg1)) (m ((c.tc : Thread nD τ).loc main_arg3))))
      (m ((c.tc : Thread nD τ).loc main_arg1)) := by
  rw [tail_query]
  funext z
  obtain ⟨i, y, rfl⟩ := pair z
  obtain ⟨t, d, rfl⟩ := column_at y
  refine (slice_query _ _ _).trans ((shared_query m c H t i d).trans ?_)
  rw [gradQ_eq, colAt_eq]
  exact (Cert.FoxRefIdeal.Parts.query_answer H _ _ _).symm

theorem result_key : (after hostOps1 (ended m c) (Proc.devRef .tc main_v39) : FVec Ideal S2048x512 .bf16)
    = dKey (scoreGrad (pulls (m ((c.tc : Thread nD τ).loc main_arg4)) (m ((c.tc : Thread nD τ).loc main_arg2)))
      (expo (m ((c.tc : Thread nD τ).loc main_arg0)) (m ((c.tc : Thread nD τ).loc main_arg1)) (m ((c.tc : Thread nD τ).loc main_arg3))))
      (m ((c.tc : Thread nD τ).loc main_arg0)) := by
  rw [tail_key]
  funext z
  obtain ⟨i, y, rfl⟩ := pair z
  obtain ⟨t, d, rfl⟩ := column_at y
  refine (slice_key _ _ _).trans ((shared_key m c H t i d).trans ?_)
  rw [gradK_eq, colAt_eq]
  exact (Cert.FoxRefIdeal.Parts.key_answer H _ _ _).symm

theorem result_value : (after hostOps1 (ended m c) (Proc.devRef .tc main_v40) : FVec Ideal S2048x512 .bf16)
    = dValue (probs (expo (m ((c.tc : Thread nD τ).loc main_arg0)) (m ((c.tc : Thread nD τ).loc main_arg1)) (m ((c.tc : Thread nD τ).loc main_arg3))))
      (m ((c.tc : Thread nD τ).loc main_arg4)) := by
  rw [tail_value]
  funext z
  obtain ⟨i, y, rfl⟩ := pair z
  obtain ⟨t, d, rfl⟩ := column_at y
  refine (slice_value _ _ _).trans ((shared_value m c H t i d).trans ?_)
  rw [gradV_eq, colAt_eq]
  exact (Cert.FoxRefIdeal.Parts.value_answer H _ _ _).symm

theorem result_decay : (after hostOps1 (ended m c) (Proc.devRef .tc main_v42) : Lines)
    = dDecay (scoreGrad (pulls (m ((c.tc : Thread nD τ).loc main_arg4)) (m ((c.tc : Thread nD τ).loc main_arg2)))
      (expo (m ((c.tc : Thread nD τ).loc main_arg0)) (m ((c.tc : Thread nD τ).loc main_arg1)) (m ((c.tc : Thread nD τ).loc main_arg3)))) := by
  rw [tail_decay]
  funext z
  obtain ⟨h, j, rfl⟩ := pair z
  obtain ⟨t, e, rfl⟩ := head_at h
  refine (slice_decay _ _ _ _).trans ?_
  rw [ended_decay]
  refine (decay_apply c m t _ _).trans ((decayBlock_apply m c t (given m c t H) e j).trans ?_)
  rw [gradF_eq]
  exact (Cert.FoxRefIdeal.Parts.decay_answer H _ _).symm

end Results

/-- The value claim: from finite arguments the call's four results are the derivative of the attention's forward lines. -/
theorem algebraic : Cert.algebraic_FoxBwdIdeal_FoxRefIdeal_pre_fox_finite := by
  intro m g m' g' hpre hargs
  refine ⟨fun c => after hostOps1 (ended m c) (Proc.devRef .tc main_v38), fun c => after hostOps1 (ended m c) (Proc.devRef .tc main_v39),
    fun c => after hostOps1 (ended m c) (Proc.devRef .tc main_v40), fun c => after hostOps1 (ended m c) (Proc.devRef .tc main_v42),
    (θ_run defs _ _).mono (fun r h c => ?_) (run_main m g), (θ_run _ _ _).mono (fun r h c => ?_) (Cert.FoxRefIdeal.Value.run m' g')⟩
  · obtain ⟨a0, a1, a2, a3, a4⟩ := args_kept m c
    have hb := fun b hb => (h.1 c).2 b hb
    exact ⟨hb main_v38 (Pipeline.mem_restRefs_of _ (by decide) (by decide)), hb main_v39 (Pipeline.mem_restRefs_of _ (by decide) (by decide)),
      hb main_v40 (Pipeline.mem_restRefs_of _ (by decide) (by decide)), hb main_v42 (Pipeline.mem_restRefs_of _ (by decide) (by decide)),
      (hb main_arg0 (Pipeline.mem_restRefs_of _ (by decide) (by decide))).trans a0,
      (hb main_arg1 (Pipeline.mem_restRefs_of _ (by decide) (by decide))).trans a1,
      (hb main_arg2 (Pipeline.mem_restRefs_of _ (by decide) (by decide))).trans a2,
      (hb main_arg3 (Pipeline.mem_restRefs_of _ (by decide) (by decide))).trans a3,
      (hb main_arg4 (Pipeline.mem_restRefs_of _ (by decide) (by decide))).trans a4⟩
  · obtain ⟨h0, h1, h2, h3, hr⟩ := h c
    obtain ⟨a0, a1, a2, a3, a4⟩ := hargs c
    obtain ⟨A, H⟩ := reals_of_finite _ _ _ _ _ (hpre c)
    refine ⟨h0.trans ((Cert.FoxRefIdeal.Parts.out_query m' c).trans ?_), h1.trans ((Cert.FoxRefIdeal.Parts.out_key m' c).trans ?_),
      h2.trans ((Cert.FoxRefIdeal.Parts.out_value m' c).trans ?_), h3.trans ((Cert.FoxRefIdeal.Parts.out_decay m' c).trans ?_), hr⟩
    · rw [a0, a1, a2, a3, a4]; exact (result_query m c H).symm
    · rw [a0, a1, a2, a3, a4]; exact (result_key m c H).symm
    · rw [a0, a1, a3, a4]; exact (result_value m c H).symm
    · rw [a0, a1, a2, a3, a4]; exact (result_decay m c H).symm

end Cert.FoxBwdIdeal.Fox

end
-- ==== Proof.Norm.lean ====
/- The root-mean-square norm of a row of 1024 numbers and its derivative, on real numbers. -/
module

public import proofs.«01_k».proof.Proof.Lift
public import Idealize.ShloMosaic.PureOps.Ideal.Laws

@[expose] public section

noncomputable section

open Idealize.ShloMosaic

namespace Cert.Norm

theorem eps_word : ∃ ε : ℝ, 0 < ε ∧ Ideal.ofBits .f32 0x358637BD#32 = (ε : EReal) := by
  refine ⟨_, ?_, by simp [Ideal.ofBits, Ideal.ieee]; rfl⟩
  norm_num

/-- The number added to the mean square. -/
def eps : ℝ := eps_word.choose

theorem eps_pos : 0 < eps := eps_word.choose_spec.1

theorem eps_eq : Ideal.ofBits .f32 0x358637BD#32 = (eps : EReal) := eps_word.choose_spec.2

theorem width_eq : Ideal.ofBits .f32 0x44800000#32 = ((1024 : ℝ) : EReal) := by
  simp [Ideal.ofBits, Ideal.ieee]
  rw [← EReal.coe_mul]
  norm_num

theorem half_eq : Ideal.ofBits .f32 0xBF000000#32 = ((-1 / 2 : ℝ) : EReal) := by
  simp [Ideal.ofBits, Ideal.ieee]
  rw [← EReal.coe_mul, ← EReal.coe_neg]
  norm_num

variable (x : Fin 1024 → ℝ)

/-- The mean square, `eps` added. -/
def level : ℝ := (∑ k, x k * x k) / 1024 + eps

theorem level_pos : 0 < level x := by
  have h : 0 ≤ ∑ k, x k * x k := Finset.sum_nonneg fun k _ => mul_self_nonneg _
  have := eps_pos
  unfold level
  positivity

/-- What a row is multiplied by. -/
def scale : ℝ := (Real.sqrt (level x))⁻¹

theorem level_real : Ideal.div (∑ k, ((x k : ℝ) : EReal) * ((x k : ℝ) : EReal)) (Ideal.ofBits .f32 0x44800000#32) + Ideal.ofBits .f32 0x358637BD#32
    = ((level x : ℝ) : EReal) := by
  simp only [← EReal.coe_mul]
  rw [Lift.coe_sum, width_eq, eps_eq, Ideal.div_coe (by norm_num), ← EReal.coe_mul, ← EReal.coe_add]
  congr 1
  unfold level
  ring

theorem rsqrt_real {r : ℝ} (h : 0 < r) : Ideal.rsqrt (r : EReal) = (((Real.sqrt r)⁻¹ : ℝ) : EReal) := by
  rw [Ideal.rsqrt_coe, if_neg (not_lt.2 h.le), if_neg h.ne']

theorem scale_real : Ideal.rsqrt (Ideal.div (∑ k, ((x k : ℝ) : EReal) * ((x k : ℝ) : EReal)) (Ideal.ofBits .f32 0x44800000#32) + Ideal.ofBits .f32 0x358637BD#32)
    = ((scale x : ℝ) : EReal) := by
  rw [level_real, rsqrt_real (level_pos x)]
  rfl

/-- The cube of the scale is the scale over the level. -/
theorem scale_cube : scale x * scale x * scale x = scale x / level x := by
  have h : scale x * scale x = (level x)⁻¹ := by
    unfold scale
    rw [← mul_inv, Real.mul_self_sqrt (level_pos x).le]
  rw [h, div_eq_mul_inv, mul_comm]

/-- The gradient of a row of the norm, from the row's cotangent times the gain. -/
def grad (u : Fin 1024 → ℝ) (j : Fin 1024) : ℝ := scale x * u j - x j * (scale x * scale x * scale x) * ((∑ k, u k * x k) / 1024)

variable (u : Fin 1024 → ℝ) (j : Fin 1024)

/-- The gradient in the order of the calls' text. -/
theorem grad_call : ((scale x : ℝ) : EReal) * ((u j : ℝ) : EReal)
      - ((x j : ℝ) : EReal) * (((scale x : ℝ) : EReal) * ((scale x : ℝ) : EReal) * ((scale x : ℝ) : EReal))
        * Ideal.div (∑ k, ((u k : ℝ) : EReal) * ((x k : ℝ) : EReal)) (Ideal.ofBits .f32 0x44800000#32)
    = ((grad x u j : ℝ) : EReal) := by
  simp only [← EReal.coe_mul]
  rw [Lift.coe_sum, width_eq, Ideal.div_coe (by norm_num)]
  simp only [← EReal.coe_mul, ← EReal.coe_sub]
  congr 1
  unfold grad
  ring

/-- A row's number in the derivative: what both halves of the square's derivative are multiplied by. -/
def tilt : ℝ := (∑ k, x k * u k) * (-1 / 2 * (scale x / level x)) / 1024

theorem grad_halves : u j * scale x + x j * tilt x u + tilt x u * x j = grad x u j := by
  unfold grad tilt
  rw [scale_cube]
  have h : ∑ k, u k * x k = ∑ k, x k * u k := Finset.sum_congr rfl fun k _ => mul_comm _ _
  rw [h]
  ring

end Cert.Norm

end
-- ==== Proof.Input.Block.lean ====
/- One block of 512 rows of the first norm's backward call: what its text computes on real numbers. -/
module

public import proofs.«01_k».proof.Proof.Gen.InputBwdIdeal.Value
public import proofs.«01_k».proof.Proof.Norm
public import Idealize.ShloMosaic.Lib.Pipeline.ValueKit
public import Idealize.ShloMosaic.Lib.Claim
public import Idealize.ShloMosaic.Lib.Pointwise

@[expose] public section

set_option maxRecDepth 16384

noncomputable section

namespace Cert.InputBwdIdeal.Input

open Cert.InputBwdIdeal Cert.InputBwdIdeal.Gen
open Idealize.ShloMosaic Idealize.ShloMosaic.TcCoe

/-- A block's real numbers: rows, their cotangent in the version's order of columns, the weight in that order, the gain, and the other cotangent. -/
structure Reals where
  p : Fin 512 → Fin 6272 → ℝ
  w : Fin 6272 → Fin 1024 → ℝ
  x : Fin 512 → Fin 1024 → ℝ
  y : Fin 512 → Fin 1024 → ℝ
  g : Fin 1024 → ℝ

/-- The norm's cotangent. -/
def Reals.d (T : Reals) (i : Fin 512) (k : Fin 1024) : ℝ := ∑ c, T.p i c * T.w c k

structure Given (T : Reals) (x0 : Vec Ideal S512x6272 .bf16) (x1 : Vec Ideal S6272x1024 .bf16) (x2 x3 : Vec Ideal S512x1024 .f32) (x4 : Vec Ideal S1x1024 .f32) : Prop where
  p : ∀ i c, x0 (ix2 i c) = ((T.p i c : ℝ) : EReal)
  w : ∀ c k, x1 (ix2 c k) = ((T.w c k : ℝ) : EReal)
  x : ∀ i k, x2 (ix2 i k) = ((T.x i k : ℝ) : EReal)
  y : ∀ i k, x3 (ix2 i k) = ((T.y i k : ℝ) : EReal)
  g : ∀ k, x4 (ix2 0 k) = ((T.g k : ℝ) : EReal)

section Block

variable {T : Reals} {x0 : Vec Ideal S512x6272 .bf16} {x1 : Vec Ideal S6272x1024 .bf16} {x2 x3 : Vec Ideal S512x1024 .f32} {x4 : Vec Ideal S1x1024 .f32}
variable (G : Given T x0 x1 x2 x3 x4)
include G

theorem product_real (i : Fin 512) (k : Fin 1024) : k0_pay4 (F := Ideal) x0 x1 (ix2 i k) = ((T.d i k : ℝ) : EReal) := by
  unfold k0_pay4
  pointwise
  refine Eq.trans (Finset.sum_congr rfl fun c _ => ?_) (Lift.coe_sum _ _)
  rw [G.p, G.w, ← EReal.coe_mul]

theorem scale_real (i : Fin 512) : k0_pay5 (F := Ideal) x2 (ix2 i (0 : Fin 1)) = ((Norm.scale (T.x i) : ℝ) : EReal) := by
  unfold k0_pay5
  pointwise
  simp only [G.x]
  exact Norm.scale_real (T.x i)

/-- The block of gradients. -/
theorem rows_real (i : Fin 512) (k : Fin 1024) : k0_pay1 (k0_pay7 (F := Ideal) x0 x1 x2 x3 x4) (ix2 i k)
    = ((T.y i k + Norm.grad (T.x i) (fun k => T.d i k * T.g k) k : ℝ) : EReal) := by
  have hd := product_real G
  have hs := scale_real G i
  unfold k0_pay1 k0_pay7
  generalize k0_pay5 (F := Ideal) x2 = R at hs ⊢
  generalize k0_pay4 (F := Ideal) x0 x1 = D at hd ⊢
  pointwise
  simp only [G.x, G.y, G.g, hd, hs]
  rw [EReal.coe_add, ← Norm.grad_call]
  simp only [EReal.coe_mul]

/-- The gain's part of the block. -/
theorem gain_real (k : Fin 1024) : k0_pay6 (F := Ideal) x0 x1 x2 (ix2 (0 : Fin 1) k) = ((∑ i, T.d i k * T.x i k * Norm.scale (T.x i) : ℝ) : EReal) := by
  have hd := product_real G
  have hs := scale_real G
  unfold k0_pay6
  generalize k0_pay5 (F := Ideal) x2 = R at hs ⊢
  generalize k0_pay4 (F := Ideal) x0 x1 = D at hd ⊢
  pointwise
  refine Eq.trans (Finset.sum_congr rfl fun i _ => ?_) (Lift.coe_sum _ _)
  rw [hd, hs, G.x, ← EReal.coe_mul, ← EReal.coe_mul]

end Block

end Cert.InputBwdIdeal.Input

end
-- ==== Proof.Input.Pack.lean ====
/- The version's order of the projection's columns: a sum over it is a sum over the reference's order. -/
module

public import proofs.«01_k».proof.Proof.Input.Block

@[expose] public section

set_option maxRecDepth 16384

noncomputable section

namespace Cert.InputBwdIdeal.Input

open Cert.InputBwdIdeal Cert.InputBwdIdeal.Gen
open Idealize.ShloMosaic Idealize.ShloMosaic.TcCoe

/-- A row in the version's order: the last 2048 columns, 256 zeros, the first 3848 columns, 120 zeros. -/
def packed (f : Fin 5896 → ℝ) (c : Fin 6272) : ℝ :=
  if h : c.val < 2048 then f ⟨3848 + c.val, by omega⟩
  else if c.val < 2304 then 0
  else if h : c.val < 6152 then f ⟨c.val - 2304, by omega⟩
  else 0

/-- The sum of two packed rows' products is that of the rows'. -/
theorem sum_packed (f g : Fin 5896 → ℝ) : ∑ c, packed f c * packed g c = ∑ c, f c * g c := by
  have e1 : ∑ c, packed f c * packed g c = ∑ c : Fin 6152, packed f ⟨c.val, by omega⟩ * packed g ⟨c.val, by omega⟩
      + ∑ c : Fin 120, packed f ⟨6152 + c.val, by omega⟩ * packed g ⟨6152 + c.val, by omega⟩ :=
    Fin.sum_univ_add (a := 6152) (b := 120) fun c : Fin 6272 => packed f c * packed g c
  have e2 : ∑ c : Fin 6152, packed f ⟨c.val, by omega⟩ * packed g ⟨c.val, by omega⟩ = ∑ c : Fin 2304, packed f ⟨c.val, by omega⟩ * packed g ⟨c.val, by omega⟩
      + ∑ c : Fin 3848, packed f ⟨2304 + c.val, by omega⟩ * packed g ⟨2304 + c.val, by omega⟩ :=
    Fin.sum_univ_add (a := 2304) (b := 3848) fun c : Fin 6152 => packed f ⟨c.val, by omega⟩ * packed g ⟨c.val, by omega⟩
  have e3 : ∑ c : Fin 2304, packed f ⟨c.val, by omega⟩ * packed g ⟨c.val, by omega⟩ = ∑ c : Fin 2048, packed f ⟨c.val, by omega⟩ * packed g ⟨c.val, by omega⟩
      + ∑ c : Fin 256, packed f ⟨2048 + c.val, by omega⟩ * packed g ⟨2048 + c.val, by omega⟩ :=
    Fin.sum_univ_add (a := 2048) (b := 256) fun c : Fin 2304 => packed f ⟨c.val, by omega⟩ * packed g ⟨c.val, by omega⟩
  have e4 : ∑ c, f c * g c = ∑ c : Fin 3848, f ⟨c.val, by omega⟩ * g ⟨c.val, by omega⟩ + ∑ c : Fin 2048, f ⟨3848 + c.val, by omega⟩ * g ⟨3848 + c.val, by omega⟩ :=
    Fin.sum_univ_add (a := 3848) (b := 2048) fun c : Fin 5896 => f c * g c
  have z1 : ∀ (f : Fin 5896 → ℝ) (c : Fin 120), packed f ⟨6152 + c.val, by omega⟩ = 0 := fun f c => by
    unfold packed
    rw [dif_neg (by show ¬(6152 + c.val < 2048); omega), if_neg (by show ¬(6152 + c.val < 2304); omega), dif_neg (by show ¬(6152 + c.val < 6152); omega)]
  have z2 : ∀ (f : Fin 5896 → ℝ) (c : Fin 256), packed f ⟨2048 + c.val, by omega⟩ = 0 := fun f c => by
    unfold packed
    rw [dif_neg (by show ¬(2048 + c.val < 2048); omega), if_pos (by show 2048 + c.val < 2304; omega)]
  have z3 : ∀ (f : Fin 5896 → ℝ) (c : Fin 3848), packed f ⟨2304 + c.val, by omega⟩ = f ⟨c.val, by omega⟩ := fun f c => by
    unfold packed
    rw [dif_neg (by show ¬(2304 + c.val < 2048); omega), if_neg (by show ¬(2304 + c.val < 2304); omega), dif_pos (by show 2304 + c.val < 6152; omega)]
    exact congrArg f (Fin.ext (by show 2304 + c.val - 2304 = c.val; omega))
  have z4 : ∀ (f : Fin 5896 → ℝ) (c : Fin 2048), packed f ⟨c.val, by omega⟩ = f ⟨3848 + c.val, by omega⟩ := fun f c => by
    unfold packed
    rw [dif_pos c.isLt]
  rw [e1, e2, e3, e4]
  simp only [z1, z2, z3, z4, mul_zero, Finset.sum_const_zero, add_zero]
  rw [add_comm]

/-- The cotangent's rows, packed. -/
def packRows (t : FVec Ideal S2048x5896 .f32) : FVec Ideal S2048x6272 .f32 :=
  concatenate S2048x6272 1 [⟨S2048x2048, extractStridedSlice S2048x2048 ![0, 3848] t slices_S2048x5896_S2048x2048_0_3848⟩,
    ⟨S2048x256, broadcastInDim S2048x256 ![] bcast_S_S2048x256 (constant S_ .f32 0x00000000#32)⟩,
    ⟨S2048x3848, extractStridedSlice S2048x3848 ![0, 0] t slices_S2048x5896_S2048x3848_0_0⟩,
    ⟨S2048x120, broadcastInDim S2048x120 ![] bcast_S_S2048x120 (constant S_ .f32 0x00000000#32)⟩] concatenates_S2048x2048_S2048x256_S2048x3848_S2048x120_S2048x6272_d1

/-- The weight, packed and turned over. -/
def packWeight (t : FVec Ideal S1024x5896 .f32) : FVec Ideal S6272x1024 .f32 :=
  transpose S6272x1024 [1, 0] (concatenate S1024x6272 1 [⟨S1024x2048, extractStridedSlice S1024x2048 ![0, 3848] t slices_S1024x5896_S1024x2048_0_3848⟩,
    ⟨S1024x256, broadcastInDim S1024x256 ![] bcast_S_S1024x256 (constant S_ .f32 0x00000000#32)⟩,
    ⟨S1024x3848, extractStridedSlice S1024x3848 ![0, 0] t slices_S1024x5896_S1024x3848_0_0⟩,
    ⟨S1024x120, broadcastInDim S1024x120 ![] bcast_S_S1024x120 (constant S_ .f32 0x00000000#32)⟩] concatenates_S1024x2048_S1024x256_S1024x3848_S1024x120_S1024x6272_d1)
    transposes_S1024x6272_S6272x1024_1_0

/-- The four cases of a packed column, on a row of real numbers. -/
theorem packed_word (t : Fin 5896 → EReal) (f : Fin 5896 → ℝ) (h : ∀ c, t c = ((f c : ℝ) : EReal)) (c : Fin 6272) :
    (if h : c.val < 2048 then t ⟨3848 + c.val, by omega⟩
      else if h : c.val - 2048 < 256 then 0 else if h : c.val - 2048 - 256 < 3848 then t ⟨c.val - 2048 - 256, by omega⟩ else 0) = ((packed f c : ℝ) : EReal) := by
  unfold packed
  by_cases h1 : c.val < 2048
  · rw [dif_pos h1, dif_pos h1, h]
  by_cases h2 : c.val < 2304
  · rw [dif_neg h1, dif_neg h1, dif_pos (by omega), if_pos h2, EReal.coe_zero]
  by_cases h3 : c.val < 6152
  · rw [dif_neg h1, dif_neg h1, dif_neg (by omega), if_neg h2, dif_pos (by omega), dif_pos h3, h]
    exact congrArg (fun x => ((f x : ℝ) : EReal)) (Fin.ext (by show c.val - 2048 - 256 = c.val - 2304; omega))
  · rw [dif_neg h1, dif_neg h1, dif_neg (by omega), if_neg h2, dif_neg (by omega), dif_neg h3, EReal.coe_zero]

theorem packRows_real {t : FVec Ideal S2048x5896 .f32} {P : Fin 2048 → Fin 5896 → ℝ} (h : ∀ i c, t (ix2 i c) = ((P i c : ℝ) : EReal)) (i : Fin 2048) (c : Fin 6272) :
    packRows t (ix2 i c) = ((packed (P i) c : ℝ) : EReal) := by
  unfold packRows
  pointwise
  exact packed_word (fun c => t (ix2 i c)) (P i) (h i) c

theorem packWeight_real {t : FVec Ideal S1024x5896 .f32} {W : Fin 1024 → Fin 5896 → ℝ} (h : ∀ k c, t (ix2 k c) = ((W k c : ℝ) : EReal)) (c : Fin 6272) (k : Fin 1024) :
    packWeight t (ix2 c k) = ((packed (W k) c : ℝ) : EReal) := by
  unfold packWeight
  pointwise
  exact packed_word (fun c => t (ix2 k c)) (W k) (h k) c

end Cert.InputBwdIdeal.Input

end
-- ==== Proof.Input.Parts.lean ====
/- The derivative of the first norm and its projection, read stage by stage and index by index. -/
module

public import proofs.«01_k».proof.Proof.Gen.InputBwdRefIdeal.Run
public import proofs.«01_k».proof.Proof.Norm
public import Idealize.ShloMosaic.Lib.Pointwise
public import Idealize.ShloMosaic.Lib.Claim

@[expose] public section

set_option maxRecDepth 16384

noncomputable section

namespace Cert.InputBwdRefIdeal.Parts

open Cert.InputBwdRefIdeal Cert.InputBwdRefIdeal.Gen Idealize.ShloMosaic Idealize.ShloMosaic.TcCoe Idealize.SL.Sem

abbrev Rows : Type := FVec Ideal S2048x1024 .f32
abbrev Gain : Type := FVec Ideal S1x1024 .f32
abbrev Col : Type := FVec Ideal S2048x1 .f32

def zero : FVec Ideal S_ .f32 := constant S_ .f32 0x00000000#32

def level (x : Rows) : Col :=
  addf (Host.divf (broadcastInDim S2048x1 ![0] bcast_S2048_S2048x1_0 (Host.reduceAdd (mulf x x) zero reducesTo_S2048x1024_S2048_d1 h_S_))
    (broadcastInDim S2048x1 ![] bcast_S_S2048x1 (constant S_ .f32 0x44800000#32))) (broadcastInDim S2048x1 ![] bcast_S_S2048x1 (constant S_ .f32 0x358637BD#32))

def scale (x : Rows) : Col := Host.rsqrt (level x)

def spread (r : Col) : Rows := broadcastInDim S2048x1024 ![0, 1] bcast_S2048x1_S2048x1024_0_1 r

/-- The gain, a copy for each row. -/
def gains (g : Gain) : Rows :=
  broadcastInDim S2048x1024 ![0, 1] bcast_S1x1024_S2048x1024_0_1 (broadcastInDim S1x1024 ![1] bcast_S1024_S1x1024_1 (shapeCast S1024 g shapeCasts_S1x1024_S1024))

def slope (x : Rows) : Col :=
  mulf (broadcastInDim S2048x1 ![] bcast_S_S2048x1 (constant S_ .f32 0xBF000000#32)) (Host.divf (scale x) (level x))

/-- What both halves of the square's derivative are multiplied by. -/
def tilt (x u : Rows) : Rows :=
  broadcastInDim S2048x1024 ![0] bcast_S2048_S2048x1024_0 (Host.reduceAdd
    (Host.divf (mulf (shapeCast S2048x1 (Host.reduceAdd (mulf x u) zero reducesTo_S2048x1024_S2048_d1 h_S_) shapeCasts_S2048_S2048x1) (slope x))
      (broadcastInDim S2048x1 ![] bcast_S_S2048x1 (constant S_ .f32 0x44800000#32))) zero reducesTo_S2048x1_S2048_d1 h_S_)

def dRows (x d : Rows) (g : Gain) (y : Rows) : Rows :=
  addf (addf (addf y (mulf (mulf d (gains g)) (spread (scale x)))) (mulf x (tilt x (mulf d (gains g))))) (mulf (tilt x (mulf d (gains g))) x)

def dGain (x d : Rows) : Gain :=
  broadcastInDim S1x1024 ![1] bcast_S1024_S1x1024_1 (Host.reduceAdd
    (shapeCast S1x1024 (Host.reduceAdd (mulf (mulf x (spread (scale x))) d) zero reducesTo_S2048x1024_S1024_d0 h_S_) shapeCasts_S1024_S1x1024) zero reducesTo_S1x1024_S1024_d0 h_S_)

/-- The cotangent of the norm: the projection's, times the weight turned over. -/
def pulled (p : FVec Ideal S2048x5896 .f32) (w : FVec Ideal S1024x5896 .f32) : Rows :=
  Host.dotGeneral dot_S2048x5896_S1024x5896_S2048x1024_1_1_0_0_n_n none p w

variable (m : (ℓ : Loc nD τ sig) → Buf (Elt Ideal) ℓ) (c : Dev nD)

theorem out_rows : Value.res_out0 (F := Ideal) m c = dRows (m ((c.tc : Thread nD τ).loc main_arg0))
    (pulled (m ((c.tc : Thread nD τ).loc main_arg3)) (m ((c.tc : Thread nD τ).loc main_arg2))) (m ((c.tc : Thread nD τ).loc main_arg1))
    (m ((c.tc : Thread nD τ).loc main_arg4)) := by
  sl_kernel_rfl

section Real

variable {x d y : Rows} {g : Gain} {X D Y : Fin 2048 → Fin 1024 → ℝ} {G : Fin 1024 → ℝ}
variable (hx : ∀ i k, x (ix2 i k) = ((X i k : ℝ) : EReal)) (hd : ∀ i k, d (ix2 i k) = ((D i k : ℝ) : EReal))
variable (hy : ∀ i k, y (ix2 i k) = ((Y i k : ℝ) : EReal)) (hg : ∀ k, g (ix2 0 k) = ((G k : ℝ) : EReal))

section X

include hx

theorem level_real (i : Fin 2048) : level x (ix2 i (0 : Fin 1)) = ((Norm.level (X i) : ℝ) : EReal) := by
  unfold level zero
  pointwise
  simp only [hx]
  exact Norm.level_real (X i)

theorem scale_real (i : Fin 2048) : scale x (ix2 i (0 : Fin 1)) = ((Norm.scale (X i) : ℝ) : EReal) := by
  have h := level_real hx i
  unfold scale
  generalize level x = L at h ⊢
  pointwise
  rw [h, Norm.rsqrt_real (Norm.level_pos _)]
  rfl

theorem slope_real (i : Fin 2048) : slope x (ix2 i (0 : Fin 1)) = ((-1 / 2 * (Norm.scale (X i) / Norm.level (X i)) : ℝ) : EReal) := by
  have hl := level_real hx i
  have hs := scale_real hx i
  unfold slope
  generalize scale x = R at hs ⊢
  generalize level x = L at hl ⊢
  pointwise
  rw [hl, hs, Norm.half_eq, Ideal.div_coe (Norm.level_pos _).ne', ← EReal.coe_mul, ← EReal.coe_mul]
  congr 1
  ring

theorem tilt_real {u : Rows} {U : Fin 2048 → Fin 1024 → ℝ} (hu : ∀ i k, u (ix2 i k) = ((U i k : ℝ) : EReal)) (i : Fin 2048) (k : Fin 1024) :
    tilt x u (ix2 i k) = ((Norm.tilt (X i) (U i) : ℝ) : EReal) := by
  have hs := slope_real hx i
  unfold tilt zero
  generalize slope x = S at hs ⊢
  pointwise
  simp only [Fin.sum_univ_one, hx, hu, hs, ← EReal.coe_mul]
  rw [Lift.coe_sum, Norm.width_eq, Ideal.div_coe (by norm_num), ← EReal.coe_mul, ← EReal.coe_mul]
  congr 1
  unfold Norm.tilt
  ring

include hd in
theorem dGain_real (k : Fin 1024) : dGain x d (ix2 (0 : Fin 1) k) = ((∑ i, D i k * X i k * Norm.scale (X i) : ℝ) : EReal) := by
  have hs := scale_real hx
  unfold dGain spread zero
  generalize scale x = R at hs ⊢
  pointwise
  rw [Fin.sum_univ_one]
  refine Eq.trans (Finset.sum_congr rfl fun i _ => ?_) (Lift.coe_sum _ _)
  rw [hx, hs, hd, ← EReal.coe_mul, ← EReal.coe_mul]
  congr 1
  ring

end X

include hd hg in
theorem mul_gains_real (i : Fin 2048) (k : Fin 1024) : (mulf d (gains g) : Rows) (ix2 i k) = ((D i k * G k : ℝ) : EReal) := by
  unfold gains
  pointwise
  rw [hd, EReal.coe_mul]
  exact congrArg _ (hg k)

include hx hd hy hg in
theorem dRows_real (i : Fin 2048) (k : Fin 1024) : dRows x d g y (ix2 i k) = ((Y i k + Norm.grad (X i) (fun k => D i k * G k) k : ℝ) : EReal) := by
  have hs := scale_real hx i
  have hu := mul_gains_real hd hg
  have ht := tilt_real hx hu
  unfold dRows spread
  generalize (mulf d (gains g) : Rows) = u at hu ht ⊢
  generalize tilt x u = T at ht ⊢
  generalize scale x = R at hs ⊢
  pointwise
  rw [hx, hy, hu, ht, hs, ← Norm.grad_halves]
  simp only [← EReal.coe_mul, ← EReal.coe_add]
  congr 1
  ring

end Real

theorem pulled_real {p : FVec Ideal S2048x5896 .f32} {w : FVec Ideal S1024x5896 .f32} {P : Fin 2048 → Fin 5896 → ℝ} {W : Fin 1024 → Fin 5896 → ℝ}
    (hp : ∀ i c, p (ix2 i c) = ((P i c : ℝ) : EReal)) (hw : ∀ k c, w (ix2 k c) = ((W k c : ℝ) : EReal)) (i : Fin 2048) (k : Fin 1024) :
    pulled p w (ix2 i k) = ((∑ c, P i c * W k c : ℝ) : EReal) := by
  unfold pulled
  pointwise
  refine Eq.trans (Finset.sum_congr rfl fun c _ => ?_) (Lift.coe_sum _ _)
  rw [hp, hw, ← EReal.coe_mul]

end Cert.InputBwdRefIdeal.Parts

end
-- ==== Proof.Input.Arrays.lean ====
/- What the first norm's backward call leaves in its two arrays. -/
module

public import proofs.«01_k».proof.Proof.Input.Pack
public import proofs.«01_k».proof.Proof.Input.Parts

@[expose] public section

set_option maxRecDepth 16384

noncomputable section

namespace Cert.InputBwdIdeal.Input

open Cert.InputBwdIdeal Cert.InputBwdIdeal.Gen
open Idealize.ShloMosaic Idealize.ShloMosaic.TcCoe Idealize.ShloMosaic.StableHlo Idealize.SL.Sem

abbrev Rows : Type := FVec Ideal S2048x1024 .f32
abbrev Gain : Type := FVec Ideal S1x1024 .f32

variable (m : (ℓ : Loc nD τ sig) → Buf (Elt Ideal) ℓ) (c : Dev nD)

theorem V_packed : (V m c main_v5 : FVec Ideal S2048x6272 .bf16) = packRows (m ((c.tc : Thread nD τ).loc main_arg3)) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem V_weight : (V m c main_v12 : FVec Ideal S6272x1024 .bf16) = packWeight (m ((c.tc : Thread nD τ).loc main_arg2)) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem index : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

abbrev rowAt (t : Fin cfg0.N) (i : Fin 512) : Fin 2048 := ⟨512 * t.val + i.val, by have := lt_of_lt_of_eq t.isLt N_0; omega⟩

section Windows

variable (t : Fin cfg0.N) (X : (b : Ref sig .tc) → Buf (Elt Ideal) ((c.tc : Thread nD τ).loc b))

theorem read_packed (i : Fin 512) (k : Fin 6272) : (((cfg0.win 0).blk t).view.read (Elt Ideal) (X (Pipeline.arrRef spec0 0)) : FVec Ideal S512x6272 .bf16) (ix2 i k)
    = (X main_v5 : FVec Ideal S2048x6272 .bf16) (ix2 (rowAt t i) k) := by
  refine congrArg (X main_v5 : FVec Ideal S2048x6272 .bf16) (?_ : ((cfg0.win 0).blk t).view.emb (ix2 i k) = _)
  funext a
  apply Fin.ext
  refine (Pipeline.Window.rect_emb_val win0_0 t (ix2 i k) a).trans ?_
  rw [(index t).1]
  fin_cases a
  · show t.val * 512 + i.val = 512 * t.val + i.val
    omega
  · show 0 * 6272 + k.val = k.val
    omega

theorem read_weight (i : Fin 6272) (k : Fin 1024) : (((cfg0.win 1).blk t).view.read (Elt Ideal) (X (Pipeline.arrRef spec0 1)) : FVec Ideal S6272x1024 .bf16) (ix2 i k)
    = (X main_v12 : FVec Ideal S6272x1024 .bf16) (ix2 i k) := by
  refine congrArg (X main_v12 : FVec Ideal S6272x1024 .bf16) (?_ : ((cfg0.win 1).blk t).view.emb (ix2 i k) = _)
  funext a
  apply Fin.ext
  refine (Pipeline.Window.rect_emb_val win0_1 t (ix2 i k) a).trans ?_
  rw [(index t).2.1]
  fin_cases a
  · show 0 * 6272 + i.val = i.val
    omega
  · show 0 * 1024 + k.val = k.val
    omega

theorem read_x (i : Fin 512) (k : Fin 1024) : (((cfg0.win 2).blk t).view.read (Elt Ideal) (X (Pipeline.arrRef spec0 2)) : FVec Ideal S512x1024 .f32) (ix2 i k)
    = (X main_arg0 : Rows) (ix2 (rowAt t i) k) := by
  refine congrArg (X main_arg0 : Rows) (?_ : ((cfg0.win 2).blk t).view.emb (ix2 i k) = _)
  funext a
  apply Fin.ext
  refine (Pipeline.Window.rect_emb_val win0_2 t (ix2 i k) a).trans ?_
  rw [(index t).2.2.1]
  fin_cases a
  · show t.val * 512 + i.val = 512 * t.val + i.val
    omega
  · show 0 * 1024 + k.val = k.val
    omega

theorem read_y (i : Fin 512) (k : Fin 1024) : (((cfg0.win 3).blk t).view.read (Elt Ideal) (X (Pipeline.arrRef spec0 3)) : FVec Ideal S512x1024 .f32) (ix2 i k)
    = (X main_arg4 : Rows) (ix2 (rowAt t i) k) := by
  refine congrArg (X main_arg4 : Rows) (?_ : ((cfg0.win 3).blk t).view.emb (ix2 i k) = _)
  funext a
  apply Fin.ext
  refine (Pipeline.Window.rect_emb_val win0_3 t (ix2 i k) a).trans ?_
  rw [(index t).2.2.2.1]
  fin_cases a
  · show t.val * 512 + i.val = 512 * t.val + i.val
    omega
  · show 0 * 1024 + k.val = k.val
    omega

theorem read_gain (k : Fin 1024) : (((cfg0.win 4).blk t).view.read (Elt Ideal) (X (Pipeline.arrRef spec0 4)) : Gain) (ix2 0 k)
    = (X main_arg1 : Gain) (ix2 0 k) := by
  refine congrArg (X main_arg1 : Gain) (?_ : ((cfg0.win 4).blk t).view.emb (ix2 0 k) = _)
  funext a
  apply Fin.ext
  refine (Pipeline.Window.rect_emb_val win0_4 t (ix2 0 k) a).trans ?_
  rw [(index t).2.2.2.2.1]
  fin_cases a
  · show 0 * 1 + 0 = 0
    omega
  · show 0 * 1024 + k.val = k.val
    omega

theorem emb5 (i : Fin 512) (k : Fin 1024) : ((cfg0.win 5).blk t).view.emb (ix2 i k) = (ix2 (rowAt t i) k : S2048x1024.Idx) := by
  funext a
  apply Fin.ext
  refine (Pipeline.Window.rect_emb_val win0_5 t (ix2 i k) a).trans ?_
  rw [(index t).2.2.2.2.2.1]
  fin_cases a
  · show t.val * 512 + i.val = 512 * t.val + i.val
    omega
  · show 0 * 1024 + k.val = k.val
    omega

end Windows

/-- The arguments as real numbers. -/
structure Args where
  x : Fin 2048 → Fin 1024 → ℝ
  g : Fin 1024 → ℝ
  w : Fin 1024 → Fin 5896 → ℝ
  p : Fin 2048 → Fin 5896 → ℝ
  y : Fin 2048 → Fin 1024 → ℝ

structure Are (A : Args) (x : Rows) (g : Gain) (w : FVec Ideal S1024x5896 .f32) (p : FVec Ideal S2048x5896 .f32) (y : Rows) : Prop where
  x : ∀ i k, x (ix2 i k) = ((A.x i k : ℝ) : EReal)
  g : ∀ k, g (ix2 0 k) = ((A.g k : ℝ) : EReal)
  w : ∀ k c, w (ix2 k c) = ((A.w k c : ℝ) : EReal)
  p : ∀ i c, p (ix2 i c) = ((A.p i c : ℝ) : EReal)
  y : ∀ i k, y (ix2 i k) = ((A.y i k : ℝ) : EReal)

/-- The norm's cotangent. -/
def Args.d (A : Args) (i : Fin 2048) (k : Fin 1024) : ℝ := ∑ c, A.p i c * A.w k c

/-- The numbers of a point's blocks. -/
def reals (A : Args) (t : Fin cfg0.N) : Reals where
  p i := packed (A.p (rowAt t i))
  w c k := packed (A.w k) c
  x i := A.x (rowAt t i)
  y i := A.y (rowAt t i)
  g := A.g

theorem d_eq (A : Args) (t : Fin cfg0.N) (i : Fin 512) (k : Fin 1024) : (reals A t).d i k = A.d (rowAt t i) k := sum_packed _ _

/-- The first array: the rows' gradients. -/
def rowsArr (A : Args) : Rows := fun z => ((A.y (z 0) (z 1) + Norm.grad (A.x (z 0)) (fun k => A.d (z 0) k * A.g k) (z 1) : ℝ) : EReal)

/-- The second array: the gain's gradient. -/
def gainArr (A : Args) : Gain := fun z => ((∑ i, A.d i (z 1) * A.x i (z 1) * Norm.scale (A.x i) : ℝ) : EReal)

/-- Four blocks of 512 rows make the 2048 rows. -/
theorem sum_blocks {N : ℕ} (h : N = 4) (f : Fin 2048 → ℝ) :
    ∑ t : Fin N, ((∑ i : Fin 512, f ⟨512 * t.val + i.val, by omega⟩ : ℝ) : EReal) = ((∑ i, f i : ℝ) : EReal) := by
  subst h
  rw [Lift.coe_sum, Fin.sum_univ_tiles 4 512 rfl f]
  exact congrArg _ (Finset.sum_congr rfl fun t _ => Finset.sum_congr rfl fun i _ => congrArg f (Fin.ext (by show 512 * t.val + i.val = t.val * 512 + i.val; omega)))

theorem pair {n k : ℕ} (x : (⟨2, ![n, k]⟩ : Shape).Idx) : ∃ (i : Fin n) (j : Fin k), x = ix2 i j := ⟨x 0, x 1, by funext a; fin_cases a <;> rfl⟩

section Given

variable {A : Args} (H : Are A (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)))
include H

theorem given (t : Fin cfg0.N) : Given (reals A t) (iblk m c 0 t) (iblk m c 1 t) (iblk m c 2 t) (iblk m c 3 t) (iblk m c 4 t) where
  p i k := (read_packed c t (V m c) i k).trans ((congrFun (V_packed m c) _).trans (packRows_real H.p _ _))
  w i k := (read_weight c t (V m c) i k).trans ((congrFun (V_weight m c) _).trans (packWeight_real H.w _ _))
  x i k := (read_x c t (V m c) i k).trans ((congrFun (V_main_arg0 m c) _).trans (H.x _ _))
  y i k := (read_y c t (V m c) i k).trans ((congrFun (V_main_arg4 m c) _).trans (H.y _ _))
  g k := (read_gain c t (V m c) k).trans ((congrFun (V_main_arg1 m c) _).trans (H.g _))

theorem block5 (t : Fin cfg0.N) (i : Fin 512) (k : Fin 1024) : (outsAt0 m c t.val t.isLt).1 (ix2 i k)
    = ((A.y (rowAt t i) k + Norm.grad (A.x (rowAt t i)) (fun k => A.d (rowAt t i) k * A.g k) k : ℝ) : EReal) := by
  have e : (fun k => A.d (rowAt t i) k * A.g k) = fun k => (reals A t).d i k * (reals A t).g k := funext fun k => congrArg (· * A.g k) (d_eq A t i k).symm
  rw [e]
  by_cases h : t.val % 4 = 0
  · rw [outsAt0_A m c t h (by have := lt_of_lt_of_eq t.isLt N_0; omega)]
    frame_out
    exact rows_real (given m c H t) i k
  · rw [outsAt0_B m c t h (by omega)]
    frame_out
    exact rows_real (given m c H t) i k

theorem final5 : (dats m 0 c).arrAt 5 (cfgs 0).N = rowsArr A := by
  refine (dats m 0 c).arrAt_eq_of_covers 5 _ (by decide +kernel) fun t _ y => ?_
  obtain ⟨i, k, rfl⟩ := pair (n := 512) (k := 1024) y
  refine Eq.trans ?_ (congrArg (rowsArr A) (emb5 t i k)).symm
  blk_simp
  rw [after0_5]
  exact block5 m c H t i k

/-- What the gain's buffer gains at a point. -/
def part (A : Args) (t : Fin cfg0.N) (j : S1x1024.Idx) : EReal := ((∑ i, A.d (rowAt t i) (j 1) * A.x (rowAt t i) (j 1) * Norm.scale (A.x (rowAt t i)) : ℝ) : EReal)

theorem part_eq (t : Fin cfg0.N) (j : S1x1024.Idx) : k0_pay6 (F := Ideal) (iblk m c 0 t) (iblk m c 1 t) (iblk m c 2 t) j = part A t j := by
  obtain ⟨i, k, rfl⟩ := pair (n := 1) (k := 1024) j
  obtain rfl : i = 0 := Subsingleton.elim _ _
  refine (gain_real (given m c H t) k).trans ?_
  simp only [d_eq]
  rfl

theorem final6 : (dats m 0 c).arrAt 6 (cfgs 0).N = gainArr A := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => (0 : EReal)) (part A)
    (fun t h j => by
      rw [outsAt0_A m c t h (by have := lt_of_lt_of_eq t.isLt N_0; omega)]
      frame_out
      rw [k0_pay2, shapeCast_self, zero_add]
      exact part_eq m c H t j)
    (fun t h j => by
      rw [outsAt0_B m c t h (by omega)]
      frame_out
      rw [k0_pay3, shapeCast_self]
      exact congrArg _ (part_eq m c H t j))
    (le_of_eq N_0) t0_3 rfl j, zero_add]
  exact sum_blocks N_0 fun i => A.d i (j 1) * A.x i (j 1) * Norm.scale (A.x i)

end Given

end Cert.InputBwdIdeal.Input

end
-- ==== Proof.Gate.Block.lean ====
/- What one point of the gate's gradient computes: sums from the end in sixteen blocks, and the gate's derivative. -/
module

public import proofs.«01_k».proof.Proof.Gen.FoxGateBwdIdeal.Frame
public import Idealize.ShloMosaic.Lib.Pointwise
public import proofs.«01_k».proof.Proof.Lift
public import Idealize.ShloMosaic.Lib.Claim

@[expose] public section

set_option maxRecDepth 16384

noncomputable section

namespace Cert.FoxGateBwdIdeal.Gate

open Cert.FoxGateBwdIdeal Cert.FoxGateBwdIdeal.Gen
open Idealize.ShloMosaic Idealize.ShloMosaic.TcCoe Idealize.SL.Sem

abbrev Block : Type := FVec Ideal S16x128 .f32

/-- A block's sums from each column to its end, and what lies after the block: the product with the mask in three parts. -/
def step (w : FVec Ideal S128x128 .bf16) (x : Block) (c : FVec Ideal S16x1 .f32) : Block :=
  have y : Block := shapeCast S16x128 x shapeCasts_S16x128_S16x128
  have h : FVec Ideal S16x128 .bf16 := truncf .bf16 y bitsLt_bf16_f32
  have r : Block := subf y (extf .f32 h bitsLt_bf16_f32)
  have h' : FVec Ideal S16x128 .bf16 := truncf .bf16 r bitsLt_bf16_f32
  have r' : Block := subf r (extf .f32 h' bitsLt_bf16_f32)
  have h'' : FVec Ideal S16x128 .bf16 := truncf .bf16 r' bitsLt_bf16_f32
  addf (addf (addf (matmul dot_S16x128_S128x128_S16x128_1_0_0_1_n_n none h w (constant S16x128 .f32 0x00000000#32))
      (matmul dot_S16x128_S128x128_S16x128_1_0_0_1_n_n none h' w (constant S16x128 .f32 0x00000000#32)))
    (matmul dot_S16x128_S128x128_S16x128_1_0_0_1_n_n none h'' w (constant S16x128 .f32 0x00000000#32))) (broadcastTo S16x128 c broadcasts_S16x1_S16x128)

/-- The blocks from the last one on, each with the first column of the one before it. -/
def run (x : ℕ → Block) : ℕ → Block
  | 0 => step (k0_pay5 (F := Ideal)) (x 0) (broadcast S16x1 (Scalar.ofBits .f32 0x00000000#32))
  | n + 1 => step (k0_pay5 (F := Ideal)) (x (n + 1)) (extractStridedSlice S16x1 ![0, 0] (run x n) slices_S16x128_o0_0_S16x1)

/-- The sixteen blocks side by side. -/
def whole (x : ℕ → Block) : FVec Ideal S16x2048 .f32 :=
  concatenate S16x2048 1 [⟨S16x128, run x 15⟩, ⟨S16x128, run x 14⟩, ⟨S16x128, run x 13⟩, ⟨S16x128, run x 12⟩, ⟨S16x128, run x 11⟩, ⟨S16x128, run x 10⟩, ⟨S16x128, run x 9⟩, ⟨S16x128, run x 8⟩, ⟨S16x128, run x 7⟩, ⟨S16x128, run x 6⟩, ⟨S16x128, run x 5⟩, ⟨S16x128, run x 4⟩, ⟨S16x128, run x 3⟩, ⟨S16x128, run x 2⟩, ⟨S16x128, run x 1⟩, ⟨S16x128, run x 0⟩]
    concatenates_S16x128_S16x128_S16x128_S16x128_S16x128_S16x128_S16x128_S16x128_S16x128_S16x128_S16x128_S16x128_S16x128_S16x128_S16x128_S16x128_S16x2048_d1

/-- The block at a place from the end. -/
def blockAt (X : Vec Ideal S16x2048 .f32) (n : ℕ) : Block :=
  View.ld X (Rect.unit (s := S16x2048) ![0, 1920 - 128 * n] S16x128.size (by intro a; fin_cases a <;> simp <;> omega))

theorem mask_apply (k j : Fin 128) : k0_pay5 (F := Ideal) (ix2 k j) = if j ≤ k then 1 else 0 := by
  unfold k0_pay5
  pointwise
  rw [WordCmp.cmpi_sge_ofNat (by omega) (by omega), Scalar.select_decide]
  simp only [Fin.le_def]

theorem step_apply (x : Block) (c : FVec Ideal S16x1 .f32) (r : Fin 16) (X : Fin 128 → ℝ) (h : ∀ k, x (ix2 r k) = X k) (j : Fin 128) :
    step (k0_pay5 (F := Ideal)) x c (ix2 r j) = (∑ k : Fin 128, if j ≤ k then (X k : EReal) else 0) + c (ix2 r (0 : Fin 1)) := by
  have hw := mask_apply
  unfold step
  generalize k0_pay5 (F := Ideal) = W at hw ⊢
  pointwise
  congr 1
  have z (y : ℝ) : (y : EReal) - y = 0 := by rw [← EReal.coe_sub, sub_self, EReal.coe_zero]
  simp only [h, z, hw, sub_zero, zero_mul, Finset.sum_const_zero, add_zero, mul_ite, mul_one, mul_zero, ite_self]

theorem whole_apply (x : ℕ → Block) (r : Fin 16) (n : Fin 2048) : whole x (ix2 r n) = run x (15 - n.val / 128) (ix2 r (⟨n.val % 128, by omega⟩ : Fin 128)) := by
  refine concatenate_ofFn_apply (t := S16x2048) (s₁ := S16x128) 1 (fun q : Fin 16 => run x (15 - q.val)) _ rfl 128 rfl (ix2 r n) ⟨n.val / 128, by omega⟩ rfl
    (ix2 r (⟨n.val % 128, by omega⟩ : Fin 128)) rfl (fun b hb => ?_)
  fin_cases b
  · rfl
  · exact absurd rfl hb

theorem blockAt_apply (X : Vec Ideal S16x2048 .f32) (n : ℕ) (r : Fin 16) (k : Fin 128) :
    blockAt X n (ix2 r k) = X (ix2 r (⟨1920 - 128 * n + k.val, by omega⟩ : Fin 2048)) := by
  refine congrArg X (funext fun a => Fin.ext ?_)
  fin_cases a
  · show 0 + 1 * r.val = r.val
    omega
  · show 1920 - 128 * n + 1 * k.val = 1920 - 128 * n + k.val
    omega

variable (m : (ℓ : Loc nD τ sig) → Buf (Elt Ideal) ℓ) (c : Dev nD)

/-- What is carried on from one block to the next: its first column. -/
def carry (x : Block) : FVec Ideal S16x1 .f32 := extractStridedSlice S16x1 ![0, 0] x slices_S16x128_o0_0_S16x1

section Texts

variable (w : FVec Ideal S128x128 .bf16) (u v x y : Block) (z : FVec Ideal S16x1 .f32) (h h' : FVec Ideal S16x128 .bf16)

theorem text6 : k0_pay6 (F := Ideal) x = step (k0_pay5 (F := Ideal)) x (broadcast S16x1 (Scalar.ofBits .f32 0x00000000#32)) := rfl

theorem text7 : k0_pay7 (F := Ideal) x y = step (k0_pay5 (F := Ideal)) y (carry (k0_pay6 (F := Ideal) x)) := rfl

theorem text8 : k0_pay8 (F := Ideal) x y = carry (k0_pay7 (F := Ideal) x y) := rfl

theorem text10 : k0_pay10 (F := Ideal) w z (k0_pay9 (F := Ideal) x) = step w x z := rfl

theorem text11 : k0_pay11 (F := Ideal) w z u y = step w y (carry (k0_pay10 (F := Ideal) w z u)) := rfl

theorem text14 : k0_pay14 (F := Ideal) (k0_pay12 (F := Ideal) w x) (k0_pay13 (F := Ideal) w z u y) = step w x (carry (k0_pay11 (F := Ideal) w z u y)) := rfl

theorem text15 : k0_pay15 (F := Ideal) w u v x = step w x (carry (k0_pay14 (F := Ideal) u v)) := rfl

theorem text16 : k0_pay16 (F := Ideal) w u v x y = step w y (carry (k0_pay15 (F := Ideal) w u v x)) := rfl

theorem text17 : k0_pay17 (F := Ideal) w u v x y = carry (k0_pay16 (F := Ideal) w u v x y) := rfl

theorem text24 : k0_pay24 (F := Ideal) w z (k0_pay21 (F := Ideal) x) (k0_pay22 (F := Ideal) x) (k0_pay23 (F := Ideal) w x) (constant S16x128 .f32 0x00000000#32) = step w x z := rfl

theorem text25 : k0_pay25 (F := Ideal) w z h h' u v x = step w x (carry (k0_pay24 (F := Ideal) w z h h' u v)) := rfl

theorem text26 : k0_pay26 (F := Ideal) w z h h' u v x y = step w y (carry (k0_pay25 (F := Ideal) w z h h' u v x)) := rfl

theorem text27 : k0_pay27 (F := Ideal) w z h h' u v x y = carry (k0_pay26 (F := Ideal) w z h h' u v x y) := rfl

theorem text32 : k0_pay32 (F := Ideal) w z (k0_pay29 (F := Ideal) x) (k0_pay30 (F := Ideal) x) (k0_pay31 (F := Ideal) x) = step w x z := rfl

theorem text33 : k0_pay33 (F := Ideal) w z h u h' x = step w x (carry (k0_pay32 (F := Ideal) w z h u h')) := rfl

theorem text34 : k0_pay34 (F := Ideal) w z h u h' x y = step w y (carry (k0_pay33 (F := Ideal) w z h u h' x)) := rfl

theorem text35 : k0_pay35 (F := Ideal) w z h u h' x y = carry (k0_pay34 (F := Ideal) w z h u h' x y) := rfl

theorem text36 : k0_pay36 (F := Ideal) w z x = step w x z := rfl

theorem text37 : k0_pay37 (F := Ideal) w z x y = step w y (carry (k0_pay36 (F := Ideal) w z x)) := rfl

theorem text38 : k0_pay38 (F := Ideal) w z x y = carry (k0_pay37 (F := Ideal) w z x y) := rfl

theorem text1 : k0_pay1 (F := Ideal) z (k0_pay43 (F := Ideal) w x) (k0_pay44 (F := Ideal) w x) = step w x z := rfl

end Texts

theorem run_zero (X : Vec Ideal S16x2048 .f32) :
    step (k0_pay5 (F := Ideal)) (blockAt X 0) (broadcast S16x1 (FloatOps.ofBits .f32 0#32)) = run (blockAt X) 0 := rfl

theorem run_succ (X : Vec Ideal S16x2048 .f32) (n : ℕ) :
    step (k0_pay5 (F := Ideal)) (blockAt X (n + 1)) (carry (run (blockAt X) n)) = run (blockAt X) (n + 1) := rfl

theorem load_at (X : Vec Ideal S16x2048 .f32) (o n : ℕ) (h : o = 1920 - 128 * n) (ho : ∀ a, (![0, o] : Fin 2 → ℕ) a + (![16, 128] : Fin 2 → ℕ) a ≤ S16x2048.size a) :
    View.ld X (Rect.unit (s := S16x2048) ![0, o] ![16, 128] ho) = blockAt X n := by
  subst h
  rfl

theorem outs_rows (t : Fin cfg0.N) : (outsAt0 m c t).1 = k0_pay3 (k0_pay2 (whole (blockAt (iblk m c 0 t))) (iblk m c 1 t) (iblk m c 2 t)) := by
  unfold outsAt0
  dsimp only
  frame_out
  rw [show View.read (Elt Ideal) (ms0_0 t).view ((hs0_0 t).unread (iblk m c 0 t)) = iblk m c 0 t from (hs0_0 t).read_unread _]
  generalize (iblk m c 0 t : Vec Ideal S16x2048 .f32) = X
  simp only [text1, text8, text17, text27, text35, text38, text37, text36, text34, text33, text32, text26, text25, text24, text16, text15, text14, text11, text10, text7, text6]
  rw [load_at X 1920 0 rfl, load_at X 1792 1 rfl, load_at X 1664 2 rfl, load_at X 1536 3 rfl, load_at X 1408 4 rfl, load_at X 1280 5 rfl, load_at X 1152 6 rfl, load_at X 1024 7 rfl, load_at X 896 8 rfl, load_at X 768 9 rfl, load_at X 640 10 rfl, load_at X 512 11 rfl, load_at X 384 12 rfl, load_at X 256 13 rfl, load_at X 128 14 rfl, load_at X 0 15 rfl]
  simp only [run_zero, run_succ, Nat.reduceAdd, zero_add]
  rfl

theorem outs_sums (t : Fin cfg0.N) : (outsAt0 m c t).2 = k0_pay4 (k0_pay2 (whole (blockAt (iblk m c 0 t))) (iblk m c 1 t) (iblk m c 2 t)) := by
  unfold outsAt0
  dsimp only
  frame_out
  rw [show View.read (Elt Ideal) (ms0_0 t).view ((hs0_0 t).unread (iblk m c 0 t)) = iblk m c 0 t from (hs0_0 t).read_unread _]
  generalize (iblk m c 0 t : Vec Ideal S16x2048 .f32) = X
  simp only [text1, text8, text17, text27, text35, text38, text37, text36, text34, text33, text32, text26, text25, text24, text16, text15, text14, text11, text10, text7, text6]
  rw [load_at X 1920 0 rfl, load_at X 1792 1 rfl, load_at X 1664 2 rfl, load_at X 1536 3 rfl, load_at X 1408 4 rfl, load_at X 1280 5 rfl, load_at X 1152 6 rfl, load_at X 1024 7 rfl, load_at X 896 8 rfl, load_at X 768 9 rfl, load_at X 640 10 rfl, load_at X 512 11 rfl, load_at X 384 12 rfl, load_at X 256 13 rfl, load_at X 128 14 rfl, load_at X 0 15 rfl]
  simp only [run_zero, run_succ, Nat.reduceAdd, zero_add]
  rfl

end Cert.FoxGateBwdIdeal.Gate

end
-- ==== Proof.Gate.Parts.lean ====
/- The reference of the forget gate: sums from the end, and the derivative of the log of the sigmoid. -/
module

public import proofs.«01_k».proof.Proof.Gen.FoxGateRefIdeal.Run
public import Idealize.ShloMosaic.Lib.Pointwise
public import Idealize.ShloMosaic.Lib.Claim
public import Idealize.ShloMosaic.Lib.Routing.OpsOne
public import proofs.«01_k».proof.Proof.Lift

@[expose] public section

set_option maxRecDepth 16384

noncomputable section

namespace Cert.FoxGateRefIdeal.Parts

open Cert.FoxGateRefIdeal Cert.FoxGateRefIdeal.Gen
open Idealize.ShloMosaic Idealize.ShloMosaic.TcCoe Idealize.ShloMosaic.StableHlo Idealize.SL.Sem
open Idealize.ShloMosaic.Routing (shape0 shape2)

/-- A finite row continued by zeros. -/
def ext {n : ℕ} (d : Fin n → EReal) (k : ℕ) : EReal := if h : k < n then d ⟨k, h⟩ else 0

theorem ext_of_lt {n : ℕ} (d : Fin n → EReal) {k : ℕ} (h : k < n) : ext d k = d ⟨k, h⟩ := dif_pos h

/-- The sum of a row from a place to its end. -/
def tail {n : ℕ} (d : Fin n → EReal) (a : ℕ) : EReal := ∑ k ∈ Finset.Ico a n, ext d k

theorem tail_split {n : ℕ} (d : Fin n → EReal) {a b : ℕ} (h : a ≤ b) (h' : b ≤ n) : tail d a = ∑ k ∈ Finset.Ico a b, ext d k + tail d b :=
  (Finset.sum_Ico_consecutive (ext d) h h').symm

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The host's sums from each row of a matrix to its last one. -/
theorem sums_apply {R Rm1 C : ℕ} (hR : Rm1 + 1 = R) (x : FVec Ideal (shape2 R C) .f32) (init : FVec Ideal shape0 .f32) (hinit : ∀ i, init i = (0 : EReal))
    (h : (shape2 R C).ReduceWindows (![R, 1] : Fin 2 → ℕ) ![1, 1] ![0, 0] ![Rm1, 0] (shape2 R C)) (hu : 0 < shape0.numel) (j : Fin R) (c : Fin C) :
    Host.reduceWindowAdd ![R, 1] ![1, 1] ![0, 0] ![Rm1, 0] x init h hu (ix2 j c) = tail (fun k : Fin R => x (ix2 k c)) j.val := by
  subst hR
  have hj := j.isLt
  have hc := c.isLt
  unfold Host.reduceWindowAdd
  rw [Ideal.hostReduceWindowAdd_def]
  unfold Ideal.hostReduceWindowAdd Host.reduceWindow
  have hv : (fun _ : shape0.Idx => init (Shape.Idx.first hu)) (Shape.Idx.first hu) = (0 : EReal) := hinit _
  refine (foldl_add _ _ _).trans ?_
  rw [hinit, zero_add]
  refine (congrArg List.sum (List.map_congr_left (g := fun n => ext (fun k : Fin (Rm1 + 1) => x (ix2 k c)) (j.val + n.val)) fun n _ => ?_)).trans ?_
  · have hw0 : ((shape2 (Rm1 + 1) 1).rowMajor.symm n 0).val = n.val := by rw [Routing.symm_col]; rfl
    have hw1 : ((shape2 (Rm1 + 1) 1).rowMajor.symm n 1).val = 0 := by rw [Routing.symm_col]; rfl
    dsimp only
    split
    · next hin =>
      have h0 := hin 0
      change 0 ≤ j.val * 1 + ((shape2 (Rm1 + 1) 1).rowMajor.symm n 0).val
        ∧ j.val * 1 + ((shape2 (Rm1 + 1) 1).rowMajor.symm n 0).val - 0 < Rm1 + 1 at h0
      rw [hw0] at h0
      rw [ext_of_lt _ (show j.val + n.val < Rm1 + 1 by omega)]
      refine congrArg x (funext fun a => Fin.ext ?_)
      match a with
      | ⟨0, _⟩ =>
        show j.val * 1 + ((shape2 (Rm1 + 1) 1).rowMajor.symm n 0).val - 0 = j.val + n.val
        rw [hw0]
        omega
      | ⟨1, _⟩ =>
        show c.val * 1 + ((shape2 (Rm1 + 1) 1).rowMajor.symm n 1).val - 0 = c.val
        rw [hw1]
        omega
    · next hin =>
      refine Eq.symm ((dif_neg fun hle => hin fun a => ?_))
      match a with
      | ⟨0, _⟩ =>
        show 0 ≤ j.val * 1 + ((shape2 (Rm1 + 1) 1).rowMajor.symm n 0).val
          ∧ j.val * 1 + ((shape2 (Rm1 + 1) 1).rowMajor.symm n 0).val - 0 < Rm1 + 1
        rw [hw0]
        omega
      | ⟨1, _⟩ =>
        show 0 ≤ c.val * 1 + ((shape2 (Rm1 + 1) 1).rowMajor.symm n 1).val ∧ c.val * 1 + ((shape2 (Rm1 + 1) 1).rowMajor.symm n 1).val - 0 < C
        rw [hw1]
        omega
  · rw [Routing.map_finRange_val _ (fun w => ext (fun k : Fin (Rm1 + 1) => x (ix2 k c)) (j.val + w)), Routing.numel_col, ← List.sum_toFinset _ List.nodup_range,
      List.toFinset_range]
    have e := Finset.sum_Ico_eq_sum_range (ext (fun k : Fin (Rm1 + 1) => x (ix2 k c))) j.val (j.val + (Rm1 + 1))
    rw [Nat.add_sub_cancel_left] at e
    refine e.symm.trans ((Finset.sum_Ico_consecutive (ext _) (show j.val ≤ Rm1 + 1 by omega) (show Rm1 + 1 ≤ j.val + (Rm1 + 1) by omega)).symm.trans ?_)
    rw [Finset.sum_eq_zero (s := Finset.Ico (Rm1 + 1) (j.val + (Rm1 + 1))) fun k hk => dif_neg (by have := Finset.mem_Ico.1 hk; omega), add_zero]
    rfl

/-- The log of the sum of the exponentials of a number and of 0. -/
def lse (x : FVec Ideal S2048x8 .f32) : FVec Ideal S2048x8 .f32 :=
  have z : FVec Ideal S2048x8 .f32 := broadcastInDim S2048x8 ![] bcast_S_S2048x8 (constant S_ .f32 0x00000000#32)
  select (cmpf .une (subf x z) (subf x z)) (addf x z) (addf (maximumf x z) (Host.log1p (Host.exp (Host.negf (Host.absf (subf x z))))))

/-- The derivative of the log of the sum of exponentials. -/
def slope (x : FVec Ideal S2048x8 .f32) : FVec Ideal S2048x8 .f32 :=
  have z : FVec Ideal S2048x8 .f32 := broadcastInDim S2048x8 ![] bcast_S_S2048x8 (constant S_ .f32 0x00000000#32)
  have t : FVec Ideal S2048x8 .f32 := broadcastInDim S2048x8 ![] bcast_S_S2048x8 (constant S_ .f32 0x7F800000#32)
  Host.exp (subf (select (cmpf .oeq x t) z x) (select (cmpf .oeq (lse x) t) z (lse x)))

/-- The gate's argument, turned. -/
def turned (f : FVec Ideal S2048x8 .f32) (b : FVec Ideal S1x8 .f32) : FVec Ideal S2048x8 .f32 :=
  Host.negf (addf f (broadcastInDim S2048x8 ![0, 1] bcast_S1x8_S2048x8_0_1 (broadcastInDim S1x8 ![1] bcast_S8_S1x8_1 (shapeCast _ b shapeCasts_S1x8_S8))))

def sums (d : FVec Ideal S8x2048 .f32) : FVec Ideal S2048x8 .f32 :=
  Host.reduceWindowAdd ![2048, 1] ![1, 1] ![0, 0] ![2047, 0] (transpose S2048x8 [1, 0] d transposes_S8x2048_S2048x8_1_0)
    (broadcastInDim S_ ![] bcast_S_S_ (constant S_ .f32 0x00000000#32)) reduceWindows_S2048x8_S2048x8_w2048s1p0_2047_w1s1p0_0 h_S_

/-- The gate's gradient, row by row. -/
def rows (f : FVec Ideal S2048x8 .f32) (b : FVec Ideal S1x8 .f32) (d : FVec Ideal S8x2048 .f32) : FVec Ideal S2048x8 .f32 :=
  Host.negf (mulf (Host.negf (sums d)) (slope (turned f b)))

/-- Its sum over the rows. -/
def total (r : FVec Ideal S2048x8 .f32) : FVec Ideal S1x8 .f32 :=
  broadcastInDim S1x8 ![1] bcast_S8_S1x8_1 (Host.reduceAdd (shapeCast _ (Host.reduceAdd r (constant S_ .f32 0x00000000#32) reducesTo_S2048x8_S8_d0 h_S_) shapeCasts_S8_S1x8)
    (constant S_ .f32 0x00000000#32) reducesTo_S1x8_S8_d0 h_S_)

theorem softplus (r : ℝ) : Real.exp (r - (max r 0 + Real.log (1 + Real.exp (-|r|)))) = (1 + Real.exp (-r))⁻¹ := by
  have p (y : ℝ) : 0 < 1 + Real.exp y := by positivity
  rw [Real.exp_sub, Real.exp_add, Real.exp_log (p _)]
  have e : Real.exp r * Real.exp (-r) = 1 := by rw [← Real.exp_add, add_neg_cancel, Real.exp_zero]
  have := Real.exp_pos r
  rcases le_total 0 r with h | h
  · rw [max_eq_left h, abs_of_nonneg h]
    have := p (-r)
    field_simp
  · rw [max_eq_right h, abs_of_nonpos h, Real.exp_zero, one_mul, neg_neg, div_eq_iff (p r).ne', eq_comm, inv_mul_eq_iff_eq_mul₀ (p (-r)).ne']
    linear_combination -e

theorem lse_apply (x : FVec Ideal S2048x8 .f32) (i : Fin 2048) (l : Fin 8) (r : ℝ) (h : x (ix2 i l) = (r : EReal)) :
    lse x (ix2 i l) = ((max r 0 + Real.log (1 + Real.exp (-|r|)) : ℝ) : EReal) := by
  unfold lse
  pointwise
  have hp : ¬ 1 + Real.exp (-|r|) ≤ 0 := not_le.2 (by positivity)
  have ha : FloatOps.absf (F := Ideal) (φ := .f32) (r : EReal) = ((|r| : ℝ) : EReal) := by
    show max (r : EReal) (-(r : EReal)) = _
    rw [← EReal.coe_neg, ← EReal.coe_strictMono.monotone.map_max]
    rfl
  have hm : max (r : EReal) 0 = ((max r 0 : ℝ) : EReal) := by
    rw [← EReal.coe_zero, ← EReal.coe_strictMono.monotone.map_max]
  rw [h, if_neg (not_not.2 rfl), ha, ← EReal.coe_neg, Ideal.exp_coe, hm]
  unfold Ideal.log1p
  rw [← EReal.coe_one, ← EReal.coe_add, Ideal.log_coe, if_neg hp, ← EReal.coe_add]

theorem slope_apply (x : FVec Ideal S2048x8 .f32) (i : Fin 2048) (l : Fin 8) (r : ℝ) (h : x (ix2 i l) = (r : EReal)) :
    slope x (ix2 i l) = (((1 + Real.exp (-r))⁻¹ : ℝ) : EReal) := by
  have hl := lse_apply x i l r h
  unfold slope
  generalize lse x = L at hl ⊢
  pointwise
  rw [Cert.Lift.ofBits_inf, h, hl, if_neg (EReal.coe_ne_top _), if_neg (EReal.coe_ne_top _), ← EReal.coe_sub, Ideal.exp_coe, softplus]

theorem turned_apply (f : FVec Ideal S2048x8 .f32) (b : FVec Ideal S1x8 .f32) (i : Fin 2048) (l : Fin 8) : turned f b (ix2 i l) = -(f (ix2 i l) + b (ix2 (0 : Fin 1) l)) := by
  unfold turned
  pointwise

theorem rows_apply (f : FVec Ideal S2048x8 .f32) (b : FVec Ideal S1x8 .f32) (d : FVec Ideal S8x2048 .f32) (i : Fin 2048) (l : Fin 8) (r : ℝ)
    (h : f (ix2 i l) + b (ix2 (0 : Fin 1) l) = (r : EReal)) :
    rows f b d (ix2 i l) = tail (fun k : Fin 2048 => d (ix2 l k)) i.val * (((1 + Real.exp r)⁻¹ : ℝ) : EReal) := by
  have hs : sums d (ix2 i l) = tail (fun k : Fin 2048 => d (ix2 l k)) i.val := by
    unfold sums
    refine (sums_apply (R := 2048) (Rm1 := 2047) (C := 8) rfl _ _ (fun i => ?_) _ _ i l).trans (congrArg (fun g => tail g i.val) (funext fun k => ?_))
    · pointwise
    · pointwise
  have ht : turned f b (ix2 i l) = ((-r : ℝ) : EReal) := by rw [turned_apply, h, EReal.coe_neg]
  have hg := slope_apply (turned f b) i l (-r) ht
  rw [neg_neg] at hg
  unfold rows
  generalize sums d = s at hs ⊢
  generalize slope (turned f b) = g at hg ⊢
  pointwise
  rw [hs, hg, neg_mul, neg_neg]

theorem total_apply (r : FVec Ideal S2048x8 .f32) (l : Fin 8) : total r (ix2 (0 : Fin 1) l) = ∑ i : Fin 2048, r (ix2 i l) := by
  unfold total
  pointwise
  exact Fintype.sum_subsingleton _ (0 : Fin 1)

end Cert.FoxGateRefIdeal.Parts

end
-- ==== Proof.Gate.Arrays.lean ====
/- What the forget gate's call leaves in its two arrays. -/
module

public import proofs.«01_k».proof.Proof.Input.Arrays
public import proofs.«01_k».proof.Proof.Gate.Block
public import proofs.«01_k».proof.Proof.Gate.Parts

@[expose] public section

set_option maxRecDepth 16384

noncomputable section

namespace Cert.FoxGateBwdIdeal.Gate

open Cert.FoxGateBwdIdeal Cert.FoxGateBwdIdeal.Gen
open Idealize.ShloMosaic Idealize.ShloMosaic.TcCoe Idealize.ShloMosaic.StableHlo Idealize.SL.Sem
open Cert.InputBwdIdeal.Input (pair)
open Cert.FoxGateRefIdeal.Parts (ext ext_of_lt tail tail_split)

/-- The part of a block's row from a column on, as a stretch of the whole row. -/
theorem block_sum (g : ℕ → EReal) (o : ℕ) (j : Fin 128) : (∑ k : Fin 128, if j ≤ k then g (o + k.val) else 0) = ∑ k ∈ Finset.Ico (o + j.val) (o + 128), g k := by
  have e := Finset.sum_Ico_add g j.val 128 o
  rw [add_comm o j.val, add_comm o 128, ← e, ← Finset.sum_filter]
  refine Finset.sum_bij (fun k _ => k.val) (fun k hk => ?_) (fun _ _ _ _ h => Fin.ext h) (fun k hk => ?_) (fun _ _ => rfl)
  · have := (Finset.mem_filter.1 hk).2
    exact Finset.mem_Ico.2 ⟨this, k.isLt⟩
  · have := Finset.mem_Ico.1 hk
    exact ⟨⟨k, this.2⟩, Finset.mem_filter.2 ⟨Finset.mem_univ _, this.1⟩, rfl⟩

section Sums

variable (X : Vec Ideal S16x2048 .f32) (r : Fin 16) (d : Fin 2048 → ℝ) (h : ∀ k, X (ix2 r k) = (d k : EReal))
include h

theorem part_sum (n : ℕ) (c : FVec Ideal S16x1 .f32) (j : Fin 128) : step (k0_pay5 (F := Ideal)) (blockAt X n) c (ix2 r j)
    = ∑ k ∈ Finset.Ico (1920 - 128 * n + j.val) (1920 - 128 * n + 128), ext (fun k => (d k : EReal)) k + c (ix2 r (0 : Fin 1)) := by
  rw [step_apply _ c r (fun k => d ⟨1920 - 128 * n + k.val, by omega⟩) (fun k => (blockAt_apply X n r k).trans (h _)) j, ← block_sum]
  congr 1
  refine Finset.sum_congr rfl fun k _ => ?_
  rw [ext_of_lt _ (show 1920 - 128 * n + k.val < 2048 by omega)]

theorem run_apply (n : ℕ) (hn : n ≤ 15) (j : Fin 128) : run (blockAt X) n (ix2 r j) = tail (fun k => (d k : EReal)) (1920 - 128 * n + j.val) := by
  induction n generalizing j with
  | zero =>
    refine (part_sum X r d h 0 _ j).trans ?_
    have z : (broadcast S16x1 (Scalar.ofBits .f32 0x00000000#32) : FVec Ideal S16x1 .f32) (ix2 r (0 : Fin 1)) = (0 : EReal) := by pointwise
    rw [z, add_zero]
    rfl
  | succ n ih =>
    refine (part_sum X r d h (n + 1) _ j).trans ?_
    have z : (extractStridedSlice S16x1 ![0, 0] (run (blockAt X) n) slices_S16x128_o0_0_S16x1 : FVec Ideal S16x1 .f32) (ix2 r (0 : Fin 1))
        = run (blockAt X) n (ix2 r (0 : Fin 128)) := by pointwise
    rw [z, ih (by omega) 0, tail_split _ (show 1920 - 128 * (n + 1) + j.val ≤ 1920 - 128 * (n + 1) + 128 by omega) (by omega)]
    congr 2
    show 1920 - 128 * n + 0 = _
    omega

theorem sums_apply (n : Fin 2048) : whole (blockAt X) (ix2 r n) = tail (fun k => (d k : EReal)) n.val := by
  rw [whole_apply, run_apply X r d h _ (by omega)]
  congr 1
  show 1920 - 128 * (15 - n.val / 128) + n.val % 128 = n.val
  omega

end Sums

/-- One entry of the gate's gradient. -/
theorem slope_apply (w : FVec Ideal S16x2048 .f32) (f : Vec Ideal S2048x128 .f32) (b : Vec Ideal S1x128 .f32) (i : Fin 2048) (l : Fin 8) (y : ℝ)
    (h : f (ix2 i (⟨l.val, by omega⟩ : Fin 128)) + b (ix2 (0 : Fin 1) (⟨l.val, by omega⟩ : Fin 128)) = (y : EReal)) :
    k0_pay2 w f b (ix2 i (⟨l.val, by omega⟩ : Fin 128)) = w (ix2 (⟨l.val, by omega⟩ : Fin 16) i) * (((1 + Real.exp y)⁻¹ : ℝ) : EReal) := by
  unfold k0_pay2
  pointwise
  have p : (1 + Real.exp y : ℝ) ≠ 0 := by positivity
  rw [dif_pos (show l.val < 16 by omega), h, show (0 : EReal) - (0 - (y : EReal)) = (y : EReal) by simp, Ideal.exp_coe, show (1 : EReal) + (Real.exp y : ℝ) = ((1 + Real.exp y : ℝ) : EReal) by push_cast; rfl,
    Ideal.div_coe p, one_mul, one_div]

theorem rows_apply (x : FVec Ideal S2048x128 .f32) (i : Fin 2048) (k : Fin 128) : k0_pay3 x (ix2 i k) = x (ix2 i k) := by
  unfold k0_pay3
  pointwise

theorem total_apply (x : FVec Ideal S2048x128 .f32) (k : Fin 128) : k0_pay4 x (ix2 (0 : Fin 1) k) = ∑ i, x (ix2 i k) := by
  unfold k0_pay4
  pointwise

variable (m : (ℓ : Loc nD τ sig) → Buf (Elt Ideal) ℓ) (c : Dev nD)

/-- The host's packing. -/
def columns (f : FVec Ideal S2048x8 .f32) : FVec Ideal S2048x6272 .f32 :=
  concatenate S2048x6272 1 [⟨S2048x6144, (broadcastInDim S2048x6144 ![] bcast_S_S2048x6144 (constant S_ .f32 0x00000000#32) : FVec Ideal S2048x6144 .f32)⟩, ⟨S2048x8, f⟩,
    ⟨S2048x120, (broadcastInDim S2048x120 ![] bcast_S_S2048x120 (constant S_ .f32 0x00000000#32) : FVec Ideal S2048x120 .f32)⟩] concatenates_S2048x6144_S2048x8_S2048x120_S2048x6272_d1
def wide (b : FVec Ideal S1x8 .f32) : FVec Ideal S1x128 .f32 := pad S1x128 ![0, 0] ![0, 120] ![0, 0] b (sitofp .f32 (constantI S_ 32 0#32) : FVec Ideal S_ .f32) pads_S1x8_S1x128_000_01200 h_S_
def tall (d : FVec Ideal S8x2048 .f32) : FVec Ideal S16x2048 .f32 := pad S16x2048 ![0, 0] ![8, 0] ![0, 0] d (sitofp .f32 (constantI S_ 32 0#32) : FVec Ideal S_ .f32) pads_S8x2048_S16x2048_080_000 h_S_

theorem columns_apply (f : FVec Ideal S2048x8 .f32) (i : Fin 2048) (l : Fin 8) : columns f (ix2 i (⟨6144 + l.val, by omega⟩ : Fin 6272)) = f (ix2 i l) := by
  unfold columns
  pointwise

theorem wide_apply (b : FVec Ideal S1x8 .f32) (l : Fin 8) : wide b (ix2 (0 : Fin 1) (⟨l.val, by omega⟩ : Fin 128)) = b (ix2 (0 : Fin 1) l) := by
  unfold wide
  pointwise

theorem tall_apply (d : FVec Ideal S8x2048 .f32) (l : Fin 8) (k : Fin 2048) : tall d (ix2 (⟨l.val, by omega⟩ : Fin 16) k) = d (ix2 l k) := by
  unfold tall
  pointwise

theorem V_columns : (V m c main_v2 : FVec Ideal S2048x6272 .f32) = columns (m ((c.tc : Thread nD τ).loc main_arg0)) := by
  simp only [V, V0, hostOps0, hostOps0_1, hostOps0_2, hostOps0_3, hostOps0_4, List.flatten_cons, List.flatten_nil, List.append_nil, List.cons_append, List.nil_append,
    TRef.nullary, TRef.ternary, TRef.unary, TRef.binary, TRef.toBuf, TRef.ofBuf, cast_eq]
  after_results_simp <;> rfl

theorem V_wide : (V m c main_v3 : FVec Ideal S1x128 .f32) = wide (m ((c.tc : Thread nD τ).loc main_arg1)) := by
  simp only [V, V0, hostOps0, hostOps0_1, hostOps0_2, hostOps0_3, hostOps0_4, List.flatten_cons, List.flatten_nil, List.append_nil, List.cons_append, List.nil_append,
    TRef.nullary, TRef.ternary, TRef.unary, TRef.binary, TRef.toBuf, TRef.ofBuf, cast_eq]
  after_results_simp <;> rfl

theorem V_tall : (V m c main_v4 : FVec Ideal S16x2048 .f32) = tall (m ((c.tc : Thread nD τ).loc main_arg2)) := by
  simp only [V, V0, hostOps0, hostOps0_1, hostOps0_2, hostOps0_3, hostOps0_4, List.flatten_cons, List.flatten_nil, List.append_nil, List.cons_append, List.nil_append,
    TRef.nullary, TRef.ternary, TRef.unary, TRef.binary, TRef.toBuf, TRef.ofBuf, cast_eq]
  after_results_simp <;> rfl

theorem index : ∀ t : Fin cfg0.N, win0_0.index t = ![0, 0] ∧ win0_1.index t = ![0, 48] ∧ win0_2.index t = ![0, 0] ∧ win0_3.index t = ![0, 48] ∧ win0_4.index t = ![0, 0] :=
  (by decide +kernel : ∀ t : Fin grid0.N, _)

section Reads

variable (t : Fin cfg0.N) (X : (b : Ref sig .tc) → Buf (Elt Ideal) ((c.tc : Thread nD τ).loc b))

theorem read_sums (i : Fin 16) (k : Fin 2048) : (((cfg0.win 0).blk t).view.read (Elt Ideal) (X (Pipeline.arrRef spec0 0)) : FVec Ideal S16x2048 .f32) (ix2 i k)
    = (X main_v4 : FVec Ideal S16x2048 .f32) (ix2 i k) := by
  refine congrArg (X main_v4 : FVec Ideal S16x2048 .f32) (?_ : ((cfg0.win 0).blk t).view.emb (ix2 i k) = _)
  funext a
  apply Fin.ext
  refine (Pipeline.Window.rect_emb_val win0_0 t (ix2 i k) a).trans ?_
  rw [(index t).1]
  fin_cases a
  · show 0 * 16 + i.val = i.val
    omega
  · show 0 * 2048 + k.val = k.val
    omega

theorem read_gate (i : Fin 2048) (k : Fin 128) : (((cfg0.win 1).blk t).view.read (Elt Ideal) (X (Pipeline.arrRef spec0 1)) : FVec Ideal S2048x128 .f32) (ix2 i k)
    = (X main_v2 : FVec Ideal S2048x6272 .f32) (ix2 i (⟨6144 + k.val, by omega⟩ : Fin 6272)) := by
  refine congrArg (X main_v2 : FVec Ideal S2048x6272 .f32) (?_ : ((cfg0.win 1).blk t).view.emb (ix2 i k) = _)
  funext a
  apply Fin.ext
  refine (Pipeline.Window.rect_emb_val win0_1 t (ix2 i k) a).trans ?_
  rw [(index t).2.1]
  fin_cases a
  · show 0 * 2048 + i.val = i.val
    omega
  · show 48 * 128 + k.val = 6144 + k.val
    omega

theorem read_bias (i : Fin 1) (k : Fin 128) : (((cfg0.win 2).blk t).view.read (Elt Ideal) (X (Pipeline.arrRef spec0 2)) : FVec Ideal S1x128 .f32) (ix2 i k)
    = (X main_v3 : FVec Ideal S1x128 .f32) (ix2 i k) := by
  refine congrArg (X main_v3 : FVec Ideal S1x128 .f32) (?_ : ((cfg0.win 2).blk t).view.emb (ix2 i k) = _)
  funext a
  apply Fin.ext
  refine (Pipeline.Window.rect_emb_val win0_2 t (ix2 i k) a).trans ?_
  rw [(index t).2.2.1]
  fin_cases a
  · show 0 * 1 + i.val = i.val
    omega
  · show 0 * 128 + k.val = k.val
    omega

end Reads

theorem emb3 (t : Fin cfg0.N) (i : Fin 2048) (k : Fin 128) : ((cfg0.win 3).blk t).view.emb (ix2 i k) = (ix2 i (⟨6144 + k.val, by omega⟩ : Fin 6272) : S2048x6272.Idx) := by
  funext a
  apply Fin.ext
  refine (Pipeline.Window.rect_emb_val win0_3 t (ix2 i k) a).trans ?_
  rw [(index t).2.2.2.1]
  fin_cases a
  · show 0 * 2048 + i.val = i.val
    omega
  · show 48 * 128 + k.val = 6144 + k.val
    omega

theorem emb4 (t : Fin cfg0.N) (i : Fin 1) (k : Fin 128) : ((cfg0.win 4).blk t).view.emb (ix2 i k) = (ix2 i k : S1x128.Idx) := by
  funext a
  apply Fin.ext
  refine (Pipeline.Window.rect_emb_val win0_4 t (ix2 i k) a).trans ?_
  rw [(index t).2.2.2.2]
  fin_cases a
  · show 0 * 1 + i.val = i.val
    omega
  · show 0 * 128 + k.val = k.val
    omega

/-- The packed rows the call leaves, from its columns on. -/
def packed (z : S2048x6272.Idx) : EReal := (outsAt0 m c t0_0).1 (ix2 (z 0) (⟨(z 1).val % 128, by omega⟩ : Fin 128))

theorem point (t : Fin cfg0.N) : t = t0_0 := Fin.ext (by have := lt_of_lt_of_eq t.isLt N_0; show t.val = 0; omega)

theorem final3 : (dats m 0 c).arrAt 3 (cfgs 0).N = fun z : S2048x6272.Idx => if (z 1).val / 128 = 48 then packed m c z else (V m c main_v6_0 : FVec Ideal S2048x6272 .bf16) z := by
  refine (dats m 0 c).arrAt_eq_of_coversWhere 3 _ (fun β => β (1 : Fin 2) = 48) (by decide +kernel) (fun t _ y => ?_) (fun j => Iff.rfl)
  obtain ⟨i, k, rfl⟩ := pair (n := 2048) (k := 128) y
  refine Eq.trans ?_ (congrArg (packed m c) (emb3 t i k)).symm
  blk_simp
  rw [after0_3, point t]
  refine congrArg (outsAt0 m c t0_0).1 (congrArg (ix2 i) (Fin.ext ?_))
  show k.val = (6144 + k.val) % 128
  omega

theorem final4 : (dats m 0 c).arrAt 4 (cfgs 0).N = (outsAt0 m c t0_0).2 := by
  refine (dats m 0 c).arrAt_eq_of_after_last 4 t0_0 (by decide +kernel) _ fun j => ?_
  blk_simp
  rw [after0_4]

/-- The device's arrays when the call has ended. -/
def ended : Valuation τ sig (Elt Ideal) := Pipeline.withArrays (cfgs 0).spec c (V0 m c) fun w => (dats m 0 c).arrAt w (cfgs 0).N

theorem ended_arr (w : Fin 5) : ended m c (Proc.devRef .tc (Pipeline.arrRef spec0 w)) = (dats m 0 c).arrAt w (cfgs 0).N :=
  Pipeline.withArrays_arr _ (by decide : ∀ a b : Fin 5, Pipeline.arrRef spec0 a = Pipeline.arrRef spec0 b → a = b) c _ _ w

def cut (x : FVec Ideal S2048x6272 .bf16) : FVec Ideal S2048x8 .bf16 := extractStridedSlice S2048x8 ![0, 6144] x slices_S2048x6272_S2048x8_0_6144
def cut' (x : FVec Ideal S1x128 .f32) : FVec Ideal S1x8 .f32 := extractStridedSlice S1x8 ![0, 0] x slices_S1x128_S1x8_0_0

theorem cut_apply (x : FVec Ideal S2048x6272 .bf16) (i : Fin 2048) (l : Fin 8) : cut x (ix2 i l) = x (ix2 i (⟨6144 + l.val, by omega⟩ : Fin 6272)) := by
  unfold cut
  pointwise

theorem cut'_apply (x : FVec Ideal S1x128 .f32) (l : Fin 8) : cut' x (ix2 (0 : Fin 1) l) = x (ix2 (0 : Fin 1) (⟨l.val, by omega⟩ : Fin 128)) := by
  unfold cut'
  pointwise

section Lines

variable (W : Valuation τ sig (Elt Ideal))

theorem tail_rows : (after hostOps1 W (Proc.devRef .tc main_v7) : FVec Ideal S2048x8 .bf16) = cut (W (Proc.devRef .tc main_v6_0)) := by
  simp only [hostOps1]
  after_results_simp <;> rfl

theorem tail_total : (after hostOps1 W (Proc.devRef .tc main_v8) : FVec Ideal S1x8 .f32) = cut' (W (Proc.devRef .tc main_v6_1)) := by
  simp only [hostOps1]
  after_results_simp <;> rfl

end Lines

/-- The arguments as real numbers. -/
structure Are (F : Fin 2048 → Fin 8 → ℝ) (B : Fin 8 → ℝ) (D : Fin 8 → Fin 2048 → ℝ) (f : FVec Ideal S2048x8 .f32) (b : FVec Ideal S1x8 .f32) (d : FVec Ideal S8x2048 .f32) : Prop where
  f : ∀ i l, f (ix2 i l) = (F i l : EReal)
  b : ∀ l, b (ix2 (0 : Fin 1) l) = (B l : EReal)
  d : ∀ l k, d (ix2 l k) = (D l k : EReal)

/-- One entry of the gate's gradient, from real arguments. -/
def entry (F : Fin 2048 → Fin 8 → ℝ) (B : Fin 8 → ℝ) (D : Fin 8 → Fin 2048 → ℝ) (i : Fin 2048) (l : Fin 8) : EReal :=
  tail (fun k => (D l k : EReal)) i.val * (((1 + Real.exp (F i l + B l))⁻¹ : ℝ) : EReal)

section Given

variable {F : Fin 2048 → Fin 8 → ℝ} {B : Fin 8 → ℝ} {D : Fin 8 → Fin 2048 → ℝ}
  (H : Are F B D (m ((c.tc : Thread nD τ).loc main_arg0)) (m ((c.tc : Thread nD τ).loc main_arg1)) (m ((c.tc : Thread nD τ).loc main_arg2)))
include H

theorem entry_eq (i : Fin 2048) (l : Fin 8) :
    k0_pay2 (whole (blockAt (iblk m c 0 t0_0))) (iblk m c 1 t0_0) (iblk m c 2 t0_0) (ix2 i (⟨l.val, by omega⟩ : Fin 128)) = entry F B D i l := by
  have hd (k : Fin 2048) : (iblk m c 0 t0_0 : Vec Ideal S16x2048 .f32) (ix2 (⟨l.val, by omega⟩ : Fin 16) k) = (D l k : EReal) :=
    (read_sums c t0_0 (V m c) _ k).trans ((congrFun (V_tall m c) _).trans ((tall_apply _ l k).trans (H.d l k)))
  have hf : (iblk m c 1 t0_0 : Vec Ideal S2048x128 .f32) (ix2 i (⟨l.val, by omega⟩ : Fin 128)) = (F i l : EReal) :=
    (read_gate c t0_0 (V m c) i _).trans ((congrFun (V_columns m c) _).trans ((columns_apply _ i l).trans (H.f i l)))
  have hb : (iblk m c 2 t0_0 : Vec Ideal S1x128 .f32) (ix2 (0 : Fin 1) (⟨l.val, by omega⟩ : Fin 128)) = (B l : EReal) :=
    (read_bias c t0_0 (V m c) 0 _).trans ((congrFun (V_wide m c) _).trans ((wide_apply _ l).trans (H.b l)))
  refine (slope_apply _ _ _ i l (F i l + B l) ?_).trans (congrArg (· * _) (sums_apply _ _ (D l) hd i))
  rw [hf, hb, EReal.coe_add]

theorem result_rows (i : Fin 2048) (l : Fin 8) : (after hostOps1 (ended m c) (Proc.devRef .tc main_v7) : FVec Ideal S2048x8 .bf16) (ix2 i l) = entry F B D i l := by
  rw [tail_rows, show ended m c (Proc.devRef .tc main_v6_0) = _ from (ended_arr m c 3).trans (final3 m c)]
  refine (cut_apply _ i l).trans ((if_pos (show (6144 + l.val) / 128 = 48 by omega)).trans ?_)
  refine (congrFun (outs_rows m c t0_0) _).trans ((congrArg _ (congrArg (ix2 i) (Fin.ext ?_))).trans ((rows_apply _ i ⟨l.val, by omega⟩).trans (entry_eq m c H i l)))
  show (6144 + l.val) % 128 = l.val
  omega

theorem result_total (l : Fin 8) : (after hostOps1 (ended m c) (Proc.devRef .tc main_v8) : FVec Ideal S1x8 .f32) (ix2 (0 : Fin 1) l) = ∑ i, entry F B D i l := by
  rw [tail_total, show ended m c (Proc.devRef .tc main_v6_1) = _ from (ended_arr m c 4).trans (final4 m c)]
  refine (cut'_apply _ l).trans ((congrFun (outs_sums m c t0_0) _).trans ((total_apply _ _).trans (Finset.sum_congr rfl fun i _ => entry_eq m c H i l)))

end Given

end Cert.FoxGateBwdIdeal.Gate

end
-- ==== Proof.Gate.Equation.lean ====
/- The forget gate's call computes the derivative of the cumulated log of the gate. -/
module

public import proofs.«01_k».proof.Proof.Gate.Arrays
public import proofs.«01_k».proof.Defs
public import proofs.«01_k».proof.Proof.Gen.Pre_gate_finite

@[expose] public section

set_option maxRecDepth 16384

noncomputable section

namespace Cert.FoxGateBwdIdeal.Value

open Cert.FoxGateBwdIdeal.Gen Cert.FoxGateBwdIdeal.Gate
open Idealize.ShloMosaic Idealize.ShloMosaic.TcCoe Idealize.ShloMosaic.StableHlo Idealize.SL.Sem
open Cert.InputBwdIdeal.Input (pair)
open Cert.FoxGateRefIdeal.Parts (rows total)

theorem reals_of_finite (f : FVec Ideal S2048x8 .f32) (b : FVec Ideal S1x8 .f32) (d : FVec Ideal S8x2048 .f32)
    (h : Cert.Pre_gate_finite.fn (F := Ideal) f b d = fun _ => 1#1) : ∃ F B D, Are F B D f b d := by
  obtain ⟨h, hd⟩ := IntOp.andi_eq_one.1 (congrFun h fun a => a.elim0)
  obtain ⟨hf, hb⟩ := IntOp.andi_eq_one.1 h
  obtain ⟨rf, ef⟩ := Lift.real_of_all hf
  obtain ⟨rb, eb⟩ := Lift.real_of_all hb
  obtain ⟨rd, ed⟩ := Lift.real_of_all hd
  exact ⟨fun i l => rf (ix2 i l), fun l => rb (ix2 (0 : Fin 1) l), fun l k => rd (ix2 l k), fun i l => congrFun ef _, fun l => congrFun eb _, fun l k => congrFun ed _⟩

section Reference

variable {F : Fin 2048 → Fin 8 → ℝ} {B : Fin 8 → ℝ} {D : Fin 8 → Fin 2048 → ℝ} {f : FVec Ideal S2048x8 .f32} {b : FVec Ideal S1x8 .f32} {d : FVec Ideal S8x2048 .f32}
  (H : Are F B D f b d)
include H

theorem rows_eq (i : Fin 2048) (l : Fin 8) : rows f b d (ix2 i l) = entry F B D i l := by
  refine (Cert.FoxGateRefIdeal.Parts.rows_apply f b d i l (F i l + B l) (by rw [H.f, H.b, EReal.coe_add])).trans ?_
  simp only [H.d]
  rfl

theorem total_eq (l : Fin 8) : total (rows f b d) (ix2 (0 : Fin 1) l) = ∑ i, entry F B D i l :=
  (Cert.FoxGateRefIdeal.Parts.total_apply _ l).trans (Finset.sum_congr rfl fun i _ => rows_eq H i l)

end Reference

set_option maxHeartbeats 1000000 in
theorem algebraic : Cert.algebraic_FoxGateBwdIdeal_FoxGateRefIdeal_pre_gate_finite := by
  intro m g m' g' hpre hargs
  refine ⟨fun c => after hostOps1 (ended m c) (Proc.devRef .tc main_v7), fun c => after hostOps1 (ended m c) (Proc.devRef .tc main_v8),
    (θ_run defs _ _).mono (fun r h c => ?_) (run_main m g), (θ_run _ _ _).mono (fun r h c => ?_) (Cert.FoxGateRefIdeal.Value.run m' g')⟩
  · have hb := (h c).2
    exact ⟨hb main_v7 (Pipeline.mem_restRefs_of _ (by decide) (by decide)), hb main_v8 (Pipeline.mem_restRefs_of _ (by decide) (by decide)),
      (hb main_arg0 (Pipeline.mem_restRefs_of _ (by decide) (by decide))).trans (W_main_arg0 m (dats m) c),
      (hb main_arg1 (Pipeline.mem_restRefs_of _ (by decide) (by decide))).trans (W_main_arg1 m (dats m) c),
      (hb main_arg2 (Pipeline.mem_restRefs_of _ (by decide) (by decide))).trans (W_main_arg2 m (dats m) c)⟩
  · obtain ⟨h0, h1, hr⟩ := h c
    obtain ⟨a0, a1, a2⟩ := hargs c
    obtain ⟨F, B, D, H⟩ := reals_of_finite _ _ _ (hpre c)
    have e0 : Cert.FoxGateRefIdeal.Value.res_main_v14 m' c
        = truncf .bf16 (rows (m ((c.tc : Thread nD τ).loc main_arg0)) (m ((c.tc : Thread nD τ).loc main_arg1)) (m ((c.tc : Thread nD τ).loc main_arg2))) Cert.FoxGateRefIdeal.Gen.bitsLt_bf16_f32 := by
      rw [← a0, ← a1, ← a2]
      sl_kernel_rfl
    have e1 : Cert.FoxGateRefIdeal.Value.res_main_v13 m' c = total (rows (m ((c.tc : Thread nD τ).loc main_arg0)) (m ((c.tc : Thread nD τ).loc main_arg1)) (m ((c.tc : Thread nD τ).loc main_arg2))) := by
      rw [← a0, ← a1, ← a2]
      sl_kernel_rfl
    refine ⟨h0.trans (e0.trans ?_), h1.trans (e1.trans ?_), hr⟩
    · funext z
      obtain ⟨i, l, rfl⟩ := pair (n := 2048) (k := 8) z
      exact (rows_eq H i l).trans (result_rows m c H i l).symm
    · funext z
      obtain ⟨i, l, rfl⟩ := pair (n := 1) (k := 8) z
      obtain rfl : i = 0 := Subsingleton.elim _ _
      exact (total_eq H l).trans (result_total m c H l).symm

end Cert.FoxGateBwdIdeal.Value

end
-- ==== Proof.Comb.Block.lean ====
/- One block of 512 rows of the dilated groups' combination, backward: what its text computes on real numbers. -/
module

public import proofs.«01_k».proof.Proof.Gen.DilCombineIdeal.Frame
public import proofs.«01_k».proof.Proof.Lift
public import Idealize.ShloMosaic.Lib.Pipeline.ValueKit
public import Idealize.ShloMosaic.Lib.Claim
public import Idealize.ShloMosaic.Lib.Pointwise
public import Idealize.ShloMosaic.PureOps.Ideal.Laws

@[expose] public section

set_option maxRecDepth 16384

noncomputable section

namespace Cert.DilCombineIdeal.Comb

open Cert.DilCombineIdeal Cert.DilCombineIdeal.Gen
open Idealize.ShloMosaic Idealize.ShloMosaic.TcCoe

abbrev B : Type := FVec Ideal S512x256 .f32

/-- A column's word divided by 64, rounding down, as the text spells it. -/
def headWord (a : BitVec 32) : BitVec 32 :=
  Scalar.select
    (IntOp.andi
      (IntOp.cmpi .ne
        (IntOp.subi (BitVec.setWidth 32 (IntOp.cmpi .sgt a 0#32)) (BitVec.setWidth 32 (IntOp.cmpi .slt a 0#32)))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32)
    (IntOp.divsi .vector a 64#32)

theorem headWord_eq : ∀ a : Fin 256, headWord (BitVec.ofNat 32 a.val) = BitVec.ofNat 32 (a.val / 64) := by decide +kernel

theorem same_head (a b : Fin 256) : k0_pay10 (F := Ideal) k0_pay9 (ix2 a b) = if a.val / 64 = b.val / 64 then 1 else 0 := by
  unfold k0_pay10 k0_pay9
  pointwise
  refine (congrArg (fun w => Scalar.select w (1 : EReal) 0) (congrArg₂ (IntOp.cmpi .eq) (headWord_eq a) (headWord_eq b))).trans ?_
  have ha := a.isLt
  have hb := b.isLt
  by_cases h : a.val / 64 = b.val / 64
  · rw [if_pos h, h]
    simp [IntOp.cmpi, Scalar.select]
  · rw [if_neg h]
    have hne : BitVec.ofNat 32 (a.val / 64) ≠ BitVec.ofNat 32 (b.val / 64) := fun e => h (by
      have := congrArg BitVec.toNat e
      simp only [BitVec.toNat_ofNat] at this
      omega)
    have hb : (BitVec.ofNat 32 (a.val / 64) == BitVec.ofNat 32 (b.val / 64)) = false := beq_eq_false_iff_ne.2 hne
    simp only [IntOp.cmpi, Scalar.select, hb]
    rfl

section Weights

variable (x4 x5 x6 : B) (i : Fin 512) (k : Fin 256)

theorem weight0_apply : k0_pay16 x4 x5 x6 (ix2 i k) = Ideal.div (Ideal.exp (x4 (ix2 i k) - max (max (x4 (ix2 i k)) (x5 (ix2 i k))) (x6 (ix2 i k))))
      (Ideal.exp (x4 (ix2 i k) - max (max (x4 (ix2 i k)) (x5 (ix2 i k))) (x6 (ix2 i k))) +
          Ideal.exp (x5 (ix2 i k) - max (max (x4 (ix2 i k)) (x5 (ix2 i k))) (x6 (ix2 i k))) +
        Ideal.exp (x6 (ix2 i k) - max (max (x4 (ix2 i k)) (x5 (ix2 i k))) (x6 (ix2 i k)))) := by
  unfold k0_pay16 k0_pay15 k0_pay12 k0_pay13 k0_pay14 k0_pay11
  pointwise

theorem weight1_apply : k0_pay17 x4 x5 x6 (ix2 i k) = Ideal.div (Ideal.exp (x5 (ix2 i k) - max (max (x4 (ix2 i k)) (x5 (ix2 i k))) (x6 (ix2 i k))))
      (Ideal.exp (x4 (ix2 i k) - max (max (x4 (ix2 i k)) (x5 (ix2 i k))) (x6 (ix2 i k))) +
          Ideal.exp (x5 (ix2 i k) - max (max (x4 (ix2 i k)) (x5 (ix2 i k))) (x6 (ix2 i k))) +
        Ideal.exp (x6 (ix2 i k) - max (max (x4 (ix2 i k)) (x5 (ix2 i k))) (x6 (ix2 i k)))) := by
  unfold k0_pay17 k0_pay15 k0_pay12 k0_pay13 k0_pay14 k0_pay11
  pointwise

theorem weight2_apply : k0_pay18 x4 x5 x6 (ix2 i k) = Ideal.div (Ideal.exp (x6 (ix2 i k) - max (max (x4 (ix2 i k)) (x5 (ix2 i k))) (x6 (ix2 i k))))
      (Ideal.exp (x4 (ix2 i k) - max (max (x4 (ix2 i k)) (x5 (ix2 i k))) (x6 (ix2 i k))) +
          Ideal.exp (x5 (ix2 i k) - max (max (x4 (ix2 i k)) (x5 (ix2 i k))) (x6 (ix2 i k))) +
        Ideal.exp (x6 (ix2 i k) - max (max (x4 (ix2 i k)) (x5 (ix2 i k))) (x6 (ix2 i k)))) := by
  unfold k0_pay18 k0_pay15 k0_pay12 k0_pay13 k0_pay14 k0_pay11
  pointwise

end Weights

theorem zeros2 : (![0, 0] : Fin 2 → ℕ) = fun _ => 0 := by funext a; fin_cases a <;> rfl

theorem whole_stored (w : FVec Ideal S512x768 .f32) : View.canon (Val := Elt Ideal) (s := S512x768) (e := .f32) [⟨r0_1, w⟩] = w :=
  View.canon_unit_zero (Val := Elt Ideal) (S := S512x768) (e := .f32) zeros2 inb_S512x768_S512x768_0_0 w

theorem whole_loaded (x : B) : View.ld (Val := Elt Ideal) (S := S512x256) (e' := .f32) x r0_0 = x :=
  View.ld_unit_zero (Val := Elt Ideal) (S := S512x256) (e := .f32) zeros2 inb_S512x256_S512x256_0_0 x

abbrev zeros : B := broadcast S512x256 (Scalar.ofBits (F := Ideal) .f32 0x00000000#32)

/-- Three blocks side by side, at a column of the `g`-th. -/
theorem beside (x : Fin 3 → B) (g : Fin 3) (i : Fin 512) (k : Fin 256) :
    concatenate S512x768 1 [⟨S512x256, x 0⟩, ⟨S512x256, x 1⟩, ⟨S512x256, x 2⟩] concatenates_S512x256_S512x256_S512x256_S512x768_d1
      (ix2 i (⟨256 * g.val + k.val, by omega⟩ : Fin 768)) = x g (ix2 i k) := by
  have hk := k.isLt
  fin_cases g
  · pointwise [hk]
  · pointwise [hk]
  · pointwise [hk]
    rw [dif_neg (by omega), dif_neg (by omega)]
    exact congrArg (x 2) (congrArg (ix2 i) (Fin.ext (by show 512 + k.val - 256 - 256 = k.val; omega)))

theorem max_real (a b : ℝ) : max (a : EReal) (b : EReal) = ((max a b : ℝ) : EReal) := (EReal.coe_strictMono.monotone.map_max).symm

/-- The weights of three groups whose log-sums are `l`: their exponentials over the sum. -/
def share (l : Fin 3 → ℝ) (g : Fin 3) : ℝ := Real.exp (l g) / ∑ x, Real.exp (l x)

theorem share_shift (l : Fin 3 → ℝ) (g : Fin 3) (μ : ℝ) :
    Ideal.div (Ideal.exp (((l g : ℝ) : EReal) - (μ : EReal))) (Ideal.exp (((l 0 : ℝ) : EReal) - (μ : EReal)) + Ideal.exp (((l 1 : ℝ) : EReal) - (μ : EReal)) + Ideal.exp (((l 2 : ℝ) : EReal) - (μ : EReal)))
      = ((share l g : ℝ) : EReal) := by
  simp only [← EReal.coe_sub, Ideal.exp_coe, ← EReal.coe_add]
  rw [Ideal.div_coe (by positivity), ← EReal.coe_mul]
  unfold share
  simp only [Fin.sum_univ_three, Real.exp_sub]
  congr 1
  have := Real.exp_pos μ
  field_simp

/-- A sum of a real row's three parts against a table of ones and zeros is the row's sum. -/
theorem three_parts (f : Fin 256 → ℝ) (h : Fin 256 → EReal) (k : Fin 256) (hh : ∀ x : Fin 256, h x = if x.val / 64 = k.val / 64 then 1 else 0) :
    ∑ x, ((f x : ℝ) : EReal) * h x + ∑ x, (((f x : ℝ) : EReal) - ((f x : ℝ) : EReal)) * h x
      + ∑ x, ((((f x : ℝ) : EReal) - ((f x : ℝ) : EReal)) - (((f x : ℝ) : EReal) - ((f x : ℝ) : EReal))) * h x
      = ((∑ x, (if x.val / 64 = k.val / 64 then f x else 0) : ℝ) : EReal) := by
  have e1 : ∑ x, (((f x : ℝ) : EReal) - ((f x : ℝ) : EReal)) * h x = 0 :=
    Finset.sum_eq_zero fun x _ => by rw [← EReal.coe_sub, sub_self, EReal.coe_zero, zero_mul]
  have e2 : ∑ x, ((((f x : ℝ) : EReal) - ((f x : ℝ) : EReal)) - (((f x : ℝ) : EReal) - ((f x : ℝ) : EReal))) * h x = 0 :=
    Finset.sum_eq_zero fun x _ => by rw [← EReal.coe_sub, sub_self, ← EReal.coe_sub, sub_self, EReal.coe_zero, zero_mul]
  rw [e1, e2, add_zero, add_zero, ← Lift.coe_sum]
  refine Finset.sum_congr rfl fun x _ => ?_
  rw [hh]
  split_ifs
  · rw [mul_one]
  · rw [mul_zero, EReal.coe_zero]

/-- A block's real numbers: the cotangent, the groups' outputs and their log-sums. -/
structure Reals where
  d : Fin 512 → Fin 256 → ℝ
  o : Fin 3 → Fin 512 → Fin 256 → ℝ
  l : Fin 3 → Fin 512 → Fin 256 → ℝ

namespace Reals

variable (T : Reals) (g : Fin 3) (i : Fin 512) (k : Fin 256)

def w : ℝ := share (fun g => T.l g i k) g
def pull : ℝ := ∑ x : Fin 256, if x.val / 64 = k.val / 64 then T.d i x * T.o g i x else 0
def mean : ℝ := T.w 0 i k * T.pull 0 i k + T.w 1 i k * T.pull 1 i k + T.w 2 i k * T.pull 2 i k

end Reals

/-- The seven blocks hold these numbers. -/
structure Given (T : Reals) (x0 x1 x2 x3 x4 x5 x6 : B) : Prop where
  d : ∀ i k, x0 (ix2 i k) = ((T.d i k : ℝ) : EReal)
  o0 : ∀ i k, x1 (ix2 i k) = ((T.o 0 i k : ℝ) : EReal)
  o1 : ∀ i k, x2 (ix2 i k) = ((T.o 1 i k : ℝ) : EReal)
  o2 : ∀ i k, x3 (ix2 i k) = ((T.o 2 i k : ℝ) : EReal)
  l0 : ∀ i k, x4 (ix2 i k) = ((T.l 0 i k : ℝ) : EReal)
  l1 : ∀ i k, x5 (ix2 i k) = ((T.l 1 i k : ℝ) : EReal)
  l2 : ∀ i k, x6 (ix2 i k) = ((T.l 2 i k : ℝ) : EReal)

section Block

variable {T : Reals} {x0 x1 x2 x3 x4 x5 x6 : B} (G : Given T x0 x1 x2 x3 x4 x5 x6) (i : Fin 512) (k : Fin 256)
include G

theorem weight0_real : k0_pay16 x4 x5 x6 (ix2 i k) = ((T.w 0 i k : ℝ) : EReal) := by
  rw [weight0_apply, G.l0, G.l1, G.l2, max_real, max_real]
  exact share_shift (fun g => T.l g i k) 0 _

theorem weight1_real : k0_pay17 x4 x5 x6 (ix2 i k) = ((T.w 1 i k : ℝ) : EReal) := by
  rw [weight1_apply, G.l0, G.l1, G.l2, max_real, max_real]
  exact share_shift (fun g => T.l g i k) 1 _

theorem weight2_real : k0_pay18 x4 x5 x6 (ix2 i k) = ((T.w 2 i k : ℝ) : EReal) := by
  rw [weight2_apply, G.l0, G.l1, G.l2, max_real, max_real]
  exact share_shift (fun g => T.l g i k) 2 _

theorem mean_real : k0_pay24 x0 x2 x3 (k0_pay10 (F := Ideal) k0_pay9) (k0_pay16 x4 x5 x6) (k0_pay17 x4 x5 x6) (k0_pay18 x4 x5 x6)
    (k0_pay20 x0 x1) (k0_pay22 x0 x1) (k0_pay23 x0 x1) (ix2 i k) = ((T.mean i k : ℝ) : EReal) := by
  have hp : ∀ g, ∑ x, (((T.d i x * T.o g i x : ℝ)) : EReal) * (k0_pay10 (F := Ideal) k0_pay9 : FVec Ideal S256x256 .bf16) (ix2 x k) + ∑ x, (((T.d i x * T.o g i x : ℝ) : EReal) - ((T.d i x * T.o g i x : ℝ) : EReal)) * (k0_pay10 (F := Ideal) k0_pay9 : FVec Ideal S256x256 .bf16) (ix2 x k)
      + ∑ x, ((((T.d i x * T.o g i x : ℝ) : EReal) - ((T.d i x * T.o g i x : ℝ) : EReal)) - (((T.d i x * T.o g i x : ℝ) : EReal) - ((T.d i x * T.o g i x : ℝ) : EReal))) * (k0_pay10 (F := Ideal) k0_pay9 : FVec Ideal S256x256 .bf16) (ix2 x k)
      = ((T.pull g i k : ℝ) : EReal) := fun g => three_parts _ _ k fun x => same_head x k
  have hw0 := weight0_real G i k
  have hw1 := weight1_real G i k
  have hw2 := weight2_real G i k
  have h0 := hp 0
  have h1 := hp 1
  have h2 := hp 2
  generalize (k0_pay10 (F := Ideal) k0_pay9 : FVec Ideal S256x256 .bf16) = h at h0 h1 h2 ⊢
  generalize k0_pay16 x4 x5 x6 = w0 at hw0 ⊢
  generalize k0_pay17 x4 x5 x6 = w1 at hw1 ⊢
  generalize k0_pay18 x4 x5 x6 = w2 at hw2 ⊢
  unfold k0_pay24 k0_pay23 k0_pay22 k0_pay21 k0_pay20 k0_pay19
  pointwise
  simp only [G.d, G.o0, G.o1, G.o2, ← EReal.coe_mul]
  rw [h0, h1, h2, hw0, hw1, hw2]
  simp only [← EReal.coe_mul, ← EReal.coe_add]
  rfl

/-- The first output block: each group's weight times the cotangent, side by side. -/
theorem spread_real (g : Fin 3) : (out0_7 (F := Ideal) x0 x1 x2 x3 x4 x5 x6 : FVec Ideal S512x768 .f32) (ix2 i (⟨256 * g.val + k.val, by omega⟩ : Fin 768))
    = ((T.w g i k * T.d i k : ℝ) : EReal) := by
  have hw0 := weight0_real G i k
  have hw1 := weight1_real G i k
  have hw2 := weight2_real G i k
  unfold out0_7 k0_pay38 k0_pay37 k0_pay36 k0_pay34 k0_pay33 k0_pay32
  simp only [whole_stored, whole_loaded, k0_pay6, k0_pay7, k0_pay8, shapeCast_self]
  generalize k0_pay16 x4 x5 x6 = w0 at hw0 ⊢
  generalize k0_pay17 x4 x5 x6 = w1 at hw1 ⊢
  generalize k0_pay18 x4 x5 x6 = w2 at hw2 ⊢
  unfold k0_pay1 k0_pay25
  simp only [shapeCast_self]
  refine (beside ![mulf w0 x0, mulf w1 x0, mulf w2 x0] g i k).trans ?_
  have mul : ∀ w d : ℝ, (w : EReal) * (d : EReal) = ((w * d : ℝ) : EReal) := fun w d => (EReal.coe_mul w d).symm
  fin_cases g
  · exact (congrArg₂ (· * ·) hw0 (G.d i k)).trans (mul _ _)
  · exact (congrArg₂ (· * ·) hw1 (G.d i k)).trans (mul _ _)
  · exact (congrArg₂ (· * ·) hw2 (G.d i k)).trans (mul _ _)

theorem slope_real (g : Fin 3) : (out0_8 (F := Ideal) x0 x1 x2 x3 x4 x5 x6 : FVec Ideal S512x768 .f32) (ix2 i (⟨256 * g.val + k.val, by omega⟩ : Fin 768))
    = ((-(T.w g i k * T.mean i k) : ℝ) : EReal) := by
  have hw0 := weight0_real G i k
  have hw1 := weight1_real G i k
  have hw2 := weight2_real G i k
  have hm := mean_real G i k
  unfold out0_8 k0_pay41 k0_pay40 k0_pay39 k0_pay38 k0_pay37 k0_pay36 k0_pay35 k0_pay34 k0_pay33 k0_pay32 k0_pay31 k0_pay30 k0_pay29
  simp only [whole_stored, whole_loaded, k0_pay3, k0_pay4, k0_pay5, k0_pay6, k0_pay7, k0_pay8, shapeCast_self]
  unfold k0_pay2 k0_pay26 k0_pay27 k0_pay28
  generalize k0_pay24 (F := Ideal) _ _ _ _ _ _ _ _ _ _ = M at hm ⊢
  generalize k0_pay16 x4 x5 x6 = w0 at hw0 ⊢
  generalize k0_pay17 x4 x5 x6 = w1 at hw1 ⊢
  generalize k0_pay18 x4 x5 x6 = w2 at hw2 ⊢
  have neg : ∀ w μ : ℝ, (0 - (w : EReal)) * (μ : EReal) = ((-(w * μ) : ℝ) : EReal) := fun w μ => by
    rw [← EReal.coe_zero, ← EReal.coe_sub, ← EReal.coe_mul]; congr 1; ring
  simp only [shapeCast_self]
  refine (beside ![(mulf (subf zeros w0) M : B), (mulf (subf zeros w1) M : B), (mulf (subf zeros w2) M : B)] g i k).trans ?_
  have at0 : ∀ w : B, (mulf (subf zeros w) M : B) (ix2 i k) = (0 - w (ix2 i k)) * M (ix2 i k) := fun w => by unfold zeros; pointwise
  fin_cases g
  · exact (at0 w0).trans ((congrArg₂ (fun a b => (0 - a) * b) hw0 hm).trans (neg _ _))
  · exact (at0 w1).trans ((congrArg₂ (fun a b => (0 - a) * b) hw1 hm).trans (neg _ _))
  · exact (at0 w2).trans ((congrArg₂ (fun a b => (0 - a) * b) hw2 hm).trans (neg _ _))

end Block

end Cert.DilCombineIdeal.Comb

end
-- ==== Proof.Comb.Parts.lean ====
/- The derivative of the groups' combination, read stage by stage and index by index. -/
module

public import proofs.«01_k».proof.Proof.Gen.DilCombineRefIdeal.Run
public import proofs.«01_k».proof.Proof.Lift
public import Idealize.ShloMosaic.Lib.Pointwise
public import Idealize.ShloMosaic.Lib.Claim

@[expose] public section

set_option maxRecDepth 16384

noncomputable section

namespace Cert.DilCombineRefIdeal.Parts

open Cert.DilCombineRefIdeal Cert.DilCombineRefIdeal.Gen Idealize.ShloMosaic Idealize.ShloMosaic.TcCoe Idealize.SL.Sem

abbrev Outs : Type := FVec Ideal S3x2048x4x64 .f32
abbrev Sums : Type := FVec Ideal S3x2048x4 .f32
abbrev Cot : Type := FVec Ideal S2048x256 .f32

def zero : FVec Ideal S_ .f32 := constant S_ .f32 0x00000000#32

/-- The largest of a row's log-sums. -/
def top (l : Sums) : FVec Ideal S2048x4 .f32 :=
  maximumf (broadcastInDim S2048x4 ![] bcast_S_S2048x4 (constant S_ .f32 0xFF800000#32)) (Host.reduce FloatOps.maximumf l (constant S_ .f32 0xFF800000#32) reducesTo_S3x2048x4_S2048x4_d0 h_S_)

/-- Each log-sum's exponential, the largest taken off. -/
def raised (l : Sums) : Sums :=
  Host.exp (subf l (broadcastInDim S3x2048x4 ![0, 1, 2] bcast_S1x2048x4_S3x2048x4_0_1_2 (broadcastInDim S1x2048x4 ![1, 2] bcast_S2048x4_S1x2048x4_1_2 (top l))))

def total (e : Sums) : FVec Ideal S1x2048x4 .f32 :=
  broadcastInDim S1x2048x4 ![1, 2] bcast_S2048x4_S1x2048x4_1_2 (Host.reduceAdd e zero reducesTo_S3x2048x4_S2048x4_d0 h_S_)

def along (t : FVec Ideal S1x2048x4 .f32) : Sums := broadcastInDim S3x2048x4 ![0, 1, 2] bcast_S1x2048x4_S3x2048x4_0_1_2 t

/-- The cotangent, a copy for each group. -/
def copies (d : Cot) : Outs :=
  broadcastInDim S3x2048x4x64 ![1, 2, 3] bcast_S2048x4x64_S3x2048x4x64_1_2_3 (shapeCast S2048x4x64 d shapeCasts_S2048x256_S2048x4x64)

def dOuts (e : Sums) (d : Cot) : Outs :=
  mulf (broadcastInDim S3x2048x4x64 ![0, 1, 2, 3] bcast_S3x2048x4x1_S3x2048x4x64_0_1_2_3 (broadcastInDim S3x2048x4x1 ![0, 1, 2] bcast_S3x2048x4_S3x2048x4x1_0_1_2 (Host.divf e (along (total e)))))
    (copies d)

/-- The pull of each weight: the cotangent's products with the group's output, summed over a head. -/
def pulls (o : Outs) (d : Cot) : Sums :=
  Host.reduceAdd (shapeCast S3x2048x4x1 (Host.reduceAdd (mulf (copies d) o) zero reducesTo_S3x2048x4x64_S3x2048x4_d3 h_S_) shapeCasts_S3x2048x4_S3x2048x4x1) zero
    reducesTo_S3x2048x4x1_S3x2048x4_d3 h_S_

def inverse (e : Sums) : FVec Ideal S1x2048x4 .f32 :=
  Host.divf (broadcastInDim S1x2048x4 ![] bcast_S_S1x2048x4 (constant S_ .f32 0x3F800000#32)) (mulf (total e) (total e))

def drift (e : Sums) (p : Sums) : FVec Ideal S1x2048x4 .f32 :=
  Host.negf (shapeCast S1x2048x4 (Host.reduceAdd (mulf (mulf p (along (inverse e))) e) zero reducesTo_S3x2048x4_S2048x4_d0 h_S_) shapeCasts_S2048x4_S1x2048x4)

def dSums (e : Sums) (p : Sums) : Sums :=
  mulf (addf (Host.divf p (along (total e))) (broadcastInDim S3x2048x4 ![1, 2] bcast_S2048x4_S3x2048x4_1_2 (Host.reduceAdd (drift e p) zero reducesTo_S1x2048x4_S2048x4_d0 h_S_))) e

theorem infinity_word : Ideal.ofBits .f32 0xFF800000#32 = ⊥ := by simp [Ideal.ofBits, Ideal.ieee]

variable (m : (ℓ : Loc nD τ sig) → Buf (Elt Ideal) ℓ) (c : Dev nD)

theorem out_sums : Value.res_out1 (F := Ideal) m c = dSums (raised (m ((c.tc : Thread nD τ).loc main_arg1)))
    (pulls (m ((c.tc : Thread nD τ).loc main_arg0)) (m ((c.tc : Thread nD τ).loc main_arg2))) := by
  sl_kernel_rfl

/-- The arguments as real numbers. -/
structure Args where
  d : Fin 2048 → Fin 4 → Fin 64 → ℝ
  o : Fin 3 → Fin 2048 → Fin 4 → Fin 64 → ℝ
  l : Fin 3 → Fin 2048 → Fin 4 → ℝ

structure Are (A : Args) (o : Outs) (l : Sums) (d : Cot) : Prop where
  d : ∀ i h k, d (ix2 i (⟨64 * h.val + k.val, by omega⟩ : Fin 256)) = ((A.d i h k : ℝ) : EReal)
  o : ∀ g i h k, o (ix4 g i h k) = ((A.o g i h k : ℝ) : EReal)
  l : ∀ g i h, l (ix3 g i h) = ((A.l g i h : ℝ) : EReal)

variable (A : Args)

def Args.share (g : Fin 3) (i : Fin 2048) (h : Fin 4) : ℝ := Real.exp (A.l g i h) / ∑ x, Real.exp (A.l x i h)
def Args.pull (g : Fin 3) (i : Fin 2048) (h : Fin 4) : ℝ := ∑ k, A.d i h k * A.o g i h k
def Args.mean (i : Fin 2048) (h : Fin 4) : ℝ := ∑ g, A.share g i h * A.pull g i h

/-- The shares do not change where all log-sums are shifted. -/
theorem Args.share_eq (g : Fin 3) (i : Fin 2048) (h : Fin 4) (μ : ℝ) : A.share g i h = Real.exp (A.l g i h - μ) / ∑ x, Real.exp (A.l x i h - μ) := by
  unfold Args.share
  simp only [Real.exp_sub, ← Finset.sum_div]
  have := Real.exp_pos μ
  have : (0 : ℝ) < ∑ x, Real.exp (A.l x i h) := by positivity
  field_simp

variable {A} {o : Outs} {l : Sums} {d : Cot} (H : Are A o l d)
include H

theorem top_real (i : Fin 2048) (h : Fin 4) : ∃ μ : ℝ, top l (ix2 i h) = ((μ : ℝ) : EReal) := by
  unfold top
  pointwise
  rw [infinity_word]
  have lt : Finset.fold max (⊥ : EReal) (fun x => l (ix3 x i h)) Finset.univ < ⊤ := (Finset.fold_max_lt _).2 ⟨bot_lt_top, fun x _ => by rw [H.l]; exact EReal.coe_lt_top _⟩
  have gt : ⊥ < Finset.fold max (⊥ : EReal) (fun x => l (ix3 x i h)) Finset.univ :=
    (Finset.lt_fold_max _).2 (.inr ⟨0, Finset.mem_univ _, by rw [H.l]; exact EReal.bot_lt_coe _⟩)
  exact ⟨_, (max_eq_right bot_le).trans (EReal.coe_toReal lt.ne gt.ne').symm⟩

theorem copies_real (g : Fin 3) (i : Fin 2048) (h : Fin 4) (k : Fin 64) : copies d (ix4 g i h k) = ((A.d i h k : ℝ) : EReal) := by
  unfold copies
  pointwise
  exact (congrArg d (congrArg (ix2 i) (Fin.ext (by show h.val * 64 + k.val = 64 * h.val + k.val; omega)))).trans (H.d i h k)

theorem pulls_real (g : Fin 3) (i : Fin 2048) (h : Fin 4) : pulls o d (ix3 g i h) = ((A.pull g i h : ℝ) : EReal) := by
  unfold pulls zero
  have hc := copies_real H
  generalize copies d = D at hc ⊢
  pointwise
  rw [Fin.sum_univ_one]
  refine Eq.trans (Finset.sum_congr rfl fun k _ => ?_) (Lift.coe_sum _ _)
  rw [hc, H.o, ← EReal.coe_mul]

theorem raised_real (i : Fin 2048) (h : Fin 4) : ∃ μ : ℝ, ∀ g, raised l (ix3 g i h) = ((Real.exp (A.l g i h - μ) : ℝ) : EReal) := by
  obtain ⟨μ, hμ⟩ := top_real H i h
  refine ⟨μ, fun g => ?_⟩
  unfold raised
  generalize top l = T at hμ ⊢
  pointwise
  rw [hμ, H.l, ← EReal.coe_sub, Ideal.exp_coe]

omit H in
/-- The stages after the exponentials, where these are real. -/
theorem along_real (e : Sums) (r : Fin 3 → ℝ) (i : Fin 2048) (h : Fin 4) (he : ∀ g, e (ix3 g i h) = ((r g : ℝ) : EReal)) (g : Fin 3) :
    along (total e) (ix3 g i h) = ((∑ x, r x : ℝ) : EReal) := by
  unfold along total zero
  pointwise
  rw [← Lift.coe_sum]
  exact Finset.sum_congr rfl fun x _ => he x

theorem dOuts_real (g : Fin 3) (i : Fin 2048) (h : Fin 4) (k : Fin 64) :
    dOuts (raised l) d (ix4 g i h k) = ((A.share g i h * A.d i h k : ℝ) : EReal) := by
  obtain ⟨μ, he⟩ := raised_real H i h
  have ha := along_real (raised l) _ i h he
  have hc := copies_real H g i h k
  unfold dOuts
  generalize copies d = D at hc ⊢
  generalize along (total (raised l)) = S at ha ⊢
  generalize raised l = e at he ⊢
  pointwise
  rw [ha, he, hc, Ideal.div_coe (by positivity), ← EReal.coe_mul, ← EReal.coe_mul]
  rw [A.share_eq g i h μ]
  simp only [div_eq_mul_inv, one_mul]

theorem dSums_real (g : Fin 3) (i : Fin 2048) (h : Fin 4) :
    dSums (raised l) (pulls o d) (ix3 g i h) = ((A.share g i h * (A.pull g i h - A.mean i h) : ℝ) : EReal) := by
  obtain ⟨μ, he⟩ := raised_real H i h
  have ha := along_real (raised l) _ i h he
  have hp := fun g => pulls_real H g i h
  have hi : ∀ g, along (inverse (raised l)) (ix3 g i h) = ((1 / ((∑ x, Real.exp (A.l x i h - μ)) * (∑ x, Real.exp (A.l x i h - μ))) : ℝ) : EReal) := fun g => by
    have hz := ha g
    unfold along at hz ⊢
    unfold inverse
    generalize total (raised l) = Z at hz ⊢
    pointwise at hz
    pointwise
    rw [hz, ← EReal.coe_mul, ← EReal.coe_one, Ideal.div_coe (by positivity), ← EReal.coe_mul]
    simp only [one_div, one_mul]
  have hs : ∀ g, A.share g i h = Real.exp (A.l g i h - μ) / ∑ x, Real.exp (A.l x i h - μ) := fun g => A.share_eq g i h μ
  unfold dSums drift zero
  generalize along (total (raised l)) = S at ha ⊢
  generalize along (inverse (raised l)) = V at hi ⊢
  generalize raised l = e at he ⊢
  generalize pulls o d = P at hp ⊢
  pointwise
  simp only [Fin.sum_univ_one, Fin.sum_univ_three, ha, he, hp, hi, Args.mean, hs]
  rw [Ideal.div_coe (by positivity)]
  simp only [← EReal.coe_mul, ← EReal.coe_add, ← EReal.coe_neg]
  congr 1
  generalize Real.exp (A.l g i h - μ) = y
  have h0 := Real.exp_pos (A.l 0 i h - μ)
  have h1 := Real.exp_pos (A.l 1 i h - μ)
  have h2 := Real.exp_pos (A.l 2 i h - μ)
  generalize Real.exp (A.l 0 i h - μ) = r0 at h0 ⊢
  generalize Real.exp (A.l 1 i h - μ) = r1 at h1 ⊢
  generalize Real.exp (A.l 2 i h - μ) = r2 at h2 ⊢
  field_simp
  ring

end Cert.DilCombineRefIdeal.Parts

end
-- ==== Proof.Comb.Arrays.lean ====
/- What the combination's backward call leaves in its two arrays, and what the host lines around it give and take. -/
module

public import proofs.«01_k».proof.Proof.Comb.Block
public import proofs.«01_k».proof.Proof.Comb.Parts

@[expose] public section

set_option maxRecDepth 16384

noncomputable section

namespace Cert.DilCombineIdeal.Comb

open Cert.DilCombineIdeal.Gen
open Idealize.ShloMosaic Idealize.ShloMosaic.TcCoe Idealize.ShloMosaic.StableHlo Idealize.SL.Sem
open Cert.DilCombineRefIdeal.Parts (Args Are Outs Sums Cot)

abbrev Wide : Type := FVec Ideal S2048x768 .f32

variable (m : (ℓ : Loc nD τ sig) → Buf (Elt Ideal) ℓ) (c : Dev nD)

/-- The groups' log-sums, a head's number in all its columns. -/
def sumColumns (l : Sums) : Wide :=
  shapeCast S2048x768 (broadcastInDim S2048x12x64 ![0, 1] bcast_S2048x12_S2048x12x64_0_1
    (shapeCast S2048x12 (transpose S2048x3x4 [1, 0, 2] l transposes_S3x2048x4_S2048x3x4_1_0_2) shapeCasts_S2048x3x4_S2048x12)) shapeCasts_S2048x12x64_S2048x768

/-- The groups' outputs, side by side. -/
def outColumns (o : Outs) : Wide :=
  shapeCast S2048x768 (transpose S2048x3x4x64 [1, 0, 2, 3] o transposes_S3x2048x4x64_S2048x3x4x64_1_0_2_3) shapeCasts_S2048x3x4x64_S2048x768

theorem V_sums : (V m c main_v3 : Wide) = sumColumns (m ((c.tc : Thread nD τ).loc main_arg1)) := by
  simp only [V, V0, hostOps0, List.flatten_cons, List.flatten_nil, List.append_nil, List.cons_append, List.nil_append,
    TRef.nullary, TRef.ternary, TRef.unary, TRef.binary, TRef.toBuf, TRef.ofBuf, cast_eq]
  after_results_simp <;> rfl

theorem V_outs : (V m c main_v5 : Wide) = outColumns (m ((c.tc : Thread nD τ).loc main_arg0)) := by
  simp only [V, V0, hostOps0, List.flatten_cons, List.flatten_nil, List.append_nil, List.cons_append, List.nil_append,
    TRef.nullary, TRef.ternary, TRef.unary, TRef.binary, TRef.toBuf, TRef.ofBuf, cast_eq]
  after_results_simp <;> rfl

theorem V_cot : (V m c main_arg2 : Cot) = m ((c.tc : Thread nD τ).loc main_arg2) := by
  simp only [V, V0, hostOps0, List.flatten_cons, List.flatten_nil, List.append_nil, List.cons_append, List.nil_append,
    TRef.nullary, TRef.ternary, TRef.unary, TRef.binary, TRef.toBuf, TRef.ofBuf, cast_eq]
  after_results_simp <;> rfl

/-- The column of a group's head. -/
abbrev colOf (g : Fin 3) (h : Fin 4) (k : Fin 64) : Fin 768 := ⟨256 * g.val + (64 * h.val + k.val), by omega⟩

theorem sumColumns_apply (l : Sums) (i : Fin 2048) (g : Fin 3) (h : Fin 4) (k : Fin 64) : sumColumns l (ix2 i (colOf g h k)) = l (ix3 g i h) := by
  unfold sumColumns
  pointwise

theorem outColumns_apply (o : Outs) (i : Fin 2048) (g : Fin 3) (h : Fin 4) (k : Fin 64) : outColumns o (ix2 i (colOf g h k)) = o (ix4 g i h k) := by
  unfold outColumns
  pointwise
  have e1 : (256 * g.val + (64 * h.val + k.val)) / 256 = g.val := by omega
  have e2 : (256 * g.val + (64 * h.val + k.val)) / 64 % 4 = h.val := by omega
  have e3 : (256 * g.val + (64 * h.val + k.val)) % 64 = k.val := by omega
  simp only [e1, e2, e3]

section Lines

variable (W : Valuation τ sig (Elt Ideal))

def groups (x : Wide) : Outs :=
  transpose S3x2048x4x64 [1, 0, 2, 3] (shapeCast S2048x3x4x64 x shapeCasts_S2048x768_S2048x3x4x64) transposes_S2048x3x4x64_S3x2048x4x64_1_0_2_3

def sums (x y : Wide) (o : Outs) : Sums :=
  addf (shapeCast S3x2048x4 (extractStridedSlice S3x2048x4x1 ![0, 0, 0, 0] (groups y) slices_S3x2048x4x64_S3x2048x4x1_0_0_0_0) shapeCasts_S3x2048x4x1_S3x2048x4)
    (Host.reduceAdd (mulf (groups x) o) (constant S_ .f32 0x00000000#32) reducesTo_S3x2048x4x64_S3x2048x4_d3 h_S_)

theorem tail_outs : (after hostOps1 W (Proc.devRef .tc main_v8) : Outs) = groups (W (Proc.devRef .tc main_v6_0)) := by
  simp only [hostOps1]
  after_results_simp <;> rfl

theorem tail_sums : (after hostOps1 W (Proc.devRef .tc main_v15) : Sums) = sums (W (Proc.devRef .tc main_v6_0)) (W (Proc.devRef .tc main_v6_1)) (W (Proc.devRef .tc main_arg0)) := by
  simp only [hostOps1]
  after_results_simp <;> rfl

end Lines

theorem groups_apply (x : Wide) (g : Fin 3) (i : Fin 2048) (h : Fin 4) (k : Fin 64) : groups x (ix4 g i h k) = x (ix2 i (colOf g h k)) := by
  unfold groups
  pointwise
  exact congrArg x (congrArg (ix2 i) (Fin.ext (by show g.val * 256 + h.val * 64 + k.val = 256 * g.val + (64 * h.val + k.val); omega)))

theorem sums_apply (x y : Wide) (o : Outs) (g : Fin 3) (i : Fin 2048) (h : Fin 4) :
    sums x y o (ix3 g i h) = y (ix2 i (colOf g h 0)) + ∑ k : Fin 64, x (ix2 i (colOf g h k)) * o (ix4 g i h k) := by
  have hx := groups_apply x
  have hy := groups_apply y
  unfold sums
  generalize groups x = X at hx ⊢
  generalize groups y = Y at hy ⊢
  pointwise
  rw [hy]
  simp only [hx]

theorem index : ∀ t : Fin cfg0.N, win0_0.index t = ![t.val, 0] ∧ win0_1.index t = ![t.val, 0] ∧ win0_2.index t = ![t.val, 1]
    ∧ win0_3.index t = ![t.val, 2] ∧ win0_4.index t = ![t.val, 0] ∧ win0_5.index t = ![t.val, 1] ∧ win0_6.index t = ![t.val, 2]
    ∧ win0_7.index t = ![t.val, 0] ∧ win0_8.index t = ![t.val, 0] :=
  (by decide +kernel : ∀ t : Fin grid0.N, _)

abbrev rowAt (t : Fin cfg0.N) (i : Fin 512) : Fin 2048 := ⟨512 * t.val + i.val, by have := lt_of_lt_of_eq t.isLt N_0; omega⟩

section Windows

variable (t : Fin cfg0.N) (i : Fin 512) (k : Fin 256)

theorem read_cot (X : (b : Ref sig .tc) → Buf (Elt Ideal) ((c.tc : Thread nD τ).loc b)) :
    (((cfg0.win 0).blk t).view.read (Elt Ideal) (X (Pipeline.arrRef spec0 0)) : B) (ix2 i k) = (X main_arg2 : Cot) (ix2 (rowAt t i) (k)) := by
  refine congrArg (X main_arg2 : Cot) (?_ : ((cfg0.win 0).blk t).view.emb (ix2 i k) = _)
  funext a
  apply Fin.ext
  refine (Pipeline.Window.rect_emb_val win0_0 t (ix2 i k) a).trans ?_
  rw [(index t).1]
  fin_cases a
  · show t.val * 512 + i.val = 512 * t.val + i.val
    omega
  · show 0 * 256 + k.val = k.val
    omega

theorem read_outs0 (X : (b : Ref sig .tc) → Buf (Elt Ideal) ((c.tc : Thread nD τ).loc b)) :
    (((cfg0.win 1).blk t).view.read (Elt Ideal) (X (Pipeline.arrRef spec0 1)) : B) (ix2 i k) = (X main_v5 : Wide) (ix2 (rowAt t i) (⟨256 * 0 + k.val, by omega⟩ : Fin 768)) := by
  refine congrArg (X main_v5 : Wide) (?_ : ((cfg0.win 1).blk t).view.emb (ix2 i k) = _)
  funext a
  apply Fin.ext
  refine (Pipeline.Window.rect_emb_val win0_1 t (ix2 i k) a).trans ?_
  rw [(index t).2.1]
  fin_cases a
  · show t.val * 512 + i.val = 512 * t.val + i.val
    omega
  · show 0 * 256 + k.val = 256 * 0 + k.val
    omega

theorem read_outs1 (X : (b : Ref sig .tc) → Buf (Elt Ideal) ((c.tc : Thread nD τ).loc b)) :
    (((cfg0.win 2).blk t).view.read (Elt Ideal) (X (Pipeline.arrRef spec0 2)) : B) (ix2 i k) = (X main_v5 : Wide) (ix2 (rowAt t i) (⟨256 * 1 + k.val, by omega⟩ : Fin 768)) := by
  refine congrArg (X main_v5 : Wide) (?_ : ((cfg0.win 2).blk t).view.emb (ix2 i k) = _)
  funext a
  apply Fin.ext
  refine (Pipeline.Window.rect_emb_val win0_2 t (ix2 i k) a).trans ?_
  rw [(index t).2.2.1]
  fin_cases a
  · show t.val * 512 + i.val = 512 * t.val + i.val
    omega
  · show 1 * 256 + k.val = 256 * 1 + k.val
    omega

theorem read_outs2 (X : (b : Ref sig .tc) → Buf (Elt Ideal) ((c.tc : Thread nD τ).loc b)) :
    (((cfg0.win 3).blk t).view.read (Elt Ideal) (X (Pipeline.arrRef spec0 3)) : B) (ix2 i k) = (X main_v5 : Wide) (ix2 (rowAt t i) (⟨256 * 2 + k.val, by omega⟩ : Fin 768)) := by
  refine congrArg (X main_v5 : Wide) (?_ : ((cfg0.win 3).blk t).view.emb (ix2 i k) = _)
  funext a
  apply Fin.ext
  refine (Pipeline.Window.rect_emb_val win0_3 t (ix2 i k) a).trans ?_
  rw [(index t).2.2.2.1]
  fin_cases a
  · show t.val * 512 + i.val = 512 * t.val + i.val
    omega
  · show 2 * 256 + k.val = 256 * 2 + k.val
    omega

theorem read_sums0 (X : (b : Ref sig .tc) → Buf (Elt Ideal) ((c.tc : Thread nD τ).loc b)) :
    (((cfg0.win 4).blk t).view.read (Elt Ideal) (X (Pipeline.arrRef spec0 4)) : B) (ix2 i k) = (X main_v3 : Wide) (ix2 (rowAt t i) (⟨256 * 0 + k.val, by omega⟩ : Fin 768)) := by
  refine congrArg (X main_v3 : Wide) (?_ : ((cfg0.win 4).blk t).view.emb (ix2 i k) = _)
  funext a
  apply Fin.ext
  refine (Pipeline.Window.rect_emb_val win0_4 t (ix2 i k) a).trans ?_
  rw [(index t).2.2.2.2.1]
  fin_cases a
  · show t.val * 512 + i.val = 512 * t.val + i.val
    omega
  · show 0 * 256 + k.val = 256 * 0 + k.val
    omega

theorem read_sums1 (X : (b : Ref sig .tc) → Buf (Elt Ideal) ((c.tc : Thread nD τ).loc b)) :
    (((cfg0.win 5).blk t).view.read (Elt Ideal) (X (Pipeline.arrRef spec0 5)) : B) (ix2 i k) = (X main_v3 : Wide) (ix2 (rowAt t i) (⟨256 * 1 + k.val, by omega⟩ : Fin 768)) := by
  refine congrArg (X main_v3 : Wide) (?_ : ((cfg0.win 5).blk t).view.emb (ix2 i k) = _)
  funext a
  apply Fin.ext
  refine (Pipeline.Window.rect_emb_val win0_5 t (ix2 i k) a).trans ?_
  rw [(index t).2.2.2.2.2.1]
  fin_cases a
  · show t.val * 512 + i.val = 512 * t.val + i.val
    omega
  · show 1 * 256 + k.val = 256 * 1 + k.val
    omega

theorem read_sums2 (X : (b : Ref sig .tc) → Buf (Elt Ideal) ((c.tc : Thread nD τ).loc b)) :
    (((cfg0.win 6).blk t).view.read (Elt Ideal) (X (Pipeline.arrRef spec0 6)) : B) (ix2 i k) = (X main_v3 : Wide) (ix2 (rowAt t i) (⟨256 * 2 + k.val, by omega⟩ : Fin 768)) := by
  refine congrArg (X main_v3 : Wide) (?_ : ((cfg0.win 6).blk t).view.emb (ix2 i k) = _)
  funext a
  apply Fin.ext
  refine (Pipeline.Window.rect_emb_val win0_6 t (ix2 i k) a).trans ?_
  rw [(index t).2.2.2.2.2.2.1]
  fin_cases a
  · show t.val * 512 + i.val = 512 * t.val + i.val
    omega
  · show 2 * 256 + k.val = 256 * 2 + k.val
    omega

end Windows

/-- A column of a group as its head's column. -/
theorem col_eq (g : Fin 3) (k : Fin 256) : (⟨256 * g.val + k.val, by omega⟩ : Fin 768) = colOf g ⟨k.val / 64, by omega⟩ ⟨k.val % 64, by omega⟩ :=
  Fin.ext (by show 256 * g.val + k.val = 256 * g.val + (64 * (k.val / 64) + k.val % 64); omega)

/-- The numbers of a point's blocks. -/
def reals (A : Args) (t : Fin cfg0.N) : Reals where
  d i k := A.d (rowAt t i) ⟨k.val / 64, by omega⟩ ⟨k.val % 64, by omega⟩
  o g i k := A.o g (rowAt t i) ⟨k.val / 64, by omega⟩ ⟨k.val % 64, by omega⟩
  l g i k := A.l g (rowAt t i) ⟨k.val / 64, by omega⟩

section Given

variable {A : Args} (H : Are A (m ((c.tc : Thread nD τ).loc main_arg0)) (m ((c.tc : Thread nD τ).loc main_arg1)) (m ((c.tc : Thread nD τ).loc main_arg2)))
include H

theorem outs_real (t : Fin cfg0.N) (g : Fin 3) (i : Fin 512) (k : Fin 256) : (V m c main_v5 : Wide) (ix2 (rowAt t i) (⟨256 * g.val + k.val, by omega⟩ : Fin 768)) = (((reals A t).o g i k : ℝ) : EReal) := by
  rw [V_outs, col_eq]
  exact (outColumns_apply _ _ _ _ _).trans (H.o _ _ _ _)

theorem sums_real (t : Fin cfg0.N) (g : Fin 3) (i : Fin 512) (k : Fin 256) : (V m c main_v3 : Wide) (ix2 (rowAt t i) (⟨256 * g.val + k.val, by omega⟩ : Fin 768)) = (((reals A t).l g i k : ℝ) : EReal) := by
  rw [V_sums, col_eq]
  exact (sumColumns_apply _ _ _ _ _).trans (H.l _ _ _)

theorem cot_real (t : Fin cfg0.N) (i : Fin 512) (k : Fin 256) : (V m c main_arg2 : Cot) (ix2 (rowAt t i) k) = (((reals A t).d i k : ℝ) : EReal) := by
  rw [V_cot]
  refine (congrArg (fun x => (m ((c.tc : Thread nD τ).loc main_arg2) : Cot) (ix2 (rowAt t i) x)) (Fin.ext ?_ : k = (⟨64 * (k.val / 64) + k.val % 64, by omega⟩ : Fin 256))).trans
    (H.d (rowAt t i) ⟨k.val / 64, by omega⟩ ⟨k.val % 64, by omega⟩)
  show k.val = 64 * (k.val / 64) + k.val % 64
  omega

theorem given (t : Fin cfg0.N) : Given (reals A t) (iblk m c 0 t) (iblk m c 1 t) (iblk m c 2 t) (iblk m c 3 t) (iblk m c 4 t) (iblk m c 5 t) (iblk m c 6 t) where
  d i k := (read_cot c t i k (V m c)).trans (cot_real m c H t i k)
  o0 i k := (read_outs0 c t i k (V m c)).trans (outs_real m c H t 0 i k)
  o1 i k := (read_outs1 c t i k (V m c)).trans (outs_real m c H t 1 i k)
  o2 i k := (read_outs2 c t i k (V m c)).trans (outs_real m c H t 2 i k)
  l0 i k := (read_sums0 c t i k (V m c)).trans (sums_real m c H t 0 i k)
  l1 i k := (read_sums1 c t i k (V m c)).trans (sums_real m c H t 1 i k)
  l2 i k := (read_sums2 c t i k (V m c)).trans (sums_real m c H t 2 i k)

end Given

section Numbers

variable (A : Args) (t : Fin cfg0.N) (g : Fin 3) (i : Fin 512) (k : Fin 256)

abbrev headOf (k : Fin 256) : Fin 4 := ⟨k.val / 64, by omega⟩

theorem w_eq : (reals A t).w g i k = A.share g (rowAt t i) (headOf k) := rfl

theorem pull_eq : (reals A t).pull g i k = A.pull g (rowAt t i) (headOf k) := by
  unfold Reals.pull Args.pull
  rw [Fin.sum_univ_tiles 4 64 (rfl : 4 * 64 = 256), Finset.sum_eq_single (headOf k)]
  · refine Finset.sum_congr rfl fun x _ => ?_
    have e1 : ((headOf k).val * 64 + x.val) / 64 = k.val / 64 := by show (k.val / 64 * 64 + x.val) / 64 = k.val / 64; omega
    have e2 : ((headOf k).val * 64 + x.val) % 64 = x.val := by omega
    rw [if_pos e1]
    unfold reals
    simp only [e1, e2]
  · intro h _ ne
    refine Finset.sum_eq_zero fun x _ => if_neg fun e => ne (Fin.ext ?_)
    have e : (h.val * 64 + x.val) / 64 = k.val / 64 := e
    show h.val = k.val / 64
    omega
  · exact fun h => absurd (Finset.mem_univ _) h

theorem mean_eq : (reals A t).mean i k = A.mean (rowAt t i) (headOf k) := by
  unfold Reals.mean Args.mean
  rw [Fin.sum_univ_three]
  simp only [w_eq, pull_eq]

end Numbers

/-- The first array: each group's share of the cotangent. -/
def spreadArr (A : Args) : Wide := fun y => ((A.share ⟨(y 1).val / 256, by have : (y 1).val < 768 := (y 1).isLt; omega⟩ (y 0) ⟨(y 1).val % 256 / 64, by omega⟩
  * A.d (y 0) ⟨(y 1).val % 256 / 64, by omega⟩ ⟨(y 1).val % 256 % 64, by omega⟩ : ℝ) : EReal)

/-- The second array: minus each group's share of the mean pull. -/
def slopeArr (A : Args) : Wide := fun y => ((-(A.share ⟨(y 1).val / 256, by have : (y 1).val < 768 := (y 1).isLt; omega⟩ (y 0) ⟨(y 1).val % 256 / 64, by omega⟩
  * A.mean (y 0) ⟨(y 1).val % 256 / 64, by omega⟩) : ℝ) : EReal)

theorem pair {n k : ℕ} (x : (⟨2, ![n, k]⟩ : Shape).Idx) : ∃ (i : Fin n) (j : Fin k), x = ix2 i j := ⟨x 0, x 1, by funext a; fin_cases a <;> rfl⟩

theorem column_at (y : Fin 768) : ∃ (g : Fin 3) (k : Fin 256), y = (⟨256 * g.val + k.val, by omega⟩ : Fin 768) :=
  ⟨⟨y.val / 256, by omega⟩, ⟨y.val % 256, by omega⟩, Fin.ext (by show y.val = 256 * (y.val / 256) + y.val % 256; omega)⟩

theorem spreadArr_apply (A : Args) (r : Fin 2048) (g : Fin 3) (k : Fin 256) : spreadArr A (ix2 r (⟨256 * g.val + k.val, by omega⟩ : Fin 768))
    = ((A.share g r (headOf k) * A.d r (headOf k) ⟨k.val % 64, by omega⟩ : ℝ) : EReal) := by
  have e1 : (256 * g.val + k.val) / 256 = g.val := by omega
  have e2 : (256 * g.val + k.val) % 256 = k.val := by omega
  show ((A.share ⟨(256 * g.val + k.val) / 256, _⟩ r ⟨(256 * g.val + k.val) % 256 / 64, _⟩ * A.d r ⟨(256 * g.val + k.val) % 256 / 64, _⟩ ⟨(256 * g.val + k.val) % 256 % 64, _⟩ : ℝ) : EReal) = _
  simp only [e1, e2]

theorem slopeArr_apply (A : Args) (r : Fin 2048) (g : Fin 3) (k : Fin 256) : slopeArr A (ix2 r (⟨256 * g.val + k.val, by omega⟩ : Fin 768))
    = ((-(A.share g r (headOf k) * A.mean r (headOf k)) : ℝ) : EReal) := by
  have e1 : (256 * g.val + k.val) / 256 = g.val := by omega
  have e2 : (256 * g.val + k.val) % 256 = k.val := by omega
  show ((-(A.share ⟨(256 * g.val + k.val) / 256, _⟩ r ⟨(256 * g.val + k.val) % 256 / 64, _⟩ * A.mean r ⟨(256 * g.val + k.val) % 256 / 64, _⟩) : ℝ) : EReal) = _
  simp only [e1, e2]

theorem emb7 (t : Fin cfg0.N) (i : Fin 512) (y : Fin 768) : ((cfg0.win 7).blk t).view.emb (ix2 i y) = (ix2 (rowAt t i) y : S2048x768.Idx) := by
  funext a
  apply Fin.ext
  refine (Pipeline.Window.rect_emb_val win0_7 t (ix2 i y) a).trans ?_
  rw [(index t).2.2.2.2.2.2.2.1]
  fin_cases a
  · show t.val * 512 + i.val = 512 * t.val + i.val
    omega
  · show 0 * 768 + y.val = y.val
    omega

theorem emb8 (t : Fin cfg0.N) (i : Fin 512) (y : Fin 768) : ((cfg0.win 8).blk t).view.emb (ix2 i y) = (ix2 (rowAt t i) y : S2048x768.Idx) := by
  funext a
  apply Fin.ext
  refine (Pipeline.Window.rect_emb_val win0_8 t (ix2 i y) a).trans ?_
  rw [(index t).2.2.2.2.2.2.2.2]
  fin_cases a
  · show t.val * 512 + i.val = 512 * t.val + i.val
    omega
  · show 0 * 768 + y.val = y.val
    omega

section Finals

variable {A : Args} (H : Are A (m ((c.tc : Thread nD τ).loc main_arg0)) (m ((c.tc : Thread nD τ).loc main_arg1)) (m ((c.tc : Thread nD τ).loc main_arg2)))
include H

theorem final7 : (dats m 0 c).arrAt 7 (cfgs 0).N = spreadArr A := by
  refine (dats m 0 c).arrAt_eq_of_covers 7 _ (by decide +kernel) fun t _ y => ?_
  obtain ⟨i, z, rfl⟩ := pair (n := 512) (k := 768) y
  obtain ⟨g, k, rfl⟩ := column_at z
  refine Eq.trans ?_ (congrArg (spreadArr A) (emb7 t i _)).symm
  rw [spreadArr_apply]
  blk_simp
  rw [after0_7]
  exact spread_real (given m c H t) i k g

theorem final8 : (dats m 0 c).arrAt 8 (cfgs 0).N = slopeArr A := by
  refine (dats m 0 c).arrAt_eq_of_covers 8 _ (by decide +kernel) fun t _ y => ?_
  obtain ⟨i, z, rfl⟩ := pair (n := 512) (k := 768) y
  obtain ⟨g, k, rfl⟩ := column_at z
  refine Eq.trans ?_ (congrArg (slopeArr A) (emb8 t i _)).symm
  rw [slopeArr_apply, ← w_eq, ← mean_eq]
  blk_simp
  rw [after0_8]
  exact slope_real (given m c H t) i k g

end Finals

/-- The buffers as the region leaves them. -/
def ended : Valuation τ sig (Elt Ideal) := Pipeline.withArrays (cfgs 0).spec c (V0 m c) fun w => (dats m 0 c).arrAt w (cfgs 0).N

theorem ended_arr (w : Fin 9) : ended m c (Proc.devRef .tc (Pipeline.arrRef spec0 w)) = (dats m 0 c).arrAt w (cfgs 0).N :=
  Pipeline.Dat.withArrays_arrAt (dats m 0 c) launch₀0.sharedIn _ (fun w => A_eq m c w) w

theorem ended_outs : ended m c (Proc.devRef .tc main_arg0) = m ((c.tc : Thread nD τ).loc main_arg0) := by
  unfold ended
  rw [Pipeline.withArrays_of_ne _ c _ _ _ (by decide)]
  exact V_main_arg0 m c

end Cert.DilCombineIdeal.Comb

end
-- ==== Proof.Comb.Equation.lean ====
/- The combination's backward call computes the derivative of the groups' combination. -/
module

public import proofs.«01_k».proof.Proof.Comb.Arrays
public import proofs.«01_k».proof.Defs
public import proofs.«01_k».proof.Proof.Gen.Pre_comb_finite

@[expose] public section

set_option maxRecDepth 16384

noncomputable section

namespace Cert.DilCombineIdeal.Comb

open Cert.DilCombineIdeal.Gen
open Idealize.ShloMosaic Idealize.ShloMosaic.TcCoe Idealize.ShloMosaic.StableHlo Idealize.SL.Sem
open Cert.DilCombineRefIdeal.Parts (Args Are Outs Sums Cot)

/-- The precondition, read: the arguments are real numbers. -/
theorem reals_of_finite (o : Outs) (l : Sums) (d : Cot) (h : Cert.Pre_comb_finite.fn (F := Ideal) o l d = fun _ => 1#1) : ∃ A, Are A o l d := by
  obtain ⟨h, hd⟩ := IntOp.andi_eq_one.1 (congrFun h fun a => a.elim0)
  obtain ⟨ho, hl⟩ := IntOp.andi_eq_one.1 h
  obtain ⟨ro, eo⟩ := Lift.real_of_all ho
  obtain ⟨rl, el⟩ := Lift.real_of_all hl
  obtain ⟨rd, ed⟩ := Lift.real_of_all hd
  exact ⟨⟨fun i h k => rd (ix2 i (⟨64 * h.val + k.val, by omega⟩ : Fin 256)), fun g i h k => ro (ix4 g i h k), fun g i h => rl (ix3 g i h)⟩,
    fun i h k => congrFun ed _, fun g i h k => congrFun eo _, fun g i h => congrFun el _⟩

theorem triple {a b d : ℕ} (x : (⟨3, ![a, b, d]⟩ : Shape).Idx) : ∃ (i : Fin a) (j : Fin b) (k : Fin d), x = ix3 i j k :=
  ⟨x 0, x 1, x 2, by funext a; fin_cases a <;> rfl⟩

theorem fourfold {a b d e : ℕ} (x : (⟨4, ![a, b, d, e]⟩ : Shape).Idx) : ∃ (i : Fin a) (j : Fin b) (k : Fin d) (l : Fin e), x = ix4 i j k l :=
  ⟨x 0, x 1, x 2, x 3, by funext a; fin_cases a <;> rfl⟩

theorem spreadArr_col (A : Args) (r : Fin 2048) (g : Fin 3) (h : Fin 4) (k : Fin 64) : spreadArr A (ix2 r (colOf g h k)) = ((A.share g r h * A.d r h k : ℝ) : EReal) := by
  refine (spreadArr_apply A r g ⟨64 * h.val + k.val, by omega⟩).trans ?_
  have e1 : (64 * h.val + k.val) / 64 = h.val := by omega
  have e2 : (64 * h.val + k.val) % 64 = k.val := by omega
  simp only [headOf, e1, e2]

theorem slopeArr_col (A : Args) (r : Fin 2048) (g : Fin 3) (h : Fin 4) (k : Fin 64) : slopeArr A (ix2 r (colOf g h k)) = ((-(A.share g r h * A.mean r h) : ℝ) : EReal) := by
  refine (slopeArr_apply A r g ⟨64 * h.val + k.val, by omega⟩).trans ?_
  have e1 : (64 * h.val + k.val) / 64 = h.val := by omega
  simp only [headOf, e1]

section Results

variable (m : (ℓ : Loc nD τ sig) → Buf (Elt Ideal) ℓ) (c : Dev nD) {A : Args}
    (H : Are A (m ((c.tc : Thread nD τ).loc main_arg0)) (m ((c.tc : Thread nD τ).loc main_arg1)) (m ((c.tc : Thread nD τ).loc main_arg2)))
include H

theorem result_outs : (after hostOps1 (ended m c) (Proc.devRef .tc main_v8) : Outs)
    = Cert.DilCombineRefIdeal.Parts.dOuts (Cert.DilCombineRefIdeal.Parts.raised (m ((c.tc : Thread nD τ).loc main_arg1))) (m ((c.tc : Thread nD τ).loc main_arg2)) := by
  rw [tail_outs, show ended m c (Proc.devRef .tc main_v6_0) = spreadArr A from (ended_arr m c 7).trans (final7 m c H)]
  funext z
  obtain ⟨g, i, h, k, rfl⟩ := fourfold z
  refine (groups_apply _ _ _ _ _).trans ((spreadArr_col _ _ _ _ _).trans (Cert.DilCombineRefIdeal.Parts.dOuts_real H g i h k).symm)

theorem result_sums : (after hostOps1 (ended m c) (Proc.devRef .tc main_v15) : Sums)
    = Cert.DilCombineRefIdeal.Parts.dSums (Cert.DilCombineRefIdeal.Parts.raised (m ((c.tc : Thread nD τ).loc main_arg1)))
      (Cert.DilCombineRefIdeal.Parts.pulls (m ((c.tc : Thread nD τ).loc main_arg0)) (m ((c.tc : Thread nD τ).loc main_arg2))) := by
  rw [tail_sums, show ended m c (Proc.devRef .tc main_v6_0) = spreadArr A from (ended_arr m c 7).trans (final7 m c H),
    show ended m c (Proc.devRef .tc main_v6_1) = slopeArr A from (ended_arr m c 8).trans (final8 m c H), ended_outs]
  funext z
  obtain ⟨g, i, h, rfl⟩ := triple z
  refine (sums_apply _ _ _ _ _ _).trans (Eq.trans ?_ (Cert.DilCombineRefIdeal.Parts.dSums_real H g i h).symm)
  rw [slopeArr_col]
  simp only [spreadArr_col, H.o, ← EReal.coe_mul]
  rw [Lift.coe_sum, ← EReal.coe_add]
  congr 1
  unfold Args.pull
  rw [mul_sub, Finset.mul_sum, sub_eq_add_neg, add_comm]
  simp only [mul_assoc]

end Results

theorem algebraic : Cert.algebraic_DilCombineIdeal_DilCombineRefIdeal_pre_comb_finite := by
  intro m g m' g' hpre hargs
  refine ⟨fun c => after hostOps1 (ended m c) (Proc.devRef .tc main_v8), fun c => after hostOps1 (ended m c) (Proc.devRef .tc main_v15),
    (θ_run defs _ _).mono (fun r h c => ?_) (run_main m g), (θ_run _ _ _).mono (fun r h c => ?_) (Cert.DilCombineRefIdeal.Value.run m' g')⟩
  · have hb := (h c).2
    exact ⟨hb main_v8 (Pipeline.mem_restRefs_of _ (by decide) (by decide)), hb main_v15 (Pipeline.mem_restRefs_of _ (by decide) (by decide)),
      (hb main_arg0 (Pipeline.mem_restRefs_of _ (by decide) (by decide))).trans (W_main_arg0 m (dats m) c),
      (hb main_arg1 (Pipeline.mem_restRefs_of _ (by decide) (by decide))).trans (W_main_arg1 m (dats m) c),
      ((h c).1 0).trans (((dats m 0 c).arrAt_in 0 rfl _).trans ((A_eq m c 0).trans (V_main_arg2 m c)))⟩
  · obtain ⟨h0, h1, hr⟩ := h c
    obtain ⟨a0, a1, a2⟩ := hargs c
    obtain ⟨A, H⟩ := reals_of_finite _ _ _ (hpre c)
    refine ⟨h0.trans ?_, h1.trans ((Cert.DilCombineRefIdeal.Parts.out_sums m' c).trans ?_), hr⟩
    · rw [a1, a2]; exact (result_outs m c H).symm
    · rw [a0, a1, a2]; exact (result_sums m c H).symm

end Cert.DilCombineIdeal.Comb

end
-- ==== Proof.Loss.Block.lean ====
/- One block of 512 rows of the loss call: what its text computes on real numbers. -/
module

public import proofs.«01_k».proof.Proof.Gen.LossHeadIdeal.Value
public import proofs.«01_k».proof.Proof.Norm
public import Idealize.ShloMosaic.Lib.Pipeline.ValueKit
public import Idealize.ShloMosaic.Lib.Claim
public import Idealize.ShloMosaic.Lib.Pointwise

@[expose] public section

set_option maxRecDepth 16384

noncomputable section

namespace Cert.LossHeadIdeal.Loss

open Cert.LossHeadIdeal Cert.LossHeadIdeal.Gen
open Idealize.ShloMosaic Idealize.ShloMosaic.TcCoe

theorem half_eq : Ideal.ofBits .f32 0x3F000000#32 = ((1 / 2 : ℝ) : EReal) := by
  simp [Ideal.ofBits, Ideal.ieee]
  rw [← EReal.coe_mul]
  norm_num

theorem part_eq : Ideal.ofBits .f32 0x3A800000#32 = ((1 / 1024 : ℝ) : EReal) := by
  simp [Ideal.ofBits, Ideal.ieee]
  rw [← EReal.coe_mul]
  norm_num

/-- A block's real numbers: the activation, the down projection, the stream, the target and the gain. -/
structure Reals where
  a : Fin 512 → Fin 2816 → ℝ
  w : Fin 2816 → Fin 1024 → ℝ
  x : Fin 512 → Fin 1024 → ℝ
  t : Fin 512 → Fin 1024 → ℝ
  g : Fin 1024 → ℝ

/-- The feed-forward's output, the error and its gradient. -/
def Reals.f (T : Reals) (i : Fin 512) (k : Fin 1024) : ℝ := ∑ c, T.a i c * T.w c k
def Reals.err (T : Reals) (i : Fin 512) (k : Fin 1024) : ℝ := T.x i k + T.f i k * Norm.scale (T.f i) * T.g k - T.t i k
def Reals.dy (T : Reals) (i : Fin 512) (k : Fin 1024) : ℝ := T.err i k / 1024

structure Given (T : Reals) (x0 : Vec Ideal S512x2816 .bf16) (x1 : Vec Ideal S2816x1024 .bf16) (x2 x3 : Vec Ideal S512x1024 .f32) (x4 : Vec Ideal S1x1024 .f32) : Prop where
  a : ∀ i c, x0 (ix2 i c) = ((T.a i c : ℝ) : EReal)
  w : ∀ c k, x1 (ix2 c k) = ((T.w c k : ℝ) : EReal)
  x : ∀ i k, x2 (ix2 i k) = ((T.x i k : ℝ) : EReal)
  t : ∀ i k, x3 (ix2 i k) = ((T.t i k : ℝ) : EReal)
  g : ∀ k, x4 (ix2 0 k) = ((T.g k : ℝ) : EReal)

section Block

variable {T : Reals} {x0 : Vec Ideal S512x2816 .bf16} {x1 : Vec Ideal S2816x1024 .bf16} {x2 x3 : Vec Ideal S512x1024 .f32} {x4 : Vec Ideal S1x1024 .f32}
variable (G : Given T x0 x1 x2 x3 x4)
include G

theorem product_real (i : Fin 512) (k : Fin 1024) : k0_pay9 (F := Ideal) x0 x1 (ix2 i k) = ((T.f i k : ℝ) : EReal) := by
  unfold k0_pay9
  pointwise
  simp only [G.a, G.w, ← EReal.coe_mul]
  rw [Lift.coe_sum]
  rfl

theorem scale_real (i : Fin 512) : k0_pay10 (F := Ideal) x0 x1 (ix2 i (0 : Fin 1)) = ((Norm.scale (T.f i) : ℝ) : EReal) := by
  have hf := product_real G
  unfold k0_pay10
  generalize k0_pay9 (F := Ideal) x0 x1 = D at hf ⊢
  pointwise
  simp only [hf]
  exact Norm.scale_real (T.f i)

theorem normed_real (i : Fin 512) (k : Fin 1024) : k0_pay11 (F := Ideal) x0 x1 (ix2 i k) = ((T.f i k * Norm.scale (T.f i) : ℝ) : EReal) := by
  have hf := product_real G
  have hs := scale_real G i
  unfold k0_pay11
  generalize k0_pay10 (F := Ideal) x0 x1 = R at hs ⊢
  generalize k0_pay9 (F := Ideal) x0 x1 = D at hf ⊢
  pointwise
  rw [hf, hs, ← EReal.coe_mul]

theorem err_real (i : Fin 512) (k : Fin 1024) : k0_pay12 (F := Ideal) x0 x1 x2 x3 x4 (ix2 i k) = ((T.err i k : ℝ) : EReal) := by
  have hn := normed_real G
  unfold k0_pay12
  generalize k0_pay11 (F := Ideal) x0 x1 = D at hn ⊢
  pointwise
  rw [hn, G.x, G.t, G.g, ← EReal.coe_mul, ← EReal.coe_add, ← EReal.coe_sub]
  rfl

theorem dy_real (i : Fin 512) (k : Fin 1024) : k0_pay14 (F := Ideal) x0 x1 x2 x3 x4 (ix2 i k) = ((T.dy i k : ℝ) : EReal) := by
  have he := err_real G
  unfold k0_pay14
  generalize k0_pay12 (F := Ideal) x0 x1 x2 x3 x4 = D at he ⊢
  pointwise
  rw [he, part_eq, ← EReal.coe_mul]
  congr 1
  unfold Reals.dy
  ring

/-- The block of the error's gradients. -/
theorem rows_real (i : Fin 512) (k : Fin 1024) : k0_pay3 (k0_pay14 (F := Ideal) x0 x1 x2 x3 x4) (ix2 i k) = ((T.dy i k : ℝ) : EReal) := by
  have h := dy_real G
  unfold k0_pay3
  generalize k0_pay14 (F := Ideal) x0 x1 x2 x3 x4 = D at h ⊢
  pointwise
  exact h i k

/-- The block of the feed-forward output's gradients. -/
theorem ff_real (i : Fin 512) (k : Fin 1024) :
    k0_pay4 (k0_pay9 (F := Ideal) x0 x1) (k0_pay15 x0 x1 x2 x3 x4) (k0_pay16 x0 x1 x2 x3 x4) (k0_pay17 x0 x1) (ix2 i k)
      = ((Norm.grad (T.f i) (fun k => T.dy i k * T.g k) k : ℝ) : EReal) := by
  have h := dy_real G
  have hf := product_real G
  have hs := scale_real G i
  unfold k0_pay4 k0_pay16 k0_pay17 k0_pay15
  generalize k0_pay14 (F := Ideal) x0 x1 x2 x3 x4 = Y at h ⊢
  generalize k0_pay10 (F := Ideal) x0 x1 = R at hs ⊢
  generalize k0_pay9 (F := Ideal) x0 x1 = D at hf ⊢
  pointwise
  simp only [G.g, h, hf, hs]
  rw [← Norm.grad_call]
  simp only [EReal.coe_mul]

/-- The gain's part of the block. -/
theorem gain_real (k : Fin 1024) : k0_pay2 (k0_pay11 (F := Ideal) x0 x1) (k0_pay14 x0 x1 x2 x3 x4) (ix2 (0 : Fin 1) k)
    = ((∑ i, T.dy i k * T.f i k * Norm.scale (T.f i) : ℝ) : EReal) := by
  have h := dy_real G
  have hn := normed_real G
  unfold k0_pay2
  generalize k0_pay14 (F := Ideal) x0 x1 x2 x3 x4 = Y at h ⊢
  generalize k0_pay11 (F := Ideal) x0 x1 = D at hn ⊢
  pointwise
  refine Eq.trans (Finset.sum_congr rfl fun i _ => ?_) (Lift.coe_sum _ _)
  rw [h, hn, ← EReal.coe_mul, mul_assoc]

/-- The loss's part of the block. -/
theorem loss_real (l : Fin 128) : k0_pay1 (k0_pay13 (F := Ideal) x0 x1 x2 x3 x4) (ix2 (0 : Fin 1) l)
    = ((∑ i, (∑ k, T.err i k * T.err i k) / 1024 * (1 / 2) : ℝ) : EReal) := by
  have he := err_real G
  unfold k0_pay1 k0_pay13
  generalize k0_pay12 (F := Ideal) x0 x1 x2 x3 x4 = D at he ⊢
  pointwise
  simp only [he, ← EReal.coe_mul]
  have hr : ∀ i : Fin 512, Ideal.div (∑ k, ((T.err i k * T.err i k : ℝ) : EReal)) (Ideal.ofBits .f32 0x44800000#32) = (((∑ k, T.err i k * T.err i k) / 1024 : ℝ) : EReal) := fun i => by
    rw [Lift.coe_sum, Norm.width_eq, Ideal.div_coe (by norm_num), ← EReal.coe_mul]
    congr 1
    ring
  simp only [hr]
  rw [Lift.coe_sum, half_eq, ← EReal.coe_mul, mul_comm, Finset.sum_mul]

end Block

end Cert.LossHeadIdeal.Loss

end
-- ==== Proof.Post.Parts.lean ====
/- What the reference of the two norms around the residual computes, stage by stage; the norm's own stages are those of the first norm. -/
module

public import proofs.«01_k».proof.Proof.Input.Parts
public import proofs.«01_k».proof.Proof.Gen.PostFfnRefIdeal.Run

@[expose] public section

set_option maxRecDepth 16384

noncomputable section

namespace Cert.PostFfnRefIdeal.Parts

open Cert.PostFfnRefIdeal Cert.PostFfnRefIdeal.Gen
open Idealize.ShloMosaic Idealize.ShloMosaic.TcCoe Idealize.ShloMosaic.StableHlo Idealize.SL.Sem
open Cert.InputBwdRefIdeal.Parts (Rows Gain Col spread scale gains tilt dRows dGain scale_real tilt_real mul_gains_real)

/-- The stream after the mixer. -/
def stream (x mix : Rows) (g : Gain) : Rows := addf x (mulf (mulf mix (spread (scale mix))) (gains g))

/-- The second norm's cotangent. -/
def pulled (a b : FVec Ideal S2048x2816 .f32) (wa wb : FVec Ideal S1024x2816 .f32) : Rows :=
  addf (Host.dotGeneral dot_S2048x2816_S1024x2816_S2048x1024_1_1_0_0_n_n none b wb) (Host.dotGeneral dot_S2048x2816_S1024x2816_S2048x1024_1_1_0_0_n_n none a wa)

def dMix (mix dx : Rows) (g : Gain) : FVec Ideal S2048x1024 .bf16 :=
  truncf .bf16 (addf (addf (mulf (mulf dx (gains g)) (spread (scale mix))) (mulf mix (tilt mix (mulf dx (gains g))))) (mulf (tilt mix (mulf dx (gains g))) mix)) bitsLt_bf16_f32

/-- The stream's gradient on its way to the mixer's output: the same array. -/
def onward (dx : Rows) : Rows := shapeCast S2048x1024 dx shapeCasts_S2048x1024_S2048x1024

theorem onward_eq (dx : Rows) : onward dx = dx := shapeCast_self _ _

section Out

variable (m : (ℓ : Loc nD τ sig) → Buf (Elt Ideal) ℓ) (c : Dev nD)

/-- The second norm's input, its cotangent and its gradient, from the arguments. -/
def X : Rows := stream (m ((c.tc : Thread nD τ).loc main_arg0)) (m ((c.tc : Thread nD τ).loc main_arg1)) (m ((c.tc : Thread nD τ).loc main_arg2))
def D : Rows := pulled (m ((c.tc : Thread nD τ).loc main_arg7)) (m ((c.tc : Thread nD τ).loc main_arg8)) (m ((c.tc : Thread nD τ).loc main_arg4)) (m ((c.tc : Thread nD τ).loc main_arg5))
def DX : Rows := dRows (X m c) (D m c) (m ((c.tc : Thread nD τ).loc main_arg3)) (m ((c.tc : Thread nD τ).loc main_arg6))

theorem out_rows : Value.res_main_v60 (F := Ideal) m c = DX m c := by
  sl_kernel_rfl

theorem out_mix : Value.res_main_v84 (F := Ideal) m c = dMix (m ((c.tc : Thread nD τ).loc main_arg1)) (onward (DX m c)) (m ((c.tc : Thread nD τ).loc main_arg2)) := by
  sl_kernel_rfl

theorem out_gain : Value.res_main_v83 (F := Ideal) m c = dGain (m ((c.tc : Thread nD τ).loc main_arg1)) (onward (DX m c)) := by
  sl_kernel_rfl

end Out

section Real

variable {x mix dx : Rows} {g : Gain} {X M D : Fin 2048 → Fin 1024 → ℝ} {G : Fin 1024 → ℝ}
variable (hx : ∀ i k, x (ix2 i k) = ((X i k : ℝ) : EReal)) (hm : ∀ i k, mix (ix2 i k) = ((M i k : ℝ) : EReal)) (hd : ∀ i k, dx (ix2 i k) = ((D i k : ℝ) : EReal))
variable (hg : ∀ k, g (ix2 0 k) = ((G k : ℝ) : EReal))

include hx hm hg in
theorem stream_real (i : Fin 2048) (k : Fin 1024) : stream x mix g (ix2 i k) = ((X i k + M i k * Norm.scale (M i) * G k : ℝ) : EReal) := by
  have hs := scale_real hm i
  have hu := mul_gains_real (d := mulf mix (spread (scale mix))) (D := fun i k => M i k * Norm.scale (M i)) (fun i k => by
    have hs := scale_real hm i
    unfold spread
    generalize scale mix = R at hs ⊢
    pointwise
    rw [hm, hs, ← EReal.coe_mul]) hg i k
  unfold stream
  generalize (mulf (mulf mix (spread (scale mix))) (gains g) : Rows) = u at hu ⊢
  pointwise
  rw [hx, hu, ← EReal.coe_add]

include hm hd hg in
theorem dMix_real (i : Fin 2048) (k : Fin 1024) : dMix mix dx g (ix2 i k) = ((Norm.grad (M i) (fun k => D i k * G k) k : ℝ) : EReal) := by
  have hs := scale_real hm i
  have hu := mul_gains_real hd hg
  have ht := tilt_real hm hu
  unfold dMix spread
  generalize (mulf dx (gains g) : Rows) = u at hu ht ⊢
  generalize tilt mix u = T at ht ⊢
  generalize scale mix = R at hs ⊢
  pointwise
  rw [hm, hu, ht, hs, ← Norm.grad_halves]
  simp only [← EReal.coe_mul, ← EReal.coe_add]

end Real

theorem pulled_real {a b : FVec Ideal S2048x2816 .f32} {wa wb : FVec Ideal S1024x2816 .f32} {A B : Fin 2048 → Fin 2816 → ℝ} {WA WB : Fin 1024 → Fin 2816 → ℝ}
    (ha : ∀ i c, a (ix2 i c) = ((A i c : ℝ) : EReal)) (hb : ∀ i c, b (ix2 i c) = ((B i c : ℝ) : EReal))
    (hwa : ∀ k c, wa (ix2 k c) = ((WA k c : ℝ) : EReal)) (hwb : ∀ k c, wb (ix2 k c) = ((WB k c : ℝ) : EReal)) (i : Fin 2048) (k : Fin 1024) :
    pulled a b wa wb (ix2 i k) = (((∑ c, A i c * WA k c) + ∑ c, B i c * WB k c : ℝ) : EReal) := by
  unfold pulled
  pointwise
  simp only [ha, hb, hwa, hwb, ← EReal.coe_mul]
  rw [Lift.coe_sum, Lift.coe_sum, ← EReal.coe_add, add_comm]

end Cert.PostFfnRefIdeal.Parts

end
-- ==== Proof.Loss.Parts.lean ====
/- What the reference of the loss computes, stage by stage; the norm's own stages are those of the norms before. -/
module

public import proofs.«01_k».proof.Proof.Post.Parts
public import proofs.«01_k».proof.Proof.Gen.LossHeadRefIdeal.Run

@[expose] public section

set_option maxRecDepth 16384

noncomputable section

namespace Cert.LossHeadRefIdeal.Parts

open Cert.LossHeadRefIdeal Cert.LossHeadRefIdeal.Gen
open Idealize.ShloMosaic Idealize.ShloMosaic.TcCoe Idealize.ShloMosaic.StableHlo Idealize.SL.Sem
open Cert.InputBwdRefIdeal.Parts (Rows Gain dGain)
open Cert.PostFfnRefIdeal.Parts (stream stream_real dMix)

/-- The feed-forward's output. -/
def product (a : FVec Ideal S2048x2816 .f32) (w : FVec Ideal S2816x1024 .f32) : Rows :=
  Host.dotGeneral dot_S2048x2816_S2816x1024_S2048x1024_1_0_0_1_n_n none a w

def err (x f t : Rows) (g : Gain) : Rows := subf (stream x f g) t

/-- The error's gradient. -/
def dErr (e : Rows) : Rows :=
  mulf (broadcastInDim S2048x1024 ![0] bcast_S2048_S2048x1024_0 (Host.divf (broadcastInDim S2048 ![] bcast_S_S2048 (mulf (constant S_ .f32 0x3F000000#32) (constant S_ .f32 0x3F800000#32)))
    (broadcastInDim S2048 ![] bcast_S_S2048 (constant S_ .f32 0x44800000#32)))) (mulf (broadcastInDim S2048x1024 ![] bcast_S_S2048x1024 (constant S_ .f32 0x40000000#32)) e)

/-- The loss, a copy for each of 128 lanes. -/
def loss (e : Rows) : FVec Ideal S1x128 .f32 :=
  broadcastInDim S1x128 ![] bcast_S_S1x128 (mulf (constant S_ .f32 0x3F000000#32) (Host.reduceAdd (Host.divf
    (Host.reduceAdd (mulf e e) (constant S_ .f32 0x00000000#32) reducesTo_S2048x1024_S2048_d1 h_S_) (broadcastInDim S2048 ![] bcast_S_S2048 (constant S_ .f32 0x44800000#32)))
    (constant S_ .f32 0x00000000#32) reducesTo_S2048_S_d0 h_S_))

section Out

variable (m : (ℓ : Loc nD τ sig) → Buf (Elt Ideal) ℓ) (c : Dev nD)

def FF : Rows := product (m ((c.tc : Thread nD τ).loc main_arg0)) (m ((c.tc : Thread nD τ).loc main_arg1))
def E : Rows := err (m ((c.tc : Thread nD τ).loc main_arg2)) (FF m c) (m ((c.tc : Thread nD τ).loc main_arg3)) (m ((c.tc : Thread nD τ).loc main_arg4))

theorem out_ff : Value.res_main_v55 (F := Ideal) m c = dMix (FF m c) (dErr (E m c)) (m ((c.tc : Thread nD τ).loc main_arg4)) := by
  sl_kernel_rfl

end Out

theorem half_eq : Ideal.ofBits .f32 0x3F000000#32 = ((1 / 2 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem product_real {a : FVec Ideal S2048x2816 .f32} {w : FVec Ideal S2816x1024 .f32} {A : Fin 2048 → Fin 2816 → ℝ} {W : Fin 2816 → Fin 1024 → ℝ}
    (ha : ∀ i c, a (ix2 i c) = ((A i c : ℝ) : EReal)) (hw : ∀ c k, w (ix2 c k) = ((W c k : ℝ) : EReal)) (i : Fin 2048) (k : Fin 1024) :
    product a w (ix2 i k) = ((∑ c, A i c * W c k : ℝ) : EReal) := by
  unfold product
  pointwise
  simp only [ha, hw, ← EReal.coe_mul]
  rw [Lift.coe_sum]

section Real

variable {x f t : Rows} {g : Gain} {X F T : Fin 2048 → Fin 1024 → ℝ} {G : Fin 1024 → ℝ}

theorem err_real (hx : ∀ i k, x (ix2 i k) = ((X i k : ℝ) : EReal)) (hf : ∀ i k, f (ix2 i k) = ((F i k : ℝ) : EReal))
    (ht : ∀ i k, t (ix2 i k) = ((T i k : ℝ) : EReal)) (hg : ∀ k, g (ix2 0 k) = ((G k : ℝ) : EReal)) (i : Fin 2048) (k : Fin 1024) :
    err x f t g (ix2 i k) = ((X i k + F i k * Norm.scale (F i) * G k - T i k : ℝ) : EReal) := by
  have h := stream_real hx hf hg i k
  unfold err
  generalize stream x f g = S at h ⊢
  pointwise
  rw [h, ht, ← EReal.coe_sub]

variable {e : Rows} {E : Fin 2048 → Fin 1024 → ℝ} (he : ∀ i k, e (ix2 i k) = ((E i k : ℝ) : EReal))
include he

theorem dErr_real (i : Fin 2048) (k : Fin 1024) : dErr e (ix2 i k) = ((E i k / 1024 : ℝ) : EReal) := by
  unfold dErr
  pointwise
  rw [he, half_eq, two_eq, Norm.width_eq, ← EReal.coe_mul, Ideal.div_coe (by norm_num)]
  simp only [← EReal.coe_mul]
  congr 1
  ring

theorem loss_real (l : Fin 128) : loss e (ix2 (0 : Fin 1) l) = ((∑ i, (∑ k, E i k * E i k) / 1024 * (1 / 2) : ℝ) : EReal) := by
  unfold loss
  pointwise
  simp only [he, ← EReal.coe_mul]
  have hr : ∀ i : Fin 2048, Ideal.div (∑ k, ((E i k * E i k : ℝ) : EReal)) (Ideal.ofBits .f32 0x44800000#32) = (((∑ k, E i k * E i k) / 1024 : ℝ) : EReal) := fun i => by
    rw [Lift.coe_sum, Norm.width_eq, Ideal.div_coe (by norm_num), ← EReal.coe_mul]
    congr 1
    ring
  simp only [hr]
  rw [Lift.coe_sum, half_eq, ← EReal.coe_mul, mul_comm, Finset.sum_mul]

end Real

end Cert.LossHeadRefIdeal.Parts

end
-- ==== Proof.Loss.Arrays.lean ====
/- What the loss call leaves in its four arrays. -/
module

public import proofs.«01_k».proof.Proof.Input.Arrays
public import proofs.«01_k».proof.Proof.Loss.Block
public import proofs.«01_k».proof.Proof.Loss.Parts

@[expose] public section

set_option maxRecDepth 16384

noncomputable section

namespace Cert.LossHeadIdeal.Loss

open Cert.LossHeadIdeal Cert.LossHeadIdeal.Gen
open Idealize.ShloMosaic Idealize.ShloMosaic.TcCoe Idealize.ShloMosaic.StableHlo Idealize.SL.Sem
open Cert.InputBwdIdeal.Input (pair sum_blocks)

abbrev Rows : Type := FVec Ideal S2048x1024 .f32
abbrev Gain : Type := FVec Ideal S1x1024 .f32
abbrev Wide : Type := FVec Ideal S2048x2816 .f32
abbrev Weight : Type := FVec Ideal S2816x1024 .f32

variable (m : (ℓ : Loc nD τ sig) → Buf (Elt Ideal) ℓ) (c : Dev nD)

theorem V_a : (V m c main_v0 : FVec Ideal S2048x2816 .bf16) = ((m ((c.tc : Thread nD τ).loc main_arg0)) : Wide) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem V_w : (V m c main_v1 : FVec Ideal S2816x1024 .bf16) = ((m ((c.tc : Thread nD τ).loc main_arg1)) : Weight) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem index : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] :=
  (by decide +kernel : ∀ t : Fin grid0.N, _)

abbrev rowAt (t : Fin cfg0.N) (i : Fin 512) : Fin 2048 := ⟨512 * t.val + i.val, by have := lt_of_lt_of_eq t.isLt N_0; omega⟩

section Windows

variable (t : Fin cfg0.N) (X : (b : Ref sig .tc) → Buf (Elt Ideal) ((c.tc : Thread nD τ).loc b))

theorem read_a (i : Fin 512) (k : Fin 2816) : (((cfg0.win 0).blk t).view.read (Elt Ideal) (X (Pipeline.arrRef spec0 0)) : FVec Ideal S512x2816 .bf16) (ix2 i k)
    = (X main_v0 : FVec Ideal S2048x2816 .bf16) (ix2 (rowAt t i) k) := by
  refine congrArg (X main_v0 : FVec Ideal S2048x2816 .bf16) (?_ : ((cfg0.win 0).blk t).view.emb (ix2 i k) = _)
  funext a
  apply Fin.ext
  refine (Pipeline.Window.rect_emb_val win0_0 t (ix2 i k) a).trans ?_
  rw [(index t).1]
  fin_cases a
  · show t.val * 512 + i.val = 512 * t.val + i.val
    omega
  · show 0 * 2816 + k.val = k.val
    omega

theorem read_w (i : Fin 2816) (k : Fin 1024) : (((cfg0.win 1).blk t).view.read (Elt Ideal) (X (Pipeline.arrRef spec0 1)) : FVec Ideal S2816x1024 .bf16) (ix2 i k)
    = (X main_v1 : FVec Ideal S2816x1024 .bf16) (ix2 i k) := by
  refine congrArg (X main_v1 : FVec Ideal S2816x1024 .bf16) (?_ : ((cfg0.win 1).blk t).view.emb (ix2 i k) = _)
  funext a
  apply Fin.ext
  refine (Pipeline.Window.rect_emb_val win0_1 t (ix2 i k) a).trans ?_
  rw [(index t).2.1]
  fin_cases a
  · show 0 * 2816 + i.val = i.val
    omega
  · show 0 * 1024 + k.val = k.val
    omega

theorem read_x (i : Fin 512) (k : Fin 1024) : (((cfg0.win 2).blk t).view.read (Elt Ideal) (X (Pipeline.arrRef spec0 2)) : FVec Ideal S512x1024 .f32) (ix2 i k)
    = (X main_arg2 : Rows) (ix2 (rowAt t i) k) := by
  refine congrArg (X main_arg2 : Rows) (?_ : ((cfg0.win 2).blk t).view.emb (ix2 i k) = _)
  funext a
  apply Fin.ext
  refine (Pipeline.Window.rect_emb_val win0_2 t (ix2 i k) a).trans ?_
  rw [(index t).2.2.1]
  fin_cases a
  · show t.val * 512 + i.val = 512 * t.val + i.val
    omega
  · show 0 * 1024 + k.val = k.val
    omega

theorem read_t (i : Fin 512) (k : Fin 1024) : (((cfg0.win 3).blk t).view.read (Elt Ideal) (X (Pipeline.arrRef spec0 3)) : FVec Ideal S512x1024 .f32) (ix2 i k)
    = (X main_arg3 : Rows) (ix2 (rowAt t i) k) := by
  refine congrArg (X main_arg3 : Rows) (?_ : ((cfg0.win 3).blk t).view.emb (ix2 i k) = _)
  funext a
  apply Fin.ext
  refine (Pipeline.Window.rect_emb_val win0_3 t (ix2 i k) a).trans ?_
  rw [(index t).2.2.2.1]
  fin_cases a
  · show t.val * 512 + i.val = 512 * t.val + i.val
    omega
  · show 0 * 1024 + k.val = k.val
    omega

theorem read_g (k : Fin 1024) : (((cfg0.win 4).blk t).view.read (Elt Ideal) (X (Pipeline.arrRef spec0 4)) : Gain) (ix2 0 k)
    = (X main_arg4 : Gain) (ix2 0 k) := by
  refine congrArg (X main_arg4 : Gain) (?_ : ((cfg0.win 4).blk t).view.emb (ix2 0 k) = _)
  funext a
  apply Fin.ext
  refine (Pipeline.Window.rect_emb_val win0_4 t (ix2 0 k) a).trans ?_
  rw [(index t).2.2.2.2.1]
  fin_cases a
  · show 0 * 1 + 0 = 0
    omega
  · show 0 * 1024 + k.val = k.val
    omega

theorem emb5 (i : Fin 512) (k : Fin 1024) : ((cfg0.win 5).blk t).view.emb (ix2 i k) = (ix2 (rowAt t i) k : S2048x1024.Idx) := by
  funext a
  apply Fin.ext
  refine (Pipeline.Window.rect_emb_val win0_5 t (ix2 i k) a).trans ?_
  rw [(index t).2.2.2.2.2.1]
  fin_cases a
  · show t.val * 512 + i.val = 512 * t.val + i.val
    omega
  · show 0 * 1024 + k.val = k.val
    omega

theorem emb6 (i : Fin 512) (k : Fin 1024) : ((cfg0.win 6).blk t).view.emb (ix2 i k) = (ix2 (rowAt t i) k : S2048x1024.Idx) := by
  funext a
  apply Fin.ext
  refine (Pipeline.Window.rect_emb_val win0_6 t (ix2 i k) a).trans ?_
  rw [(index t).2.2.2.2.2.2]
  fin_cases a
  · show t.val * 512 + i.val = 512 * t.val + i.val
    omega
  · show 0 * 1024 + k.val = k.val
    omega

end Windows

/-- The arguments as real numbers. -/
structure Args where
  a : Fin 2048 → Fin 2816 → ℝ
  w : Fin 2816 → Fin 1024 → ℝ
  x : Fin 2048 → Fin 1024 → ℝ
  t : Fin 2048 → Fin 1024 → ℝ
  g : Fin 1024 → ℝ

structure Are (A : Args) (a : Wide) (w : Weight) (x t : Rows) (g : Gain) : Prop where
  a : ∀ i c, a (ix2 i c) = ((A.a i c : ℝ) : EReal)
  w : ∀ c k, w (ix2 c k) = ((A.w c k : ℝ) : EReal)
  x : ∀ i k, x (ix2 i k) = ((A.x i k : ℝ) : EReal)
  t : ∀ i k, t (ix2 i k) = ((A.t i k : ℝ) : EReal)
  g : ∀ k, g (ix2 0 k) = ((A.g k : ℝ) : EReal)

/-- The feed-forward's output, the error and its gradient. -/
def Args.f (A : Args) (i : Fin 2048) (k : Fin 1024) : ℝ := ∑ c, A.a i c * A.w c k
def Args.err (A : Args) (i : Fin 2048) (k : Fin 1024) : ℝ := A.x i k + A.f i k * Norm.scale (A.f i) * A.g k - A.t i k
def Args.dy (A : Args) (i : Fin 2048) (k : Fin 1024) : ℝ := A.err i k / 1024

/-- The numbers of a point's blocks. -/
def reals (A : Args) (t : Fin cfg0.N) : Reals where
  a i := A.a (rowAt t i)
  w := A.w
  x i := A.x (rowAt t i)
  t i := A.t (rowAt t i)
  g := A.g

def rowsArr (A : Args) : Rows := fun z => ((A.dy (z 0) (z 1) : ℝ) : EReal)
def ffArr (A : Args) : FVec Ideal S2048x1024 .bf16 := fun z => ((Norm.grad (A.f (z 0)) (fun k => A.dy (z 0) k * A.g k) (z 1) : ℝ) : EReal)
def lossArr (A : Args) : FVec Ideal S1x128 .f32 := fun _ => ((∑ i, (∑ k, A.err i k * A.err i k) / 1024 * (1 / 2) : ℝ) : EReal)
def gainArr (A : Args) : Gain := fun z => ((∑ i, A.dy i (z 1) * A.f i (z 1) * Norm.scale (A.f i) : ℝ) : EReal)

section Given

variable {A : Args} (H : Are A (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
include H

theorem given (t : Fin cfg0.N) : Given (reals A t) (iblk m c 0 t) (iblk m c 1 t) (iblk m c 2 t) (iblk m c 3 t) (iblk m c 4 t) where
  a i k := (read_a c t (V m c) i k).trans ((congrFun (V_a m c) _).trans (H.a _ _))
  w i k := (read_w c t (V m c) i k).trans ((congrFun (V_w m c) _).trans (H.w _ _))
  x i k := (read_x c t (V m c) i k).trans ((congrFun (V_main_arg2 m c) _).trans (H.x _ _))
  t i k := (read_t c t (V m c) i k).trans ((congrFun (V_main_arg3 m c) _).trans (H.t _ _))
  g k := (read_g c t (V m c) k).trans ((congrFun (V_main_arg4 m c) _).trans (H.g _))

theorem block5 (t : Fin cfg0.N) (i : Fin 512) (k : Fin 1024) : (outsAt0 m c t.val t.isLt).1 (ix2 i k) = rowsArr A (ix2 (rowAt t i) k) := by
  have ht := lt_of_lt_of_eq t.isLt N_0
  by_cases h : t.val % 4 = 0
  · rw [outsAt0_A m c t h (by omega) h (by omega)]
    frame_out
    exact rows_real (given m c H t) i k
  · rw [outsAt0_B m c t h (by omega) h (by omega)]
    frame_out
    exact rows_real (given m c H t) i k

theorem final5 : (dats m 0 c).arrAt 5 (cfgs 0).N = rowsArr A := by
  refine (dats m 0 c).arrAt_eq_of_covers 5 _ (by decide +kernel) fun t _ y => ?_
  obtain ⟨i, k, rfl⟩ := pair (n := 512) (k := 1024) y
  refine Eq.trans ?_ (congrArg (rowsArr A) (emb5 t i k)).symm
  blk_simp
  rw [after0_5]
  exact block5 m c H t i k

theorem block6 (t : Fin cfg0.N) (i : Fin 512) (k : Fin 1024) : (outsAt0 m c t.val t.isLt).2.1 (ix2 i k) = ffArr A (ix2 (rowAt t i) k) := by
  have ht := lt_of_lt_of_eq t.isLt N_0
  by_cases h : t.val % 4 = 0
  · rw [outsAt0_A m c t h (by omega) h (by omega)]
    frame_out
    exact ff_real (given m c H t) i k
  · rw [outsAt0_B m c t h (by omega) h (by omega)]
    frame_out
    exact ff_real (given m c H t) i k

theorem final6 : (dats m 0 c).arrAt 6 (cfgs 0).N = ffArr A := by
  refine (dats m 0 c).arrAt_eq_of_covers 6 _ (by decide +kernel) fun t _ y => ?_
  obtain ⟨i, k, rfl⟩ := pair (n := 512) (k := 1024) y
  refine Eq.trans ?_ (congrArg (ffArr A) (emb6 t i k)).symm
  blk_simp
  rw [after0_6]
  exact block6 m c H t i k

/-- What the loss's buffer gains at a point. -/
def lossPart (A : Args) (t : Fin cfg0.N) (j : S1x128.Idx) : EReal := (((∑ i, (∑ k, A.err (rowAt t i) k * A.err (rowAt t i) k) / 1024 * (1 / 2) : ℝ) : EReal) : EReal)

omit H in
theorem lossPart_real {z : FVec Ideal S1x128 .f32} {A : Args} {t : Fin cfg0.N} (h : ∀ k, z (ix2 0 k) = lossPart A t (ix2 0 k)) (j : S1x128.Idx) : z j = lossPart A t j := by
  obtain ⟨i, k, rfl⟩ := pair (n := 1) (k := 128) j
  obtain rfl : i = 0 := Subsingleton.elim _ _
  exact h k

theorem lossPart_eq (t : Fin cfg0.N) (j : S1x128.Idx) : k0_pay1 (k0_pay13 (F := Ideal) (iblk m c 0 t) (iblk m c 1 t) (iblk m c 2 t) (iblk m c 3 t) (iblk m c 4 t)) j = lossPart A t j :=
  lossPart_real (fun k => loss_real (given m c H t) k) j

theorem final7 : (dats m 0 c).arrAt 7 (cfgs 0).N = lossArr A := by
  refine (dats m 0 c).arrAt_eq_of_after_last 7 t0_3 (by decide +kernel) _ fun j => ?_
  blk_simp
  rw [after0_7, Pipeline.eq_sum_fin_of_reset_step_apply_last (fun n h => (outsAt0 m c n h).2.2.1) 4 (fun _ => (0 : EReal)) (lossPart A)
    (fun t h j => by
      have ht := lt_of_lt_of_eq t.isLt N_0
      rw [outsAt0_A m c t h (by omega) h (by omega)]
      frame_out
      rw [k0_pay5, shapeCast_self, zero_add]
      exact lossPart_eq m c H t j)
    (fun t h j => by
      rw [outsAt0_B m c t h (by omega) h (by omega)]
      frame_out
      rw [k0_pay6, shapeCast_self]
      exact congrArg _ (lossPart_eq m c H t j))
    (le_of_eq N_0) t0_3 rfl j, zero_add]
  exact sum_blocks N_0 fun i => (∑ k, A.err i k * A.err i k) / 1024 * (1 / 2)

/-- What the gain's buffer gains at a point. -/
def gainPart (A : Args) (t : Fin cfg0.N) (j : S1x1024.Idx) : EReal := (((∑ i, A.dy (rowAt t i) (j 1) * A.f (rowAt t i) (j 1) * Norm.scale (A.f (rowAt t i)) : ℝ) : EReal) : EReal)

omit H in
theorem gainPart_real {z : Gain} {A : Args} {t : Fin cfg0.N} (h : ∀ k, z (ix2 0 k) = gainPart A t (ix2 0 k)) (j : S1x1024.Idx) : z j = gainPart A t j := by
  obtain ⟨i, k, rfl⟩ := pair (n := 1) (k := 1024) j
  obtain rfl : i = 0 := Subsingleton.elim _ _
  exact h k

theorem gainPart_eq (t : Fin cfg0.N) (j : S1x1024.Idx) : k0_pay2 (k0_pay11 (F := Ideal) (iblk m c 0 t) (iblk m c 1 t)) (k0_pay14 (iblk m c 0 t) (iblk m c 1 t) (iblk m c 2 t) (iblk m c 3 t) (iblk m c 4 t)) j = gainPart A t j :=
  gainPart_real (fun k => gain_real (given m c H t) k) j

theorem final8 : (dats m 0 c).arrAt 8 (cfgs 0).N = gainArr A := by
  refine (dats m 0 c).arrAt_eq_of_after_last 8 t0_3 (by decide +kernel) _ fun j => ?_
  blk_simp
  rw [after0_8, Pipeline.eq_sum_fin_of_reset_step_apply_last (fun n h => (outsAt0 m c n h).2.2.2) 4 (fun _ => (0 : EReal)) (gainPart A)
    (fun t h j => by
      have ht := lt_of_lt_of_eq t.isLt N_0
      rw [outsAt0_A m c t h (by omega) h (by omega)]
      frame_out
      rw [k0_pay7, shapeCast_self, zero_add]
      exact gainPart_eq m c H t j)
    (fun t h j => by
      rw [outsAt0_B m c t h (by omega) h (by omega)]
      frame_out
      rw [k0_pay8, shapeCast_self]
      exact congrArg _ (gainPart_eq m c H t j))
    (le_of_eq N_0) t0_3 rfl j, zero_add]
  exact sum_blocks N_0 fun i => A.dy i (j 1) * A.f i (j 1) * Norm.scale (A.f i)

end Given

end Cert.LossHeadIdeal.Loss

end
-- ==== Proof.Loss.Equation.lean ====
/- The loss call computes the loss and its derivative through the last norm. -/
module

public import proofs.«01_k».proof.Proof.Loss.Arrays
public import proofs.«01_k».proof.Defs
public import proofs.«01_k».proof.Proof.Gen.Pre_loss_finite

@[expose] public section

set_option maxRecDepth 16384

noncomputable section

namespace Cert.LossHeadIdeal.Loss

open Cert.LossHeadIdeal.Gen
open Idealize.ShloMosaic Idealize.ShloMosaic.TcCoe Idealize.ShloMosaic.StableHlo Idealize.SL.Sem
open Cert.InputBwdIdeal.Input (pair)

/-- The precondition, read: the arguments are real numbers. -/
theorem reals_of_finite (a : Wide) (w : Weight) (x t : Rows) (g : Gain)
    (h : Cert.Pre_loss_finite.fn (F := Ideal) a w x t g = fun _ => 1#1) : ∃ A, Are A a w x t g := by
  obtain ⟨h, hg⟩ := IntOp.andi_eq_one.1 (congrFun h fun a => a.elim0)
  obtain ⟨h, ht⟩ := IntOp.andi_eq_one.1 h
  obtain ⟨h, hx⟩ := IntOp.andi_eq_one.1 h
  obtain ⟨ha, hw⟩ := IntOp.andi_eq_one.1 h
  obtain ⟨ra, ea⟩ := Lift.real_of_all ha
  obtain ⟨rw, ew⟩ := Lift.real_of_all hw
  obtain ⟨rx, ex⟩ := Lift.real_of_all hx
  obtain ⟨rt, et⟩ := Lift.real_of_all ht
  obtain ⟨rg, eg⟩ := Lift.real_of_all hg
  exact ⟨⟨fun i k => ra (ix2 i k), fun i k => rw (ix2 i k), fun i k => rx (ix2 i k), fun i k => rt (ix2 i k), fun k => rg (ix2 0 k)⟩,
    fun i k => congrFun ea _, fun i k => congrFun ew _, fun i k => congrFun ex _, fun i k => congrFun et _, fun k => congrFun eg _⟩

section Reference

open Cert.InputBwdRefIdeal.Parts (dGain dGain_real)
open Cert.PostFfnRefIdeal.Parts (dMix dMix_real)
open Cert.LossHeadRefIdeal.Parts (product err dErr loss)

variable {A : Args} {a : Wide} {w : Weight} {x t : FVec Ideal S2048x1024 .f32} {g : FVec Ideal S1x1024 .f32} (H : Are A a w x t g)
include H

theorem f_eq (i : Fin 2048) (k : Fin 1024) : product a w (ix2 i k) = ((A.f i k : ℝ) : EReal) := Cert.LossHeadRefIdeal.Parts.product_real H.a H.w i k

theorem err_eq (i : Fin 2048) (k : Fin 1024) : err x (product a w) t g (ix2 i k) = ((A.err i k : ℝ) : EReal) :=
  Cert.LossHeadRefIdeal.Parts.err_real H.x (f_eq H) H.t H.g i k

theorem dy_eq (i : Fin 2048) (k : Fin 1024) : dErr (err x (product a w) t g) (ix2 i k) = ((A.dy i k : ℝ) : EReal) :=
  Cert.LossHeadRefIdeal.Parts.dErr_real (err_eq H) i k

theorem rows_eq : rowsArr A = dErr (err x (product a w) t g) := by
  funext z
  obtain ⟨i, k, rfl⟩ := pair (n := 2048) (k := 1024) z
  exact (dy_eq H i k).symm

theorem ff_eq : ffArr A = dMix (product a w) (dErr (err x (product a w) t g)) g := by
  funext z
  obtain ⟨i, k, rfl⟩ := pair (n := 2048) (k := 1024) z
  exact (dMix_real (f_eq H) (dy_eq H) H.g i k).symm

theorem loss_eq : lossArr A = loss (err x (product a w) t g) := by
  funext z
  obtain ⟨i, k, rfl⟩ := pair (n := 1) (k := 128) z
  obtain rfl : i = 0 := Subsingleton.elim _ _
  exact (Cert.LossHeadRefIdeal.Parts.loss_real (err_eq H) k).symm

theorem gain_eq : gainArr A = dGain (product a w) (dErr (err x (product a w) t g)) := by
  funext z
  obtain ⟨i, k, rfl⟩ := pair (n := 1) (k := 1024) z
  obtain rfl : i = 0 := Subsingleton.elim _ _
  exact (dGain_real (f_eq H) (dy_eq H) k).symm

end Reference

end Cert.LossHeadIdeal.Loss

namespace Cert.LossHeadIdeal.Value

open Cert.LossHeadIdeal.Gen Cert.LossHeadIdeal.Loss
open Idealize.ShloMosaic Idealize.ShloMosaic.TcCoe Idealize.ShloMosaic.StableHlo Idealize.SL.Sem
open Cert.LossHeadRefIdeal.Parts (FF E dErr loss out_ff)

set_option maxHeartbeats 1000000 in
theorem algebraic : Cert.algebraic_LossHeadIdeal_LossHeadRefIdeal_pre_loss_finite := by
  intro m g m' g' hpre hargs
  refine ⟨fun c => (dats m 0 c).arrAt 5 cfg0.N, fun c => (dats m 0 c).arrAt 6 cfg0.N, fun c => (dats m 0 c).arrAt 7 cfg0.N, fun c => (dats m 0 c).arrAt 8 cfg0.N,
    run_blocks m g, (θ_run _ _ _).mono (fun r h c => ?_) (Cert.LossHeadRefIdeal.Value.run m' g')⟩
  obtain ⟨h0, h1, h2, h3, hr⟩ := h c
  obtain ⟨a0, a1, a2, a3, a4⟩ := hargs c
  obtain ⟨A, H⟩ := reals_of_finite _ _ _ _ _ (hpre c)
  have eF : FF m' c = Cert.LossHeadRefIdeal.Parts.product (m ((c.tc : Thread nD τ).loc main_arg0)) (m ((c.tc : Thread nD τ).loc main_arg1)) := by
    unfold FF; rw [a0, a1]
  have eE : E m' c = Cert.LossHeadRefIdeal.Parts.err (m ((c.tc : Thread nD τ).loc main_arg2))
      (Cert.LossHeadRefIdeal.Parts.product (m ((c.tc : Thread nD τ).loc main_arg0)) (m ((c.tc : Thread nD τ).loc main_arg1)))
      (m ((c.tc : Thread nD τ).loc main_arg3)) (m ((c.tc : Thread nD τ).loc main_arg4)) := by
    unfold E; rw [eF, a2, a3, a4]
  refine ⟨(h0.trans (?_ : _ = dErr (E m' c))).trans ?_, (h1.trans (out_ff m' c)).trans ?_, (h2.trans (?_ : _ = loss (E m' c))).trans ?_,
    (h3.trans (?_ : _ = Cert.InputBwdRefIdeal.Parts.dGain (FF m' c) (dErr (E m' c)))).trans ?_, hr⟩
  · sl_kernel_rfl
  · rw [eE]; exact ((final5 m c H).trans (rows_eq H)).symm
  · rw [eF, eE, a4]; exact ((final6 m c H).trans (ff_eq H)).symm
  · sl_kernel_rfl
  · rw [eE]; exact ((final7 m c H).trans (loss_eq H)).symm
  · sl_kernel_rfl
  · rw [eF, eE]; exact ((final8 m c H).trans (gain_eq H)).symm

end Cert.LossHeadIdeal.Value

end
-- ==== Proof.Post.Block.lean ====
/- One block of 512 rows of the backward call of the two norms around the residual: what its text computes on real numbers. -/
module

public import proofs.«01_k».proof.Proof.Gen.PostFfnBwdIdeal.Value
public import proofs.«01_k».proof.Proof.Norm
public import Idealize.ShloMosaic.Lib.Pipeline.ValueKit
public import Idealize.ShloMosaic.Lib.Claim
public import Idealize.ShloMosaic.Lib.Pointwise

@[expose] public section

set_option maxRecDepth 16384

noncomputable section

namespace Cert.PostFfnBwdIdeal.Post

open Cert.PostFfnBwdIdeal Cert.PostFfnBwdIdeal.Gen
open Idealize.ShloMosaic Idealize.ShloMosaic.TcCoe

/-- A block's real numbers: the two projections' cotangents and weights, the stream after the mixer, its cotangent, the mixer's output
    and the two gains. -/
structure Reals where
  a : Fin 512 → Fin 2816 → ℝ
  wa : Fin 2816 → Fin 1024 → ℝ
  b : Fin 512 → Fin 2816 → ℝ
  wb : Fin 2816 → Fin 1024 → ℝ
  x : Fin 512 → Fin 1024 → ℝ
  y : Fin 512 → Fin 1024 → ℝ
  mix : Fin 512 → Fin 1024 → ℝ
  g : Fin 1024 → ℝ
  gm : Fin 1024 → ℝ

/-- The second norm's cotangent. -/
def Reals.d (T : Reals) (i : Fin 512) (k : Fin 1024) : ℝ := (∑ c, T.a i c * T.wa c k) + ∑ c, T.b i c * T.wb c k

/-- The stream's gradient. -/
def Reals.dx (T : Reals) (i : Fin 512) (k : Fin 1024) : ℝ := T.y i k + Norm.grad (T.x i) (fun k => T.d i k * T.g k) k

structure Given (T : Reals) (x0 : Vec Ideal S512x2816 .bf16) (x1 : Vec Ideal S2816x1024 .bf16) (x2 : Vec Ideal S512x2816 .bf16) (x3 : Vec Ideal S2816x1024 .bf16)
    (x4 x5 x6 : Vec Ideal S512x1024 .f32) (x7 x8 : Vec Ideal S1x1024 .f32) : Prop where
  a : ∀ i c, x0 (ix2 i c) = ((T.a i c : ℝ) : EReal)
  wa : ∀ c k, x1 (ix2 c k) = ((T.wa c k : ℝ) : EReal)
  b : ∀ i c, x2 (ix2 i c) = ((T.b i c : ℝ) : EReal)
  wb : ∀ c k, x3 (ix2 c k) = ((T.wb c k : ℝ) : EReal)
  x : ∀ i k, x4 (ix2 i k) = ((T.x i k : ℝ) : EReal)
  y : ∀ i k, x5 (ix2 i k) = ((T.y i k : ℝ) : EReal)
  mix : ∀ i k, x6 (ix2 i k) = ((T.mix i k : ℝ) : EReal)
  g : ∀ k, x7 (ix2 0 k) = ((T.g k : ℝ) : EReal)
  gm : ∀ k, x8 (ix2 0 k) = ((T.gm k : ℝ) : EReal)

section Block

variable {T : Reals} {x0 : Vec Ideal S512x2816 .bf16} {x1 : Vec Ideal S2816x1024 .bf16} {x2 : Vec Ideal S512x2816 .bf16} {x3 : Vec Ideal S2816x1024 .bf16}
  {x4 x5 x6 : Vec Ideal S512x1024 .f32} {x7 x8 : Vec Ideal S1x1024 .f32}
variable (G : Given T x0 x1 x2 x3 x4 x5 x6 x7 x8)
include G

theorem product_real (i : Fin 512) (k : Fin 1024) : k0_pay6 (F := Ideal) x0 x1 x2 x3 (ix2 i k) = ((T.d i k : ℝ) : EReal) := by
  unfold k0_pay6
  pointwise
  simp only [G.a, G.wa, G.b, G.wb, ← EReal.coe_mul]
  rw [Lift.coe_sum, Lift.coe_sum, ← EReal.coe_add]
  rfl

theorem scale_real (i : Fin 512) : k0_pay8 (F := Ideal) x4 (ix2 i (0 : Fin 1)) = ((Norm.scale (T.x i) : ℝ) : EReal) := by
  unfold k0_pay8 k0_pay7
  pointwise
  simp only [G.x]
  exact Norm.scale_real (T.x i)

theorem scale_mix_real (i : Fin 512) : k0_pay15 (F := Ideal) x6 (ix2 i (0 : Fin 1)) = ((Norm.scale (T.mix i) : ℝ) : EReal) := by
  unfold k0_pay15
  pointwise
  simp only [G.mix]
  exact Norm.scale_real (T.mix i)

theorem stream_real (i : Fin 512) (k : Fin 1024) :
    k0_pay14 (F := Ideal) x5 (k0_pay10 x0 x1 x2 x3 x4 x7) (k0_pay11 x4) (k0_pay12 x0 x1 x2 x3 x4 x7) (ix2 i k) = ((T.dx i k : ℝ) : EReal) := by
  have hd := product_real G
  have hs := scale_real G i
  unfold k0_pay14 k0_pay10 k0_pay11 k0_pay12 k0_pay9 k0_pay7
  generalize k0_pay8 (F := Ideal) x4 = R at hs ⊢
  generalize k0_pay6 (F := Ideal) x0 x1 x2 x3 = D at hd ⊢
  pointwise
  simp only [G.x, G.y, G.g, hd, hs]
  unfold Reals.dx
  rw [EReal.coe_add, ← Norm.grad_call]
  simp only [EReal.coe_mul]

/-- The block of the stream's gradients. -/
theorem rows_real (i : Fin 512) (k : Fin 1024) :
    k0_pay17 (F := Ideal) x5 (k0_pay10 x0 x1 x2 x3 x4 x7) (k0_pay11 x4) (k0_pay12 x0 x1 x2 x3 x4 x7) (ix2 i k) = ((T.dx i k : ℝ) : EReal) := by
  have h := stream_real G
  unfold k0_pay17
  generalize k0_pay14 (F := Ideal) x5 (k0_pay10 x0 x1 x2 x3 x4 x7) (k0_pay11 x4) (k0_pay12 x0 x1 x2 x3 x4 x7) = D at h ⊢
  pointwise
  exact h i k

/-- The block of the mixer output's gradients. -/
theorem mix_real (i : Fin 512) (k : Fin 1024) :
    k0_pay1 (k0_pay18 (F := Ideal) x5 x6 x8 (k0_pay10 x0 x1 x2 x3 x4 x7) (k0_pay11 x4) (k0_pay12 x0 x1 x2 x3 x4 x7)) (ix2 i k)
      = ((Norm.grad (T.mix i) (fun k => T.dx i k * T.gm k) k : ℝ) : EReal) := by
  have h := stream_real G
  have hs := scale_mix_real G i
  unfold k0_pay1 k0_pay18
  generalize k0_pay14 (F := Ideal) x5 (k0_pay10 x0 x1 x2 x3 x4 x7) (k0_pay11 x4) (k0_pay12 x0 x1 x2 x3 x4 x7) = D at h ⊢
  generalize k0_pay15 (F := Ideal) x6 = R at hs ⊢
  pointwise
  simp only [G.mix, G.gm, h, hs]
  rw [← Norm.grad_call]
  simp only [EReal.coe_mul]

/-- The second gain's part of the block. -/
theorem gain_real (k : Fin 1024) : k0_pay13 (F := Ideal) (k0_pay6 x0 x1 x2 x3) (k0_pay7 x4) (k0_pay8 x4) (ix2 (0 : Fin 1) k)
    = ((∑ i, T.d i k * T.x i k * Norm.scale (T.x i) : ℝ) : EReal) := by
  have hd := product_real G
  have hs := scale_real G
  unfold k0_pay13 k0_pay7
  generalize k0_pay8 (F := Ideal) x4 = R at hs ⊢
  generalize k0_pay6 (F := Ideal) x0 x1 x2 x3 = D at hd ⊢
  pointwise
  refine Eq.trans (Finset.sum_congr rfl fun i _ => ?_) (Lift.coe_sum _ _)
  rw [hd, hs, G.x, ← EReal.coe_mul, ← EReal.coe_mul]

/-- The first gain's part of the block. -/
theorem gain_mix_real (k : Fin 1024) :
    k0_pay16 (F := Ideal) x5 x6 (k0_pay10 x0 x1 x2 x3 x4 x7) (k0_pay11 x4) (k0_pay12 x0 x1 x2 x3 x4 x7) (ix2 (0 : Fin 1) k)
      = ((∑ i, T.dx i k * T.mix i k * Norm.scale (T.mix i) : ℝ) : EReal) := by
  have h := stream_real G
  have hs := scale_mix_real G
  unfold k0_pay16
  generalize k0_pay14 (F := Ideal) x5 (k0_pay10 x0 x1 x2 x3 x4 x7) (k0_pay11 x4) (k0_pay12 x0 x1 x2 x3 x4 x7) = D at h ⊢
  generalize k0_pay15 (F := Ideal) x6 = R at hs ⊢
  pointwise
  refine Eq.trans (Finset.sum_congr rfl fun i _ => ?_) (Lift.coe_sum _ _)
  rw [h, hs, G.mix, ← EReal.coe_mul, ← EReal.coe_mul]

end Block

end Cert.PostFfnBwdIdeal.Post

end
-- ==== Proof.Post.Arrays.lean ====
/- What the backward call of the two norms around the residual leaves in its four arrays. -/
module

public import proofs.«01_k».proof.Proof.Input.Arrays
public import proofs.«01_k».proof.Proof.Post.Block
public import proofs.«01_k».proof.Proof.Post.Parts

@[expose] public section

set_option maxRecDepth 16384

noncomputable section

namespace Cert.PostFfnBwdIdeal.Post

open Cert.PostFfnBwdIdeal Cert.PostFfnBwdIdeal.Gen
open Idealize.ShloMosaic Idealize.ShloMosaic.TcCoe Idealize.ShloMosaic.StableHlo Idealize.SL.Sem
open Cert.InputBwdIdeal.Input (pair sum_blocks)

abbrev Rows : Type := FVec Ideal S2048x1024 .f32
abbrev Gain : Type := FVec Ideal S1x1024 .f32
abbrev Wide : Type := FVec Ideal S2048x2816 .f32
abbrev Weight : Type := FVec Ideal S1024x2816 .f32

/-- A weight, turned over. -/
def turned (w : Weight) : FVec Ideal S2816x1024 .f32 := transpose S2816x1024 [1, 0] w transposes_S1024x2816_S2816x1024_1_0

theorem turned_apply (w : Weight) (c : Fin 2816) (k : Fin 1024) : turned w (ix2 c k) = w (ix2 k c) := by
  unfold turned
  pointwise

variable (m : (ℓ : Loc nD τ sig) → Buf (Elt Ideal) ℓ) (c : Dev nD)

theorem V_a : (V m c main_v15 : FVec Ideal S2048x2816 .bf16) = (m ((c.tc : Thread nD τ).loc main_arg7) : Wide) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem V_wa : (V m c main_v17 : FVec Ideal S2816x1024 .bf16) = turned (m ((c.tc : Thread nD τ).loc main_arg4)) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem V_b : (V m c main_v18 : FVec Ideal S2048x2816 .bf16) = (m ((c.tc : Thread nD τ).loc main_arg8) : Wide) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem V_wb : (V m c main_v20 : FVec Ideal S2816x1024 .bf16) = turned (m ((c.tc : Thread nD τ).loc main_arg5)) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem V_x : (V m c main_v14 : Rows) = Cert.PostFfnRefIdeal.Parts.stream (m ((c.tc : Thread nD τ).loc main_arg0)) (m ((c.tc : Thread nD τ).loc main_arg1)) (m ((c.tc : Thread nD τ).loc main_arg2)) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem index : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] ∧ win0_8.index t = ![0, 0] ∧ win0_9.index t = ![t.val, 0] ∧ win0_10.index t = ![t.val, 0] :=
  (by decide +kernel : ∀ t : Fin grid0.N, _)

abbrev rowAt (t : Fin cfg0.N) (i : Fin 512) : Fin 2048 := ⟨512 * t.val + i.val, by have := lt_of_lt_of_eq t.isLt N_0; omega⟩

section Windows

variable (t : Fin cfg0.N) (X : (b : Ref sig .tc) → Buf (Elt Ideal) ((c.tc : Thread nD τ).loc b))

theorem read_a (i : Fin 512) (k : Fin 2816) : (((cfg0.win 0).blk t).view.read (Elt Ideal) (X (Pipeline.arrRef spec0 0)) : FVec Ideal S512x2816 .bf16) (ix2 i k)
    = (X main_v15 : FVec Ideal S2048x2816 .bf16) (ix2 (rowAt t i) k) := by
  refine congrArg (X main_v15 : FVec Ideal S2048x2816 .bf16) (?_ : ((cfg0.win 0).blk t).view.emb (ix2 i k) = _)
  funext a
  apply Fin.ext
  refine (Pipeline.Window.rect_emb_val win0_0 t (ix2 i k) a).trans ?_
  rw [(index t).1]
  fin_cases a
  · show t.val * 512 + i.val = 512 * t.val + i.val
    omega
  · show 0 * 2816 + k.val = k.val
    omega

theorem read_wa (i : Fin 2816) (k : Fin 1024) : (((cfg0.win 1).blk t).view.read (Elt Ideal) (X (Pipeline.arrRef spec0 1)) : FVec Ideal S2816x1024 .bf16) (ix2 i k)
    = (X main_v17 : FVec Ideal S2816x1024 .bf16) (ix2 i k) := by
  refine congrArg (X main_v17 : FVec Ideal S2816x1024 .bf16) (?_ : ((cfg0.win 1).blk t).view.emb (ix2 i k) = _)
  funext a
  apply Fin.ext
  refine (Pipeline.Window.rect_emb_val win0_1 t (ix2 i k) a).trans ?_
  rw [(index t).2.1]
  fin_cases a
  · show 0 * 2816 + i.val = i.val
    omega
  · show 0 * 1024 + k.val = k.val
    omega

theorem read_b (i : Fin 512) (k : Fin 2816) : (((cfg0.win 2).blk t).view.read (Elt Ideal) (X (Pipeline.arrRef spec0 2)) : FVec Ideal S512x2816 .bf16) (ix2 i k)
    = (X main_v18 : FVec Ideal S2048x2816 .bf16) (ix2 (rowAt t i) k) := by
  refine congrArg (X main_v18 : FVec Ideal S2048x2816 .bf16) (?_ : ((cfg0.win 2).blk t).view.emb (ix2 i k) = _)
  funext a
  apply Fin.ext
  refine (Pipeline.Window.rect_emb_val win0_2 t (ix2 i k) a).trans ?_
  rw [(index t).2.2.1]
  fin_cases a
  · show t.val * 512 + i.val = 512 * t.val + i.val
    omega
  · show 0 * 2816 + k.val = k.val
    omega

theorem read_wb (i : Fin 2816) (k : Fin 1024) : (((cfg0.win 3).blk t).view.read (Elt Ideal) (X (Pipeline.arrRef spec0 3)) : FVec Ideal S2816x1024 .bf16) (ix2 i k)
    = (X main_v20 : FVec Ideal S2816x1024 .bf16) (ix2 i k) := by
  refine congrArg (X main_v20 : FVec Ideal S2816x1024 .bf16) (?_ : ((cfg0.win 3).blk t).view.emb (ix2 i k) = _)
  funext a
  apply Fin.ext
  refine (Pipeline.Window.rect_emb_val win0_3 t (ix2 i k) a).trans ?_
  rw [(index t).2.2.2.1]
  fin_cases a
  · show 0 * 2816 + i.val = i.val
    omega
  · show 0 * 1024 + k.val = k.val
    omega

theorem read_x (i : Fin 512) (k : Fin 1024) : (((cfg0.win 4).blk t).view.read (Elt Ideal) (X (Pipeline.arrRef spec0 4)) : FVec Ideal S512x1024 .f32) (ix2 i k)
    = (X main_v14 : Rows) (ix2 (rowAt t i) k) := by
  refine congrArg (X main_v14 : Rows) (?_ : ((cfg0.win 4).blk t).view.emb (ix2 i k) = _)
  funext a
  apply Fin.ext
  refine (Pipeline.Window.rect_emb_val win0_4 t (ix2 i k) a).trans ?_
  rw [(index t).2.2.2.2.1]
  fin_cases a
  · show t.val * 512 + i.val = 512 * t.val + i.val
    omega
  · show 0 * 1024 + k.val = k.val
    omega

theorem read_y (i : Fin 512) (k : Fin 1024) : (((cfg0.win 5).blk t).view.read (Elt Ideal) (X (Pipeline.arrRef spec0 5)) : FVec Ideal S512x1024 .f32) (ix2 i k)
    = (X main_arg6 : Rows) (ix2 (rowAt t i) k) := by
  refine congrArg (X main_arg6 : Rows) (?_ : ((cfg0.win 5).blk t).view.emb (ix2 i k) = _)
  funext a
  apply Fin.ext
  refine (Pipeline.Window.rect_emb_val win0_5 t (ix2 i k) a).trans ?_
  rw [(index t).2.2.2.2.2.1]
  fin_cases a
  · show t.val * 512 + i.val = 512 * t.val + i.val
    omega
  · show 0 * 1024 + k.val = k.val
    omega

theorem read_mix (i : Fin 512) (k : Fin 1024) : (((cfg0.win 6).blk t).view.read (Elt Ideal) (X (Pipeline.arrRef spec0 6)) : FVec Ideal S512x1024 .f32) (ix2 i k)
    = (X main_arg1 : Rows) (ix2 (rowAt t i) k) := by
  refine congrArg (X main_arg1 : Rows) (?_ : ((cfg0.win 6).blk t).view.emb (ix2 i k) = _)
  funext a
  apply Fin.ext
  refine (Pipeline.Window.rect_emb_val win0_6 t (ix2 i k) a).trans ?_
  rw [(index t).2.2.2.2.2.2.1]
  fin_cases a
  · show t.val * 512 + i.val = 512 * t.val + i.val
    omega
  · show 0 * 1024 + k.val = k.val
    omega

theorem read_g (k : Fin 1024) : (((cfg0.win 7).blk t).view.read (Elt Ideal) (X (Pipeline.arrRef spec0 7)) : Gain) (ix2 0 k)
    = (X main_arg3 : Gain) (ix2 0 k) := by
  refine congrArg (X main_arg3 : Gain) (?_ : ((cfg0.win 7).blk t).view.emb (ix2 0 k) = _)
  funext a
  apply Fin.ext
  refine (Pipeline.Window.rect_emb_val win0_7 t (ix2 0 k) a).trans ?_
  rw [(index t).2.2.2.2.2.2.2.1]
  fin_cases a
  · show 0 * 1 + 0 = 0
    omega
  · show 0 * 1024 + k.val = k.val
    omega

theorem read_gm (k : Fin 1024) : (((cfg0.win 8).blk t).view.read (Elt Ideal) (X (Pipeline.arrRef spec0 8)) : Gain) (ix2 0 k)
    = (X main_arg2 : Gain) (ix2 0 k) := by
  refine congrArg (X main_arg2 : Gain) (?_ : ((cfg0.win 8).blk t).view.emb (ix2 0 k) = _)
  funext a
  apply Fin.ext
  refine (Pipeline.Window.rect_emb_val win0_8 t (ix2 0 k) a).trans ?_
  rw [(index t).2.2.2.2.2.2.2.2.1]
  fin_cases a
  · show 0 * 1 + 0 = 0
    omega
  · show 0 * 1024 + k.val = k.val
    omega

theorem emb9 (i : Fin 512) (k : Fin 1024) : ((cfg0.win 9).blk t).view.emb (ix2 i k) = (ix2 (rowAt t i) k : S2048x1024.Idx) := by
  funext a
  apply Fin.ext
  refine (Pipeline.Window.rect_emb_val win0_9 t (ix2 i k) a).trans ?_
  rw [(index t).2.2.2.2.2.2.2.2.2.1]
  fin_cases a
  · show t.val * 512 + i.val = 512 * t.val + i.val
    omega
  · show 0 * 1024 + k.val = k.val
    omega

theorem emb10 (i : Fin 512) (k : Fin 1024) : ((cfg0.win 10).blk t).view.emb (ix2 i k) = (ix2 (rowAt t i) k : S2048x1024.Idx) := by
  funext a
  apply Fin.ext
  refine (Pipeline.Window.rect_emb_val win0_10 t (ix2 i k) a).trans ?_
  rw [(index t).2.2.2.2.2.2.2.2.2.2]
  fin_cases a
  · show t.val * 512 + i.val = 512 * t.val + i.val
    omega
  · show 0 * 1024 + k.val = k.val
    omega

end Windows

/-- The arguments as real numbers. -/
structure Args where
  x : Fin 2048 → Fin 1024 → ℝ
  mix : Fin 2048 → Fin 1024 → ℝ
  gm : Fin 1024 → ℝ
  g : Fin 1024 → ℝ
  wa : Fin 1024 → Fin 2816 → ℝ
  wb : Fin 1024 → Fin 2816 → ℝ
  y : Fin 2048 → Fin 1024 → ℝ
  a : Fin 2048 → Fin 2816 → ℝ
  b : Fin 2048 → Fin 2816 → ℝ

structure Are (A : Args) (x mix : Rows) (gm g : Gain) (wa wb : Weight) (y : Rows) (a b : Wide) : Prop where
  x : ∀ i k, x (ix2 i k) = ((A.x i k : ℝ) : EReal)
  mix : ∀ i k, mix (ix2 i k) = ((A.mix i k : ℝ) : EReal)
  gm : ∀ k, gm (ix2 0 k) = ((A.gm k : ℝ) : EReal)
  g : ∀ k, g (ix2 0 k) = ((A.g k : ℝ) : EReal)
  wa : ∀ k c, wa (ix2 k c) = ((A.wa k c : ℝ) : EReal)
  wb : ∀ k c, wb (ix2 k c) = ((A.wb k c : ℝ) : EReal)
  y : ∀ i k, y (ix2 i k) = ((A.y i k : ℝ) : EReal)
  a : ∀ i c, a (ix2 i c) = ((A.a i c : ℝ) : EReal)
  b : ∀ i c, b (ix2 i c) = ((A.b i c : ℝ) : EReal)

/-- The stream after the mixer, the second norm's cotangent, the stream's gradient. -/
def Args.stream (A : Args) (i : Fin 2048) (k : Fin 1024) : ℝ := A.x i k + A.mix i k * Norm.scale (A.mix i) * A.gm k
def Args.d (A : Args) (i : Fin 2048) (k : Fin 1024) : ℝ := (∑ c, A.a i c * A.wa k c) + ∑ c, A.b i c * A.wb k c
def Args.dx (A : Args) (i : Fin 2048) (k : Fin 1024) : ℝ := A.y i k + Norm.grad (A.stream i) (fun k => A.d i k * A.g k) k

/-- The numbers of a point's blocks. -/
def reals (A : Args) (t : Fin cfg0.N) : Reals where
  a i := A.a (rowAt t i)
  wa c k := A.wa k c
  b i := A.b (rowAt t i)
  wb c k := A.wb k c
  x i := A.stream (rowAt t i)
  y i := A.y (rowAt t i)
  mix i := A.mix (rowAt t i)
  g := A.g
  gm := A.gm

def rowsArr (A : Args) : Rows := fun z => ((A.dx (z 0) (z 1) : ℝ) : EReal)
def mixArr (A : Args) : FVec Ideal S2048x1024 .bf16 := fun z => ((Norm.grad (A.mix (z 0)) (fun k => A.dx (z 0) k * A.gm k) (z 1) : ℝ) : EReal)
def gainArr (A : Args) : Gain := fun z => ((∑ i, A.d i (z 1) * A.stream i (z 1) * Norm.scale (A.stream i) : ℝ) : EReal)
def gainMixArr (A : Args) : Gain := fun z => ((∑ i, A.dx i (z 1) * A.mix i (z 1) * Norm.scale (A.mix i) : ℝ) : EReal)

section Given

variable {A : Args} (H : Are A (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8)))
include H

theorem given (t : Fin cfg0.N) : Given (reals A t) (iblk m c 0 t) (iblk m c 1 t) (iblk m c 2 t) (iblk m c 3 t) (iblk m c 4 t) (iblk m c 5 t) (iblk m c 6 t)
    (iblk m c 7 t) (iblk m c 8 t) where
  a i k := (read_a c t (V m c) i k).trans ((congrFun (V_a m c) _).trans (H.a _ _))
  wa i k := (read_wa c t (V m c) i k).trans ((congrFun (V_wa m c) _).trans ((turned_apply _ _ _).trans (H.wa _ _)))
  b i k := (read_b c t (V m c) i k).trans ((congrFun (V_b m c) _).trans (H.b _ _))
  wb i k := (read_wb c t (V m c) i k).trans ((congrFun (V_wb m c) _).trans ((turned_apply _ _ _).trans (H.wb _ _)))
  x i k := (read_x c t (V m c) i k).trans ((congrFun (V_x m c) _).trans (Cert.PostFfnRefIdeal.Parts.stream_real H.x H.mix H.gm _ _))
  y i k := (read_y c t (V m c) i k).trans ((congrFun (V_main_arg6 m c) _).trans (H.y _ _))
  mix i k := (read_mix c t (V m c) i k).trans ((congrFun (V_main_arg1 m c) _).trans (H.mix _ _))
  g k := (read_g c t (V m c) k).trans ((congrFun (V_main_arg3 m c) _).trans (H.g _))
  gm k := (read_gm c t (V m c) k).trans ((congrFun (V_main_arg2 m c) _).trans (H.gm _))

theorem block9 (t : Fin cfg0.N) (i : Fin 512) (k : Fin 1024) : (outsAt0 m c t.val t.isLt).1 (ix2 i k) = rowsArr A (ix2 (rowAt t i) k) := by
  have ht := lt_of_lt_of_eq t.isLt N_0
  by_cases h : t.val % 4 = 0
  · rw [outsAt0_A m c t h (by omega) h (by omega)]
    frame_out
    exact rows_real (given m c H t) i k
  · rw [outsAt0_B m c t h (by omega) h (by omega)]
    frame_out
    exact rows_real (given m c H t) i k

theorem final9 : (dats m 0 c).arrAt 9 (cfgs 0).N = rowsArr A := by
  refine (dats m 0 c).arrAt_eq_of_covers 9 _ (by decide +kernel) fun t _ y => ?_
  obtain ⟨i, k, rfl⟩ := pair (n := 512) (k := 1024) y
  refine Eq.trans ?_ (congrArg (rowsArr A) (emb9 t i k)).symm
  blk_simp
  rw [after0_9]
  exact block9 m c H t i k

theorem block10 (t : Fin cfg0.N) (i : Fin 512) (k : Fin 1024) : (outsAt0 m c t.val t.isLt).2.1 (ix2 i k) = mixArr A (ix2 (rowAt t i) k) := by
  have ht := lt_of_lt_of_eq t.isLt N_0
  by_cases h : t.val % 4 = 0
  · rw [outsAt0_A m c t h (by omega) h (by omega)]
    frame_out
    exact mix_real (given m c H t) i k
  · rw [outsAt0_B m c t h (by omega) h (by omega)]
    frame_out
    exact mix_real (given m c H t) i k

theorem final10 : (dats m 0 c).arrAt 10 (cfgs 0).N = mixArr A := by
  refine (dats m 0 c).arrAt_eq_of_covers 10 _ (by decide +kernel) fun t _ y => ?_
  obtain ⟨i, k, rfl⟩ := pair (n := 512) (k := 1024) y
  refine Eq.trans ?_ (congrArg (mixArr A) (emb10 t i k)).symm
  blk_simp
  rw [after0_10]
  exact block10 m c H t i k

/-- What the second gain's buffer gains at a point. -/
def part (A : Args) (t : Fin cfg0.N) (j : S1x1024.Idx) : EReal := ((∑ i, A.d (rowAt t i) (j 1) * A.stream (rowAt t i) (j 1) * Norm.scale (A.stream (rowAt t i)) : ℝ) : EReal)

omit H in
theorem part_real {z : Gain} {A : Args} {t : Fin cfg0.N} (h : ∀ k, z (ix2 0 k) = part A t (ix2 0 k)) (j : S1x1024.Idx) : z j = part A t j := by
  obtain ⟨i, k, rfl⟩ := pair (n := 1) (k := 1024) j
  obtain rfl : i = 0 := Subsingleton.elim _ _
  exact h k

theorem part_eq (t : Fin cfg0.N) (j : S1x1024.Idx) : k0_pay13 (F := Ideal) (k0_pay6 (iblk m c 0 t) (iblk m c 1 t) (iblk m c 2 t) (iblk m c 3 t)) (k0_pay7 (iblk m c 4 t)) (k0_pay8 (iblk m c 4 t)) j = part A t j :=
  part_real (fun k => gain_real (given m c H t) k) j

theorem final11 : (dats m 0 c).arrAt 11 (cfgs 0).N = gainArr A := by
  refine (dats m 0 c).arrAt_eq_of_after_last 11 t0_3 (by decide +kernel) _ fun j => ?_
  blk_simp
  rw [after0_11, Pipeline.eq_sum_fin_of_reset_step_apply_last (fun n h => (outsAt0 m c n h).2.2.1) 4 (fun _ => (0 : EReal)) (part A)
    (fun t h j => by
      have ht := lt_of_lt_of_eq t.isLt N_0
      rw [outsAt0_A m c t h (by omega) h (by omega)]
      frame_out
      rw [k0_pay2, shapeCast_self, zero_add]
      exact part_eq m c H t j)
    (fun t h j => by
      rw [outsAt0_B m c t h (by omega) h (by omega)]
      frame_out
      rw [k0_pay3, shapeCast_self]
      exact congrArg _ (part_eq m c H t j))
    (le_of_eq N_0) t0_3 rfl j, zero_add]
  exact sum_blocks N_0 fun i => A.d i (j 1) * A.stream i (j 1) * Norm.scale (A.stream i)

/-- What the first gain's buffer gains at a point. -/
def partMix (A : Args) (t : Fin cfg0.N) (j : S1x1024.Idx) : EReal := ((∑ i, A.dx (rowAt t i) (j 1) * A.mix (rowAt t i) (j 1) * Norm.scale (A.mix (rowAt t i)) : ℝ) : EReal)

omit H in
theorem partMix_real {z : Gain} {A : Args} {t : Fin cfg0.N} (h : ∀ k, z (ix2 0 k) = partMix A t (ix2 0 k)) (j : S1x1024.Idx) : z j = partMix A t j := by
  obtain ⟨i, k, rfl⟩ := pair (n := 1) (k := 1024) j
  obtain rfl : i = 0 := Subsingleton.elim _ _
  exact h k

theorem partMix_eq (t : Fin cfg0.N) (j : S1x1024.Idx) : k0_pay16 (F := Ideal) (iblk m c 5 t) (iblk m c 6 t) (k0_pay10 (iblk m c 0 t) (iblk m c 1 t) (iblk m c 2 t) (iblk m c 3 t) (iblk m c 4 t) (iblk m c 7 t)) (k0_pay11 (iblk m c 4 t)) (k0_pay12 (iblk m c 0 t) (iblk m c 1 t) (iblk m c 2 t) (iblk m c 3 t) (iblk m c 4 t) (iblk m c 7 t)) j = partMix A t j :=
  partMix_real (fun k => gain_mix_real (given m c H t) k) j

theorem final12 : (dats m 0 c).arrAt 12 (cfgs 0).N = gainMixArr A := by
  refine (dats m 0 c).arrAt_eq_of_after_last 12 t0_3 (by decide +kernel) _ fun j => ?_
  blk_simp
  rw [after0_12, Pipeline.eq_sum_fin_of_reset_step_apply_last (fun n h => (outsAt0 m c n h).2.2.2) 4 (fun _ => (0 : EReal)) (partMix A)
    (fun t h j => by
      have ht := lt_of_lt_of_eq t.isLt N_0
      rw [outsAt0_A m c t h (by omega) h (by omega)]
      frame_out
      rw [k0_pay4, shapeCast_self, zero_add]
      exact partMix_eq m c H t j)
    (fun t h j => by
      rw [outsAt0_B m c t h (by omega) h (by omega)]
      frame_out
      rw [k0_pay5, shapeCast_self]
      exact congrArg _ (partMix_eq m c H t j))
    (le_of_eq N_0) t0_3 rfl j, zero_add]
  exact sum_blocks N_0 fun i => A.dx i (j 1) * A.mix i (j 1) * Norm.scale (A.mix i)

end Given

end Cert.PostFfnBwdIdeal.Post

end
-- ==== Proof.Post.Equation.lean ====
/- The backward call of the two norms around the residual computes their derivative. -/
module

public import proofs.«01_k».proof.Proof.Post.Arrays
public import proofs.«01_k».proof.Defs
public import proofs.«01_k».proof.Proof.Gen.Pre_post_finite

@[expose] public section

set_option maxRecDepth 16384

noncomputable section

namespace Cert.PostFfnBwdIdeal.Post

open Cert.PostFfnBwdIdeal.Gen
open Idealize.ShloMosaic Idealize.ShloMosaic.TcCoe Idealize.ShloMosaic.StableHlo Idealize.SL.Sem
open Cert.InputBwdIdeal.Input (pair)

/-- The precondition, read: the arguments are real numbers. -/
theorem reals_of_finite (x mix : Rows) (gm g : Gain) (wa wb : Weight) (y : Rows) (a b : Wide)
    (h : Cert.Pre_post_finite.fn (F := Ideal) x mix gm g wa wb y a b = fun _ => 1#1) : ∃ A, Are A x mix gm g wa wb y a b := by
  obtain ⟨h, hb⟩ := IntOp.andi_eq_one.1 (congrFun h fun a => a.elim0)
  obtain ⟨h, ha⟩ := IntOp.andi_eq_one.1 h
  obtain ⟨h, hy⟩ := IntOp.andi_eq_one.1 h
  obtain ⟨h, hwb⟩ := IntOp.andi_eq_one.1 h
  obtain ⟨h, hwa⟩ := IntOp.andi_eq_one.1 h
  obtain ⟨h, hg⟩ := IntOp.andi_eq_one.1 h
  obtain ⟨h, hgm⟩ := IntOp.andi_eq_one.1 h
  obtain ⟨hx, hmix⟩ := IntOp.andi_eq_one.1 h
  obtain ⟨rx, ex⟩ := Lift.real_of_all hx
  obtain ⟨rmix, emix⟩ := Lift.real_of_all hmix
  obtain ⟨rgm, egm⟩ := Lift.real_of_all hgm
  obtain ⟨rg, eg⟩ := Lift.real_of_all hg
  obtain ⟨rwa, ewa⟩ := Lift.real_of_all hwa
  obtain ⟨rwb, ewb⟩ := Lift.real_of_all hwb
  obtain ⟨ry, ey⟩ := Lift.real_of_all hy
  obtain ⟨ra, ea⟩ := Lift.real_of_all ha
  obtain ⟨rb, eb⟩ := Lift.real_of_all hb
  exact ⟨⟨fun i k => rx (ix2 i k), fun i k => rmix (ix2 i k), fun k => rgm (ix2 0 k), fun k => rg (ix2 0 k), fun i k => rwa (ix2 i k), fun i k => rwb (ix2 i k), fun i k => ry (ix2 i k), fun i k => ra (ix2 i k), fun i k => rb (ix2 i k)⟩,
    fun i k => congrFun ex _, fun i k => congrFun emix _, fun k => congrFun egm _, fun k => congrFun eg _, fun i k => congrFun ewa _, fun i k => congrFun ewb _, fun i k => congrFun ey _, fun i k => congrFun ea _, fun i k => congrFun eb _⟩

section Reference

open Cert.InputBwdRefIdeal.Parts Cert.PostFfnRefIdeal.Parts

variable {A : Args} {x mix : FVec Ideal S2048x1024 .f32} {gm g : FVec Ideal S1x1024 .f32} {wa wb : Weight} {y : FVec Ideal S2048x1024 .f32} {a b : Wide} (H : Are A x mix gm g wa wb y a b)
include H

theorem stream_eq (i : Fin 2048) (k : Fin 1024) : stream x mix gm (ix2 i k) = ((A.stream i k : ℝ) : EReal) := Cert.PostFfnRefIdeal.Parts.stream_real H.x H.mix H.gm i k

theorem d_eq (i : Fin 2048) (k : Fin 1024) : Cert.PostFfnRefIdeal.Parts.pulled a b wa wb (ix2 i k) = ((A.d i k : ℝ) : EReal) :=
  Cert.PostFfnRefIdeal.Parts.pulled_real H.a H.b H.wa H.wb i k

theorem dx_eq (i : Fin 2048) (k : Fin 1024) :
    dRows (stream x mix gm) (Cert.PostFfnRefIdeal.Parts.pulled a b wa wb) g y (ix2 i k) = ((A.dx i k : ℝ) : EReal) :=
  dRows_real (stream_eq H) (d_eq H) H.y H.g i k

theorem rows_eq : rowsArr A = dRows (stream x mix gm) (Cert.PostFfnRefIdeal.Parts.pulled a b wa wb) g y := by
  funext z
  obtain ⟨i, k, rfl⟩ := pair (n := 2048) (k := 1024) z
  exact (dx_eq H i k).symm

theorem mix_eq : mixArr A = dMix mix (onward (dRows (stream x mix gm) (Cert.PostFfnRefIdeal.Parts.pulled a b wa wb) g y)) gm := by
  funext z
  obtain ⟨i, k, rfl⟩ := pair (n := 2048) (k := 1024) z
  rw [onward_eq]
  exact (dMix_real H.mix (dx_eq H) H.gm i k).symm

theorem gain_eq : gainArr A = dGain (stream x mix gm) (Cert.PostFfnRefIdeal.Parts.pulled a b wa wb) := by
  funext z
  obtain ⟨i, k, rfl⟩ := pair (n := 1) (k := 1024) z
  obtain rfl : i = 0 := Subsingleton.elim _ _
  exact (dGain_real (stream_eq H) (d_eq H) k).symm

theorem gain_mix_eq : gainMixArr A = dGain mix (onward (dRows (stream x mix gm) (Cert.PostFfnRefIdeal.Parts.pulled a b wa wb) g y)) := by
  funext z
  obtain ⟨i, k, rfl⟩ := pair (n := 1) (k := 1024) z
  obtain rfl : i = 0 := Subsingleton.elim _ _
  rw [onward_eq]
  exact (dGain_real H.mix (dx_eq H) k).symm

end Reference

end Cert.PostFfnBwdIdeal.Post

namespace Cert.PostFfnBwdIdeal.Value

open Cert.PostFfnBwdIdeal.Gen Cert.PostFfnBwdIdeal.Post
open Idealize.ShloMosaic Idealize.ShloMosaic.TcCoe Idealize.ShloMosaic.StableHlo Idealize.SL.Sem
open Cert.PostFfnRefIdeal.Parts (X D DX out_rows out_mix out_gain)

set_option maxHeartbeats 1000000 in
theorem algebraic : Cert.algebraic_PostFfnBwdIdeal_PostFfnRefIdeal_pre_post_finite := by
  intro m g m' g' hpre hargs
  refine ⟨fun c => (dats m 0 c).arrAt 9 cfg0.N, fun c => (dats m 0 c).arrAt 10 cfg0.N, fun c => (dats m 0 c).arrAt 11 cfg0.N, fun c => (dats m 0 c).arrAt 12 cfg0.N,
    run_blocks m g, (θ_run _ _ _).mono (fun r h c => ?_) (Cert.PostFfnRefIdeal.Value.run m' g')⟩
  obtain ⟨h0, h1, h2, h3, hr⟩ := h c
  obtain ⟨a0, a1, a2, a3, a4, a5, a6, a7, a8⟩ := hargs c
  obtain ⟨A, H⟩ := reals_of_finite _ _ _ _ _ _ _ _ _ (hpre c)
  have eX : X m' c = Cert.PostFfnRefIdeal.Parts.stream (m ((c.tc : Thread nD τ).loc main_arg0)) (m ((c.tc : Thread nD τ).loc main_arg1)) (m ((c.tc : Thread nD τ).loc main_arg2)) := by
    unfold X; rw [a0, a1, a2]
  have eD : D m' c = Cert.PostFfnRefIdeal.Parts.pulled (m ((c.tc : Thread nD τ).loc main_arg7)) (m ((c.tc : Thread nD τ).loc main_arg8)) (m ((c.tc : Thread nD τ).loc main_arg4)) (m ((c.tc : Thread nD τ).loc main_arg5)) := by
    unfold D; rw [a4, a5, a7, a8]
  have eDX : DX m' c = rowsArr A := by
    unfold DX; rw [eX, eD, a3, a6]; exact (rows_eq H).symm
  refine ⟨(h0.trans (out_rows m' c)).trans (eDX.trans (final9 m c H).symm), (h1.trans (out_mix m' c)).trans ?_,
    (h2.trans (?_ : _ = Cert.InputBwdRefIdeal.Parts.dGain (X m' c) (D m' c))).trans ?_, (h3.trans (out_gain m' c)).trans ?_, hr⟩
  · rw [eDX, a1, a2, rows_eq H]; exact ((final10 m c H).trans (mix_eq H)).symm
  · sl_kernel_rfl
  · rw [eX, eD]; exact ((final11 m c H).trans (gain_eq H)).symm
  · rw [eDX, a1, rows_eq H]; exact ((final12 m c H).trans (gain_mix_eq H)).symm

end Cert.PostFfnBwdIdeal.Value

end
-- ==== Proof.Input.Equation.lean ====
/- The first norm's backward call computes the norm's derivative, from the projection's cotangent on. -/
module

public import proofs.«01_k».proof.Proof.Input.Arrays
public import proofs.«01_k».proof.Defs
public import proofs.«01_k».proof.Proof.Gen.Pre_input_finite

@[expose] public section

set_option maxRecDepth 16384

noncomputable section

namespace Cert.InputBwdIdeal.Input

open Cert.InputBwdIdeal.Gen
open Idealize.ShloMosaic Idealize.ShloMosaic.TcCoe Idealize.ShloMosaic.StableHlo Idealize.SL.Sem

/-- The precondition, read: the arguments are real numbers. -/
theorem reals_of_finite (x : Rows) (g : Gain) (w : FVec Ideal S1024x5896 .f32) (p : FVec Ideal S2048x5896 .f32) (y : Rows)
    (h : Cert.Pre_input_finite.fn (F := Ideal) x g w p y = fun _ => 1#1) : ∃ A, Are A x g w p y := by
  obtain ⟨h, hy⟩ := IntOp.andi_eq_one.1 (congrFun h fun a => a.elim0)
  obtain ⟨h, hp⟩ := IntOp.andi_eq_one.1 h
  obtain ⟨h, hw⟩ := IntOp.andi_eq_one.1 h
  obtain ⟨hx, hg⟩ := IntOp.andi_eq_one.1 h
  obtain ⟨rx, ex⟩ := Lift.real_of_all hx
  obtain ⟨rg, eg⟩ := Lift.real_of_all hg
  obtain ⟨rw, ew⟩ := Lift.real_of_all hw
  obtain ⟨rp, ep⟩ := Lift.real_of_all hp
  obtain ⟨ry, ey⟩ := Lift.real_of_all hy
  exact ⟨⟨fun i k => rx (ix2 i k), fun k => rg (ix2 0 k), fun k c => rw (ix2 k c), fun i c => rp (ix2 i c), fun i k => ry (ix2 i k)⟩,
    fun i k => congrFun ex _, fun k => congrFun eg _, fun k c => congrFun ew _, fun i c => congrFun ep _, fun i k => congrFun ey _⟩

open Cert.InputBwdRefIdeal.Parts in
theorem rows_eq {A : Args} {x : Rows} {g : Gain} {w : FVec Ideal S1024x5896 .f32} {p : FVec Ideal S2048x5896 .f32} {y : Rows} (H : Are A x g w p y) :
    rowsArr A = dRows x (pulled p w) g y := by
  funext z
  obtain ⟨i, k, rfl⟩ := pair (n := 2048) (k := 1024) z
  exact (dRows_real H.x (d := pulled p w) (fun i k => pulled_real H.p H.w i k) H.y H.g i k).symm

open Cert.InputBwdRefIdeal.Parts in
theorem gain_eq {A : Args} {x : Rows} {g : Gain} {w : FVec Ideal S1024x5896 .f32} {p : FVec Ideal S2048x5896 .f32} {y : Rows} (H : Are A x g w p y) :
    gainArr A = dGain x (pulled p w) := by
  funext z
  obtain ⟨i, k, rfl⟩ := pair (n := 1) (k := 1024) z
  obtain rfl : i = 0 := Subsingleton.elim _ _
  exact (dGain_real H.x (fun i k => pulled_real H.p H.w i k) k).symm

end Cert.InputBwdIdeal.Input

namespace Cert.InputBwdIdeal.Value

open Cert.InputBwdIdeal.Gen Cert.InputBwdIdeal.Input
open Idealize.ShloMosaic Idealize.ShloMosaic.TcCoe Idealize.ShloMosaic.StableHlo Idealize.SL.Sem

theorem algebraic : Cert.algebraic_InputBwdIdeal_InputBwdRefIdeal_pre_input_finite := by
  intro m g m' g' hpre hargs
  refine ⟨fun c => (dats m 0 c).arrAt 5 cfg0.N, fun c => (dats m 0 c).arrAt 6 cfg0.N,
    run_blocks m g, (θ_run _ _ _).mono (fun r h c => ?_) (Cert.InputBwdRefIdeal.Value.run m' g')⟩
  obtain ⟨h0, h1, hr⟩ := h c
  obtain ⟨a0, a1, a2, a3, a4⟩ := hargs c
  obtain ⟨A, H⟩ := reals_of_finite _ _ _ _ _ (hpre c)
  refine ⟨(h0.trans (Cert.InputBwdRefIdeal.Parts.out_rows m' c)).trans ?_, h1.trans ?_, hr⟩
  · rw [a0, a1, a2, a3, a4]; exact ((final5 m c H).trans (rows_eq H)).symm
  · rw [a0, a2, a3]; exact ((final6 m c H).trans (gain_eq H)).symm

end Cert.InputBwdIdeal.Value

end
-- ==== Proof.Mix.Block.lean ====
/- One block of 512 rows of the gated mixing, backward: what its text computes. -/
module

public import proofs.«01_k».proof.Proof.Gen.MixOutBwdIdeal.Frame
public import Idealize.ShloMosaic.Lib.Pipeline.ValueKit
public import Idealize.ShloMosaic.Lib.Claim
public import Idealize.ShloMosaic.Lib.Pointwise

@[expose] public section

set_option maxRecDepth 16384

noncomputable section

namespace Cert.MixOutBwdIdeal.Mix

open Cert.MixOutBwdIdeal Cert.MixOutBwdIdeal.Gen
open Idealize.ShloMosaic Idealize.ShloMosaic.TcCoe

/-- The logistic function, as both programs spell it. -/
def sg (x : EReal) : EReal := Ideal.div 1 (1 + Ideal.exp (-x))

/-- A block's numbers: the cotangent, both attentions' outputs, both gates, the three weights. -/
structure Nums where
  d : Fin 512 → Fin 1024 → EReal
  a : Fin 512 → Fin 256 → EReal
  b : Fin 512 → Fin 512 → EReal
  ga : Fin 512 → Fin 1024 → EReal
  gb : Fin 512 → Fin 1024 → EReal
  wa : Fin 256 → Fin 1024 → EReal
  wb : Fin 512 → Fin 1024 → EReal
  wo : Fin 1024 → Fin 1024 → EReal

/-- The merged rows' gradient, the two projected outputs, and the gradients of both. -/
def Nums.dm (T : Nums) (i : Fin 512) (k : Fin 1024) : EReal := ∑ n, T.d i n * T.wo k n
def Nums.ya (T : Nums) (i : Fin 512) (k : Fin 1024) : EReal := ∑ c, T.a i c * T.wa c k
def Nums.yb (T : Nums) (i : Fin 512) (k : Fin 1024) : EReal := ∑ c, T.b i c * T.wb c k

structure Given (T : Nums) (x0 : Vec Ideal S512x1024 .bf16) (x1 : Vec Ideal S512x256 .f32) (x2 : Vec Ideal S512x512 .f32) (x3 x4 : Vec Ideal S512x1024 .f32)
    (x5 : Vec Ideal S8x256x128 .bf16) (x6 : Vec Ideal S8x512x128 .bf16) (x7 : Vec Ideal S1024x1024 .bf16) : Prop where
  d : ∀ i k, x0 (ix2 i k) = T.d i k
  a : ∀ i c, x1 (ix2 i c) = T.a i c
  b : ∀ i c, x2 (ix2 i c) = T.b i c
  ga : ∀ i k, x3 (ix2 i k) = T.ga i k
  gb : ∀ i k, x4 (ix2 i k) = T.gb i k
  wa : ∀ c k, x5 (ix3 (⟨k.val / 128, by omega⟩ : Fin 8) c (⟨k.val % 128, by omega⟩ : Fin 128)) = T.wa c k
  wb : ∀ c k, x6 (ix3 (⟨k.val / 128, by omega⟩ : Fin 8) c (⟨k.val % 128, by omega⟩ : Fin 128)) = T.wb c k
  wo : ∀ k n, x7 (ix2 k n) = T.wo k n

/-- The weights' columns, put together from eight slots of 128. -/
abbrev columns_a (x5 : Vec Ideal S8x256x128 .bf16) : FVec Ideal S256x1024 .bf16 :=
  k0_pay5 (View.ld x5 (Rect.unit ![0, 0, 0] ![1, 256, 128] inb_S8x256x128_S1x256x128_0_0_0)) (View.ld x5 (Rect.unit ![1, 0, 0] ![1, 256, 128] inb_S8x256x128_S1x256x128_1_0_0)) (View.ld x5 (Rect.unit ![2, 0, 0] ![1, 256, 128] inb_S8x256x128_S1x256x128_2_0_0)) (View.ld x5 (Rect.unit ![3, 0, 0] ![1, 256, 128] inb_S8x256x128_S1x256x128_3_0_0)) (View.ld x5 (Rect.unit ![4, 0, 0] ![1, 256, 128] inb_S8x256x128_S1x256x128_4_0_0)) (View.ld x5 (Rect.unit ![5, 0, 0] ![1, 256, 128] inb_S8x256x128_S1x256x128_5_0_0)) (View.ld x5 (Rect.unit ![6, 0, 0] ![1, 256, 128] inb_S8x256x128_S1x256x128_6_0_0)) (View.ld x5 (Rect.unit ![7, 0, 0] ![1, 256, 128] inb_S8x256x128_S1x256x128_7_0_0))

abbrev columns_b (x6 : Vec Ideal S8x512x128 .bf16) : FVec Ideal S512x1024 .bf16 :=
  k0_pay7 (k0_pay6 (View.ld x6 (Rect.unit ![0, 0, 0] ![1, 512, 128] inb_S8x512x128_S1x512x128_0_0_0))) (View.ld x6 (Rect.unit ![1, 0, 0] ![1, 512, 128] inb_S8x512x128_S1x512x128_1_0_0)) (View.ld x6 (Rect.unit ![2, 0, 0] ![1, 512, 128] inb_S8x512x128_S1x512x128_2_0_0)) (View.ld x6 (Rect.unit ![3, 0, 0] ![1, 512, 128] inb_S8x512x128_S1x512x128_3_0_0)) (View.ld x6 (Rect.unit ![4, 0, 0] ![1, 512, 128] inb_S8x512x128_S1x512x128_4_0_0)) (View.ld x6 (Rect.unit ![5, 0, 0] ![1, 512, 128] inb_S8x512x128_S1x512x128_5_0_0)) (View.ld x6 (Rect.unit ![6, 0, 0] ![1, 512, 128] inb_S8x512x128_S1x512x128_6_0_0)) (View.ld x6 (Rect.unit ![7, 0, 0] ![1, 512, 128] inb_S8x512x128_S1x512x128_7_0_0))

theorem columns_a_apply (x5 : Vec Ideal S8x256x128 .bf16) (c : Fin 256) (k : Fin 1024) :
    columns_a x5 (ix2 c k) = x5 (ix3 (⟨k.val / 128, by omega⟩ : Fin 8) c (⟨k.val % 128, by omega⟩ : Fin 128)) := by
  unfold columns_a k0_pay5
  pointwise
  blk_point []

theorem columns_b_apply (x6 : Vec Ideal S8x512x128 .bf16) (c : Fin 512) (k : Fin 1024) :
    columns_b x6 (ix2 c k) = x6 (ix3 (⟨k.val / 128, by omega⟩ : Fin 8) c (⟨k.val % 128, by omega⟩ : Fin 128)) := by
  unfold columns_b k0_pay7 k0_pay6
  pointwise
  blk_point []

theorem sig_a (x : Vec Ideal S512x1024 .f32) (i : Fin 512) (k : Fin 1024) : k0_pay10 (F := Ideal) x (ix2 i k) = sg (x (ix2 i k)) := by
  unfold k0_pay10 sg
  pointwise
  simp only [zero_sub]

theorem sig_b (x : Vec Ideal S512x1024 .f32) (i : Fin 512) (k : Fin 1024) : k0_pay11 (F := Ideal) x (ix2 i k) = sg (x (ix2 i k)) := by
  unfold k0_pay11 sg
  pointwise
  simp only [zero_sub]

section Block

variable {T : Nums} {x0 : Vec Ideal S512x1024 .bf16} {x1 : Vec Ideal S512x256 .f32} {x2 : Vec Ideal S512x512 .f32} {x3 x4 : Vec Ideal S512x1024 .f32}
  {x5 : Vec Ideal S8x256x128 .bf16} {x6 : Vec Ideal S8x512x128 .bf16} {x7 : Vec Ideal S1024x1024 .bf16}
variable (G : Given T x0 x1 x2 x3 x4 x5 x6 x7)
include G

theorem merged (i : Fin 512) (k : Fin 1024) : k0_pay4 (F := Ideal) x0 x7 (ix2 i k) = T.dm i k := by
  unfold k0_pay4 Nums.dm
  pointwise
  simp only [G.d, G.wo]

theorem projected_a (i : Fin 512) (k : Fin 1024) : k0_pay8 (F := Ideal) (columns_a x5) x1 (ix2 i k) = T.ya i k := by
  have h := columns_a_apply x5
  unfold k0_pay8 Nums.ya
  generalize columns_a x5 = W at h ⊢
  pointwise
  simp only [h, G.a, G.wa]

theorem projected_b (i : Fin 512) (k : Fin 1024) :
    k0_pay9 (F := Ideal) (k0_pay6 (View.ld x6 (Rect.unit ![0, 0, 0] ![1, 512, 128] inb_S8x512x128_S1x512x128_0_0_0))) (View.ld x6 (Rect.unit ![1, 0, 0] ![1, 512, 128] inb_S8x512x128_S1x512x128_1_0_0)) (View.ld x6 (Rect.unit ![2, 0, 0] ![1, 512, 128] inb_S8x512x128_S1x512x128_2_0_0)) (View.ld x6 (Rect.unit ![3, 0, 0] ![1, 512, 128] inb_S8x512x128_S1x512x128_3_0_0)) (View.ld x6 (Rect.unit ![4, 0, 0] ![1, 512, 128] inb_S8x512x128_S1x512x128_4_0_0)) (View.ld x6 (Rect.unit ![5, 0, 0] ![1, 512, 128] inb_S8x512x128_S1x512x128_5_0_0)) (View.ld x6 (Rect.unit ![6, 0, 0] ![1, 512, 128] inb_S8x512x128_S1x512x128_6_0_0)) (View.ld x6 (Rect.unit ![7, 0, 0] ![1, 512, 128] inb_S8x512x128_S1x512x128_7_0_0)) x2 (ix2 i k) = T.yb i k := by
  have h := columns_b_apply x6
  unfold columns_b at h
  unfold k0_pay9 Nums.yb
  generalize k0_pay7 (F := Ideal) _ _ _ _ _ _ _ _ = W at h ⊢
  pointwise
  simp only [h, G.b, G.wb]

/-- The gates' gradients. -/
theorem gate_a (i : Fin 512) (k : Fin 1024) : k0_pay12 (F := Ideal) (k0_pay4 x0 x7) (k0_pay8 (columns_a x5) x1) (k0_pay10 x3) (ix2 i k)
    = T.dm i k * T.ya i k * (sg (T.ga i k) * (1 - sg (T.ga i k))) := by
  have hm := merged G
  have hy := projected_a G
  have hs := sig_a x3
  unfold k0_pay12
  generalize k0_pay4 (F := Ideal) x0 x7 = M at hm ⊢
  generalize k0_pay8 (F := Ideal) (columns_a x5) x1 = Y at hy ⊢
  generalize k0_pay10 (F := Ideal) x3 = S at hs ⊢
  pointwise
  rw [hm, hy, hs, G.ga]

theorem gate_b (i : Fin 512) (k : Fin 1024) :
    k0_pay13 (F := Ideal) (k0_pay4 x0 x7) (k0_pay9 (k0_pay6 (View.ld x6 (Rect.unit ![0, 0, 0] ![1, 512, 128] inb_S8x512x128_S1x512x128_0_0_0))) (View.ld x6 (Rect.unit ![1, 0, 0] ![1, 512, 128] inb_S8x512x128_S1x512x128_1_0_0)) (View.ld x6 (Rect.unit ![2, 0, 0] ![1, 512, 128] inb_S8x512x128_S1x512x128_2_0_0)) (View.ld x6 (Rect.unit ![3, 0, 0] ![1, 512, 128] inb_S8x512x128_S1x512x128_3_0_0)) (View.ld x6 (Rect.unit ![4, 0, 0] ![1, 512, 128] inb_S8x512x128_S1x512x128_4_0_0)) (View.ld x6 (Rect.unit ![5, 0, 0] ![1, 512, 128] inb_S8x512x128_S1x512x128_5_0_0)) (View.ld x6 (Rect.unit ![6, 0, 0] ![1, 512, 128] inb_S8x512x128_S1x512x128_6_0_0)) (View.ld x6 (Rect.unit ![7, 0, 0] ![1, 512, 128] inb_S8x512x128_S1x512x128_7_0_0)) x2) x4 (ix2 i k)
    = T.dm i k * T.yb i k * (sg (T.gb i k) * (1 - sg (T.gb i k))) := by
  have hm := merged G
  have hy := projected_b G
  have hs := sig_b x4
  unfold k0_pay13
  generalize k0_pay4 (F := Ideal) x0 x7 = M at hm ⊢
  generalize k0_pay9 (F := Ideal) _ _ _ _ _ _ _ _ x2 = Y at hy ⊢
  generalize k0_pay11 (F := Ideal) x4 = S at hs ⊢
  pointwise
  rw [hm, hy, hs, G.gb]

/-- The projected outputs' gradients. -/
theorem down_a (i : Fin 512) (k : Fin 1024) : k0_pay15 (F := Ideal) (k0_pay4 x0 x7) (k0_pay10 x3) (ix2 i k) = T.dm i k * sg (T.ga i k) := by
  have hm := merged G
  have hs := sig_a x3
  unfold k0_pay15
  generalize k0_pay4 (F := Ideal) x0 x7 = M at hm ⊢
  generalize k0_pay10 (F := Ideal) x3 = S at hs ⊢
  pointwise
  rw [hm, hs, G.ga]

theorem down_b (i : Fin 512) (k : Fin 1024) : k0_pay16 (F := Ideal) (k0_pay4 x0 x7) x4 (ix2 i k) = T.dm i k * sg (T.gb i k) := by
  have hm := merged G
  have hs := sig_b x4
  unfold k0_pay16
  generalize k0_pay4 (F := Ideal) x0 x7 = M at hm ⊢
  generalize k0_pay11 (F := Ideal) x4 = S at hs ⊢
  pointwise
  rw [hm, hs, G.gb]

theorem stored_a (i : Fin 512) (k : Fin 1024) : k0_pay17 (F := Ideal) (k0_pay4 x0 x7) (k0_pay10 x3) (ix2 i k) = T.dm i k * sg (T.ga i k) := by
  have h := down_a G
  unfold k0_pay17
  generalize k0_pay15 (F := Ideal) _ _ = Y at h ⊢
  pointwise
  exact h i k

theorem stored_b (i : Fin 512) (k : Fin 1024) : k0_pay1 (k0_pay16 (F := Ideal) (k0_pay4 x0 x7) x4) (ix2 i k) = T.dm i k * sg (T.gb i k) := by
  have h := down_b G
  unfold k0_pay1
  generalize k0_pay16 (F := Ideal) _ _ = Y at h ⊢
  pointwise
  exact h i k

/-- The attentions' outputs' gradients. -/
theorem out_a (i : Fin 512) (c : Fin 256) : k0_pay2 (columns_a x5) (k0_pay15 (F := Ideal) (k0_pay4 x0 x7) (k0_pay10 x3)) (ix2 i c)
    = ∑ k, T.dm i k * sg (T.ga i k) * T.wa c k := by
  have h := columns_a_apply x5
  have hd := down_a G
  unfold k0_pay2
  generalize k0_pay15 (F := Ideal) _ _ = Y at hd ⊢
  generalize columns_a x5 = W at h ⊢
  pointwise
  simp only [hd, h, G.wa]

theorem out_b (i : Fin 512) (c : Fin 512) : k0_pay3 (columns_b x6) (k0_pay16 (F := Ideal) (k0_pay4 x0 x7) x4) (ix2 i c)
    = ∑ k, T.dm i k * sg (T.gb i k) * T.wb c k := by
  have h := columns_b_apply x6
  have hd := down_b G
  unfold k0_pay3
  generalize k0_pay16 (F := Ideal) _ _ = Y at hd ⊢
  generalize columns_b x6 = W at h ⊢
  pointwise
  simp only [hd, h, G.wb]

end Block

/-- A store read at a place it holds, and beside it. -/
theorem canon_hit {s : Shape} {e : EltTy} (r : Rect s) (w : r.shape.Idx → Elt Ideal e) (L : List (View.Piece (Elt Ideal) s e)) (x : r.shape.Idx) (y : s.Idx)
    (h : ∀ a, (y a).val = r.off a + r.stride a * (x a).val) : View.canon (Val := Elt Ideal) (⟨r, w⟩ :: L) y = w x :=
  (congrArg (View.canon (Val := Elt Ideal) (⟨r, w⟩ :: L)) (r.emb_eq_of_coords x y h).symm).trans (View.canon_cons_emb r w L x)

theorem canon_miss {s : Shape} {e : EltTy} (r : Rect s) (w : r.shape.Idx → Elt Ideal e) (L : List (View.Piece (Elt Ideal) s e)) (y : s.Idx) (a : Fin s.rank)
    (o n : ℕ) (ho : r.off a = o) (hs : r.stride a = 1) (hn : r.shape.size a = n) (h : (y a).val < o ∨ o + n ≤ (y a).val) :
    View.canon (Val := Elt Ideal) (⟨r, w⟩ :: L) y = View.canon (Val := Elt Ideal) L y :=
  View.canon_cons_of_not_mem _ L (Rect.not_mem_set_of_axis r y a o n ho hs hn h)

section Stores

variable (p : FVec Ideal S512x256 .bf16) (q r : FVec Ideal S512x1024 .bf16) (i : Fin 512)

/-- Three stores beside each other. -/
abbrev stores : S512x2304.Idx → Elt Ideal .bf16 := View.canon (Val := Elt Ideal) (s := S512x2304) (e := .bf16) [⟨Rect.unit ![0, 2048] ![512, 256] inb_S512x2304_S512x256_0_2048, p⟩, ⟨Rect.unit ![0, 1024] ![512, 1024] inb_S512x2304_S512x1024_0_1024, q⟩,
      ⟨Rect.unit ![0, 0] ![512, 1024] inb_S512x2304_S512x1024_0_0, r⟩]

theorem first_of (k : Fin 1024) : stores p q r (ix2 i (⟨k.val, by omega⟩ : Fin 2304)) = r (ix2 i k) := by
  refine (canon_miss (e := .bf16) _ _ _ _ (1 : Fin 2) 2048 256 rfl rfl rfl (Or.inl (by show k.val < 2048; omega))).trans
    ((canon_miss (e := .bf16) _ _ _ _ (1 : Fin 2) 1024 1024 rfl rfl rfl (Or.inl (by show k.val < 1024; omega))).trans (canon_hit (e := .bf16) (Rect.unit (s := S512x2304) ![0, 0] ![512, 1024] inb_S512x2304_S512x1024_0_0) r _ (ix2 i k) _ fun a => ?_))
  fin_cases a
  · show i.val = 0 + 1 * i.val
    omega
  · show k.val = 0 + 1 * k.val
    omega

theorem second_of (k : Fin 1024) : stores p q r (ix2 i (⟨1024 + k.val, by omega⟩ : Fin 2304)) = q (ix2 i k) := by
  refine (canon_miss (e := .bf16) _ _ _ _ (1 : Fin 2) 2048 256 rfl rfl rfl (Or.inl (by show 1024 + k.val < 2048; omega))).trans (canon_hit (e := .bf16) (Rect.unit (s := S512x2304) ![0, 1024] ![512, 1024] inb_S512x2304_S512x1024_0_1024) q _ (ix2 i k) _ fun a => ?_)
  fin_cases a
  · show i.val = 0 + 1 * i.val
    omega
  · show 1024 + k.val = 1024 + 1 * k.val
    omega

theorem third_of (k : Fin 256) : stores p q r (ix2 i (⟨2048 + k.val, by omega⟩ : Fin 2304)) = p (ix2 i k) := by
  refine canon_hit (e := .bf16) (Rect.unit (s := S512x2304) ![0, 2048] ![512, 256] inb_S512x2304_S512x256_0_2048) p _ (ix2 i k) _ fun a => ?_
  fin_cases a
  · show i.val = 0 + 1 * i.val
    omega
  · show 2048 + k.val = 2048 + 1 * k.val
    omega

end Stores

end Cert.MixOutBwdIdeal.Mix

end
-- ==== Proof.Mix.Parts.lean ====
/- What the reference of the gated mixing computes, stage by stage. -/
module

public import proofs.«01_k».proof.Proof.Gen.MixOutRefIdeal.Run
public import Idealize.ShloMosaic.Lib.Pointwise
public import Idealize.ShloMosaic.Lib.Claim

@[expose] public section

set_option maxRecDepth 16384

noncomputable section

namespace Cert.MixOutRefIdeal.Parts

open Cert.MixOutRefIdeal Cert.MixOutRefIdeal.Gen
open Idealize.ShloMosaic Idealize.ShloMosaic.TcCoe Idealize.ShloMosaic.StableHlo Idealize.SL.Sem

abbrev Rows : Type := FVec Ideal S2048x1024 .f32

def one : Rows := broadcastInDim S2048x1024 ![] bcast_S_S2048x1024 (constant S_ .f32 0x3F800000#32)

def sig (g : Rows) : Rows := Host.divf one (addf one (Host.exp (Host.negf g)))

/-- The merged rows' gradient. -/
def mergedRows (d : Rows) (w : FVec Ideal S1024x1024 .f32) : Rows := Host.dotGeneral dot_S2048x1024_S1024x1024_S2048x1024_1_1_0_0_n_n none d w

/-- The attentions' outputs, projected. -/
def projectedA (a : FVec Ideal S2048x256 .f32) (w : FVec Ideal S256x1024 .f32) : Rows := Host.dotGeneral dot_S2048x256_S256x1024_S2048x1024_1_0_0_1_n_n none a w
def projectedB (a : FVec Ideal S2048x512 .f32) (w : FVec Ideal S512x1024 .f32) : Rows := Host.dotGeneral dot_S2048x512_S512x1024_S2048x1024_1_0_0_1_n_n none a w

def dGate (m y g : Rows) : FVec Ideal S2048x1024 .bf16 := truncf .bf16 (mulf (mulf m y) (mulf (sig g) (subf one (sig g)))) bitsLt_bf16_f32

def down (m g : Rows) : Rows := mulf (sig g) m
def stored (m g : Rows) : FVec Ideal S2048x1024 .bf16 := truncf .bf16 (down m g) bitsLt_bf16_f32

def dOutA (m g : Rows) (w : FVec Ideal S256x1024 .f32) : FVec Ideal S2048x256 .f32 := Host.dotGeneral dot_S2048x1024_S256x1024_S2048x256_1_1_0_0_n_n none (down m g) w
def dOutB (m g : Rows) (w : FVec Ideal S512x1024 .f32) : FVec Ideal S2048x512 .bf16 :=
  truncf .bf16 (Host.dotGeneral dot_S2048x1024_S512x1024_S2048x512_1_1_0_0_n_n none (down m g) w) bitsLt_bf16_f32

theorem one_apply (z : S2048x1024.Idx) : one z = 1 := by
  unfold one
  pointwise

theorem sig_apply (g : Rows) (i : Fin 2048) (k : Fin 1024) : sig g (ix2 i k) = Ideal.div 1 (1 + Ideal.exp (-g (ix2 i k))) := by
  have h := one_apply
  unfold sig
  generalize one = O at h ⊢
  pointwise
  rw [h]

theorem mergedRows_apply (d : Rows) (w : FVec Ideal S1024x1024 .f32) (i : Fin 2048) (k : Fin 1024) : mergedRows d w (ix2 i k) = ∑ n : Fin 1024, d (ix2 i n) * w (ix2 k n) := by
  unfold mergedRows
  pointwise

theorem projectedA_apply (a : FVec Ideal S2048x256 .f32) (w : FVec Ideal S256x1024 .f32) (i : Fin 2048) (k : Fin 1024) :
    projectedA a w (ix2 i k) = ∑ c : Fin 256, a (ix2 i c) * w (ix2 c k) := by
  unfold projectedA
  pointwise

theorem projectedB_apply (a : FVec Ideal S2048x512 .f32) (w : FVec Ideal S512x1024 .f32) (i : Fin 2048) (k : Fin 1024) :
    projectedB a w (ix2 i k) = ∑ c : Fin 512, a (ix2 i c) * w (ix2 c k) := by
  unfold projectedB
  pointwise

section Apply

variable (m y g : Rows) (i : Fin 2048)

theorem dGate_apply (k : Fin 1024) : dGate m y g (ix2 i k) = m (ix2 i k) * y (ix2 i k) * (sig g (ix2 i k) * (1 - sig g (ix2 i k))) := by
  have h := one_apply
  unfold dGate
  generalize one = O at h ⊢
  generalize sig g = S
  pointwise
  rw [h]

theorem down_apply (k : Fin 1024) : down m g (ix2 i k) = m (ix2 i k) * sig g (ix2 i k) := by
  unfold down
  generalize sig g = S
  pointwise
  exact mul_comm _ _

theorem stored_apply (k : Fin 1024) : stored m g (ix2 i k) = m (ix2 i k) * sig g (ix2 i k) := by
  have h := down_apply m g i k
  unfold stored
  generalize down m g = S at h ⊢
  pointwise
  exact h

theorem dOutA_apply (w : FVec Ideal S256x1024 .f32) (c : Fin 256) : dOutA m g w (ix2 i c) = ∑ k : Fin 1024, m (ix2 i k) * sig g (ix2 i k) * w (ix2 c k) := by
  have h := down_apply m g i
  unfold dOutA
  generalize down m g = S at h ⊢
  pointwise
  simp only [h]

theorem dOutB_apply (w : FVec Ideal S512x1024 .f32) (c : Fin 512) : dOutB m g w (ix2 i c) = ∑ k : Fin 1024, m (ix2 i k) * sig g (ix2 i k) * w (ix2 c k) := by
  have h := down_apply m g i
  unfold dOutB
  generalize down m g = S at h ⊢
  pointwise
  simp only [h]

end Apply

end Cert.MixOutRefIdeal.Parts

end
-- ==== Proof.Mix.Arrays.lean ====
/- What the mixing call leaves in its five arrays. -/
module

public import proofs.«01_k».proof.Proof.Input.Arrays
public import proofs.«01_k».proof.Proof.Mix.Block
public import proofs.«01_k».proof.Proof.Mix.Parts

@[expose] public section

set_option maxRecDepth 16384

noncomputable section

namespace Cert.MixOutBwdIdeal.Mix

open Cert.MixOutBwdIdeal Cert.MixOutBwdIdeal.Gen
open Idealize.ShloMosaic Idealize.ShloMosaic.TcCoe Idealize.ShloMosaic.StableHlo Idealize.SL.Sem
open Cert.InputBwdIdeal.Input (pair)
open Cert.MixOutRefIdeal.Parts (mergedRows projectedA projectedB dGate stored dOutA dOutB)

abbrev Rows : Type := FVec Ideal S2048x1024 .f32
abbrev Proj : Type := FVec Ideal S2048x6272 .f32

variable (m : (ℓ : Loc nD τ sig) → Buf (Elt Ideal) ℓ) (c : Dev nD)

/-- The gates' columns of the projection, as the call reads them. -/
def gates (g h : Rows) : Proj :=
  concatenate S2048x6272 1 [⟨S2048x1024, g⟩, ⟨S2048x1024, h⟩, ⟨S2048x4224, (broadcastInDim S2048x4224 ![] bcast_S_S2048x4224 (constant S_ .f32 0x00000000#32) : FVec Ideal S2048x4224 .f32)⟩]
    concatenates_S2048x1024_S2048x1024_S2048x4224_S2048x6272_d1

theorem gates_a (g h : Rows) (i : Fin 2048) (k : Fin 1024) : gates g h (ix2 i (⟨k.val, by omega⟩ : Fin 6272)) = g (ix2 i k) := by
  unfold gates
  pointwise

theorem gates_b (g h : Rows) (i : Fin 2048) (k : Fin 1024) : gates g h (ix2 i (⟨1024 + k.val, by omega⟩ : Fin 6272)) = h (ix2 i k) := by
  unfold gates
  pointwise

/-- A weight's columns in eight slots of 128. -/
def slotsA (w : FVec Ideal S256x1024 .f32) : FVec Ideal S8x256x128 .bf16 :=
  truncf .bf16 (transpose S8x256x128 [1, 0, 2] (shapeCast S256x8x128 w shapeCasts_S256x1024_S256x8x128) transposes_S256x8x128_S8x256x128_1_0_2) bitsLt_bf16_f32
def slotsB (w : FVec Ideal S512x1024 .f32) : FVec Ideal S8x512x128 .bf16 :=
  truncf .bf16 (transpose S8x512x128 [1, 0, 2] (shapeCast S512x8x128 w shapeCasts_S512x1024_S512x8x128) transposes_S512x8x128_S8x512x128_1_0_2) bitsLt_bf16_f32

theorem slotsA_apply (w : FVec Ideal S256x1024 .f32) (c : Fin 256) (k : Fin 1024) :
    slotsA w (ix3 (⟨k.val / 128, by omega⟩ : Fin 8) c (⟨k.val % 128, by omega⟩ : Fin 128)) = w (ix2 c k) := by
  unfold slotsA
  pointwise

theorem slotsB_apply (w : FVec Ideal S512x1024 .f32) (c : Fin 512) (k : Fin 1024) :
    slotsB w (ix3 (⟨k.val / 128, by omega⟩ : Fin 8) c (⟨k.val % 128, by omega⟩ : Fin 128)) = w (ix2 c k) := by
  unfold slotsB
  pointwise

theorem V_gates : (V m c main_v1 : Proj) = gates (m ((c.tc : Thread nD τ).loc main_arg2)) (m ((c.tc : Thread nD τ).loc main_arg3)) := by
  simp only [V, V0, hostOps0, List.flatten_cons, List.flatten_nil, List.append_nil, List.cons_append, List.nil_append,
    TRef.nullary, TRef.ternary, TRef.unary, TRef.binary, TRef.toBuf, TRef.ofBuf, cast_eq]
  after_results_simp <;> rfl

theorem V_cot : (V m c main_v2 : FVec Ideal S2048x1024 .bf16) = ((m ((c.tc : Thread nD τ).loc main_arg7)) : Rows) := by
  simp only [V, V0, hostOps0, List.flatten_cons, List.flatten_nil, List.append_nil, List.cons_append, List.nil_append,
    TRef.nullary, TRef.ternary, TRef.unary, TRef.binary, TRef.toBuf, TRef.ofBuf, cast_eq]
  after_results_simp <;> rfl

theorem V_slotsA : (V m c main_v5 : FVec Ideal S8x256x128 .bf16) = slotsA (m ((c.tc : Thread nD τ).loc main_arg4)) := by
  simp only [V, V0, hostOps0, List.flatten_cons, List.flatten_nil, List.append_nil, List.cons_append, List.nil_append,
    TRef.nullary, TRef.ternary, TRef.unary, TRef.binary, TRef.toBuf, TRef.ofBuf, cast_eq]
  after_results_simp <;> rfl

theorem V_slotsB : (V m c main_v8 : FVec Ideal S8x512x128 .bf16) = slotsB (m ((c.tc : Thread nD τ).loc main_arg5)) := by
  simp only [V, V0, hostOps0, List.flatten_cons, List.flatten_nil, List.append_nil, List.cons_append, List.nil_append,
    TRef.nullary, TRef.ternary, TRef.unary, TRef.binary, TRef.toBuf, TRef.ofBuf, cast_eq]
  after_results_simp <;> rfl

theorem V_out : (V m c main_v9 : FVec Ideal S1024x1024 .bf16) = ((m ((c.tc : Thread nD τ).loc main_arg6)) : FVec Ideal S1024x1024 .f32) := by
  simp only [V, V0, hostOps0, List.flatten_cons, List.flatten_nil, List.append_nil, List.cons_append, List.nil_append,
    TRef.nullary, TRef.ternary, TRef.unary, TRef.binary, TRef.toBuf, TRef.ofBuf, cast_eq]
  after_results_simp <;> rfl

theorem index : ∀ t : Fin cfg0.N, win0_0.index t = ![t.val, 0] ∧ win0_1.index t = ![t.val, 0] ∧ win0_2.index t = ![t.val, 0] ∧ win0_3.index t = ![t.val, 0] ∧ win0_4.index t = ![t.val, 1] ∧ win0_5.index t = ![0, 0, 0] ∧ win0_6.index t = ![0, 0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

abbrev rowAt (t : Fin cfg0.N) (i : Fin 512) : Fin 2048 := ⟨512 * t.val + i.val, by have := lt_of_lt_of_eq t.isLt N_0; omega⟩

section Windows

variable (t : Fin cfg0.N)

section Reads

variable (X : (b : Ref sig .tc) → Buf (Elt Ideal) ((c.tc : Thread nD τ).loc b))

theorem read_d (i : Fin 512) (k : Fin 1024) : (((cfg0.win 0).blk t).view.read (Elt Ideal) (X (Pipeline.arrRef spec0 0)) : FVec Ideal S512x1024 .bf16) (ix2 i k)
    = (X main_v2 : FVec Ideal S2048x1024 .bf16) (ix2 (rowAt t i) k) := by
  refine congrArg (X main_v2 : FVec Ideal S2048x1024 .bf16) (?_ : ((cfg0.win 0).blk t).view.emb (ix2 i k) = _)
  funext a
  apply Fin.ext
  refine (Pipeline.Window.rect_emb_val win0_0 t (ix2 i k) a).trans ?_
  rw [(index t).1]
  fin_cases a
  · show t.val * 512 + i.val = 512 * t.val + i.val
    omega
  · show 0 * 1024 + k.val = k.val
    omega

theorem read_a (i : Fin 512) (k : Fin 256) : (((cfg0.win 1).blk t).view.read (Elt Ideal) (X (Pipeline.arrRef spec0 1)) : FVec Ideal S512x256 .f32) (ix2 i k)
    = (X main_arg0 : FVec Ideal S2048x256 .f32) (ix2 (rowAt t i) k) := by
  refine congrArg (X main_arg0 : FVec Ideal S2048x256 .f32) (?_ : ((cfg0.win 1).blk t).view.emb (ix2 i k) = _)
  funext a
  apply Fin.ext
  refine (Pipeline.Window.rect_emb_val win0_1 t (ix2 i k) a).trans ?_
  rw [(index t).2.1]
  fin_cases a
  · show t.val * 512 + i.val = 512 * t.val + i.val
    omega
  · show 0 * 256 + k.val = k.val
    omega

theorem read_b (i : Fin 512) (k : Fin 512) : (((cfg0.win 2).blk t).view.read (Elt Ideal) (X (Pipeline.arrRef spec0 2)) : FVec Ideal S512x512 .f32) (ix2 i k)
    = (X main_arg1 : FVec Ideal S2048x512 .f32) (ix2 (rowAt t i) k) := by
  refine congrArg (X main_arg1 : FVec Ideal S2048x512 .f32) (?_ : ((cfg0.win 2).blk t).view.emb (ix2 i k) = _)
  funext a
  apply Fin.ext
  refine (Pipeline.Window.rect_emb_val win0_2 t (ix2 i k) a).trans ?_
  rw [(index t).2.2.1]
  fin_cases a
  · show t.val * 512 + i.val = 512 * t.val + i.val
    omega
  · show 0 * 512 + k.val = k.val
    omega

theorem read_wa (s : Fin 8) (i : Fin 256) (k : Fin 128) : (((cfg0.win 5).blk t).view.read (Elt Ideal) (X (Pipeline.arrRef spec0 5)) : FVec Ideal S8x256x128 .bf16) (ix3 s i k)
    = (X main_v5 : FVec Ideal S8x256x128 .bf16) (ix3 s i k) := by
  refine congrArg (X main_v5 : FVec Ideal S8x256x128 .bf16) (?_ : ((cfg0.win 5).blk t).view.emb (ix3 s i k) = _)
  funext a
  apply Fin.ext
  refine (Pipeline.Window.rect_emb_val win0_5 t (ix3 s i k) a).trans ?_
  rw [(index t).2.2.2.2.2.1]
  fin_cases a
  · show 0 * 8 + s.val = s.val
    omega
  · show 0 * 256 + i.val = i.val
    omega
  · show 0 * 128 + k.val = k.val
    omega

theorem read_wb (s : Fin 8) (i : Fin 512) (k : Fin 128) : (((cfg0.win 6).blk t).view.read (Elt Ideal) (X (Pipeline.arrRef spec0 6)) : FVec Ideal S8x512x128 .bf16) (ix3 s i k)
    = (X main_v8 : FVec Ideal S8x512x128 .bf16) (ix3 s i k) := by
  refine congrArg (X main_v8 : FVec Ideal S8x512x128 .bf16) (?_ : ((cfg0.win 6).blk t).view.emb (ix3 s i k) = _)
  funext a
  apply Fin.ext
  refine (Pipeline.Window.rect_emb_val win0_6 t (ix3 s i k) a).trans ?_
  rw [(index t).2.2.2.2.2.2.1]
  fin_cases a
  · show 0 * 8 + s.val = s.val
    omega
  · show 0 * 512 + i.val = i.val
    omega
  · show 0 * 128 + k.val = k.val
    omega

theorem read_wo (i : Fin 1024) (k : Fin 1024) : (((cfg0.win 7).blk t).view.read (Elt Ideal) (X (Pipeline.arrRef spec0 7)) : FVec Ideal S1024x1024 .bf16) (ix2 i k)
    = (X main_v9 : FVec Ideal S1024x1024 .bf16) (ix2 i k) := by
  refine congrArg (X main_v9 : FVec Ideal S1024x1024 .bf16) (?_ : ((cfg0.win 7).blk t).view.emb (ix2 i k) = _)
  funext a
  apply Fin.ext
  refine (Pipeline.Window.rect_emb_val win0_7 t (ix2 i k) a).trans ?_
  rw [(index t).2.2.2.2.2.2.2.1]
  fin_cases a
  · show 0 * 1024 + i.val = i.val
    omega
  · show 0 * 1024 + k.val = k.val
    omega

end Reads

theorem read_ga (i : Fin 512) (k : Fin 1024) : (X0_3 m c t : FVec Ideal S512x1024 .f32) (ix2 i k) = (V m c main_v1 : Proj) (ix2 (rowAt t i) (⟨k.val, by omega⟩ : Fin 6272)) := by
  unfold X0_3 Pipeline.Window.fill
  rw [dif_pos (moved0_3 t _)]
  refine congrArg (V m c main_v1 : Proj) (?_ : ((cfg0.win 3).blk t).view.emb _ = _)
  funext a
  apply Fin.ext
  refine (Pipeline.Window.rect_emb_val win0_3 t _ a).trans ?_
  rw [(index t).2.2.2.1]
  fin_cases a
  · show t.val * 512 + i.val = 512 * t.val + i.val
    omega
  · show 0 * 1024 + k.val = k.val
    omega

theorem read_gb (i : Fin 512) (k : Fin 1024) : (X0_4 m c t : FVec Ideal S512x1024 .f32) (ix2 i k) = (V m c main_v1 : Proj) (ix2 (rowAt t i) (⟨1024 + k.val, by omega⟩ : Fin 6272)) := by
  unfold X0_4 Pipeline.Window.fill
  rw [dif_pos (moved0_4 t _)]
  refine congrArg (V m c main_v1 : Proj) (?_ : ((cfg0.win 4).blk t).view.emb _ = _)
  funext a
  apply Fin.ext
  refine (Pipeline.Window.rect_emb_val win0_4 t _ a).trans ?_
  rw [(index t).2.2.2.2.1]
  fin_cases a
  · show t.val * 512 + i.val = 512 * t.val + i.val
    omega
  · show 1 * 1024 + k.val = 1024 + k.val
    omega

/-- A place of a block of the ninth window, and the place of the array it stands for. -/
abbrev place (y : ((cfg0.win 8).xblock (cfg0.grid.coords t)).Idx) : S512x2304.Idx := (cfg0.win 8).xinj (cfg0.grid.coords t) y

theorem emb8 (y : ((cfg0.win 8).xblock (cfg0.grid.coords t)).Idx) (i : Fin 512) (k : Fin 2304) (h : place t y = ix2 i k) :
    ((cfg0.win 8).blk t).view.emb y = (ix2 (rowAt t i) (⟨k.val, by omega⟩ : Fin 6272) : S2048x6272.Idx) := by
  have h0 : (y 0).val = i.val := congrArg (fun z : S512x2304.Idx => (z 0).val) h
  have h1 : (y 1).val = k.val := congrArg (fun z : S512x2304.Idx => (z 1).val) h
  funext a
  apply Fin.ext
  refine (Pipeline.Window.rect_emb_val win0_8 t y a).trans ?_
  rw [(index t).2.2.2.2.2.2.2.2.1]
  fin_cases a
  · show t.val * 512 + (y 0).val = 512 * t.val + i.val
    omega
  · show 0 * 2304 + (y 1).val = k.val
    omega

theorem emb9 (i : Fin 512) (k : Fin 1024) : ((cfg0.win 9).blk t).view.emb (ix2 i k) = (ix2 (rowAt t i) k : S2048x1024.Idx) := by
  funext a
  apply Fin.ext
  refine (Pipeline.Window.rect_emb_val win0_9 t (ix2 i k) a).trans ?_
  rw [(index t).2.2.2.2.2.2.2.2.2.1]
  fin_cases a
  · show t.val * 512 + i.val = 512 * t.val + i.val
    omega
  · show 0 * 1024 + k.val = k.val
    omega

theorem emb10 (i : Fin 512) (k : Fin 1024) : ((cfg0.win 10).blk t).view.emb (ix2 i k) = (ix2 (rowAt t i) k : S2048x1024.Idx) := by
  funext a
  apply Fin.ext
  refine (Pipeline.Window.rect_emb_val win0_10 t (ix2 i k) a).trans ?_
  rw [(index t).2.2.2.2.2.2.2.2.2.2.1]
  fin_cases a
  · show t.val * 512 + i.val = 512 * t.val + i.val
    omega
  · show 0 * 1024 + k.val = k.val
    omega

theorem emb11 (i : Fin 512) (k : Fin 256) : ((cfg0.win 11).blk t).view.emb (ix2 i k) = (ix2 (rowAt t i) k : S2048x256.Idx) := by
  funext a
  apply Fin.ext
  refine (Pipeline.Window.rect_emb_val win0_11 t (ix2 i k) a).trans ?_
  rw [(index t).2.2.2.2.2.2.2.2.2.2.2.1]
  fin_cases a
  · show t.val * 512 + i.val = 512 * t.val + i.val
    omega
  · show 0 * 256 + k.val = k.val
    omega

theorem emb12 (i : Fin 512) (k : Fin 512) : ((cfg0.win 12).blk t).view.emb (ix2 i k) = (ix2 (rowAt t i) k : S2048x512.Idx) := by
  funext a
  apply Fin.ext
  refine (Pipeline.Window.rect_emb_val win0_12 t (ix2 i k) a).trans ?_
  rw [(index t).2.2.2.2.2.2.2.2.2.2.2.2]
  fin_cases a
  · show t.val * 512 + i.val = 512 * t.val + i.val
    omega
  · show 0 * 512 + k.val = k.val
    omega

end Windows

/-- The arguments. -/
structure Args where
  a : FVec Ideal S2048x256 .f32
  b : FVec Ideal S2048x512 .f32
  ga : Rows
  gb : Rows
  wa : FVec Ideal S256x1024 .f32
  wb : FVec Ideal S512x1024 .f32
  wo : FVec Ideal S1024x1024 .f32
  d : Rows

def args : Args := ⟨(m ((c.tc : Thread nD τ).loc main_arg0)), (m ((c.tc : Thread nD τ).loc main_arg1)), (m ((c.tc : Thread nD τ).loc main_arg2)), (m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7))⟩

/-- The numbers of a point's blocks. -/
def nums (A : Args) (t : Fin cfg0.N) : Nums where
  d i k := A.d (ix2 (rowAt t i) k)
  a i k := A.a (ix2 (rowAt t i) k)
  b i k := A.b (ix2 (rowAt t i) k)
  ga i k := A.ga (ix2 (rowAt t i) k)
  gb i k := A.gb (ix2 (rowAt t i) k)
  wa i k := A.wa (ix2 i k)
  wb i k := A.wb (ix2 i k)
  wo i k := A.wo (ix2 i k)

theorem given (t : Fin cfg0.N) : Given (nums (args m c) t) (iblk m c 0 t) (iblk m c 1 t) (iblk m c 2 t) (X0_3 m c t) (X0_4 m c t) (iblk m c 5 t) (iblk m c 6 t) (iblk m c 7 t) where
  d i k := (read_d c t (V m c) i k).trans (congrFun (V_cot m c) _)
  a i k := (read_a c t (V m c) i k).trans (congrFun (V_main_arg0 m c) _)
  b i k := (read_b c t (V m c) i k).trans (congrFun (V_main_arg1 m c) _)
  ga i k := (read_ga m c t i k).trans ((congrFun (V_gates m c) _).trans (gates_a _ _ _ _))
  gb i k := (read_gb m c t i k).trans ((congrFun (V_gates m c) _).trans (gates_b _ _ _ _))
  wa i k := (read_wa c t (V m c) _ i _).trans ((congrFun (V_slotsA m c) _).trans (slotsA_apply _ _ _))
  wb i k := (read_wb c t (V m c) _ i _).trans ((congrFun (V_slotsB m c) _).trans (slotsB_apply _ _ _))
  wo i k := (read_wo c t (V m c) i k).trans (congrFun (V_out m c) _)

section Stages

variable (A : Args) (t : Fin cfg0.N) (i : Fin 512) (k : Fin 1024)

theorem merged_eq : mergedRows A.d A.wo (ix2 (rowAt t i) k) = (nums A t).dm i k := Cert.MixOutRefIdeal.Parts.mergedRows_apply _ _ _ _
theorem projectedA_eq : projectedA A.a A.wa (ix2 (rowAt t i) k) = (nums A t).ya i k := Cert.MixOutRefIdeal.Parts.projectedA_apply _ _ _ _
theorem projectedB_eq : projectedB A.b A.wb (ix2 (rowAt t i) k) = (nums A t).yb i k := Cert.MixOutRefIdeal.Parts.projectedB_apply _ _ _ _
theorem sigA_eq : Cert.MixOutRefIdeal.Parts.sig A.ga (ix2 (rowAt t i) k) = sg ((nums A t).ga i k) := Cert.MixOutRefIdeal.Parts.sig_apply _ _ _
theorem sigB_eq : Cert.MixOutRefIdeal.Parts.sig A.gb (ix2 (rowAt t i) k) = sg ((nums A t).gb i k) := Cert.MixOutRefIdeal.Parts.sig_apply _ _ _

end Stages

/-- The gates' gradients, side by side, and zeros. -/
def gateArr (A : Args) : FVec Ideal S2048x6272 .bf16 := fun z =>
  if h : (z 1).val < 1024 then dGate (mergedRows A.d A.wo) (projectedA A.a A.wa) A.ga (ix2 (z 0) (⟨(z 1).val, h⟩ : Fin 1024))
  else if h' : (z 1).val < 2048 then dGate (mergedRows A.d A.wo) (projectedB A.b A.wb) A.gb (ix2 (z 0) (⟨(z 1).val - 1024, by omega⟩ : Fin 1024))
  else 0

theorem gateArr_a (A : Args) (i : Fin 2048) (k : Fin 1024) : gateArr A (ix2 i (⟨k.val, by omega⟩ : Fin 6272)) = dGate (mergedRows A.d A.wo) (projectedA A.a A.wa) A.ga (ix2 i k) :=
  dif_pos k.isLt

theorem gateArr_b (A : Args) (i : Fin 2048) (k : Fin 1024) :
    gateArr A (ix2 i (⟨1024 + k.val, by omega⟩ : Fin 6272)) = dGate (mergedRows A.d A.wo) (projectedB A.b A.wb) A.gb (ix2 i k) := by
  have e : (⟨1024 + k.val - 1024, by omega⟩ : Fin 1024) = k := Fin.ext (by show 1024 + k.val - 1024 = k.val; omega)
  refine (dif_neg (by show ¬ 1024 + k.val < 1024; omega)).trans ((dif_pos (by show 1024 + k.val < 2048; omega)).trans ?_)
  exact congrArg (fun x => dGate (mergedRows A.d A.wo) (projectedB A.b A.wb) A.gb (ix2 i x)) e

theorem gateArr_c (A : Args) (i : Fin 2048) (k : Fin 256) : gateArr A (ix2 i (⟨2048 + k.val, by omega⟩ : Fin 6272)) = 0 :=
  (dif_neg (by show ¬ 2048 + k.val < 1024; omega)).trans (dif_neg (by show ¬ 2048 + k.val < 2048; omega))

abbrev second (y : Fin 1024) : Fin 2304 := ⟨1024 + y.val, by omega⟩
abbrev third (y : Fin 256) : Fin 2304 := ⟨2048 + y.val, by omega⟩

theorem block8 (t : Fin cfg0.N) (i : Fin 512) (k : Fin 2304) : (outsAt0 m c t).1 (ix2 i k) = gateArr (args m c) (ix2 (rowAt t i) (⟨k.val, by omega⟩ : Fin 6272)) := by
  unfold outsAt0
  dsimp only
  frame_out
  by_cases h : k.val < 1024
  · refine (first_of _ _ _ i ⟨k.val, h⟩).trans ((gate_a (given m c t) i ⟨k.val, h⟩).trans ?_)
    rw [← merged_eq, ← projectedA_eq, ← sigA_eq]
    exact ((gateArr_a (args m c) (rowAt t i) ⟨k.val, h⟩).trans (Cert.MixOutRefIdeal.Parts.dGate_apply _ _ _ _ _)).symm
  · by_cases h' : k.val < 2048
    · obtain ⟨y, rfl⟩ : ∃ y : Fin 1024, k = second y := ⟨⟨k.val - 1024, by omega⟩, Fin.ext (by show k.val = 1024 + (k.val - 1024); omega)⟩
      refine (second_of _ _ _ i y).trans ((gate_b (given m c t) i y).trans ?_)
      rw [← merged_eq, ← projectedB_eq, ← sigB_eq]
      exact ((gateArr_b (args m c) (rowAt t i) y).trans (Cert.MixOutRefIdeal.Parts.dGate_apply _ _ _ _ _)).symm
    · obtain ⟨y, rfl⟩ : ∃ y : Fin 256, k = third y := ⟨⟨k.val - 2048, by omega⟩, Fin.ext (by show k.val = 2048 + (k.val - 2048); omega)⟩
      refine (third_of _ _ _ i y).trans (Eq.trans ?_ (gateArr_c (args m c) (rowAt t i) y).symm)
      unfold k0_pay14
      pointwise

theorem final8 : (dats m 0 c).arrAt 8 (cfgs 0).N = fun z : S2048x6272.Idx => if (z 1).val / 2304 = 0 then gateArr (args m c) z else (V m c main_v10_0 : FVec Ideal S2048x6272 .bf16) z := by
  refine (dats m 0 c).arrAt_eq_of_coversWhere 8 _ (fun β => β (1 : Fin 2) = 0) (by decide +kernel) (fun t _ y => ?_) (fun j => Iff.rfl)
  obtain ⟨i, k, h⟩ := pair (n := 512) (k := 2304) (place t y)
  refine Eq.trans ?_ (congrArg (gateArr (args m c)) (emb8 t y i k h)).symm
  blk_simp
  rw [after0_8]
  refine Eq.trans ?_ (block8 m c t i k)
  exact congrArg (outsAt0 m c t).1 h

theorem final9 : (dats m 0 c).arrAt 9 (cfgs 0).N = stored (mergedRows (args m c).d (args m c).wo) (args m c).ga := by
  refine (dats m 0 c).arrAt_eq_of_covers 9 _ (by decide +kernel) fun t _ y => ?_
  obtain ⟨i, k, rfl⟩ := pair (n := 512) (k := 1024) y
  refine Eq.trans ?_ (congrArg (stored (mergedRows (args m c).d (args m c).wo) (args m c).ga) (emb9 t i k)).symm
  blk_simp
  rw [after0_9]
  unfold outsAt0
  dsimp only
  frame_out
  refine (stored_a (given m c t) i k).trans (Eq.trans ?_ (Cert.MixOutRefIdeal.Parts.stored_apply _ _ _ _).symm)
  rw [merged_eq, sigA_eq]

theorem final10 : (dats m 0 c).arrAt 10 (cfgs 0).N = stored (mergedRows (args m c).d (args m c).wo) (args m c).gb := by
  refine (dats m 0 c).arrAt_eq_of_covers 10 _ (by decide +kernel) fun t _ y => ?_
  obtain ⟨i, k, rfl⟩ := pair (n := 512) (k := 1024) y
  refine Eq.trans ?_ (congrArg (stored (mergedRows (args m c).d (args m c).wo) (args m c).gb) (emb10 t i k)).symm
  blk_simp
  rw [after0_10]
  unfold outsAt0
  dsimp only
  frame_out
  refine (stored_b (given m c t) i k).trans (Eq.trans ?_ (Cert.MixOutRefIdeal.Parts.stored_apply _ _ _ _).symm)
  rw [merged_eq, sigB_eq]

theorem final11 : (dats m 0 c).arrAt 11 (cfgs 0).N = dOutA (mergedRows (args m c).d (args m c).wo) (args m c).ga (args m c).wa := by
  refine (dats m 0 c).arrAt_eq_of_covers 11 _ (by decide +kernel) fun t _ y => ?_
  obtain ⟨i, k, rfl⟩ := pair (n := 512) (k := 256) y
  refine Eq.trans ?_ (congrArg (dOutA (mergedRows (args m c).d (args m c).wo) (args m c).ga (args m c).wa) (emb11 t i k)).symm
  blk_simp
  rw [after0_11]
  unfold outsAt0
  dsimp only
  frame_out
  refine (out_a (given m c t) i k).trans (Eq.trans ?_ (Cert.MixOutRefIdeal.Parts.dOutA_apply _ _ _ _ _).symm)
  simp only [merged_eq, sigA_eq]
  rfl

theorem final12 : (dats m 0 c).arrAt 12 (cfgs 0).N = dOutB (mergedRows (args m c).d (args m c).wo) (args m c).gb (args m c).wb := by
  refine (dats m 0 c).arrAt_eq_of_covers 12 _ (by decide +kernel) fun t _ y => ?_
  obtain ⟨i, k, rfl⟩ := pair (n := 512) (k := 512) y
  refine Eq.trans ?_ (congrArg (dOutB (mergedRows (args m c).d (args m c).wo) (args m c).gb (args m c).wb) (emb12 t i k)).symm
  blk_simp
  rw [after0_12]
  unfold outsAt0
  dsimp only
  frame_out
  refine (out_b (given m c t) i k).trans (Eq.trans ?_ (Cert.MixOutRefIdeal.Parts.dOutB_apply _ _ _ _ _).symm)
  simp only [merged_eq, sigB_eq]
  rfl

/-- The buffers as the region leaves them. -/
def ended : Valuation τ sig (Elt Ideal) := Pipeline.withArrays (cfgs 0).spec c (V0 m c) fun w => (dats m 0 c).arrAt w (cfgs 0).N

theorem ended_arr (w : Fin 13) : ended m c (Proc.devRef .tc (Pipeline.arrRef spec0 w)) = (dats m 0 c).arrAt w (cfgs 0).N :=
  Pipeline.Dat.withArrays_arrAt (dats m 0 c) launch₀0.sharedIn _ (fun w => A_eq m c w) w

section Lines

variable (W : Valuation τ sig (Elt Ideal))

def columns (x : FVec Ideal S2048x6272 .bf16) : FVec Ideal S2048x1024 .bf16 := extractStridedSlice S2048x1024 ![0, 0] x slices_S2048x6272_S2048x1024_0_0
def columns' (x : FVec Ideal S2048x6272 .bf16) : FVec Ideal S2048x1024 .bf16 := extractStridedSlice S2048x1024 ![0, 1024] x slices_S2048x6272_S2048x1024_0_1024

theorem tail_a : (after hostOps1 W (Proc.devRef .tc main_v11) : FVec Ideal S2048x1024 .bf16) = columns (W (Proc.devRef .tc main_v10_0)) := by
  simp only [hostOps1]
  after_results_simp <;> rfl

theorem tail_b : (after hostOps1 W (Proc.devRef .tc main_v12) : FVec Ideal S2048x1024 .bf16) = columns' (W (Proc.devRef .tc main_v10_0)) := by
  simp only [hostOps1]
  after_results_simp <;> rfl

end Lines

theorem columns_apply (x : FVec Ideal S2048x6272 .bf16) (i : Fin 2048) (k : Fin 1024) : columns x (ix2 i k) = x (ix2 i (⟨k.val, by omega⟩ : Fin 6272)) := by
  unfold columns
  pointwise

theorem columns'_apply (x : FVec Ideal S2048x6272 .bf16) (i : Fin 2048) (k : Fin 1024) : columns' x (ix2 i k) = x (ix2 i (⟨1024 + k.val, by omega⟩ : Fin 6272)) := by
  unfold columns'
  pointwise

theorem result_a : (after hostOps1 (ended m c) (Proc.devRef .tc main_v11) : FVec Ideal S2048x1024 .bf16)
    = dGate (mergedRows (args m c).d (args m c).wo) (projectedA (args m c).a (args m c).wa) (args m c).ga := by
  rw [tail_a, show ended m c (Proc.devRef .tc main_v10_0) = _ from (ended_arr m c 8).trans (final8 m c)]
  funext z
  obtain ⟨i, k, rfl⟩ := pair (n := 2048) (k := 1024) z
  refine (columns_apply _ _ _).trans ((if_pos ?_).trans (gateArr_a _ _ _))
  show k.val / 2304 = 0
  omega

theorem result_b : (after hostOps1 (ended m c) (Proc.devRef .tc main_v12) : FVec Ideal S2048x1024 .bf16)
    = dGate (mergedRows (args m c).d (args m c).wo) (projectedB (args m c).b (args m c).wb) (args m c).gb := by
  rw [tail_b, show ended m c (Proc.devRef .tc main_v10_0) = _ from (ended_arr m c 8).trans (final8 m c)]
  funext z
  obtain ⟨i, k, rfl⟩ := pair (n := 2048) (k := 1024) z
  refine (columns'_apply _ _ _).trans ((if_pos ?_).trans (gateArr_b _ _ _))
  show (1024 + k.val) / 2304 = 0
  omega

end Cert.MixOutBwdIdeal.Mix

end
-- ==== Proof.Mix.Equation.lean ====
/- The mixing call computes the derivative of the gated mixing. -/
module

public import proofs.«01_k».proof.Proof.Mix.Arrays
public import proofs.«01_k».proof.Defs

@[expose] public section

set_option maxRecDepth 16384

noncomputable section

namespace Cert.MixOutBwdIdeal.Value

open Cert.MixOutBwdIdeal.Gen Cert.MixOutBwdIdeal.Mix
open Idealize.ShloMosaic Idealize.ShloMosaic.TcCoe Idealize.ShloMosaic.StableHlo Idealize.SL.Sem
open Cert.MixOutRefIdeal.Parts (mergedRows projectedA projectedB dGate stored dOutA dOutB)

set_option maxHeartbeats 1000000 in
theorem algebraic : Cert.algebraic_MixOutBwdIdeal_MixOutRefIdeal := by
  intro m g m' g' _ hargs
  refine ⟨fun c => after hostOps1 (ended m c) (Proc.devRef .tc main_v11), fun c => after hostOps1 (ended m c) (Proc.devRef .tc main_v12),
    fun c => (dats m 0 c).arrAt 9 cfg0.N, fun c => (dats m 0 c).arrAt 10 cfg0.N, fun c => (dats m 0 c).arrAt 11 cfg0.N, fun c => (dats m 0 c).arrAt 12 cfg0.N,
    (θ_run defs _ _).mono (fun r h c => ?_) (run_main m g), (θ_run _ _ _).mono (fun r h c => ?_) (Cert.MixOutRefIdeal.Value.run m' g')⟩
  · have hb := (h c).2
    exact ⟨hb main_v11 (Pipeline.mem_restRefs_of _ (by decide) (by decide)), hb main_v12 (Pipeline.mem_restRefs_of _ (by decide) (by decide)), (h c).1 9, (h c).1 10, (h c).1 11, (h c).1 12,
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      (hb main_arg2 (Pipeline.mem_restRefs_of _ (by decide) (by decide))).trans (W_main_arg2 m (dats m) c),
      (hb main_arg3 (Pipeline.mem_restRefs_of _ (by decide) (by decide))).trans (W_main_arg3 m (dats m) c),
      (hb main_arg4 (Pipeline.mem_restRefs_of _ (by decide) (by decide))).trans (W_main_arg4 m (dats m) c),
      (hb main_arg5 (Pipeline.mem_restRefs_of _ (by decide) (by decide))).trans (W_main_arg5 m (dats m) c),
      (hb main_arg6 (Pipeline.mem_restRefs_of _ (by decide) (by decide))).trans (W_main_arg6 m (dats m) c),
      (hb main_arg7 (Pipeline.mem_restRefs_of _ (by decide) (by decide))).trans (W_main_arg7 m (dats m) c)⟩
  · obtain ⟨h0, h1, h2, h3, h4, h5, hr⟩ := h c
    obtain ⟨a0, a1, a2, a3, a4, a5, a6, a7⟩ := hargs c
    refine ⟨(h0.trans (?_ : _ = dGate (mergedRows (args m c).d (args m c).wo) (projectedA (args m c).a (args m c).wa) (args m c).ga)).trans (result_a m c).symm,
      (h1.trans (?_ : _ = dGate (mergedRows (args m c).d (args m c).wo) (projectedB (args m c).b (args m c).wb) (args m c).gb)).trans (result_b m c).symm,
      (h2.trans ?_).trans (final9 m c).symm, (h3.trans ?_).trans (final10 m c).symm, (h4.trans ?_).trans (final11 m c).symm, (h5.trans ?_).trans (final12 m c).symm, hr⟩
    · rw [a0, a2, a4, a6, a7]; sl_kernel_rfl
    · rw [a1, a3, a5, a6, a7]; sl_kernel_rfl
    · rw [a2, a6, a7]; sl_kernel_rfl
    · rw [a3, a6, a7]; sl_kernel_rfl
    · rw [a2, a4, a6, a7]; sl_kernel_rfl
    · rw [a3, a5, a6, a7]; sl_kernel_rfl

end Cert.MixOutBwdIdeal.Value

end
-- ==== Proof.FoxF.Tile.lean ====
/- One tile of 256 queries of the forgetting attention's forward kernel, for any number of keys, and what a point leaves, tile by tile. -/
module

public import proofs.«01_k».proof.Proof.Gen.FoxFwdIdeal.Frame
public import proofs.«01_k».proof.Proof.Fox.Given
public import proofs.«01_k».proof.Proof.Fox.Sums

@[expose] public section

set_option maxRecDepth 16384

noncomputable section

namespace Cert.FoxFwdIdeal.FoxF

open Cert.FoxFwdIdeal.Gen
open Idealize.ShloMosaic Idealize.ShloMosaic.TcCoe Idealize.SL.Sem
open Cert.FoxBwdIdeal.Fox (M Fits second gap both ext fits prefixRows prefixLine tileLine Read rowsRect tiles)

variable {E : ℕ} (h : Fits E)

include h in
/-- The scores of a tile with the decay, −∞ where the key is after the query. -/
def hidden (first : BitVec 32) (s b : FVec Ideal (M 256 E) .f32) : FVec Ideal (M 256 E) .f32 :=
  select (cmpi .sle (iota .tc (M 256 E) 32 [1] h.cols) (addi (iota .tc (M 256 E) 32 [0] h.rows) (broadcast (M 256 E) first)))
    (addf s b) (broadcast (M 256 E) (Named.named (F := Ideal) κ "masked" (φ := .f32) 0xF149F2CA#32))

include h in
/-- The greatest score of each row. -/
def greatest (s : FVec Ideal (M 256 E) .f32) : FVec Ideal S256x1 .f32 :=
  shapeCast S256x1 (multiReduction .maximumf [1] S256 s 0xFF800000#32 h.alongRow (.inl rfl) rfl) shapeCasts_S256_S256x1

include h in
/-- The exponentials of the scores, the greatest taken off. -/
def raised (s : FVec Ideal (M 256 E) .f32) : FVec Ideal (M 256 E) .f32 := exp (subf s (broadcastTo (M 256 E) (greatest h s) h.col))

include h in
/-- The sum of each row's exponentials. -/
def total (s : FVec Ideal (M 256 E) .f32) : FVec Ideal S256x1 .f32 :=
  shapeCast S256x1 (multiReduction .add [1] S256 (raised h s) 0x00000000#32 h.alongRow (.inl rfl) rfl) shapeCasts_S256_S256x1

include h in
/-- The weights of a tile. -/
def shares (s : FVec Ideal (M 256 E) .f32) : FVec Ideal (M 256 E) .f32 :=
  mulf (raised h s) (broadcastTo (M 256 E) (divf (broadcast S256x1 (Scalar.ofBits (F := Ideal) .f32 0x3F800000#32)) (total h s)) h.col)

include h in
/-- The log-sum of each row. -/
def logs (s : FVec Ideal (M 256 E) .f32) : FVec Ideal S256x1 .f32 := addf (greatest h s) (log (total h s))

/-- The tile's outputs: each head's weights against the values, the head's columns kept. -/
def mixed (a : FVec Ideal (M 512 E) .bf16) (vs : FVec Ideal (M E 128) .bf16) : FVec Ideal S256x128 .f32 :=
  shapeCast S256x128
    (select second
      (extractStridedSlice S256x128 ![256, 0] (matmul (DotDims.plain 512 E 128) none a vs (constant S512x128 .f32 0x00000000#32))
        slices_S512x128_o256_0_S256x128)
      (extractStridedSlice S256x128 ![0, 0] (matmul (DotDims.plain 512 E 128) none a vs (constant S512x128 .f32 0x00000000#32))
        slices_S512x128_o0_0_S256x128)) shapeCasts_S256x128_S256x128

/-- A number of each row and head, in all columns of the head. -/
def copied (a b : FVec Ideal S256x1 .f32) : FVec Ideal S256x128 .f32 :=
  shapeCast S256x128
    (select second
      (broadcastTo S256x128 (shapeCast S256x1 b shapeCasts_S256x1_S256x1) broadcasts_S256x1_S256x128)
      (broadcastTo S256x128 (shapeCast S256x1 a shapeCasts_S256x1_S256x1) broadcasts_S256x1_S256x128)) shapeCasts_S256x128_S256x128

section Tiles

variable (R : Read) (n : Fin 8)

def hiddenA : FVec Ideal (M 256 (ext n)) .f32 :=
  hidden (fits n) (Read.firstQuery n) (extractStridedSlice (M 256 (ext n)) ![0, 0] (R.scores n) (fits n).top) (gap (fits n) (tileLine R.f n) (prefixLine R.f n))
def hiddenB : FVec Ideal (M 256 (ext n)) .f32 :=
  hidden (fits n) (Read.firstQuery n) (extractStridedSlice (M 256 (ext n)) ![256, 0] (R.scores n) (fits n).bottom) (gap (fits n) (tileLine R.g n) (prefixLine R.g n))

/-- The tile's rows of the two results. -/
def rows : FVec Ideal S256x128 .f32 :=
  mixed (both (fits n) (shares (fits n) (hiddenA R n)) (shares (fits n) (hiddenB R n))) (prefixRows R.v n)
def sums : FVec Ideal S256x128 .f32 := copied (logs (fits n) (hiddenA R n)) (logs (fits n) (hiddenB R n))

end Tiles

/-- The pieces of the tiles of a list. -/
def pieces (f : Fin 8 → FVec Ideal S256x128 .f32) : List (Fin 8) → List (View.Piece (Elt Ideal) S2048x128 .f32)
  | [] => []
  | n :: L => ⟨rowsRect n, f n⟩ :: pieces f L

section Point

variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S16x2048 .f32) (harg4 : arg4.IsWhole)
    (arg5 : Memref sig .tc .vmem S2048x128 .f32) (harg5 : arg5.IsWhole) (arg6 : Memref sig .tc .vmem S2048x128 .f32) (harg6 : arg6.IsWhole)
    (x0 : Vec Ideal S2048x128 .f32) (x1 : Vec Ideal S2048x128 .f32) (x2 : Vec Ideal S2048x128 .f32) (x3 : Vec Ideal S16x2048 .f32)

/-- What a point reads of its staging buffers; the two arrays only the backward call reads are zero. -/
def reads : Read where
  q n := View.readAt (Elt Ideal) arg1.view (rowsRect n).toLoadRect (harg1.unread x0)
  o _ := fun _ => (0 : EReal)
  l _ := fun _ => (0 : EReal)
  k := k0_pay3 (View.readAt (Elt Ideal) arg2.view (Rect.unit (s := S2048x128) ![0, 0] S2048x128.size inb_S2048x128_S2048x128_0_0).toLoadRect (harg2.unread x1))
  v := k0_pay4 (View.readAt (Elt Ideal) arg3.view (Rect.unit (s := S2048x128) ![0, 0] S2048x128.size inb_S2048x128_S2048x128_0_0).toLoadRect (harg3.unread x2))
  f := k0_pay5 (View.readAt (Elt Ideal) arg4.view (Rect.unit (s := S16x2048) (k0_off1 i 0#32) S1x2048.size (k0_off1_inb i 0)).toLoadRect (harg4.unread x3))
  g := k0_pay6 (View.readAt (Elt Ideal) arg4.view (Rect.unit (s := S16x2048) (k0_off1 i 1#32) S1x2048.size (k0_off1_inb i 1)).toLoadRect (harg4.unread x3))

theorem outputs_pieces : (kernelRun0_A (F := Ideal) c i arg1 harg1 arg2 harg2 arg3 harg3 arg4 harg4 arg5 harg5 arg6 harg6 x0 x1 x2 x3).1
    = pieces (rows (reads i arg1 harg1 arg2 harg2 arg3 harg3 arg4 harg4 x0 x1 x2 x3)) tiles := by
  sl_kernel_rfl

theorem sums_pieces : (kernelRun0_A (F := Ideal) c i arg1 harg1 arg2 harg2 arg3 harg3 arg4 harg4 arg5 harg5 arg6 harg6 x0 x1 x2 x3).2.1
    = pieces (sums (reads i arg1 harg1 arg2 harg2 arg3 harg3 arg4 harg4 x0 x1 x2 x3)) tiles := by
  sl_kernel_rfl

end Point

end Cert.FoxFwdIdeal.FoxF

end
-- ==== Proof.FoxF.Values.lean ====
/- A tile of the forgetting attention's forward kernel on real scores. -/
module

public import proofs.«01_k».proof.Proof.FoxF.Tile

@[expose] public section

set_option maxRecDepth 16384

noncomputable section

namespace Cert.FoxFwdIdeal.FoxF

open Cert.FoxFwdIdeal.Gen
open Idealize.ShloMosaic Idealize.ShloMosaic.TcCoe Idealize.SL.Sem
open Cert.FoxBwdIdeal.Fox (M Fits second second_apply select_decide gap gap_apply both both_top both_bottom ext fits prefixRows prefixRows_apply prefixLine prefixLine_apply
  tileLine tileLine_apply Read Reals Holds qry key headOf sum_keys scores_top scores_bottom upper_apply lower_apply rowsRect rows_emb not_rows left left_hit left_miss tiles)
open Cert.FoxRefIdeal.Parts (Args)

variable {E : ℕ} (h : Fits E) (s : FVec Ideal (M 256 E) .f32) (r : Fin 256)

/-- The mask's value. -/
theorem masked_word : Named.named (F := Ideal) κ "masked" (φ := .f32) 0xF149F2CA#32 = (⊥ : EReal) :=
  IdealRules.named_const.ideal_named_scalar _ _ _ _ rfl

theorem hidden_apply (first : ℕ) (hf : first < 4096) (hE : E ≤ 4096) (s b : FVec Ideal (M 256 E) .f32) (r : Fin 256) (j : Fin E) :
    hidden h (BitVec.ofNat 32 first) s b (ix2 r j) = if j.val ≤ first + r.val then s (ix2 r j) + b (ix2 r j) else ⊥ := by
  have hj := j.isLt
  unfold hidden
  pointwise
  have hr := r.isLt
  have ha : IntOp.addi (BitVec.ofNat 32 r.val) (BitVec.ofNat 32 first) = BitVec.ofNat 32 (first + r.val) := by
    show BitVec.ofNat 32 r.val + BitVec.ofNat 32 first = _
    rw [← BitVec.ofNat_add, add_comm]
  have hc : IntOp.cmpi .sle (BitVec.ofNat 32 j.val) (BitVec.ofNat 32 (first + r.val)) = BitVec.ofBool (decide (j.val ≤ first + r.val)) :=
    WordCmp.cmpi_sle_ofNat (by omega) (by omega)
  rw [ha, masked_word]
  exact (congrArg (fun z => Scalar.select z _ _) hc).trans (select_decide _ _ _)

theorem greatest_apply : greatest h s (ix2 r 0) = Finset.univ.fold max (⊥ : EReal) fun j : Fin E => s (ix2 r j) := by
  unfold greatest
  pointwise
  rw [Cert.FoxRefIdeal.Parts.infinity_word]

theorem greatest_real (hs : ∀ j, s (ix2 r j) ≠ ⊤) (j : Fin E) (a : ℝ) (ha : s (ix2 r j) = (a : EReal)) : ∃ μ : ℝ, greatest h s (ix2 r 0) = (μ : EReal) := by
  rw [greatest_apply]
  have lt : Finset.univ.fold max (⊥ : EReal) (fun j : Fin E => s (ix2 r j)) < ⊤ :=
    (Finset.fold_max_lt _).2 ⟨bot_lt_top, fun y _ => lt_top_iff_ne_top.2 (hs y)⟩
  have gt : ⊥ < Finset.univ.fold max (⊥ : EReal) (fun j : Fin E => s (ix2 r j)) :=
    (Finset.lt_fold_max _).2 (Or.inr ⟨j, Finset.mem_univ _, by rw [ha]; exact EReal.bot_lt_coe a⟩)
  exact ⟨_, (EReal.coe_toReal lt.ne gt.ne').symm⟩

theorem raised_apply (j : Fin E) : raised h s (ix2 r j) = Ideal.exp (s (ix2 r j) - greatest h s (ix2 r 0)) := by
  unfold raised
  pointwise

theorem total_apply : total h s (ix2 r 0) = ∑ j, raised h s (ix2 r j) := by
  unfold total
  pointwise

theorem shares_apply (j : Fin E) : shares h s (ix2 r j) = raised h s (ix2 r j) * Ideal.div 1 (total h s (ix2 r 0)) := by
  unfold shares
  pointwise

theorem logs_apply : logs h s (ix2 r 0) = greatest h s (ix2 r 0) + Ideal.log (total h s (ix2 r 0)) := by
  unfold logs
  pointwise

theorem mixed_apply (a : FVec Ideal (M 512 E) .bf16) (vs : FVec Ideal (M E 128) .bf16) (d : Fin 128) :
    mixed a vs (ix2 r d) = if d.val < 64 then ∑ j : Fin E, a (ix2 ⟨r.val, by omega⟩ j) * vs (ix2 j d)
      else ∑ j : Fin E, a (ix2 ⟨256 + r.val, by omega⟩ j) * vs (ix2 j d) := by
  unfold mixed
  pointwise
  rw [second_apply, select_decide]
  have hp : ∀ y : Fin 512, matmul (DotDims.plain 512 E 128) none a vs (constant S512x128 .f32 0x00000000#32) (ix2 y d) = ∑ j : Fin E, a (ix2 y j) * vs (ix2 j d) :=
    fun y => (Ideal.matmul_plain_apply none a vs (constant S512x128 .f32 0x00000000#32) y d).trans
      ((congrArg (· + _) Ideal.ofBits_zero_f32).trans (zero_add _))
  by_cases hd : d.val < 64
  · rw [if_neg (by omega), if_pos hd]
    exact hp _
  · rw [if_pos (by omega), if_neg hd]
    exact hp _

theorem copied_apply (a b : FVec Ideal S256x1 .f32) (d : Fin 128) : copied a b (ix2 r d) = if d.val < 64 then a (ix2 r 0) else b (ix2 r 0) := by
  unfold copied
  pointwise
  rw [second_apply, select_decide]
  by_cases hd : d.val < 64
  · rw [if_neg (by omega), if_pos hd]
  · rw [if_pos (by omega), if_neg hd]

/-! ## Rows with real scores -/

section Real

variable (A : Args) (g : Fin 8) (n : Fin 8) (t : FVec Ideal (M 256 (ext n)) .f32)

/-- Row `r` of a tile holds the scores of head `g`, −∞ where the key is after the query. -/
def Row : Prop := ∀ j, t (ix2 r j) = if (key n j).val ≤ (qry n r).val then ((A.score g (qry n r) (key n j) : ℝ) : EReal) else ⊥

variable {A g n t r} (hx : Row r A g n t)
include hx

theorem row_parts : ∃ μ : ℝ, greatest (fits n) t (ix2 r 0) = (μ : EReal)
    ∧ (∀ j, raised (fits n) t (ix2 r j) = ((A.shifted g (qry n r) (key n j) (fun _ _ => μ) : ℝ) : EReal))
    ∧ total (fits n) t (ix2 r 0) = ((∑ j : Fin 2048, A.shifted g (qry n r) j (fun _ _ => μ) : ℝ) : EReal) := by
  have hr := r.isLt
  have hq : (qry n r).val < ext n := by
    show 256 * n.val + r.val < 256 * (n.val + 1)
    omega
  obtain ⟨μ, hμ⟩ := greatest_real (fits n) t r (fun j => by
      rw [hx j]
      split_ifs
      · exact EReal.coe_ne_top _
      · exact bot_ne_top) ⟨(qry n r).val, hq⟩ (A.score g (qry n r) (qry n r)) ((hx _).trans (if_pos le_rfl))
  have e : ∀ j, raised (fits n) t (ix2 r j) = ((A.shifted g (qry n r) (key n j) (fun _ _ => μ) : ℝ) : EReal) := fun j => by
    rw [raised_apply, hμ, hx j]
    unfold Args.shifted
    split_ifs
    · rw [← EReal.coe_sub, Ideal.exp_coe]
    · rw [EReal.bot_sub, Ideal.exp_bot, EReal.coe_zero]
  refine ⟨μ, hμ, e, ?_⟩
  rw [total_apply, ← sum_keys n (fun j => A.shifted g (qry n r) j fun _ _ => μ) (fun j hj => if_neg (by omega)), ← Cert.Lift.coe_sum]
  exact Finset.sum_congr rfl fun j _ => e j

theorem shares_real (j : Fin (ext n)) : shares (fits n) t (ix2 r j) = ((A.weight g (qry n r) (key n j) : ℝ) : EReal) := by
  obtain ⟨μ, -, he, ht⟩ := row_parts hx
  rw [shares_apply, he, ht, Ideal.div_coe (A.shifted_sum_pos g (qry n r) _).ne', one_mul, ← EReal.coe_mul, mul_one_div, A.shifted_div]

theorem logs_real : logs (fits n) t (ix2 r 0) = ((A.logSum g (qry n r) : ℝ) : EReal) := by
  obtain ⟨μ, hμ, -, ht⟩ := row_parts hx
  rw [logs_apply, hμ, ht, Ideal.log_coe, if_neg (not_le.2 (A.shifted_sum_pos g (qry n r) _)), ← EReal.coe_add]
  exact congrArg _ (A.shifted_log g (qry n r) fun _ _ => μ)

end Real

section Tiles

variable {R : Read} {T : Reals} (H : Holds R T) {A : Args} {g : Fin 2 → Fin 8}
  (hs : ∀ e i j, T.score e i j + (T.f e i - T.f e j) = A.score (g e) i j) (n : Fin 8) (r : Fin 256)
include H hs

theorem hiddenA_row : Row r A (g 0) n (hiddenA R n) := fun j => by
  have hb : extractStridedSlice (M 256 (ext n)) ![0, 0] (R.scores n) (fits n).top (ix2 r j) = ((T.score 0 (qry n r) (key n j) : ℝ) : EReal) :=
    (upper_apply _ _ _ _ (by omega)).trans (scores_top H n r j _)
  unfold hiddenA Read.firstQuery
  rw [hidden_apply (fits n) _ (by omega) (by unfold ext; omega), hb, gap_apply, tileLine_apply, prefixLine_apply, H.f, H.f, ← EReal.coe_sub, ← EReal.coe_add, hs]
  rfl

theorem hiddenB_row : Row r A (g 1) n (hiddenB R n) := fun j => by
  have hb : extractStridedSlice (M 256 (ext n)) ![256, 0] (R.scores n) (fits n).bottom (ix2 r j) = ((T.score 1 (qry n r) (key n j) : ℝ) : EReal) :=
    (lower_apply _ _ _ _ (by omega)).trans (scores_bottom H n r j _)
  unfold hiddenB Read.firstQuery
  rw [hidden_apply (fits n) _ (by omega) (by unfold ext; omega), hb, gap_apply, tileLine_apply, prefixLine_apply, H.g, H.g, ← EReal.coe_sub, ← EReal.coe_add, hs]
  rfl

theorem weighted (a : Fin (ext n) → EReal) (h : Fin 8) (d : Fin 128) (ha : ∀ j, a j = ((A.weight h (qry n r) (key n j) : ℝ) : EReal)) :
    ∑ j, a j * prefixRows R.v n (ix2 j d) = ((∑ j, A.weight h (qry n r) j * T.v j d : ℝ) : EReal) := by
  have hz : ∀ j : Fin 2048, ext n ≤ j.val → A.weight h (qry n r) j * T.v j d = 0 := fun j hj => by
    have hr := r.isLt
    have hq : (qry n r).val = 256 * n.val + r.val := rfl
    rw [Args.weight, if_neg (by unfold ext at hj; omega), zero_mul]
  rw [← sum_keys n _ hz, ← Cert.Lift.coe_sum]
  exact Finset.sum_congr rfl fun j _ => by rw [ha, prefixRows_apply, H.v, ← EReal.coe_mul]

theorem rows_real (d : Fin 128) : rows R n (ix2 r d) = ((∑ j, A.weight (g (headOf d)) (qry n r) j * T.v j d : ℝ) : EReal) := by
  unfold rows
  rw [mixed_apply]
  by_cases hd : d.val < 64
  · have h0 : headOf d = 0 := Fin.ext (by show d.val / 64 = 0; omega)
    rw [if_pos hd, h0]
    exact weighted H hs n r _ _ d fun j => (both_top _ _ _ _ _ _).trans (shares_real (hiddenA_row H hs n r) j)
  · have h1 : headOf d = 1 := Fin.ext (by show d.val / 64 = 1; omega)
    rw [if_neg hd, h1]
    exact weighted H hs n r _ _ d fun j => (both_bottom _ _ _ _ _ _).trans (shares_real (hiddenB_row H hs n r) j)

theorem sums_real (d : Fin 128) : sums R n (ix2 r d) = ((A.logSum (g (headOf d)) (qry n r) : ℝ) : EReal) := by
  unfold sums
  rw [copied_apply]
  by_cases hd : d.val < 64
  · have h0 : headOf d = 0 := Fin.ext (by show d.val / 64 = 0; omega)
    rw [if_pos hd, h0, logs_real (hiddenA_row H hs n r)]
  · have h1 : headOf d = 1 := Fin.ext (by show d.val / 64 = 1; omega)
    rw [if_neg hd, h1, logs_real (hiddenB_row H hs n r)]

end Tiles

/-! ## The tiles together -/

theorem pieces_left (f : Fin 8 → FVec Ideal S256x128 .f32) (k : Fin 8) (d : Fin 128) (L : List (Fin 8)) (hk : k ∈ L) :
    left (pieces f L) (ix2 (qry k r) d) = f k (ix2 r d) := by
  induction L with
  | nil => exact absurd hk (List.not_mem_nil)
  | cons n L ih =>
    rw [pieces]
    by_cases hn : n = k
    · subst hn
      exact left_hit _ _ _ _ (rows_emb n r d)
    · rw [left_miss _ _ _ (not_rows n k hn r d)]
      exact ih ((List.mem_cons.1 hk).resolve_left fun h => hn h.symm)

theorem pieces_total (f : Fin 8 → FVec Ideal S256x128 .f32) (k : Fin 8) (d : Fin 128) : left (pieces f tiles) (ix2 (qry k r) d) = f k (ix2 r d) :=
  pieces_left r f k d tiles (by fin_cases k <;> simp [tiles])

theorem query_at (i : Fin 2048) : ∃ k r, i = qry k r := ⟨⟨i.val / 256, by omega⟩, ⟨i.val % 256, by omega⟩, Fin.ext (by simp [qry]; omega)⟩

end Cert.FoxFwdIdeal.FoxF

end
-- ==== Proof.FoxF.Arrays.lean ====
/- What the forgetting attention's forward call leaves in its two arrays, on real arguments. -/
module

public import proofs.«01_k».proof.Proof.FoxF.Values
public import proofs.«01_k».proof.Proof.Fox.Equation
public import proofs.«01_k».proof.Proof.Gen.FoxFwdIdeal.Frame

@[expose] public section

set_option maxRecDepth 16384

noncomputable section

namespace Cert.FoxFwdIdeal.FoxF

open Cert.FoxFwdIdeal Cert.FoxFwdIdeal.Gen
open Idealize.ShloMosaic Idealize.ShloMosaic.TcCoe Idealize.ShloMosaic.StableHlo Idealize.SL.Sem
open Cert.FoxBwdIdeal.Fox (Reals Holds Read qry headOf rowsRect rows_idx tiles left pair packed packed_query packed_key packed_value padded colAt headAt score_eq column_at)
open Cert.FoxRefIdeal.Parts (Rows Lines Args Are col)

/-- The grid point of the backward call with the same number. -/
def twin (t : Fin cfg0.N) : Fin Cert.FoxBwdIdeal.cfg0.N := ⟨t.val, t.isLt⟩

theorem point_lt (t : Fin cfg0.N) : t.val < 4 := t.isLt

/-- The row of head `e` of point `t` among the sixteen rows of the decays. -/
def decayRow (t : Fin cfg0.N) (e : Fin 2) : Fin 16 := ⟨2 * t.val + e.val, by have := point_lt t; omega⟩

/-- The real block of point `t`. -/
def reals (A : Args) (t : Fin cfg0.N) : Reals := { Cert.FoxBwdIdeal.Fox.reals A (twin t) with o := fun _ _ => 0, l := fun _ _ => 0 }

/-- The blocks of point `t` are real, and these are their entries. -/
structure Given (t : Fin cfg0.N) (x0 x1 x2 : FVec Ideal S2048x128 .f32) (x3 : FVec Ideal S16x2048 .f32) (T : Reals) : Prop where
  q : ∀ i d, x0 (ix2 i d) = ((T.q i d : ℝ) : EReal)
  k : ∀ i d, x1 (ix2 i d) = ((T.k i d : ℝ) : EReal)
  v : ∀ i d, x2 (ix2 i d) = ((T.v i d : ℝ) : EReal)
  f : ∀ e j, x3 (ix2 (decayRow t e) j) = ((T.f e j : ℝ) : EReal)

theorem row_offset : ∀ (t : Fin cfg0.N) (e : Fin 2) (a : Fin 2),
    (k0_off1 (grid0.coords t) (if e = 0 then 0#32 else 1#32)) a = (![2 * t.val + e.val, 0] : Fin 2 → ℕ) a := by
  decide +kernel

theorem whole_idx (x : S2048x128.Idx) :
    (Rect.unit (s := S2048x128) ![0, 0] S2048x128.size inb_S2048x128_S2048x128_0_0).toLoadRect.idx x = x :=
  Cert.FoxBwdIdeal.Fox.whole_idx x

theorem row_idx (t : Fin cfg0.N) (e : Fin 2) (b : BitVec 32) (hb : b = if e = 0 then 0#32 else 1#32)
    (inb : ∀ a, (k0_off1 (grid0.coords t) b) a + S1x2048.size a ≤ S16x2048.size a) (j : Fin 2048) :
    (Rect.unit (s := S16x2048) (k0_off1 (grid0.coords t) b) S1x2048.size inb).toLoadRect.idx (ix2 0 j) = ix2 (decayRow t e) j := by
  subst hb
  funext a
  apply Fin.ext
  refine (Rect.idx_unit_val _ _ _ _ a).trans ?_
  rw [row_offset t e a]
  fin_cases a <;> simp [decayRow]

/-- A read of a whole buffer that holds `x`. -/
theorem read_at {s : Shape} {ty : EltTy} {a : Memref sig .tc .vmem s ty} (h : a.IsWhole) (x : Vec Ideal s ty) (B : LoadRect s) (j : B.shape.Idx)
    {y : s.Idx} (hy : B.idx j = y) : View.readAt (Elt Ideal) a.view B (h.unread x) j = x y :=
  hy ▸ congrFun (h.read_unread x) (B.idx j)

section Point

variable (t : Fin cfg0.N) (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S16x2048 .f32) (harg4 : arg4.IsWhole)
  {x0 x1 x2 : FVec Ideal S2048x128 .f32} {x3 : FVec Ideal S16x2048 .f32} {A : Args}

/-- A point that is given real blocks reads real numbers. -/
theorem holds (G : Given t x0 x1 x2 x3 (reals A t)) : Holds (reads (grid0.coords t) arg1 harg1 arg2 harg2 arg3 harg3 arg4 harg4 x0 x1 x2 x3) (reals A t) where
  q n r d := (read_at harg1 x0 _ _ (rows_idx n r d)).trans (G.q _ _)
  o n r d := EReal.coe_zero.symm
  l n r d := EReal.coe_zero.symm
  k j d := by
    refine Eq.trans ?_ ((read_at harg2 x1 _ _ (whole_idx (ix2 j d))).trans (G.k _ _))
    unfold reads k0_pay3
    pointwise
  v j d := by
    refine Eq.trans ?_ ((read_at harg3 x2 _ _ (whole_idx (ix2 j d))).trans (G.v _ _))
    unfold reads k0_pay4
    pointwise
  f j := by
    refine Eq.trans ?_ ((read_at harg4 x3 _ _ (row_idx t 0 0#32 rfl (k0_off1_inb _ 0) j)).trans (G.f _ _))
    unfold reads k0_pay5
    pointwise
  g j := by
    refine Eq.trans ?_ ((read_at harg4 x3 _ _ (row_idx t 1 1#32 rfl (k0_off1_inb _ 1) j)).trans (G.f _ _))
    unfold reads k0_pay6
    pointwise

theorem score (A : Args) (e : Fin 2) (i j : Fin 2048) :
    (reals A t).score e i j + ((reals A t).f e i - (reals A t).f e j) = A.score (headAt (twin t) e) i j := score_eq A (twin t) e i j

end Point

section Host

variable (m : (ℓ : Loc nD τ sig) → Buf (Elt Ideal) ℓ) (c : Dev nD)

theorem V_packed : (V m c main_v2 : FVec Ideal S2048x6272 .f32)
    = packed (m ((c.tc : Thread nD τ).loc main_arg0)) (m ((c.tc : Thread nD τ).loc main_arg1)) (m ((c.tc : Thread nD τ).loc main_arg2)) := by
  simp only [V, hostOps0, hostOps0_1, List.flatten_cons, List.flatten_nil, List.append_nil, List.cons_append, List.nil_append,
    TRef.nullary, TRef.ternary, TRef.unary, TRef.binary, TRef.toBuf, TRef.ofBuf, cast_eq]
  after_results_simp <;> rfl

theorem V_decay : (V m c main_v3 : FVec Ideal S16x2048 .f32)
    = pad (α := EReal) S16x2048 ![0, 0] ![8, 0] ![0, 0] (m ((c.tc : Thread nD τ).loc main_arg3) : Lines) (sitofp (F := Ideal) .f32 (constantI S_ 32 0#32))
      pads_S8x2048_S16x2048_080_000 h_S_ := by
  simp only [V, hostOps0, hostOps0_1, List.flatten_cons, List.flatten_nil, List.append_nil, List.cons_append, List.nil_append,
    TRef.nullary, TRef.ternary, TRef.unary, TRef.binary, TRef.toBuf, TRef.ofBuf, cast_eq]
  after_results_simp <;> rfl

end Host

theorem block_index : ∀ t : Fin cfg0.N, win0_0.index t = ![0, 36 + t.val] ∧ win0_1.index t = ![0, 40 + t.val] ∧ win0_2.index t = ![0, 44 + t.val]
    ∧ win0_3.index t = ![0, 0] ∧ win0_4.index t = ![0, t.val] ∧ win0_5.index t = ![0, t.val] :=
  (by decide +kernel : ∀ t : Fin grid0.N, _)

section Blocks

variable (m : (ℓ : Loc nD τ sig) → Buf (Elt Ideal) ℓ) (c : Dev nD) (t : Fin cfg0.N) (i : Fin 2048) (d : Fin 128)

theorem block_query : iblk m c 0 t (ix2 i d) = (V m c main_v2 : FVec Ideal S2048x6272 .f32) (ix2 i (⟨4608 + (colAt (twin t) d).val, by omega⟩ : Fin 6272)) := by
  refine congrArg (V m c main_v2 : FVec Ideal S2048x6272 .f32) (?_ : ((cfg0.win 0).blk t).view.emb (ix2 i d) = _)
  funext a
  apply Fin.ext
  refine (Pipeline.Window.rect_emb_val win0_0 t (ix2 i d) a).trans ?_
  rw [(block_index t).1]
  fin_cases a
  · show 0 * 2048 + i.val = i.val
    omega
  · show (36 + t.val) * 128 + d.val = 4608 + (128 * t.val + d.val)
    omega

theorem block_key : iblk m c 1 t (ix2 i d) = (V m c main_v2 : FVec Ideal S2048x6272 .f32) (ix2 i (⟨5120 + (colAt (twin t) d).val, by omega⟩ : Fin 6272)) := by
  refine congrArg (V m c main_v2 : FVec Ideal S2048x6272 .f32) (?_ : ((cfg0.win 1).blk t).view.emb (ix2 i d) = _)
  funext a
  apply Fin.ext
  refine (Pipeline.Window.rect_emb_val win0_1 t (ix2 i d) a).trans ?_
  rw [(block_index t).2.1]
  fin_cases a
  · show 0 * 2048 + i.val = i.val
    omega
  · show (40 + t.val) * 128 + d.val = 5120 + (128 * t.val + d.val)
    omega

theorem block_value : iblk m c 2 t (ix2 i d) = (V m c main_v2 : FVec Ideal S2048x6272 .f32) (ix2 i (⟨5632 + (colAt (twin t) d).val, by omega⟩ : Fin 6272)) := by
  refine congrArg (V m c main_v2 : FVec Ideal S2048x6272 .f32) (?_ : ((cfg0.win 2).blk t).view.emb (ix2 i d) = _)
  funext a
  apply Fin.ext
  refine (Pipeline.Window.rect_emb_val win0_2 t (ix2 i d) a).trans ?_
  rw [(block_index t).2.2.1]
  fin_cases a
  · show 0 * 2048 + i.val = i.val
    omega
  · show (44 + t.val) * 128 + d.val = 5632 + (128 * t.val + d.val)
    omega

theorem block_decay (r : Fin 16) : iblk m c 3 t (ix2 r i) = (V m c main_v3 : FVec Ideal S16x2048 .f32) (ix2 r i) := by
  refine congrArg (V m c main_v3 : FVec Ideal S16x2048 .f32) (?_ : ((cfg0.win 3).blk t).view.emb (ix2 r i) = _)
  funext a
  apply Fin.ext
  refine (Pipeline.Window.rect_emb_val win0_3 t (ix2 r i) a).trans ?_
  rw [(block_index t).2.2.2.1]
  fin_cases a
  · show 0 * 16 + r.val = r.val
    omega
  · show 0 * 2048 + i.val = i.val
    omega

theorem emb_output : ((cfg0.win 4).blk t).view.emb (ix2 i d) = (ix2 i (colAt (twin t) d) : S2048x512.Idx) := by
  funext a
  apply Fin.ext
  refine (Pipeline.Window.rect_emb_val win0_4 t (ix2 i d) a).trans ?_
  rw [(block_index t).2.2.2.2.1]
  fin_cases a
  · show 0 * 2048 + i.val = i.val
    omega
  · show t.val * 128 + d.val = 128 * t.val + d.val
    omega

theorem emb_sum : ((cfg0.win 5).blk t).view.emb (ix2 i d) = (ix2 i (colAt (twin t) d) : S2048x512.Idx) := by
  funext a
  apply Fin.ext
  refine (Pipeline.Window.rect_emb_val win0_5 t (ix2 i d) a).trans ?_
  rw [(block_index t).2.2.2.2.2]
  fin_cases a
  · show 0 * 2048 + i.val = i.val
    omega
  · show t.val * 128 + d.val = 128 * t.val + d.val
    omega

end Blocks

/-- One entry of the attention's output, and of its rows' log-sums, by columns. -/
def output (A : Args) (i : Fin 2048) (h : Fin 8) (y : Fin 512) : EReal := ((∑ j, A.weight h i j * A.v j y : ℝ) : EReal)
def logOf (A : Args) (i : Fin 2048) (h : Fin 8) : EReal := ((A.logSum h i : ℝ) : EReal)

/-- The head of a column. -/
def headBy (y : Fin 512) : Fin 8 := ⟨y.val / 64, by omega⟩

theorem headBy_col (h : Fin 8) (d : Fin 64) : headBy (col h d) = h := Fin.ext (by show (64 * h.val + d.val) / 64 = h.val; omega)

theorem headBy_colAt (t : Fin cfg0.N) (d : Fin 128) : headAt (twin t) (headOf d) = headBy (colAt (twin t) d) :=
  Fin.ext (by show 2 * t.val + d.val / 64 = (128 * t.val + d.val) / 64; omega)

section Call

variable (m : (ℓ : Loc nD τ sig) → Buf (Elt Ideal) ℓ) (c : Dev nD) {A : Args} {o : Rows}
    (H : Are A (m ((c.tc : Thread nD τ).loc main_arg0)) (m ((c.tc : Thread nD τ).loc main_arg1)) (m ((c.tc : Thread nD τ).loc main_arg2)) o
      (m ((c.tc : Thread nD τ).loc main_arg3)))
include H

/-- Every point is given its block of real numbers. -/
theorem given (t : Fin cfg0.N) : Given t (iblk m c 0 t) (iblk m c 1 t) (iblk m c 2 t) (iblk m c 3 t) (reals A t) where
  q i d := (block_query m c t i d).trans (by rw [V_packed]; exact (packed_query _ _ _ i _).trans (H.q i _))
  k i d := (block_key m c t i d).trans (by rw [V_packed]; exact (packed_key _ _ _ i _).trans (H.k i _))
  v i d := (block_value m c t i d).trans (by rw [V_packed]; exact (packed_value _ _ _ i _).trans (H.v i _))
  f e j := (block_decay m c t j (decayRow t e)).trans (by rw [V_decay]; exact (padded _ j (headAt (twin t) e)).trans (H.f _ j))

theorem outputs_apply (t : Fin cfg0.N) (i : Fin 2048) (d : Fin 128) : (outsAt0 m c t).1 (ix2 i d) = output A i (headBy (colAt (twin t) d)) (colAt (twin t) d) := by
  refine (congrFun (View.read_writes_junk_eq_canon (Val := Elt Ideal) VO0_4 _) (ix2 i d)).trans ?_
  refine (congrArg (fun L => left L (ix2 i d)) (outputs_pieces c _ _ _ _ _ _ _ _ _ _ _ _ _ _ _ _ _)).trans ?_
  obtain ⟨k, r, rfl⟩ := query_at i
  rw [pieces_total, rows_real (holds t _ _ _ _ _ _ _ _ (given m c H t)) (score t A), ← headBy_colAt]
  rfl

theorem sums_apply (t : Fin cfg0.N) (i : Fin 2048) (d : Fin 128) : (outsAt0 m c t).2 (ix2 i d) = logOf A i (headBy (colAt (twin t) d)) := by
  refine (congrFun (View.read_writes_junk_eq_canon (Val := Elt Ideal) VO0_5 _) (ix2 i d)).trans ?_
  refine (congrArg (fun L => left L (ix2 i d)) (sums_pieces c _ _ _ _ _ _ _ _ _ _ _ _ _ _ _ _ _)).trans ?_
  obtain ⟨k, r, rfl⟩ := query_at i
  rw [pieces_total, sums_real (holds t _ _ _ _ _ _ _ _ (given m c H t)) (score t A), ← headBy_colAt]
  rfl

theorem final_outputs : (dats m 0 c).arrAt 4 (cfgs 0).N = fun z : S2048x512.Idx => output A (z 0) (headBy (z 1)) (z 1) := by
  refine (dats m 0 c).arrAt_eq_of_covers 4 _ (by decide +kernel) (fun t _ y => ?_)
  obtain ⟨i, d, rfl⟩ := pair (n := 2048) (k := 128) y
  refine Eq.trans ?_ (congrArg (fun z : S2048x512.Idx => output A (z 0) (headBy (z 1)) (z 1)) (emb_output t i d)).symm
  blk_simp
  rw [after0_4]
  exact outputs_apply m c H t i d

theorem final_sums : (dats m 0 c).arrAt 5 (cfgs 0).N = fun z : S2048x512.Idx => logOf A (z 0) (headBy (z 1)) := by
  refine (dats m 0 c).arrAt_eq_of_covers 5 _ (by decide +kernel) (fun t _ y => ?_)
  obtain ⟨i, d, rfl⟩ := pair (n := 2048) (k := 128) y
  refine Eq.trans ?_ (congrArg (fun z : S2048x512.Idx => logOf A (z 0) (headBy (z 1))) (emb_sum t i d)).symm
  blk_simp
  rw [after0_5]
  exact sums_apply m c H t i d

end Call

end Cert.FoxFwdIdeal.FoxF

end
-- ==== Proof.FoxF.Reference.lean ====
/- What the forgetting attention's forward lines compute, on real arguments. -/
module

public import proofs.«01_k».proof.Proof.FoxF.Arrays
public import proofs.«01_k».proof.Proof.Gen.FoxFwdRefIdeal.Run

@[expose] public section

set_option maxRecDepth 16384

noncomputable section

namespace Cert.FoxFwdRefIdeal.Parts

open Cert.FoxFwdRefIdeal Cert.FoxFwdRefIdeal.Gen Cert.FoxFwdRefIdeal.Value
open Idealize.ShloMosaic Idealize.ShloMosaic.TcCoe Idealize.ShloMosaic.StableHlo Idealize.SL.Sem
open Cert.FoxRefIdeal.Parts (Rows Lines Square heads heads_apply flat flat_apply masked probs probs_real expo Args Are col)
open Cert.FoxBwdIdeal.Fox (logSum logSum_real spread spread_apply pair)
open Cert.FoxFwdIdeal.FoxF (output logOf headBy headBy_col)

/-- The weights against the values, by heads. -/
def blended (v : Rows) (p : Square) : FVec Ideal S8x64x2048 .f32 := Host.dotGeneral dot_S2048x8x64_S8x2048x2048_S8x64x2048_0_2_2_1_1_0 none (heads v) p

/-- The attention's outputs. -/
def mixture (v : Rows) (p : Square) : Rows := flat (transpose S2048x8x64 [2, 0, 1] (blended v p) transposes_S8x64x2048_S2048x8x64_2_0_1)

theorem blended_apply (v : Rows) (p : Square) (h : Fin 8) (d : Fin 64) (i : Fin 2048) :
    blended v p (ix3 h d i) = ∑ j : Fin 2048, v (ix2 j (col h d)) * p (ix3 h i j) := by
  have e (j : Fin 2048) : v (ix2 j (col h d)) = heads v (ix3 j h d) := (heads_apply _ _ _ _).symm
  simp only [e]
  unfold blended
  generalize heads v = y
  pointwise

theorem mixture_apply (v : Rows) (p : Square) (h : Fin 8) (d : Fin 64) (i : Fin 2048) :
    mixture v p (ix2 i (col h d)) = ∑ j : Fin 2048, v (ix2 j (col h d)) * p (ix3 h i j) := by
  rw [← blended_apply]
  unfold mixture
  rw [flat_apply]
  generalize blended v p = y
  pointwise

variable (m : (ℓ : Loc nD τ sig) → Buf (Elt Ideal) ℓ) (c : Dev nD)

theorem out_mixture : res_out0 m c = mixture (m ((c.tc : Thread nD τ).loc main_arg2))
    (probs (expo (m ((c.tc : Thread nD τ).loc main_arg0)) (m ((c.tc : Thread nD τ).loc main_arg1)) (m ((c.tc : Thread nD τ).loc main_arg3)))) := by sl_kernel_rfl

theorem out_sums : res_out1 m c = spread (logSum (masked (m ((c.tc : Thread nD τ).loc main_arg0)) (m ((c.tc : Thread nD τ).loc main_arg1))
    (m ((c.tc : Thread nD τ).loc main_arg3)))) := by sl_kernel_rfl

theorem column_at (y : Fin 512) : ∃ h d, y = col h d := ⟨⟨y.val / 64, by omega⟩, ⟨y.val % 64, by omega⟩, Fin.ext (by show y.val = 64 * (y.val / 64) + y.val % 64; omega)⟩

section Values

variable {A : Args} {q k v o : Rows} {f : Lines} (H : Are A q k v o f)
include H

theorem mixture_real : mixture v (probs (expo q k f)) = fun z : S2048x512.Idx => output A (z 0) (headBy (z 1)) (z 1) := by
  funext z
  obtain ⟨i, y, rfl⟩ := pair (n := 2048) (k := 512) z
  obtain ⟨h, d, rfl⟩ := column_at y
  show _ = output A i (headBy (col h d)) (col h d)
  rw [headBy_col, mixture_apply, output, ← Cert.Lift.coe_sum]
  exact Finset.sum_congr rfl fun j _ => by rw [H.v, probs_real H, ← EReal.coe_mul, mul_comm]

theorem sums_real : spread (logSum (masked q k f)) = fun z : S2048x512.Idx => logOf A (z 0) (headBy (z 1)) := by
  funext z
  obtain ⟨i, y, rfl⟩ := pair (n := 2048) (k := 512) z
  obtain ⟨h, d, rfl⟩ := column_at y
  show _ = logOf A i (headBy (col h d))
  rw [headBy_col]
  exact (spread_apply _ i h d).trans (logSum_real H h i)

end Values

end Cert.FoxFwdRefIdeal.Parts

end
-- ==== Proof.FoxF.Equation.lean ====
/- The forgetting attention's forward call computes the attention's forward lines. -/
module

public import proofs.«01_k».proof.Proof.FoxF.Reference
public import proofs.«01_k».proof.Proof.Lift
public import proofs.«01_k».proof.Defs
public import proofs.«01_k».proof.Proof.Gen.Pre_foxf_finite

@[expose] public section

set_option maxRecDepth 16384

noncomputable section

namespace Cert.FoxFwdIdeal.FoxF

open Cert.FoxFwdIdeal Cert.FoxFwdIdeal.Gen
open Idealize.ShloMosaic Idealize.ShloMosaic.TcCoe Idealize.ShloMosaic.StableHlo Idealize.SL.Sem
open Cert.FoxRefIdeal.Parts (Rows Lines Are)

/-- The kernel's mask is the idealised kernel's −∞, named. -/
theorem preserves : IdealRules.named_const.Statement Cert.FoxFwdIdeal.κ "masked" .f32 0xF149F2CA#32 ⊥ :=
  IdealRules.named_const.statement Cert.FoxFwdIdeal.κ "masked" .f32 0xF149F2CA#32 ⊥ rfl

/-- The precondition, read: the arguments are real numbers. -/
theorem reals_of_finite (q k v : Rows) (f : Lines) (h : Cert.Pre_foxf_finite.fn (F := Ideal) q k v f = fun _ => 1#1) :
    ∃ A, Are A q k v (fun _ => (0 : EReal)) f := by
  obtain ⟨h, hf⟩ := IntOp.andi_eq_one.1 (congrFun h fun a => a.elim0)
  obtain ⟨h, hv⟩ := IntOp.andi_eq_one.1 h
  obtain ⟨hq, hk⟩ := IntOp.andi_eq_one.1 h
  obtain ⟨rq, eq⟩ := Lift.real_of_all hq
  obtain ⟨rk, ek⟩ := Lift.real_of_all hk
  obtain ⟨rv, ev⟩ := Lift.real_of_all hv
  obtain ⟨rf, ef⟩ := Lift.real_of_all hf
  exact ⟨⟨fun i c => rq (ix2 i c), fun i c => rk (ix2 i c), fun i c => rv (ix2 i c), fun _ _ => 0, fun h i => rf (ix2 h i)⟩,
    fun i c => congrFun eq _, fun i c => congrFun ek _, fun i c => congrFun ev _, fun _ _ => EReal.coe_zero.symm, fun h i => congrFun ef _⟩

/-- The value claim: from finite arguments the call's two results are the attention's outputs and the log-sums of its rows. -/
theorem algebraic : Cert.algebraic_FoxFwdIdeal_FoxFwdRefIdeal_pre_foxf_finite := by
  intro m g m' g' hpre hargs
  refine ⟨fun c => (dats m 0 c).arrAt 4 (cfgs 0).N, fun c => (dats m 0 c).arrAt 5 (cfgs 0).N,
    (θ_run defs _ _).mono (fun r h c => ?_) (run_main m g), (θ_run _ _ _).mono (fun r h c => ?_) (Cert.FoxFwdRefIdeal.Value.run m' g')⟩
  · have hb := fun b hb => (h c).2 b hb
    exact ⟨(h c).1 4, (h c).1 5,
      (hb main_arg0 (Pipeline.mem_restRefs_of _ (by decide) (by decide))).trans (V_main_arg0 m c),
      (hb main_arg1 (Pipeline.mem_restRefs_of _ (by decide) (by decide))).trans (V_main_arg1 m c),
      (hb main_arg2 (Pipeline.mem_restRefs_of _ (by decide) (by decide))).trans (V_main_arg2 m c),
      (hb main_arg3 (Pipeline.mem_restRefs_of _ (by decide) (by decide))).trans (V_main_arg3 m c)⟩
  · obtain ⟨h0, h1, hr⟩ := h c
    obtain ⟨a0, a1, a2, a3⟩ := hargs c
    obtain ⟨A, H⟩ := reals_of_finite _ _ _ _ (hpre c)
    refine ⟨h0.trans ((Cert.FoxFwdRefIdeal.Parts.out_mixture m' c).trans ?_), h1.trans ((Cert.FoxFwdRefIdeal.Parts.out_sums m' c).trans ?_), hr⟩
    · rw [a0, a1, a2, a3]; exact (Cert.FoxFwdRefIdeal.Parts.mixture_real H).trans (final_outputs m c H).symm
    · rw [a0, a1, a3]; exact (Cert.FoxFwdRefIdeal.Parts.sums_real H).trans (final_sums m c H).symm

end Cert.FoxFwdIdeal.FoxF

end
-- ==== Proof.CombF.Arrays.lean ====
/- What the combination's forward call leaves in its array: each row's groups, weighted by their shares. -/
module

public import proofs.«01_k».proof.Proof.Gen.DilMeanIdeal.Frame
public import proofs.«01_k».proof.Proof.Comb.Arrays

@[expose] public section

set_option maxRecDepth 16384

noncomputable section

namespace Cert.DilMeanIdeal.CombF

open Cert.DilMeanIdeal Cert.DilMeanIdeal.Gen
open Idealize.ShloMosaic Idealize.ShloMosaic.TcCoe Idealize.ShloMosaic.StableHlo Idealize.SL.Sem
open Cert.DilCombineRefIdeal.Parts (Args Are Outs Sums Cot)
open Cert.DilCombineIdeal.Comb (B Wide share share_shift max_real zeros2 sumColumns outColumns sumColumns_apply outColumns_apply colOf col_eq headOf pair)

section Block

variable (x0 x1 x2 x3 x4 x5 : B) (i : Fin 512) (k : Fin 256)

theorem stored_block (w : B) : View.canon (Val := Elt Ideal) (s := S512x256) (e := .f32) [⟨r0_0, w⟩] = w :=
  View.canon_unit_zero (Val := Elt Ideal) (S := S512x256) (e := .f32) zeros2 inb_S512x256_S512x256_0_0 w

theorem loaded_block (x : B) : View.ld (Val := Elt Ideal) (S := S512x256) (e' := .f32) x r0_0 = x :=
  View.ld_unit_zero (Val := Elt Ideal) (S := S512x256) (e := .f32) zeros2 inb_S512x256_S512x256_0_0 x

/-- The share of a group's log-sum `a` among the three, as the text spells it: the largest is taken off first. -/
def spelled (a l0 l1 l2 : EReal) : EReal :=
  Ideal.div (Ideal.exp (a - max (max l0 l1) l2)) (Ideal.exp (l0 - max (max l0 l1) l2) + Ideal.exp (l1 - max (max l0 l1) l2) + Ideal.exp (l2 - max (max l0 l1) l2))

theorem block_apply : (out0_6 (F := Ideal) x0 x1 x2 x3 x4 x5 : B) (ix2 i k)
    = spelled (x3 (ix2 i k)) (x3 (ix2 i k)) (x4 (ix2 i k)) (x5 (ix2 i k)) * x0 (ix2 i k)
      + spelled (x4 (ix2 i k)) (x3 (ix2 i k)) (x4 (ix2 i k)) (x5 (ix2 i k)) * x1 (ix2 i k)
      + spelled (x5 (ix2 i k)) (x3 (ix2 i k)) (x4 (ix2 i k)) (x5 (ix2 i k)) * x2 (ix2 i k) := by
  unfold out0_6
  simp only [stored_block, loaded_block]
  unfold k0_pay1 spelled
  simp only [shapeCast_self]
  pointwise

theorem spelled_real (l : Fin 3 → ℝ) (g : Fin 3) : spelled ((l g : ℝ) : EReal) ((l 0 : ℝ) : EReal) ((l 1 : ℝ) : EReal) ((l 2 : ℝ) : EReal) = ((share l g : ℝ) : EReal) := by
  unfold spelled
  rw [max_real, max_real]
  exact share_shift l g _

end Block

variable (m : (ℓ : Loc nD τ sig) → Buf (Elt Ideal) ℓ) (c : Dev nD)

theorem V_sums : (V m c main_v3 : Wide) = sumColumns (m ((c.tc : Thread nD τ).loc main_arg1)) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem V_outs : (V m c main_v5 : Wide) = outColumns (m ((c.tc : Thread nD τ).loc main_arg0)) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem index : ∀ t : Fin cfg0.N, win0_0.index t = ![t.val, 0] ∧ win0_1.index t = ![t.val, 1] ∧ win0_2.index t = ![t.val, 2]
    ∧ win0_3.index t = ![t.val, 0] ∧ win0_4.index t = ![t.val, 1] ∧ win0_5.index t = ![t.val, 2] ∧ win0_6.index t = ![t.val, 0] :=
  (by decide +kernel : ∀ t : Fin grid0.N, _)

abbrev rowAt (t : Fin cfg0.N) (i : Fin 512) : Fin 2048 := ⟨512 * t.val + i.val, by have := lt_of_lt_of_eq t.isLt N_0; omega⟩

/-- A place of a packed array, by its two coordinates. -/
theorem placed {e : S2048x768.Idx} (t : Fin cfg0.N) (i : Fin 512) (k : Fin 256) (g : Fin 3) (h0 : (e 0).val = t.val * 512 + i.val) (h1 : (e 1).val = g.val * 256 + k.val) :
    e = ix2 (rowAt t i) (⟨256 * g.val + k.val, by omega⟩ : Fin 768) := by
  funext a
  apply Fin.ext
  fin_cases a
  · exact h0.trans (by show t.val * 512 + i.val = 512 * t.val + i.val; omega)
  · exact h1.trans (by show g.val * 256 + k.val = 256 * g.val + k.val; omega)

section Given

variable {A : Args} {d : Cot} (H : Are A (m ((c.tc : Thread nD τ).loc main_arg0)) (m ((c.tc : Thread nD τ).loc main_arg1)) d)
variable (t : Fin cfg0.N) (g : Fin 3) (i : Fin 512) (k : Fin 256)
include H

theorem outs_at {e : S2048x768.Idx} (h0 : (e 0).val = t.val * 512 + i.val) (h1 : (e 1).val = g.val * 256 + k.val) :
    (V m c main_v5 : Wide) e = ((A.o g (rowAt t i) (headOf k) ⟨k.val % 64, by omega⟩ : ℝ) : EReal) := by
  rw [placed t i k g h0 h1, V_outs, col_eq]
  exact (outColumns_apply _ _ _ _ _).trans (H.o _ _ _ _)

theorem sums_at {e : S2048x768.Idx} (h0 : (e 0).val = t.val * 512 + i.val) (h1 : (e 1).val = g.val * 256 + k.val) :
    (V m c main_v3 : Wide) e = ((A.l g (rowAt t i) (headOf k) : ℝ) : EReal) := by
  rw [placed t i k g h0 h1, V_sums, col_eq]
  exact (sumColumns_apply _ _ _ _ _).trans (H.l _ _ _)

theorem o0_real : (iblk m c 0 t : B) (ix2 i k) = ((A.o 0 (rowAt t i) (headOf k) ⟨k.val % 64, by omega⟩ : ℝ) : EReal) :=
  outs_at m c H t 0 i k ((Pipeline.Window.rect_emb_val win0_0 t (ix2 i k) 0).trans (by rw [(index t).1]; rfl))
    ((Pipeline.Window.rect_emb_val win0_0 t (ix2 i k) 1).trans (by rw [(index t).1]; rfl))

theorem o1_real : (iblk m c 1 t : B) (ix2 i k) = ((A.o 1 (rowAt t i) (headOf k) ⟨k.val % 64, by omega⟩ : ℝ) : EReal) :=
  outs_at m c H t 1 i k ((Pipeline.Window.rect_emb_val win0_1 t (ix2 i k) 0).trans (by rw [(index t).2.1]; rfl))
    ((Pipeline.Window.rect_emb_val win0_1 t (ix2 i k) 1).trans (by rw [(index t).2.1]; rfl))

theorem o2_real : (iblk m c 2 t : B) (ix2 i k) = ((A.o 2 (rowAt t i) (headOf k) ⟨k.val % 64, by omega⟩ : ℝ) : EReal) :=
  outs_at m c H t 2 i k ((Pipeline.Window.rect_emb_val win0_2 t (ix2 i k) 0).trans (by rw [(index t).2.2.1]; rfl))
    ((Pipeline.Window.rect_emb_val win0_2 t (ix2 i k) 1).trans (by rw [(index t).2.2.1]; rfl))

theorem l0_real : (iblk m c 3 t : B) (ix2 i k) = ((A.l 0 (rowAt t i) (headOf k) : ℝ) : EReal) :=
  sums_at m c H t 0 i k ((Pipeline.Window.rect_emb_val win0_3 t (ix2 i k) 0).trans (by rw [(index t).2.2.2.1]; rfl))
    ((Pipeline.Window.rect_emb_val win0_3 t (ix2 i k) 1).trans (by rw [(index t).2.2.2.1]; rfl))

theorem l1_real : (iblk m c 4 t : B) (ix2 i k) = ((A.l 1 (rowAt t i) (headOf k) : ℝ) : EReal) :=
  sums_at m c H t 1 i k ((Pipeline.Window.rect_emb_val win0_4 t (ix2 i k) 0).trans (by rw [(index t).2.2.2.2.1]; rfl))
    ((Pipeline.Window.rect_emb_val win0_4 t (ix2 i k) 1).trans (by rw [(index t).2.2.2.2.1]; rfl))

theorem l2_real : (iblk m c 5 t : B) (ix2 i k) = ((A.l 2 (rowAt t i) (headOf k) : ℝ) : EReal) :=
  sums_at m c H t 2 i k ((Pipeline.Window.rect_emb_val win0_5 t (ix2 i k) 0).trans (by rw [(index t).2.2.2.2.2.1]; rfl))
    ((Pipeline.Window.rect_emb_val win0_5 t (ix2 i k) 1).trans (by rw [(index t).2.2.2.2.2.1]; rfl))

end Given

/-- The array: a column's weighted mean of the groups. -/
def meanArr (A : Args) : Cot := fun y =>
  ((∑ g, A.share g (y 0) (headOf (y 1)) * A.o g (y 0) (headOf (y 1)) ⟨(y 1).val % 64, by omega⟩ : ℝ) : EReal)

theorem emb6 (t : Fin cfg0.N) (i : Fin 512) (k : Fin 256) : ((cfg0.win 6).blk t).view.emb (ix2 i k) = (ix2 (rowAt t i) k : S2048x256.Idx) := by
  funext a
  apply Fin.ext
  refine (Pipeline.Window.rect_emb_val win0_6 t (ix2 i k) a).trans ?_
  rw [(index t).2.2.2.2.2.2]
  fin_cases a
  · show t.val * 512 + i.val = 512 * t.val + i.val
    omega
  · show 0 * 256 + k.val = k.val
    omega

theorem final_mean {A : Args} {d : Cot} (H : Are A (m ((c.tc : Thread nD τ).loc main_arg0)) (m ((c.tc : Thread nD τ).loc main_arg1)) d) :
    (dats m 0 c).arrAt 6 (cfgs 0).N = meanArr A := by
  refine (dats m 0 c).arrAt_eq_of_covers 6 _ (by decide +kernel) fun t _ y => ?_
  obtain ⟨i, k, rfl⟩ := pair (n := 512) (k := 256) y
  refine Eq.trans ?_ (congrArg (meanArr A) (emb6 t i k)).symm
  blk_simp
  rw [after0_6]
  refine (block_apply _ _ _ _ _ _ i k).trans ?_
  rw [o0_real m c H, o1_real m c H, o2_real m c H, l0_real m c H, l1_real m c H, l2_real m c H]
  rw [spelled_real (fun g => A.l g (rowAt t i) (headOf k)) 0, spelled_real (fun g => A.l g (rowAt t i) (headOf k)) 1,
    spelled_real (fun g => A.l g (rowAt t i) (headOf k)) 2]
  simp only [← EReal.coe_mul, ← EReal.coe_add]
  refine congrArg (fun x : ℝ => (x : EReal)) ?_
  exact (Fin.sum_univ_three (fun g => A.share g (rowAt t i) (headOf k) * A.o g (rowAt t i) (headOf k) ⟨k.val % 64, by omega⟩)).symm

end Cert.DilMeanIdeal.CombF

end
-- ==== Proof.CombF.Equation.lean ====
/- The combination's forward call computes the groups' mean, weighted by the softmax of their log-sums. -/
module

public import proofs.«01_k».proof.Proof.CombF.Arrays
public import proofs.«01_k».proof.Proof.Gen.DilMeanRefIdeal.Run
public import proofs.«01_k».proof.Defs
public import proofs.«01_k».proof.Proof.Gen.Pre_combf_finite

@[expose] public section

set_option maxRecDepth 16384

noncomputable section

namespace Cert.DilMeanIdeal.CombF

open Cert.DilMeanIdeal Cert.DilMeanIdeal.Gen
open Idealize.ShloMosaic Idealize.ShloMosaic.TcCoe Idealize.ShloMosaic.StableHlo Idealize.SL.Sem
open Cert.DilCombineRefIdeal.Parts (Args Are Outs Sums Cot raised raised_real along along_real total zero)

/-- The precondition, read: the arguments are real numbers. -/
theorem reals_of_finite (o : Outs) (l : Sums) (h : Cert.Pre_combf_finite.fn (F := Ideal) o l = fun _ => 1#1) :
    ∃ A, Are A o l (fun _ => (0 : EReal)) := by
  obtain ⟨ho, hl⟩ := IntOp.andi_eq_one.1 (congrFun h fun a => a.elim0)
  obtain ⟨ro, eo⟩ := Lift.real_of_all ho
  obtain ⟨rl, el⟩ := Lift.real_of_all hl
  exact ⟨⟨fun _ _ _ => 0, fun g i h k => ro (ix4 g i h k), fun g i h => rl (ix3 g i h)⟩,
    fun _ _ _ => EReal.coe_zero.symm, fun g i h k => congrFun eo _, fun g i h => congrFun el _⟩

/-- The mean of the groups' outputs, each by its exponential over all exponentials' sum. -/
def weighted (e : Sums) (o : Outs) : FVec Ideal Cert.DilMeanRefIdeal.S2048x4x64 .f32 :=
  Host.reduceAdd (mulf (broadcastInDim S3x2048x4x64 ![0, 1, 2, 3] Cert.DilMeanRefIdeal.Gen.bcast_S3x2048x4x1_S3x2048x4x64_0_1_2_3
      (broadcastInDim Cert.DilMeanRefIdeal.S3x2048x4x1 ![0, 1, 2] Cert.DilMeanRefIdeal.Gen.bcast_S3x2048x4_S3x2048x4x1_0_1_2 (Host.divf e (along (total e))))) o)
    zero Cert.DilMeanRefIdeal.Gen.reducesTo_S3x2048x4x64_S2048x4x64_d0 Cert.DilMeanRefIdeal.Gen.h_S_

def flat (x : FVec Ideal Cert.DilMeanRefIdeal.S2048x4x64 .f32) : Cot := shapeCast S2048x256 x Cert.DilMeanRefIdeal.Gen.shapeCasts_S2048x4x64_S2048x256

theorem flat_apply (x : FVec Ideal Cert.DilMeanRefIdeal.S2048x4x64 .f32) (i : Fin 2048) (k : Fin 256) :
    flat x (ix2 i k) = x (ix3 i (Cert.DilCombineIdeal.Comb.headOf k) (⟨k.val % 64, by omega⟩ : Fin 64)) := by
  unfold flat
  pointwise

theorem weighted_real {A : Args} {o : Outs} {l : Sums} {d : Cot} (H : Are A o l d) (i : Fin 2048) (h : Fin 4) (k : Fin 64) :
    weighted (raised l) o (ix3 i h k) = ((∑ g, A.share g i h * A.o g i h k : ℝ) : EReal) := by
  obtain ⟨μ, he⟩ := raised_real H i h
  have ha := along_real (raised l) _ i h he
  unfold weighted zero
  generalize along (total (raised l)) = S at ha ⊢
  generalize raised l = e at he ⊢
  pointwise
  rw [← Lift.coe_sum]
  refine Finset.sum_congr rfl fun g _ => ?_
  rw [ha, he, H.o, Ideal.div_coe (by positivity), ← EReal.coe_mul, ← EReal.coe_mul, A.share_eq g i h μ]
  simp only [div_eq_mul_inv, one_mul]

theorem reference_mean {A : Args} {o : Outs} {l : Sums} {d : Cot} (H : Are A o l d) : flat (weighted (raised l) o) = meanArr A := by
  funext y
  obtain ⟨i, k, rfl⟩ := Cert.DilCombineIdeal.Comb.pair (n := 2048) (k := 256) y
  exact (flat_apply _ i k).trans (weighted_real H i _ _)

/-- The value claim: from finite arguments the call's result is the weighted mean of the groups. -/
theorem algebraic : Cert.algebraic_DilMeanIdeal_DilMeanRefIdeal_pre_combf_finite := by
  intro m g m' g' hpre hargs
  refine ⟨fun c => (dats m 0 c).arrAt 6 (cfgs 0).N,
    (θ_run defs _ _).mono (fun r h c => ?_) (run_main m g), (θ_run _ _ _).mono (fun r h c => ?_) (Cert.DilMeanRefIdeal.Value.run m' g')⟩
  · have hb := fun b hb => (h c).2 b hb
    exact ⟨(h c).1 6,
      (hb main_arg0 (Pipeline.mem_restRefs_of _ (by decide) (by decide))).trans (V_main_arg0 m c),
      (hb main_arg1 (Pipeline.mem_restRefs_of _ (by decide) (by decide))).trans (V_main_arg1 m c)⟩
  · obtain ⟨h0, hr⟩ := h c
    obtain ⟨a0, a1⟩ := hargs c
    obtain ⟨A, H⟩ := reals_of_finite _ _ (hpre c)
    refine ⟨h0.trans ?_, hr⟩
    rw [a0, a1]
    exact (reference_mean H).trans (final_mean m c H).symm

end Cert.DilMeanIdeal.CombF

end
-- ==== Proof.FfnF.Equation.lean ====
module

public import proofs.«01_k».proof.Proof.Gen.FfnUpIdeal.Frame
public import proofs.«01_k».proof.Proof.Gen.FfnUpRefIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.FfnUpIdeal.FfnF

open Cert.FfnUpIdeal Cert.FfnUpIdeal.Gen
open Idealize.ShloMosaic Idealize.ShloMosaic.TcCoe Idealize.ShloMosaic.StableHlo Idealize.SL.Sem

abbrev Rows : Type := FVec Ideal S2048x1024 .f32
abbrev Weight : Type := FVec Ideal S1024x2816 .f32

/-- A row of the stream against a column of a weight. -/
def product (h : Rows) (w : Weight) (i : Fin 2048) (j : Fin 2816) : EReal := ∑ k : Fin 1024, h (ix2 i k) * w (ix2 k j)

def productArr (h : Rows) (w : Weight) : FVec Ideal S2048x2816 .f32 := fun i => product h w (i 0) (i 1)

/-- The activation: the gate's product times its logistic, times the other product. -/
def actArr (h : Rows) (w v : Weight) : FVec Ideal S2048x2816 .bf16 := fun i =>
  product h w (i 0) (i 1) * Ideal.div 1 (1 + Ideal.exp (0 - product h w (i 0) (i 1))) * product h v (i 0) (i 1)

variable (m : (ℓ : Loc nD τ sig) → Buf (Elt Ideal) ℓ) (c : Dev nD)

theorem V_rows (i : Fin 2048) (k : Fin 1024) : (V m c main_v0 : FVec Ideal S2048x1024 .bf16) (ix2 i k) = (m ((c.tc : Thread nD τ).loc main_arg0) : Rows) (ix2 i k) := by
  have e : (V m c main_v0 : FVec Ideal S2048x1024 .bf16) = (truncf .bf16 (m ((c.tc : Thread nD τ).loc main_arg0) : Rows) bitsLt_bf16_f32 : FVec Ideal S2048x1024 .bf16) := by
    simp only [V, hostOps0, List.flatten_cons, List.flatten_nil, List.append_nil, List.cons_append, List.nil_append,
      TRef.nullary, TRef.ternary, TRef.unary, TRef.binary, TRef.toBuf, TRef.ofBuf, cast_eq]
    after_results_simp <;> rfl
  rw [e]
  pointwise

theorem V_gate (j : Fin 2816) (k : Fin 1024) : (V m c main_v2 : FVec Ideal S2816x1024 .bf16) (ix2 j k) = (m ((c.tc : Thread nD τ).loc main_arg1) : Weight) (ix2 k j) := by
  have e : (V m c main_v2 : FVec Ideal S2816x1024 .bf16) = (truncf .bf16 (transpose S2816x1024 [1, 0] (m ((c.tc : Thread nD τ).loc main_arg1) : Weight) transposes_S1024x2816_S2816x1024_1_0) bitsLt_bf16_f32 : FVec Ideal S2816x1024 .bf16) := by
    simp only [V, hostOps0, List.flatten_cons, List.flatten_nil, List.append_nil, List.cons_append, List.nil_append,
      TRef.nullary, TRef.ternary, TRef.unary, TRef.binary, TRef.toBuf, TRef.ofBuf, cast_eq]
    after_results_simp <;> rfl
  rw [e]
  pointwise

theorem V_up (j : Fin 2816) (k : Fin 1024) : (V m c main_v4 : FVec Ideal S2816x1024 .bf16) (ix2 j k) = (m ((c.tc : Thread nD τ).loc main_arg2) : Weight) (ix2 k j) := by
  have e : (V m c main_v4 : FVec Ideal S2816x1024 .bf16) = (truncf .bf16 (transpose S2816x1024 [1, 0] (m ((c.tc : Thread nD τ).loc main_arg2) : Weight) transposes_S1024x2816_S2816x1024_1_0) bitsLt_bf16_f32 : FVec Ideal S2816x1024 .bf16) := by
    simp only [V, hostOps0, List.flatten_cons, List.flatten_nil, List.append_nil, List.cons_append, List.nil_append,
      TRef.nullary, TRef.ternary, TRef.unary, TRef.binary, TRef.toBuf, TRef.ofBuf, cast_eq]
    after_results_simp <;> rfl
  rw [e]
  pointwise

theorem index : ∀ t : Fin cfg0.N, win0_0.index t = ![0, 0] ∧ win0_1.index t = ![t.val, 0] ∧ win0_2.index t = ![t.val, 0]
    ∧ win0_3.index t = ![0, t.val] ∧ win0_4.index t = ![0, t.val] ∧ win0_5.index t = ![0, t.val] :=
  (by decide +kernel : ∀ t : Fin grid0.N, _)

/-- The same numbers, from the arrays as the call takes them: the weights turned. -/
def turned (h : FVec Ideal S2048x1024 .bf16) (w : FVec Ideal S2816x1024 .bf16) (i : Fin 2048) (j : Fin 2816) : EReal := ∑ k : Fin 1024, h (ix2 i k) * w (ix2 j k)

theorem turned_gate (i : Fin 2048) (j : Fin 2816) : turned (V m c main_v0) (V m c main_v2) i j
    = product (m ((c.tc : Thread nD τ).loc main_arg0)) (m ((c.tc : Thread nD τ).loc main_arg1)) i j :=
  Finset.sum_congr rfl fun k _ => congrArg₂ (· * ·) (V_rows m c i k) (V_gate m c j k)

theorem turned_up (i : Fin 2048) (j : Fin 2816) : turned (V m c main_v0) (V m c main_v4) i j
    = product (m ((c.tc : Thread nD τ).loc main_arg0)) (m ((c.tc : Thread nD τ).loc main_arg2)) i j :=
  Finset.sum_congr rfl fun k _ => congrArg₂ (· * ·) (V_rows m c i k) (V_up m c j k)

def turnedArr (h : FVec Ideal S2048x1024 .bf16) (w : FVec Ideal S2816x1024 .bf16) : FVec Ideal S2048x2816 .f32 := fun i => turned h w (i 0) (i 1)

def turnedAct (h : FVec Ideal S2048x1024 .bf16) (w v : FVec Ideal S2816x1024 .bf16) : FVec Ideal S2048x2816 .bf16 := fun i =>
  turned h w (i 0) (i 1) * Ideal.div 1 (1 + Ideal.exp (0 - turned h w (i 0) (i 1))) * turned h v (i 0) (i 1)

theorem point_gate (t : Fin cfg0.N) (y) : out0_3 (iblk m c 0 t) (iblk m c 1 t) (iblk m c 2 t) y
    = turnedArr (V m c main_v0) (V m c main_v2) (((cfg0.win 3).blk t).view.emb y) := by
  unfold_out out0_3
  canon_tiles x h
  all_goals open_payloads
  all_goals (pointwise [turnedArr, turned]; blk_point [iblk, index t])

theorem point_up (t : Fin cfg0.N) (y) : out0_4 (iblk m c 0 t) (iblk m c 1 t) (iblk m c 2 t) y
    = turnedArr (V m c main_v0) (V m c main_v4) (((cfg0.win 4).blk t).view.emb y) := by
  unfold_out out0_4
  canon_tiles x h
  all_goals open_payloads
  all_goals (pointwise [turnedArr, turned]; blk_point [iblk, index t])

theorem point_act (t : Fin cfg0.N) (y) : out0_5 (iblk m c 0 t) (iblk m c 1 t) (iblk m c 2 t) y
    = turnedAct (V m c main_v0) (V m c main_v2) (V m c main_v4) (((cfg0.win 5).blk t).view.emb y) := by
  unfold_out out0_5
  canon_tiles x h
  all_goals open_payloads
  all_goals (pointwise [turnedAct, turned]; blk_point [iblk, index t])

theorem final_gate : (dats m 0 c).arrAt 3 (cfgs 0).N = productArr (m ((c.tc : Thread nD τ).loc main_arg0)) (m ((c.tc : Thread nD τ).loc main_arg1)) := by
  refine Eq.trans ((dats m 0 c).arrAt_eq_of_covers 3 (turnedArr (V m c main_v0) (V m c main_v2)) (by decide +kernel) fun t _ y => ?_) ?_
  · blk_simp
    rw [after0_3]
    exact point_gate m c t y
  · exact funext fun i => turned_gate m c _ _

theorem final_up : (dats m 0 c).arrAt 4 (cfgs 0).N = productArr (m ((c.tc : Thread nD τ).loc main_arg0)) (m ((c.tc : Thread nD τ).loc main_arg2)) := by
  refine Eq.trans ((dats m 0 c).arrAt_eq_of_covers 4 (turnedArr (V m c main_v0) (V m c main_v4)) (by decide +kernel) fun t _ y => ?_) ?_
  · blk_simp
    rw [after0_4]
    exact point_up m c t y
  · exact funext fun i => turned_up m c _ _

theorem final_act : (dats m 0 c).arrAt 5 (cfgs 0).N
    = actArr (m ((c.tc : Thread nD τ).loc main_arg0)) (m ((c.tc : Thread nD τ).loc main_arg1)) (m ((c.tc : Thread nD τ).loc main_arg2)) := by
  refine Eq.trans ((dats m 0 c).arrAt_eq_of_covers 5 (turnedAct (V m c main_v0) (V m c main_v2) (V m c main_v4)) (by decide +kernel) fun t _ y => ?_) ?_
  · blk_simp
    rw [after0_5]
    exact point_act m c t y
  · refine funext fun i => ?_
    have e := turned_gate m c (i 0) (i 1)
    have f := turned_up m c (i 0) (i 1)
    exact congrArg₂ (fun a b : EReal => a * Ideal.div 1 (1 + Ideal.exp (0 - a)) * b) e f

/-- The value claim: the call's three results are the two products and the activation, of whatever arguments. -/
theorem algebraic : Cert.algebraic_FfnUpIdeal_FfnUpRefIdeal := by
  intro m g m' g' _ hargs
  refine ⟨fun c => (dats m 0 c).arrAt 3 (cfgs 0).N, fun c => (dats m 0 c).arrAt 4 (cfgs 0).N, fun c => (dats m 0 c).arrAt 5 (cfgs 0).N,
    (θ_run defs _ _).mono (fun r h c => ?_) (run_main m g), (θ_run _ _ _).mono (fun r h c => ?_) (Cert.FfnUpRefIdeal.Value.run m' g')⟩
  · have hb := fun b hb => (h c).2 b hb
    exact ⟨(h c).1 3, (h c).1 4, (h c).1 5,
      (hb main_arg0 (Pipeline.mem_restRefs_of _ (by decide) (by decide))).trans (V_main_arg0 m c),
      (hb main_arg1 (Pipeline.mem_restRefs_of _ (by decide) (by decide))).trans (V_main_arg1 m c),
      (hb main_arg2 (Pipeline.mem_restRefs_of _ (by decide) (by decide))).trans (V_main_arg2 m c)⟩
  · obtain ⟨h0, h1, h2, hr⟩ := h c
    obtain ⟨a0, a1, a2⟩ := hargs c
    rw [a0, a1] at h0
    rw [a0, a2] at h1
    rw [a0, a1, a2] at h2
    refine ⟨h0.trans (Eq.trans ?_ (final_gate m c).symm), h1.trans (Eq.trans ?_ (final_up m c).symm), h2.trans (Eq.trans ?_ (final_act m c).symm), hr⟩
    · funext i
      pointwise [productArr, product]
    · funext i
      pointwise [productArr, product]
    · funext i
      pointwise [actArr, product]
      simp only [zero_sub]

end Cert.FfnUpIdeal.FfnF

end
-- ==== Proof.NormF.Equation.lean ====
module

public import proofs.«01_k».proof.Proof.Gen.NormPreIdeal.Frame
public import proofs.«01_k».proof.Proof.Gen.NormPreRefIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.NormPreIdeal.NormF

open Cert.NormPreIdeal Cert.NormPreIdeal.Gen
open Idealize.ShloMosaic Idealize.ShloMosaic.TcCoe Idealize.ShloMosaic.StableHlo Idealize.SL.Sem

variable (m : (ℓ : Loc nD τ sig) → Buf (Elt Ideal) ℓ) (c : Dev nD)

/-- The norm of each row: a number times the inverse root of the row's mean square, times the column's gain. -/
def normed (x : FVec Ideal S2048x1024 .f32) (g : FVec Ideal S1x1024 .f32) : FVec Ideal S2048x1024 .bf16 := fun i =>
  x (ix2 (i 0) (i 1)) * Ideal.rsqrt (Ideal.div (∑ k : Fin 1024, x (ix2 (i 0) k) * x (ix2 (i 0) k)) (Ideal.ofBits .f32 0x44800000#32)
    + Ideal.ofBits .f32 0x358637BD#32) * g (ix2 (0 : Fin 1) (i 1))

theorem index : ∀ t : Fin cfg0.N, win0_0.index t = ![t.val, 0] ∧ win0_1.index t = ![0, 0] ∧ win0_2.index t = ![t.val, 0] :=
  (by decide +kernel : ∀ t : Fin grid0.N, _)

theorem point_normed (t : Fin cfg0.N) (y) : out0_2 (iblk m c 0 t) (iblk m c 1 t) y
    = normed (m ((c : Thread nD τ).loc main_arg0)) (m ((c : Thread nD τ).loc main_arg1)) (((cfg0.win 2).blk t).view.emb y) := by
  unfold out0_2
  canon_tiles x h
  all_goals open_payloads
  all_goals (pointwise [normed]; blk_point [iblk, V, index t])

theorem final_normed : (dats m 0 c).arrAt 2 (cfgs 0).N = normed (m ((c : Thread nD τ).loc main_arg0)) (m ((c : Thread nD τ).loc main_arg1)) := by
  refine (dats m 0 c).arrAt_eq_of_covers 2 _ (by decide +kernel) fun t _ y => ?_
  blk_simp
  rw [after0_2]
  exact point_normed m c t y

/-- The value claim: the call's result is the norm, of whatever arguments. -/
theorem algebraic : Cert.algebraic_NormPreIdeal_NormPreRefIdeal := by
  intro m g m' g' _ hargs
  refine ⟨fun c => (dats m 0 c).arrAt 2 (cfgs 0).N,
    (θ_run defs _ _).mono (fun r h c => ?_) (run_main m g), (θ_run _ _ _).mono (fun r h c => ?_) (Cert.NormPreRefIdeal.Value.run m' g')⟩
  · exact ⟨(h c).1 2, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · obtain ⟨h0, hr⟩ := h c
    obtain ⟨a0, a1⟩ := hargs c
    rw [a0, a1] at h0
    refine ⟨h0.trans (Eq.trans ?_ (final_normed m c).symm), hr⟩
    funext i
    pointwise [normed]

end Cert.NormPreIdeal.NormF

end
-- ==== Proof.MixF.Block.lean ====
/- One block of 512 rows of the gated mixing: what its text computes. -/
module

public import proofs.«01_k».proof.Proof.Gen.MixOutIdeal.Frame
public import Idealize.ShloMosaic.Lib.Pipeline.ValueKit
public import Idealize.ShloMosaic.Lib.Claim
public import Idealize.ShloMosaic.Lib.Pointwise

@[expose] public section

set_option maxRecDepth 16384

noncomputable section

namespace Cert.MixOutIdeal.MixF

open Cert.MixOutIdeal Cert.MixOutIdeal.Gen
open Idealize.ShloMosaic Idealize.ShloMosaic.TcCoe Idealize.ShloMosaic.StableHlo

/-- The logistic function. -/
def sg (x : EReal) : EReal := Ideal.div 1 (1 + Ideal.exp (-x))

/-- A row over the root of its mean square. -/
def rms (r : Fin 1024 → EReal) (k : Fin 1024) : EReal :=
  r k * Ideal.rsqrt (Ideal.div (∑ j, r j * r j) (Ideal.ofBits .f32 0x44800000#32) + Ideal.ofBits .f32 0x358637BD#32)

/-- The call's arguments: both attentions' outputs, both gates, the stream, the three weights, both gains. -/
structure Args where
  a : FVec Ideal S2048x256 .f32
  b : FVec Ideal S2048x512 .f32
  ga : FVec Ideal S2048x1024 .f32
  gb : FVec Ideal S2048x1024 .f32
  x : FVec Ideal S2048x1024 .f32
  wa : FVec Ideal S256x1024 .f32
  wb : FVec Ideal S512x1024 .f32
  wo : FVec Ideal S1024x1024 .f32
  gm : FVec Ideal S1x1024 .f32
  gf : FVec Ideal S1x1024 .f32

variable (A : Args)

/-- The merged rows, the mixed ones, the stream after them, and its norm. -/
def merged (i : Fin 2048) (k : Fin 1024) : EReal :=
  sg (A.ga (ix2 i k)) * (∑ c : Fin 256, A.a (ix2 i c) * A.wa (ix2 c k)) + sg (A.gb (ix2 i k)) * (∑ c : Fin 512, A.b (ix2 i c) * A.wb (ix2 c k))
def mixed (i : Fin 2048) (n : Fin 1024) : EReal := ∑ k : Fin 1024, merged A i k * A.wo (ix2 k n)
def stream (i : Fin 2048) (n : Fin 1024) : EReal := A.x (ix2 i n) + rms (mixed A i) n * A.gm (ix2 (0 : Fin 1) n)
def normed (i : Fin 2048) (n : Fin 1024) : EReal := rms (stream A i) n * A.gf (ix2 (0 : Fin 1) n)

/-- What a block holds of the arguments: the rows `r`. -/
structure Given (r : Fin 512 → Fin 2048) (x0 : Vec Ideal S512x256 .f32) (x1 : Vec Ideal S512x512 .f32) (x2 x3 x4 : Vec Ideal S512x1024 .f32)
    (x5 : Vec Ideal S8x256x128 .bf16) (x6 : Vec Ideal S8x512x128 .bf16) (x7 : Vec Ideal S1024x1024 .bf16) (x8 x9 : Vec Ideal S1x1024 .f32) : Prop where
  a : ∀ i c, x0 (ix2 i c) = A.a (ix2 (r i) c)
  b : ∀ i c, x1 (ix2 i c) = A.b (ix2 (r i) c)
  ga : ∀ i k, x2 (ix2 i k) = A.ga (ix2 (r i) k)
  gb : ∀ i k, x3 (ix2 i k) = A.gb (ix2 (r i) k)
  x : ∀ i k, x4 (ix2 i k) = A.x (ix2 (r i) k)
  wa : ∀ c (k : Fin 1024), x5 (ix3 (⟨k.val / 128, by omega⟩ : Fin 8) c (⟨k.val % 128, by omega⟩ : Fin 128)) = A.wa (ix2 c k)
  wb : ∀ c (k : Fin 1024), x6 (ix3 (⟨k.val / 128, by omega⟩ : Fin 8) c (⟨k.val % 128, by omega⟩ : Fin 128)) = A.wb (ix2 c k)
  wo : ∀ k n, x7 (ix2 k n) = A.wo (ix2 k n)
  gm : ∀ k, x8 (ix2 (0 : Fin 1) k) = A.gm (ix2 (0 : Fin 1) k)
  gf : ∀ k, x9 (ix2 (0 : Fin 1) k) = A.gf (ix2 (0 : Fin 1) k)

/-- The weights' columns, put together from eight slots of 128. -/
def columnsA (x5 : Vec Ideal S8x256x128 .bf16) : FVec Ideal S256x1024 .bf16 :=
  concatenate S256x1024 1 [⟨S256x128, shapeCast S256x128 (View.ld x5 (Rect.unit ![0, 0, 0] ![1, 256, 128] inb_S8x256x128_S1x256x128_0_0_0)) shapeCasts_S1x256x128_S256x128⟩, ⟨S256x128, shapeCast S256x128 (View.ld x5 (Rect.unit ![1, 0, 0] ![1, 256, 128] inb_S8x256x128_S1x256x128_1_0_0)) shapeCasts_S1x256x128_S256x128⟩, ⟨S256x128, shapeCast S256x128 (View.ld x5 (Rect.unit ![2, 0, 0] ![1, 256, 128] inb_S8x256x128_S1x256x128_2_0_0)) shapeCasts_S1x256x128_S256x128⟩, ⟨S256x128, shapeCast S256x128 (View.ld x5 (Rect.unit ![3, 0, 0] ![1, 256, 128] inb_S8x256x128_S1x256x128_3_0_0)) shapeCasts_S1x256x128_S256x128⟩, ⟨S256x128, shapeCast S256x128 (View.ld x5 (Rect.unit ![4, 0, 0] ![1, 256, 128] inb_S8x256x128_S1x256x128_4_0_0)) shapeCasts_S1x256x128_S256x128⟩, ⟨S256x128, shapeCast S256x128 (View.ld x5 (Rect.unit ![5, 0, 0] ![1, 256, 128] inb_S8x256x128_S1x256x128_5_0_0)) shapeCasts_S1x256x128_S256x128⟩, ⟨S256x128, shapeCast S256x128 (View.ld x5 (Rect.unit ![6, 0, 0] ![1, 256, 128] inb_S8x256x128_S1x256x128_6_0_0)) shapeCasts_S1x256x128_S256x128⟩, ⟨S256x128, shapeCast S256x128 (View.ld x5 (Rect.unit ![7, 0, 0] ![1, 256, 128] inb_S8x256x128_S1x256x128_7_0_0)) shapeCasts_S1x256x128_S256x128⟩] concatenates_S256x128_S256x128_S256x128_S256x128_S256x128_S256x128_S256x128_S256x128_S256x1024_d1

def columnsB (x6 : Vec Ideal S8x512x128 .bf16) : FVec Ideal S512x1024 .bf16 :=
  concatenate S512x1024 1 [⟨S512x128, shapeCast S512x128 (View.ld x6 (Rect.unit ![0, 0, 0] ![1, 512, 128] inb_S8x512x128_S1x512x128_0_0_0)) shapeCasts_S1x512x128_S512x128⟩, ⟨S512x128, shapeCast S512x128 (View.ld x6 (Rect.unit ![1, 0, 0] ![1, 512, 128] inb_S8x512x128_S1x512x128_1_0_0)) shapeCasts_S1x512x128_S512x128⟩, ⟨S512x128, shapeCast S512x128 (View.ld x6 (Rect.unit ![2, 0, 0] ![1, 512, 128] inb_S8x512x128_S1x512x128_2_0_0)) shapeCasts_S1x512x128_S512x128⟩, ⟨S512x128, shapeCast S512x128 (View.ld x6 (Rect.unit ![3, 0, 0] ![1, 512, 128] inb_S8x512x128_S1x512x128_3_0_0)) shapeCasts_S1x512x128_S512x128⟩, ⟨S512x128, shapeCast S512x128 (View.ld x6 (Rect.unit ![4, 0, 0] ![1, 512, 128] inb_S8x512x128_S1x512x128_4_0_0)) shapeCasts_S1x512x128_S512x128⟩, ⟨S512x128, shapeCast S512x128 (View.ld x6 (Rect.unit ![5, 0, 0] ![1, 512, 128] inb_S8x512x128_S1x512x128_5_0_0)) shapeCasts_S1x512x128_S512x128⟩, ⟨S512x128, shapeCast S512x128 (View.ld x6 (Rect.unit ![6, 0, 0] ![1, 512, 128] inb_S8x512x128_S1x512x128_6_0_0)) shapeCasts_S1x512x128_S512x128⟩, ⟨S512x128, shapeCast S512x128 (View.ld x6 (Rect.unit ![7, 0, 0] ![1, 512, 128] inb_S8x512x128_S1x512x128_7_0_0)) shapeCasts_S1x512x128_S512x128⟩] concatenates_S512x128_S512x128_S512x128_S512x128_S512x128_S512x128_S512x128_S512x128_S512x1024_d1

theorem columnsA_apply (x5 : Vec Ideal S8x256x128 .bf16) (c : Fin 256) (k : Fin 1024) :
    columnsA x5 (ix2 c k) = x5 (ix3 (⟨k.val / 128, by omega⟩ : Fin 8) c (⟨k.val % 128, by omega⟩ : Fin 128)) := by
  unfold columnsA
  pointwise
  blk_point []

theorem columnsB_apply (x6 : Vec Ideal S8x512x128 .bf16) (c : Fin 512) (k : Fin 1024) :
    columnsB x6 (ix2 c k) = x6 (ix3 (⟨k.val / 128, by omega⟩ : Fin 8) c (⟨k.val % 128, by omega⟩ : Fin 128)) := by
  unfold columnsB
  pointwise
  blk_point []

/-- Both attentions' outputs, projected. -/
abbrev projA (x0 : Vec Ideal S512x256 .f32) (x5 : Vec Ideal S8x256x128 .bf16) : FVec Ideal S512x1024 .f32 :=
  k0_pay2 x0 (View.ld x5 (Rect.unit ![0, 0, 0] ![1, 256, 128] inb_S8x256x128_S1x256x128_0_0_0)) (View.ld x5 (Rect.unit ![1, 0, 0] ![1, 256, 128] inb_S8x256x128_S1x256x128_1_0_0)) (View.ld x5 (Rect.unit ![2, 0, 0] ![1, 256, 128] inb_S8x256x128_S1x256x128_2_0_0)) (View.ld x5 (Rect.unit ![3, 0, 0] ![1, 256, 128] inb_S8x256x128_S1x256x128_3_0_0)) (View.ld x5 (Rect.unit ![4, 0, 0] ![1, 256, 128] inb_S8x256x128_S1x256x128_4_0_0)) (View.ld x5 (Rect.unit ![5, 0, 0] ![1, 256, 128] inb_S8x256x128_S1x256x128_5_0_0)) (View.ld x5 (Rect.unit ![6, 0, 0] ![1, 256, 128] inb_S8x256x128_S1x256x128_6_0_0)) (View.ld x5 (Rect.unit ![7, 0, 0] ![1, 256, 128] inb_S8x256x128_S1x256x128_7_0_0))

abbrev projB (x1 : Vec Ideal S512x512 .f32) (x6 : Vec Ideal S8x512x128 .bf16) : FVec Ideal S512x1024 .f32 :=
  k0_pay5 (k0_pay3 x1) (k0_pay4 (View.ld x6 (Rect.unit ![0, 0, 0] ![1, 512, 128] inb_S8x512x128_S1x512x128_0_0_0))) (View.ld x6 (Rect.unit ![1, 0, 0] ![1, 512, 128] inb_S8x512x128_S1x512x128_1_0_0)) (View.ld x6 (Rect.unit ![2, 0, 0] ![1, 512, 128] inb_S8x512x128_S1x512x128_2_0_0)) (View.ld x6 (Rect.unit ![3, 0, 0] ![1, 512, 128] inb_S8x512x128_S1x512x128_3_0_0)) (View.ld x6 (Rect.unit ![4, 0, 0] ![1, 512, 128] inb_S8x512x128_S1x512x128_4_0_0)) (View.ld x6 (Rect.unit ![5, 0, 0] ![1, 512, 128] inb_S8x512x128_S1x512x128_5_0_0)) (View.ld x6 (Rect.unit ![6, 0, 0] ![1, 512, 128] inb_S8x512x128_S1x512x128_6_0_0)) (View.ld x6 (Rect.unit ![7, 0, 0] ![1, 512, 128] inb_S8x512x128_S1x512x128_7_0_0))

theorem projA_apply (x0 : Vec Ideal S512x256 .f32) (x5 : Vec Ideal S8x256x128 .bf16) (i : Fin 512) (k : Fin 1024) :
    projA x0 x5 (ix2 i k) = ∑ c : Fin 256, x0 (ix2 i c) * columnsA x5 (ix2 c k) := by
  show matmul dot_S512x256_S256x1024_S512x1024_1_0_0_1_n_n none (truncf .bf16 x0 bitsLt_bf16_f32 : FVec Ideal S512x256 .bf16) (columnsA x5) (constant S512x1024 .f32 0x00000000#32) (ix2 i k) = _
  generalize columnsA x5 = W
  pointwise

theorem projB_apply (x1 : Vec Ideal S512x512 .f32) (x6 : Vec Ideal S8x512x128 .bf16) (i : Fin 512) (k : Fin 1024) :
    projB x1 x6 (ix2 i k) = ∑ c : Fin 512, x1 (ix2 i c) * columnsB x6 (ix2 c k) := by
  show matmul dot_S512x512_S512x1024_S512x1024_1_0_0_1_n_n none (truncf .bf16 x1 bitsLt_bf16_f32 : FVec Ideal S512x512 .bf16) (columnsB x6) (constant S512x1024 .f32 0x00000000#32) (ix2 i k) = _
  generalize columnsB x6 = W
  pointwise

theorem gated_apply (Y : FVec Ideal S512x1024 .f32) (x : Vec Ideal S512x1024 .f32) (i : Fin 512) (k : Fin 1024) : k0_pay6 Y x (ix2 i k) = sg (x (ix2 i k)) * Y (ix2 i k) := by
  unfold k0_pay6 sg
  pointwise
  simp only [zero_sub]

theorem both_apply (Y G : FVec Ideal S512x1024 .f32) (x : Vec Ideal S512x1024 .f32) (i : Fin 512) (k : Fin 1024) :
    k0_pay9 Y G (k0_pay7 x) k0_pay8 (ix2 i k) = G (ix2 i k) + sg (x (ix2 i k)) * Y (ix2 i k) := by
  unfold k0_pay9 k0_pay7 k0_pay8 sg
  pointwise
  simp only [zero_sub]

section Block

variable {A} {r : Fin 512 → Fin 2048} {x0 : Vec Ideal S512x256 .f32} {x1 : Vec Ideal S512x512 .f32} {x2 x3 x4 : Vec Ideal S512x1024 .f32}
  {x5 : Vec Ideal S8x256x128 .bf16} {x6 : Vec Ideal S8x512x128 .bf16} {x7 : Vec Ideal S1024x1024 .bf16} {x8 x9 : Vec Ideal S1x1024 .f32}
variable (G : Given A r x0 x1 x2 x3 x4 x5 x6 x7 x8 x9)
include G

theorem merged_block (i : Fin 512) (k : Fin 1024) :
    k0_pay9 (projB x1 x6) (k0_pay6 (projA x0 x5) x2) (k0_pay7 x3) k0_pay8 (ix2 i k) = merged A (r i) k := by
  have ha := projA_apply x0 x5 i k
  have hb := projB_apply x1 x6 i k
  generalize projA x0 x5 = Ya at ha ⊢
  generalize projB x1 x6 = Yb at hb ⊢
  rw [both_apply, gated_apply, ha, hb, G.ga, G.gb]
  unfold merged
  simp only [columnsA_apply, columnsB_apply, G.a, G.b, G.wa, G.wb]

theorem merged_stored (i : Fin 512) (k : Fin 1024) :
    k0_pay10 (projB x1 x6) (k0_pay6 (projA x0 x5) x2) (k0_pay7 x3) k0_pay8 (ix2 i k) = merged A (r i) k := by
  have h := merged_block G i k
  unfold k0_pay10
  generalize k0_pay9 (F := Ideal) _ _ _ _ = M at h ⊢
  pointwise
  exact h

theorem mixed_block (i : Fin 512) (n : Fin 1024) :
    k0_pay11 (projB x1 x6) (k0_pay6 (projA x0 x5) x2) (k0_pay7 x3) k0_pay8 x7 (ix2 i n) = mixed A (r i) n := by
  have h := merged_block G
  unfold k0_pay11 mixed
  generalize k0_pay9 (F := Ideal) _ _ _ _ = M at h ⊢
  pointwise
  simp only [h, G.wo]

theorem mixed_stored (i : Fin 512) (n : Fin 1024) :
    k0_pay12 (projB x1 x6) (k0_pay6 (projA x0 x5) x2) (k0_pay7 x3) k0_pay8 x7 (ix2 i n) = mixed A (r i) n := by
  have h := mixed_block G i n
  unfold k0_pay12
  generalize k0_pay11 (F := Ideal) _ _ _ _ _ = M at h ⊢
  pointwise
  exact h

theorem stream_block (i : Fin 512) (n : Fin 1024) :
    k0_pay13 (projB x1 x6) (k0_pay6 (projA x0 x5) x2) (k0_pay7 x3) k0_pay8 x7 x4 x8 (ix2 i n) = stream A (r i) n := by
  have h := mixed_block G
  unfold k0_pay13 stream rms
  generalize k0_pay11 (F := Ideal) _ _ _ _ _ = M at h ⊢
  pointwise
  simp only [h, G.x, G.gm]

theorem stream_stored (i : Fin 512) (n : Fin 1024) :
    k0_pay14 (projB x1 x6) (k0_pay6 (projA x0 x5) x2) (k0_pay7 x3) k0_pay8 x7 x4 x8 (ix2 i n) = stream A (r i) n := by
  have h := stream_block G i n
  unfold k0_pay14
  generalize k0_pay13 (F := Ideal) _ _ _ _ _ _ _ = M at h ⊢
  pointwise
  exact h

theorem normed_block (i : Fin 512) (n : Fin 1024) :
    k0_pay1 (k0_pay13 (projB x1 x6) (k0_pay6 (projA x0 x5) x2) (k0_pay7 x3) k0_pay8 x7 x4 x8) (k0_pay15 (projB x1 x6) (k0_pay6 (projA x0 x5) x2) (k0_pay7 x3) k0_pay8 x7 x4 x8) x9 (ix2 i n)
      = normed A (r i) n := by
  have h := stream_block G
  unfold k0_pay1 k0_pay15 normed rms
  generalize k0_pay13 (F := Ideal) _ _ _ _ _ _ _ = M at h ⊢
  pointwise
  simp only [h, G.gf]

end Block

end Cert.MixOutIdeal.MixF

end
-- ==== Proof.MixF.Arrays.lean ====
/- What the mixing call leaves in its four arrays. -/
module

public import proofs.«01_k».proof.Proof.Input.Arrays
public import proofs.«01_k».proof.Proof.MixF.Block

@[expose] public section

set_option maxRecDepth 16384

noncomputable section

namespace Cert.MixOutIdeal.MixF

open Cert.MixOutIdeal Cert.MixOutIdeal.Gen
open Idealize.ShloMosaic Idealize.ShloMosaic.TcCoe Idealize.ShloMosaic.StableHlo Idealize.SL.Sem
open Cert.InputBwdIdeal.Input (pair)

abbrev Rows : Type := FVec Ideal S2048x1024 .f32
abbrev Proj : Type := FVec Ideal S2048x6272 .f32

variable (m : (ℓ : Loc nD τ sig) → Buf (Elt Ideal) ℓ) (c : Dev nD)

/-- The gates' columns of the projection, as the call reads them. -/
def gates (g h : Rows) : Proj :=
  concatenate S2048x6272 1 [⟨S2048x1024, g⟩, ⟨S2048x1024, h⟩, ⟨S2048x4224, (broadcastInDim S2048x4224 ![] bcast_S_S2048x4224 (constant S_ .f32 0x00000000#32) : FVec Ideal S2048x4224 .f32)⟩]
    concatenates_S2048x1024_S2048x1024_S2048x4224_S2048x6272_d1

theorem gates_a (g h : Rows) (i : Fin 2048) (k : Fin 1024) : gates g h (ix2 i (⟨k.val, by omega⟩ : Fin 6272)) = g (ix2 i k) := by
  unfold gates
  pointwise

theorem gates_b (g h : Rows) (i : Fin 2048) (k : Fin 1024) : gates g h (ix2 i (⟨1024 + k.val, by omega⟩ : Fin 6272)) = h (ix2 i k) := by
  unfold gates
  pointwise

/-- A weight's columns in eight slots of 128. -/
def slotsA (w : FVec Ideal S256x1024 .f32) : FVec Ideal S8x256x128 .bf16 :=
  truncf .bf16 (transpose S8x256x128 [1, 0, 2] (shapeCast S256x8x128 w shapeCasts_S256x1024_S256x8x128) transposes_S256x8x128_S8x256x128_1_0_2) bitsLt_bf16_f32
def slotsB (w : FVec Ideal S512x1024 .f32) : FVec Ideal S8x512x128 .bf16 :=
  truncf .bf16 (transpose S8x512x128 [1, 0, 2] (shapeCast S512x8x128 w shapeCasts_S512x1024_S512x8x128) transposes_S512x8x128_S8x512x128_1_0_2) bitsLt_bf16_f32

theorem slotsA_apply (w : FVec Ideal S256x1024 .f32) (c : Fin 256) (k : Fin 1024) :
    slotsA w (ix3 (⟨k.val / 128, by omega⟩ : Fin 8) c (⟨k.val % 128, by omega⟩ : Fin 128)) = w (ix2 c k) := by
  unfold slotsA
  pointwise

theorem slotsB_apply (w : FVec Ideal S512x1024 .f32) (c : Fin 512) (k : Fin 1024) :
    slotsB w (ix3 (⟨k.val / 128, by omega⟩ : Fin 8) c (⟨k.val % 128, by omega⟩ : Fin 128)) = w (ix2 c k) := by
  unfold slotsB
  pointwise

theorem V_gates : (V m c main_v1 : Proj) = gates (m ((c.tc : Thread nD τ).loc main_arg2)) (m ((c.tc : Thread nD τ).loc main_arg3)) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem V_slotsA : (V m c main_v4 : FVec Ideal S8x256x128 .bf16) = slotsA (m ((c.tc : Thread nD τ).loc main_arg5)) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem V_slotsB : (V m c main_v7 : FVec Ideal S8x512x128 .bf16) = slotsB (m ((c.tc : Thread nD τ).loc main_arg6)) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem V_out : (V m c main_v8 : FVec Ideal S1024x1024 .bf16) = ((m ((c.tc : Thread nD τ).loc main_arg7)) : FVec Ideal S1024x1024 .f32) := by
  simp only [V, hostOps0, List.flatten_cons, List.flatten_nil, List.append_nil, List.cons_append, List.nil_append,
    TRef.nullary, TRef.ternary, TRef.unary, TRef.binary, TRef.toBuf, TRef.ofBuf, cast_eq]
  after_results_simp <;> rfl

theorem index : ∀ t : Fin cfg0.N, win0_0.index t = ![t.val, 0] ∧ win0_1.index t = ![t.val, 0] ∧ win0_2.index t = ![t.val, 0] ∧ win0_3.index t = ![t.val, 1] ∧ win0_4.index t = ![t.val, 0] ∧ win0_5.index t = ![0, 0, 0] ∧ win0_6.index t = ![0, 0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] :=
  (by decide +kernel : ∀ t : Fin grid0.N, _)

abbrev rowAt (t : Fin cfg0.N) (i : Fin 512) : Fin 2048 := ⟨512 * t.val + i.val, by have := lt_of_lt_of_eq t.isLt N_0; omega⟩

section Windows

variable (t : Fin cfg0.N)

section Reads

variable (X : (b : Ref sig .tc) → Buf (Elt Ideal) ((c.tc : Thread nD τ).loc b))

theorem read_a (i : Fin 512) (k : Fin 256) : (((cfg0.win 0).blk t).view.read (Elt Ideal) (X (Pipeline.arrRef spec0 0)) : FVec Ideal S512x256 .f32) (ix2 i k)
    = (X main_arg0 : FVec Ideal S2048x256 .f32) (ix2 (rowAt t i) k) := by
  refine congrArg (X main_arg0 : FVec Ideal S2048x256 .f32) (?_ : ((cfg0.win 0).blk t).view.emb (ix2 i k) = _)
  funext a
  apply Fin.ext
  refine (Pipeline.Window.rect_emb_val win0_0 t (ix2 i k) a).trans ?_
  rw [(index t).1]
  fin_cases a
  · show t.val * 512 + i.val = 512 * t.val + i.val
    omega
  · show 0 * 256 + k.val = k.val
    omega

theorem read_b (i : Fin 512) (k : Fin 512) : (((cfg0.win 1).blk t).view.read (Elt Ideal) (X (Pipeline.arrRef spec0 1)) : FVec Ideal S512x512 .f32) (ix2 i k)
    = (X main_arg1 : FVec Ideal S2048x512 .f32) (ix2 (rowAt t i) k) := by
  refine congrArg (X main_arg1 : FVec Ideal S2048x512 .f32) (?_ : ((cfg0.win 1).blk t).view.emb (ix2 i k) = _)
  funext a
  apply Fin.ext
  refine (Pipeline.Window.rect_emb_val win0_1 t (ix2 i k) a).trans ?_
  rw [(index t).2.1]
  fin_cases a
  · show t.val * 512 + i.val = 512 * t.val + i.val
    omega
  · show 0 * 512 + k.val = k.val
    omega

theorem read_x (i : Fin 512) (k : Fin 1024) : (((cfg0.win 4).blk t).view.read (Elt Ideal) (X (Pipeline.arrRef spec0 4)) : FVec Ideal S512x1024 .f32) (ix2 i k)
    = (X main_arg4 : FVec Ideal S2048x1024 .f32) (ix2 (rowAt t i) k) := by
  refine congrArg (X main_arg4 : FVec Ideal S2048x1024 .f32) (?_ : ((cfg0.win 4).blk t).view.emb (ix2 i k) = _)
  funext a
  apply Fin.ext
  refine (Pipeline.Window.rect_emb_val win0_4 t (ix2 i k) a).trans ?_
  rw [(index t).2.2.2.2.1]
  fin_cases a
  · show t.val * 512 + i.val = 512 * t.val + i.val
    omega
  · show 0 * 1024 + k.val = k.val
    omega

theorem read_wo (i : Fin 1024) (k : Fin 1024) : (((cfg0.win 7).blk t).view.read (Elt Ideal) (X (Pipeline.arrRef spec0 7)) : FVec Ideal S1024x1024 .bf16) (ix2 i k)
    = (X main_v8 : FVec Ideal S1024x1024 .bf16) (ix2 i k) := by
  refine congrArg (X main_v8 : FVec Ideal S1024x1024 .bf16) (?_ : ((cfg0.win 7).blk t).view.emb (ix2 i k) = _)
  funext a
  apply Fin.ext
  refine (Pipeline.Window.rect_emb_val win0_7 t (ix2 i k) a).trans ?_
  rw [(index t).2.2.2.2.2.2.2.1]
  fin_cases a
  · show 0 * 1024 + i.val = i.val
    omega
  · show 0 * 1024 + k.val = k.val
    omega

theorem read_gm (i : Fin 1) (k : Fin 1024) : (((cfg0.win 8).blk t).view.read (Elt Ideal) (X (Pipeline.arrRef spec0 8)) : FVec Ideal S1x1024 .f32) (ix2 i k)
    = (X main_arg8 : FVec Ideal S1x1024 .f32) (ix2 i k) := by
  refine congrArg (X main_arg8 : FVec Ideal S1x1024 .f32) (?_ : ((cfg0.win 8).blk t).view.emb (ix2 i k) = _)
  funext a
  apply Fin.ext
  refine (Pipeline.Window.rect_emb_val win0_8 t (ix2 i k) a).trans ?_
  rw [(index t).2.2.2.2.2.2.2.2.1]
  fin_cases a
  · show 0 * 1 + i.val = i.val
    omega
  · show 0 * 1024 + k.val = k.val
    omega

theorem read_gf (i : Fin 1) (k : Fin 1024) : (((cfg0.win 9).blk t).view.read (Elt Ideal) (X (Pipeline.arrRef spec0 9)) : FVec Ideal S1x1024 .f32) (ix2 i k)
    = (X main_arg9 : FVec Ideal S1x1024 .f32) (ix2 i k) := by
  refine congrArg (X main_arg9 : FVec Ideal S1x1024 .f32) (?_ : ((cfg0.win 9).blk t).view.emb (ix2 i k) = _)
  funext a
  apply Fin.ext
  refine (Pipeline.Window.rect_emb_val win0_9 t (ix2 i k) a).trans ?_
  rw [(index t).2.2.2.2.2.2.2.2.2.1]
  fin_cases a
  · show 0 * 1 + i.val = i.val
    omega
  · show 0 * 1024 + k.val = k.val
    omega

theorem read_wa (s : Fin 8) (i : Fin 256) (k : Fin 128) : (((cfg0.win 5).blk t).view.read (Elt Ideal) (X (Pipeline.arrRef spec0 5)) : FVec Ideal S8x256x128 .bf16) (ix3 s i k)
    = (X main_v4 : FVec Ideal S8x256x128 .bf16) (ix3 s i k) := by
  refine congrArg (X main_v4 : FVec Ideal S8x256x128 .bf16) (?_ : ((cfg0.win 5).blk t).view.emb (ix3 s i k) = _)
  funext a
  apply Fin.ext
  refine (Pipeline.Window.rect_emb_val win0_5 t (ix3 s i k) a).trans ?_
  rw [(index t).2.2.2.2.2.1]
  fin_cases a
  · show 0 * 8 + s.val = s.val
    omega
  · show 0 * 256 + i.val = i.val
    omega
  · show 0 * 128 + k.val = k.val
    omega

theorem read_wb (s : Fin 8) (i : Fin 512) (k : Fin 128) : (((cfg0.win 6).blk t).view.read (Elt Ideal) (X (Pipeline.arrRef spec0 6)) : FVec Ideal S8x512x128 .bf16) (ix3 s i k)
    = (X main_v7 : FVec Ideal S8x512x128 .bf16) (ix3 s i k) := by
  refine congrArg (X main_v7 : FVec Ideal S8x512x128 .bf16) (?_ : ((cfg0.win 6).blk t).view.emb (ix3 s i k) = _)
  funext a
  apply Fin.ext
  refine (Pipeline.Window.rect_emb_val win0_6 t (ix3 s i k) a).trans ?_
  rw [(index t).2.2.2.2.2.2.1]
  fin_cases a
  · show 0 * 8 + s.val = s.val
    omega
  · show 0 * 512 + i.val = i.val
    omega
  · show 0 * 128 + k.val = k.val
    omega

end Reads

theorem read_ga (i : Fin 512) (k : Fin 1024) : (X0_2 m c t : FVec Ideal S512x1024 .f32) (ix2 i k) = (V m c main_v1 : Proj) (ix2 (rowAt t i) (⟨k.val, by omega⟩ : Fin 6272)) := by
  unfold X0_2 Pipeline.Window.fill
  rw [dif_pos (moved0_2 t _)]
  refine congrArg (V m c main_v1 : Proj) (?_ : ((cfg0.win 2).blk t).view.emb _ = _)
  funext a
  apply Fin.ext
  refine (Pipeline.Window.rect_emb_val win0_2 t _ a).trans ?_
  rw [(index t).2.2.1]
  fin_cases a
  · show t.val * 512 + i.val = 512 * t.val + i.val
    omega
  · show 0 * 1024 + k.val = k.val
    omega

theorem read_gb (i : Fin 512) (k : Fin 1024) : (X0_3 m c t : FVec Ideal S512x1024 .f32) (ix2 i k) = (V m c main_v1 : Proj) (ix2 (rowAt t i) (⟨1024 + k.val, by omega⟩ : Fin 6272)) := by
  unfold X0_3 Pipeline.Window.fill
  rw [dif_pos (moved0_3 t _)]
  refine congrArg (V m c main_v1 : Proj) (?_ : ((cfg0.win 3).blk t).view.emb _ = _)
  funext a
  apply Fin.ext
  refine (Pipeline.Window.rect_emb_val win0_3 t _ a).trans ?_
  rw [(index t).2.2.2.1]
  fin_cases a
  · show t.val * 512 + i.val = 512 * t.val + i.val
    omega
  · show 1 * 1024 + k.val = 1024 + k.val
    omega

theorem emb10 (i : Fin 512) (k : Fin 1024) : ((cfg0.win 10).blk t).view.emb (ix2 i k) = (ix2 (rowAt t i) k : S2048x1024.Idx) := by
  funext a
  apply Fin.ext
  refine (Pipeline.Window.rect_emb_val win0_10 t (ix2 i k) a).trans ?_
  rw [(index t).2.2.2.2.2.2.2.2.2.2.1]
  fin_cases a
  · show t.val * 512 + i.val = 512 * t.val + i.val
    omega
  · show 0 * 1024 + k.val = k.val
    omega

theorem emb11 (i : Fin 512) (k : Fin 1024) : ((cfg0.win 11).blk t).view.emb (ix2 i k) = (ix2 (rowAt t i) k : S2048x1024.Idx) := by
  funext a
  apply Fin.ext
  refine (Pipeline.Window.rect_emb_val win0_11 t (ix2 i k) a).trans ?_
  rw [(index t).2.2.2.2.2.2.2.2.2.2.2.1]
  fin_cases a
  · show t.val * 512 + i.val = 512 * t.val + i.val
    omega
  · show 0 * 1024 + k.val = k.val
    omega

theorem emb12 (i : Fin 512) (k : Fin 1024) : ((cfg0.win 12).blk t).view.emb (ix2 i k) = (ix2 (rowAt t i) k : S2048x1024.Idx) := by
  funext a
  apply Fin.ext
  refine (Pipeline.Window.rect_emb_val win0_12 t (ix2 i k) a).trans ?_
  rw [(index t).2.2.2.2.2.2.2.2.2.2.2.2.1]
  fin_cases a
  · show t.val * 512 + i.val = 512 * t.val + i.val
    omega
  · show 0 * 1024 + k.val = k.val
    omega

theorem emb13 (i : Fin 512) (k : Fin 1024) : ((cfg0.win 13).blk t).view.emb (ix2 i k) = (ix2 (rowAt t i) k : S2048x1024.Idx) := by
  funext a
  apply Fin.ext
  refine (Pipeline.Window.rect_emb_val win0_13 t (ix2 i k) a).trans ?_
  rw [(index t).2.2.2.2.2.2.2.2.2.2.2.2.2]
  fin_cases a
  · show t.val * 512 + i.val = 512 * t.val + i.val
    omega
  · show 0 * 1024 + k.val = k.val
    omega

end Windows

def args : Args := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

theorem given (t : Fin cfg0.N) : Given (args m c) (rowAt t) (iblk m c 0 t) (iblk m c 1 t) (X0_2 m c t) (X0_3 m c t) (iblk m c 4 t) (iblk m c 5 t) (iblk m c 6 t) (iblk m c 7 t)
    (iblk m c 8 t) (iblk m c 9 t) where
  a i k := (read_a c t (V m c) i k).trans (congrFun (V_main_arg0 m c) _)
  b i k := (read_b c t (V m c) i k).trans (congrFun (V_main_arg1 m c) _)
  ga i k := (read_ga m c t i k).trans ((congrFun (V_gates m c) _).trans (gates_a _ _ _ _))
  gb i k := (read_gb m c t i k).trans ((congrFun (V_gates m c) _).trans (gates_b _ _ _ _))
  x i k := (read_x c t (V m c) i k).trans (congrFun (V_main_arg4 m c) _)
  wa i k := (read_wa c t (V m c) _ i _).trans ((congrFun (V_slotsA m c) _).trans (slotsA_apply _ _ _))
  wb i k := (read_wb c t (V m c) _ i _).trans ((congrFun (V_slotsB m c) _).trans (slotsB_apply _ _ _))
  wo i k := (read_wo c t (V m c) i k).trans (congrFun (V_out m c) _)
  gm k := (read_gm c t (V m c) _ k).trans (congrFun (V_main_arg8 m c) _)
  gf k := (read_gf c t (V m c) _ k).trans (congrFun (V_main_arg9 m c) _)

/-- An array of the numbers. -/
def arr (e : FTy) (f : Fin 2048 → Fin 1024 → EReal) : FVec Ideal S2048x1024 e := fun z => f (z 0) (z 1)

theorem final_merged : (dats m 0 c).arrAt 10 (cfgs 0).N = arr .bf16 (merged (args m c)) := by
  refine (dats m 0 c).arrAt_eq_of_covers 10 _ (by decide +kernel) fun t _ y => ?_
  obtain ⟨i, k, rfl⟩ := pair (n := 512) (k := 1024) y
  refine Eq.trans ?_ (congrArg (arr .bf16 (merged (args m c))) (emb10 t i k)).symm
  blk_simp
  rw [after0_10]
  unfold outsAt0
  dsimp only
  frame_out
  exact merged_stored (given m c t) i k

theorem final_mixed : (dats m 0 c).arrAt 11 (cfgs 0).N = arr .f32 (mixed (args m c)) := by
  refine (dats m 0 c).arrAt_eq_of_covers 11 _ (by decide +kernel) fun t _ y => ?_
  obtain ⟨i, k, rfl⟩ := pair (n := 512) (k := 1024) y
  refine Eq.trans ?_ (congrArg (arr .f32 (mixed (args m c))) (emb11 t i k)).symm
  blk_simp
  rw [after0_11]
  unfold outsAt0
  dsimp only
  frame_out
  exact mixed_stored (given m c t) i k

theorem final_stream : (dats m 0 c).arrAt 12 (cfgs 0).N = arr .f32 (stream (args m c)) := by
  refine (dats m 0 c).arrAt_eq_of_covers 12 _ (by decide +kernel) fun t _ y => ?_
  obtain ⟨i, k, rfl⟩ := pair (n := 512) (k := 1024) y
  refine Eq.trans ?_ (congrArg (arr .f32 (stream (args m c))) (emb12 t i k)).symm
  blk_simp
  rw [after0_12]
  unfold outsAt0
  dsimp only
  frame_out
  exact stream_stored (given m c t) i k

theorem final_normed : (dats m 0 c).arrAt 13 (cfgs 0).N = arr .bf16 (normed (args m c)) := by
  refine (dats m 0 c).arrAt_eq_of_covers 13 _ (by decide +kernel) fun t _ y => ?_
  obtain ⟨i, k, rfl⟩ := pair (n := 512) (k := 1024) y
  refine Eq.trans ?_ (congrArg (arr .bf16 (normed (args m c))) (emb13 t i k)).symm
  blk_simp
  rw [after0_13]
  unfold outsAt0
  dsimp only
  frame_out
  exact normed_block (given m c t) i k

end Cert.MixOutIdeal.MixF

end
-- ==== Proof.MixF.Equation.lean ====
module

public import proofs.«01_k».proof.Proof.MixF.Arrays
public import proofs.«01_k».proof.Proof.Gen.MixOutFwdRefIdeal.Run
public import proofs.«01_k».proof.Defs

@[expose] public section

set_option maxRecDepth 16384

noncomputable section

namespace Cert.MixOutFwdRefIdeal.Parts

open Cert.MixOutFwdRefIdeal Cert.MixOutFwdRefIdeal.Gen
open Idealize.ShloMosaic Idealize.ShloMosaic.TcCoe Idealize.ShloMosaic.StableHlo Idealize.SL.Sem
open Cert.MixOutIdeal.MixF (Args merged mixed stream normed rms sg arr)

abbrev Rows : Type := FVec Ideal S2048x1024 .f32

/-- The reference's stages. -/
def one : Rows := broadcastInDim S2048x1024 ![] bcast_S_S2048x1024 (constant S_ .f32 0x3F800000#32)
def sig (g : Rows) : Rows := Host.divf one (addf one (Host.exp (Host.negf g)))
def mergedRows (A : Args) : Rows :=
  addf (mulf (sig A.ga) (Host.dotGeneral dot_S2048x256_S256x1024_S2048x1024_1_0_0_1_n_n none A.a A.wa)) (mulf (sig A.gb) (Host.dotGeneral dot_S2048x512_S512x1024_S2048x1024_1_0_0_1_n_n none A.b A.wb))
def mixedRows (A : Args) : Rows := Host.dotGeneral dot_S2048x1024_S1024x1024_S2048x1024_1_0_0_1_n_n none (mergedRows A) A.wo
def norm (x : Rows) (g : FVec Ideal S1x1024 .f32) : Rows :=
  mulf (mulf x (broadcastInDim S2048x1024 ![0, 1] bcast_S2048x1_S2048x1024_0_1 (Host.rsqrt (addf (Host.divf (broadcastInDim S2048x1 ![0] bcast_S2048_S2048x1_0
      (Host.reduceAdd (mulf x x) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 (shapeCast S1024 g shapeCasts_S1x1024_S1024)))
def streamRows (A : Args) : Rows := addf A.x (norm (mixedRows A) A.gm)

theorem norm_apply (x : Rows) (g : FVec Ideal S1x1024 .f32) (i : Fin 2048) (k : Fin 1024) : norm x g (ix2 i k) = rms (fun j => x (ix2 i j)) k * g (ix2 (0 : Fin 1) k) := by
  unfold norm rms
  pointwise

theorem mergedRows_apply (A : Args) (i : Fin 2048) (k : Fin 1024) : mergedRows A (ix2 i k) = merged A i k := by
  unfold mergedRows merged sig one sg
  pointwise

theorem mixedRows_apply (A : Args) (i : Fin 2048) (k : Fin 1024) : mixedRows A (ix2 i k) = mixed A i k := by
  have h := mergedRows_apply A
  unfold mixedRows mixed
  generalize mergedRows A = M at h ⊢
  pointwise
  simp only [h]

theorem streamRows_apply (A : Args) (i : Fin 2048) (k : Fin 1024) : streamRows A (ix2 i k) = stream A i k := by
  have h := norm_apply (mixedRows A) A.gm i k
  simp only [mixedRows_apply] at h
  unfold streamRows stream
  generalize norm (mixedRows A) A.gm = N at h ⊢
  pointwise
  rw [h]

theorem normedRows_apply (A : Args) (i : Fin 2048) (k : Fin 1024) : norm (streamRows A) A.gf (ix2 i k) = normed A i k := by
  have h := norm_apply (streamRows A) A.gf i k
  simp only [streamRows_apply] at h
  exact h

theorem arr_of (e : FTy) (x : Rows) (f : Fin 2048 → Fin 1024 → EReal) (h : ∀ i k, x (ix2 i k) = f i k) : (x : FVec Ideal S2048x1024 .f32) = arr e f := by
  funext z
  obtain ⟨i, k, rfl⟩ := Cert.InputBwdIdeal.Input.pair (n := 2048) (k := 1024) z
  exact h i k

end Cert.MixOutFwdRefIdeal.Parts

namespace Cert.MixOutIdeal.MixF

open Cert.MixOutIdeal Cert.MixOutIdeal.Gen
open Idealize.ShloMosaic Idealize.ShloMosaic.TcCoe Idealize.ShloMosaic.StableHlo Idealize.SL.Sem
open Cert.MixOutFwdRefIdeal.Parts (mergedRows mixedRows streamRows norm arr_of mergedRows_apply mixedRows_apply streamRows_apply normedRows_apply)

set_option maxHeartbeats 1000000 in
/-- The value claim: the call's four results are the merged rows, the mixed ones, the stream and its norm, of whatever arguments. -/
theorem algebraic : Cert.algebraic_MixOutIdeal_MixOutFwdRefIdeal := by
  intro m g m' g' _ hargs
  refine ⟨fun c => (dats m 0 c).arrAt 10 (cfgs 0).N, fun c => (dats m 0 c).arrAt 11 (cfgs 0).N, fun c => (dats m 0 c).arrAt 12 (cfgs 0).N, fun c => (dats m 0 c).arrAt 13 (cfgs 0).N,
    (θ_run defs _ _).mono (fun r h c => ?_) (run_main m g), (θ_run _ _ _).mono (fun r h c => ?_) (Cert.MixOutFwdRefIdeal.Value.run m' g')⟩
  · have hb := (h c).2
    exact ⟨(h c).1 10, (h c).1 11, (h c).1 12, (h c).1 13,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (hb main_arg2 (Pipeline.mem_restRefs_of _ (by decide) (by decide))).trans (V_main_arg2 m c),
      (hb main_arg3 (Pipeline.mem_restRefs_of _ (by decide) (by decide))).trans (V_main_arg3 m c),
      ((h c).1 4).trans (((dats m 0 c).arrAt_in 4 rfl _).trans ((A_eq m c 4).trans (V_main_arg4 m c))),
      (hb main_arg5 (Pipeline.mem_restRefs_of _ (by decide) (by decide))).trans (V_main_arg5 m c),
      (hb main_arg6 (Pipeline.mem_restRefs_of _ (by decide) (by decide))).trans (V_main_arg6 m c),
      (hb main_arg7 (Pipeline.mem_restRefs_of _ (by decide) (by decide))).trans (V_main_arg7 m c),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩
  · obtain ⟨h0, h1, h2, h3, hr⟩ := h c
    obtain ⟨a0, a1, a2, a3, a4, a5, a6, a7, a8, a9⟩ := hargs c
    refine ⟨(h0.trans (?_ : _ = mergedRows (args m c))).trans ((arr_of .bf16 _ _ (mergedRows_apply (args m c))).trans (final_merged m c).symm),
      (h1.trans (?_ : _ = mixedRows (args m c))).trans ((arr_of .f32 _ _ (mixedRows_apply (args m c))).trans (final_mixed m c).symm),
      (h2.trans (?_ : _ = streamRows (args m c))).trans ((arr_of .f32 _ _ (streamRows_apply (args m c))).trans (final_stream m c).symm),
      (h3.trans (?_ : _ = norm (streamRows (args m c)) (args m c).gf)).trans ((arr_of .bf16 _ _ (normedRows_apply (args m c))).trans (final_normed m c).symm), hr⟩
    · rw [a0, a1, a2, a3, a5, a6]; sl_kernel_rfl
    · rw [a0, a1, a2, a3, a5, a6, a7]; sl_kernel_rfl
    · rw [a0, a1, a2, a3, a4, a5, a6, a7, a8]; sl_kernel_rfl
    · unfold Cert.MixOutFwdRefIdeal.Value.res_main_v48
      rw [a0, a1, a2, a3, a4, a5, a6, a7, a8, a9]; sl_kernel_rfl

end Cert.MixOutIdeal.MixF

end
-- ==== Proof.GateF.Block.lean ====
/- What the forget gate's forward call computes: sums from the start in sixteen blocks. -/
module

public import proofs.«01_k».proof.Proof.Gen.FoxGateFwdIdeal.Frame
public import Idealize.ShloMosaic.Lib.Pointwise
public import proofs.«01_k».proof.Proof.Input.Arrays
public import Idealize.ShloMosaic.Lib.Claim

@[expose] public section

set_option maxRecDepth 16384

noncomputable section

namespace Cert.FoxGateFwdIdeal.GateF

open Cert.FoxGateFwdIdeal Cert.FoxGateFwdIdeal.Gen
open Idealize.ShloMosaic Idealize.ShloMosaic.TcCoe Idealize.SL.Sem
open Cert.InputBwdIdeal.Input (pair)

abbrev Block : Type := FVec Ideal S16x128 .f32

/-- A block's sums from its start to each column, and what lies before the block: the product with the mask in three parts. -/
def step (w : FVec Ideal S128x128 .bf16) (y : Block) (c : FVec Ideal S16x1 .f32) : Block :=
  have h : FVec Ideal S16x128 .bf16 := truncf .bf16 y bitsLt_bf16_f32
  have r : Block := subf y (extf .f32 h bitsLt_bf16_f32)
  have h' : FVec Ideal S16x128 .bf16 := truncf .bf16 r bitsLt_bf16_f32
  have r' : Block := subf r (extf .f32 h' bitsLt_bf16_f32)
  have h'' : FVec Ideal S16x128 .bf16 := truncf .bf16 r' bitsLt_bf16_f32
  addf (addf (addf (matmul dot_S16x128_S128x128_S16x128_1_0_0_1_n_n none h w (constant S16x128 .f32 0x00000000#32))
      (matmul dot_S16x128_S128x128_S16x128_1_0_0_1_n_n none h' w (constant S16x128 .f32 0x00000000#32)))
    (matmul dot_S16x128_S128x128_S16x128_1_0_0_1_n_n none h'' w (constant S16x128 .f32 0x00000000#32))) (broadcastTo S16x128 c broadcasts_S16x1_S16x128)

/-- What is carried on from one block to the next: its last column. -/
def carry (x : Block) : FVec Ideal S16x1 .f32 := extractStridedSlice S16x1 ![0, 127] x slices_S16x128_o0_127_S16x1

/-- A block as it is stored. -/
def stored (x : Block) : Block := shapeCast S16x128 x shapeCasts_S16x128_S16x128

/-- The block at a place from the start. -/
def blockAt (X : FVec Ideal S16x2048 .f32) (n : ℕ) : Block := fun i => X (ix2 (i 0) (⟨(128 * n + (i 1).val) % 2048, Nat.mod_lt _ (by omega)⟩ : Fin 2048))

/-- The blocks from the first one on, each with the last column of the one before it. -/
def run (x : ℕ → Block) : ℕ → Block
  | 0 => step (k0_pay3 (F := Ideal)) (x 0) (k0_pay4 (F := Ideal))
  | n + 1 => step (k0_pay3 (F := Ideal)) (x (n + 1)) (carry (run x n))

theorem mask_apply (k j : Fin 128) : k0_pay3 (F := Ideal) (ix2 k j) = if k ≤ j then 1 else 0 := by
  unfold k0_pay3
  pointwise
  rw [WordCmp.cmpi_sle_ofNat (by omega) (by omega), Scalar.select_decide]
  simp only [Fin.le_def]

theorem step_apply (x : Block) (c : FVec Ideal S16x1 .f32) (r : Fin 16) (X : Fin 128 → ℝ) (h : ∀ k, x (ix2 r k) = X k) (j : Fin 128) :
    step (k0_pay3 (F := Ideal)) x c (ix2 r j) = (∑ k : Fin 128, if k ≤ j then (X k : EReal) else 0) + c (ix2 r (0 : Fin 1)) := by
  have hw := mask_apply
  unfold step
  generalize k0_pay3 (F := Ideal) = W at hw ⊢
  pointwise
  congr 1
  have z (y : ℝ) : (y : EReal) - y = 0 := by rw [← EReal.coe_sub, sub_self, EReal.coe_zero]
  simp only [h, z, hw, sub_zero, zero_mul, Finset.sum_const_zero, add_zero, mul_ite, mul_one, mul_zero, ite_self]

theorem stored_eq (x : Block) : stored x = x := by
  funext z
  obtain ⟨i, k, rfl⟩ := pair (n := 16) (k := 128) z
  unfold stored
  pointwise

theorem slice_at (X : FVec Ideal S16x2048 .f32) (n o : ℕ) (h : o = 128 * n) (hn : n < 16) (hs : S16x2048.Slices ![0, o] S16x128) :
    extractStridedSlice S16x128 ![0, o] X hs = blockAt X n := by
  subst h
  funext z
  obtain ⟨i, k, rfl⟩ := pair (n := 16) (k := 128) z
  refine congrArg X (funext fun a => Fin.ext ?_)
  fin_cases a
  · show 0 + i.val = i.val
    omega
  · show 128 * n + k.val = (128 * n + k.val) % 2048
    have := k.isLt
    omega

section Texts

variable (a : Vec Ideal S2048x128 .f32) (b : Vec Ideal S1x128 .f32) (X : FVec Ideal S16x2048 .f32) (w : FVec Ideal S128x128 .bf16) (u : Block) (z : FVec Ideal S16x1 .f32) (h h' h'' : FVec Ideal S16x128 .bf16)
  (v o : Block)

theorem text11 : k0_pay11 (F := Ideal) (k0_pay3 (F := Ideal)) z (k0_pay9 (F := Ideal) a b) (k0_pay10 (F := Ideal) a b) (constant S16x128 .f32 0x00000000#32)
    = step (k0_pay3 (F := Ideal)) (extractStridedSlice S16x128 ![0, 0] (k0_pay2 (F := Ideal) a b) slices_S16x2048_o0_0_S16x128) z := rfl

theorem text12 : k0_pay12 (F := Ideal) w z h u o = stored (k0_pay11 (F := Ideal) w z h u o) := rfl

theorem text13 : k0_pay13 (F := Ideal) X w z h u o = step w (extractStridedSlice S16x128 ![0, 128] X slices_S16x2048_o0_128_S16x128) (carry (k0_pay11 (F := Ideal) w z h u o)) := rfl

theorem text14 : k0_pay14 (F := Ideal) X w z h u o = stored (k0_pay13 (F := Ideal) X w z h u o) := rfl

theorem text15 : k0_pay15 (F := Ideal) X w z h u o = step w (extractStridedSlice S16x128 ![0, 256] X slices_S16x2048_o0_256_S16x128) (carry (k0_pay13 (F := Ideal) X w z h u o)) := rfl

theorem text16 : k0_pay16 (F := Ideal) X w z h u o = stored (k0_pay15 (F := Ideal) X w z h u o) := rfl

theorem text17 : k0_pay17 (F := Ideal) X w u = step w (extractStridedSlice S16x128 ![0, 384] X slices_S16x2048_o0_384_S16x128) (carry u) := rfl

theorem text18 : k0_pay18 (F := Ideal) X w u = stored (k0_pay17 (F := Ideal) X w u) := rfl

theorem text19 : k0_pay19 (F := Ideal) X w u = step w (extractStridedSlice S16x128 ![0, 512] X slices_S16x2048_o0_512_S16x128) (carry (k0_pay17 (F := Ideal) X w u)) := rfl

theorem text20 : k0_pay20 (F := Ideal) X w u = stored (k0_pay19 (F := Ideal) X w u) := rfl

theorem text21 : k0_pay21 (F := Ideal) X w u = carry (k0_pay19 (F := Ideal) X w u) := rfl

theorem text27 : k0_pay27 (F := Ideal) w z (k0_pay23 (F := Ideal) X) (k0_pay25 (F := Ideal) X) (k0_pay26 (F := Ideal) X) (constant S16x128 .f32 0x00000000#32)
    = step w (extractStridedSlice S16x128 ![0, 640] X slices_S16x2048_o0_640_S16x128) z := rfl

theorem text28 : k0_pay28 (F := Ideal) w z h h' h'' o = stored (k0_pay27 (F := Ideal) w z h h' h'' o) := rfl

theorem text29 : k0_pay29 (F := Ideal) X w z h h' h'' o = step w (extractStridedSlice S16x128 ![0, 768] X slices_S16x2048_o0_768_S16x128) (carry (k0_pay27 (F := Ideal) w z h h' h'' o)) := rfl

theorem text30 : k0_pay30 (F := Ideal) X w z h h' h'' o = stored (k0_pay29 (F := Ideal) X w z h h' h'' o) := rfl

theorem text31 : k0_pay31 (F := Ideal) X w z h h' h'' o = step w (extractStridedSlice S16x128 ![0, 896] X slices_S16x2048_o0_896_S16x128) (carry (k0_pay29 (F := Ideal) X w z h h' h'' o)) := rfl

theorem text32 : k0_pay32 (F := Ideal) u = stored u := rfl

theorem text33 : k0_pay33 (F := Ideal) X w u = step w (extractStridedSlice S16x128 ![0, 1024] X slices_S16x2048_o0_1024_S16x128) (carry u) := rfl

theorem text34 : k0_pay34 (F := Ideal) X w u = stored (k0_pay33 (F := Ideal) X w u) := rfl

theorem text35 : k0_pay35 (F := Ideal) X w u = step w (extractStridedSlice S16x128 ![0, 1152] X slices_S16x2048_o0_1152_S16x128) (carry (k0_pay33 (F := Ideal) X w u)) := rfl

theorem text36 : k0_pay36 (F := Ideal) X w u = stored (k0_pay35 (F := Ideal) X w u) := rfl

theorem text37 : k0_pay37 (F := Ideal) X w u = carry (k0_pay35 (F := Ideal) X w u) := rfl

theorem text41 : k0_pay41 (F := Ideal) w z (k0_pay39 (F := Ideal) X) (k0_pay40 (F := Ideal) X)
    = step w (extractStridedSlice S16x128 ![0, 1280] X slices_S16x2048_o0_1280_S16x128) z := rfl

theorem text42 : k0_pay42 (F := Ideal) w z h u = stored (k0_pay41 (F := Ideal) w z h u) := rfl

theorem text43 : k0_pay43 (F := Ideal) X w z h u = step w (extractStridedSlice S16x128 ![0, 1408] X slices_S16x2048_o0_1408_S16x128) (carry (k0_pay41 (F := Ideal) w z h u)) := rfl

theorem text44 : k0_pay44 (F := Ideal) X w z h u = stored (k0_pay43 (F := Ideal) X w z h u) := rfl

theorem text45 : k0_pay45 (F := Ideal) X w z h u = carry (k0_pay43 (F := Ideal) X w z h u) := rfl

theorem text52 : k0_pay52 (F := Ideal) w z (k0_pay50 (F := Ideal) X) (k0_pay51 (F := Ideal) X w) (constant S16x128 .f32 0x00000000#32)
    = step w (extractStridedSlice S16x128 ![0, 1536] X slices_S16x2048_o0_1536_S16x128) z := rfl

theorem text53 : k0_pay53 (F := Ideal) w z h u o = stored (k0_pay52 (F := Ideal) w z h u o) := rfl

theorem text54 : k0_pay54 (F := Ideal) X w z h u o = step w (extractStridedSlice S16x128 ![0, 1664] X slices_S16x2048_o0_1664_S16x128) (carry (k0_pay52 (F := Ideal) w z h u o)) := rfl

theorem text55 : k0_pay55 (F := Ideal) X w z h u o = stored (k0_pay54 (F := Ideal) X w z h u o) := rfl

theorem text56 : k0_pay56 (F := Ideal) X w z h u o = step w (extractStridedSlice S16x128 ![0, 1792] X slices_S16x2048_o0_1792_S16x128) (carry (k0_pay54 (F := Ideal) X w z h u o)) := rfl

theorem text57 : k0_pay57 (F := Ideal) X w z h u o = stored (k0_pay56 (F := Ideal) X w z h u o) := rfl

theorem text1 : k0_pay1 (F := Ideal) X w u = stored (step w (extractStridedSlice S16x128 ![0, 1920] X slices_S16x2048_o0_1920_S16x128) (carry u)) := rfl

end Texts

theorem run_zero (x : ℕ → Block) : step (k0_pay3 (F := Ideal)) (x 0) (k0_pay4 (F := Ideal)) = run x 0 := rfl

theorem run_succ (x : ℕ → Block) (n : ℕ) : step (k0_pay3 (F := Ideal)) (x (n + 1)) (carry (run x n)) = run x (n + 1) := rfl

/-- Sixteen blocks stored side by side. -/
def side (f : ℕ → Block) : FVec Ideal S16x2048 .f32 :=
  View.canon (Val := Elt Ideal) (e := .f32) [⟨r0_17, f 15⟩, ⟨r0_16, f 14⟩, ⟨r0_15, f 13⟩, ⟨r0_14, f 12⟩, ⟨r0_13, f 11⟩, ⟨r0_12, f 10⟩, ⟨r0_11, f 9⟩, ⟨r0_10, f 8⟩, ⟨r0_9, f 7⟩, ⟨r0_8, f 6⟩, ⟨r0_7, f 5⟩, ⟨r0_6, f 4⟩, ⟨r0_5, f 3⟩, ⟨r0_4, f 2⟩, ⟨r0_3, f 1⟩, ⟨r0_2, f 0⟩]

theorem ld_rows (x : Vec Ideal S2048x128 .f32) : View.ld x r0_0 = x := by
  funext z
  obtain ⟨i, k, rfl⟩ := pair (n := 2048) (k := 128) z
  refine congrArg x (funext fun a => Fin.ext ?_)
  fin_cases a
  · show 0 + 1 * i.val = i.val
    omega
  · show 0 + 1 * k.val = k.val
    omega

theorem ld_bias (x : Vec Ideal S1x128 .f32) : View.ld x r0_1 = x := by
  funext z
  obtain ⟨i, k, rfl⟩ := pair (n := 1) (k := 128) z
  refine congrArg x (funext fun a => Fin.ext ?_)
  fin_cases a
  · show 0 + 1 * i.val = i.val
    omega
  · show 0 + 1 * k.val = k.val
    omega

theorem out_eq (x0 : Vec Ideal S2048x128 .f32) (x1 : Vec Ideal S1x128 .f32) : out0_2 x0 x1 = side (run (blockAt (k0_pay2 x0 x1))) := by
  unfold out0_2 side
  simp only [k0_pay58, k0_pay59, k0_pay60, k0_pay61, k0_pay62, k0_pay63, k0_pay64, k0_pay65, k0_pay66, k0_pay67, k0_pay68, k0_pay69, k0_pay70, k0_pay71, k0_pay72, k0_pay73, k0_pay74,
    k0_pay75, k0_pay76, k0_pay77, ld_rows, ld_bias]
  simp only [text1, text12, text14, text16, text18, text20, text21, text28, text30, text32, text34, text36, text37, text42, text44, text45, text53, text55, text57, stored_eq]
  simp only [text56, text54, text52, text43, text41, text35, text33, text31, text29, text27, text19, text17, text15, text13, text11]
  generalize (k0_pay2 x0 x1 : FVec Ideal S16x2048 .f32) = X
  rw [slice_at X 0 0 rfl (by omega), slice_at X 1 128 rfl (by omega), slice_at X 2 256 rfl (by omega), slice_at X 3 384 rfl (by omega), slice_at X 4 512 rfl (by omega),
    slice_at X 5 640 rfl (by omega), slice_at X 6 768 rfl (by omega), slice_at X 7 896 rfl (by omega), slice_at X 8 1024 rfl (by omega), slice_at X 9 1152 rfl (by omega),
    slice_at X 10 1280 rfl (by omega), slice_at X 11 1408 rfl (by omega), slice_at X 12 1536 rfl (by omega), slice_at X 13 1664 rfl (by omega), slice_at X 14 1792 rfl (by omega),
    slice_at X 15 1920 rfl (by omega)]
  simp only [run_zero, run_succ, Nat.reduceAdd, zero_add]

end Cert.FoxGateFwdIdeal.GateF

end
-- ==== Proof.GateF.Parts.lean ====
/- The reference of the forget gate's forward call: the log of the sigmoid, and its sums from the start. -/
module

public import proofs.«01_k».proof.Proof.Gen.FoxGateFwdRefIdeal.Run
public import proofs.«01_k».proof.Proof.Gate.Parts

@[expose] public section

set_option maxRecDepth 16384

noncomputable section

namespace Cert.FoxGateFwdRefIdeal.Parts

open Cert.FoxGateFwdRefIdeal Cert.FoxGateFwdRefIdeal.Gen
open Idealize.ShloMosaic Idealize.ShloMosaic.TcCoe Idealize.ShloMosaic.StableHlo Idealize.SL.Sem
open Idealize.ShloMosaic.Routing (shape0 shape2)
open Cert.FoxGateRefIdeal.Parts (ext ext_of_lt foldl_add lse lse_apply turned turned_apply)

/-- The sum of a row from its start through a place. -/
def head {n : ℕ} (d : Fin n → EReal) (a : ℕ) : EReal := ∑ k ∈ Finset.range (a + 1), ext d k

theorem head_split {n : ℕ} (d : Fin n → EReal) (o a : ℕ) : head d (o + 1 + a) = ∑ k ∈ Finset.Ico (o + 1) (o + 1 + a + 1), ext d k + head d o := by
  unfold head
  rw [Finset.range_eq_Ico, Finset.range_eq_Ico, add_comm (∑ k ∈ Finset.Ico (o + 1) (o + 1 + a + 1), ext d k),
    Finset.sum_Ico_consecutive (ext d) (Nat.zero_le _) (show o + 1 ≤ o + 1 + a + 1 by omega)]

/-- A window that ends at a row, the rows before the first one counting nothing. -/
def before {n : ℕ} (d : Fin n → EReal) (o k : ℕ) : EReal := if o ≤ k then ext d (k - o) else 0

theorem sum_before {n : ℕ} (d : Fin n → EReal) (o j : ℕ) (h : j ≤ o) : ∑ k ∈ Finset.range (o + 1), before d o (j + k) = head d j := by
  have e := Finset.sum_Ico_eq_sum_range (before d o) j (j + (o + 1))
  rw [Nat.add_sub_cancel_left] at e
  refine e.symm.trans ((Finset.sum_Ico_consecutive (before d o) h (show o ≤ j + (o + 1) by omega)).symm.trans ?_)
  have z : ∑ k ∈ Finset.Ico j o, before d o k = 0 := Finset.sum_eq_zero fun k hk => if_neg (by have := Finset.mem_Ico.1 hk; omega)
  rw [z, zero_add, Finset.sum_Ico_eq_sum_range,
    show j + (o + 1) - o = j + 1 by omega]
  refine Finset.sum_congr rfl fun k _ => ?_
  unfold before
  rw [if_pos (Nat.le_add_right o k), Nat.add_sub_cancel_left]

/-- The host's sums from the first row of a matrix to each one. -/
theorem sums_apply {R Rm1 C : ℕ} (hR : Rm1 + 1 = R) (x : FVec Ideal (shape2 R C) .f32) (init : FVec Ideal shape0 .f32) (hinit : ∀ i, init i = (0 : EReal))
    (h : (shape2 R C).ReduceWindows (![R, 1] : Fin 2 → ℕ) ![1, 1] ![Rm1, 0] ![0, 0] (shape2 R C)) (hu : 0 < shape0.numel) (j : Fin R) (c : Fin C) :
    Host.reduceWindowAdd ![R, 1] ![1, 1] ![Rm1, 0] ![0, 0] x init h hu (ix2 j c) = head (fun k : Fin R => x (ix2 k c)) j.val := by
  subst hR
  have hj := j.isLt
  have hc := c.isLt
  unfold Host.reduceWindowAdd
  rw [Ideal.hostReduceWindowAdd_def]
  unfold Ideal.hostReduceWindowAdd Host.reduceWindow
  refine (foldl_add _ _ _).trans ?_
  rw [hinit, zero_add]
  refine (congrArg List.sum (List.map_congr_left (g := fun n => before (fun k : Fin (Rm1 + 1) => x (ix2 k c)) Rm1 (j.val + n.val)) fun n _ => ?_)).trans ?_
  · have hw0 : ((shape2 (Rm1 + 1) 1).rowMajor.symm n 0).val = n.val := by rw [Routing.symm_col]; rfl
    have hw1 : ((shape2 (Rm1 + 1) 1).rowMajor.symm n 1).val = 0 := by rw [Routing.symm_col]; rfl
    have hn : n.val < Rm1 + 1 := lt_of_lt_of_eq n.isLt (Routing.numel_col _)
    dsimp only
    split
    · next hin =>
      have h0 := hin 0
      change Rm1 ≤ j.val * 1 + ((shape2 (Rm1 + 1) 1).rowMajor.symm n 0).val
        ∧ j.val * 1 + ((shape2 (Rm1 + 1) 1).rowMajor.symm n 0).val - Rm1 < Rm1 + 1 at h0
      rw [hw0] at h0
      unfold before
      rw [if_pos (by omega), ext_of_lt _ (show j.val + n.val - Rm1 < Rm1 + 1 by omega)]
      refine congrArg x (funext fun a => Fin.ext ?_)
      match a with
      | ⟨0, _⟩ =>
        show j.val * 1 + ((shape2 (Rm1 + 1) 1).rowMajor.symm n 0).val - Rm1 = j.val + n.val - Rm1
        rw [hw0, mul_one]
      | ⟨1, _⟩ =>
        show c.val * 1 + ((shape2 (Rm1 + 1) 1).rowMajor.symm n 1).val - 0 = c.val
        rw [hw1]
        omega
    · next hin =>
      refine Eq.symm (if_neg fun hle => hin fun a => ?_)
      match a with
      | ⟨0, _⟩ =>
        show Rm1 ≤ j.val * 1 + ((shape2 (Rm1 + 1) 1).rowMajor.symm n 0).val
          ∧ j.val * 1 + ((shape2 (Rm1 + 1) 1).rowMajor.symm n 0).val - Rm1 < Rm1 + 1
        rw [hw0]
        omega
      | ⟨1, _⟩ =>
        show 0 ≤ c.val * 1 + ((shape2 (Rm1 + 1) 1).rowMajor.symm n 1).val ∧ c.val * 1 + ((shape2 (Rm1 + 1) 1).rowMajor.symm n 1).val - 0 < C
        rw [hw1]
        omega
  · rw [Routing.map_finRange_val _ (fun w => before (fun k : Fin (Rm1 + 1) => x (ix2 k c)) Rm1 (j.val + w)), Routing.numel_col, ← List.sum_toFinset _ List.nodup_range,
      List.toFinset_range]
    exact sum_before _ Rm1 j.val (by omega)

/-- The log of the sigmoid of a real number. -/
def logSig (y : ℝ) : ℝ := min y 0 - Real.log (1 + Real.exp (-|y|))

theorem logSig_eq (y : ℝ) : -(max (-y) 0 + Real.log (1 + Real.exp (-|(-y)|))) = logSig y := by
  have h : max (-y) 0 = -min y 0 := by
    rcases le_total 0 y with h | h
    · rw [min_eq_right h, max_eq_right (by linarith), neg_zero]
    · rw [min_eq_left h, max_eq_left (by linarith)]
  unfold logSig
  rw [h, abs_neg]
  ring

/-- The cumulated log of the gate, a row for each head. -/
def cumulated (f : FVec Ideal S2048x8 .f32) (b : FVec Ideal S1x8 .f32) : FVec Ideal S8x2048 .f32 :=
  transpose S8x2048 [1, 0] (Host.reduceWindowAdd ![2048, 1] ![1, 1] ![2047, 0] ![0, 0] (Host.negf (lse (turned f b)) : FVec Ideal S2048x8 .f32)
    (broadcastInDim S_ ![] bcast_S_S_ (constant S_ .f32 0x00000000#32)) reduceWindows_S2048x8_S2048x8_w2048s1p2047_0_w1s1p0_0 h_S_) transposes_S2048x8_S8x2048_1_0

theorem cumulated_apply (f : FVec Ideal S2048x8 .f32) (b : FVec Ideal S1x8 .f32) (l : Fin 8) (i : Fin 2048) (y : Fin 2048 → ℝ)
    (h : ∀ k, f (ix2 k l) + b (ix2 (0 : Fin 1) l) = (y k : EReal)) : cumulated f b (ix2 l i) = head (fun k => (logSig (y k) : EReal)) i.val := by
  have hs : (Host.reduceWindowAdd ![2048, 1] ![1, 1] ![2047, 0] ![0, 0] (Host.negf (lse (turned f b)) : FVec Ideal S2048x8 .f32)
    (broadcastInDim S_ ![] bcast_S_S_ (constant S_ .f32 0x00000000#32)) reduceWindows_S2048x8_S2048x8_w2048s1p2047_0_w1s1p0_0 h_S_ : FVec Ideal S2048x8 .f32) (ix2 i l)
      = head (fun k => (logSig (y k) : EReal)) i.val := by
    refine (sums_apply (R := 2048) (Rm1 := 2047) (C := 8) rfl _ _ (fun i => ?_) _ _ i l).trans (congrArg (fun g => head g i.val) (funext fun k => ?_))
    · pointwise
    · have hl := lse_apply (turned f b) k l (-y k) (by rw [turned_apply, h k, EReal.coe_neg])
      generalize lse (turned f b) = L at hl ⊢
      rw [← logSig_eq, EReal.coe_neg]
      exact congrArg Neg.neg hl
  unfold cumulated
  generalize (Host.reduceWindowAdd ![2048, 1] ![1, 1] ![2047, 0] ![0, 0] (Host.negf (lse (turned f b)) : FVec Ideal S2048x8 .f32)
    (broadcastInDim S_ ![] bcast_S_S_ (constant S_ .f32 0x00000000#32)) reduceWindows_S2048x8_S2048x8_w2048s1p2047_0_w1s1p0_0 h_S_ : FVec Ideal S2048x8 .f32) = W at hs ⊢
  pointwise
  exact hs

end Cert.FoxGateFwdRefIdeal.Parts

end
-- ==== Proof.GateF.Arrays.lean ====
/- What the forget gate's forward call leaves in its array. -/
module

public import proofs.«01_k».proof.Proof.GateF.Block
public import proofs.«01_k».proof.Proof.GateF.Parts

@[expose] public section

set_option maxRecDepth 16384

noncomputable section

namespace Cert.FoxGateFwdIdeal.GateF

open Cert.FoxGateFwdIdeal Cert.FoxGateFwdIdeal.Gen
open Idealize.ShloMosaic Idealize.ShloMosaic.TcCoe Idealize.ShloMosaic.StableHlo Idealize.SL.Sem
open Cert.InputBwdIdeal.Input (pair)
open Cert.FoxGateRefIdeal.Parts (ext ext_of_lt)
open Cert.FoxGateFwdRefIdeal.Parts (head head_split logSig)

theorem side_apply (f : ℕ → Block) (r : Fin 16) (n : Fin 2048) : side f (ix2 r n) = f (n.val / 128) (ix2 r (⟨n.val % 128, by omega⟩ : Fin 128)) := by
  have hn := n.isLt
  refine View.canon_ofFn_unit_eq_of_forall (Val := Elt Ideal) (e := .f32) (S := S16x2048) (N := 16) (fun q => ![0, 1920 - 128 * q.val]) S16x128.size
    (fun q a => by fin_cases a <;> simp <;> omega) (fun q => f (15 - q.val)) (ix2 r n) _ ⟨⟨15 - n.val / 128, by omega⟩, fun a => ?_⟩ (fun q x hx => ?_)
  · fin_cases a
    · exact ⟨Nat.zero_le _, by show r.val < 0 + 16; omega⟩
    · show 1920 - 128 * (15 - n.val / 128) ≤ n.val ∧ n.val < 1920 - 128 * (15 - n.val / 128) + 128
      omega
  · obtain ⟨i, k, rfl⟩ := pair (n := 16) (k := 128) x
    have h0 : r.val = 0 + i.val := hx 0
    have h1 : n.val = 1920 - 128 * q.val + k.val := hx 1
    have hq := q.isLt
    have hk := k.isLt
    have e0 : i = r := Fin.ext (by omega)
    have e1 : k = (⟨n.val % 128, by omega⟩ : Fin 128) := Fin.ext (by show k.val = n.val % 128; omega)
    rw [e0, e1, show 15 - q.val = n.val / 128 by omega]

/-- The part of a block's row through a column, as a stretch of the whole row. -/
theorem block_sum (g : ℕ → EReal) (o : ℕ) (j : Fin 128) : (∑ k : Fin 128, if k ≤ j then g (o + k.val) else 0) = ∑ k ∈ Finset.Ico o (o + j.val + 1), g k := by
  rw [Finset.sum_Ico_eq_sum_range, show o + j.val + 1 - o = j.val + 1 by omega, ← Finset.sum_filter]
  have hj := j.isLt
  refine Finset.sum_bij (fun k _ => k.val) (fun k hk => ?_) (fun _ _ _ _ h => Fin.ext h) (fun k hk => ?_) (fun _ _ => rfl)
  · have : k.val ≤ j.val := (Finset.mem_filter.1 hk).2
    exact Finset.mem_range.2 (by omega)
  · have := Finset.mem_range.1 hk
    exact ⟨⟨k, by omega⟩, Finset.mem_filter.2 ⟨Finset.mem_univ _, show k ≤ j.val by omega⟩, rfl⟩

section Sums

variable (X : FVec Ideal S16x2048 .f32) (r : Fin 16) (d : Fin 2048 → ℝ) (h : ∀ k, X (ix2 r k) = (d k : EReal))
include h

theorem part_sum (n : ℕ) (hn : n ≤ 15) (c : FVec Ideal S16x1 .f32) (j : Fin 128) : step (k0_pay3 (F := Ideal)) (blockAt X n) c (ix2 r j)
    = ∑ k ∈ Finset.Ico (128 * n) (128 * n + j.val + 1), ext (fun k => (d k : EReal)) k + c (ix2 r (0 : Fin 1)) := by
  rw [step_apply _ c r (fun k => d ⟨(128 * n + k.val) % 2048, Nat.mod_lt _ (by omega)⟩) (fun k => h _) j, ← block_sum]
  congr 1
  refine Finset.sum_congr rfl fun k _ => ?_
  have hk := k.isLt
  rw [ext_of_lt _ (show 128 * n + k.val < 2048 by omega)]
  refine congrArg (fun z : Fin 2048 => if k ≤ j then (d z : EReal) else 0) (Fin.ext ?_)
  show (128 * n + k.val) % 2048 = 128 * n + k.val
  omega

theorem run_apply (n : ℕ) (hn : n ≤ 15) (j : Fin 128) : run (blockAt X) n (ix2 r j) = head (fun k => (d k : EReal)) (128 * n + j.val) := by
  induction n generalizing j with
  | zero =>
    refine (part_sum X r d h 0 (by omega) _ j).trans ?_
    have z : (k0_pay4 (F := Ideal) : FVec Ideal S16x1 .f32) (ix2 r (0 : Fin 1)) = (0 : EReal) := by
      unfold k0_pay4
      pointwise
    rw [z, add_zero]
    unfold head
    rw [Finset.range_eq_Ico]
  | succ n ih =>
    refine (part_sum X r d h (n + 1) hn _ j).trans ?_
    have z : carry (run (blockAt X) n) (ix2 r (0 : Fin 1)) = run (blockAt X) n (ix2 r (127 : Fin 128)) := by
      generalize run (blockAt X) n = Y
      unfold carry
      pointwise
    rw [z, ih (by omega) 127]
    exact (head_split (fun k => (d k : EReal)) (128 * n + 127) j.val).symm

theorem side_sums (n : Fin 2048) : side (run (blockAt X)) (ix2 r n) = head (fun k => (d k : EReal)) n.val := by
  rw [side_apply, run_apply X r d h _ (by omega)]
  congr 1
  show 128 * (n.val / 128) + n.val % 128 = n.val
  omega

end Sums

/-- One entry of the log of the gate. -/
theorem log_apply (f : Vec Ideal S2048x128 .f32) (b : Vec Ideal S1x128 .f32) (i : Fin 2048) (l : Fin 16) (y : ℝ)
    (h : f (ix2 i (⟨l.val, by omega⟩ : Fin 128)) + b (ix2 (0 : Fin 1) (⟨l.val, by omega⟩ : Fin 128)) = (y : EReal)) :
    k0_pay2 f b (ix2 l i) = (logSig y : EReal) := by
  unfold k0_pay2
  pointwise
  have hp : 0 < Real.exp (-|y|) := Real.exp_pos _
  have ha : FloatOps.absf (F := Ideal) (φ := .f32) (y : EReal) = ((|y| : ℝ) : EReal) := by
    show max (y : EReal) (-(y : EReal)) = _
    rw [← EReal.coe_neg, ← EReal.coe_strictMono.monotone.map_max]
    rfl
  have hm : min (y : EReal) 0 = ((min y 0 : ℝ) : EReal) := by
    rw [← EReal.coe_zero, ← EReal.coe_strictMono.monotone.map_min]
  rw [h, ha, hm, zero_sub, ← EReal.coe_neg, Ideal.exp_coe, ← EReal.coe_one, ← EReal.coe_add, Ideal.log_coe, if_neg (fun e => by have := EReal.coe_eq_coe_iff.1 e; linarith), ← EReal.coe_sub, add_sub_cancel_left,
    Ideal.div_coe hp.ne', if_neg (not_le.2 (by linarith)), ← EReal.coe_mul, mul_one_div_cancel hp.ne', EReal.coe_one, mul_one, ← EReal.coe_sub]
  rfl

variable (m : (ℓ : Loc nD τ sig) → Buf (Elt Ideal) ℓ) (c : Dev nD)

/-- The host's packing. -/
def columns (f : FVec Ideal S2048x8 .f32) : FVec Ideal S2048x6272 .f32 :=
  concatenate S2048x6272 1 [⟨S2048x6144, (broadcastInDim S2048x6144 ![] bcast_S_S2048x6144 (constant S_ .f32 0x00000000#32) : FVec Ideal S2048x6144 .f32)⟩, ⟨S2048x8, f⟩,
    ⟨S2048x120, (broadcastInDim S2048x120 ![] bcast_S_S2048x120 (constant S_ .f32 0x00000000#32) : FVec Ideal S2048x120 .f32)⟩] concatenates_S2048x6144_S2048x8_S2048x120_S2048x6272_d1
def wide (b : FVec Ideal S1x8 .f32) : FVec Ideal S1x128 .f32 := pad S1x128 ![0, 0] ![0, 120] ![0, 0] b (sitofp .f32 (constantI S_ 32 0#32) : FVec Ideal S_ .f32) pads_S1x8_S1x128_000_01200 h_S_

theorem columns_apply (f : FVec Ideal S2048x8 .f32) (i : Fin 2048) (l : Fin 8) : columns f (ix2 i (⟨6144 + l.val, by omega⟩ : Fin 6272)) = f (ix2 i l) := by
  unfold columns
  pointwise

theorem wide_apply (b : FVec Ideal S1x8 .f32) (l : Fin 8) : wide b (ix2 (0 : Fin 1) (⟨l.val, by omega⟩ : Fin 128)) = b (ix2 (0 : Fin 1) l) := by
  unfold wide
  pointwise

theorem V_columns : (V m c main_v2 : FVec Ideal S2048x6272 .f32) = columns (m ((c.tc : Thread nD τ).loc main_arg0)) := by
  simp only [V, V0, hostOps0, hostOps0_1, List.flatten_cons, List.flatten_nil, List.append_nil, List.cons_append, List.nil_append,
    TRef.nullary, TRef.ternary, TRef.unary, TRef.binary, TRef.toBuf, TRef.ofBuf, cast_eq]
  after_results_simp <;> rfl

theorem V_wide : (V m c main_v3 : FVec Ideal S1x128 .f32) = wide (m ((c.tc : Thread nD τ).loc main_arg1)) := by
  simp only [V, V0, hostOps0, hostOps0_1, List.flatten_cons, List.flatten_nil, List.append_nil, List.cons_append, List.nil_append,
    TRef.nullary, TRef.ternary, TRef.unary, TRef.binary, TRef.toBuf, TRef.ofBuf, cast_eq]
  after_results_simp <;> rfl

theorem index : ∀ t : Fin cfg0.N, win0_0.index t = ![0, 48] ∧ win0_1.index t = ![0, 0] ∧ win0_2.index t = ![0, 0] :=
  (by decide +kernel : ∀ t : Fin grid0.N, _)

section Reads

variable (t : Fin cfg0.N) (X : (b : Ref sig .tc) → Buf (Elt Ideal) ((c.tc : Thread nD τ).loc b))

theorem read_gate (i : Fin 2048) (k : Fin 128) : (((cfg0.win 0).blk t).view.read (Elt Ideal) (X (Pipeline.arrRef spec0 0)) : FVec Ideal S2048x128 .f32) (ix2 i k)
    = (X main_v2 : FVec Ideal S2048x6272 .f32) (ix2 i (⟨6144 + k.val, by omega⟩ : Fin 6272)) := by
  refine congrArg (X main_v2 : FVec Ideal S2048x6272 .f32) (?_ : ((cfg0.win 0).blk t).view.emb (ix2 i k) = _)
  funext a
  apply Fin.ext
  refine (Pipeline.Window.rect_emb_val win0_0 t (ix2 i k) a).trans ?_
  rw [(index t).1]
  fin_cases a
  · show 0 * 2048 + i.val = i.val
    omega
  · show 48 * 128 + k.val = 6144 + k.val
    omega

theorem read_bias (i : Fin 1) (k : Fin 128) : (((cfg0.win 1).blk t).view.read (Elt Ideal) (X (Pipeline.arrRef spec0 1)) : FVec Ideal S1x128 .f32) (ix2 i k)
    = (X main_v3 : FVec Ideal S1x128 .f32) (ix2 i k) := by
  refine congrArg (X main_v3 : FVec Ideal S1x128 .f32) (?_ : ((cfg0.win 1).blk t).view.emb (ix2 i k) = _)
  funext a
  apply Fin.ext
  refine (Pipeline.Window.rect_emb_val win0_1 t (ix2 i k) a).trans ?_
  rw [(index t).2.1]
  fin_cases a
  · show 0 * 1 + i.val = i.val
    omega
  · show 0 * 128 + k.val = k.val
    omega

end Reads

theorem emb2 (t : Fin cfg0.N) (i : Fin 16) (k : Fin 2048) : ((cfg0.win 2).blk t).view.emb (ix2 i k) = (ix2 i k : S16x2048.Idx) := by
  funext a
  apply Fin.ext
  refine (Pipeline.Window.rect_emb_val win0_2 t (ix2 i k) a).trans ?_
  rw [(index t).2.2]
  fin_cases a
  · show 0 * 16 + i.val = i.val
    omega
  · show 0 * 2048 + k.val = k.val
    omega

/-- The rows of sums the call leaves. -/
def sums : FVec Ideal S16x2048 .f32 := out0_2 (iblk m c 0 t0_0) (iblk m c 1 t0_0)

theorem point (t : Fin cfg0.N) : t = t0_0 := Fin.ext (by have := lt_of_lt_of_eq t.isLt N_0; show t.val = 0; omega)

theorem final_sums : (dats m 0 c).arrAt 2 (cfgs 0).N = sums m c := by
  refine (dats m 0 c).arrAt_eq_of_covers 2 _ (by decide +kernel) fun t _ y => ?_
  obtain ⟨i, k, rfl⟩ := pair (n := 16) (k := 2048) y
  refine Eq.trans ?_ (congrArg (sums m c) (emb2 t i k)).symm
  blk_simp
  rw [after0_2, point t]
  rfl

/-- The device's arrays when the call has ended. -/
def ended : Valuation τ sig (Elt Ideal) := Pipeline.withArrays (cfgs 0).spec c (V0 m c) fun w => (dats m 0 c).arrAt w (cfgs 0).N

theorem ended_arr (w : Fin 3) : ended m c (Proc.devRef .tc (Pipeline.arrRef spec0 w)) = (dats m 0 c).arrAt w (cfgs 0).N :=
  Pipeline.withArrays_arr _ (by decide : ∀ a b : Fin 3, Pipeline.arrRef spec0 a = Pipeline.arrRef spec0 b → a = b) c _ _ w

def cut (x : FVec Ideal S16x2048 .f32) : FVec Ideal S8x2048 .f32 := extractStridedSlice S8x2048 ![0, 0] x slices_S16x2048_S8x2048_0_0

theorem cut_apply (x : FVec Ideal S16x2048 .f32) (l : Fin 8) (i : Fin 2048) : cut x (ix2 l i) = x (ix2 (⟨l.val, by omega⟩ : Fin 16) i) := by
  unfold cut
  pointwise

theorem tail_sums (W : Valuation τ sig (Elt Ideal)) : (after hostOps1 W (Proc.devRef .tc main_v5) : FVec Ideal S8x2048 .f32) = cut (W (Proc.devRef .tc main_v4)) := by
  simp only [hostOps1]
  after_results_simp <;> rfl

/-- The arguments as real numbers. -/
structure Are (F : Fin 2048 → Fin 8 → ℝ) (B : Fin 8 → ℝ) (f : FVec Ideal S2048x8 .f32) (b : FVec Ideal S1x8 .f32) : Prop where
  f : ∀ i l, f (ix2 i l) = (F i l : EReal)
  b : ∀ l, b (ix2 (0 : Fin 1) l) = (B l : EReal)

theorem result_sums {F : Fin 2048 → Fin 8 → ℝ} {B : Fin 8 → ℝ} (H : Are F B (m ((c.tc : Thread nD τ).loc main_arg0)) (m ((c.tc : Thread nD τ).loc main_arg1))) (l : Fin 8) (i : Fin 2048) :
    (after hostOps1 (ended m c) (Proc.devRef .tc main_v5) : FVec Ideal S8x2048 .f32) (ix2 l i) = head (fun k => (logSig (F k l + B l) : EReal)) i.val := by
  rw [tail_sums, show ended m c (Proc.devRef .tc main_v4) = _ from (ended_arr m c 2).trans (final_sums m c)]
  refine (cut_apply _ l i).trans ((congrFun (out_eq _ _) _).trans (side_sums _ _ (fun k => logSig (F k l + B l)) (fun k => log_apply _ _ k _ _ ?_) i))
  have hf : (iblk m c 0 t0_0 : Vec Ideal S2048x128 .f32) (ix2 k (⟨l.val, by omega⟩ : Fin 128)) = (F k l : EReal) :=
    (read_gate c t0_0 (V m c) k _).trans ((congrFun (V_columns m c) _).trans ((columns_apply _ k l).trans (H.f k l)))
  have hb : (iblk m c 1 t0_0 : Vec Ideal S1x128 .f32) (ix2 (0 : Fin 1) (⟨l.val, by omega⟩ : Fin 128)) = (B l : EReal) :=
    (read_bias c t0_0 (V m c) 0 _).trans ((congrFun (V_wide m c) _).trans ((wide_apply _ l).trans (H.b l)))
  rw [EReal.coe_add, ← hf, ← hb]

end Cert.FoxGateFwdIdeal.GateF

end
-- ==== Proof.GateF.Equation.lean ====
/- The forget gate's forward call computes the cumulated log of the gate. -/
module

public import proofs.«01_k».proof.Proof.GateF.Arrays
public import proofs.«01_k».proof.Defs
public import proofs.«01_k».proof.Proof.Gen.Pre_gatef_finite

@[expose] public section

set_option maxRecDepth 16384

noncomputable section

namespace Cert.FoxGateFwdIdeal.GateF

open Cert.FoxGateFwdIdeal.Gen
open Idealize.ShloMosaic Idealize.ShloMosaic.TcCoe Idealize.ShloMosaic.StableHlo Idealize.SL.Sem
open Cert.InputBwdIdeal.Input (pair)
open Cert.FoxGateFwdRefIdeal.Parts (cumulated cumulated_apply)

theorem reals_of_finite (f : FVec Ideal S2048x8 .f32) (b : FVec Ideal S1x8 .f32) (h : Cert.Pre_gatef_finite.fn (F := Ideal) f b = fun _ => 1#1) : ∃ F B, Are F B f b := by
  obtain ⟨hf, hb⟩ := IntOp.andi_eq_one.1 (congrFun h fun a => a.elim0)
  obtain ⟨rf, ef⟩ := Lift.real_of_all hf
  obtain ⟨rb, eb⟩ := Lift.real_of_all hb
  exact ⟨fun i l => rf (ix2 i l), fun l => rb (ix2 (0 : Fin 1) l), fun l k => congrFun ef _, fun l => congrFun eb _⟩

set_option maxHeartbeats 1000000 in
theorem algebraic : Cert.algebraic_FoxGateFwdIdeal_FoxGateFwdRefIdeal_pre_gatef_finite := by
  intro m g m' g' hpre hargs
  refine ⟨fun c => after hostOps1 (ended m c) (Proc.devRef .tc main_v5),
    (θ_run defs _ _).mono (fun r h c => ?_) (run_main m g), (θ_run _ _ _).mono (fun r h c => ?_) (Cert.FoxGateFwdRefIdeal.Value.run m' g')⟩
  · have hb := (h c).2
    exact ⟨hb main_v5 (Pipeline.mem_restRefs_of _ (by decide) (by decide)),
      (hb main_arg0 (Pipeline.mem_restRefs_of _ (by decide) (by decide))).trans (W_main_arg0 m (dats m) c),
      (hb main_arg1 (Pipeline.mem_restRefs_of _ (by decide) (by decide))).trans (W_main_arg1 m (dats m) c)⟩
  · obtain ⟨h0, hr⟩ := h c
    obtain ⟨a0, a1⟩ := hargs c
    obtain ⟨F, B, H⟩ := reals_of_finite _ _ (hpre c)
    refine ⟨h0.trans ?_, hr⟩
    rw [a0, a1]
    refine Eq.trans (b := cumulated (m ((c.tc : Thread nD τ).loc main_arg0)) (m ((c.tc : Thread nD τ).loc main_arg1))) (by sl_kernel_rfl) ?_
    funext z
    obtain ⟨l, i, rfl⟩ := pair (n := 8) (k := 2048) z
    exact (cumulated_apply _ _ l i (fun k => F k l + B l) fun k => by rw [H.f, H.b, EReal.coe_add]).trans (result_sums m c H l i).symm

end Cert.FoxGateFwdIdeal.GateF

end
-- ==== Proof.lean ====
/- The proof of every claim of the certificate. -/
module

public import proofs.«01_k».proof.Defs
public import proofs.«01_k».proof.Proof.Gen.FfnAct.Frame
public import proofs.«01_k».proof.Proof.Gen.FfnActIdeal.Value
public import proofs.«01_k».proof.Proof.Gen.FfnActRefIdeal.Run
public import proofs.«01_k».proof.Proof.Gen.Pre_ffn_finite
public import proofs.«01_k».proof.Proof.Gen.FoxBwd
public import proofs.«01_k».proof.Proof.Gen.FoxBwdIdeal.Frame
public import proofs.«01_k».proof.Proof.Gen.FoxBwdIdeal.Skeleton
public import proofs.«01_k».proof.Proof.Gen.FoxRefIdeal.Run
public import proofs.«01_k».proof.Proof.Gen.Pre_fox_finite
public import proofs.«01_k».proof.Proof.Gen.FoxGateBwd.Frame
public import proofs.«01_k».proof.Proof.Gen.FoxGateBwdIdeal.Frame
public import proofs.«01_k».proof.Proof.Gen.FoxGateRefIdeal.Run
public import proofs.«01_k».proof.Proof.Gen.Pre_gate_finite
public import proofs.«01_k».proof.Proof.Gen.DilCombine.Frame
public import proofs.«01_k».proof.Proof.Gen.DilCombineIdeal.Frame
public import proofs.«01_k».proof.Proof.Gen.DilCombineRefIdeal.Run
public import proofs.«01_k».proof.Proof.Gen.Pre_comb_finite
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.Pre_loss_finite
public import proofs.«01_k».proof.Proof.Gen.PostFfnBwd.Frame
public import proofs.«01_k».proof.Proof.Gen.PostFfnBwdIdeal.Value
public import proofs.«01_k».proof.Proof.Gen.PostFfnRefIdeal.Run
public import proofs.«01_k».proof.Proof.Gen.Pre_post_finite
public import proofs.«01_k».proof.Proof.Gen.InputBwd.Frame
public import proofs.«01_k».proof.Proof.Gen.InputBwdIdeal.Value
public import proofs.«01_k».proof.Proof.Gen.InputBwdRefIdeal.Run
public import proofs.«01_k».proof.Proof.Gen.Pre_input_finite
public import proofs.«01_k».proof.Proof.Gen.MixOutBwd.Frame
public import proofs.«01_k».proof.Proof.Gen.MixOutBwdIdeal.Frame
public import proofs.«01_k».proof.Proof.Gen.MixOutRefIdeal.Run
public import proofs.«01_k».proof.Proof.Gen.FoxFwd.Frame
public import proofs.«01_k».proof.Proof.Gen.FoxFwdIdeal.Frame
public import proofs.«01_k».proof.Proof.Gen.FoxFwdRefIdeal.Run
public import proofs.«01_k».proof.Proof.Gen.Pre_foxf_finite
public import proofs.«01_k».proof.Proof.Gen.DilMean.Frame
public import proofs.«01_k».proof.Proof.Gen.DilMeanIdeal.Frame
public import proofs.«01_k».proof.Proof.Gen.DilMeanRefIdeal.Run
public import proofs.«01_k».proof.Proof.Gen.Pre_combf_finite
public import proofs.«01_k».proof.Proof.Gen.FfnUp.Frame
public import proofs.«01_k».proof.Proof.Gen.FfnUpIdeal.Frame
public import proofs.«01_k».proof.Proof.Gen.FfnUpRefIdeal.Run
public import proofs.«01_k».proof.Proof.Gen.NormPre.Frame
public import proofs.«01_k».proof.Proof.Gen.NormPreIdeal.Frame
public import proofs.«01_k».proof.Proof.Gen.NormPreRefIdeal.Run
public import proofs.«01_k».proof.Proof.Gen.MixOut.Frame
public import proofs.«01_k».proof.Proof.Gen.MixOutIdeal.Frame
public import proofs.«01_k».proof.Proof.Gen.MixOutFwdRefIdeal.Run
public import proofs.«01_k».proof.Proof.Gen.FoxGateFwd.Frame
public import proofs.«01_k».proof.Proof.Gen.FoxGateFwdIdeal.Frame
public import proofs.«01_k».proof.Proof.Gen.FoxGateFwdRefIdeal.Run
public import proofs.«01_k».proof.Proof.Gen.Pre_gatef_finite
public import proofs.«01_k».proof.Proof.Ffn.Equation
public import proofs.«01_k».proof.Proof.Fox.Claims
public import proofs.«01_k».proof.Proof.Fox.Equation
public import proofs.«01_k».proof.Proof.Gate.Equation
public import proofs.«01_k».proof.Proof.Comb.Equation
public import proofs.«01_k».proof.Proof.Loss.Equation
public import proofs.«01_k».proof.Proof.Post.Equation
public import proofs.«01_k».proof.Proof.Input.Equation
public import proofs.«01_k».proof.Proof.Mix.Equation
public import proofs.«01_k».proof.Proof.FoxF.Equation
public import proofs.«01_k».proof.Proof.CombF.Equation
public import proofs.«01_k».proof.Proof.FfnF.Equation
public import proofs.«01_k».proof.Proof.NormF.Equation
public import proofs.«01_k».proof.Proof.MixF.Equation
public import proofs.«01_k».proof.Proof.GateF.Equation
public import Idealize.ShloMosaic.Adequacy
public import Idealize.ShloMosaic.Init

@[expose] public section

noncomputable section

namespace Cert.Proof

open Idealize.ShloMosaic Idealize.SL.Sem

theorem frame_FfnAct : Cert.quiescent_FfnAct := fun m ρ _ => Cert.FfnAct.Gen.frame m ρ

theorem frame_FfnActIdeal : Cert.quiescent_FfnActIdeal := fun m ρ _ => Cert.FfnActIdeal.Gen.frame m ρ

theorem frame_FfnActRefIdeal : Cert.quiescent_FfnActRefIdeal := fun m ρ _ =>
  (θ_run _ _ _).mono (fun r h => ⟨fun c => (h c).2.2, sem_eq_zero_of_no_sems (by decide) r.2⟩)
    (Cert.FfnActRefIdeal.Value.run m ρ)

theorem frame_FoxBwd : Cert.quiescent_FoxBwd := Cert.FoxBwdIdeal.Fox.frame_bits

theorem frame_FoxBwdIdeal : Cert.quiescent_FoxBwdIdeal := Cert.FoxBwdIdeal.Fox.frame_ideal

theorem frame_FoxRefIdeal : Cert.quiescent_FoxRefIdeal := fun m ρ _ =>
  (θ_run _ _ _).mono (fun r h => ⟨fun c => (h c).2.2.2.2, sem_eq_zero_of_no_sems (by decide) r.2⟩)
    (Cert.FoxRefIdeal.Value.run m ρ)

theorem frame_FoxGateBwd : Cert.quiescent_FoxGateBwd := fun m ρ _ => Cert.FoxGateBwd.Gen.frame m ρ

theorem frame_FoxGateBwdIdeal : Cert.quiescent_FoxGateBwdIdeal := fun m ρ _ => Cert.FoxGateBwdIdeal.Gen.frame m ρ

theorem frame_FoxGateRefIdeal : Cert.quiescent_FoxGateRefIdeal := fun m ρ _ =>
  (θ_run _ _ _).mono (fun r h => ⟨fun c => (h c).2.2, sem_eq_zero_of_no_sems (by decide) r.2⟩)
    (Cert.FoxGateRefIdeal.Value.run m ρ)

theorem frame_DilCombine : Cert.quiescent_DilCombine := fun m ρ _ => Cert.DilCombine.Gen.frame m ρ

theorem frame_DilCombineIdeal : Cert.quiescent_DilCombineIdeal := fun m ρ _ => Cert.DilCombineIdeal.Gen.frame m ρ

theorem frame_DilCombineRefIdeal : Cert.quiescent_DilCombineRefIdeal := fun m ρ _ =>
  (θ_run _ _ _).mono (fun r h => ⟨fun c => (h c).2.2, sem_eq_zero_of_no_sems (by decide) r.2⟩)
    (Cert.DilCombineRefIdeal.Value.run m ρ)

theorem frame_LossHead : Cert.quiescent_LossHead := fun m ρ _ => Cert.LossHead.Gen.frame m ρ

theorem frame_LossHeadIdeal : Cert.quiescent_LossHeadIdeal := fun m ρ _ => Cert.LossHeadIdeal.Gen.frame m ρ

theorem frame_LossHeadRefIdeal : Cert.quiescent_LossHeadRefIdeal := fun m ρ _ =>
  (θ_run _ _ _).mono (fun r h => ⟨fun c => (h c).2.2.2.2, sem_eq_zero_of_no_sems (by decide) r.2⟩)
    (Cert.LossHeadRefIdeal.Value.run m ρ)

theorem frame_PostFfnBwd : Cert.quiescent_PostFfnBwd := fun m ρ _ => Cert.PostFfnBwd.Gen.frame m ρ

theorem frame_PostFfnBwdIdeal : Cert.quiescent_PostFfnBwdIdeal := fun m ρ _ => Cert.PostFfnBwdIdeal.Gen.frame m ρ

theorem frame_PostFfnRefIdeal : Cert.quiescent_PostFfnRefIdeal := fun m ρ _ =>
  (θ_run _ _ _).mono (fun r h => ⟨fun c => (h c).2.2.2.2, sem_eq_zero_of_no_sems (by decide) r.2⟩)
    (Cert.PostFfnRefIdeal.Value.run m ρ)

theorem frame_InputBwd : Cert.quiescent_InputBwd := fun m ρ _ => Cert.InputBwd.Gen.frame m ρ

theorem frame_InputBwdIdeal : Cert.quiescent_InputBwdIdeal := fun m ρ _ => Cert.InputBwdIdeal.Gen.frame m ρ

theorem frame_InputBwdRefIdeal : Cert.quiescent_InputBwdRefIdeal := fun m ρ _ =>
  (θ_run _ _ _).mono (fun r h => ⟨fun c => (h c).2.2, sem_eq_zero_of_no_sems (by decide) r.2⟩)
    (Cert.InputBwdRefIdeal.Value.run m ρ)

theorem frame_MixOutBwd : Cert.quiescent_MixOutBwd := fun m ρ _ => Cert.MixOutBwd.Gen.frame m ρ

theorem frame_MixOutBwdIdeal : Cert.quiescent_MixOutBwdIdeal := fun m ρ _ => Cert.MixOutBwdIdeal.Gen.frame m ρ

theorem frame_MixOutRefIdeal : Cert.quiescent_MixOutRefIdeal := fun m ρ _ =>
  (θ_run _ _ _).mono (fun r h => ⟨fun c => (h c).2.2.2.2.2.2, sem_eq_zero_of_no_sems (by decide) r.2⟩)
    (Cert.MixOutRefIdeal.Value.run m ρ)

theorem frame_FoxFwd : Cert.quiescent_FoxFwd := fun m ρ _ => Cert.FoxFwd.Gen.frame m ρ

theorem frame_FoxFwdIdeal : Cert.quiescent_FoxFwdIdeal := fun m ρ _ => Cert.FoxFwdIdeal.Gen.frame m ρ

theorem frame_FoxFwdRefIdeal : Cert.quiescent_FoxFwdRefIdeal := fun m ρ _ =>
  (θ_run _ _ _).mono (fun r h => ⟨fun c => (h c).2.2, sem_eq_zero_of_no_sems (by decide) r.2⟩)
    (Cert.FoxFwdRefIdeal.Value.run m ρ)

theorem frame_DilMean : Cert.quiescent_DilMean := fun m ρ _ => Cert.DilMean.Gen.frame m ρ

theorem frame_DilMeanIdeal : Cert.quiescent_DilMeanIdeal := fun m ρ _ => Cert.DilMeanIdeal.Gen.frame m ρ

theorem frame_DilMeanRefIdeal : Cert.quiescent_DilMeanRefIdeal := fun m ρ _ =>
  (θ_run _ _ _).mono (fun r h => ⟨fun c => (h c).2, sem_eq_zero_of_no_sems (by decide) r.2⟩)
    (Cert.DilMeanRefIdeal.Value.run m ρ)

theorem frame_FfnUp : Cert.quiescent_FfnUp := fun m ρ _ => Cert.FfnUp.Gen.frame m ρ

theorem frame_FfnUpIdeal : Cert.quiescent_FfnUpIdeal := fun m ρ _ => Cert.FfnUpIdeal.Gen.frame m ρ

theorem frame_FfnUpRefIdeal : Cert.quiescent_FfnUpRefIdeal := fun m ρ _ =>
  (θ_run _ _ _).mono (fun r h => ⟨fun c => (h c).2.2.2, sem_eq_zero_of_no_sems (by decide) r.2⟩)
    (Cert.FfnUpRefIdeal.Value.run m ρ)

theorem frame_NormPre : Cert.quiescent_NormPre := fun m ρ _ => Cert.NormPre.Gen.frame m ρ

theorem frame_NormPreIdeal : Cert.quiescent_NormPreIdeal := fun m ρ _ => Cert.NormPreIdeal.Gen.frame m ρ

theorem frame_NormPreRefIdeal : Cert.quiescent_NormPreRefIdeal := fun m ρ _ =>
  (θ_run _ _ _).mono (fun r h => ⟨fun c => (h c).2, sem_eq_zero_of_no_sems (by decide) r.2⟩)
    (Cert.NormPreRefIdeal.Value.run m ρ)

theorem frame_MixOut : Cert.quiescent_MixOut := fun m ρ _ => Cert.MixOut.Gen.frame m ρ

theorem frame_MixOutIdeal : Cert.quiescent_MixOutIdeal := fun m ρ _ => Cert.MixOutIdeal.Gen.frame m ρ

theorem frame_MixOutFwdRefIdeal : Cert.quiescent_MixOutFwdRefIdeal := fun m ρ _ =>
  (θ_run _ _ _).mono (fun r h => ⟨fun c => (h c).2.2.2.2, sem_eq_zero_of_no_sems (by decide) r.2⟩)
    (Cert.MixOutFwdRefIdeal.Value.run m ρ)

theorem frame_FoxGateFwd : Cert.quiescent_FoxGateFwd := fun m ρ _ => Cert.FoxGateFwd.Gen.frame m ρ

theorem frame_FoxGateFwdIdeal : Cert.quiescent_FoxGateFwdIdeal := fun m ρ _ => Cert.FoxGateFwdIdeal.Gen.frame m ρ

theorem frame_FoxGateFwdRefIdeal : Cert.quiescent_FoxGateFwdRefIdeal := fun m ρ _ =>
  (θ_run _ _ _).mono (fun r h => ⟨fun c => (h c).2, sem_eq_zero_of_no_sems (by decide) r.2⟩)
    (Cert.FoxGateFwdRefIdeal.Value.run m ρ)

theorem claim : Cert.Claim :=
  ⟨Cert.FfnAct.Gen.facts, Cert.FfnActIdeal.Gen.facts, Cert.FfnActRefIdeal.Gen.facts,
    Cert.FoxBwd.Gen.facts, Cert.FoxBwdIdeal.Gen.facts, Cert.FoxRefIdeal.Gen.facts,
    Cert.FoxGateBwd.Gen.facts, Cert.FoxGateBwdIdeal.Gen.facts, Cert.FoxGateRefIdeal.Gen.facts,
    Cert.DilCombine.Gen.facts, Cert.DilCombineIdeal.Gen.facts, Cert.DilCombineRefIdeal.Gen.facts,
    Cert.LossHead.Gen.facts, Cert.LossHeadIdeal.Gen.facts, Cert.LossHeadRefIdeal.Gen.facts,
    Cert.PostFfnBwd.Gen.facts, Cert.PostFfnBwdIdeal.Gen.facts, Cert.PostFfnRefIdeal.Gen.facts,
    Cert.InputBwd.Gen.facts, Cert.InputBwdIdeal.Gen.facts, Cert.InputBwdRefIdeal.Gen.facts,
    Cert.MixOutBwd.Gen.facts, Cert.MixOutBwdIdeal.Gen.facts, Cert.MixOutRefIdeal.Gen.facts,
    Cert.FoxFwd.Gen.facts, Cert.FoxFwdIdeal.Gen.facts, Cert.FoxFwdRefIdeal.Gen.facts,
    Cert.DilMean.Gen.facts, Cert.DilMeanIdeal.Gen.facts, Cert.DilMeanRefIdeal.Gen.facts,
    Cert.FfnUp.Gen.facts, Cert.FfnUpIdeal.Gen.facts, Cert.FfnUpRefIdeal.Gen.facts,
    Cert.NormPre.Gen.facts, Cert.NormPreIdeal.Gen.facts, Cert.NormPreRefIdeal.Gen.facts,
    Cert.MixOut.Gen.facts, Cert.MixOutIdeal.Gen.facts, Cert.MixOutFwdRefIdeal.Gen.facts,
    Cert.FoxGateFwd.Gen.facts, Cert.FoxGateFwdIdeal.Gen.facts, Cert.FoxGateFwdRefIdeal.Gen.facts,
    Cert.Pre_ffn_finite.Gen.facts, Cert.Pre_fox_finite.Gen.facts, Cert.Pre_gate_finite.Gen.facts, Cert.Pre_comb_finite.Gen.facts, Cert.Pre_loss_finite.Gen.facts, Cert.Pre_post_finite.Gen.facts, Cert.Pre_input_finite.Gen.facts, Cert.Pre_foxf_finite.Gen.facts, Cert.Pre_combf_finite.Gen.facts, Cert.Pre_gatef_finite.Gen.facts,
    frame_FfnAct, frame_FfnActIdeal, fun m ρ _ => frame_FfnActIdeal m ρ trivial, frame_FfnActRefIdeal, fun m ρ _ => frame_FfnActRefIdeal m ρ trivial,
    frame_FoxBwd, frame_FoxBwdIdeal, fun m ρ _ => frame_FoxBwdIdeal m ρ trivial, frame_FoxRefIdeal, fun m ρ _ => frame_FoxRefIdeal m ρ trivial,
    frame_FoxGateBwd, frame_FoxGateBwdIdeal, fun m ρ _ => frame_FoxGateBwdIdeal m ρ trivial, frame_FoxGateRefIdeal, fun m ρ _ => frame_FoxGateRefIdeal m ρ trivial,
    frame_DilCombine, frame_DilCombineIdeal, fun m ρ _ => frame_DilCombineIdeal m ρ trivial, frame_DilCombineRefIdeal, fun m ρ _ => frame_DilCombineRefIdeal m ρ trivial,
    frame_LossHead, frame_LossHeadIdeal, fun m ρ _ => frame_LossHeadIdeal m ρ trivial, frame_LossHeadRefIdeal, fun m ρ _ => frame_LossHeadRefIdeal m ρ trivial,
    frame_PostFfnBwd, frame_PostFfnBwdIdeal, fun m ρ _ => frame_PostFfnBwdIdeal m ρ trivial, frame_PostFfnRefIdeal, fun m ρ _ => frame_PostFfnRefIdeal m ρ trivial,
    frame_InputBwd, frame_InputBwdIdeal, fun m ρ _ => frame_InputBwdIdeal m ρ trivial, frame_InputBwdRefIdeal, fun m ρ _ => frame_InputBwdRefIdeal m ρ trivial,
    frame_MixOutBwd, frame_MixOutBwdIdeal, frame_MixOutRefIdeal,
    frame_FoxFwd, frame_FoxFwdIdeal, fun m ρ _ => frame_FoxFwdIdeal m ρ trivial, frame_FoxFwdRefIdeal, fun m ρ _ => frame_FoxFwdRefIdeal m ρ trivial,
    frame_DilMean, frame_DilMeanIdeal, fun m ρ _ => frame_DilMeanIdeal m ρ trivial, frame_DilMeanRefIdeal, fun m ρ _ => frame_DilMeanRefIdeal m ρ trivial,
    frame_FfnUp, frame_FfnUpIdeal, frame_FfnUpRefIdeal,
    frame_NormPre, frame_NormPreIdeal, frame_NormPreRefIdeal,
    frame_MixOut, frame_MixOutIdeal, frame_MixOutFwdRefIdeal,
    frame_FoxGateFwd, frame_FoxGateFwdIdeal, fun m ρ _ => frame_FoxGateFwdIdeal m ρ trivial, frame_FoxGateFwdRefIdeal, fun m ρ _ => frame_FoxGateFwdRefIdeal m ρ trivial,
    trivial, Cert.FfnActIdeal.Value.algebraic,
    trivial, Cert.FoxBwdIdeal.Fox.algebraic,
    trivial, Cert.FoxGateBwdIdeal.Value.algebraic,
    trivial, Cert.DilCombineIdeal.Comb.algebraic,
    trivial, Cert.LossHeadIdeal.Value.algebraic,
    trivial, Cert.PostFfnBwdIdeal.Value.algebraic,
    trivial, Cert.InputBwdIdeal.Value.algebraic,
    trivial, Cert.MixOutBwdIdeal.Value.algebraic,
    Cert.FoxFwdIdeal.FoxF.preserves, Cert.FoxFwdIdeal.FoxF.algebraic,
    trivial, Cert.DilMeanIdeal.CombF.algebraic,
    trivial, Cert.FfnUpIdeal.FfnF.algebraic,
    trivial, Cert.NormPreIdeal.NormF.algebraic,
    trivial, Cert.MixOutIdeal.MixF.algebraic,
    trivial, Cert.FoxGateFwdIdeal.GateF.algebraic⟩

end Cert.Proof

end
